-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_regular [hPre_regular : Cert.Pre_regular.Facts] (m : (ℓ : Loc Cert.KernelIdeal.nD Cert.KernelIdeal.τ Cert.KernelIdeal.sig) → Buf (Elt Ideal) ℓ) : Prop :=
  ∀ c : Dev Cert.KernelIdeal.nD,
    (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.1 = (fun _ => 1#1)
    ∧ (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.1 = (fun _ => 1#1)
    ∧ (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_regular [hPre_regular : Cert.Pre_regular.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.1 = (fun _ => 1#1)
    ∧ (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.1 = (fun _ => 1#1)
    ∧ (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_regular [hKernelIdeal : Cert.KernelIdeal.Facts] [hPre_regular : Cert.Pre_regular.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_regular m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_regular [hReferenceIdeal : Cert.ReferenceIdeal.Facts] [hPre_regular : Cert.Pre_regular.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_regular m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def preserves_Kernel_KernelIdeal : Prop :=
  True

def algebraic_KernelIdeal_ReferenceIdeal_pre_regular [hKernelIdeal : Cert.KernelIdeal.Facts] [hReferenceIdeal : Cert.ReferenceIdeal.Facts] [hPre_regular : Cert.Pre_regular.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_regular m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v128)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v128) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v42) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v23)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v23) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v64) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v44) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v32) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v28_0)) (v1 : (c : Dev Cert.Kernel7Ideal.nD) → Buf (Elt Ideal) ((c.tc : Thread Cert.Kernel7Ideal.nD Cert.Kernel7Ideal.τ).loc Cert.Kernel7Ideal.main_v28_1)) (v2 : (c : Dev Cert.Kernel7Ideal.nD) → Buf (Elt Ideal) ((c.tc : Thread Cert.Kernel7Ideal.nD Cert.Kernel7Ideal.τ).loc Cert.Kernel7Ideal.main_v28_2)) (v3 : (c : Dev Cert.Kernel7Ideal.nD) → Buf (Elt Ideal) ((c.tc : Thread Cert.Kernel7Ideal.nD Cert.Kernel7Ideal.τ).loc Cert.Kernel7Ideal.main_v28_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v28_0) = v0 c
          ∧ r.2.mem ((c.tc : Thread Cert.Kernel7Ideal.nD Cert.Kernel7Ideal.τ).loc Cert.Kernel7Ideal.main_v28_1) = v1 c
          ∧ r.2.mem ((c.tc : Thread Cert.Kernel7Ideal.nD Cert.Kernel7Ideal.τ).loc Cert.Kernel7Ideal.main_v28_2) = v2 c
          ∧ r.2.mem ((c.tc : Thread Cert.Kernel7Ideal.nD Cert.Kernel7Ideal.τ).loc Cert.Kernel7Ideal.main_v28_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v46) = v0 c
          ∧ r.2.mem ((c.tc : Thread Cert.Reference7Ideal.nD Cert.Reference7Ideal.τ).loc Cert.Reference7Ideal.main_v63) = v1 c
          ∧ r.2.mem ((c.tc : Thread Cert.Reference7Ideal.nD Cert.Reference7Ideal.τ).loc Cert.Reference7Ideal.main_v64) = v2 c
          ∧ r.2.mem ((c.tc : Thread Cert.Reference7Ideal.nD Cert.Reference7Ideal.τ).loc Cert.Reference7Ideal.main_v65) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_regular : Cert.Pre_regular.Facts),
    quiescent_Kernel (hKernel := hKernel)
    ∧ quiescent_KernelIdeal (hKernelIdeal := hKernelIdeal)
    ∧ quiescent_KernelIdeal_pre_regular (hKernelIdeal := hKernelIdeal) (hPre_regular := hPre_regular)
    ∧ quiescent_ReferenceIdeal (hReferenceIdeal := hReferenceIdeal)
    ∧ quiescent_ReferenceIdeal_pre_regular (hReferenceIdeal := hReferenceIdeal) (hPre_regular := hPre_regular)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_regular (hKernelIdeal := hKernelIdeal) (hReferenceIdeal := hReferenceIdeal) (hPre_regular := hPre_regular)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_regular.lean ====
abbrev S2x8192x2048 : Shape := ⟨3, ![2, 8192, 2048]⟩
abbrev S128x64 : Shape := ⟨2, ![128, 64]⟩
abbrev S128 : Shape := ⟨1, ![128]⟩
abbrev S128x64x16 : Shape := ⟨3, ![128, 64, 16]⟩
abbrev S128x16x64 : Shape := ⟨3, ![128, 16, 64]⟩
abbrev S2048 : Shape := ⟨1, ![2048]⟩
abbrev S_ : Shape := ⟨0, ![]⟩

class Facts : Prop where
  bcast_S_S2x8192x2048 : S_.BroadcastsInDim S2x8192x2048 (![] : Fin 0 → Fin S2x8192x2048.rank)
  bcast_S_S128x64 : S_.BroadcastsInDim S128x64 (![] : Fin 0 → Fin S128x64.rank)
  bcast_S_S128 : S_.BroadcastsInDim S128 (![] : Fin 0 → Fin S128.rank)
  bcast_S_S128x64x16 : S_.BroadcastsInDim S128x64x16 (![] : Fin 0 → Fin S128x64x16.rank)
  bcast_S_S128x16x64 : S_.BroadcastsInDim S128x16x64 (![] : Fin 0 → Fin S128x16x64.rank)

variable [Facts]

def fn_part1 {F : FTy → Type} [FloatOps F] (main_arg1 : FVec F S128x64 .f32) (main_arg2 : FVec F S128x64 .f32) (main_arg7 : FVec F S128x16x64 .f32) (main_v2 : IVec S2x8192x2048 1) (main_v5 : IVec S128x64 1) (main_v8 : IVec S128x64 1) (main_v11 : IVec S128 1) (main_v14 : IVec S128x64x16 1) (main_v17 : IVec S128x64x16 1) : IVec S2x8192x2048 1 × IVec S128x64 1 × IVec S128x64 1 × IVec S128 1 × IVec S128x64x16 1 × IVec S128x64x16 1 × IVec S128x16x64 1 × IVec S128x64 1 :=
  let main_v18 : FVec F S128x16x64 .f32 := Host.absf main_arg7
  let main_cst_5 : FVec F S_ .f32 := constant S_ .f32 0x7F800000#32
  let main_v19 : FVec F S128x16x64 .f32 := broadcastInDim S128x16x64 ![] bcast_S_S128x16x64 main_cst_5
  let main_v20 : IVec S128x16x64 1 := cmpf .olt main_v18 main_v19
  let main_cst_6 : FVec F S_ .f32 := constant S_ .f32 0x00000000#32
  let main_v21 : FVec F S128x64 .f32 := broadcastInDim S128x64 ![] bcast_S_S128x64 main_cst_6
  let main_v22 : IVec S128x64 1 := cmpf .une main_arg1 main_v21
  let main_cst_7 : FVec F S_ .f32 := constant S_ .f32 0x00000000#32
  let main_v23 : FVec F S128x64 .f32 := broadcastInDim S128x64 ![] bcast_S_S128x64 main_cst_7
  let main_v24 : IVec S128x64 1 := cmpf .une main_arg2 main_v23
  let main_v25 : IVec S128x64 1 := ori main_v22 main_v24
  (main_v2, main_v5, main_v8, main_v11, main_v14, main_v17, main_v20, main_v25)

def fn {F : FTy → Type} [FloatOps F] (main_arg0 : FVec F S2x8192x2048 .f32) (main_arg1 : FVec F S128x64 .f32) (main_arg2 : FVec F S128x64 .f32) (main_arg3 : FVec F S128 .f32) (main_arg4 : FVec F S128x64x16 .f32) (main_arg5 : FVec F S128x64x16 .f32) (main_arg6 : FVec F S128x16x64 .f32) (main_arg7 : FVec F S128x16x64 .f32) (main_arg8 : FVec F S2048 .f32) : IVec S2x8192x2048 1 × IVec S128x64 1 × IVec S128x64 1 × IVec S128 1 × IVec S128x64x16 1 × IVec S128x64x16 1 × IVec S128x16x64 1 × IVec S128x64 1 :=
  let main_v0 : FVec F S2x8192x2048 .f32 := Host.absf main_arg0
  let main_cst : FVec F S_ .f32 := constant S_ .f32 0x7F800000#32
  let main_v1 : FVec F S2x8192x2048 .f32 := broadcastInDim S2x8192x2048 ![] bcast_S_S2x8192x2048 main_cst
  let main_v2 : IVec S2x8192x2048 1 := cmpf .olt main_v0 main_v1
  let main_v3 : FVec F S128x64 .f32 := Host.absf main_arg1
  let main_cst_0 : FVec F S_ .f32 := constant S_ .f32 0x7F800000#32
  let main_v4 : FVec F S128x64 .f32 := broadcastInDim S128x64 ![] bcast_S_S128x64 main_cst_0
  let main_v5 : IVec S128x64 1 := cmpf .olt main_v3 main_v4
  let main_v6 : FVec F S128x64 .f32 := Host.absf main_arg2
  let main_cst_1 : FVec F S_ .f32 := constant S_ .f32 0x7F800000#32
  let main_v7 : FVec F S128x64 .f32 := broadcastInDim S128x64 ![] bcast_S_S128x64 main_cst_1
  let main_v8 : IVec S128x64 1 := cmpf .olt main_v6 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_v12 : FVec F S128x64x16 .f32 := Host.absf main_arg4
  let main_cst_3 : FVec F S_ .f32 := constant S_ .f32 0x7F800000#32
  let main_v13 : FVec F S128x64x16 .f32 := broadcastInDim S128x64x16 ![] bcast_S_S128x64x16 main_cst_3
  let main_v14 : IVec S128x64x16 1 := cmpf .olt main_v12 main_v13
  let main_v15 : FVec F S128x64x16 .f32 := Host.absf main_arg5
  let main_cst_4 : FVec F S_ .f32 := constant S_ .f32 0x7F800000#32
  let main_v16 : FVec F S128x64x16 .f32 := broadcastInDim S128x64x16 ![] bcast_S_S128x64x16 main_cst_4
  let main_v17 : IVec S128x64x16 1 := cmpf .olt main_v15 main_v16
  fn_part1 (F := F) main_arg1 main_arg2 main_arg7 main_v2 main_v5 main_v8 main_v11 main_v14 main_v17
-- ==== Kernel.lean ====
abbrev S2x8192x2048 : Shape := ⟨3, ![2, 8192, 2048]⟩
abbrev S128x64 : Shape := ⟨2, ![128, 64]⟩
abbrev S128 : Shape := ⟨1, ![128]⟩
abbrev S128x64x16 : Shape := ⟨3, ![128, 64, 16]⟩
abbrev S128x16x64 : Shape := ⟨3, ![128, 16, 64]⟩
abbrev S2048 : Shape := ⟨1, ![2048]⟩
abbrev S128x1 : Shape := ⟨2, ![128, 1]⟩
abbrev S_ : Shape := ⟨0, ![]⟩
abbrev S128x64x1 : Shape := ⟨3, ![128, 64, 1]⟩
abbrev S16x16 : Shape := ⟨2, ![16, 16]⟩
abbrev S8x16x64x16 : Shape := ⟨4, ![8, 16, 64, 16]⟩
abbrev S8x16x16x64 : Shape := ⟨4, ![8, 16, 16, 64]⟩
abbrev S8x16x16x1x64 : Shape := ⟨5, ![8, 16, 16, 1, 64]⟩
abbrev S1x16x1x16x1 : Shape := ⟨5, ![1, 16, 1, 16, 1]⟩
abbrev S8x16x16x16x64 : Shape := ⟨5, ![8, 16, 16, 16, 64]⟩
abbrev S8x256x1024 : Shape := ⟨3, ![8, 256, 1024]⟩
abbrev S8x256x2048 : Shape := ⟨3, ![8, 256, 2048]⟩
abbrev S8x16x64x1x16 : Shape := ⟨5, ![8, 16, 64, 1, 16]⟩
abbrev S8x16x64x16x16 : Shape := ⟨5, ![8, 16, 64, 16, 16]⟩
abbrev S8x1024x256 : Shape := ⟨3, ![8, 1024, 256]⟩
abbrev S8x2048x256 : Shape := ⟨3, ![8, 2048, 256]⟩
abbrev S8x1x1024 : Shape := ⟨3, ![8, 1, 1024]⟩
abbrev S2x16x8x64x2048 : Shape := ⟨5, ![2, 16, 8, 64, 2048]⟩
abbrev S2x16x64x8x2048 : Shape := ⟨5, ![2, 16, 64, 8, 2048]⟩
abbrev S8x1x256 : Shape := ⟨3, ![8, 1, 256]⟩
abbrev S1x512x256 : Shape := ⟨3, ![1, 512, 256]⟩
abbrev S1x256x2048 : Shape := ⟨3, ![1, 256, 2048]⟩
abbrev S1x2048x256 : Shape := ⟨3, ![1, 2048, 256]⟩
abbrev S1x1x1024 : Shape := ⟨3, ![1, 1, 1024]⟩
abbrev S1x1x256 : Shape := ⟨3, ![1, 1, 256]⟩
abbrev S512x2048 : Shape := ⟨2, ![512, 2048]⟩
abbrev S1x2048 : Shape := ⟨2, ![1, 2048]⟩
abbrev S8x2048 : Shape := ⟨2, ![8, 2048]⟩
abbrev S512x256 : Shape := ⟨2, ![512, 256]⟩
abbrev S256x2048 : Shape := ⟨2, ![256, 2048]⟩
abbrev S1x1x512 : Shape := ⟨3, ![1, 1, 512]⟩
abbrev S1x512 : Shape := ⟨2, ![1, 512]⟩
abbrev S8x512 : Shape := ⟨2, ![8, 512]⟩
abbrev S2048x256 : Shape := ⟨2, ![2048, 256]⟩
abbrev S1x256 : Shape := ⟨2, ![1, 256]⟩

abbrev nBuf : Space → Nat
  | .hbm => 140
  | .vmem => 21
  | .smem => 0
  | _ => 0

abbrev hbmTy0_0 (i : Nat) : BufTy := match i % 128 with
  | 0 => ⟨S2x8192x2048, .f32⟩
  | 1 => ⟨S128x64, .f32⟩
  | 2 => ⟨S128x64, .f32⟩
  | 3 => ⟨S128, .f32⟩
  | 4 => ⟨S128x64x16, .f32⟩
  | 5 => ⟨S128x64x16, .f32⟩
  | 6 => ⟨S128x16x64, .f32⟩
  | 7 => ⟨S128x16x64, .f32⟩
  | 8 => ⟨S2048, .f32⟩
  | 9 => ⟨S128, .f32⟩
  | 10 => ⟨S128x1, .f32⟩
  | 11 => ⟨S128x64, .f32⟩
  | 12 => ⟨S128x64, .f32⟩
  | 13 => ⟨S128x64, .f32⟩
  | 14 => ⟨S128x64, .f32⟩
  | 15 => ⟨S128x64, .f32⟩
  | 16 => ⟨S128x64, .f32⟩
  | 17 => ⟨S128x64, .f32⟩
  | 18 => ⟨S128x64, .f32⟩
  | 19 => ⟨S128x64, .f32⟩
  | 20 => ⟨S128x64, .f32⟩
  | 21 => ⟨S128x64, .f32⟩
  | 22 => ⟨S128x64, .f32⟩
  | 23 => ⟨S128x64, .f32⟩
  | 24 => ⟨S128x64, .f32⟩
  | 25 => ⟨S_, .f32⟩
  | 26 => ⟨S128x64, .f32⟩
  | 27 => ⟨S128x64, .f32⟩
  | 28 => ⟨S128x64, .f32⟩
  | 29 => ⟨S128x64, .f32⟩
  | 30 => ⟨S128x64, .f32⟩
  | 31 => ⟨S128x64, .f32⟩
  | 32 => ⟨S128x64, .f32⟩
  | 33 => ⟨S128x64, .f32⟩
  | 34 => ⟨S128x64, .f32⟩
  | 35 => ⟨S128x64, .f32⟩
  | 36 => ⟨S128x64x1, .f32⟩
  | 37 => ⟨S128x64x1, .f32⟩
  | 38 => ⟨S128x64x16, .f32⟩
  | 39 => ⟨S128x64x16, .f32⟩
  | 40 => ⟨S128x64x16, .f32⟩
  | 41 => ⟨S128x64x16, .f32⟩
  | 42 => ⟨S128x64x16, .f32⟩
  | 43 => ⟨S128x64x16, .f32⟩
  | 44 => ⟨S128x64x16, .f32⟩
  | 45 => ⟨S128x64x16, .f32⟩
  | 46 => ⟨S128x64x16, .f32⟩
  | 47 => ⟨S128x64x16, .f32⟩
  | 48 => ⟨S128x64, .f32⟩
  | 49 => ⟨S128x64, .f32⟩
  | 50 => ⟨S128x64, .f32⟩
  | 51 => ⟨S128x64, .f32⟩
  | 52 => ⟨S128x64, .f32⟩
  | 53 => ⟨S128x64, .f32⟩
  | 54 => ⟨S128x64, .f32⟩
  | 55 => ⟨S128x64, .f32⟩
  | 56 => ⟨S128x64, .f32⟩
  | 57 => ⟨S128x64, .f32⟩
  | 58 => ⟨S128x64, .f32⟩
  | 59 => ⟨S128x64, .f32⟩
  | 60 => ⟨S128x64, .f32⟩
  | 61 => ⟨S128x64, .f32⟩
  | 62 => ⟨S128x64, .f32⟩
  | 63 => ⟨S128x64, .f32⟩
  | 64 => ⟨S128x64, .f32⟩
  | 65 => ⟨S128x64, .f32⟩
  | 66 => ⟨S128x64, .f32⟩
  | 67 => ⟨S128x64, .f32⟩
  | 68 => ⟨S128x64, .f32⟩
  | 69 => ⟨S128x64, .f32⟩
  | 70 => ⟨S128x64, .f32⟩
  | 71 => ⟨S128x64, .f32⟩
  | 72 => ⟨S128x64, .f32⟩
  | 73 => ⟨S128x64, .f32⟩
  | 74 => ⟨S128x64, .f32⟩
  | 75 => ⟨S128x64, .f32⟩
  | 76 => ⟨S128x64, .f32⟩
  | 77 => ⟨S128x64, .f32⟩
  | 78 => ⟨S128x64, .f32⟩
  | 79 => ⟨S128x64, .f32⟩
  | 80 => ⟨S128x64, .f32⟩
  | 81 => ⟨S128x64, .f32⟩
  | 82 => ⟨S128x64, .f32⟩
  | 83 => ⟨S128x64, .f32⟩
  | 84 => ⟨S16x16, .i32⟩
  | 85 => ⟨S16x16, .i32⟩
  | 86 => ⟨S_, .i32⟩
  | 87 => ⟨S16x16, .i32⟩
  | 88 => ⟨S16x16, .i32⟩
  | 89 => ⟨S16x16, .i1⟩
  | 90 => ⟨S16x16, .f32⟩
  | 91 => ⟨S8x16x64x16, .f32⟩
  | 92 => ⟨S8x16x16x64, .f32⟩
  | 93 => ⟨S8x16x16x1x64, .f32⟩
  | 94 => ⟨S1x16x1x16x1, .f32⟩
  | 95 => ⟨S8x16x16x16x64, .f32⟩
  | 96 => ⟨S8x16x16x16x64, .f32⟩
  | 97 => ⟨S8x16x16x16x64, .f32⟩
  | 98 => ⟨S8x256x1024, .f32⟩
  | 99 => ⟨S8x16x64x16, .f32⟩
  | 100 => ⟨S8x16x16x64, .f32⟩
  | 101 => ⟨S8x16x16x1x64, .f32⟩
  | 102 => ⟨S1x16x1x16x1, .f32⟩
  | 103 => ⟨S8x16x16x16x64, .f32⟩
  | 104 => ⟨S8x16x16x16x64, .f32⟩
  | 105 => ⟨S8x16x16x16x64, .f32⟩
  | 106 => ⟨S8x256x1024, .f32⟩
  | 107 => ⟨S8x256x2048, .f32⟩
  | 108 => ⟨S8x256x2048, .bf16⟩
  | 109 => ⟨S8x16x16x64, .f32⟩
  | 110 => ⟨S8x16x64x16, .f32⟩
  | 111 => ⟨S8x16x64x1x16, .f32⟩
  | 112 => ⟨S1x16x1x16x1, .f32⟩
  | 113 => ⟨S8x16x64x16x16, .f32⟩
  | 114 => ⟨S8x16x64x16x16, .f32⟩
  | 115 => ⟨S8x16x64x16x16, .f32⟩
  | 116 => ⟨S8x1024x256, .f32⟩
  | 117 => ⟨S128x16x64, .f32⟩
  | 118 => ⟨S8x16x16x64, .f32⟩
  | 119 => ⟨S8x16x64x16, .f32⟩
  | 120 => ⟨S8x16x64x1x16, .f32⟩
  | 121 => ⟨S1x16x1x16x1, .f32⟩
  | 122 => ⟨S8x16x64x16x16, .f32⟩
  | 123 => ⟨S8x16x64x16x16, .f32⟩
  | 124 => ⟨S8x16x64x16x16, .f32⟩
  | 125 => ⟨S8x1024x256, .f32⟩
  | 126 => ⟨S8x2048x256, .f32⟩
  | 127 => ⟨S8x2048x256, .bf16⟩
  | _ => ⟨S2x8192x2048, .f32⟩

abbrev hbmTy0_1 (i : Nat) : BufTy := match i % 128 with
  | 0 => ⟨S8x1x1024, .f32⟩
  | 1 => ⟨S8x1x1024, .f32⟩
  | 2 => ⟨S8x1x1024, .f32⟩
  | 3 => ⟨S8x1x1024, .f32⟩
  | 4 => ⟨S2x16x8x64x2048, .f32⟩
  | 5 => ⟨S2x16x64x8x2048, .f32⟩
  | 6 => ⟨S2x8192x2048, .f32⟩
  | 7 => ⟨S8x1x256, .f32⟩
  | 8 => ⟨S2x8192x2048, .bf16⟩
  | 9 => ⟨S2x16x64x8x2048, .bf16⟩
  | 10 => ⟨S2x16x8x64x2048, .bf16⟩
  | 11 => ⟨S2x8192x2048, .bf16⟩
  | _ => ⟨S2x8192x2048, .f32⟩

abbrev hbmTy (i : Nat) : BufTy := match i / 128 with
  | 0 => hbmTy0_0 i
  | 1 => hbmTy0_1 i
  | _ => ⟨S2x8192x2048, .f32⟩

abbrev bufTy : (tb : Table) → Fin (tcTables nBuf tb) → BufTy
  | .hbm, ⟨i, _⟩ => hbmTy i
  | .local _ .vmem, ⟨0, _⟩ => ⟨S1x512x256, .f32⟩
  | .local _ .vmem, ⟨1, _⟩ => ⟨S1x512x256, .f32⟩
  | .local _ .vmem, ⟨2, _⟩ => ⟨S1x256x2048, .bf16⟩
  | .local _ .vmem, ⟨3, _⟩ => ⟨S1x256x2048, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x256, .f32⟩
  | .local _ .vmem, ⟨15, _⟩ => ⟨S1x1x256, .f32⟩
  | .local _ .vmem, ⟨16, _⟩ => ⟨S1x512x256, .bf16⟩
  | .local _ .vmem, ⟨17, _⟩ => ⟨S1x512x256, .bf16⟩
  | .local _ .vmem, ⟨18, _⟩ => ⟨S512x2048, .f32⟩
  | .local _ .vmem, ⟨19, _⟩ => ⟨S1x2048, .f32⟩
  | .local _ .vmem, ⟨20, _⟩ => ⟨S8x2048, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_c : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 8, 16], ![false, false, false]⟩

@[reducible] def k0_t1_loop : Scf.Loop 32 :=
  let c0_i32_15 : BitVec 32 := 0#32
  let c64_i32 : BitVec 32 := 64#32
  let v21 : BitVec 32 := Scalar.addi c0_i32_15 c64_i32
  let c1_i32 : BitVec 32 := 1#32
  ⟨c0_i32_15, v21, c1_i32⟩
def k0_mult1 (k0_t1 : Fin k0_t1_loop.trips) : BitVec 32 :=
  let c0_i32_15 : BitVec 32 := 0#32
  let c1_i32 : BitVec 32 := 1#32
  let arg15 : BitVec 32 := Scf.iv c0_i32_15 c1_i32 k0_t1
  let c8_i32 : BitVec 32 := 8#32
  let v349 : BitVec 32 := Scalar.muli arg15 c8_i32
  v349
def k0_off1 (k0_t1 : Fin k0_t1_loop.trips) : Fin 2 → Nat :=
  let c0_i32_15 : BitVec 32 := 0#32
  let c1_i32 : BitVec 32 := 1#32
  let arg15 : BitVec 32 := Scf.iv c0_i32_15 c1_i32 k0_t1
  let c8_i32 : BitVec 32 := 8#32
  let v349 : BitVec 32 := Scalar.muli arg15 c8_i32
  let v350 : BitVec 32 := v349
  let v354 : Index := Scalar.indexCast v350
  let c0_142 : Index := 0#32
  ![v354.toNat, 0]
def k0_off2 (k0_t1 : Fin k0_t1_loop.trips) : Fin 2 → Nat :=
  let c0_i32_15 : BitVec 32 := 0#32
  let c1_i32 : BitVec 32 := 1#32
  let arg15 : BitVec 32 := Scf.iv c0_i32_15 c1_i32 k0_t1
  let c8_i32 : BitVec 32 := 8#32
  let v349 : BitVec 32 := Scalar.muli arg15 c8_i32
  let v350 : BitVec 32 := v349
  let v360 : Index := Scalar.indexCast v350
  let c1024_143 : Index := 1024#32
  ![v360.toNat, 1024]
@[reducible] def k0_t2_loop : Scf.Loop 32 :=
  let c0_i32_59 : BitVec 32 := 0#32
  let c64_i32_60 : BitVec 32 := 64#32
  let v165 : BitVec 32 := Scalar.addi c0_i32_59 c64_i32_60
  let c1_i32_61 : BitVec 32 := 1#32
  ⟨c0_i32_59, v165, c1_i32_61⟩
def k0_mult2 (k0_t2 : Fin k0_t2_loop.trips) : BitVec 32 :=
  let c0_i32_59 : BitVec 32 := 0#32
  let c1_i32_61 : BitVec 32 := 1#32
  let arg15 : BitVec 32 := Scf.iv c0_i32_59 c1_i32_61 k0_t2
  let c8_i32 : BitVec 32 := 8#32
  let v349 : BitVec 32 := Scalar.muli arg15 c8_i32
  v349
def k0_off3 (k0_t2 : Fin k0_t2_loop.trips) : Fin 2 → Nat :=
  let c0_i32_59 : BitVec 32 := 0#32
  let c1_i32_61 : BitVec 32 := 1#32
  let arg15 : BitVec 32 := Scf.iv c0_i32_59 c1_i32_61 k0_t2
  let c8_i32 : BitVec 32 := 8#32
  let v349 : BitVec 32 := Scalar.muli arg15 c8_i32
  let v350 : BitVec 32 := v349
  let v357 : Index := Scalar.indexCast v350
  let c0_142 : Index := 0#32
  ![v357.toNat, 0]
def k0_off4 (k0_t2 : Fin k0_t2_loop.trips) : Fin 2 → Nat :=
  let c0_i32_59 : BitVec 32 := 0#32
  let c1_i32_61 : BitVec 32 := 1#32
  let arg15 : BitVec 32 := Scf.iv c0_i32_59 c1_i32_61 k0_t2
  let c8_i32 : BitVec 32 := 8#32
  let v349 : BitVec 32 := Scalar.muli arg15 c8_i32
  let v350 : BitVec 32 := v349
  let v364 : Index := Scalar.indexCast v350
  let c1024_144 : Index := 1024#32
  ![v364.toNat, 1024]
@[reducible] def k0_t3_loop : Scf.Loop 32 :=
  let c0_i32_69 : BitVec 32 := 0#32
  let c64_i32_70 : BitVec 32 := 64#32
  let v176 : BitVec 32 := Scalar.addi c0_i32_69 c64_i32_70
  let c1_i32_71 : BitVec 32 := 1#32
  ⟨c0_i32_69, v176, c1_i32_71⟩
def k0_mult3 (k0_t3 : Fin k0_t3_loop.trips) : BitVec 32 :=
  let c0_i32_69 : BitVec 32 := 0#32
  let c1_i32_71 : BitVec 32 := 1#32
  let arg15 : BitVec 32 := Scf.iv c0_i32_69 c1_i32_71 k0_t3
  let c8_i32 : BitVec 32 := 8#32
  let v349 : BitVec 32 := Scalar.muli arg15 c8_i32
  v349
def k0_off5 (k0_t3 : Fin k0_t3_loop.trips) : Fin 2 → Nat :=
  let c0_i32_69 : BitVec 32 := 0#32
  let c1_i32_71 : BitVec 32 := 1#32
  let arg15 : BitVec 32 := Scf.iv c0_i32_69 c1_i32_71 k0_t3
  let c8_i32 : BitVec 32 := 8#32
  let v349 : BitVec 32 := Scalar.muli arg15 c8_i32
  let v350 : BitVec 32 := v349
  let v354 : Index := Scalar.indexCast v350
  let c512_142 : Index := 512#32
  ![v354.toNat, 512]
def k0_off6 (k0_t3 : Fin k0_t3_loop.trips) : Fin 2 → Nat :=
  let c0_i32_69 : BitVec 32 := 0#32
  let c1_i32_71 : BitVec 32 := 1#32
  let arg15 : BitVec 32 := Scf.iv c0_i32_69 c1_i32_71 k0_t3
  let c8_i32 : BitVec 32 := 8#32
  let v349 : BitVec 32 := Scalar.muli arg15 c8_i32
  let v350 : BitVec 32 := v349
  let v360 : Index := Scalar.indexCast v350
  let c1536_143 : Index := 1536#32
  ![v360.toNat, 1536]
@[reducible] def k0_t4_loop : Scf.Loop 32 :=
  let c0_i32_122 : BitVec 32 := 0#32
  let c64_i32_123 : BitVec 32 := 64#32
  let v320 : BitVec 32 := Scalar.addi c0_i32_122 c64_i32_123
  let c1_i32_124 : BitVec 32 := 1#32
  ⟨c0_i32_122, v320, c1_i32_124⟩
def k0_mult4 (k0_t4 : Fin k0_t4_loop.trips) : BitVec 32 :=
  let c0_i32_122 : BitVec 32 := 0#32
  let c1_i32_124 : BitVec 32 := 1#32
  let arg15 : BitVec 32 := Scf.iv c0_i32_122 c1_i32_124 k0_t4
  let c8_i32 : BitVec 32 := 8#32
  let v349 : BitVec 32 := Scalar.muli arg15 c8_i32
  v349
def k0_off7 (k0_t4 : Fin k0_t4_loop.trips) : Fin 2 → Nat :=
  let c0_i32_122 : BitVec 32 := 0#32
  let c1_i32_124 : BitVec 32 := 1#32
  let arg15 : BitVec 32 := Scf.iv c0_i32_122 c1_i32_124 k0_t4
  let c8_i32 : BitVec 32 := 8#32
  let v349 : BitVec 32 := Scalar.muli arg15 c8_i32
  let v350 : BitVec 32 := v349
  let v357 : Index := Scalar.indexCast v350
  let c512_142 : Index := 512#32
  ![v357.toNat, 512]
def k0_off8 (k0_t4 : Fin k0_t4_loop.trips) : Fin 2 → Nat :=
  let c0_i32_122 : BitVec 32 := 0#32
  let c1_i32_124 : BitVec 32 := 1#32
  let arg15 : BitVec 32 := Scf.iv c0_i32_122 c1_i32_124 k0_t4
  let c8_i32 : BitVec 32 := 8#32
  let v349 : BitVec 32 := Scalar.muli arg15 c8_i32
  let v350 : BitVec 32 := v349
  let v364 : Index := Scalar.indexCast v350
  let c1536_144 : Index := 1536#32
  ![v364.toNat, 1536]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1x512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== ReferenceIdeal.lean ====
abbrev S2x8192x2048 : Shape := ⟨3, ![2, 8192, 2048]⟩
abbrev S128x64 : Shape := ⟨2, ![128, 64]⟩
abbrev S128 : Shape := ⟨1, ![128]⟩
abbrev S128x64x16 : Shape := ⟨3, ![128, 64, 16]⟩
abbrev S128x16x64 : Shape := ⟨3, ![128, 16, 64]⟩
abbrev S2048 : Shape := ⟨1, ![2048]⟩
abbrev S2x8192x128x16 : Shape := ⟨4, ![2, 8192, 128, 16]⟩
abbrev S128x1 : Shape := ⟨2, ![128, 1]⟩
abbrev S_ : Shape := ⟨0, ![]⟩
abbrev S128x64x1 : Shape := ⟨3, ![128, 64, 1]⟩
abbrev S128x2x8192x64 : Shape := ⟨4, ![128, 2, 8192, 64]⟩
abbrev S8192x2x128x64 : Shape := ⟨4, ![8192, 2, 128, 64]⟩
abbrev S2x128x64 : Shape := ⟨3, ![2, 128, 64]⟩
abbrev S1x2x128x64 : Shape := ⟨4, ![1, 2, 128, 64]⟩
abbrev S1x128x64 : Shape := ⟨3, ![1, 128, 64]⟩
abbrev S128x8192x2x16 : Shape := ⟨4, ![128, 8192, 2, 16]⟩
abbrev S1x1x2048 : Shape := ⟨3, ![1, 1, 2048]⟩

abbrev nBuf : Space → Nat
  | .hbm => 140
  | .vmem => 0
  | .smem => 0
  | _ => 0

abbrev hbmTy0_0 (i : Nat) : BufTy := match i % 128 with
  | 0 => ⟨S2x8192x2048, .f32⟩
  | 1 => ⟨S128x64, .f32⟩
  | 2 => ⟨S128x64, .f32⟩
  | 3 => ⟨S128, .f32⟩
  | 4 => ⟨S128x64x16, .f32⟩
  | 5 => ⟨S128x64x16, .f32⟩
  | 6 => ⟨S128x16x64, .f32⟩
  | 7 => ⟨S128x16x64, .f32⟩
  | 8 => ⟨S2048, .f32⟩
  | 9 => ⟨S2x8192x128x16, .f32⟩
  | 10 => ⟨S128, .f32⟩
  | 11 => ⟨S128x1, .f32⟩
  | 12 => ⟨S128x64, .f32⟩
  | 13 => ⟨S128x64, .f32⟩
  | 14 => ⟨S128x64, .f32⟩
  | 15 => ⟨S128x64, .f32⟩
  | 16 => ⟨S128x64, .f32⟩
  | 17 => ⟨S128x64, .f32⟩
  | 18 => ⟨S128x64, .f32⟩
  | 19 => ⟨S128x64, .f32⟩
  | 20 => ⟨S128x64, .f32⟩
  | 21 => ⟨S128x64, .f32⟩
  | 22 => ⟨S128x64, .f32⟩
  | 23 => ⟨S128x64, .f32⟩
  | 24 => ⟨S128x64, .f32⟩
  | 25 => ⟨S128x64, .f32⟩
  | 26 => ⟨S_, .f32⟩
  | 27 => ⟨S128x64, .f32⟩
  | 28 => ⟨S128x64, .f32⟩
  | 29 => ⟨S128x64, .f32⟩
  | 30 => ⟨S128x64, .f32⟩
  | 31 => ⟨S128x64, .f32⟩
  | 32 => ⟨S128x64, .f32⟩
  | 33 => ⟨S128x64, .f32⟩
  | 34 => ⟨S_, .f32⟩
  | 35 => ⟨S128x64, .f32⟩
  | 36 => ⟨S128x64, .f32⟩
  | 37 => ⟨S128x64, .f32⟩
  | 38 => ⟨S128x64, .f32⟩
  | 39 => ⟨S128x64, .f32⟩
  | 40 => ⟨S128x64x1, .f32⟩
  | 41 => ⟨S128x64x1, .f32⟩
  | 42 => ⟨S128x64x16, .f32⟩
  | 43 => ⟨S128x64x16, .f32⟩
  | 44 => ⟨S128x64x16, .f32⟩
  | 45 => ⟨S128x64x16, .f32⟩
  | 46 => ⟨S128x64x16, .f32⟩
  | 47 => ⟨S128x64x16, .f32⟩
  | 48 => ⟨S128x64x16, .f32⟩
  | 49 => ⟨S128x64x16, .f32⟩
  | 50 => ⟨S128x64x16, .f32⟩
  | 51 => ⟨S128x64x16, .f32⟩
  | 52 => ⟨S128x2x8192x64, .f32⟩
  | 53 => ⟨S8192x2x128x64, .f32⟩
  | 54 => ⟨S128x2x8192x64, .f32⟩
  | 55 => ⟨S8192x2x128x64, .f32⟩
  | 56 => ⟨S_, .f32⟩
  | 57 => ⟨S2x128x64, .f32⟩
  | 58 => ⟨S_, .f32⟩
  | 59 => ⟨S8192x2x128x64, .f32⟩
  | 60 => ⟨S_, .f32⟩
  | 61 => ⟨S8192x2x128x64, .f32⟩
  | 62 => ⟨S_, .i32⟩
  | 63 => ⟨S8192x2x128x64, .f32⟩
  | 64 => ⟨S8192x2x128x64, .f32⟩
  | 65 => ⟨S128x64, .f32⟩
  | 66 => ⟨S128x64, .f32⟩
  | 67 => ⟨S_, .i32⟩
  | 68 => ⟨S2x128x64, .f32⟩
  | 69 => ⟨S2x128x64, .f32⟩
  | 70 => ⟨S8192x2x128x64, .f32⟩
  | 71 => ⟨S8192x2x128x64, .f32⟩
  | 72 => ⟨S_, .i32⟩
  | 73 => ⟨S_, .i1⟩
  | 74 => ⟨S_, .i32⟩
  | 75 => ⟨S_, .i32⟩
  | 76 => ⟨S_, .i32⟩
  | 77 => ⟨S1x2x128x64, .f32⟩
  | 78 => ⟨S2x128x64, .f32⟩
  | 79 => ⟨S_, .i32⟩
  | 80 => ⟨S_, .i32⟩
  | 81 => ⟨S_, .i32⟩
  | 82 => ⟨S1x2x128x64, .f32⟩
  | 83 => ⟨S2x128x64, .f32⟩
  | 84 => ⟨S1x128x64, .f32⟩
  | 85 => ⟨S2x128x64, .f32⟩
  | 86 => ⟨S2x128x64, .f32⟩
  | 87 => ⟨S1x128x64, .f32⟩
  | 88 => ⟨S2x128x64, .f32⟩
  | 89 => ⟨S2x128x64, .f32⟩
  | 90 => ⟨S2x128x64, .f32⟩
  | 91 => ⟨S2x128x64, .f32⟩
  | 92 => ⟨S1x128x64, .f32⟩
  | 93 => ⟨S2x128x64, .f32⟩
  | 94 => ⟨S2x128x64, .f32⟩
  | 95 => ⟨S1x128x64, .f32⟩
  | 96 => ⟨S2x128x64, .f32⟩
  | 97 => ⟨S2x128x64, .f32⟩
  | 98 => ⟨S2x128x64, .f32⟩
  | 99 => ⟨S2x128x64, .f32⟩
  | 100 => ⟨S1x2x128x64, .f32⟩
  | 101 => ⟨S_, .i32⟩
  | 102 => ⟨S_, .i32⟩
  | 103 => ⟨S_, .i32⟩
  | 104 => ⟨S8192x2x128x64, .f32⟩
  | 105 => ⟨S1x2x128x64, .f32⟩
  | 106 => ⟨S_, .i32⟩
  | 107 => ⟨S_, .i32⟩
  | 108 => ⟨S_, .i32⟩
  | 109 => ⟨S8192x2x128x64, .f32⟩
  | 110 => ⟨S_, .i32⟩
  | 111 => ⟨S_, .i32⟩
  | 112 => ⟨S128x8192x2x16, .f32⟩
  | 113 => ⟨S2x8192x128x16, .f32⟩
  | 114 => ⟨S128x8192x2x16, .f32⟩
  | 115 => ⟨S2x8192x128x16, .f32⟩
  | 116 => ⟨S2x8192x128x16, .f32⟩
  | 117 => ⟨S2x8192x2048, .f32⟩
  | 118 => ⟨S1x1x2048, .f32⟩
  | 119 => ⟨S2x8192x2048, .f32⟩
  | 120 => ⟨S2x8192x2048, .f32⟩
  | 121 => ⟨S2x8192x2048, .f32⟩
  | 122 => ⟨S2x8192x2048, .f32⟩
  | 123 => ⟨S2x8192x2048, .f32⟩
  | 124 => ⟨S_, .f32⟩
  | 125 => ⟨S2x8192x2048, .f32⟩
  | 126 => ⟨S2x8192x2048, .f32⟩
  | 127 => ⟨S2x8192x2048, .f32⟩
  | _ => ⟨S2x8192x2048, .f32⟩

abbrev hbmTy0_1 (i : Nat) : BufTy := match i % 128 with
  | 0 => ⟨S_, .f32⟩
  | 1 => ⟨S2x8192x2048, .f32⟩
  | 2 => ⟨S2x8192x2048, .f32⟩
  | 3 => ⟨S2x8192x2048, .f32⟩
  | 4 => ⟨S_, .f32⟩
  | 5 => ⟨S2x8192x2048, .f32⟩
  | 6 => ⟨S2x8192x2048, .f32⟩
  | 7 => ⟨S_, .f32⟩
  | 8 => ⟨S2x8192x2048, .f32⟩
  | 9 => ⟨S2x8192x2048, .f32⟩
  | 10 => ⟨S2x8192x2048, .f32⟩
  | 11 => ⟨S2x8192x2048, .bf16⟩
  | _ => ⟨S2x8192x2048, .f32⟩

abbrev hbmTy (i : Nat) : BufTy := match i / 128 with
  | 0 => hbmTy0_0 i
  | 1 => hbmTy0_1 i
  | _ => ⟨S2x8192x2048, .f32⟩

abbrev bufTy : (tb : Table) → Fin (tcTables nBuf tb) → BufTy
  | .hbm, ⟨i, _⟩ => hbmTy i
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_0 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_1 : Ref sig .tc := ⟨.hbm, 56, rfl⟩
abbrev main_v45 : Ref sig .tc := ⟨.hbm, 57, rfl⟩
abbrev main_cst_2 : Ref sig .tc := ⟨.hbm, 58, rfl⟩
abbrev main_v46 : Ref sig .tc := ⟨.hbm, 59, rfl⟩
abbrev main_cst_3 : Ref sig .tc := ⟨.hbm, 60, rfl⟩
abbrev main_v47 : Ref sig .tc := ⟨.hbm, 61, rfl⟩
abbrev main_c : Ref sig .tc := ⟨.hbm, 62, rfl⟩
abbrev main_v48_0 : Ref sig .tc := ⟨.hbm, 63, rfl⟩
abbrev main_v48_1 : Ref sig .tc := ⟨.hbm, 64, rfl⟩
abbrev main_v48_2 : Ref sig .tc := ⟨.hbm, 65, rfl⟩
abbrev main_v48_3 : Ref sig .tc := ⟨.hbm, 66, rfl⟩
abbrev main_v48_4 : Ref sig .tc := ⟨.hbm, 67, rfl⟩
abbrev main_v48_5 : Ref sig .tc := ⟨.hbm, 68, rfl⟩
abbrev main_v48_6 : Ref sig .tc := ⟨.hbm, 69, rfl⟩
abbrev main_v48_7 : Ref sig .tc := ⟨.hbm, 70, rfl⟩
abbrev main_v48_8 : Ref sig .tc := ⟨.hbm, 71, rfl⟩
abbrev main_while0c_c_16 : Ref sig .tc := ⟨.hbm, 72, rfl⟩
abbrev main_while0c_v73 : Ref sig .tc := ⟨.hbm, 73, rfl⟩
abbrev main_while0b_call0_c : Ref sig .tc := ⟨.hbm, 74, rfl⟩
abbrev main_while0b_call0_c_0 : Ref sig .tc := ⟨.hbm, 75, rfl⟩
abbrev main_while0b_call0_c_1 : Ref sig .tc := ⟨.hbm, 76, rfl⟩
abbrev main_while0b_call0_v0 : Ref sig .tc := ⟨.hbm, 77, rfl⟩
abbrev main_while0b_v73 : Ref sig .tc := ⟨.hbm, 78, rfl⟩
abbrev main_while0b_call1_c : Ref sig .tc := ⟨.hbm, 79, rfl⟩
abbrev main_while0b_call1_c_0 : Ref sig .tc := ⟨.hbm, 80, rfl⟩
abbrev main_while0b_call1_c_1 : Ref sig .tc := ⟨.hbm, 81, rfl⟩
abbrev main_while0b_call1_v0 : Ref sig .tc := ⟨.hbm, 82, rfl⟩
abbrev main_while0b_v74 : Ref sig .tc := ⟨.hbm, 83, rfl⟩
abbrev main_while0b_v75 : Ref sig .tc := ⟨.hbm, 84, rfl⟩
abbrev main_while0b_v76 : Ref sig .tc := ⟨.hbm, 85, rfl⟩
abbrev main_while0b_v77 : Ref sig .tc := ⟨.hbm, 86, rfl⟩
abbrev main_while0b_v78 : Ref sig .tc := ⟨.hbm, 87, rfl⟩
abbrev main_while0b_v79 : Ref sig .tc := ⟨.hbm, 88, rfl⟩
abbrev main_while0b_v80 : Ref sig .tc := ⟨.hbm, 89, rfl⟩
abbrev main_while0b_v81 : Ref sig .tc := ⟨.hbm, 90, rfl⟩
abbrev main_while0b_v82 : Ref sig .tc := ⟨.hbm, 91, rfl⟩
abbrev main_while0b_v83 : Ref sig .tc := ⟨.hbm, 92, rfl⟩
abbrev main_while0b_v84 : Ref sig .tc := ⟨.hbm, 93, rfl⟩
abbrev main_while0b_v85 : Ref sig .tc := ⟨.hbm, 94, rfl⟩
abbrev main_while0b_v86 : Ref sig .tc := ⟨.hbm, 95, rfl⟩
abbrev main_while0b_v87 : Ref sig .tc := ⟨.hbm, 96, rfl⟩
abbrev main_while0b_v88 : Ref sig .tc := ⟨.hbm, 97, rfl⟩
abbrev main_while0b_v89 : Ref sig .tc := ⟨.hbm, 98, rfl⟩
abbrev main_while0b_v90 : Ref sig .tc := ⟨.hbm, 99, rfl⟩
abbrev main_while0b_call2_v0 : Ref sig .tc := ⟨.hbm, 100, rfl⟩
abbrev main_while0b_call2_c : Ref sig .tc := ⟨.hbm, 101, rfl⟩
abbrev main_while0b_call2_c_0 : Ref sig .tc := ⟨.hbm, 102, rfl⟩
abbrev main_while0b_call2_c_1 : Ref sig .tc := ⟨.hbm, 103, rfl⟩
abbrev main_while0b_v91 : Ref sig .tc := ⟨.hbm, 104, rfl⟩
abbrev main_while0b_call3_v0 : Ref sig .tc := ⟨.hbm, 105, rfl⟩
abbrev main_while0b_call3_c : Ref sig .tc := ⟨.hbm, 106, rfl⟩
abbrev main_while0b_call3_c_0 : Ref sig .tc := ⟨.hbm, 107, rfl⟩
abbrev main_while0b_call3_c_1 : Ref sig .tc := ⟨.hbm, 108, rfl⟩
abbrev main_while0b_v92 : Ref sig .tc := ⟨.hbm, 109, rfl⟩
abbrev main_while0b_c_16 : Ref sig .tc := ⟨.hbm, 110, rfl⟩
abbrev main_while0b_v93 : Ref sig .tc := ⟨.hbm, 111, rfl⟩
abbrev main_v49 : Ref sig .tc := ⟨.hbm, 112, rfl⟩
abbrev main_v50 : Ref sig .tc := ⟨.hbm, 113, rfl⟩
abbrev main_v51 : Ref sig .tc := ⟨.hbm, 114, rfl⟩
abbrev main_v52 : Ref sig .tc := ⟨.hbm, 115, rfl⟩
abbrev main_v53 : Ref sig .tc := ⟨.hbm, 116, rfl⟩
abbrev main_v54 : Ref sig .tc := ⟨.hbm, 117, rfl⟩
abbrev main_v55 : Ref sig .tc := ⟨.hbm, 118, rfl⟩
abbrev main_v56 : Ref sig .tc := ⟨.hbm, 119, rfl⟩
abbrev main_v57 : Ref sig .tc := ⟨.hbm, 120, rfl⟩
abbrev main_v58 : Ref sig .tc := ⟨.hbm, 121, rfl⟩
abbrev main_v59 : Ref sig .tc := ⟨.hbm, 122, rfl⟩
abbrev main_v60 : Ref sig .tc := ⟨.hbm, 123, rfl⟩
abbrev main_cst_4 : Ref sig .tc := ⟨.hbm, 124, rfl⟩
abbrev main_v61 : Ref sig .tc := ⟨.hbm, 125, rfl⟩
abbrev main_v62 : Ref sig .tc := ⟨.hbm, 126, rfl⟩
abbrev main_v63 : Ref sig .tc := ⟨.hbm, 127, rfl⟩
abbrev main_cst_5 : Ref sig .tc := ⟨.hbm, 128, rfl⟩
abbrev main_v64 : Ref sig .tc := ⟨.hbm, 129, rfl⟩
abbrev main_v65 : Ref sig .tc := ⟨.hbm, 130, rfl⟩
abbrev main_v66 : Ref sig .tc := ⟨.hbm, 131, rfl⟩
abbrev main_cst_6 : Ref sig .tc := ⟨.hbm, 132, rfl⟩
abbrev main_v67 : Ref sig .tc := ⟨.hbm, 133, rfl⟩
abbrev main_v68 : Ref sig .tc := ⟨.hbm, 134, rfl⟩
abbrev main_cst_7 : Ref sig .tc := ⟨.hbm, 135, rfl⟩
abbrev main_v69 : Ref sig .tc := ⟨.hbm, 136, rfl⟩
abbrev main_v70 : Ref sig .tc := ⟨.hbm, 137, rfl⟩
abbrev main_v71 : Ref sig .tc := ⟨.hbm, 138, rfl⟩
abbrev main_v72 : Ref sig .tc := ⟨.hbm, 139, rfl⟩

abbrev nD : Nat := 1
abbrev τ : Topo := Topo.v7x

variable {F : FTy → Type} [FloatOps F]

abbrev main_while0_count : Scf.Loop 32 := ⟨0#32, 8192#32, 1#32⟩
-- ==== Kernel2.lean ====
abbrev S2x8192x2048 : Shape := ⟨3, ![2, 8192, 2048]⟩
abbrev S2x1x2048 : Shape := ⟨3, ![2, 1, 2048]⟩
abbrev S2048x11264 : Shape := ⟨2, ![2048, 11264]⟩
abbrev S5632x2048 : Shape := ⟨2, ![5632, 2048]⟩
abbrev S2048 : Shape := ⟨1, ![2048]⟩
abbrev S1x2048 : Shape := ⟨2, ![1, 2048]⟩
abbrev S1x512x2048 : Shape := ⟨3, ![1, 512, 2048]⟩
abbrev S1x1x2048 : Shape := ⟨3, ![1, 1, 2048]⟩
abbrev S2048x512 : Shape := ⟨2, ![2048, 512]⟩
abbrev S512x2048 : Shape := ⟨2, ![512, 2048]⟩
abbrev S512x512 : Shape := ⟨2, ![512, 512]⟩
abbrev S1x512x512 : Shape := ⟨3, ![1, 512, 512]⟩
abbrev S1x1x512 : Shape := ⟨3, ![1, 1, 512]⟩
abbrev S1x512 : Shape := ⟨2, ![1, 512]⟩
abbrev S512 : Shape := ⟨1, ![512]⟩
abbrev S512x1 : Shape := ⟨2, ![512, 1]⟩

abbrev nBuf : Space → Nat
  | .hbm => 13
  | .vmem => 20
  | .smem => 0
  | _ => 0

abbrev bufTy : (tb : Table) → Fin (tcTables nBuf tb) → BufTy
  | .hbm, ⟨0, _⟩ => ⟨S2x8192x2048, .f32⟩
  | .hbm, ⟨1, _⟩ => ⟨S2x1x2048, .f32⟩
  | .hbm, ⟨2, _⟩ => ⟨S2x1x2048, .f32⟩
  | .hbm, ⟨3, _⟩ => ⟨S2x1x2048, .f32⟩
  | .hbm, ⟨4, _⟩ => ⟨S2048x11264, .f32⟩
  | .hbm, ⟨5, _⟩ => ⟨S5632x2048, .f32⟩
  | .hbm, ⟨6, _⟩ => ⟨S2048, .f32⟩
  | .hbm, ⟨7, _⟩ => ⟨S2048, .f32⟩
  | .hbm, ⟨8, _⟩ => ⟨S2048x11264, .bf16⟩
  | .hbm, ⟨9, _⟩ => ⟨S5632x2048, .bf16⟩
  | .hbm, ⟨10, _⟩ => ⟨S1x2048, .f32⟩
  | .hbm, ⟨11, _⟩ => ⟨S1x2048, .f32⟩
  | .hbm, ⟨12, _⟩ => ⟨S2x8192x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S512x2048, .bf16⟩
  | .local _ .vmem, ⟨13, _⟩ => ⟨S512x2048, .bf16⟩
  | .local _ .vmem, ⟨14, _⟩ => ⟨S1x2048, .f32⟩
  | .local _ .vmem, ⟨15, _⟩ => ⟨S1x2048, .f32⟩
  | .local _ .vmem, ⟨16, _⟩ => ⟨S1x512x2048, .f32⟩
  | .local _ .vmem, ⟨17, _⟩ => ⟨S1x512x2048, .f32⟩
  | .local _ .vmem, ⟨18, _⟩ => ⟨S512x2048, .bf16⟩
  | .local _ .vmem, ⟨19, _⟩ => ⟨S512x2048, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨3, ![2, 16, 11], ![false, false, false]⟩

def k0_cond2 (i : grid0.Coords) : BitVec 1 :=
  let arg2 : BitVec 32 := BitVec.ofNat 32 (i 2).val
  let c10_i32 : BitVec 32 := 10#32
  let v22 : BitVec 1 := Scalar.cmpi .eq arg2 c10_i32
  let v23 : BitVec 32 := Scalar.extui v22
  let c0_i32_14 : BitVec 32 := 0#32
  let v24 : BitVec 1 := Scalar.cmpi .ne v23 c0_i32_14
  v24

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi arg2 c11_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1x512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== Reference2Ideal.lean ====
abbrev S2x8192x2048 : Shape := ⟨3, ![2, 8192, 2048]⟩
abbrev S2x1x2048 : Shape := ⟨3, ![2, 1, 2048]⟩
abbrev S2048x11264 : Shape := ⟨2, ![2048, 11264]⟩
abbrev S5632x2048 : Shape := ⟨2, ![5632, 2048]⟩
abbrev S2048 : Shape := ⟨1, ![2048]⟩
abbrev S_ : Shape := ⟨0, ![]⟩
abbrev S2x8192x11264 : Shape := ⟨3, ![2, 8192, 11264]⟩
abbrev S2x8192x5632 : Shape := ⟨3, ![2, 8192, 5632]⟩
abbrev S2x8192 : Shape := ⟨2, ![2, 8192]⟩
abbrev S2x8192x1 : Shape := ⟨3, ![2, 8192, 1]⟩
abbrev S1x1x2048 : Shape := ⟨3, ![1, 1, 2048]⟩

abbrev nBuf : Space → Nat
  | .hbm => 67
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2x1x2048, .f32⟩
  | .hbm, ⟨2, _⟩ => ⟨S2x1x2048, .f32⟩
  | .hbm, ⟨3, _⟩ => ⟨S2x1x2048, .f32⟩
  | .hbm, ⟨4, _⟩ => ⟨S2048x11264, .f32⟩
  | .hbm, ⟨5, _⟩ => ⟨S5632x2048, .f32⟩
  | .hbm, ⟨6, _⟩ => ⟨S2048, .f32⟩
  | .hbm, ⟨7, _⟩ => ⟨S2048, .f32⟩
  | .hbm, ⟨8, _⟩ => ⟨S_, .f32⟩
  | .hbm, ⟨9, _⟩ => ⟨S2x1x2048, .f32⟩
  | .hbm, ⟨10, _⟩ => ⟨S2x1x2048, .f32⟩
  | .hbm, ⟨11, _⟩ => ⟨S2x8192x2048, .f32⟩
  | .hbm, ⟨12, _⟩ => ⟨S2x8192x2048, .f32⟩
  | .hbm, ⟨13, _⟩ => ⟨S2x8192x2048, .f32⟩
  | .hbm, ⟨14, _⟩ => ⟨S2x8192x2048, .f32⟩
  | .hbm, ⟨15, _⟩ => ⟨S2x8192x11264, .f32⟩
  | .hbm, ⟨16, _⟩ => ⟨S2x8192x5632, .f32⟩
  | .hbm, ⟨17, _⟩ => ⟨S2x8192x5632, .f32⟩
  | .hbm, ⟨18, _⟩ => ⟨S2x8192x5632, .f32⟩
  | .hbm, ⟨19, _⟩ => ⟨S2x8192x5632, .f32⟩
  | .hbm, ⟨20, _⟩ => ⟨S_, .f32⟩
  | .hbm, ⟨21, _⟩ => ⟨S2x8192x5632, .f32⟩
  | .hbm, ⟨22, _⟩ => ⟨S2x8192x5632, .f32⟩
  | .hbm, ⟨23, _⟩ => ⟨S_, .f32⟩
  | .hbm, ⟨24, _⟩ => ⟨S2x8192x5632, .f32⟩
  | .hbm, ⟨25, _⟩ => ⟨S2x8192x5632, .f32⟩
  | .hbm, ⟨26, _⟩ => ⟨S2x8192x5632, .f32⟩
  | .hbm, ⟨27, _⟩ => ⟨S2x8192x5632, .f32⟩
  | .hbm, ⟨28, _⟩ => ⟨S2x8192x2048, .f32⟩
  | .hbm, ⟨29, _⟩ => ⟨S_, .f32⟩
  | .hbm, ⟨30, _⟩ => ⟨S2x8192x2048, .f32⟩
  | .hbm, ⟨31, _⟩ => ⟨S2x8192x2048, .f32⟩
  | .hbm, ⟨32, _⟩ => ⟨S_, .f32⟩
  | .hbm, ⟨33, _⟩ => ⟨S2x1x2048, .f32⟩
  | .hbm, ⟨34, _⟩ => ⟨S2x1x2048, .f32⟩
  | .hbm, ⟨35, _⟩ => ⟨S2x8192x2048, .f32⟩
  | .hbm, ⟨36, _⟩ => ⟨S2x8192x2048, .f32⟩
  | .hbm, ⟨37, _⟩ => ⟨S2x8192x2048, .f32⟩
  | .hbm, ⟨38, _⟩ => ⟨S_, .f32⟩
  | .hbm, ⟨39, _⟩ => ⟨S2x8192, .f32⟩
  | .hbm, ⟨40, _⟩ => ⟨S2x8192x1, .f32⟩
  | .hbm, ⟨41, _⟩ => ⟨S_, .f32⟩
  | .hbm, ⟨42, _⟩ => ⟨S2x8192x1, .f32⟩
  | .hbm, ⟨43, _⟩ => ⟨S2x8192x1, .f32⟩
  | .hbm, ⟨44, _⟩ => ⟨S2x8192x2048, .f32⟩
  | .hbm, ⟨45, _⟩ => ⟨S2x8192x2048, .f32⟩
  | .hbm, ⟨46, _⟩ => ⟨S2x8192x2048, .f32⟩
  | .hbm, ⟨47, _⟩ => ⟨S_, .f32⟩
  | .hbm, ⟨48, _⟩ => ⟨S2x8192, .f32⟩
  | .hbm, ⟨49, _⟩ => ⟨S2x8192x1, .f32⟩
  | .hbm, ⟨50, _⟩ => ⟨S_, .f32⟩
  | .hbm, ⟨51, _⟩ => ⟨S2x8192x1, .f32⟩
  | .hbm, ⟨52, _⟩ => ⟨S2x8192x1, .f32⟩
  | .hbm, ⟨53, _⟩ => ⟨S2x8192x2048, .f32⟩
  | .hbm, ⟨54, _⟩ => ⟨S2x8192x2048, .f32⟩
  | .hbm, ⟨55, _⟩ => ⟨S_, .f32⟩
  | .hbm, ⟨56, _⟩ => ⟨S2x8192x1, .f32⟩
  | .hbm, ⟨57, _⟩ => ⟨S2x8192x1, .f32⟩
  | .hbm, ⟨58, _⟩ => ⟨S2x8192x1, .f32⟩
  | .hbm, ⟨59, _⟩ => ⟨S2x8192x2048, .f32⟩
  | .hbm, ⟨60, _⟩ => ⟨S2x8192x2048, .f32⟩
  | .hbm, ⟨61, _⟩ => ⟨S1x1x2048, .f32⟩
  | .hbm, ⟨62, _⟩ => ⟨S2x8192x2048, .f32⟩
  | .hbm, ⟨63, _⟩ => ⟨S2x8192x2048, .f32⟩
  | .hbm, ⟨64, _⟩ => ⟨S1x1x2048, .f32⟩
  | .hbm, ⟨65, _⟩ => ⟨S2x8192x2048, .f32⟩
  | .hbm, ⟨66, _⟩ => ⟨S2x8192x2048, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_0 : Ref sig .tc := ⟨.hbm, 29, rfl⟩
abbrev main_v12 : Ref sig .tc := ⟨.hbm, 30, rfl⟩
abbrev main_v13 : Ref sig .tc := ⟨.hbm, 31, rfl⟩
abbrev main_cst_1 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_2 : Ref sig .tc := ⟨.hbm, 38, rfl⟩
abbrev main_v19 : Ref sig .tc := ⟨.hbm, 39, rfl⟩
abbrev main_v20 : Ref sig .tc := ⟨.hbm, 40, rfl⟩
abbrev main_cst_3 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_4 : Ref sig .tc := ⟨.hbm, 47, rfl⟩
abbrev main_v26 : Ref sig .tc := ⟨.hbm, 48, rfl⟩
abbrev main_v27 : Ref sig .tc := ⟨.hbm, 49, rfl⟩
abbrev main_cst_5 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_6 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩

abbrev nD : Nat := 1
abbrev τ : Topo := Topo.v7x

variable {F : FTy → Type} [FloatOps F]
-- ==== Kernel3.lean ====
abbrev S2x8192x2048 : Shape := ⟨3, ![2, 8192, 2048]⟩
abbrev S2x1x2048 : Shape := ⟨3, ![2, 1, 2048]⟩
abbrev S2048x2048 : Shape := ⟨2, ![2048, 2048]⟩
abbrev S1x512x2048 : Shape := ⟨3, ![1, 512, 2048]⟩
abbrev S1x1x2048 : Shape := ⟨3, ![1, 1, 2048]⟩
abbrev S2048x1024 : Shape := ⟨2, ![2048, 1024]⟩
abbrev S1x512x1024 : Shape := ⟨3, ![1, 512, 1024]⟩
abbrev S512x2048 : Shape := ⟨2, ![512, 2048]⟩
abbrev S1x2048 : Shape := ⟨2, ![1, 2048]⟩
abbrev S512x1024 : Shape := ⟨2, ![512, 1024]⟩

abbrev nBuf : Space → Nat
  | .hbm => 6
  | .vmem => 11
  | .smem => 0
  | _ => 0

abbrev bufTy : (tb : Table) → Fin (tcTables nBuf tb) → BufTy
  | .hbm, ⟨0, _⟩ => ⟨S2x8192x2048, .f32⟩
  | .hbm, ⟨1, _⟩ => ⟨S2x1x2048, .f32⟩
  | .hbm, ⟨2, _⟩ => ⟨S2x1x2048, .f32⟩
  | .hbm, ⟨3, _⟩ => ⟨S2048x2048, .f32⟩
  | .hbm, ⟨4, _⟩ => ⟨S2048x2048, .bf16⟩
  | .hbm, ⟨5, _⟩ => ⟨S2x8192x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S2048x1024, .bf16⟩
  | .local _ .vmem, ⟨7, _⟩ => ⟨S2048x1024, .bf16⟩
  | .local _ .vmem, ⟨8, _⟩ => ⟨S1x512x1024, .f32⟩
  | .local _ .vmem, ⟨9, _⟩ => ⟨S1x512x1024, .f32⟩
  | .local _ .vmem, ⟨10, _⟩ => ⟨S512x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 16, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Reference3Ideal.lean ====
abbrev S2x8192x2048 : Shape := ⟨3, ![2, 8192, 2048]⟩
abbrev S2x1x2048 : Shape := ⟨3, ![2, 1, 2048]⟩
abbrev S2048x2048 : Shape := ⟨2, ![2048, 2048]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2x1x2048, .f32⟩
  | .hbm, ⟨2, _⟩ => ⟨S2x1x2048, .f32⟩
  | .hbm, ⟨3, _⟩ => ⟨S2048x2048, .f32⟩
  | .hbm, ⟨4, _⟩ => ⟨S_, .f32⟩
  | .hbm, ⟨5, _⟩ => ⟨S2x1x2048, .f32⟩
  | .hbm, ⟨6, _⟩ => ⟨S2x1x2048, .f32⟩
  | .hbm, ⟨7, _⟩ => ⟨S2x8192x2048, .f32⟩
  | .hbm, ⟨8, _⟩ => ⟨S2x8192x2048, .f32⟩
  | .hbm, ⟨9, _⟩ => ⟨S2x8192x2048, .f32⟩
  | .hbm, ⟨10, _⟩ => ⟨S2x8192x2048, .f32⟩
  | .hbm, ⟨11, _⟩ => ⟨S2x8192x2048, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Kernel4.lean ====
abbrev S2x8192x2048 : Shape := ⟨3, ![2, 8192, 2048]⟩
abbrev S2x1x2048 : Shape := ⟨3, ![2, 1, 2048]⟩
abbrev S2048x6144 : Shape := ⟨2, ![2048, 6144]⟩
abbrev S2x8192 : Shape := ⟨2, ![2, 8192]⟩
abbrev S64 : Shape := ⟨1, ![64]⟩
abbrev S_ : Shape := ⟨0, ![]⟩
abbrev S2x8192x1 : Shape := ⟨3, ![2, 8192, 1]⟩
abbrev S1x1x64 : Shape := ⟨3, ![1, 1, 64]⟩
abbrev S2x8192x64 : Shape := ⟨3, ![2, 8192, 64]⟩
abbrev S2x8192x128 : Shape := ⟨3, ![2, 8192, 128]⟩
abbrev S2x48x8192x128 : Shape := ⟨4, ![2, 48, 8192, 128]⟩
abbrev S1x512x2048 : Shape := ⟨3, ![1, 512, 2048]⟩
abbrev S1x1x2048 : Shape := ⟨3, ![1, 1, 2048]⟩
abbrev S2048x1024 : Shape := ⟨2, ![2048, 1024]⟩
abbrev S1x512x128 : Shape := ⟨3, ![1, 512, 128]⟩
abbrev S1x8x512x128 : Shape := ⟨4, ![1, 8, 512, 128]⟩
abbrev S512x2048 : Shape := ⟨2, ![512, 2048]⟩
abbrev S1x2048 : Shape := ⟨2, ![1, 2048]⟩
abbrev S512x1024 : Shape := ⟨2, ![512, 1024]⟩
abbrev S512x128 : Shape := ⟨2, ![512, 128]⟩
abbrev S1x1x512x128 : Shape := ⟨4, ![1, 1, 512, 128]⟩

abbrev nBuf : Space → Nat
  | .hbm => 34
  | .vmem => 15
  | .smem => 0
  | _ => 0

abbrev bufTy : (tb : Table) → Fin (tcTables nBuf tb) → BufTy
  | .hbm, ⟨0, _⟩ => ⟨S2x8192x2048, .f32⟩
  | .hbm, ⟨1, _⟩ => ⟨S2x1x2048, .f32⟩
  | .hbm, ⟨2, _⟩ => ⟨S2x1x2048, .f32⟩
  | .hbm, ⟨3, _⟩ => ⟨S2048x6144, .f32⟩
  | .hbm, ⟨4, _⟩ => ⟨S2x8192, .i32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S2x8192, .f32⟩
  | .hbm, ⟨22, _⟩ => ⟨S2x8192x1, .f32⟩
  | .hbm, ⟨23, _⟩ => ⟨S1x1x64, .f32⟩
  | .hbm, ⟨24, _⟩ => ⟨S2x8192x64, .f32⟩
  | .hbm, ⟨25, _⟩ => ⟨S2x8192x64, .f32⟩
  | .hbm, ⟨26, _⟩ => ⟨S2x8192x64, .f32⟩
  | .hbm, ⟨27, _⟩ => ⟨S2x8192x64, .f32⟩
  | .hbm, ⟨28, _⟩ => ⟨S2x8192x64, .f32⟩
  | .hbm, ⟨29, _⟩ => ⟨S2x8192x128, .f32⟩
  | .hbm, ⟨30, _⟩ => ⟨S2x8192x64, .f32⟩
  | .hbm, ⟨31, _⟩ => ⟨S2x8192x128, .f32⟩
  | .hbm, ⟨32, _⟩ => ⟨S2048x6144, .bf16⟩
  | .hbm, ⟨33, _⟩ => ⟨S2x48x8192x128, .bf16⟩
  | .local _ .vmem, ⟨0, _⟩ => ⟨S1x512x2048, .f32⟩
  | .local _ .vmem, ⟨1, _⟩ => ⟨S1x512x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S2048x1024, .bf16⟩
  | .local _ .vmem, ⟨7, _⟩ => ⟨S2048x1024, .bf16⟩
  | .local _ .vmem, ⟨8, _⟩ => ⟨S1x512x128, .f32⟩
  | .local _ .vmem, ⟨9, _⟩ => ⟨S1x512x128, .f32⟩
  | .local _ .vmem, ⟨10, _⟩ => ⟨S1x512x128, .f32⟩
  | .local _ .vmem, ⟨11, _⟩ => ⟨S1x512x128, .f32⟩
  | .local _ .vmem, ⟨12, _⟩ => ⟨S1x8x512x128, .bf16⟩
  | .local _ .vmem, ⟨13, _⟩ => ⟨S1x8x512x128, .bf16⟩
  | .local _ .vmem, ⟨14, _⟩ => ⟨S512x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 16, 6], ![false, false, false]⟩

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .slt arg2 c0_i32_5
  let v11 : BitVec 32 := Scalar.extui v10
  let v12 : BitVec 32 := Scalar.subi v9 v11
  let c2_i32 : BitVec 32 := 2#32
  let c0_i32_6 : BitVec 32 := 0#32
  let v13 : BitVec 1 := Scalar.cmpi .sgt c2_i32 c0_i32_6
  let v14 : BitVec 32 := Scalar.extui v13
  let c0_i32_7 : BitVec 32 := 0#32
  let v15 : BitVec 1 := Scalar.cmpi .slt c2_i32 c0_i32_7
  let v16 : BitVec 32 := Scalar.extui v15
  let v17 : BitVec 32 := Scalar.subi v14 v16
  let v18 : BitVec 1 := Scalar.cmpi .ne v12 v17
  let v19 : BitVec 32 := Scalar.remsi arg2 c2_i32
  let c0_i32_8 : BitVec 32 := 0#32
  let v20 : BitVec 1 := Scalar.cmpi .ne v19 c0_i32_8
  let v21 : BitVec 1 := Scalar.andi v18 v20
  let v7 : BitVec 32 := Scalar.divsi arg2 c2_i32
  let c1_i32 : BitVec 32 := 1#32
  let v22 : BitVec 32 := Scalar.subi v7 c1_i32
  let v23 : BitVec 32 := Scalar.select v21 v22 v7
  let c0_i32_9 : BitVec 32 := 0#32
  let v24 : BitVec 1 := Scalar.cmpi .eq v23 c0_i32_9
  let v25 : BitVec 32 := Scalar.extui v24
  let c0_i32_10 : BitVec 32 := 0#32
  let v26 : BitVec 1 := Scalar.cmpi .ne v25 c0_i32_10
  v26

def k0_cond3 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .slt arg2 c0_i32_5
  let v11 : BitVec 32 := Scalar.extui v10
  let v12 : BitVec 32 := Scalar.subi v9 v11
  let c2_i32 : BitVec 32 := 2#32
  let c0_i32_6 : BitVec 32 := 0#32
  let v13 : BitVec 1 := Scalar.cmpi .sgt c2_i32 c0_i32_6
  let v14 : BitVec 32 := Scalar.extui v13
  let c0_i32_7 : BitVec 32 := 0#32
  let v15 : BitVec 1 := Scalar.cmpi .slt c2_i32 c0_i32_7
  let v16 : BitVec 32 := Scalar.extui v15
  let v17 : BitVec 32 := Scalar.subi v14 v16
  let v18 : BitVec 1 := Scalar.cmpi .ne v12 v17
  let v19 : BitVec 32 := Scalar.remsi arg2 c2_i32
  let c0_i32_8 : BitVec 32 := 0#32
  let v20 : BitVec 1 := Scalar.cmpi .ne v19 c0_i32_8
  let v21 : BitVec 1 := Scalar.andi v18 v20
  let v7 : BitVec 32 := Scalar.divsi arg2 c2_i32
  let c1_i32 : BitVec 32 := 1#32
  let v22 : BitVec 32 := Scalar.subi v7 c1_i32
  let v23 : BitVec 32 := Scalar.select v21 v22 v7
  let c1_i32_11 : BitVec 32 := 1#32
  let v27 : BitVec 1 := Scalar.cmpi .eq v23 c1_i32_11
  let v28 : BitVec 32 := Scalar.extui v27
  let c0_i32_12 : BitVec 32 := 0#32
  let v29 : BitVec 1 := Scalar.cmpi .ne v28 c0_i32_12
  v29

def k0_cond4 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .slt arg2 c0_i32_5
  let v11 : BitVec 32 := Scalar.extui v10
  let v12 : BitVec 32 := Scalar.subi v9 v11
  let c2_i32 : BitVec 32 := 2#32
  let c0_i32_6 : BitVec 32 := 0#32
  let v13 : BitVec 1 := Scalar.cmpi .sgt c2_i32 c0_i32_6
  let v14 : BitVec 32 := Scalar.extui v13
  let c0_i32_7 : BitVec 32 := 0#32
  let v15 : BitVec 1 := Scalar.cmpi .slt c2_i32 c0_i32_7
  let v16 : BitVec 32 := Scalar.extui v15
  let v17 : BitVec 32 := Scalar.subi v14 v16
  let v18 : BitVec 1 := Scalar.cmpi .ne v12 v17
  let v19 : BitVec 32 := Scalar.remsi arg2 c2_i32
  let c0_i32_8 : BitVec 32 := 0#32
  let v20 : BitVec 1 := Scalar.cmpi .ne v19 c0_i32_8
  let v21 : BitVec 1 := Scalar.andi v18 v20
  let v7 : BitVec 32 := Scalar.divsi arg2 c2_i32
  let c1_i32 : BitVec 32 := 1#32
  let v22 : BitVec 32 := Scalar.subi v7 c1_i32
  let v23 : BitVec 32 := Scalar.select v21 v22 v7
  let c2_i32_13 : BitVec 32 := 2#32
  let v30 : BitVec 1 := Scalar.cmpi .eq v23 c2_i32_13
  let v31 : BitVec 32 := Scalar.extui v30
  let c0_i32_14 : BitVec 32 := 0#32
  let v32 : BitVec 1 := Scalar.cmpi .ne v31 c0_i32_14
  v32

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x8x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Reference4Ideal.lean ====
abbrev S2x8192x2048 : Shape := ⟨3, ![2, 8192, 2048]⟩
abbrev S2x1x2048 : Shape := ⟨3, ![2, 1, 2048]⟩
abbrev S2048x6144 : Shape := ⟨2, ![2048, 6144]⟩
abbrev S2x8192 : Shape := ⟨2, ![2, 8192]⟩
abbrev S64 : Shape := ⟨1, ![64]⟩
abbrev S_ : Shape := ⟨0, ![]⟩
abbrev S2x8192x1 : Shape := ⟨3, ![2, 8192, 1]⟩
abbrev S1x1x64 : Shape := ⟨3, ![1, 1, 64]⟩
abbrev S2x8192x64 : Shape := ⟨3, ![2, 8192, 64]⟩
abbrev S2x8192x1x64 : Shape := ⟨4, ![2, 8192, 1, 64]⟩
abbrev S2x8192x6144 : Shape := ⟨3, ![2, 8192, 6144]⟩
abbrev S2x8192x16x128 : Shape := ⟨4, ![2, 8192, 16, 128]⟩
abbrev S2x8192x16x64 : Shape := ⟨4, ![2, 8192, 16, 64]⟩
abbrev S2x8192x48x128 : Shape := ⟨4, ![2, 8192, 48, 128]⟩
abbrev S2x48x8192x128 : Shape := ⟨4, ![2, 48, 8192, 128]⟩

abbrev nBuf : Space → Nat
  | .hbm => 77
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2x1x2048, .f32⟩
  | .hbm, ⟨2, _⟩ => ⟨S2x1x2048, .f32⟩
  | .hbm, ⟨3, _⟩ => ⟨S2048x6144, .f32⟩
  | .hbm, ⟨4, _⟩ => ⟨S2x8192, .i32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S2x8192, .f32⟩
  | .hbm, ⟨22, _⟩ => ⟨S2x8192x1, .f32⟩
  | .hbm, ⟨23, _⟩ => ⟨S1x1x64, .f32⟩
  | .hbm, ⟨24, _⟩ => ⟨S2x8192x64, .f32⟩
  | .hbm, ⟨25, _⟩ => ⟨S2x8192x64, .f32⟩
  | .hbm, ⟨26, _⟩ => ⟨S2x8192x64, .f32⟩
  | .hbm, ⟨27, _⟩ => ⟨S2x8192x64, .f32⟩
  | .hbm, ⟨28, _⟩ => ⟨S2x8192x1x64, .f32⟩
  | .hbm, ⟨29, _⟩ => ⟨S2x8192x64, .f32⟩
  | .hbm, ⟨30, _⟩ => ⟨S2x8192x1x64, .f32⟩
  | .hbm, ⟨31, _⟩ => ⟨S_, .f32⟩
  | .hbm, ⟨32, _⟩ => ⟨S2x1x2048, .f32⟩
  | .hbm, ⟨33, _⟩ => ⟨S2x1x2048, .f32⟩
  | .hbm, ⟨34, _⟩ => ⟨S2x8192x2048, .f32⟩
  | .hbm, ⟨35, _⟩ => ⟨S2x8192x2048, .f32⟩
  | .hbm, ⟨36, _⟩ => ⟨S2x8192x2048, .f32⟩
  | .hbm, ⟨37, _⟩ => ⟨S2x8192x2048, .f32⟩
  | .hbm, ⟨38, _⟩ => ⟨S2x8192x6144, .f32⟩
  | .hbm, ⟨39, _⟩ => ⟨S2x8192x2048, .f32⟩
  | .hbm, ⟨40, _⟩ => ⟨S2x8192x2048, .f32⟩
  | .hbm, ⟨41, _⟩ => ⟨S2x8192x2048, .f32⟩
  | .hbm, ⟨42, _⟩ => ⟨S2x8192x16x128, .f32⟩
  | .hbm, ⟨43, _⟩ => ⟨S2x8192x16x128, .f32⟩
  | .hbm, ⟨44, _⟩ => ⟨S2x8192x16x128, .f32⟩
  | .hbm, ⟨45, _⟩ => ⟨S2x8192x16x64, .f32⟩
  | .hbm, ⟨46, _⟩ => ⟨S2x8192x16x64, .f32⟩
  | .hbm, ⟨47, _⟩ => ⟨S2x8192x16x64, .f32⟩
  | .hbm, ⟨48, _⟩ => ⟨S2x8192x16x64, .f32⟩
  | .hbm, ⟨49, _⟩ => ⟨S2x8192x16x64, .f32⟩
  | .hbm, ⟨50, _⟩ => ⟨S2x8192x16x64, .f32⟩
  | .hbm, ⟨51, _⟩ => ⟨S2x8192x16x64, .f32⟩
  | .hbm, ⟨52, _⟩ => ⟨S2x8192x16x64, .f32⟩
  | .hbm, ⟨53, _⟩ => ⟨S2x8192x16x64, .f32⟩
  | .hbm, ⟨54, _⟩ => ⟨S2x8192x16x64, .f32⟩
  | .hbm, ⟨55, _⟩ => ⟨S2x8192x16x64, .f32⟩
  | .hbm, ⟨56, _⟩ => ⟨S2x8192x16x64, .f32⟩
  | .hbm, ⟨57, _⟩ => ⟨S2x8192x16x128, .f32⟩
  | .hbm, ⟨58, _⟩ => ⟨S_, .f32⟩
  | .hbm, ⟨59, _⟩ => ⟨S2x8192x16x128, .f32⟩
  | .hbm, ⟨60, _⟩ => ⟨S2x8192x16x128, .f32⟩
  | .hbm, ⟨61, _⟩ => ⟨S2x8192x16x64, .f32⟩
  | .hbm, ⟨62, _⟩ => ⟨S2x8192x16x64, .f32⟩
  | .hbm, ⟨63, _⟩ => ⟨S2x8192x16x64, .f32⟩
  | .hbm, ⟨64, _⟩ => ⟨S2x8192x16x64, .f32⟩
  | .hbm, ⟨65, _⟩ => ⟨S2x8192x16x64, .f32⟩
  | .hbm, ⟨66, _⟩ => ⟨S2x8192x16x64, .f32⟩
  | .hbm, ⟨67, _⟩ => ⟨S2x8192x16x64, .f32⟩
  | .hbm, ⟨68, _⟩ => ⟨S2x8192x16x64, .f32⟩
  | .hbm, ⟨69, _⟩ => ⟨S2x8192x16x64, .f32⟩
  | .hbm, ⟨70, _⟩ => ⟨S2x8192x16x64, .f32⟩
  | .hbm, ⟨71, _⟩ => ⟨S2x8192x16x64, .f32⟩
  | .hbm, ⟨72, _⟩ => ⟨S2x8192x16x64, .f32⟩
  | .hbm, ⟨73, _⟩ => ⟨S2x8192x16x128, .f32⟩
  | .hbm, ⟨74, _⟩ => ⟨S2x8192x48x128, .f32⟩
  | .hbm, ⟨75, _⟩ => ⟨S2x48x8192x128, .f32⟩
  | .hbm, ⟨76, _⟩ => ⟨S2x48x8192x128, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_5 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩

abbrev nD : Nat := 1
abbrev τ : Topo := Topo.v7x

variable {F : FTy → Type} [FloatOps F]
-- ==== Kernel5.lean ====
abbrev S2x8192x2048 : Shape := ⟨3, ![2, 8192, 2048]⟩
abbrev S2048x4096 : Shape := ⟨2, ![2048, 4096]⟩
abbrev S4096 : Shape := ⟨1, ![4096]⟩
abbrev S2x1x2048 : Shape := ⟨3, ![2, 1, 2048]⟩
abbrev S2048 : Shape := ⟨1, ![2048]⟩
abbrev S1x2048 : Shape := ⟨2, ![1, 2048]⟩
abbrev S1x4096 : Shape := ⟨2, ![1, 4096]⟩
abbrev S1x512x2048 : Shape := ⟨3, ![1, 512, 2048]⟩
abbrev S2048x512 : Shape := ⟨2, ![2048, 512]⟩
abbrev S1x512 : Shape := ⟨2, ![1, 512]⟩
abbrev S1x512x512 : Shape := ⟨3, ![1, 512, 512]⟩
abbrev S1x1x512 : Shape := ⟨3, ![1, 1, 512]⟩
abbrev S4x512x512 : Shape := ⟨3, ![4, 512, 512]⟩
abbrev S512x2048 : Shape := ⟨2, ![512, 2048]⟩
abbrev S512x512 : Shape := ⟨2, ![512, 512]⟩
abbrev S512 : Shape := ⟨1, ![512]⟩
abbrev S512x1 : Shape := ⟨2, ![512, 1]⟩

abbrev nBuf : Space → Nat
  | .hbm => 12
  | .vmem => 19
  | .smem => 0
  | _ => 0

abbrev bufTy : (tb : Table) → Fin (tcTables nBuf tb) → BufTy
  | .hbm, ⟨0, _⟩ => ⟨S2x8192x2048, .bf16⟩
  | .hbm, ⟨1, _⟩ => ⟨S2048x4096, .f32⟩
  | .hbm, ⟨2, _⟩ => ⟨S4096, .f32⟩
  | .hbm, ⟨3, _⟩ => ⟨S2x8192x2048, .f32⟩
  | .hbm, ⟨4, _⟩ => ⟨S2x1x2048, .f32⟩
  | .hbm, ⟨5, _⟩ => ⟨S2048, .f32⟩
  | .hbm, ⟨6, _⟩ => ⟨S2048, .f32⟩
  | .hbm, ⟨7, _⟩ => ⟨S2048x4096, .bf16⟩
  | .hbm, ⟨8, _⟩ => ⟨S1x2048, .f32⟩
  | .hbm, ⟨9, _⟩ => ⟨S1x2048, .f32⟩
  | .hbm, ⟨10, _⟩ => ⟨S1x4096, .f32⟩
  | .hbm, ⟨11, _⟩ => ⟨S2x8192x2048, .f32⟩
  | .local _ .vmem, ⟨0, _⟩ => ⟨S1x512x2048, .bf16⟩
  | .local _ .vmem, ⟨1, _⟩ => ⟨S1x512x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512x512, .f32⟩
  | .local _ .vmem, ⟨11, _⟩ => ⟨S1x512x512, .f32⟩
  | .local _ .vmem, ⟨12, _⟩ => ⟨S1x1x512, .f32⟩
  | .local _ .vmem, ⟨13, _⟩ => ⟨S1x1x512, .f32⟩
  | .local _ .vmem, ⟨14, _⟩ => ⟨S1x2048, .f32⟩
  | .local _ .vmem, ⟨15, _⟩ => ⟨S1x2048, .f32⟩
  | .local _ .vmem, ⟨16, _⟩ => ⟨S1x512x2048, .f32⟩
  | .local _ .vmem, ⟨17, _⟩ => ⟨S1x512x2048, .f32⟩
  | .local _ .vmem, ⟨18, _⟩ => ⟨S4x512x512, .f32⟩
  | _, _ => ⟨S2x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨3, ![2, 16, 4], ![false, false, false]⟩

def k0_off1 (i : grid0.Coords) : Fin 3 → Nat :=
  let arg2 : BitVec 32 := BitVec.ofNat 32 (i 2).val
  let v29 : Index := Scalar.indexCast arg2
  let c0_19 : Index := 0#32
  let c0_20 : Index := 0#32
  ![v29.toNat, 0, 0]
def k0_cond1 (i : grid0.Coords) : BitVec 1 :=
  let arg2 : BitVec 32 := BitVec.ofNat 32 (i 2).val
  let c3_i32 : BitVec 32 := 3#32
  let v33 : BitVec 1 := Scalar.cmpi .eq arg2 c3_i32
  let v34 : BitVec 32 := Scalar.extui v33
  let c0_i32 : BitVec 32 := 0#32
  let v35 : BitVec 1 := Scalar.cmpi .ne v34 c0_i32
  v35

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg2 c4_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg2 c4_i32
  let c0_i32 : BitVec 32 := 0#32
  let c0_i32_0 : BitVec 32 := 0#32
  ![c0_i32.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1x512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== Reference5Ideal.lean ====
abbrev S2x8192x2048 : Shape := ⟨3, ![2, 8192, 2048]⟩
abbrev S2048x4096 : Shape := ⟨2, ![2048, 4096]⟩
abbrev S4096 : Shape := ⟨1, ![4096]⟩
abbrev S2x1x2048 : Shape := ⟨3, ![2, 1, 2048]⟩
abbrev S2048 : Shape := ⟨1, ![2048]⟩
abbrev S2x8192x4096 : Shape := ⟨3, ![2, 8192, 4096]⟩
abbrev S1x1x4096 : Shape := ⟨3, ![1, 1, 4096]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩

abbrev nBuf : Space → Nat
  | .hbm => 61
  | .vmem => 0
  | .smem => 0
  | _ => 0

abbrev bufTy : (tb : Table) → Fin (tcTables nBuf tb) → BufTy
  | .hbm, ⟨0, _⟩ => ⟨S2x8192x2048, .bf16⟩
  | .hbm, ⟨1, _⟩ => ⟨S2048x4096, .f32⟩
  | .hbm, ⟨2, _⟩ => ⟨S4096, .f32⟩
  | .hbm, ⟨3, _⟩ => ⟨S2x8192x2048, .f32⟩
  | .hbm, ⟨4, _⟩ => ⟨S2x1x2048, .f32⟩
  | .hbm, ⟨5, _⟩ => ⟨S2048, .f32⟩
  | .hbm, ⟨6, _⟩ => ⟨S2048, .f32⟩
  | .hbm, ⟨7, _⟩ => ⟨S2x8192x2048, .f32⟩
  | .hbm, ⟨8, _⟩ => ⟨S2x8192x4096, .f32⟩
  | .hbm, ⟨9, _⟩ => ⟨S1x1x4096, .f32⟩
  | .hbm, ⟨10, _⟩ => ⟨S2x8192x4096, .f32⟩
  | .hbm, ⟨11, _⟩ => ⟨S2x8192x4096, .f32⟩
  | .hbm, ⟨12, _⟩ => ⟨S2x8192x2048, .f32⟩
  | .hbm, ⟨13, _⟩ => ⟨S2x8192x2048, .f32⟩
  | .hbm, ⟨14, _⟩ => ⟨S_, .f32⟩
  | .hbm, ⟨15, _⟩ => ⟨S2x8192x2048, .f32⟩
  | .hbm, ⟨16, _⟩ => ⟨S2x8192x2048, .f32⟩
  | .hbm, ⟨17, _⟩ => ⟨S_, .f32⟩
  | .hbm, ⟨18, _⟩ => ⟨S2x1x2048, .f32⟩
  | .hbm, ⟨19, _⟩ => ⟨S2x1x2048, .f32⟩
  | .hbm, ⟨20, _⟩ => ⟨S2x8192x2048, .f32⟩
  | .hbm, ⟨21, _⟩ => ⟨S2x8192x2048, .f32⟩
  | .hbm, ⟨22, _⟩ => ⟨S_, .f32⟩
  | .hbm, ⟨23, _⟩ => ⟨S2x8192x2048, .f32⟩
  | .hbm, ⟨24, _⟩ => ⟨S2x8192x2048, .f32⟩
  | .hbm, ⟨25, _⟩ => ⟨S_, .f32⟩
  | .hbm, ⟨26, _⟩ => ⟨S2x8192x2048, .f32⟩
  | .hbm, ⟨27, _⟩ => ⟨S2x8192x2048, .f32⟩
  | .hbm, ⟨28, _⟩ => ⟨S2x8192x2048, .f32⟩
  | .hbm, ⟨29, _⟩ => ⟨S2x8192x2048, .f32⟩
  | .hbm, ⟨30, _⟩ => ⟨S2x8192x2048, .f32⟩
  | .hbm, ⟨31, _⟩ => ⟨S2x8192x2048, .f32⟩
  | .hbm, ⟨32, _⟩ => ⟨S_, .f32⟩
  | .hbm, ⟨33, _⟩ => ⟨S2x8192, .f32⟩
  | .hbm, ⟨34, _⟩ => ⟨S2x8192x1, .f32⟩
  | .hbm, ⟨35, _⟩ => ⟨S_, .f32⟩
  | .hbm, ⟨36, _⟩ => ⟨S2x8192x1, .f32⟩
  | .hbm, ⟨37, _⟩ => ⟨S2x8192x1, .f32⟩
  | .hbm, ⟨38, _⟩ => ⟨S2x8192x2048, .f32⟩
  | .hbm, ⟨39, _⟩ => ⟨S2x8192x2048, .f32⟩
  | .hbm, ⟨40, _⟩ => ⟨S2x8192x2048, .f32⟩
  | .hbm, ⟨41, _⟩ => ⟨S_, .f32⟩
  | .hbm, ⟨42, _⟩ => ⟨S2x8192, .f32⟩
  | .hbm, ⟨43, _⟩ => ⟨S2x8192x1, .f32⟩
  | .hbm, ⟨44, _⟩ => ⟨S_, .f32⟩
  | .hbm, ⟨45, _⟩ => ⟨S2x8192x1, .f32⟩
  | .hbm, ⟨46, _⟩ => ⟨S2x8192x1, .f32⟩
  | .hbm, ⟨47, _⟩ => ⟨S2x8192x2048, .f32⟩
  | .hbm, ⟨48, _⟩ => ⟨S2x8192x2048, .f32⟩
  | .hbm, ⟨49, _⟩ => ⟨S_, .f32⟩
  | .hbm, ⟨50, _⟩ => ⟨S2x8192x1, .f32⟩
  | .hbm, ⟨51, _⟩ => ⟨S2x8192x1, .f32⟩
  | .hbm, ⟨52, _⟩ => ⟨S2x8192x1, .f32⟩
  | .hbm, ⟨53, _⟩ => ⟨S2x8192x2048, .f32⟩
  | .hbm, ⟨54, _⟩ => ⟨S2x8192x2048, .f32⟩
  | .hbm, ⟨55, _⟩ => ⟨S1x1x2048, .f32⟩
  | .hbm, ⟨56, _⟩ => ⟨S2x8192x2048, .f32⟩
  | .hbm, ⟨57, _⟩ => ⟨S2x8192x2048, .f32⟩
  | .hbm, ⟨58, _⟩ => ⟨S1x1x2048, .f32⟩
  | .hbm, ⟨59, _⟩ => ⟨S2x8192x2048, .f32⟩
  | .hbm, ⟨60, _⟩ => ⟨S2x8192x2048, .f32⟩
  | _, _ => ⟨S2x8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩

abbrev nD : Nat := 1
abbrev τ : Topo := Topo.v7x

variable {F : FTy → Type} [FloatOps F]
-- ==== Kernel6.lean ====
abbrev S2x8192x2048 : Shape := ⟨3, ![2, 8192, 2048]⟩
abbrev S2048x2048 : Shape := ⟨2, ![2048, 2048]⟩
abbrev S2x1x2048 : Shape := ⟨3, ![2, 1, 2048]⟩
abbrev S2048 : Shape := ⟨1, ![2048]⟩
abbrev S1x2048 : Shape := ⟨2, ![1, 2048]⟩
abbrev S1x512x2048 : Shape := ⟨3, ![1, 512, 2048]⟩
abbrev S2048x512 : Shape := ⟨2, ![2048, 512]⟩
abbrev S1x512x512 : Shape := ⟨3, ![1, 512, 512]⟩
abbrev S1x1x512 : Shape := ⟨3, ![1, 1, 512]⟩
abbrev S4x512x512 : Shape := ⟨3, ![4, 512, 512]⟩
abbrev S512x2048 : Shape := ⟨2, ![512, 2048]⟩
abbrev S512x512 : Shape := ⟨2, ![512, 512]⟩
abbrev S1x512 : Shape := ⟨2, ![1, 512]⟩
abbrev S512 : Shape := ⟨1, ![512]⟩
abbrev S512x1 : Shape := ⟨2, ![512, 1]⟩

abbrev nBuf : Space → Nat
  | .hbm => 10
  | .vmem => 13
  | .smem => 0
  | _ => 0

abbrev bufTy : (tb : Table) → Fin (tcTables nBuf tb) → BufTy
  | .hbm, ⟨0, _⟩ => ⟨S2x8192x2048, .bf16⟩
  | .hbm, ⟨1, _⟩ => ⟨S2048x2048, .f32⟩
  | .hbm, ⟨2, _⟩ => ⟨S2x8192x2048, .f32⟩
  | .hbm, ⟨3, _⟩ => ⟨S2x1x2048, .f32⟩
  | .hbm, ⟨4, _⟩ => ⟨S2048, .f32⟩
  | .hbm, ⟨5, _⟩ => ⟨S2048, .f32⟩
  | .hbm, ⟨6, _⟩ => ⟨S2048x2048, .bf16⟩
  | .hbm, ⟨7, _⟩ => ⟨S1x2048, .f32⟩
  | .hbm, ⟨8, _⟩ => ⟨S1x2048, .f32⟩
  | .hbm, ⟨9, _⟩ => ⟨S2x8192x2048, .f32⟩
  | .local _ .vmem, ⟨0, _⟩ => ⟨S1x512x2048, .bf16⟩
  | .local _ .vmem, ⟨1, _⟩ => ⟨S1x512x2048, .bf16⟩
  | .local _ .vmem, ⟨2, _⟩ => ⟨S2048x512, .bf16⟩
  | .local _ .vmem, ⟨3, _⟩ => ⟨S2048x512, .bf16⟩
  | .local _ .vmem, ⟨4, _⟩ => ⟨S1x512x512, .f32⟩
  | .local _ .vmem, ⟨5, _⟩ => ⟨S1x512x512, .f32⟩
  | .local _ .vmem, ⟨6, _⟩ => ⟨S1x1x512, .f32⟩
  | .local _ .vmem, ⟨7, _⟩ => ⟨S1x1x512, .f32⟩
  | .local _ .vmem, ⟨8, _⟩ => ⟨S1x2048, .f32⟩
  | .local _ .vmem, ⟨9, _⟩ => ⟨S1x2048, .f32⟩
  | .local _ .vmem, ⟨10, _⟩ => ⟨S1x512x2048, .f32⟩
  | .local _ .vmem, ⟨11, _⟩ => ⟨S1x512x2048, .f32⟩
  | .local _ .vmem, ⟨12, _⟩ => ⟨S4x512x512, .f32⟩
  | _, _ => ⟨S2x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![2, 16, 4], ![false, false, false]⟩

def k0_off1 (i : grid0.Coords) : Fin 3 → Nat :=
  let arg2 : BitVec 32 := BitVec.ofNat 32 (i 2).val
  let v16 : Index := Scalar.indexCast arg2
  let c0_12 : Index := 0#32
  let c0_13 : Index := 0#32
  ![v16.toNat, 0, 0]
def k0_cond1 (i : grid0.Coords) : BitVec 1 :=
  let arg2 : BitVec 32 := BitVec.ofNat 32 (i 2).val
  let c3_i32 : BitVec 32 := 3#32
  let v20 : BitVec 1 := Scalar.cmpi .eq arg2 c3_i32
  let v21 : BitVec 32 := Scalar.extui v20
  let c0_i32 : BitVec 32 := 0#32
  let v22 : BitVec 1 := Scalar.cmpi .ne v21 c0_i32
  v22

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference6Ideal.lean ====
abbrev S2x8192x2048 : Shape := ⟨3, ![2, 8192, 2048]⟩
abbrev S2048x2048 : Shape := ⟨2, ![2048, 2048]⟩
abbrev S2x1x2048 : Shape := ⟨3, ![2, 1, 2048]⟩
abbrev S2048 : Shape := ⟨1, ![2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩

abbrev nBuf : Space → Nat
  | .hbm => 46
  | .vmem => 0
  | .smem => 0
  | _ => 0

abbrev bufTy : (tb : Table) → Fin (tcTables nBuf tb) → BufTy
  | .hbm, ⟨0, _⟩ => ⟨S2x8192x2048, .bf16⟩
  | .hbm, ⟨1, _⟩ => ⟨S2048x2048, .f32⟩
  | .hbm, ⟨2, _⟩ => ⟨S2x8192x2048, .f32⟩
  | .hbm, ⟨3, _⟩ => ⟨S2x1x2048, .f32⟩
  | .hbm, ⟨4, _⟩ => ⟨S2048, .f32⟩
  | .hbm, ⟨5, _⟩ => ⟨S2048, .f32⟩
  | .hbm, ⟨6, _⟩ => ⟨S_, .f32⟩
  | .hbm, ⟨7, _⟩ => ⟨S2x8192x2048, .f32⟩
  | .hbm, ⟨8, _⟩ => ⟨S2x8192x2048, .f32⟩
  | .hbm, ⟨9, _⟩ => ⟨S_, .f32⟩
  | .hbm, ⟨10, _⟩ => ⟨S2x1x2048, .f32⟩
  | .hbm, ⟨11, _⟩ => ⟨S2x1x2048, .f32⟩
  | .hbm, ⟨12, _⟩ => ⟨S2x8192x2048, .f32⟩
  | .hbm, ⟨13, _⟩ => ⟨S2x8192x2048, .f32⟩
  | .hbm, ⟨14, _⟩ => ⟨S2x8192x2048, .f32⟩
  | .hbm, ⟨15, _⟩ => ⟨S2x8192x2048, .f32⟩
  | .hbm, ⟨16, _⟩ => ⟨S2x8192x2048, .f32⟩
  | .hbm, ⟨17, _⟩ => ⟨S_, .f32⟩
  | .hbm, ⟨18, _⟩ => ⟨S2x8192, .f32⟩
  | .hbm, ⟨19, _⟩ => ⟨S2x8192x1, .f32⟩
  | .hbm, ⟨20, _⟩ => ⟨S_, .f32⟩
  | .hbm, ⟨21, _⟩ => ⟨S2x8192x1, .f32⟩
  | .hbm, ⟨22, _⟩ => ⟨S2x8192x1, .f32⟩
  | .hbm, ⟨23, _⟩ => ⟨S2x8192x2048, .f32⟩
  | .hbm, ⟨24, _⟩ => ⟨S2x8192x2048, .f32⟩
  | .hbm, ⟨25, _⟩ => ⟨S2x8192x2048, .f32⟩
  | .hbm, ⟨26, _⟩ => ⟨S_, .f32⟩
  | .hbm, ⟨27, _⟩ => ⟨S2x8192, .f32⟩
  | .hbm, ⟨28, _⟩ => ⟨S2x8192x1, .f32⟩
  | .hbm, ⟨29, _⟩ => ⟨S_, .f32⟩
  | .hbm, ⟨30, _⟩ => ⟨S2x8192x1, .f32⟩
  | .hbm, ⟨31, _⟩ => ⟨S2x8192x1, .f32⟩
  | .hbm, ⟨32, _⟩ => ⟨S2x8192x2048, .f32⟩
  | .hbm, ⟨33, _⟩ => ⟨S2x8192x2048, .f32⟩
  | .hbm, ⟨34, _⟩ => ⟨S_, .f32⟩
  | .hbm, ⟨35, _⟩ => ⟨S2x8192x1, .f32⟩
  | .hbm, ⟨36, _⟩ => ⟨S2x8192x1, .f32⟩
  | .hbm, ⟨37, _⟩ => ⟨S2x8192x1, .f32⟩
  | .hbm, ⟨38, _⟩ => ⟨S2x8192x2048, .f32⟩
  | .hbm, ⟨39, _⟩ => ⟨S2x8192x2048, .f32⟩
  | .hbm, ⟨40, _⟩ => ⟨S1x1x2048, .f32⟩
  | .hbm, ⟨41, _⟩ => ⟨S2x8192x2048, .f32⟩
  | .hbm, ⟨42, _⟩ => ⟨S2x8192x2048, .f32⟩
  | .hbm, ⟨43, _⟩ => ⟨S1x1x2048, .f32⟩
  | .hbm, ⟨44, _⟩ => ⟨S2x8192x2048, .f32⟩
  | .hbm, ⟨45, _⟩ => ⟨S2x8192x2048, .f32⟩
  | _, _ => ⟨S2x8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]
-- ==== Kernel7.lean ====
abbrev S2x8192x2048 : Shape := ⟨3, ![2, 8192, 2048]⟩
abbrev S2x1x2048 : Shape := ⟨3, ![2, 1, 2048]⟩
abbrev S2048x1104 : Shape := ⟨2, ![2048, 1104]⟩
abbrev S2x8192 : Shape := ⟨2, ![2, 8192]⟩
abbrev S32 : Shape := ⟨1, ![32]⟩
abbrev S_ : Shape := ⟨0, ![]⟩
abbrev S2x8192x1 : Shape := ⟨3, ![2, 8192, 1]⟩
abbrev S1x1x32 : Shape := ⟨3, ![1, 1, 32]⟩
abbrev S2x8192x32 : Shape := ⟨3, ![2, 8192, 32]⟩
abbrev S2x8192x128 : Shape := ⟨3, ![2, 8192, 128]⟩
abbrev S2048x48 : Shape := ⟨2, ![2048, 48]⟩
abbrev S2048x1024 : Shape := ⟨2, ![2048, 1024]⟩
abbrev S2048x64 : Shape := ⟨2, ![2048, 64]⟩
abbrev S2048x16 : Shape := ⟨2, ![2048, 16]⟩
abbrev S2048x1152 : Shape := ⟨2, ![2048, 1152]⟩
abbrev S2x8192x1024 : Shape := ⟨3, ![2, 8192, 1024]⟩
abbrev S1x512x2048 : Shape := ⟨3, ![1, 512, 2048]⟩
abbrev S1x1x2048 : Shape := ⟨3, ![1, 1, 2048]⟩
abbrev S1x512x128 : Shape := ⟨3, ![1, 512, 128]⟩
abbrev S1x512x1024 : Shape := ⟨3, ![1, 512, 1024]⟩
abbrev S512x2048 : Shape := ⟨2, ![512, 2048]⟩
abbrev S1x2048 : Shape := ⟨2, ![1, 2048]⟩
abbrev S512x1152 : Shape := ⟨2, ![512, 1152]⟩
abbrev S512x128 : Shape := ⟨2, ![512, 128]⟩

abbrev nBuf : Space → Nat
  | .hbm => 43
  | .vmem => 19
  | .smem => 0
  | _ => 0

abbrev bufTy : (tb : Table) → Fin (tcTables nBuf tb) → BufTy
  | .hbm, ⟨0, _⟩ => ⟨S2x8192x2048, .f32⟩
  | .hbm, ⟨1, _⟩ => ⟨S2x1x2048, .f32⟩
  | .hbm, ⟨2, _⟩ => ⟨S2x1x2048, .f32⟩
  | .hbm, ⟨3, _⟩ => ⟨S2048x1104, .f32⟩
  | .hbm, ⟨4, _⟩ => ⟨S2x8192, .i32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S2x8192, .f32⟩
  | .hbm, ⟨22, _⟩ => ⟨S2x8192x1, .f32⟩
  | .hbm, ⟨23, _⟩ => ⟨S1x1x32, .f32⟩
  | .hbm, ⟨24, _⟩ => ⟨S2x8192x32, .f32⟩
  | .hbm, ⟨25, _⟩ => ⟨S2x8192x32, .f32⟩
  | .hbm, ⟨26, _⟩ => ⟨S2x8192x32, .f32⟩
  | .hbm, ⟨27, _⟩ => ⟨S2x8192x32, .f32⟩
  | .hbm, ⟨28, _⟩ => ⟨S2x8192x32, .f32⟩
  | .hbm, ⟨29, _⟩ => ⟨S2x8192x128, .f32⟩
  | .hbm, ⟨30, _⟩ => ⟨S2x8192x32, .f32⟩
  | .hbm, ⟨31, _⟩ => ⟨S2x8192x128, .f32⟩
  | .hbm, ⟨32, _⟩ => ⟨S_, .f32⟩
  | .hbm, ⟨33, _⟩ => ⟨S2048x48, .f32⟩
  | .hbm, ⟨34, _⟩ => ⟨S2048x1024, .f32⟩
  | .hbm, ⟨35, _⟩ => ⟨S2048x64, .f32⟩
  | .hbm, ⟨36, _⟩ => ⟨S2048x16, .f32⟩
  | .hbm, ⟨37, _⟩ => ⟨S2048x1152, .f32⟩
  | .hbm, ⟨38, _⟩ => ⟨S2048x1152, .bf16⟩
  | .hbm, ⟨39, _⟩ => ⟨S2x8192x1024, .bf16⟩
  | .hbm, ⟨40, _⟩ => ⟨S2x8192x128, .bf16⟩
  | .hbm, ⟨41, _⟩ => ⟨S2x8192x128, .bf16⟩
  | .hbm, ⟨42, _⟩ => ⟨S2x8192x128, .f32⟩
  | .local _ .vmem, ⟨0, _⟩ => ⟨S1x512x2048, .f32⟩
  | .local _ .vmem, ⟨1, _⟩ => ⟨S1x512x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S2048x1152, .bf16⟩
  | .local _ .vmem, ⟨7, _⟩ => ⟨S1x512x128, .f32⟩
  | .local _ .vmem, ⟨8, _⟩ => ⟨S1x512x128, .f32⟩
  | .local _ .vmem, ⟨9, _⟩ => ⟨S1x512x128, .f32⟩
  | .local _ .vmem, ⟨10, _⟩ => ⟨S1x512x128, .f32⟩
  | .local _ .vmem, ⟨11, _⟩ => ⟨S1x512x1024, .bf16⟩
  | .local _ .vmem, ⟨12, _⟩ => ⟨S1x512x1024, .bf16⟩
  | .local _ .vmem, ⟨13, _⟩ => ⟨S1x512x128, .bf16⟩
  | .local _ .vmem, ⟨14, _⟩ => ⟨S1x512x128, .bf16⟩
  | .local _ .vmem, ⟨15, _⟩ => ⟨S1x512x128, .bf16⟩
  | .local _ .vmem, ⟨16, _⟩ => ⟨S1x512x128, .bf16⟩
  | .local _ .vmem, ⟨17, _⟩ => ⟨S1x512x128, .f32⟩
  | .local _ .vmem, ⟨18, _⟩ => ⟨S1x512x128, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28_0 : Ref sig .tc := ⟨.hbm, 39, rfl⟩
abbrev main_v28_1 : Ref sig .tc := ⟨.hbm, 40, rfl⟩
abbrev main_v28_2 : Ref sig .tc := ⟨.hbm, 41, rfl⟩
abbrev main_v28_3 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S2048x1152 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference7Ideal.lean ====
abbrev S2x8192x2048 : Shape := ⟨3, ![2, 8192, 2048]⟩
abbrev S2x1x2048 : Shape := ⟨3, ![2, 1, 2048]⟩
abbrev S2048x1104 : Shape := ⟨2, ![2048, 1104]⟩
abbrev S2x8192 : Shape := ⟨2, ![2, 8192]⟩
abbrev S32 : Shape := ⟨1, ![32]⟩
abbrev S_ : Shape := ⟨0, ![]⟩
abbrev S2x8192x1 : Shape := ⟨3, ![2, 8192, 1]⟩
abbrev S1x1x32 : Shape := ⟨3, ![1, 1, 32]⟩
abbrev S2x8192x32 : Shape := ⟨3, ![2, 8192, 32]⟩
abbrev S2x8192x1x32 : Shape := ⟨4, ![2, 8192, 1, 32]⟩
abbrev S2x8192x1104 : Shape := ⟨3, ![2, 8192, 1104]⟩
abbrev S2x8192x1024 : Shape := ⟨3, ![2, 8192, 1024]⟩
abbrev S2x8192x16 : Shape := ⟨3, ![2, 8192, 16]⟩
abbrev S2x8192x64 : Shape := ⟨3, ![2, 8192, 64]⟩
abbrev S2x8192x16x64 : Shape := ⟨4, ![2, 8192, 16, 64]⟩
abbrev S2x8192x16x32 : Shape := ⟨4, ![2, 8192, 16, 32]⟩
abbrev S2x8192x1x64 : Shape := ⟨4, ![2, 8192, 1, 64]⟩
abbrev S2x8192x112 : Shape := ⟨3, ![2, 8192, 112]⟩
abbrev S2x8192x128 : Shape := ⟨3, ![2, 8192, 128]⟩

abbrev nBuf : Space → Nat
  | .hbm => 80
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2x1x2048, .f32⟩
  | .hbm, ⟨2, _⟩ => ⟨S2x1x2048, .f32⟩
  | .hbm, ⟨3, _⟩ => ⟨S2048x1104, .f32⟩
  | .hbm, ⟨4, _⟩ => ⟨S2x8192, .i32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S2x8192, .f32⟩
  | .hbm, ⟨22, _⟩ => ⟨S2x8192x1, .f32⟩
  | .hbm, ⟨23, _⟩ => ⟨S1x1x32, .f32⟩
  | .hbm, ⟨24, _⟩ => ⟨S2x8192x32, .f32⟩
  | .hbm, ⟨25, _⟩ => ⟨S2x8192x32, .f32⟩
  | .hbm, ⟨26, _⟩ => ⟨S2x8192x32, .f32⟩
  | .hbm, ⟨27, _⟩ => ⟨S2x8192x32, .f32⟩
  | .hbm, ⟨28, _⟩ => ⟨S2x8192x1x32, .f32⟩
  | .hbm, ⟨29, _⟩ => ⟨S2x8192x32, .f32⟩
  | .hbm, ⟨30, _⟩ => ⟨S2x8192x1x32, .f32⟩
  | .hbm, ⟨31, _⟩ => ⟨S_, .f32⟩
  | .hbm, ⟨32, _⟩ => ⟨S2x1x2048, .f32⟩
  | .hbm, ⟨33, _⟩ => ⟨S2x1x2048, .f32⟩
  | .hbm, ⟨34, _⟩ => ⟨S2x8192x2048, .f32⟩
  | .hbm, ⟨35, _⟩ => ⟨S2x8192x2048, .f32⟩
  | .hbm, ⟨36, _⟩ => ⟨S2x8192x2048, .f32⟩
  | .hbm, ⟨37, _⟩ => ⟨S2x8192x2048, .f32⟩
  | .hbm, ⟨38, _⟩ => ⟨S2x8192x1104, .f32⟩
  | .hbm, ⟨39, _⟩ => ⟨S2x8192x1024, .f32⟩
  | .hbm, ⟨40, _⟩ => ⟨S2x8192x16, .f32⟩
  | .hbm, ⟨41, _⟩ => ⟨S2x8192x64, .f32⟩
  | .hbm, ⟨42, _⟩ => ⟨S2x8192x16x64, .f32⟩
  | .hbm, ⟨43, _⟩ => ⟨S2x8192x16x32, .f32⟩
  | .hbm, ⟨44, _⟩ => ⟨S2x8192x16x32, .f32⟩
  | .hbm, ⟨45, _⟩ => ⟨S2x8192x16x32, .f32⟩
  | .hbm, ⟨46, _⟩ => ⟨S2x8192x16x32, .f32⟩
  | .hbm, ⟨47, _⟩ => ⟨S2x8192x16x32, .f32⟩
  | .hbm, ⟨48, _⟩ => ⟨S2x8192x16x32, .f32⟩
  | .hbm, ⟨49, _⟩ => ⟨S2x8192x16x32, .f32⟩
  | .hbm, ⟨50, _⟩ => ⟨S2x8192x16x32, .f32⟩
  | .hbm, ⟨51, _⟩ => ⟨S2x8192x16x32, .f32⟩
  | .hbm, ⟨52, _⟩ => ⟨S2x8192x16x32, .f32⟩
  | .hbm, ⟨53, _⟩ => ⟨S2x8192x16x32, .f32⟩
  | .hbm, ⟨54, _⟩ => ⟨S2x8192x16x32, .f32⟩
  | .hbm, ⟨55, _⟩ => ⟨S2x8192x16x64, .f32⟩
  | .hbm, ⟨56, _⟩ => ⟨S2x8192x1024, .f32⟩
  | .hbm, ⟨57, _⟩ => ⟨S2x8192x1024, .bf16⟩
  | .hbm, ⟨58, _⟩ => ⟨S2x8192x1x64, .f32⟩
  | .hbm, ⟨59, _⟩ => ⟨S2x8192x1x32, .f32⟩
  | .hbm, ⟨60, _⟩ => ⟨S2x8192x1x32, .f32⟩
  | .hbm, ⟨61, _⟩ => ⟨S2x8192x1x32, .f32⟩
  | .hbm, ⟨62, _⟩ => ⟨S2x8192x1x32, .f32⟩
  | .hbm, ⟨63, _⟩ => ⟨S2x8192x1x32, .f32⟩
  | .hbm, ⟨64, _⟩ => ⟨S2x8192x1x32, .f32⟩
  | .hbm, ⟨65, _⟩ => ⟨S2x8192x1x32, .f32⟩
  | .hbm, ⟨66, _⟩ => ⟨S2x8192x1x32, .f32⟩
  | .hbm, ⟨67, _⟩ => ⟨S2x8192x1x64, .f32⟩
  | .hbm, ⟨68, _⟩ => ⟨S2x8192x64, .f32⟩
  | .hbm, ⟨69, _⟩ => ⟨S2x8192x64, .bf16⟩
  | .hbm, ⟨70, _⟩ => ⟨S_, .f32⟩
  | .hbm, ⟨71, _⟩ => ⟨S2x8192x16, .f32⟩
  | .hbm, ⟨72, _⟩ => ⟨S2x8192x16, .f32⟩
  | .hbm, ⟨73, _⟩ => ⟨S_, .bf16⟩
  | .hbm, ⟨74, _⟩ => ⟨S2x8192x64, .bf16⟩
  | .hbm, ⟨75, _⟩ => ⟨S_, .f32⟩
  | .hbm, ⟨76, _⟩ => ⟨S2x8192x112, .f32⟩
  | .hbm, ⟨77, _⟩ => ⟨S2x8192x128, .bf16⟩
  | .hbm, ⟨78, _⟩ => ⟨S2x8192x128, .bf16⟩
  | .hbm, ⟨79, _⟩ => ⟨S2x8192x128, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_cst_5 : Ref sig .tc := ⟨.hbm, 70, rfl⟩
abbrev main_v59 : Ref sig .tc := ⟨.hbm, 71, rfl⟩
abbrev main_v60 : Ref sig .tc := ⟨.hbm, 72, rfl⟩
abbrev main_cst_6 : Ref sig .tc := ⟨.hbm, 73, rfl⟩
abbrev main_v61 : Ref sig .tc := ⟨.hbm, 74, rfl⟩
abbrev main_cst_7 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩

abbrev nD : Nat := 1
abbrev τ : Topo := Topo.v7x

variable {F : FTy → Type} [FloatOps F]
-- ==== Proof.Idx.Array.lean ====
module

public import proofs.«01_k».proof.Proof.Gen.Kernel7Ideal.Value
public import Idealize.ShloMosaic.Lib.Pipeline.ValueKit
public import Idealize.ShloMosaic.Lib.Pipeline.ValueKit.Held

@[expose] public section

set_option maxRecDepth 16384
noncomputable section
open Idealize.ShloMosaic Idealize.ShloMosaic.TcCoe Idealize.SL.Sem
open Idealize.ShloMosaic.Pipeline (Dat)

/-! The indexer's projections as functions of the arguments, and the kernel's four result arrays as those functions. -/

namespace Cert.Kernel7Ideal.Idx
open Cert.Kernel7Ideal Cert.Kernel7Ideal.Gen

/-- The factor of the head weights. -/
abbrev cW : EReal := Ideal.ofBits .f32 0x3D000000#32

/-- The angles: each position times each of the 32 frequencies. -/
def angT (p : Vec Ideal S2x8192 .i32) : FVec Ideal S2x8192x32 .f32 :=
  mulf (broadcastInDim S2x8192x32 ![0, 1, 2] bcast_S2x8192x1_S2x8192x32_0_1_2 (broadcastInDim S2x8192x1 ![0, 1] bcast_S2x8192_S2x8192x1_0_1 (sitofp .f32 p)))
    (broadcastInDim S2x8192x32 ![0, 1, 2] bcast_S1x1x32_S2x8192x32_0_1_2 (broadcastInDim S1x1x32 ![2] bcast_S32_S1x1x32_2
      (Host.divf (broadcastInDim S32 ![] bcast_S_S32 (constant S_ .f32 0x3F800000#32))
        (Host.powf (broadcastInDim S32 ![] bcast_S_S32 (constant S_ .f32 0x461C4000#32))
          (Host.divf (addf (broadcastInDim S32 ![] bcast_S_S32 (constant S_ .f32 0x00000000#32))
              (mulf (broadcastInDim S32 ![] bcast_S_S32 (constant S_ .f32 0x40000000#32)) (sitofp .f32 (iotaInDim S32 32 0))))
            (broadcastInDim S32 ![] bcast_S_S32 (constant S_ .f32 0x42800000#32)))))))

/-- A table of 128 columns that repeats two of 32. -/
def quad (L R : FVec Ideal S2x8192x32 .f32) : FVec Ideal S2x8192x128 .f32 :=
  concatenate S2x8192x128 2 [⟨S2x8192x32, L⟩, ⟨S2x8192x32, R⟩, ⟨S2x8192x32, L⟩, ⟨S2x8192x32, R⟩] concatenates_S2x8192x32_S2x8192x32_S2x8192x32_S2x8192x32_S2x8192x128_d2

theorem quad_apply (L R : FVec Ideal S2x8192x32 .f32) (b : Fin 2) (s : Fin 8192) (x : Fin 128) :
    quad L R (ix3 b s x) = if x.val % 64 < 32 then L (ix3 b s ⟨x.val % 32, by omega⟩) else R (ix3 b s ⟨x.val % 32, by omega⟩) := by
  pointwise [quad]
  split_ifs
  all_goals
    first
      | exact (congrArg (fun e => L (ix3 b s e)) (Fin.ext (by dsimp only; omega))).trans (if_pos (by omega)).symm
      | exact (congrArg (fun e => R (ix3 b s e)) (Fin.ext (by dsimp only; omega))).trans (if_neg (by omega)).symm

section Spec
variable (X : Vec Ideal S2x8192x2048 .f32) (SC SH : Vec Ideal S2x1x2048 .f32) (W : Vec Ideal S2048x1104 .f32) (p : Vec Ideal S2x8192 .i32)
  (b : Fin 2) (s : Fin 8192)

/-- One element of the projection of the modulated input. -/
def projAt (d : Fin 1104) : EReal := ∑ k : Fin 2048, (X (ix3 b s k) * (1 + SC (ix3 b 0 k)) + SH (ix3 b 0 k)) * W (ix2 k d)

/-- The rotation of a row of 64 by the position's angles: column `x` of the first half goes with column `x + 32`. -/
def rope (f : Fin 64 → EReal) (x : Fin 64) : EReal :=
  if h : x.val < 32 then f x * Host.cos (angT p) (ix3 b s ⟨x.val, h⟩) - f ⟨x.val + 32, by omega⟩ * Host.sin (angT p) (ix3 b s ⟨x.val, h⟩)
  else f x * Host.cos (angT p) (ix3 b s ⟨x.val - 32, by omega⟩) + f ⟨x.val - 32, by omega⟩ * Host.sin (angT p) (ix3 b s ⟨x.val - 32, by omega⟩)

/-- The turned queries: sixteen heads of 64 columns. -/
def qAt (d : Fin 1024) : EReal := rope p b s (fun y => projAt X SC SH W b s ⟨d.val / 64 * 64 + y.val, by omega⟩) ⟨d.val % 64, by omega⟩
/-- The turned keys. -/
def kAt (x : Fin 64) : EReal := rope p b s (fun y => projAt X SC SH W b s ⟨1040 + y.val, by omega⟩) x
/-- The keys, then zeros. -/
def kaAt (x : Fin 128) : EReal := if h : x.val < 64 then kAt X SC SH W p b s ⟨x.val, h⟩ else 0
/-- Zeros, then the keys. -/
def kbAt (x : Fin 128) : EReal := if x.val < 64 then 0 else kAt X SC SH W p b s ⟨x.val - 64, by omega⟩
/-- The scaled weights of the sixteen heads, then zeros. -/
def wAt (x : Fin 128) : EReal := if h : x.val < 16 then projAt X SC SH W b s ⟨1024 + x.val, by omega⟩ * cW else 0

/-- Two heads side by side turned as the kernel turns them, by the tables of 128 columns. -/
theorem rope_eq (f : Fin 128 → EReal) (x : Fin 128) :
    f x * quad (Host.cos (angT p)) (Host.cos (angT p)) (ix3 b s x)
      + (if x.val % 64 < 32 then f ⟨(x.val + 128 - 96) % 128, by omega⟩ else f ⟨(x.val + 128 - 32) % 128, by omega⟩)
        * quad (negf (Host.sin (angT p))) (Host.sin (angT p)) (ix3 b s x)
      = rope p b s (fun y => f ⟨x.val / 64 * 64 + y.val, by omega⟩) ⟨x.val % 64, by omega⟩ := by
  have e0 : (⟨x.val / 64 * 64 + x.val % 64, by omega⟩ : Fin 128) = x := Fin.ext (by dsimp only; omega)
  rw [quad_apply, quad_apply, ite_self, rope]
  by_cases h : x.val % 64 < 32
  · have e : (⟨x.val / 64 * 64 + (x.val % 64 + 32), by omega⟩ : Fin 128) = ⟨(x.val + 128 - 96) % 128, by omega⟩ := Fin.ext (by dsimp only; omega)
    have e2 : (⟨x.val % 64, h⟩ : Fin 32) = ⟨x.val % 32, by omega⟩ := Fin.ext (by dsimp only; omega)
    rw [if_pos h, if_pos h, dif_pos h, sub_eq_add_neg, ← mul_neg]
    simp only [e0, e, e2]
    rfl
  · have e : (⟨x.val / 64 * 64 + (x.val % 64 - 32), by omega⟩ : Fin 128) = ⟨(x.val + 128 - 32) % 128, by omega⟩ := Fin.ext (by dsimp only; omega)
    have e2 : (⟨x.val % 64 - 32, by omega⟩ : Fin 32) = ⟨x.val % 32, by omega⟩ := Fin.ext (by dsimp only; omega)
    rw [if_neg h, if_neg h, dif_neg h]
    simp only [e0, e, e2]
end Spec

section Body
variable (X : Vec Ideal S1x512x2048 .f32) (SC SH : Vec Ideal S1x1x2048 .f32) (W : Vec Ideal S2048x1152 .bf16) (C S : Vec Ideal S1x512x128 .f32)
  (r : Fin 512) (x : Fin 128)

/-- The product of the modulated block with the weights. -/
theorem acc_apply (d : Fin 1152) : k0_pay25 (F := Ideal) X SC SH W C S (ix2 r d)
    = ∑ k : Fin 2048, (X (ix3 0 r k) * (1 + SC (ix3 0 0 k)) + SH (ix3 0 0 k)) * W (ix2 k d) := by
  pointwise [k0_pay25, k0_pay2]

/-- The lane mask marks the first half of each head. -/
theorem mask_apply : k0_pay31 (F := Ideal) X SC SH W C S (ix2 r x) = if x.val % 64 < 32 then 1#1 else 0#1 := by
  revert x
  pointwise [k0_pay31, k0_pay30, k0_pay29, k0_pay28, k0_pay8, k0_pay7, k0_pay6, k0_pay5]
  decide

/-- The 128 columns of the product from column `o` on, turned. -/
def lane (o : ℕ) (ho : o + 128 ≤ 1152) : EReal :=
  k0_pay25 (F := Ideal) X SC SH W C S (ix2 r ⟨o + x.val, by omega⟩) * C (ix3 0 r x)
    + Scalar.select (k0_pay31 (F := Ideal) X SC SH W C S (ix2 r x)) (k0_pay25 (F := Ideal) X SC SH W C S (ix2 r ⟨o + (x.val + 128 - 96) % 128, by omega⟩))
      (k0_pay25 (F := Ideal) X SC SH W C S (ix2 r ⟨o + (x.val + 128 - 32) % 128, by omega⟩)) * S (ix3 0 r x)

theorem lane_congr (o o' : ℕ) (ho : o + 128 ≤ 1152) (ho' : o' + 128 ≤ 1152) (h : o = o') : lane X SC SH W C S r x o ho = lane X SC SH W C S r x o' ho' := by
  subst h; rfl

/-- The output block of the queries, head pair `g` of it. -/
theorem out6_apply (g : Fin 8) :
    out0_6 (F := Ideal) X SC SH W C S (ix3 0 r ⟨g.val * 128 + x.val, by omega⟩) = lane X SC SH W C S r x (g.val * 128) (by omega) := by
  canon_tiles y h
  all_goals
    idx_vars y
    obtain rfl := Fin.fin_one_eq_zero y0
    obtain rfl : y1 = r := Fin.ext h1.symm
    replace h2 : g.val * 128 + x.val = _ := h2
    obtain rfl : y2 = x := Fin.ext (by clear h0 h1; omega)
    first
      | refine Eq.trans ?_ (lane_congr X SC SH W C S y1 y2 0 _ (by decide) _ (by clear h0 h1; omega))
      | refine Eq.trans ?_ (lane_congr X SC SH W C S y1 y2 128 _ (by decide) _ (by clear h0 h1; omega))
      | refine Eq.trans ?_ (lane_congr X SC SH W C S y1 y2 256 _ (by decide) _ (by clear h0 h1; omega))
      | refine Eq.trans ?_ (lane_congr X SC SH W C S y1 y2 384 _ (by decide) _ (by clear h0 h1; omega))
      | refine Eq.trans ?_ (lane_congr X SC SH W C S y1 y2 512 _ (by decide) _ (by clear h0 h1; omega))
      | refine Eq.trans ?_ (lane_congr X SC SH W C S y1 y2 640 _ (by decide) _ (by clear h0 h1; omega))
      | refine Eq.trans ?_ (lane_congr X SC SH W C S y1 y2 768 _ (by decide) _ (by clear h0 h1; omega))
      | refine Eq.trans ?_ (lane_congr X SC SH W C S y1 y2 896 _ (by decide) _ (by clear h0 h1; omega))
    pointwise [k0_pay9, k0_pay10, k0_pay11, k0_pay12, k0_pay13, k0_pay14, k0_pay15, k0_pay16, k0_pay17, k0_pay18, k0_pay31, k0_pay8,
      k0_pay26, k0_pay27, k0_pay3, k0_pay4, lane]

/-- The value that the two key blocks store. -/
theorem key_apply : k0_pay20 (k0_pay25 (F := Ideal) X SC SH W C S) (k0_pay26 X SC SH W C S) (k0_pay27 X SC SH W C S) (k0_pay24 (F := Ideal) X SC SH W C S)
    (k0_pay31 (F := Ideal) X SC SH W C S) (ix2 r x) = if x.val < 64 then lane X SC SH W C S r x 1024 (by decide) else 0 := by
  have hm : ∀ x : Fin 128, IntOp.cmpi .slt (BitVec.ofNat 32 x.val) 64#32 = if x.val < 64 then 1#1 else 0#1 := by decide
  pointwise [k0_pay20, k0_pay19, k0_pay24, k0_pay26, k0_pay27, k0_pay3, k0_pay4, lane]
  rw [hm]
  split_ifs <;> rfl

/-- The output block of the keys before zeros. -/
theorem out7_apply : out0_7 (F := Ideal) X SC SH W C S (ix3 0 r x) = if x.val < 64 then lane X SC SH W C S r x 1024 (by decide) else 0 := by
  rw [← key_apply]
  canon_tiles y h
  idx_vars y
  obtain rfl := Fin.fin_one_eq_zero y0
  obtain rfl : y1 = r := Fin.ext h1.symm
  obtain rfl : y2 = x := Fin.ext h2.symm
  pointwise [k0_pay21]

/-- The output block of the keys after zeros. -/
theorem out8_apply : out0_8 (F := Ideal) X SC SH W C S (ix3 0 r x)
    = if (x.val + 128 - 64) % 128 < 64 then lane X SC SH W C S r ⟨(x.val + 128 - 64) % 128, by omega⟩ 1024 (by decide) else 0 := by
  refine Eq.trans ?_ (key_apply X SC SH W C S r ⟨(x.val + 128 - 64) % 128, by omega⟩)
  canon_tiles y h
  idx_vars y
  obtain rfl := Fin.fin_one_eq_zero y0
  obtain rfl : y1 = r := Fin.ext h1.symm
  obtain rfl : y2 = x := Fin.ext h2.symm
  pointwise [k0_pay22]

/-- The output block of the head weights. -/
theorem out9_apply : out0_9 (F := Ideal) X SC SH W C S (ix3 0 r x)
    = if x.val < 16 then k0_pay25 (F := Ideal) X SC SH W C S (ix2 r ⟨1024 + (x.val + 128 - 64) % 128, by omega⟩) * cW else 0 := by
  have hm : ∀ x : Fin 128, IntOp.cmpi .slt (BitVec.ofNat 32 x.val) 16#32 = if x.val < 16 then 1#1 else 0#1 := by decide
  canon_tiles y h
  idx_vars y
  obtain rfl := Fin.fin_one_eq_zero y0
  obtain rfl : y1 = r := Fin.ext h1.symm
  obtain rfl : y2 = x := Fin.ext h2.symm
  pointwise [k0_pay1, k0_pay19, k0_pay23, k0_pay24]
  rw [hm]
  split_ifs <;> rfl
end Body

variable (m : (ℓ : Loc nD τ sig) → Buf (Elt Ideal) ℓ) (c : Dev nD)

/-- The input rows. -/
abbrev aX : Vec Ideal S2x8192x2048 .f32 := m ((c : Thread nD τ).loc main_arg0)
/-- The scale rows. -/
abbrev aSC : Vec Ideal S2x1x2048 .f32 := m ((c : Thread nD τ).loc main_arg1)
/-- The shift rows. -/
abbrev aSH : Vec Ideal S2x1x2048 .f32 := m ((c : Thread nD τ).loc main_arg2)
/-- The weights. -/
abbrev aW : Vec Ideal S2048x1104 .f32 := m ((c : Thread nD τ).loc main_arg3)
/-- The positions. -/
abbrev aP : Vec Ideal S2x8192 .i32 := m ((c : Thread nD τ).loc main_arg4)

/-- The weights' columns in the call's order: queries, keys, head weights, zeros. -/
def orderT (W : Vec Ideal S2048x1104 .f32) : FVec Ideal S2048x1152 .bf16 :=
  truncf .bf16 (concatenate S2048x1152 1 [⟨S2048x1024, extractStridedSlice S2048x1024 ![0, 0] W slices_S2048x1104_S2048x1024_0_0⟩,
    ⟨S2048x64, extractStridedSlice S2048x64 ![0, 1040] W slices_S2048x1104_S2048x64_0_1040⟩,
    ⟨S2048x16, extractStridedSlice S2048x16 ![0, 1024] W slices_S2048x1104_S2048x16_0_1024⟩,
    ⟨S2048x48, broadcastInDim S2048x48 ![] bcast_S_S2048x48 (constant S_ .f32 0x00000000#32)⟩]
    concatenates_S2048x1024_S2048x64_S2048x16_S2048x48_S2048x1152_d1 : FVec Ideal S2048x1152 .f32) bitsLt_bf16_f32

theorem orderT_q (W : Vec Ideal S2048x1104 .f32) (k : Fin 2048) (e : Fin 1152) (h : e.val < 1024) : orderT W (ix2 k e) = W (ix2 k ⟨e.val, by omega⟩) := by
  pointwise [orderT]
  exact dif_pos h
theorem orderT_k (W : Vec Ideal S2048x1104 .f32) (k : Fin 2048) (e : Fin 1152) (h : 1024 ≤ e.val) (h' : e.val < 1088) :
    orderT W (ix2 k e) = W (ix2 k ⟨e.val + 16, by omega⟩) := by
  pointwise [orderT]
  refine (dif_neg (by omega)).trans ((dif_pos (by omega)).trans ?_)
  congr 2; exact Fin.ext (by dsimp only; omega)
theorem orderT_w (W : Vec Ideal S2048x1104 .f32) (k : Fin 2048) (e : Fin 1152) (h : 1088 ≤ e.val) (h' : e.val < 1104) :
    orderT W (ix2 k e) = W (ix2 k ⟨e.val - 64, by omega⟩) := by
  pointwise [orderT]
  refine (dif_neg (by omega)).trans ((dif_neg (by omega)).trans ((dif_pos (by omega)).trans ?_))
  congr 2; exact Fin.ext (by dsimp only; omega)

theorem host_w : (V m c main_v27 : FVec Ideal S2048x1152 .bf16) = orderT (aW m c) := rfl
theorem host_cos : (V m c main_v19 : FVec Ideal S2x8192x128 .f32) = quad (Host.cos (angT (aP m c))) (Host.cos (angT (aP m c))) := rfl
theorem host_sin : (V m c main_v21 : FVec Ideal S2x8192x128 .f32) = quad (negf (Host.sin (angT (aP m c)))) (Host.sin (angT (aP m c))) := rfl

/-- Which block of its array each window reads at grid point `t`: batch `t/16`, row block `t % 16`. -/
theorem idx_val : ∀ t : Fin cfg0.N,
    win0_0.index t = ![t.val / 16, t.val % 16, 0] ∧ win0_1.index t = ![t.val / 16, 0, 0] ∧ win0_2.index t = ![t.val / 16, 0, 0]
    ∧ win0_3.index t = ![0, 0] ∧ win0_4.index t = ![t.val / 16, t.val % 16, 0] ∧ win0_5.index t = ![t.val / 16, t.val % 16, 0]
    ∧ win0_6.index t = ![t.val / 16, t.val % 16, 0] ∧ win0_7.index t = ![t.val / 16, t.val % 16, 0]
    ∧ win0_8.index t = ![t.val / 16, t.val % 16, 0] ∧ win0_9.index t = ![t.val / 16, t.val % 16, 0] :=
  (by decide +kernel : ∀ t : Fin grid0.N, _)

section Blocks
variable (t : Fin cfg0.N) (r : Fin 512)
theorem bound_b : t.val / 16 < 2 := by have h : t.val < 32 := t.isLt; omega
/-- The batch of a point. -/
abbrev bt : Fin 2 := ⟨t.val / 16, bound_b t⟩
/-- The row of the array that row `r` of a point's block is. -/
abbrev st : Fin 8192 := ⟨t.val % 16 * 512 + r.val, by omega⟩

theorem blk_x (k : Fin 2048) : (iblk m c 0 t : Vec Ideal S1x512x2048 .f32) (ix3 0 r k) = aX m c (ix3 (bt t) (st t r) k) := by
  blk_ext [iblk, V, idx_val t]
theorem blk_sc (k : Fin 2048) : (iblk m c 1 t : Vec Ideal S1x1x2048 .f32) (ix3 0 0 k) = aSC m c (ix3 (bt t) 0 k) := by
  blk_ext [iblk, V, idx_val t]
theorem blk_sh (k : Fin 2048) : (iblk m c 2 t : Vec Ideal S1x1x2048 .f32) (ix3 0 0 k) = aSH m c (ix3 (bt t) 0 k) := by
  blk_ext [iblk, V, idx_val t]
theorem blk_w (k : Fin 2048) (e : Fin 1152) : (iblk m c 3 t : Vec Ideal S2048x1152 .bf16) (ix2 k e) = orderT (aW m c) (ix2 k e) := by
  rw [← host_w]
  blk_ext [iblk, idx_val t]
theorem blk_cos (x : Fin 128) : (iblk m c 4 t : Vec Ideal S1x512x128 .f32) (ix3 0 r x)
    = quad (Host.cos (angT (aP m c))) (Host.cos (angT (aP m c))) (ix3 (bt t) (st t r) x) := by
  rw [← host_cos m c]
  blk_ext [iblk, idx_val t]
theorem blk_sin (x : Fin 128) : (iblk m c 5 t : Vec Ideal S1x512x128 .f32) (ix3 0 r x)
    = quad (negf (Host.sin (angT (aP m c)))) (Host.sin (angT (aP m c))) (ix3 (bt t) (st t r) x) := by
  rw [← host_sin m c]
  blk_ext [iblk, idx_val t]

/-- Column `e` of a point's product is column `d` of the projection, if the weights' columns are the same. -/
theorem acc_eq (e : Fin 1152) (d : Fin 1104) (h : ∀ k, orderT (aW m c) (ix2 k e) = aW m c (ix2 k d)) :
    k0_pay25 (F := Ideal) (iblk m c 0 t) (iblk m c 1 t) (iblk m c 2 t) (iblk m c 3 t) (iblk m c 4 t) (iblk m c 5 t) (ix2 r e)
      = projAt (aX m c) (aSC m c) (aSH m c) (aW m c) (bt t) (st t r) d := by
  refine (acc_apply _ _ _ _ _ _ r e).trans ?_
  simp only [blk_x, blk_sc, blk_sh, blk_w, h]
  rfl

/-- The turned lanes of a point are a rotated row, column `o + x / 64 * 64 + y` of the product being column `q y` of the projection. -/
theorem lane_eq (x : Fin 128) (o : ℕ) (ho : o + 128 ≤ 1152) (q : Fin 64 → Fin 1104)
    (h : ∀ k (y : Fin 64), orderT (aW m c) (ix2 k ⟨o + (x.val / 64 * 64 + y.val), by omega⟩) = aW m c (ix2 k (q y))) :
    lane (iblk m c 0 t) (iblk m c 1 t) (iblk m c 2 t) (iblk m c 3 t) (iblk m c 4 t) (iblk m c 5 t) r x o ho
      = rope (aP m c) (bt t) (st t r) (fun y => projAt (aX m c) (aSC m c) (aSH m c) (aW m c) (bt t) (st t r) (q y)) ⟨x.val % 64, by omega⟩ := by
  rw [lane, mask_apply, blk_cos, blk_sin]
  refine Eq.trans ?_ ((rope_eq (aP m c) (bt t) (st t r) (fun x => k0_pay25 (F := Ideal) (iblk m c 0 t) (iblk m c 1 t) (iblk m c 2 t) (iblk m c 3 t)
    (iblk m c 4 t) (iblk m c 5 t) (ix2 r ⟨o + x.val, by omega⟩)) x).trans ?_)
  · split_ifs <;> rfl
  · congr 1
    funext y
    exact acc_eq m c t r _ _ fun k => h k y

end Blocks

/-- The queries of the arguments as an array. -/
def qArr : Vec Ideal S2x8192x1024 .bf16 := fun i => qAt (aX m c) (aSC m c) (aSH m c) (aW m c) (aP m c) (i 0) (i 1) (i 2)
/-- The keys and zeros of the arguments as an array. -/
def kaArr : Vec Ideal S2x8192x128 .bf16 := fun i => kaAt (aX m c) (aSC m c) (aSH m c) (aW m c) (aP m c) (i 0) (i 1) (i 2)
/-- Zeros and the keys of the arguments as an array. -/
def kbArr : Vec Ideal S2x8192x128 .bf16 := fun i => kbAt (aX m c) (aSC m c) (aSH m c) (aW m c) (aP m c) (i 0) (i 1) (i 2)
/-- The head weights of the arguments as an array. -/
def wArr : Vec Ideal S2x8192x128 .f32 := fun i => wAt (aX m c) (aSC m c) (aSH m c) (aW m c) (i 0) (i 1) (i 2)

theorem cover6 : (cfg0.win 6).Covers := by decide +kernel
theorem cover7 : (cfg0.win 7).Covers := by decide +kernel
theorem cover8 : (cfg0.win 8).Covers := by decide +kernel
theorem cover9 : (cfg0.win 9).Covers := by decide +kernel

theorem place6 (t : Fin cfg0.N) (r : Fin 512) (d : Fin 1024) :
    (((View.whole main_v28_0).slice (win0_6.rect t)).emb (ix3 0 r d) : S2x8192x1024.Idx) = ix3 (bt t) (st t r) d := by
  blk_ext [idx_val t]
theorem place7 (t : Fin cfg0.N) (r : Fin 512) (x : Fin 128) :
    (((View.whole main_v28_1).slice (win0_7.rect t)).emb (ix3 0 r x) : S2x8192x128.Idx) = ix3 (bt t) (st t r) x := by
  blk_ext [idx_val t]
theorem place8 (t : Fin cfg0.N) (r : Fin 512) (x : Fin 128) :
    (((View.whole main_v28_2).slice (win0_8.rect t)).emb (ix3 0 r x) : S2x8192x128.Idx) = ix3 (bt t) (st t r) x := by
  blk_ext [idx_val t]
theorem place9 (t : Fin cfg0.N) (r : Fin 512) (x : Fin 128) :
    (((View.whole main_v28_3).slice (win0_9.rect t)).emb (ix3 0 r x) : S2x8192x128.Idx) = ix3 (bt t) (st t r) x := by
  blk_ext [idx_val t]

/-- The kernel's first result array holds the turned queries. -/
theorem final6 : (dats m 0 c).arrAt 6 cfg0.N = qArr m c := by
  refine (dats m 0 c).arrAt_eq_of_covers 6 (qArr m c) cover6 fun t _ y => ?_
  obtain ⟨y0, r, d, rfl⟩ : ∃ (y0 : Fin 1) (r : Fin 512) (d : Fin 1024), y = ix3 y0 r d := ⟨y 0, y 1, y 2, eq_ix3 y⟩
  obtain rfl := Fin.fin_one_eq_zero y0
  refine Eq.trans (congrFun (after0_6 m c t) _) (Eq.trans ?_ (congrArg (qArr m c) (place6 t r d)).symm)
  show _ = qAt _ _ _ _ _ (bt t) (st t r) d
  have hd : d = ⟨d.val / 128 * 128 + d.val % 128, by omega⟩ := Fin.ext (by dsimp only; omega)
  refine (congrArg (fun d => out0_6 (F := Ideal) _ _ _ _ _ _ (ix3 0 r d)) hd).trans ?_
  refine (out6_apply _ _ _ _ _ _ r ⟨d.val % 128, by omega⟩ ⟨d.val / 128, by omega⟩).trans ?_
  refine (lane_eq m c t r _ _ _ (fun y => ⟨d.val / 64 * 64 + y.val, by omega⟩) fun k y => ?_).trans ?_
  · refine (orderT_q _ _ _ (by dsimp only; omega)).trans ?_
    congr 2; exact Fin.ext (by dsimp only; omega)
  · exact congrArg (rope _ _ _ _) (Fin.ext (by dsimp only; omega))

/-- The lanes of the keys. -/
theorem key_eq (t : Fin cfg0.N) (r : Fin 512) (x : Fin 128) (h : x.val < 64) :
    lane (iblk m c 0 t) (iblk m c 1 t) (iblk m c 2 t) (iblk m c 3 t) (iblk m c 4 t) (iblk m c 5 t) r x 1024 (by decide)
      = kAt (aX m c) (aSC m c) (aSH m c) (aW m c) (aP m c) (bt t) (st t r) ⟨x.val, h⟩ := by
  refine (lane_eq m c t r _ _ _ (fun y => ⟨1040 + y.val, by omega⟩) fun k y => ?_).trans ?_
  · refine (orderT_k _ _ _ (by dsimp only; omega) (by dsimp only; omega)).trans ?_
    congr 2; exact Fin.ext (by dsimp only; omega)
  · exact congrArg (rope _ _ _ _) (Fin.ext (by dsimp only; omega))

/-- The kernel's second result array holds the turned keys, then zeros. -/
theorem final7 : (dats m 0 c).arrAt 7 cfg0.N = kaArr m c := by
  refine (dats m 0 c).arrAt_eq_of_covers 7 (kaArr m c) cover7 fun t _ y => ?_
  obtain ⟨y0, r, x, rfl⟩ : ∃ (y0 : Fin 1) (r : Fin 512) (x : Fin 128), y = ix3 y0 r x := ⟨y 0, y 1, y 2, eq_ix3 y⟩
  obtain rfl := Fin.fin_one_eq_zero y0
  refine Eq.trans (congrFun (after0_7 m c t) _) (Eq.trans ?_ (congrArg (kaArr m c) (place7 t r x)).symm)
  refine (out7_apply _ _ _ _ _ _ r x).trans ?_
  show _ = kaAt _ _ _ _ _ (bt t) (st t r) x
  unfold kaAt
  split_ifs with h
  · exact key_eq m c t r x h
  · rfl

/-- The kernel's third result array holds zeros, then the turned keys. -/
theorem final8 : (dats m 0 c).arrAt 8 cfg0.N = kbArr m c := by
  refine (dats m 0 c).arrAt_eq_of_covers 8 (kbArr m c) cover8 fun t _ y => ?_
  obtain ⟨y0, r, x, rfl⟩ : ∃ (y0 : Fin 1) (r : Fin 512) (x : Fin 128), y = ix3 y0 r x := ⟨y 0, y 1, y 2, eq_ix3 y⟩
  obtain rfl := Fin.fin_one_eq_zero y0
  refine Eq.trans (congrFun (after0_8 m c t) _) (Eq.trans ?_ (congrArg (kbArr m c) (place8 t r x)).symm)
  refine (out8_apply _ _ _ _ _ _ r x).trans ?_
  show _ = kbAt _ _ _ _ _ (bt t) (st t r) x
  unfold kbAt
  split_ifs with h h' h'
  · omega
  · exact (key_eq m c t r _ h).trans (congrArg (kAt _ _ _ _ _ _ _) (Fin.ext (by dsimp only; omega)))
  · rfl
  · omega

/-- The kernel's fourth result array holds the scaled head weights, then zeros. -/
theorem final9 : (dats m 0 c).arrAt 9 cfg0.N = wArr m c := by
  refine (dats m 0 c).arrAt_eq_of_covers 9 (wArr m c) cover9 fun t _ y => ?_
  obtain ⟨y0, r, x, rfl⟩ : ∃ (y0 : Fin 1) (r : Fin 512) (x : Fin 128), y = ix3 y0 r x := ⟨y 0, y 1, y 2, eq_ix3 y⟩
  obtain rfl := Fin.fin_one_eq_zero y0
  refine Eq.trans (congrFun (after0_9 m c t) _) (Eq.trans ?_ (congrArg (wArr m c) (place9 t r x)).symm)
  refine (out9_apply _ _ _ _ _ _ r x).trans ?_
  show _ = wAt _ _ _ _ (bt t) (st t r) x
  unfold wAt
  split_ifs with h
  · refine congrArg (· * cW) (acc_eq m c t r _ _ fun k => (orderT_w _ _ _ (by dsimp only; omega) (by dsimp only; omega)).trans ?_)
    congr 2; exact Fin.ext (by dsimp only; omega)
  · rfl

end Cert.Kernel7Ideal.Idx
-- ==== Proof.Idx.Reference.lean ====
module

public import proofs.«01_k».proof.Proof.Idx.Array
public import proofs.«01_k».proof.Proof.Gen.Reference7Ideal.Run

@[expose] public section

set_option maxRecDepth 16384
noncomputable section
open Idealize.ShloMosaic Idealize.ShloMosaic.TcCoe Idealize.SL.Sem

/-! The reference of the indexer's projections, read at an index. -/

namespace Cert.Reference7Ideal.Idx
open Cert.Reference7Ideal Cert.Reference7Ideal.Gen Cert.Reference7Ideal.Value
open Cert.Kernel7Ideal.Idx (projAt rope qAt kAt kaAt kbAt wAt angT)

section Parts
variable (X : FVec Ideal S2x8192x2048 .f32) (SC SH : FVec Ideal S2x1x2048 .f32) (W : FVec Ideal S2048x1104 .f32) (p : Vec Ideal S2x8192 .i32)
  (P : FVec Ideal S2x8192x1104 .f32) (C S : FVec Ideal S2x8192x32 .f32) (b : Fin 2) (s : Fin 8192)

/-- The projection of the modulated input. -/
def projT : FVec Ideal S2x8192x1104 .f32 :=
  Host.dotGeneral dot_S2x8192x2048_S2048x1104_S2x8192x1104_2_0_01_1_n_n none
    (addf (mulf X (broadcastInDim S2x8192x2048 ![0, 1, 2] bcast_S2x1x2048_S2x8192x2048_0_1_2
        (addf (broadcastInDim S2x1x2048 ![] bcast_S_S2x1x2048 (constant S_ .f32 0x3F800000#32)) SC)))
      (broadcastInDim S2x8192x2048 ![0, 1, 2] bcast_S2x1x2048_S2x8192x2048_0_1_2 SH)) W

theorem projT_apply (d : Fin 1104) : projT X SC SH W (ix3 b s d) = projAt X SC SH W b s d := by
  pointwise [projT, projAt]

/-- A table of angles under a unit axis for the heads. -/
def one (T : FVec Ideal S2x8192x32 .f32) : FVec Ideal S2x8192x1x32 .f32 := broadcastInDim S2x8192x1x32 ![0, 1, 3] bcast_S2x8192x32_S2x8192x1x32_0_1_3 T
/-- A table of angles spread over the heads. -/
def spread (T : FVec Ideal S2x8192x32 .f32) : FVec Ideal S2x8192x16x32 .f32 :=
  broadcastInDim S2x8192x16x32 ![0, 1, 2, 3] bcast_S2x8192x1x32_S2x8192x16x32_0_1_2_3 (one T)

/-- The sixteen heads of the queries. -/
def headsT : FVec Ideal S2x8192x16x64 .f32 :=
  shapeCast _ (extractStridedSlice S2x8192x1024 ![0, 0, 0] P slices_S2x8192x1104_S2x8192x1024_0_0_0) shapeCasts_S2x8192x1024_S2x8192x16x64
/-- The keys under a unit axis. -/
def keyT : FVec Ideal S2x8192x1x64 .f32 :=
  broadcastInDim S2x8192x1x64 ![0, 1, 3] bcast_S2x8192x64_S2x8192x1x64_0_1_3 (extractStridedSlice S2x8192x64 ![0, 0, 1040] P slices_S2x8192x1104_S2x8192x64_0_0_1040)

/-- The first half of each query head. -/
def lo (Q : FVec Ideal S2x8192x16x64 .f32) : FVec Ideal S2x8192x16x32 .f32 := extractStridedSlice S2x8192x16x32 ![0, 0, 0, 0] Q slices_S2x8192x16x64_S2x8192x16x32_0_0_0_0
/-- The second half of each query head. -/
def hi (Q : FVec Ideal S2x8192x16x64 .f32) : FVec Ideal S2x8192x16x32 .f32 := extractStridedSlice S2x8192x16x32 ![0, 0, 0, 32] Q slices_S2x8192x16x64_S2x8192x16x32_0_0_0_32
/-- The first half of the keys. -/
def klo (Q : FVec Ideal S2x8192x1x64 .f32) : FVec Ideal S2x8192x1x32 .f32 := extractStridedSlice S2x8192x1x32 ![0, 0, 0, 0] Q slices_S2x8192x1x64_S2x8192x1x32_0_0_0_0
/-- The second half of the keys. -/
def khi (Q : FVec Ideal S2x8192x1x64 .f32) : FVec Ideal S2x8192x1x32 .f32 := extractStridedSlice S2x8192x1x32 ![0, 0, 0, 32] Q slices_S2x8192x1x64_S2x8192x1x32_0_0_0_32

/-- The rotation of the query heads. -/
def turnT (Q : FVec Ideal S2x8192x16x64 .f32) : FVec Ideal S2x8192x16x64 .f32 :=
  fn_main_v44 (F := Ideal) (subf (mulf (lo Q) (spread C)) (mulf (hi Q) (spread S))) (addf (mulf (hi Q) (spread C)) (mulf (lo Q) (spread S)))
/-- The rotation of the keys. -/
def kturnT (Q : FVec Ideal S2x8192x1x64 .f32) : FVec Ideal S2x8192x1x64 .f32 :=
  fn_main_v56 (F := Ideal) (subf (mulf (klo Q) (one C)) (mulf (khi Q) (one S))) (addf (mulf (khi Q) (one C)) (mulf (klo Q) (one S)))
/-- The query heads side by side. -/
def flatT (Q : FVec Ideal S2x8192x16x64 .f32) : FVec Ideal S2x8192x1024 .bf16 :=
  truncf .bf16 (shapeCast S2x8192x1024 Q shapeCasts_S2x8192x16x64_S2x8192x1024 : FVec Ideal S2x8192x1024 .f32) bitsLt_bf16_f32
/-- The keys without the unit axis. -/
def kflatT (Q : FVec Ideal S2x8192x1x64 .f32) : FVec Ideal S2x8192x64 .bf16 :=
  truncf .bf16 (shapeCast S2x8192x64 Q shapeCasts_S2x8192x1x64_S2x8192x64 : FVec Ideal S2x8192x64 .f32) bitsLt_bf16_f32

theorem headsT_apply (n : Fin 16) (x : Fin 64) : headsT P (ix4 b s n x) = P (ix3 b s ⟨n.val * 64 + x.val, by omega⟩) := by pointwise [headsT]
theorem keyT_apply (x : Fin 64) : keyT P (ix4 b s 0 x) = P (ix3 b s ⟨1040 + x.val, by omega⟩) := by pointwise [keyT]
theorem flatT_apply (Q : FVec Ideal S2x8192x16x64 .f32) (d : Fin 1024) :
    flatT Q (ix3 b s d) = Q (ix4 b s ⟨d.val / 64, by omega⟩ ⟨d.val % 64, by omega⟩) := by pointwise [flatT]
theorem kflatT_apply (Q : FVec Ideal S2x8192x1x64 .f32) (x : Fin 64) : kflatT Q (ix3 b s x) = Q (ix4 b s 0 x) := by pointwise [kflatT]

theorem turnT_apply (Q : FVec Ideal S2x8192x16x64 .f32) (n : Fin 16) (x : Fin 64) :
    turnT (Host.cos (angT p)) (Host.sin (angT p)) Q (ix4 b s n x) = rope p b s (fun x => Q (ix4 b s n x)) x := by
  pointwise [turnT, fn_main_v44, lo, hi, spread, one, rope]
  split_ifs with h h'
  · have e : (⟨32 + x.val, by omega⟩ : Fin 64) = ⟨x.val + 32, by omega⟩ := Fin.ext (Nat.add_comm _ _)
    rw [e]
  · have e : (⟨32 + (x.val - 32), by omega⟩ : Fin 64) = x := Fin.ext (by dsimp only; omega)
    rw [e]
  · exact absurd rfl h'

theorem kturnT_apply (Q : FVec Ideal S2x8192x1x64 .f32) (x : Fin 64) :
    kturnT (Host.cos (angT p)) (Host.sin (angT p)) Q (ix4 b s 0 x) = rope p b s (fun x => Q (ix4 b s 0 x)) x := by
  pointwise [kturnT, fn_main_v56, klo, khi, one, rope]
  split_ifs with h h'
  · have e : (⟨32 + x.val, by omega⟩ : Fin 64) = ⟨x.val + 32, by omega⟩ := Fin.ext (Nat.add_comm _ _)
    rw [e]
  · have e : (⟨32 + (x.val - 32), by omega⟩ : Fin 64) = x := Fin.ext (by dsimp only; omega)
    rw [e]
  · exact absurd rfl h'

/-- Zeros of the keys' shape. -/
def zeroT : FVec Ideal S2x8192x64 .bf16 := broadcastInDim S2x8192x64 ![] bcast_S_S2x8192x64 (constant S_ .bf16 0x0000#16)

/-- The scaled head weights, then zeros. -/
def wT : FVec Ideal S2x8192x128 .f32 :=
  fn_main_v65 (F := Ideal) (mulf (extractStridedSlice S2x8192x16 ![0, 0, 1024] P slices_S2x8192x1104_S2x8192x16_0_0_1024)
      (broadcastInDim S2x8192x16 ![] bcast_S_S2x8192x16 (constant S_ .f32 0x3D000000#32)))
    (broadcastInDim S2x8192x112 ![] bcast_S_S2x8192x112 (constant S_ .f32 0x00000000#32 : FVec Ideal S_ .f32))
end Parts

variable (m : (ℓ : Loc nD τ sig) → Buf (Elt Ideal) ℓ) (c : Dev nD)

/-- The projection of a memory's arguments. -/
abbrev pr : FVec Ideal S2x8192x1104 .f32 := projT (m ((c.tc : Thread nD τ).loc main_arg0)) (m ((c.tc : Thread nD τ).loc main_arg1)) (m ((c.tc : Thread nD τ).loc main_arg2)) (m ((c.tc : Thread nD τ).loc main_arg3))
/-- The angles of a memory's positions. -/
abbrev an : FVec Ideal S2x8192x32 .f32 := angT (m ((c.tc : Thread nD τ).loc main_arg4))
/-- The keys of a memory's arguments. -/
abbrev ky : FVec Ideal S2x8192x64 .bf16 := kflatT (kturnT (Host.cos (an m c)) (Host.sin (an m c)) (keyT (pr m c)))

theorem res0 : res_out0 m c = flatT (turnT (Host.cos (an m c)) (Host.sin (an m c)) (headsT (pr m c))) := rfl
theorem res1 : res_out1 m c = fn_main_v63 (F := Ideal) (ky m c) zeroT := rfl
theorem res2 : res_out2 m c = fn_main_v64 (F := Ideal) zeroT (ky m c) := rfl

variable (b : Fin 2) (s : Fin 8192)

/-- The reference's first result at an element. -/
theorem q_eq (d : Fin 1024) : res_out0 m c (ix3 b s d) = qAt (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) b s d := by
  rw [res0]
  refine (flatT_apply _ _ _ d).trans ((turnT_apply _ _ _ _ _ _).trans ?_)
  simp only [headsT_apply, projT_apply]
  rfl

theorem ky_eq (x : Fin 64) : ky m c (ix3 b s x) = kAt (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) b s x := by
  refine (kflatT_apply _ _ _ x).trans ((kturnT_apply _ _ _ _ _).trans ?_)
  simp only [keyT_apply, projT_apply]
  rfl

/-- The reference's second result at an element. -/
theorem ka_eq (x : Fin 128) : res_out1 m c (ix3 b s x) = kaAt (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) b s x := by
  rw [res1, kaAt]
  pointwise [fn_main_v63, zeroT]
  simp only [ky_eq]

/-- The reference's third result at an element. -/
theorem kb_eq (x : Fin 128) : res_out2 m c (ix3 b s x) = kbAt (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) b s x := by
  rw [res2, kbAt]
  pointwise [fn_main_v64, zeroT]
  simp only [ky_eq]
  rfl

/-- The reference's fourth result at an element. -/
theorem w_eq (x : Fin 128) : wT (pr m c) (ix3 b s x) = wAt (m ((c.tc : Thread nD τ).loc main_arg0)) (m ((c.tc : Thread nD τ).loc main_arg1)) (m ((c.tc : Thread nD τ).loc main_arg2)) (m ((c.tc : Thread nD τ).loc main_arg3)) b s x := by
  rw [wAt]
  pointwise [wT, fn_main_v65]
  simp only [projT_apply]

end Cert.Reference7Ideal.Idx
-- ==== Proof.Ffn.Payloads.lean ====
module

public import proofs.«01_k».proof.Proof.Gen.Kernel2Ideal.Value
public import Idealize.ShloMosaic.Lib.Pipeline.ValueKit

@[expose] public section

set_option maxRecDepth 16384
noncomputable section
open Idealize.ShloMosaic Idealize.ShloMosaic.TcCoe Idealize.SL.Sem
open Idealize.ShloMosaic.Pipeline (Dat)

/-! The arithmetic of the feed-forward kernel's body, read at an index: the modulated hidden row, one step of the
accumulation over the hidden width, and the closing layer normalisation of a row held in four tiles. -/

namespace Cert.Kernel2Ideal.Ffn
open Cert.Kernel2Ideal Cert.Kernel2Ideal.Gen

/-- The constant `1/2048` by which the kernel multiplies a row's sum. -/
abbrev cInv : EReal := Ideal.ofBits .f32 0x3A000000#32
/-- The constant added to the variance. -/
abbrev cEps : EReal := Ideal.ofBits .f32 0x3727C5AC#32
/-- The residual's weight. -/
abbrev cAlpha : EReal := Ideal.ofBits .f32 0x3FB504F3#32

/-- A row's mean. -/
def rowMean (R : Fin 2048 → EReal) : EReal := (∑ d, R d) * cInv
/-- The reciprocal of a row's standard deviation. -/
def rowRstd (R : Fin 2048 → EReal) : EReal :=
  Ideal.rsqrt ((∑ d, (R d - rowMean R) * (R d - rowMean R)) * cInv + cEps)
/-- A row's layer normalisation with gain `g` and bias `b`. -/
def rowNorm (R g b : Fin 2048 → EReal) (d : Fin 2048) : EReal :=
  (R d - rowMean R) * rowRstd R * g d + b d

/-- The block of hidden activations: `x · (1 + scale) + shift`. -/
theorem pay1_apply (x : Vec Ideal S1x512x2048 .f32) (sc sh : Vec Ideal S1x1x2048 .f32) (r : Fin 512) (k : Fin 2048) :
    k0_pay1 (F := Ideal) x sc sh (ix2 r k) = x (ix3 0 r k) * (1 + sc (ix3 0 0 k)) + sh (ix3 0 0 k) := by
  pointwise [k0_pay1]

/-- One step of the accumulation: the gated activation of 512 hidden columns times the matching rows of the output
weights is added to what the accumulator held. -/
theorem pay3_apply (h : Vec Ideal S512x2048 .bf16) (wg wu : Vec Ideal S2048x512 .bf16) (acc : Vec Ideal S512x2048 .f32)
    (wo : Vec Ideal S512x2048 .bf16) (r : Fin 512) (d : Fin 2048) :
    k0_pay3 (F := Ideal) h wg wu acc wo (ix2 r d) = acc (ix2 r d)
      + ∑ l : Fin 512, ((∑ k : Fin 2048, h (ix2 r k) * wg (ix2 k l)) * Ideal.logistic (∑ k : Fin 2048, h (ix2 r k) * wg (ix2 k l))
          * ∑ k : Fin 2048, h (ix2 r k) * wu (ix2 k l)) * wo (ix2 l d) := by
  pointwise [k0_pay3]

/-- The accumulator starts at zero. -/
theorem pay2_apply (i : S512x2048.Idx) : k0_pay2 (F := Ideal) i = 0 := by
  pointwise [k0_pay2]

/-- A sum over 2048 columns is the sum of the sums over its four tiles of 512. -/
theorem sum_four (f : Fin 2048 → EReal) :
    ∑ d, f d = ∑ x : Fin 512, f ⟨x.val, by omega⟩ + ∑ x : Fin 512, f ⟨512 + x.val, by omega⟩
      + ∑ x : Fin 512, f ⟨1024 + x.val, by omega⟩ + ∑ x : Fin 512, f ⟨1536 + x.val, by omega⟩ := by
  rw [← Fin.sum_mul_add_fin 4 512 f]
  rw [Fin.sum_univ_four]
  have e0 : ∀ x : Fin 512, (⟨(0 : Fin 4).val * 512 + x.val, Fin.mul_add_lt_of_eq_mul rfl 0 x⟩ : Fin 2048) = ⟨x.val, by omega⟩ :=
    fun x => Fin.ext (by simp)
  simp only [e0]
  rfl

section Tiles
variable (R : Fin 512 → Fin 2048 → EReal) (a b u e : FVec Ideal S512x512 .f32) (c : FVec Ideal S512x512 .f32)
  (g : FVec Ideal S1x512 .f32) (v57 : Vec Ideal S512x512 .f32) (v61 : Vec Ideal S1x512x512 .f32) (v65 : Vec Ideal S1x1x512 .f32) (v69 : Vec Ideal S512x512 .f32)
  (ha : ∀ (r : Fin 512) (x : Fin 512), a (ix2 r x) = R r ⟨x.val, by omega⟩)
  (hb : ∀ (r : Fin 512) (x : Fin 512), b (ix2 r x) = R r ⟨512 + x.val, by omega⟩)
  (hc : ∀ (r : Fin 512) (x : Fin 512), k0_pay11 (F := Ideal) c g v57 (ix2 r x) = R r ⟨1024 + x.val, by omega⟩)
  (hd : ∀ (r : Fin 512) (x : Fin 512), k0_pay12 (F := Ideal) v61 v65 v69 (ix2 r x) = R r ⟨1536 + x.val, by omega⟩)

include ha hb hc hd in
/-- The mean of a row, from its four tiles. -/
theorem mean_tiles (r : Fin 512) : k0_pay13 (F := Ideal) a b c g v57 v61 v65 v69 (ix2 r 0) = rowMean (R r) := by
  pointwise [k0_pay13]
  simp only [ha, hb, hc, hd]
  rw [rowMean, sum_four]

include ha hb hc hd in
/-- The reciprocal standard deviation of a row, from its four tiles. -/
theorem rstd_tiles (r : Fin 512) :
    k0_pay16 (F := Ideal) (k0_pay11 c g v57) (k0_pay12 v61 v65 v69) (k0_pay13 a b c g v57 v61 v65 v69)
      (k0_pay14 a b c g v57 v61 v65 v69) (k0_pay15 a b c g v57 v61 v65 v69) (ix2 r 0) = rowRstd (R r) := by
  pointwise [k0_pay16, k0_pay14, k0_pay15]
  simp only [ha, hb, hc, hd, mean_tiles R a b c g v57 v61 v65 v69 ha hb hc hd]
  rw [rowRstd, sum_four]

end Tiles

/-- The normalised first tile. -/
theorem pay17_apply (a b c : FVec Ideal S512x512 .f32) (mu q : FVec Ideal S512x1 .f32) (v97 : FVec Ideal S512x512 .f32)
    (lg lb : Vec Ideal S1x512 .f32) (r x : Fin 512) :
    k0_pay17 (F := Ideal) a b c mu q v97 lg lb (ix3 0 r x)
      = (a (ix2 r x) - mu (ix2 r 0)) * k0_pay16 (F := Ideal) b c mu q v97 (ix2 r 0) * lg (ix2 0 x) + lb (ix2 0 x) := by
  pointwise [k0_pay17]

/-- The normalised second tile. -/
theorem pay18_apply (a b c : FVec Ideal S512x512 .f32) (mu q : FVec Ideal S512x1 .f32) (v97 : FVec Ideal S512x512 .f32)
    (lg lb : Vec Ideal S1x512 .f32) (r x : Fin 512) :
    k0_pay4 (F := Ideal) (k0_pay18 (F := Ideal) a b c mu q v97 lg lb) (ix3 0 r x)
      = (a (ix2 r x) - mu (ix2 r 0)) * k0_pay16 (F := Ideal) b c mu q v97 (ix2 r 0) * lg (ix2 0 x) + lb (ix2 0 x) := by
  pointwise [k0_pay4, k0_pay18]

/-- The normalised third tile. -/
theorem pay5_apply (a : FVec Ideal S512x512 .f32) (mu rs : FVec Ideal S512x1 .f32)
    (lg lb : Vec Ideal S1x512 .f32) (r x : Fin 512) :
    k0_pay5 (F := Ideal) a mu rs lg lb (ix3 0 r x)
      = (a (ix2 r x) - mu (ix2 r 0)) * rs (ix2 r 0) * lg (ix2 0 x) + lb (ix2 0 x) := by
  pointwise [k0_pay5]

/-- The normalised fourth tile. -/
theorem pay6_apply (a : FVec Ideal S512x512 .f32) (mu rs : FVec Ideal S512x1 .f32)
    (lg lb : Vec Ideal S1x512 .f32) (r x : Fin 512) :
    k0_pay6 (F := Ideal) a mu rs lg lb (ix3 0 r x)
      = (a (ix2 r x) - mu (ix2 r 0)) * rs (ix2 r 0) * lg (ix2 0 x) + lb (ix2 0 x) := by
  pointwise [k0_pay6]

/-- The residual row of a block: `α · x + (1 + gate) · acc`. -/
def resRow (X : Vec Ideal S1x512x2048 .f32) (G : Vec Ideal S1x1x2048 .f32) (Z : Vec Ideal S512x2048 .f32) (r : Fin 512) (d : Fin 2048) : EReal :=
  cAlpha * X (ix3 0 r d) + (1 + G (ix3 0 0 d)) * Z (ix2 r d)

end Cert.Kernel2Ideal.Ffn
-- ==== Proof.Ffn.Cases.lean ====
module

public import proofs.«01_k».proof.Proof.Ffn.Payloads
public import Idealize.ShloMosaic.Lib.Pipeline.ReadBack

@[expose] public section

set_option maxRecDepth 16384
noncomputable section
open Idealize.ShloMosaic Idealize.ShloMosaic.TcCoe Idealize.SL.Sem
open Idealize.ShloMosaic.Pipeline (Dat)
namespace Cert.Kernel2Ideal.Ffn
open Cert.Kernel2Ideal Cert.Kernel2Ideal.Gen
variable (m : (ℓ : Loc nD τ sig) → Buf (Elt Ideal) ℓ)

/-- The hidden block written at the first point of a run of 11. -/
theorem hid_A (c : Dev nD) (t : Fin cfg0.N) (h0 : t.val % 11 = 0) :
    (outsAt0 m c t.val t.isLt).2.1 = k0_pay1 (iblk m c 0 t) (iblk m c 1 t) (iblk m c 2 t) := by
  rw [outsAt0_A m c t h0 (by omega)]
  frame_out

/-- Past the first hidden block the modulated rows stay as the point before left them. -/
theorem hid_BC (c : Dev nD) (t : Fin cfg0.N) (h0 : ¬ t.val % 11 = 0) :
    (outsAt0 m c t.val t.isLt).2.1 = (outsAt0 m c (t.val - 1) (Nat.lt_of_le_of_lt (Nat.sub_le _ _) t.isLt)).2.1 := by
  by_cases h1 : t.val % 11 = 10
  · rw [outsAt0_C m c t h0 h1]
    rfl
  · rw [outsAt0_B m c t h0 h1]
    rfl

/-- At the first hidden block the accumulator is the first product. -/
theorem acc_A (c : Dev nD) (t : Fin cfg0.N) (h0 : t.val % 11 = 0) :
    (outsAt0 m c t.val t.isLt).2.2 = k0_pay3 (outsAt0 m c t.val t.isLt).2.1 (iblk m c 4 t) (iblk m c 5 t) (k0_pay2 (F := Ideal)) (iblk m c 6 t) := by
  rw [hid_A m c t h0, outsAt0_A m c t h0 (by omega)]
  frame_out

/-- Past the first hidden block the accumulator grows by the product. -/
theorem acc_BC (c : Dev nD) (t : Fin cfg0.N) (h0 : ¬ t.val % 11 = 0) :
    (outsAt0 m c t.val t.isLt).2.2 = k0_pay3 (outsAt0 m c t.val t.isLt).2.1 (iblk m c 4 t) (iblk m c 5 t) (outsAt0 m c (t.val - 1) (Nat.lt_of_le_of_lt (Nat.sub_le _ _) t.isLt)).2.2 (iblk m c 6 t) := by
  rw [hid_BC m c t h0]
  by_cases h1 : t.val % 11 = 10
  · rw [outsAt0_C m c t h0 h1]
    frame_out
    simp only [read_unread_whole]
  · rw [outsAt0_B m c t h0 h1]
    frame_out
    simp only [read_unread_whole]

section ResTiles
variable (X : Vec Ideal S1x512x2048 .f32) (G : Vec Ideal S1x1x2048 .f32) (Z : Vec Ideal S512x2048 .f32)

/-- The residual's first tile. -/
theorem tile0 (r x : Fin 512) :
    k0_pay7 (F := Ideal) (View.ld X (Rect.unit ![0, 0, 0] ![1, 512, 512] inb_S1x512x2048_S1x512x512_0_0_0))
      (View.ld G (Rect.unit ![0, 0, 0] ![1, 1, 512] inb_S1x1x2048_S1x1x512_0_0_0))
      (View.ld Z (Rect.unit ![0, 0] ![512, 512] inb_S512x2048_S512x512_0_0)) (ix2 r x) = resRow X G Z r ⟨x.val, by omega⟩ := by
  pointwise [k0_pay7, resRow]

/-- The residual's second tile. -/
theorem tile1 (r x : Fin 512) :
    k0_pay8 (F := Ideal) (View.ld X (Rect.unit ![0, 0, 512] ![1, 512, 512] inb_S1x512x2048_S1x512x512_0_0_512))
      (View.ld G (Rect.unit ![0, 0, 512] ![1, 1, 512] inb_S1x1x2048_S1x1x512_0_0_512))
      (View.ld Z (Rect.unit ![0, 512] ![512, 512] inb_S512x2048_S512x512_0_512)) (ix2 r x) = resRow X G Z r ⟨512 + x.val, by omega⟩ := by
  pointwise [k0_pay8, resRow]

/-- The residual's third tile. -/
theorem tile2 (r x : Fin 512) :
    k0_pay11 (F := Ideal) (k0_pay9 (View.ld X (Rect.unit ![0, 0, 1024] ![1, 512, 512] inb_S1x512x2048_S1x512x512_0_0_1024)))
      (k0_pay10 (View.ld G (Rect.unit ![0, 0, 1024] ![1, 1, 512] inb_S1x1x2048_S1x1x512_0_0_1024)))
      (View.ld Z (Rect.unit ![0, 1024] ![512, 512] inb_S512x2048_S512x512_0_1024)) (ix2 r x) = resRow X G Z r ⟨1024 + x.val, by omega⟩ := by
  pointwise [k0_pay11, k0_pay9, k0_pay10, resRow]

/-- The residual's fourth tile. -/
theorem tile3 (r x : Fin 512) :
    k0_pay12 (F := Ideal) (View.ld X (Rect.unit ![0, 0, 1536] ![1, 512, 512] inb_S1x512x2048_S1x512x512_0_0_1536))
      (View.ld G (Rect.unit ![0, 0, 1536] ![1, 1, 512] inb_S1x1x2048_S1x1x512_0_0_1536))
      (View.ld Z (Rect.unit ![0, 1536] ![512, 512] inb_S512x2048_S512x512_0_1536)) (ix2 r x) = resRow X G Z r ⟨1536 + x.val, by omega⟩ := by
  pointwise [k0_pay12, resRow]

end ResTiles

/-- At the last hidden block the output is the normalised row. -/
theorem out_C (c : Dev nD) (t : Fin cfg0.N) (h0 : ¬ t.val % 11 = 0) (h1 : t.val % 11 = 10) (r : Fin 512) (d : Fin 2048) :
    (outsAt0 m c t.val t.isLt).1 (ix3 0 r d)
      = rowNorm (resRow (iblk m c 0 t) (iblk m c 3 t) (outsAt0 m c t.val t.isLt).2.2 r)
          (fun d => (iblk m c 7 t : Vec Ideal S1x2048 .f32) (ix2 0 d)) (fun d => (iblk m c 8 t : Vec Ideal S1x2048 .f32) (ix2 0 d)) d := by
  rw [acc_BC m c t h0, hid_BC m c t h0]
  rw [outsAt0_C m c t h0 h1]
  dsimp only
  frame_open
  simp (disch := decide) only [↓ View.readCov_fill]
  frame_out
  simp only [read_unread_whole]
  generalize k0_pay3 (F := Ideal) _ _ _ _ _ = Z
  canon_tiles x h
  all_goals
    idx_vars x
    obtain rfl := Fin.fin_one_eq_zero x0
  case piece0 =>
    have hr : x1 = r := Fin.ext (by omega)
    have hlt : 1536 + x2.val < 2048 := by clear h0 h1 h2; omega
    have hd : d = ⟨1536 + x2.val, hlt⟩ := Fin.ext h2
    subst hr hd
    rw [pay6_apply, rstd_tiles (resRow (iblk m c 0 t) (iblk m c 3 t) Z) _ _ _ _ _ _ _ _ (tile0 _ _ _) (tile1 _ _ _) (tile2 _ _ _) (tile3 _ _ _),
      mean_tiles (resRow (iblk m c 0 t) (iblk m c 3 t) Z) _ _ _ _ _ _ _ _ (tile0 _ _ _) (tile1 _ _ _) (tile2 _ _ _) (tile3 _ _ _), tile3, rowNorm]
    pointwise
  case piece1 =>
    have hr : x1 = r := Fin.ext (by omega)
    have hlt : 1024 + x2.val < 2048 := by clear h0 h1 h2; omega
    have hd : d = ⟨1024 + x2.val, hlt⟩ := Fin.ext h2
    subst hr hd
    rw [pay5_apply, rstd_tiles (resRow (iblk m c 0 t) (iblk m c 3 t) Z) _ _ _ _ _ _ _ _ (tile0 _ _ _) (tile1 _ _ _) (tile2 _ _ _) (tile3 _ _ _),
      mean_tiles (resRow (iblk m c 0 t) (iblk m c 3 t) Z) _ _ _ _ _ _ _ _ (tile0 _ _ _) (tile1 _ _ _) (tile2 _ _ _) (tile3 _ _ _), tile2, rowNorm]
    pointwise
  case piece2 =>
    have hr : x1 = r := Fin.ext (by omega)
    have hlt : 512 + x2.val < 2048 := by clear h0 h1 h2; omega
    have hd : d = ⟨512 + x2.val, hlt⟩ := Fin.ext h2
    subst hr hd
    rw [pay18_apply, rstd_tiles (resRow (iblk m c 0 t) (iblk m c 3 t) Z) _ _ _ _ _ _ _ _ (tile0 _ _ _) (tile1 _ _ _) (tile2 _ _ _) (tile3 _ _ _),
      mean_tiles (resRow (iblk m c 0 t) (iblk m c 3 t) Z) _ _ _ _ _ _ _ _ (tile0 _ _ _) (tile1 _ _ _) (tile2 _ _ _) (tile3 _ _ _), tile1, rowNorm]
    pointwise
  case piece3 =>
    have hr : x1 = r := Fin.ext (by omega)
    have hlt : x2.val < 2048 := by clear h0 h1 h2; omega
    have hd : d = ⟨x2.val, hlt⟩ := Fin.ext h2
    subst hr hd
    rw [pay17_apply, rstd_tiles (resRow (iblk m c 0 t) (iblk m c 3 t) Z) _ _ _ _ _ _ _ _ (tile0 _ _ _) (tile1 _ _ _) (tile2 _ _ _) (tile3 _ _ _),
      mean_tiles (resRow (iblk m c 0 t) (iblk m c 3 t) Z) _ _ _ _ _ _ _ _ (tile0 _ _ _) (tile1 _ _ _) (tile2 _ _ _) (tile3 _ _ _), tile0, rowNorm]
    pointwise

end Cert.Kernel2Ideal.Ffn
-- ==== Proof.Ffn.Array.lean ====
module

public import proofs.«01_k».proof.Proof.Ffn.Cases
public import Idealize.ShloMosaic.Lib.Pipeline.ValueKit.Held

@[expose] public section

set_option maxRecDepth 16384
noncomputable section
open Idealize.ShloMosaic Idealize.ShloMosaic.TcCoe Idealize.SL.Sem
open Idealize.ShloMosaic.Pipeline (Dat)

/-! The feed-forward kernel's result array as a function of its argument arrays: the 11 points of a run hold one hidden
block and add up one row block's accumulator, and the run's last point writes the normalised row block back. -/

namespace Cert.Kernel2Ideal.Ffn
open Cert.Kernel2Ideal Cert.Kernel2Ideal.Gen

/-- Which block of its array each window reads at grid point `t`: batch `t/176`, row block `t/11 % 16`, hidden tile
`t % 11`. -/
theorem idx_val : ∀ t : Fin cfg0.N,
    win0_0.index t = ![t.val / 176, t.val / 11 % 16, 0] ∧ win0_1.index t = ![t.val / 176, 0, 0]
    ∧ win0_2.index t = ![t.val / 176, 0, 0] ∧ win0_3.index t = ![t.val / 176, 0, 0]
    ∧ win0_4.index t = ![0, t.val % 11] ∧ win0_5.index t = ![0, t.val % 11 + 11] ∧ win0_6.index t = ![t.val % 11, 0]
    ∧ win0_7.index t = ![0, 0] ∧ win0_8.index t = ![0, 0] ∧ win0_9.index t = ![t.val / 176, t.val / 11 % 16, 0] :=
  (by decide +kernel : ∀ t : Fin grid0.N, _)

section Spec
variable (X : Vec Ideal S2x8192x2048 .f32) (SC SH G : Vec Ideal S2x1x2048 .f32) (W : Vec Ideal S2048x11264 .f32)
  (O : Vec Ideal S5632x2048 .f32) (LG LB : Vec Ideal S2048 .f32)

/-- The modulated row entering the feed-forward layer. -/
def modRow (b : Fin 2) (s : Fin 8192) (k : Fin 2048) : EReal := X (ix3 b s k) * (1 + SC (ix3 b 0 k)) + SH (ix3 b 0 k)
/-- Column `j` of the first projection of a row. -/
def proj (h : Fin 2048 → EReal) (j : Fin 11264) : EReal := ∑ k : Fin 2048, h k * W (ix2 k j)
/-- The gated activation of hidden column `l`. -/
def act (h : Fin 2048 → EReal) (l : Fin 5632) : EReal :=
  proj W h ⟨l.val, by omega⟩ * Ideal.logistic (proj W h ⟨l.val, by omega⟩) * proj W h ⟨l.val + 5632, by omega⟩
/-- The second projection of a row. -/
def down (h : Fin 2048 → EReal) (d : Fin 2048) : EReal := ∑ l : Fin 5632, act W h l * O (ix2 l d)
/-- The row before normalisation. -/
def preRow (b : Fin 2) (s : Fin 8192) (d : Fin 2048) : EReal :=
  cAlpha * X (ix3 b s d) + (1 + G (ix3 b 0 d)) * down W O (modRow X SC SH b s) d
/-- The feed-forward layer with its residual and layer normalisation, at one element. -/
def ffnAt (b : Fin 2) (s : Fin 8192) (d : Fin 2048) : EReal :=
  rowNorm (preRow X SC SH G W O b s) (fun d => LG (ix1 d)) (fun d => LB (ix1 d)) d
end Spec

variable (m : (ℓ : Loc nD τ sig) → Buf (Elt Ideal) ℓ)

/-- The eight argument arrays. -/
abbrev aX (c : Dev nD) : Vec Ideal S2x8192x2048 .f32 := m ((c : Thread nD τ).loc main_arg0)
/-- The scale rows. -/
abbrev aSC (c : Dev nD) : Vec Ideal S2x1x2048 .f32 := m ((c : Thread nD τ).loc main_arg1)
/-- The shift rows. -/
abbrev aSH (c : Dev nD) : Vec Ideal S2x1x2048 .f32 := m ((c : Thread nD τ).loc main_arg2)
/-- The gate rows. -/
abbrev aG (c : Dev nD) : Vec Ideal S2x1x2048 .f32 := m ((c : Thread nD τ).loc main_arg3)
/-- The first weight matrix. -/
abbrev aW (c : Dev nD) : Vec Ideal S2048x11264 .f32 := m ((c : Thread nD τ).loc main_arg4)
/-- The second weight matrix. -/
abbrev aO (c : Dev nD) : Vec Ideal S5632x2048 .f32 := m ((c : Thread nD τ).loc main_arg5)
/-- The normalisation's scale. -/
abbrev aLG (c : Dev nD) : Vec Ideal S2048 .f32 := m ((c : Thread nD τ).loc main_arg6)
/-- The normalisation's shift. -/
abbrev aLB (c : Dev nD) : Vec Ideal S2048 .f32 := m ((c : Thread nD τ).loc main_arg7)

section Blocks
variable (c : Dev nD) (t : Fin cfg0.N)

/-- A point's batch is one of the two. -/
theorem bound_b : t.val / 176 < 2 := by have h : t.val < 352 := t.isLt; omega
/-- A row of a point's block is a row of the array. -/
theorem bound_s (r : Fin 512) : t.val / 11 % 16 * 512 + r.val < 8192 := by omega
/-- A column of a point's hidden block is a hidden column. -/
theorem bound_l (l : Fin 512) : t.val % 11 * 512 + l.val < 5632 := by omega

/-- Row `r` of the block of `x` at point `t`. -/
theorem blk_x (r : Fin 512) (k : Fin 2048) :
    (iblk m c 0 t : Vec Ideal S1x512x2048 .f32) (ix3 0 r k) = aX m c (ix3 ⟨t.val / 176, bound_b t⟩ ⟨t.val / 11 % 16 * 512 + r.val, bound_s t r⟩ k) := by
  blk_ext [iblk, V, idx_val t]
/-- The scale of the batch at point `t`. -/
theorem blk_sc (k : Fin 2048) :
    (iblk m c 1 t : Vec Ideal S1x1x2048 .f32) (ix3 0 0 k) = aSC m c (ix3 ⟨t.val / 176, bound_b t⟩ 0 k) := by
  blk_ext [iblk, V, idx_val t]
/-- The shift of the batch at point `t`. -/
theorem blk_sh (k : Fin 2048) :
    (iblk m c 2 t : Vec Ideal S1x1x2048 .f32) (ix3 0 0 k) = aSH m c (ix3 ⟨t.val / 176, bound_b t⟩ 0 k) := by
  blk_ext [iblk, V, idx_val t]
/-- The gate of the batch at point `t`. -/
theorem blk_g (k : Fin 2048) :
    (iblk m c 3 t : Vec Ideal S1x1x2048 .f32) (ix3 0 0 k) = aG m c (ix3 ⟨t.val / 176, bound_b t⟩ 0 k) := by
  blk_ext [iblk, V, idx_val t]
/-- The gate columns of the first weights at point `t`. -/
theorem blk_wg (k : Fin 2048) (l : Fin 512) :
    (iblk m c 4 t : Vec Ideal S2048x512 .bf16) (ix2 k l) = aW m c (ix2 k ⟨t.val % 11 * 512 + l.val, by omega⟩) := by
  blk_ext [iblk, V, idx_val t]
/-- The up columns of the first weights at point `t`. -/
theorem blk_wu (k : Fin 2048) (l : Fin 512) :
    (iblk m c 5 t : Vec Ideal S2048x512 .bf16) (ix2 k l) = aW m c (ix2 k ⟨t.val % 11 * 512 + l.val + 5632, by omega⟩) := by
  blk_ext [iblk, V, idx_val t]
/-- The rows of the second weights at point `t`. -/
theorem blk_wo (l : Fin 512) (d : Fin 2048) :
    (iblk m c 6 t : Vec Ideal S512x2048 .bf16) (ix2 l d) = aO m c (ix2 ⟨t.val % 11 * 512 + l.val, by omega⟩ d) := by
  blk_ext [iblk, V, idx_val t]
/-- The normalisation's gain. -/
theorem blk_lg (d : Fin 2048) :
    (iblk m c 7 t : Vec Ideal S1x2048 .f32) (ix2 0 d) = aLG m c (ix1 d) := by
  blk_ext! [iblk, V, idx_val t]
/-- The normalisation's bias. -/
theorem blk_lb (d : Fin 2048) :
    (iblk m c 8 t : Vec Ideal S1x2048 .f32) (ix2 0 d) = aLB m c (ix1 d) := by
  blk_ext! [iblk, V, idx_val t]

/-- The row a grid point's hidden block holds at block row `r`. -/
abbrev rowOf (r : Fin 512) : Fin 2048 → EReal :=
  modRow (aX m c) (aSC m c) (aSH m c) ⟨t.val / 176, bound_b t⟩ ⟨t.val / 11 % 16 * 512 + r.val, bound_s t r⟩

/-- At every point of a run the hidden scratch holds the run's modulated rows. -/
theorem hid_eq (r : Fin 512) (k : Fin 2048) :
    (outsAt0 m c t.val t.isLt).2.1 (ix2 r k) = rowOf m c t r k := by
  have h := Pipeline.eq_of_write_hold (fun n h => (outsAt0 m c n h).2.1) 11
    (fun t => k0_pay1 (F := Ideal) (iblk m c 0 t) (iblk m c 1 t) (iblk m c 2 t)) (hid_A m c) (hid_BC m c) t
  refine (congrFun h (ix2 r k)).trans ?_
  refine (pay1_apply _ _ _ r k).trans ?_
  rw [blk_x, blk_sc, blk_sh]
  have e : 11 * (t.val / 11) / 11 = t.val / 11 := by omega
  have e' : 11 * (t.val / 11) / 176 = t.val / 176 := by omega
  simp only [rowOf, modRow, e, e']

/-- What one grid point adds to the accumulator. -/
def stepTerm (i : S512x2048.Idx) : EReal :=
  ∑ l : Fin 512, act (aW m c) (rowOf m c t (i 0)) ⟨t.val % 11 * 512 + l.val, bound_l t l⟩ * aO m c (ix2 ⟨t.val % 11 * 512 + l.val, bound_l t l⟩ (i 1))

/-- The payload of one accumulation step at point `t` is what the accumulator held plus the point's term. -/
theorem step_apply (acc : Vec Ideal S512x2048 .f32) (r : Fin 512) (d : Fin 2048) :
    k0_pay3 (F := Ideal) (outsAt0 m c t.val t.isLt).2.1 (iblk m c 4 t) (iblk m c 5 t) acc (iblk m c 6 t) (ix2 r d)
      = acc (ix2 r d) + stepTerm m c t (ix2 r d) := by
  refine (pay3_apply _ _ _ _ _ r d).trans ?_
  simp only [hid_eq, blk_wg, blk_wu, blk_wo]
  rfl

/-- At the last point of a run the accumulator holds the second projection of the run's rows. -/
theorem acc_eq (ht : t.val % 11 = 10) (r : Fin 512) (d : Fin 2048) :
    (outsAt0 m c t.val t.isLt).2.2 (ix2 r d) = down (aW m c) (aO m c) (rowOf m c t r) d := by
  refine (Pipeline.eq_sum_fin_of_reset_step_apply_of_flush (fun n h => (outsAt0 m c n h).2.2) 11 (fun _ => 0) (stepTerm m c)
    (fun t h i => ?_) (fun t h i => ?_) t ht (ix2 r d)).trans ?_
  · obtain ⟨r, d, rfl⟩ : ∃ r d, i = ix2 r d := ⟨i 0, i 1, eq_ix2 i⟩
    refine (congrFun (acc_A m c t h) _).trans ((step_apply m c t _ r d).trans ?_)
    rw [pay2_apply]
  · obtain ⟨r, d, rfl⟩ : ∃ r d, i = ix2 r d := ⟨i 0, i 1, eq_ix2 i⟩
    exact (congrFun (acc_BC m c t h) _).trans (step_apply m c t _ r d)
  · refine (zero_add _).trans ?_
    refine Fin.sum_mul_add_congr (f := fun l => act (aW m c) (rowOf m c t r) l * aO m c (ix2 l d)) fun s l hl => ?_
    have e : (11 * (t.val / 11) + s.val) % 11 = s.val := by omega
    have e1 : (11 * (t.val / 11) + s.val) / 11 = t.val / 11 := by omega
    have e2 : (11 * (t.val / 11) + s.val) / 176 = t.val / 176 := by omega
    simp only [rowOf, e, e1, e2]
    rfl

/-- The block written back at the last point of a run. -/
theorem out_eq (ht : t.val % 11 = 10) (r : Fin 512) (d : Fin 2048) :
    (outsAt0 m c t.val t.isLt).1 (ix3 0 r d)
      = ffnAt (aX m c) (aSC m c) (aSH m c) (aG m c) (aW m c) (aO m c) (aLG m c) (aLB m c)
          ⟨t.val / 176, bound_b t⟩ ⟨t.val / 11 % 16 * 512 + r.val, bound_s t r⟩ d := by
  refine (out_C m c t (by omega) ht r d).trans ?_
  have e : resRow (iblk m c 0 t) (iblk m c 3 t) (outsAt0 m c t.val t.isLt).2.2 r
      = preRow (aX m c) (aSC m c) (aSH m c) (aG m c) (aW m c) (aO m c) ⟨t.val / 176, bound_b t⟩ ⟨t.val / 11 % 16 * 512 + r.val, bound_s t r⟩ := by
    funext d
    unfold resRow preRow
    rw [acc_eq m c t ht, blk_x, blk_g]
  rw [e]
  simp only [blk_lg, blk_lb]
  rfl

end Blocks

/-- Where row `r` of the output block of point `t` lies in the result array. -/
theorem out_place (t : Fin cfg0.N) (r : Fin 512) (d : Fin 2048) :
    (((View.whole main_v4).slice (win0_9.rect t)).emb (ix3 0 r d) : S2x8192x2048.Idx)
      = ix3 ⟨t.val / 176, bound_b t⟩ ⟨t.val / 11 % 16 * 512 + r.val, bound_s t r⟩ d := by
  blk_ext [idx_val t]

/-- The feed-forward layer of the arguments as an array. -/
def ffnArr (c : Dev nD) : Vec Ideal S2x8192x2048 .f32 := fun i =>
  ffnAt (aX m c) (aSC m c) (aSH m c) (aG m c) (aW m c) (aO m c) (aLG m c) (aLB m c) (i 0) (i 1) (i 2)

/-- The block written back at the last point of a run is that block of the array. -/
theorem block_eq (c : Dev nD) (t : Fin cfg0.N) (ht : t.val % 11 = 10) (y : S1x512x2048.Idx) :
    (outsAt0 m c t.val t.isLt).1 y = ffnArr m c (((View.whole main_v4).slice (win0_9.rect t)).emb y) := by
  obtain ⟨y0, r, d, rfl⟩ : ∃ y0 r d, y = ix3 y0 r d := ⟨y 0, y 1, y 2, eq_ix3 y⟩
  obtain rfl := Fin.fin_one_eq_zero y0
  refine (out_eq m c t ht r d).trans ?_
  exact (congrArg (ffnArr m c) (out_place t r d)).symm

/-- The kernel's result array is the feed-forward layer of the arguments. -/
theorem final (c : Dev nD) : (dats m 0 c).arrAt 9 cfg0.N = ffnArr m c := by
  refine (dats m 0 c).arrAt_eq_of_covers 9 _ (by decide +kernel) fun t hf y => ?_
  rw [after0_9]
  exact block_eq m c t ((flush0_9 t).mp hf) _

end Cert.Kernel2Ideal.Ffn
-- ==== Proof.Ffn.Reference.lean ====
module

public import proofs.«01_k».proof.Proof.Gen.Reference2Ideal.Run
public import proofs.«01_k».proof.Proof.Ffn.Array

@[expose] public section

set_option maxRecDepth 16384
noncomputable section
open Idealize.ShloMosaic Idealize.ShloMosaic.TcCoe Idealize.SL.Sem

/-! The feed-forward reference's result, read at an element. -/

namespace Cert.Reference2Ideal.Ffn
open Cert.Reference2Ideal Cert.Reference2Ideal.Gen Cert.Reference2Ideal.Value
open Cert.Kernel2Ideal.Ffn (cInv cEps cAlpha rowMean rowRstd rowNorm modRow proj act down preRow ffnAt)

section Stages
variable (X : FVec Ideal S2x8192x2048 .f32) (SC SH G : FVec Ideal S2x1x2048 .f32) (W : FVec Ideal S2048x11264 .f32)
  (O : FVec Ideal S5632x2048 .f32) (LG LB : FVec Ideal S2048 .f32)

/-- The modulated rows. -/
def modT : FVec Ideal S2x8192x2048 .f32 :=
  addf (mulf X (broadcastInDim S2x8192x2048 ![0, 1, 2] bcast_S2x1x2048_S2x8192x2048_0_1_2 (addf (broadcastInDim S2x1x2048 ![] bcast_S_S2x1x2048 (constant S_ .f32 0x3F800000#32)) SC)))
    (broadcastInDim S2x8192x2048 ![0, 1, 2] bcast_S2x1x2048_S2x8192x2048_0_1_2 SH)
/-- The first projection. -/
def projT (h : FVec Ideal S2x8192x2048 .f32) : FVec Ideal S2x8192x11264 .f32 :=
  Host.dotGeneral dot_S2x8192x2048_S2048x11264_S2x8192x11264_2_0_01_1_n_n none h W
/-- The gated activation. -/
def actT (p : FVec Ideal S2x8192x11264 .f32) : FVec Ideal S2x8192x5632 .f32 :=
  mulf (mulf (extractStridedSlice S2x8192x5632 ![0, 0, 0] p slices_S2x8192x11264_S2x8192x5632_0_0_0)
      (Host.divf (broadcastInDim S2x8192x5632 ![] bcast_S_S2x8192x5632 (constant S_ .f32 0x3F800000#32))
        (addf (broadcastInDim S2x8192x5632 ![] bcast_S_S2x8192x5632 (constant S_ .f32 0x3F800000#32))
          (Host.exp (Host.negf (extractStridedSlice S2x8192x5632 ![0, 0, 0] p slices_S2x8192x11264_S2x8192x5632_0_0_0))))))
    (extractStridedSlice S2x8192x5632 ![0, 0, 5632] p slices_S2x8192x11264_S2x8192x5632_0_0_5632)
/-- The rows before normalisation. -/
def preT (a : FVec Ideal S2x8192x5632 .f32) : FVec Ideal S2x8192x2048 .f32 :=
  addf (mulf (broadcastInDim S2x8192x2048 ![] bcast_S_S2x8192x2048 (constant S_ .f32 0x3FB504F3#32)) X)
    (mulf (broadcastInDim S2x8192x2048 ![0, 1, 2] bcast_S2x1x2048_S2x8192x2048_0_1_2 (addf (broadcastInDim S2x1x2048 ![] bcast_S_S2x1x2048 (constant S_ .f32 0x3F800000#32)) G))
      (Host.dotGeneral dot_S2x8192x5632_S5632x2048_S2x8192x2048_2_0_01_1_n_n none a O))
/-- A sum over each row, divided by its length. -/
def avgT (z : FVec Ideal S2x8192x2048 .f32) : FVec Ideal S2x8192x1 .f32 :=
  Host.divf (broadcastInDim S2x8192x1 ![0, 1] bcast_S2x8192_S2x8192x1_0_1 (Host.reduceAdd z (constant S_ .f32 0x00000000#32) reducesTo_S2x8192x2048_S2x8192_d2 h_S_))
    (broadcastInDim S2x8192x1 ![] bcast_S_S2x8192x1 (constant S_ .f32 0x45000000#32))
/-- Each row less its mean. -/
def cenT (z : FVec Ideal S2x8192x2048 .f32) : FVec Ideal S2x8192x2048 .f32 :=
  subf z (broadcastInDim S2x8192x2048 ![0, 1, 2] bcast_S2x8192x1_S2x8192x2048_0_1_2 (avgT z))
/-- The layer normalisation of each row. -/
def normT (z : FVec Ideal S2x8192x2048 .f32) : FVec Ideal S2x8192x2048 .f32 :=
  addf (mulf (mulf (cenT z) (broadcastInDim S2x8192x2048 ![0, 1, 2] bcast_S2x8192x1_S2x8192x2048_0_1_2
      (Host.rsqrt (addf (avgT (mulf (cenT z) (cenT z))) (broadcastInDim S2x8192x1 ![] bcast_S_S2x8192x1 (constant S_ .f32 0x3727C5AC#32))))))
      (broadcastInDim S2x8192x2048 ![0, 1, 2] bcast_S1x1x2048_S2x8192x2048_0_1_2 (broadcastInDim S1x1x2048 ![2] bcast_S2048_S1x1x2048_2 LG)))
    (broadcastInDim S2x8192x2048 ![0, 1, 2] bcast_S1x1x2048_S2x8192x2048_0_1_2 (broadcastInDim S1x1x2048 ![2] bcast_S2048_S1x1x2048_2 LB))

variable (b : Fin 2) (s : Fin 8192)

/-- The modulated rows, at an element. -/
theorem modT_apply (k : Fin 2048) : modT X SC SH (ix3 b s k) = modRow X SC SH b s k := by
  pointwise [modT, modRow]

/-- The first projection, at an element. -/
theorem projT_apply (h : FVec Ideal S2x8192x2048 .f32) (j : Fin 11264) : projT W h (ix3 b s j) = proj W (fun k => h (ix3 b s k)) j := by
  pointwise [projT, proj]

/-- The pattern of `2048`. -/
theorem ofBits_2048 : Ideal.ofBits .f32 0x45000000#32 = ((2048 : ℝ) : EReal) := by
  simp [Ideal.ofBits, Ideal.ieee, -EReal.coe_mul]
  norm_num

/-- The pattern of `1/2048`. -/
theorem ofBits_inv_2048 : cInv = ((1 / 2048 : ℝ) : EReal) := by
  simp [cInv, Ideal.ofBits, Ideal.ieee, -EReal.coe_mul]
  norm_num

/-- One over the sum of one and an exponential is the logistic function. -/
theorem logistic_eq (x : EReal) : Ideal.logistic x = Ideal.div 1 (1 + Ideal.exp (-x)) := rfl

/-- The gated activation, at an element. -/
theorem actT_apply (p : FVec Ideal S2x8192x11264 .f32) (l : Fin 5632) :
    actT p (ix3 b s l) = p (ix3 b s ⟨l.val, by omega⟩) * Ideal.logistic (p (ix3 b s ⟨l.val, by omega⟩)) * p (ix3 b s ⟨l.val + 5632, by omega⟩) := by
  pointwise [actT]
  simp only [logistic_eq, Nat.add_comm]

/-- The row before normalisation, at an element. -/
theorem preT_apply (a : FVec Ideal S2x8192x5632 .f32) (d : Fin 2048) :
    preT X G O a (ix3 b s d) = cAlpha * X (ix3 b s d) + (1 + G (ix3 b 0 d)) * ∑ l : Fin 5632, a (ix3 b s l) * O (ix2 l d) := by
  pointwise [preT]

/-- A row's mean. -/
theorem avgT_apply (z : FVec Ideal S2x8192x2048 .f32) : avgT z (ix3 b s 0) = (∑ d : Fin 2048, z (ix3 b s d)) * cInv := by
  pointwise [avgT]
  rw [ofBits_2048, Ideal.div_coe (by norm_num), ofBits_inv_2048]

/-- A row less its mean, at an element. -/
theorem cenT_apply (z : FVec Ideal S2x8192x2048 .f32) (d : Fin 2048) : cenT z (ix3 b s d) = z (ix3 b s d) - rowMean (fun d => z (ix3 b s d)) := by
  pointwise [cenT, avgT_apply, rowMean]

/-- The normalised row, at an element. -/
theorem normT_apply (z : FVec Ideal S2x8192x2048 .f32) (d : Fin 2048) :
    normT LG LB z (ix3 b s d) = rowNorm (fun d => z (ix3 b s d)) (fun d => LG (ix1 d)) (fun d => LB (ix1 d)) d := by
  pointwise [normT, avgT_apply, cenT_apply, rowNorm, rowRstd]

end Stages

/-- The reference's result is the feed-forward layer of the same arguments. -/
theorem ref_eq (m : (ℓ : Loc nD τ sig) → Buf (Elt Ideal) ℓ) (c : Dev nD) (b : Fin 2) (s : Fin 8192) (d : Fin 2048) :
    (res_out0 m c : FVec Ideal S2x8192x2048 .f32) (ix3 b s d) = ffnAt (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) b s d := by
  have e : (res_out0 m c : FVec Ideal S2x8192x2048 .f32) = normT (m ((c.tc : Thread nD τ).loc main_arg6)) (m ((c.tc : Thread nD τ).loc main_arg7))
      (preT (m ((c.tc : Thread nD τ).loc main_arg0)) (m ((c.tc : Thread nD τ).loc main_arg3)) (m ((c.tc : Thread nD τ).loc main_arg5))
        (actT (projT (m ((c.tc : Thread nD τ).loc main_arg4)) (modT (m ((c.tc : Thread nD τ).loc main_arg0)) (m ((c.tc : Thread nD τ).loc main_arg1)) (m ((c.tc : Thread nD τ).loc main_arg2)))))) := rfl
  rw [e, normT_apply]
  simp only [preT_apply, actT_apply, projT_apply, modT_apply]
  rfl

end Cert.Reference2Ideal.Ffn
-- ==== Proof.Scan.HostDefs.lean ====
module

public import proofs.«01_k».proof.Proof.Gen.KernelIdeal.Frame
public import Idealize.ShloMosaic.Lib.Pipeline.ValueKit

@[expose] public section

set_option maxRecDepth 16384
noncomputable section
open Idealize.ShloMosaic Idealize.ShloMosaic.TcCoe Idealize.SL.Sem
namespace Cert.KernelIdeal.Scan
open Cert.KernelIdeal Cert.KernelIdeal.Gen

variable (m : (ℓ : Loc nD τ sig) → Buf (Elt Ideal) ℓ) (c : Dev nD)

/-- The argument arg0. -/
def h_arg0 : FVec Ideal S2x8192x2048 .f32 := m ((c : Thread nD τ).loc main_arg0)

/-- The argument arg1. -/
def h_arg1 : FVec Ideal S128x64 .f32 := m ((c : Thread nD τ).loc main_arg1)

/-- The argument arg2. -/
def h_arg2 : FVec Ideal S128x64 .f32 := m ((c : Thread nD τ).loc main_arg2)

/-- The argument arg3. -/
def h_arg3 : FVec Ideal S128 .f32 := m ((c : Thread nD τ).loc main_arg3)

/-- The argument arg4. -/
def h_arg4 : FVec Ideal S128x64x16 .f32 := m ((c : Thread nD τ).loc main_arg4)

/-- The argument arg5. -/
def h_arg5 : FVec Ideal S128x64x16 .f32 := m ((c : Thread nD τ).loc main_arg5)

/-- The argument arg6. -/
def h_arg6 : FVec Ideal S128x16x64 .f32 := m ((c : Thread nD τ).loc main_arg6)

/-- The argument arg7. -/
def h_arg7 : FVec Ideal S128x16x64 .f32 := m ((c : Thread nD τ).loc main_arg7)

/-- The argument arg8. -/
def h_arg8 : FVec Ideal S2048 .f32 := m ((c : Thread nD τ).loc main_arg8)

/-- The array `v0` of the host code, as the region finds it. -/
def h_v0 : FVec Ideal S128 .f32 := V m c main_v0

/-- The array `v1` of the host code, as the region finds it. -/
def h_v1 : FVec Ideal S128x1 .f32 := V m c main_v1

/-- The array `v2` of the host code, as the region finds it. -/
def h_v2 : FVec Ideal S128x64 .f32 := V m c main_v2

/-- The array `v3` of the host code, as the region finds it. -/
def h_v3 : FVec Ideal S128x64 .f32 := V m c main_v3

/-- The array `v4` of the host code, as the region finds it. -/
def h_v4 : FVec Ideal S128x64 .f32 := V m c main_v4

/-- The array `v5` of the host code, as the region finds it. -/
def h_v5 : FVec Ideal S128x64 .f32 := V m c main_v5

/-- The array `v6` of the host code, as the region finds it. -/
def h_v6 : FVec Ideal S128x64 .f32 := V m c main_v6

/-- The array `v7` of the host code, as the region finds it. -/
def h_v7 : FVec Ideal S128x64 .f32 := V m c main_v7

/-- The array `v8` of the host code, as the region finds it. -/
def h_v8 : FVec Ideal S128x64 .f32 := V m c main_v8

/-- The array `v9` of the host code, as the region finds it. -/
def h_v9 : FVec Ideal S128x64 .f32 := V m c main_v9

/-- The array `v10` of the host code, as the region finds it. -/
def h_v10 : FVec Ideal S128x64 .f32 := V m c main_v10

/-- The array `v11` of the host code, as the region finds it. -/
def h_v11 : FVec Ideal S128x64 .f32 := V m c main_v11

/-- The array `v12` of the host code, as the region finds it. -/
def h_v12 : FVec Ideal S128x64 .f32 := V m c main_v12

/-- The array `v13` of the host code, as the region finds it. -/
def h_v13 : FVec Ideal S128x64 .f32 := V m c main_v13

/-- The array `v14` of the host code, as the region finds it. -/
def h_v14 : FVec Ideal S128x64 .f32 := V m c main_v14

/-- The array `v15` of the host code, as the region finds it. -/
def h_v15 : FVec Ideal S128x64 .f32 := V m c main_v15

/-- The array `cst` of the host code, as the region finds it. -/
def h_cst : FVec Ideal S_ .f32 := V m c main_cst

/-- The array `v16` of the host code, as the region finds it. -/
def h_v16 : FVec Ideal S128x64 .f32 := V m c main_v16

/-- The array `v17` of the host code, as the region finds it. -/
def h_v17 : FVec Ideal S128x64 .f32 := V m c main_v17

/-- The array `v18` of the host code, as the region finds it. -/
def h_v18 : FVec Ideal S128x64 .f32 := V m c main_v18

/-- The array `v19` of the host code, as the region finds it. -/
def h_v19 : FVec Ideal S128x64 .f32 := V m c main_v19

/-- The array `v20` of the host code, as the region finds it. -/
def h_v20 : FVec Ideal S128x64 .f32 := V m c main_v20

/-- The array `v21` of the host code, as the region finds it. -/
def h_v21 : FVec Ideal S128x64 .f32 := V m c main_v21

/-- The array `v22` of the host code, as the region finds it. -/
def h_v22 : FVec Ideal S128x64 .f32 := V m c main_v22

/-- The array `v23` of the host code, as the region finds it. -/
def h_v23 : FVec Ideal S128x64 .f32 := V m c main_v23

/-- The array `v24` of the host code, as the region finds it. -/
def h_v24 : FVec Ideal S128x64 .f32 := V m c main_v24

/-- The array `v25` of the host code, as the region finds it. -/
def h_v25 : FVec Ideal S128x64 .f32 := V m c main_v25

/-- The array `v26` of the host code, as the region finds it. -/
def h_v26 : FVec Ideal S128x64x1 .f32 := V m c main_v26

/-- The array `v27` of the host code, as the region finds it. -/
def h_v27 : FVec Ideal S128x64x1 .f32 := V m c main_v27

/-- The array `v28` of the host code, as the region finds it. -/
def h_v28 : FVec Ideal S128x64x16 .f32 := V m c main_v28

/-- The array `v29` of the host code, as the region finds it. -/
def h_v29 : FVec Ideal S128x64x16 .f32 := V m c main_v29

/-- The array `v30` of the host code, as the region finds it. -/
def h_v30 : FVec Ideal S128x64x16 .f32 := V m c main_v30

/-- The array `v31` of the host code, as the region finds it. -/
def h_v31 : FVec Ideal S128x64x16 .f32 := V m c main_v31

/-- The array `v32` of the host code, as the region finds it. -/
def h_v32 : FVec Ideal S128x64x16 .f32 := V m c main_v32

/-- The array `v33` of the host code, as the region finds it. -/
def h_v33 : FVec Ideal S128x64x16 .f32 := V m c main_v33

/-- The array `v34` of the host code, as the region finds it. -/
def h_v34 : FVec Ideal S128x64x16 .f32 := V m c main_v34

/-- The array `v35` of the host code, as the region finds it. -/
def h_v35 : FVec Ideal S128x64x16 .f32 := V m c main_v35

/-- The array `v36` of the host code, as the region finds it. -/
def h_v36 : FVec Ideal S128x64x16 .f32 := V m c main_v36

/-- The array `v37` of the host code, as the region finds it. -/
def h_v37 : FVec Ideal S128x64x16 .f32 := V m c main_v37

/-- The array `v38` of the host code, as the region finds it. -/
def h_v38 : FVec Ideal S128x64 .f32 := V m c main_v38

/-- The array `v39` of the host code, as the region finds it. -/
def h_v39 : FVec Ideal S128x64 .f32 := V m c main_v39

/-- The array `v40` of the host code, as the region finds it. -/
def h_v40 : FVec Ideal S128x64 .f32 := V m c main_v40

/-- The array `v41` of the host code, as the region finds it. -/
def h_v41 : FVec Ideal S128x64 .f32 := V m c main_v41

/-- The array `v42` of the host code, as the region finds it. -/
def h_v42 : FVec Ideal S128x64 .f32 := V m c main_v42

/-- The array `v43` of the host code, as the region finds it. -/
def h_v43 : FVec Ideal S128x64 .f32 := V m c main_v43

/-- The array `v44` of the host code, as the region finds it. -/
def h_v44 : FVec Ideal S128x64 .f32 := V m c main_v44

/-- The array `v45` of the host code, as the region finds it. -/
def h_v45 : FVec Ideal S128x64 .f32 := V m c main_v45

/-- The array `v46` of the host code, as the region finds it. -/
def h_v46 : FVec Ideal S128x64 .f32 := V m c main_v46

/-- The array `v47` of the host code, as the region finds it. -/
def h_v47 : FVec Ideal S128x64 .f32 := V m c main_v47

/-- The array `v48` of the host code, as the region finds it. -/
def h_v48 : FVec Ideal S128x64 .f32 := V m c main_v48

/-- The array `v49` of the host code, as the region finds it. -/
def h_v49 : FVec Ideal S128x64 .f32 := V m c main_v49

/-- The array `v50` of the host code, as the region finds it. -/
def h_v50 : FVec Ideal S128x64 .f32 := V m c main_v50

/-- The array `v51` of the host code, as the region finds it. -/
def h_v51 : FVec Ideal S128x64 .f32 := V m c main_v51

/-- The array `v52` of the host code, as the region finds it. -/
def h_v52 : FVec Ideal S128x64 .f32 := V m c main_v52

/-- The array `v53` of the host code, as the region finds it. -/
def h_v53 : FVec Ideal S128x64 .f32 := V m c main_v53

/-- The array `v54` of the host code, as the region finds it. -/
def h_v54 : FVec Ideal S128x64 .f32 := V m c main_v54

/-- The array `v55` of the host code, as the region finds it. -/
def h_v55 : FVec Ideal S128x64 .f32 := V m c main_v55

/-- The array `v56` of the host code, as the region finds it. -/
def h_v56 : FVec Ideal S128x64 .f32 := V m c main_v56

/-- The array `v57` of the host code, as the region finds it. -/
def h_v57 : FVec Ideal S128x64 .f32 := V m c main_v57

/-- The array `v58` of the host code, as the region finds it. -/
def h_v58 : FVec Ideal S128x64 .f32 := V m c main_v58

/-- The array `v59` of the host code, as the region finds it. -/
def h_v59 : FVec Ideal S128x64 .f32 := V m c main_v59

/-- The array `v60` of the host code, as the region finds it. -/
def h_v60 : FVec Ideal S128x64 .f32 := V m c main_v60

/-- The array `v61` of the host code, as the region finds it. -/
def h_v61 : FVec Ideal S128x64 .f32 := V m c main_v61

/-- The array `v62` of the host code, as the region finds it. -/
def h_v62 : FVec Ideal S128x64 .f32 := V m c main_v62

/-- The array `v63` of the host code, as the region finds it. -/
def h_v63 : FVec Ideal S128x64 .f32 := V m c main_v63

/-- The array `v64` of the host code, as the region finds it. -/
def h_v64 : FVec Ideal S128x64 .f32 := V m c main_v64

/-- The array `v65` of the host code, as the region finds it. -/
def h_v65 : FVec Ideal S128x64 .f32 := V m c main_v65

/-- The array `v66` of the host code, as the region finds it. -/
def h_v66 : FVec Ideal S128x64 .f32 := V m c main_v66

/-- The array `v67` of the host code, as the region finds it. -/
def h_v67 : FVec Ideal S128x64 .f32 := V m c main_v67

/-- The array `v68` of the host code, as the region finds it. -/
def h_v68 : FVec Ideal S128x64 .f32 := V m c main_v68

/-- The array `v69` of the host code, as the region finds it. -/
def h_v69 : FVec Ideal S128x64 .f32 := V m c main_v69

/-- The array `v70` of the host code, as the region finds it. -/
def h_v70 : FVec Ideal S128x64 .f32 := V m c main_v70

/-- The array `v71` of the host code, as the region finds it. -/
def h_v71 : FVec Ideal S128x64 .f32 := V m c main_v71

/-- The array `v72` of the host code, as the region finds it. -/
def h_v72 : FVec Ideal S128x64 .f32 := V m c main_v72

/-- The array `v73` of the host code, as the region finds it. -/
def h_v73 : FVec Ideal S128x64 .f32 := V m c main_v73

/-- The array `v74` of the host code, as the region finds it. -/
def h_v74 : IVec S16x16 32 := V m c main_v74

/-- The array `v75` of the host code, as the region finds it. -/
def h_v75 : IVec S16x16 32 := V m c main_v75

/-- The array `c` of the host code, as the region finds it. -/
def h_c : IVec S_ 32 := V m c main_c

/-- The array `v76` of the host code, as the region finds it. -/
def h_v76 : IVec S16x16 32 := V m c main_v76

/-- The array `v77` of the host code, as the region finds it. -/
def h_v77 : IVec S16x16 32 := V m c main_v77

/-- The array `v78` of the host code, as the region finds it. -/
def h_v78 : IVec S16x16 1 := V m c main_v78

/-- The array `v79` of the host code, as the region finds it. -/
def h_v79 : FVec Ideal S16x16 .f32 := V m c main_v79

/-- The array `v80` of the host code, as the region finds it. -/
def h_v80 : FVec Ideal S8x16x64x16 .f32 := V m c main_v80

/-- The array `v81` of the host code, as the region finds it. -/
def h_v81 : FVec Ideal S8x16x16x64 .f32 := V m c main_v81

/-- The array `v82` of the host code, as the region finds it. -/
def h_v82 : FVec Ideal S8x16x16x1x64 .f32 := V m c main_v82

/-- The array `v83` of the host code, as the region finds it. -/
def h_v83 : FVec Ideal S1x16x1x16x1 .f32 := V m c main_v83

/-- The array `v84` of the host code, as the region finds it. -/
def h_v84 : FVec Ideal S8x16x16x16x64 .f32 := V m c main_v84

/-- The array `v85` of the host code, as the region finds it. -/
def h_v85 : FVec Ideal S8x16x16x16x64 .f32 := V m c main_v85

/-- The array `v86` of the host code, as the region finds it. -/
def h_v86 : FVec Ideal S8x16x16x16x64 .f32 := V m c main_v86

/-- The array `v87` of the host code, as the region finds it. -/
def h_v87 : FVec Ideal S8x256x1024 .f32 := V m c main_v87

/-- The array `v88` of the host code, as the region finds it. -/
def h_v88 : FVec Ideal S8x16x64x16 .f32 := V m c main_v88

/-- The array `v89` of the host code, as the region finds it. -/
def h_v89 : FVec Ideal S8x16x16x64 .f32 := V m c main_v89

/-- The array `v90` of the host code, as the region finds it. -/
def h_v90 : FVec Ideal S8x16x16x1x64 .f32 := V m c main_v90

/-- The array `v91` of the host code, as the region finds it. -/
def h_v91 : FVec Ideal S1x16x1x16x1 .f32 := V m c main_v91

/-- The array `v92` of the host code, as the region finds it. -/
def h_v92 : FVec Ideal S8x16x16x16x64 .f32 := V m c main_v92

/-- The array `v93` of the host code, as the region finds it. -/
def h_v93 : FVec Ideal S8x16x16x16x64 .f32 := V m c main_v93

/-- The array `v94` of the host code, as the region finds it. -/
def h_v94 : FVec Ideal S8x16x16x16x64 .f32 := V m c main_v94

/-- The array `v95` of the host code, as the region finds it. -/
def h_v95 : FVec Ideal S8x256x1024 .f32 := V m c main_v95

/-- The array `v96` of the host code, as the region finds it. -/
def h_v96 : FVec Ideal S8x256x2048 .f32 := V m c main_v96

/-- The array `v97` of the host code, as the region finds it. -/
def h_v97 : FVec Ideal S8x256x2048 .bf16 := V m c main_v97

/-- The array `v98` of the host code, as the region finds it. -/
def h_v98 : FVec Ideal S8x16x16x64 .f32 := V m c main_v98

/-- The array `v99` of the host code, as the region finds it. -/
def h_v99 : FVec Ideal S8x16x64x16 .f32 := V m c main_v99

/-- The array `v100` of the host code, as the region finds it. -/
def h_v100 : FVec Ideal S8x16x64x1x16 .f32 := V m c main_v100

/-- The array `v101` of the host code, as the region finds it. -/
def h_v101 : FVec Ideal S1x16x1x16x1 .f32 := V m c main_v101

/-- The array `v102` of the host code, as the region finds it. -/
def h_v102 : FVec Ideal S8x16x64x16x16 .f32 := V m c main_v102

/-- The array `v103` of the host code, as the region finds it. -/
def h_v103 : FVec Ideal S8x16x64x16x16 .f32 := V m c main_v103

/-- The array `v104` of the host code, as the region finds it. -/
def h_v104 : FVec Ideal S8x16x64x16x16 .f32 := V m c main_v104

/-- The array `v105` of the host code, as the region finds it. -/
def h_v105 : FVec Ideal S8x1024x256 .f32 := V m c main_v105

/-- The array `v106` of the host code, as the region finds it. -/
def h_v106 : FVec Ideal S128x16x64 .f32 := V m c main_v106

/-- The array `v107` of the host code, as the region finds it. -/
def h_v107 : FVec Ideal S8x16x16x64 .f32 := V m c main_v107

/-- The array `v108` of the host code, as the region finds it. -/
def h_v108 : FVec Ideal S8x16x64x16 .f32 := V m c main_v108

/-- The array `v109` of the host code, as the region finds it. -/
def h_v109 : FVec Ideal S8x16x64x1x16 .f32 := V m c main_v109

/-- The array `v110` of the host code, as the region finds it. -/
def h_v110 : FVec Ideal S1x16x1x16x1 .f32 := V m c main_v110

/-- The array `v111` of the host code, as the region finds it. -/
def h_v111 : FVec Ideal S8x16x64x16x16 .f32 := V m c main_v111

/-- The array `v112` of the host code, as the region finds it. -/
def h_v112 : FVec Ideal S8x16x64x16x16 .f32 := V m c main_v112

/-- The array `v113` of the host code, as the region finds it. -/
def h_v113 : FVec Ideal S8x16x64x16x16 .f32 := V m c main_v113

/-- The array `v114` of the host code, as the region finds it. -/
def h_v114 : FVec Ideal S8x1024x256 .f32 := V m c main_v114

/-- The array `v115` of the host code, as the region finds it. -/
def h_v115 : FVec Ideal S8x2048x256 .f32 := V m c main_v115

/-- The array `v116` of the host code, as the region finds it. -/
def h_v116 : FVec Ideal S8x2048x256 .bf16 := V m c main_v116

/-- The array `v117` of the host code, as the region finds it. -/
def h_v117 : FVec Ideal S8x1x1024 .f32 := V m c main_v117

/-- The array `v118` of the host code, as the region finds it. -/
def h_v118 : FVec Ideal S8x1x1024 .f32 := V m c main_v118

/-- The array `v119` of the host code, as the region finds it. -/
def h_v119 : FVec Ideal S8x1x1024 .f32 := V m c main_v119

/-- The array `v120` of the host code, as the region finds it. -/
def h_v120 : FVec Ideal S8x1x1024 .f32 := V m c main_v120

/-- The array `v121` of the host code, as the region finds it. -/
def h_v121 : FVec Ideal S2x16x8x64x2048 .f32 := V m c main_v121

/-- The array `v122` of the host code, as the region finds it. -/
def h_v122 : FVec Ideal S2x16x64x8x2048 .f32 := V m c main_v122

/-- The array `v123` of the host code, as the region finds it. -/
def h_v123 : FVec Ideal S2x8192x2048 .f32 := V m c main_v123

/-- The array `v124` of the host code, as the region finds it. -/
def h_v124 : FVec Ideal S8x1x256 .f32 := V m c main_v124

end Cert.KernelIdeal.Scan
-- ==== Proof.Scan.Host1.lean ====
module

public import proofs.«01_k».proof.Proof.Scan.HostDefs

@[expose] public section

set_option maxRecDepth 16384
noncomputable section
open Idealize.ShloMosaic Idealize.ShloMosaic.TcCoe Idealize.SL.Sem
namespace Cert.KernelIdeal.Scan
open Cert.KernelIdeal Cert.KernelIdeal.Gen

variable (m : (ℓ : Loc nD τ sig) → Buf (Elt Ideal) ℓ) (c : Dev nD)

/-- The operation that writes `v0`. -/
theorem h_v0_eq : h_v0 m c = Host.exp (h_arg3 m c) := rfl

/-- The operation that writes `v1`. -/
theorem h_v1_eq : h_v1 m c = broadcastInDim S128x1 ![0] bcast_S128_S128x1_0 (h_v0 m c) := rfl

/-- The operation that writes `v2`. -/
theorem h_v2_eq : h_v2 m c = broadcastInDim S128x64 ![0, 1] bcast_S128x1_S128x64_0_1 (h_v1 m c) := rfl

/-- The operation that writes `v3`. -/
theorem h_v3_eq : h_v3 m c = mulf (h_arg1 m c) (h_v2 m c) := rfl

/-- The operation that writes `v4`. -/
theorem h_v4_eq : h_v4 m c = Host.exp (h_v3 m c) := rfl

/-- The operation that writes `v5`. -/
theorem h_v5_eq : h_v5 m c = broadcastInDim S128x64 ![0, 1] bcast_S128x1_S128x64_0_1 (h_v1 m c) := rfl

/-- The operation that writes `v6`. -/
theorem h_v6_eq : h_v6 m c = mulf (h_arg2 m c) (h_v5 m c) := rfl

/-- The operation that writes `v7`. -/
theorem h_v7_eq : h_v7 m c = Host.cos (h_v6 m c) := rfl

/-- The operation that writes `v8`. -/
theorem h_v8_eq : h_v8 m c = mulf (h_v4 m c) (h_v7 m c) := rfl

/-- The operation that writes `v9`. -/
theorem h_v9_eq : h_v9 m c = broadcastInDim S128x64 ![0, 1] bcast_S128x1_S128x64_0_1 (h_v1 m c) := rfl

/-- The operation that writes `v10`. -/
theorem h_v10_eq : h_v10 m c = mulf (h_arg2 m c) (h_v9 m c) := rfl

/-- The operation that writes `v11`. -/
theorem h_v11_eq : h_v11 m c = Host.sin (h_v10 m c) := rfl

/-- The operation that writes `v12`. -/
theorem h_v12_eq : h_v12 m c = mulf (h_v4 m c) (h_v11 m c) := rfl

/-- The operation that writes `v13`. -/
theorem h_v13_eq : h_v13 m c = mulf (h_arg1 m c) (h_arg1 m c) := rfl

/-- The operation that writes `v14`. -/
theorem h_v14_eq : h_v14 m c = mulf (h_arg2 m c) (h_arg2 m c) := rfl

/-- The operation that writes `v15`. -/
theorem h_v15_eq : h_v15 m c = addf (h_v13 m c) (h_v14 m c) := rfl

/-- The operation that writes `cst`. -/
theorem h_cst_eq : h_cst m c = constant S_ .f32 0x3F800000#32 := rfl

/-- The operation that writes `v16`. -/
theorem h_v16_eq : h_v16 m c = broadcastInDim S128x64 ![] bcast_S_S128x64 (h_cst m c) := rfl

/-- The operation that writes `v17`. -/
theorem h_v17_eq : h_v17 m c = subf (h_v8 m c) (h_v16 m c) := rfl

/-- The operation that writes `v18`. -/
theorem h_v18_eq : h_v18 m c = mulf (h_v17 m c) (h_arg1 m c) := rfl

/-- The operation that writes `v19`. -/
theorem h_v19_eq : h_v19 m c = mulf (h_v12 m c) (h_arg2 m c) := rfl

/-- The operation that writes `v20`. -/
theorem h_v20_eq : h_v20 m c = addf (h_v18 m c) (h_v19 m c) := rfl

/-- The operation that writes `v21`. -/
theorem h_v21_eq : h_v21 m c = Host.divf (h_v20 m c) (h_v15 m c) := rfl

/-- The operation that writes `v22`. -/
theorem h_v22_eq : h_v22 m c = mulf (h_v12 m c) (h_arg1 m c) := rfl

/-- The operation that writes `v23`. -/
theorem h_v23_eq : h_v23 m c = mulf (h_v17 m c) (h_arg2 m c) := rfl

/-- The operation that writes `v24`. -/
theorem h_v24_eq : h_v24 m c = subf (h_v22 m c) (h_v23 m c) := rfl

/-- The operation that writes `v25`. -/
theorem h_v25_eq : h_v25 m c = Host.divf (h_v24 m c) (h_v15 m c) := rfl

/-- The operation that writes `v26`. -/
theorem h_v26_eq : h_v26 m c = broadcastInDim S128x64x1 ![0, 1] bcast_S128x64_S128x64x1_0_1 (h_v21 m c) := rfl

/-- The operation that writes `v27`. -/
theorem h_v27_eq : h_v27 m c = broadcastInDim S128x64x1 ![0, 1] bcast_S128x64_S128x64x1_0_1 (h_v25 m c) := rfl

/-- The operation that writes `v28`. -/
theorem h_v28_eq : h_v28 m c = broadcastInDim S128x64x16 ![0, 1, 2] bcast_S128x64x1_S128x64x16_0_1_2 (h_v26 m c) := rfl

/-- The operation that writes `v29`. -/
theorem h_v29_eq : h_v29 m c = mulf (h_v28 m c) (h_arg4 m c) := rfl

/-- The operation that writes `v30`. -/
theorem h_v30_eq : h_v30 m c = broadcastInDim S128x64x16 ![0, 1, 2] bcast_S128x64x1_S128x64x16_0_1_2 (h_v27 m c) := rfl

/-- The operation that writes `v31`. -/
theorem h_v31_eq : h_v31 m c = mulf (h_v30 m c) (h_arg5 m c) := rfl

/-- The operation that writes `v32`. -/
theorem h_v32_eq : h_v32 m c = subf (h_v29 m c) (h_v31 m c) := rfl

/-- The operation that writes `v33`. -/
theorem h_v33_eq : h_v33 m c = broadcastInDim S128x64x16 ![0, 1, 2] bcast_S128x64x1_S128x64x16_0_1_2 (h_v26 m c) := rfl

/-- The operation that writes `v34`. -/
theorem h_v34_eq : h_v34 m c = mulf (h_v33 m c) (h_arg5 m c) := rfl

/-- The operation that writes `v35`. -/
theorem h_v35_eq : h_v35 m c = broadcastInDim S128x64x16 ![0, 1, 2] bcast_S128x64x1_S128x64x16_0_1_2 (h_v27 m c) := rfl

/-- The operation that writes `v36`. -/
theorem h_v36_eq : h_v36 m c = mulf (h_v35 m c) (h_arg4 m c) := rfl

/-- The operation that writes `v37`. -/
theorem h_v37_eq : h_v37 m c = addf (h_v34 m c) (h_v36 m c) := rfl

end Cert.KernelIdeal.Scan
-- ==== Proof.Scan.Host2.lean ====
module

public import proofs.«01_k».proof.Proof.Scan.HostDefs

@[expose] public section

set_option maxRecDepth 16384
noncomputable section
open Idealize.ShloMosaic Idealize.ShloMosaic.TcCoe Idealize.SL.Sem
namespace Cert.KernelIdeal.Scan
open Cert.KernelIdeal Cert.KernelIdeal.Gen

variable (m : (ℓ : Loc nD τ sig) → Buf (Elt Ideal) ℓ) (c : Dev nD)

/-- The operation that writes `v38`. -/
theorem h_v38_eq : h_v38 m c = mulf (h_v8 m c) (h_v8 m c) := rfl

/-- The operation that writes `v39`. -/
theorem h_v39_eq : h_v39 m c = mulf (h_v12 m c) (h_v12 m c) := rfl

/-- The operation that writes `v40`. -/
theorem h_v40_eq : h_v40 m c = subf (h_v38 m c) (h_v39 m c) := rfl

/-- The operation that writes `v41`. -/
theorem h_v41_eq : h_v41 m c = mulf (h_v8 m c) (h_v12 m c) := rfl

/-- The operation that writes `v42`. -/
theorem h_v42_eq : h_v42 m c = mulf (h_v12 m c) (h_v8 m c) := rfl

/-- The operation that writes `v43`. -/
theorem h_v43_eq : h_v43 m c = addf (h_v41 m c) (h_v42 m c) := rfl

/-- The operation that writes `v44`. -/
theorem h_v44_eq : h_v44 m c = mulf (h_v40 m c) (h_v40 m c) := rfl

/-- The operation that writes `v45`. -/
theorem h_v45_eq : h_v45 m c = mulf (h_v43 m c) (h_v43 m c) := rfl

/-- The operation that writes `v46`. -/
theorem h_v46_eq : h_v46 m c = subf (h_v44 m c) (h_v45 m c) := rfl

/-- The operation that writes `v47`. -/
theorem h_v47_eq : h_v47 m c = mulf (h_v40 m c) (h_v43 m c) := rfl

/-- The operation that writes `v48`. -/
theorem h_v48_eq : h_v48 m c = mulf (h_v43 m c) (h_v40 m c) := rfl

/-- The operation that writes `v49`. -/
theorem h_v49_eq : h_v49 m c = addf (h_v47 m c) (h_v48 m c) := rfl

/-- The operation that writes `v50`. -/
theorem h_v50_eq : h_v50 m c = mulf (h_v46 m c) (h_v46 m c) := rfl

/-- The operation that writes `v51`. -/
theorem h_v51_eq : h_v51 m c = mulf (h_v49 m c) (h_v49 m c) := rfl

/-- The operation that writes `v52`. -/
theorem h_v52_eq : h_v52 m c = subf (h_v50 m c) (h_v51 m c) := rfl

/-- The operation that writes `v53`. -/
theorem h_v53_eq : h_v53 m c = mulf (h_v46 m c) (h_v49 m c) := rfl

/-- The operation that writes `v54`. -/
theorem h_v54_eq : h_v54 m c = mulf (h_v49 m c) (h_v46 m c) := rfl

/-- The operation that writes `v55`. -/
theorem h_v55_eq : h_v55 m c = addf (h_v53 m c) (h_v54 m c) := rfl

/-- The operation that writes `v56`. -/
theorem h_v56_eq : h_v56 m c = mulf (h_v52 m c) (h_v52 m c) := rfl

/-- The operation that writes `v57`. -/
theorem h_v57_eq : h_v57 m c = mulf (h_v55 m c) (h_v55 m c) := rfl

/-- The operation that writes `v58`. -/
theorem h_v58_eq : h_v58 m c = subf (h_v56 m c) (h_v57 m c) := rfl

/-- The operation that writes `v59`. -/
theorem h_v59_eq : h_v59 m c = mulf (h_v52 m c) (h_v55 m c) := rfl

/-- The operation that writes `v60`. -/
theorem h_v60_eq : h_v60 m c = mulf (h_v55 m c) (h_v52 m c) := rfl

/-- The operation that writes `v61`. -/
theorem h_v61_eq : h_v61 m c = addf (h_v59 m c) (h_v60 m c) := rfl

/-- The operation that writes `v62`. -/
theorem h_v62_eq : h_v62 m c = mulf (h_v58 m c) (h_v58 m c) := rfl

/-- The operation that writes `v63`. -/
theorem h_v63_eq : h_v63 m c = mulf (h_v61 m c) (h_v61 m c) := rfl

/-- The operation that writes `v64`. -/
theorem h_v64_eq : h_v64 m c = subf (h_v62 m c) (h_v63 m c) := rfl

/-- The operation that writes `v65`. -/
theorem h_v65_eq : h_v65 m c = mulf (h_v58 m c) (h_v61 m c) := rfl

/-- The operation that writes `v66`. -/
theorem h_v66_eq : h_v66 m c = mulf (h_v61 m c) (h_v58 m c) := rfl

/-- The operation that writes `v67`. -/
theorem h_v67_eq : h_v67 m c = addf (h_v65 m c) (h_v66 m c) := rfl

/-- The operation that writes `v68`. -/
theorem h_v68_eq : h_v68 m c = mulf (h_v64 m c) (h_v64 m c) := rfl

/-- The operation that writes `v69`. -/
theorem h_v69_eq : h_v69 m c = mulf (h_v67 m c) (h_v67 m c) := rfl

/-- The operation that writes `v70`. -/
theorem h_v70_eq : h_v70 m c = subf (h_v68 m c) (h_v69 m c) := rfl

/-- The operation that writes `v71`. -/
theorem h_v71_eq : h_v71 m c = mulf (h_v64 m c) (h_v67 m c) := rfl

/-- The operation that writes `v72`. -/
theorem h_v72_eq : h_v72 m c = mulf (h_v67 m c) (h_v64 m c) := rfl

/-- The operation that writes `v73`. -/
theorem h_v73_eq : h_v73 m c = addf (h_v71 m c) (h_v72 m c) := rfl

/-- The operation that writes `v80`. -/
theorem h_v80_eq : h_v80 m c = shapeCast S8x16x64x16 (h_v32 m c) shapeCasts_S128x64x16_S8x16x64x16 := rfl

/-- The operation that writes `v81`. -/
theorem h_v81_eq : h_v81 m c = transpose S8x16x16x64 [0, 1, 3, 2] (h_v80 m c) transposes_S8x16x64x16_S8x16x16x64_0_1_3_2 := rfl

/-- The operation that writes `v82`. -/
theorem h_v82_eq : h_v82 m c = broadcastInDim S8x16x16x1x64 ![0, 1, 2, 4] bcast_S8x16x16x64_S8x16x16x1x64_0_1_2_4 (h_v81 m c) := rfl

end Cert.KernelIdeal.Scan
-- ==== Proof.Scan.Host3.lean ====
module

public import proofs.«01_k».proof.Proof.Scan.HostDefs

@[expose] public section

set_option maxRecDepth 16384
noncomputable section
open Idealize.ShloMosaic Idealize.ShloMosaic.TcCoe Idealize.SL.Sem
namespace Cert.KernelIdeal.Scan
open Cert.KernelIdeal Cert.KernelIdeal.Gen

variable (m : (ℓ : Loc nD τ sig) → Buf (Elt Ideal) ℓ) (c : Dev nD)

/-- The operation that writes `v83`. -/
theorem h_v83_eq : h_v83 m c = broadcastInDim S1x16x1x16x1 ![1, 3] bcast_S16x16_S1x16x1x16x1_1_3 (h_v79 m c) := rfl

/-- The operation that writes `v84`. -/
theorem h_v84_eq : h_v84 m c = broadcastInDim S8x16x16x16x64 ![0, 1, 2, 3, 4] bcast_S8x16x16x1x64_S8x16x16x16x64_0_1_2_3_4 (h_v82 m c) := rfl

/-- The operation that writes `v85`. -/
theorem h_v85_eq : h_v85 m c = broadcastInDim S8x16x16x16x64 ![0, 1, 2, 3, 4] bcast_S1x16x1x16x1_S8x16x16x16x64_0_1_2_3_4 (h_v83 m c) := rfl

/-- The operation that writes `v86`. -/
theorem h_v86_eq : h_v86 m c = mulf (h_v84 m c) (h_v85 m c) := rfl

/-- The operation that writes `v87`. -/
theorem h_v87_eq : h_v87 m c = shapeCast S8x256x1024 (h_v86 m c) shapeCasts_S8x16x16x16x64_S8x256x1024 := rfl

/-- The operation that writes `v88`. -/
theorem h_v88_eq : h_v88 m c = shapeCast S8x16x64x16 (h_v37 m c) shapeCasts_S128x64x16_S8x16x64x16 := rfl

/-- The operation that writes `v89`. -/
theorem h_v89_eq : h_v89 m c = transpose S8x16x16x64 [0, 1, 3, 2] (h_v88 m c) transposes_S8x16x64x16_S8x16x16x64_0_1_3_2 := rfl

/-- The operation that writes `v90`. -/
theorem h_v90_eq : h_v90 m c = broadcastInDim S8x16x16x1x64 ![0, 1, 2, 4] bcast_S8x16x16x64_S8x16x16x1x64_0_1_2_4 (h_v89 m c) := rfl

/-- The operation that writes `v91`. -/
theorem h_v91_eq : h_v91 m c = broadcastInDim S1x16x1x16x1 ![1, 3] bcast_S16x16_S1x16x1x16x1_1_3 (h_v79 m c) := rfl

/-- The operation that writes `v92`. -/
theorem h_v92_eq : h_v92 m c = broadcastInDim S8x16x16x16x64 ![0, 1, 2, 3, 4] bcast_S8x16x16x1x64_S8x16x16x16x64_0_1_2_3_4 (h_v90 m c) := rfl

/-- The operation that writes `v93`. -/
theorem h_v93_eq : h_v93 m c = broadcastInDim S8x16x16x16x64 ![0, 1, 2, 3, 4] bcast_S1x16x1x16x1_S8x16x16x16x64_0_1_2_3_4 (h_v91 m c) := rfl

/-- The operation that writes `v94`. -/
theorem h_v94_eq : h_v94 m c = mulf (h_v92 m c) (h_v93 m c) := rfl

/-- The operation that writes `v95`. -/
theorem h_v95_eq : h_v95 m c = shapeCast S8x256x1024 (h_v94 m c) shapeCasts_S8x16x16x16x64_S8x256x1024 := rfl

/-- The operation that writes `v97`. -/
theorem h_v97_eq : h_v97 m c = truncf .bf16 (h_v96 m c) bitsLt_bf16_f32 := rfl

/-- The operation that writes `v98`. -/
theorem h_v98_eq : h_v98 m c = shapeCast S8x16x16x64 (h_arg6 m c) shapeCasts_S128x16x64_S8x16x16x64 := rfl

/-- The operation that writes `v99`. -/
theorem h_v99_eq : h_v99 m c = transpose S8x16x64x16 [0, 1, 3, 2] (h_v98 m c) transposes_S8x16x16x64_S8x16x64x16_0_1_3_2 := rfl

/-- The operation that writes `v100`. -/
theorem h_v100_eq : h_v100 m c = broadcastInDim S8x16x64x1x16 ![0, 1, 2, 4] bcast_S8x16x64x16_S8x16x64x1x16_0_1_2_4 (h_v99 m c) := rfl

/-- The operation that writes `v101`. -/
theorem h_v101_eq : h_v101 m c = broadcastInDim S1x16x1x16x1 ![1, 3] bcast_S16x16_S1x16x1x16x1_1_3 (h_v79 m c) := rfl

/-- The operation that writes `v102`. -/
theorem h_v102_eq : h_v102 m c = broadcastInDim S8x16x64x16x16 ![0, 1, 2, 3, 4] bcast_S8x16x64x1x16_S8x16x64x16x16_0_1_2_3_4 (h_v100 m c) := rfl

/-- The operation that writes `v103`. -/
theorem h_v103_eq : h_v103 m c = broadcastInDim S8x16x64x16x16 ![0, 1, 2, 3, 4] bcast_S1x16x1x16x1_S8x16x64x16x16_0_1_2_3_4 (h_v101 m c) := rfl

/-- The operation that writes `v104`. -/
theorem h_v104_eq : h_v104 m c = mulf (h_v102 m c) (h_v103 m c) := rfl

/-- The operation that writes `v105`. -/
theorem h_v105_eq : h_v105 m c = shapeCast S8x1024x256 (h_v104 m c) shapeCasts_S8x16x64x16x16_S8x1024x256 := rfl

/-- The operation that writes `v106`. -/
theorem h_v106_eq : h_v106 m c = Host.negf (h_arg7 m c) := rfl

/-- The operation that writes `v107`. -/
theorem h_v107_eq : h_v107 m c = shapeCast S8x16x16x64 (h_v106 m c) shapeCasts_S128x16x64_S8x16x16x64 := rfl

/-- The operation that writes `v108`. -/
theorem h_v108_eq : h_v108 m c = transpose S8x16x64x16 [0, 1, 3, 2] (h_v107 m c) transposes_S8x16x16x64_S8x16x64x16_0_1_3_2 := rfl

/-- The operation that writes `v109`. -/
theorem h_v109_eq : h_v109 m c = broadcastInDim S8x16x64x1x16 ![0, 1, 2, 4] bcast_S8x16x64x16_S8x16x64x1x16_0_1_2_4 (h_v108 m c) := rfl

/-- The operation that writes `v110`. -/
theorem h_v110_eq : h_v110 m c = broadcastInDim S1x16x1x16x1 ![1, 3] bcast_S16x16_S1x16x1x16x1_1_3 (h_v79 m c) := rfl

/-- The operation that writes `v111`. -/
theorem h_v111_eq : h_v111 m c = broadcastInDim S8x16x64x16x16 ![0, 1, 2, 3, 4] bcast_S8x16x64x1x16_S8x16x64x16x16_0_1_2_3_4 (h_v109 m c) := rfl

/-- The operation that writes `v112`. -/
theorem h_v112_eq : h_v112 m c = broadcastInDim S8x16x64x16x16 ![0, 1, 2, 3, 4] bcast_S1x16x1x16x1_S8x16x64x16x16_0_1_2_3_4 (h_v110 m c) := rfl

/-- The operation that writes `v113`. -/
theorem h_v113_eq : h_v113 m c = mulf (h_v111 m c) (h_v112 m c) := rfl

/-- The operation that writes `v114`. -/
theorem h_v114_eq : h_v114 m c = shapeCast S8x1024x256 (h_v113 m c) shapeCasts_S8x16x64x16x16_S8x1024x256 := rfl

/-- The operation that writes `v116`. -/
theorem h_v116_eq : h_v116 m c = truncf .bf16 (h_v115 m c) bitsLt_bf16_f32 := rfl

/-- The operation that writes `v117`. -/
theorem h_v117_eq : h_v117 m c = shapeCast S8x1x1024 (h_v8 m c) shapeCasts_S128x64_S8x1x1024 := rfl

/-- The operation that writes `v118`. -/
theorem h_v118_eq : h_v118 m c = shapeCast S8x1x1024 (h_v12 m c) shapeCasts_S128x64_S8x1x1024 := rfl

/-- The operation that writes `v119`. -/
theorem h_v119_eq : h_v119 m c = shapeCast S8x1x1024 (h_v70 m c) shapeCasts_S128x64_S8x1x1024 := rfl

/-- The operation that writes `v120`. -/
theorem h_v120_eq : h_v120 m c = shapeCast S8x1x1024 (h_v73 m c) shapeCasts_S128x64_S8x1x1024 := rfl

/-- The operation that writes `v121`. -/
theorem h_v121_eq : h_v121 m c = shapeCast S2x16x8x64x2048 (h_arg0 m c) shapeCasts_S2x8192x2048_S2x16x8x64x2048 := rfl

/-- The operation that writes `v122`. -/
theorem h_v122_eq : h_v122 m c = transpose S2x16x64x8x2048 [0, 1, 3, 2, 4] (h_v121 m c) transposes_S2x16x8x64x2048_S2x16x64x8x2048_0_1_3_2_4 := rfl

/-- The operation that writes `v123`. -/
theorem h_v123_eq : h_v123 m c = shapeCast S2x8192x2048 (h_v122 m c) shapeCasts_S2x16x64x8x2048_S2x8192x2048 := rfl

/-- The operation that writes `v124`. -/
theorem h_v124_eq : h_v124 m c = shapeCast S8x1x256 (h_arg8 m c) shapeCasts_S2048_S8x1x256 := rfl

end Cert.KernelIdeal.Scan
-- ==== Proof.Scan.Trips.lean ====
module

public import proofs.«01_k».proof.Proof.Gen.KernelIdeal.Frame
public import Idealize.ShloMosaic.Lib.Pipeline.ValueKit
public import Idealize.ShloMosaic.Lib.WritesUnit

@[expose] public section

set_option maxRecDepth 16384
noncomputable section
open Idealize.ShloMosaic Idealize.ShloMosaic.TcCoe Idealize.SL.Sem
namespace Cert.KernelIdeal.Scan
open Cert.KernelIdeal Cert.KernelIdeal.Gen

variable (𝒱 : Variants) (c : Dev nD) (bd : Option 𝒱.V) (i : grid0.Coords) (arg3 : Memref sig .tc .vmem S1x512x256 .f32) (harg3 : arg3.IsWhole) (arg4 : Memref sig .tc .vmem S1x256x2048 .bf16) (harg4 : arg4.IsWhole) (arg5 : Memref sig .tc .vmem S1x2048x256 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1x256 .f32) (harg10 : arg10.IsWhole) (arg11 : Memref sig .tc .vmem S1x512x256 .bf16) (harg11 : arg11.IsWhole) (arg12 : Memref sig .tc .vmem S512x2048 .f32) (harg12 : arg12.IsWhole) (arg13 : Memref sig .tc .vmem S1x2048 .f32) (harg13 : arg13.IsWhole) (arg14 : Memref sig .tc .vmem S8x2048 .f32) (harg14 : arg14.IsWhole)

/-- One trip of the first loop: the values it carries on and the two tiles it stores. -/
theorem t1_step (v12 : Vec Ideal S1x1x512 .f32) (v16 : Vec Ideal S1x1x512 .f32) (G : BufTy.Contents (Elt Ideal) arg12.view.ty) (init : FVec Ideal S8x512 .f32 × FVec Ideal S8x512 .f32) (k : Fin k0_t1_loop.trips) :
    st_k0_t1 (F := Ideal) 𝒱 c bd i arg3 harg3 arg4 harg4 arg5 harg5 arg6 harg6 arg7 harg7 arg8 harg8 arg9 harg9 arg10 harg10 arg11 harg11 arg12 harg12 arg13 harg13 arg14 harg14 v12 v16 G init (k.val + 1)
      = ((k0_pay8 v12 v16 (st_k0_t1 (F := Ideal) 𝒱 c bd i arg3 harg3 arg4 harg4 arg5 harg5 arg6 harg6 arg7 harg7 arg8 harg8 arg9 harg9 arg10 harg10 arg11 harg11 arg12 harg12 arg13 harg13 arg14 harg14 v12 v16 G init k.val).1.1 (st_k0_t1 (F := Ideal) 𝒱 c bd i arg3 harg3 arg4 harg4 arg5 harg5 arg6 harg6 arg7 harg7 arg8 harg8 arg9 harg9 arg10 harg10 arg11 harg11 arg12 harg12 arg13 harg13 arg14 harg14 v12 v16 G init k.val).1.2 (arg12.view.readAt (Elt Ideal) (Rect.unit (s := S512x2048) (k0_off1 k) S8x512.size (k0_off1_inb k)).toLoadRect (arg12.view.writes (Elt Ideal) G (st_k0_t1 (F := Ideal) 𝒱 c bd i arg3 harg3 arg4 harg4 arg5 harg5 arg6 harg6 arg7 harg7 arg8 harg8 arg9 harg9 arg10 harg10 arg11 harg11 arg12 harg12 arg13 harg13 arg14 harg14 v12 v16 G init k.val).2)), k0_pay9 v12 v16 (st_k0_t1 (F := Ideal) 𝒱 c bd i arg3 harg3 arg4 harg4 arg5 harg5 arg6 harg6 arg7 harg7 arg8 harg8 arg9 harg9 arg10 harg10 arg11 harg11 arg12 harg12 arg13 harg13 arg14 harg14 v12 v16 G init k.val).1.1 (st_k0_t1 (F := Ideal) 𝒱 c bd i arg3 harg3 arg4 harg4 arg5 harg5 arg6 harg6 arg7 harg7 arg8 harg8 arg9 harg9 arg10 harg10 arg11 harg11 arg12 harg12 arg13 harg13 arg14 harg14 v12 v16 G init k.val).1.2 (arg12.view.readAt (Elt Ideal) (Rect.unit (s := S512x2048) (k0_off2 k) S8x512.size (k0_off2_inb k)).toLoadRect (arg12.view.writes (Elt Ideal) G (st_k0_t1 (F := Ideal) 𝒱 c bd i arg3 harg3 arg4 harg4 arg5 harg5 arg6 harg6 arg7 harg7 arg8 harg8 arg9 harg9 arg10 harg10 arg11 harg11 arg12 harg12 arg13 harg13 arg14 harg14 v12 v16 G init k.val).2))),
         (⟨(Rect.unit (s := S512x2048) (k0_off2 k) S8x512.size (k0_off2_inb k)), k0_pay11 v12 v16 (st_k0_t1 (F := Ideal) 𝒱 c bd i arg3 harg3 arg4 harg4 arg5 harg5 arg6 harg6 arg7 harg7 arg8 harg8 arg9 harg9 arg10 harg10 arg11 harg11 arg12 harg12 arg13 harg13 arg14 harg14 v12 v16 G init k.val).1.1 (st_k0_t1 (F := Ideal) 𝒱 c bd i arg3 harg3 arg4 harg4 arg5 harg5 arg6 harg6 arg7 harg7 arg8 harg8 arg9 harg9 arg10 harg10 arg11 harg11 arg12 harg12 arg13 harg13 arg14 harg14 v12 v16 G init k.val).1.2 (arg12.view.readAt (Elt Ideal) (Rect.unit (s := S512x2048) (k0_off2 k) S8x512.size (k0_off2_inb k)).toLoadRect (arg12.view.writes (Elt Ideal) G (st_k0_t1 (F := Ideal) 𝒱 c bd i arg3 harg3 arg4 harg4 arg5 harg5 arg6 harg6 arg7 harg7 arg8 harg8 arg9 harg9 arg10 harg10 arg11 harg11 arg12 harg12 arg13 harg13 arg14 harg14 v12 v16 G init k.val).2))⟩ : View.Piece (Elt Ideal) S512x2048 .f32) ::
         (⟨(Rect.unit (s := S512x2048) (k0_off1 k) S8x512.size (k0_off1_inb k)), k0_pay10 v12 v16 (st_k0_t1 (F := Ideal) 𝒱 c bd i arg3 harg3 arg4 harg4 arg5 harg5 arg6 harg6 arg7 harg7 arg8 harg8 arg9 harg9 arg10 harg10 arg11 harg11 arg12 harg12 arg13 harg13 arg14 harg14 v12 v16 G init k.val).1.1 (st_k0_t1 (F := Ideal) 𝒱 c bd i arg3 harg3 arg4 harg4 arg5 harg5 arg6 harg6 arg7 harg7 arg8 harg8 arg9 harg9 arg10 harg10 arg11 harg11 arg12 harg12 arg13 harg13 arg14 harg14 v12 v16 G init k.val).1.2 (arg12.view.readAt (Elt Ideal) (Rect.unit (s := S512x2048) (k0_off1 k) S8x512.size (k0_off1_inb k)).toLoadRect (arg12.view.writes (Elt Ideal) G (st_k0_t1 (F := Ideal) 𝒱 c bd i arg3 harg3 arg4 harg4 arg5 harg5 arg6 harg6 arg7 harg7 arg8 harg8 arg9 harg9 arg10 harg10 arg11 harg11 arg12 harg12 arg13 harg13 arg14 harg14 v12 v16 G init k.val).2))⟩ : View.Piece (Elt Ideal) S512x2048 .f32) :: (st_k0_t1 (F := Ideal) 𝒱 c bd i arg3 harg3 arg4 harg4 arg5 harg5 arg6 harg6 arg7 harg7 arg8 harg8 arg9 harg9 arg10 harg10 arg11 harg11 arg12 harg12 arg13 harg13 arg14 harg14 v12 v16 G init k.val).2) := by
  rw [st_k0_t1_succ]
  generalize st_k0_t1 (F := Ideal) 𝒱 c bd i arg3 harg3 arg4 harg4 arg5 harg5 arg6 harg6 arg7 harg7 arg8 harg8 arg9 harg9 arg10 harg10 arg11 harg11 arg12 harg12 arg13 harg13 arg14 harg14 v12 v16 G init k.val = S
  unfold tripR_k0_t1 tripL_k0_t1 trip_k0_t1
  rfl

/-- One trip of the second loop: the values it carries on and the two tiles it stores. -/
theorem t2_step (v15 : FVec Ideal S8x512 .f32) (v19 : FVec Ideal S8x512 .f32) (v148 : FVec Ideal S1x512 .f32) (v152 : FVec Ideal S1x512 .f32) (v153 : FVec Ideal S1x512 .f32) (v154 : FVec Ideal S1x512 .f32) (G : BufTy.Contents (Elt Ideal) arg12.view.ty) (init : Vec Ideal S8x512 .f32 × Vec Ideal S8x512 .f32) (k : Fin k0_t2_loop.trips) :
    st_k0_t2 (F := Ideal) 𝒱 c bd i arg3 harg3 arg4 harg4 arg5 harg5 arg6 harg6 arg7 harg7 arg8 harg8 arg9 harg9 arg10 harg10 arg11 harg11 arg12 harg12 arg13 harg13 arg14 harg14 v15 v19 v148 v152 v153 v154 G init (k.val + 1)
      = ((k0_pay50 v15 v19 (st_k0_t2 (F := Ideal) 𝒱 c bd i arg3 harg3 arg4 harg4 arg5 harg5 arg6 harg6 arg7 harg7 arg8 harg8 arg9 harg9 arg10 harg10 arg11 harg11 arg12 harg12 arg13 harg13 arg14 harg14 v15 v19 v148 v152 v153 v154 G init k.val).1.1 (st_k0_t2 (F := Ideal) 𝒱 c bd i arg3 harg3 arg4 harg4 arg5 harg5 arg6 harg6 arg7 harg7 arg8 harg8 arg9 harg9 arg10 harg10 arg11 harg11 arg12 harg12 arg13 harg13 arg14 harg14 v15 v19 v148 v152 v153 v154 G init k.val).1.2, k0_pay51 v15 v19 (st_k0_t2 (F := Ideal) 𝒱 c bd i arg3 harg3 arg4 harg4 arg5 harg5 arg6 harg6 arg7 harg7 arg8 harg8 arg9 harg9 arg10 harg10 arg11 harg11 arg12 harg12 arg13 harg13 arg14 harg14 v15 v19 v148 v152 v153 v154 G init k.val).1.1 (st_k0_t2 (F := Ideal) 𝒱 c bd i arg3 harg3 arg4 harg4 arg5 harg5 arg6 harg6 arg7 harg7 arg8 harg8 arg9 harg9 arg10 harg10 arg11 harg11 arg12 harg12 arg13 harg13 arg14 harg14 v15 v19 v148 v152 v153 v154 G init k.val).1.2),
         (⟨(Rect.unit (s := S512x2048) (k0_off4 k) S8x512.size (k0_off4_inb k)), k0_pay53 v15 v19 (st_k0_t2 (F := Ideal) 𝒱 c bd i arg3 harg3 arg4 harg4 arg5 harg5 arg6 harg6 arg7 harg7 arg8 harg8 arg9 harg9 arg10 harg10 arg11 harg11 arg12 harg12 arg13 harg13 arg14 harg14 v15 v19 v148 v152 v153 v154 G init k.val).1.1 (st_k0_t2 (F := Ideal) 𝒱 c bd i arg3 harg3 arg4 harg4 arg5 harg5 arg6 harg6 arg7 harg7 arg8 harg8 arg9 harg9 arg10 harg10 arg11 harg11 arg12 harg12 arg13 harg13 arg14 harg14 v15 v19 v148 v152 v153 v154 G init k.val).1.2 (arg12.view.readAt (Elt Ideal) (Rect.unit (s := S512x2048) (k0_off4 k) S8x512.size (k0_off4_inb k)).toLoadRect (arg12.view.writes (Elt Ideal) G (st_k0_t2 (F := Ideal) 𝒱 c bd i arg3 harg3 arg4 harg4 arg5 harg5 arg6 harg6 arg7 harg7 arg8 harg8 arg9 harg9 arg10 harg10 arg11 harg11 arg12 harg12 arg13 harg13 arg14 harg14 v15 v19 v148 v152 v153 v154 G init k.val).2))⟩ : View.Piece (Elt Ideal) S512x2048 .f32) ::
         (⟨(Rect.unit (s := S512x2048) (k0_off3 k) S8x512.size (k0_off3_inb k)), k0_pay52 v15 v19 (st_k0_t2 (F := Ideal) 𝒱 c bd i arg3 harg3 arg4 harg4 arg5 harg5 arg6 harg6 arg7 harg7 arg8 harg8 arg9 harg9 arg10 harg10 arg11 harg11 arg12 harg12 arg13 harg13 arg14 harg14 v15 v19 v148 v152 v153 v154 G init k.val).1.1 (st_k0_t2 (F := Ideal) 𝒱 c bd i arg3 harg3 arg4 harg4 arg5 harg5 arg6 harg6 arg7 harg7 arg8 harg8 arg9 harg9 arg10 harg10 arg11 harg11 arg12 harg12 arg13 harg13 arg14 harg14 v15 v19 v148 v152 v153 v154 G init k.val).1.2 (arg12.view.readAt (Elt Ideal) (Rect.unit (s := S512x2048) (k0_off3 k) S8x512.size (k0_off3_inb k)).toLoadRect (arg12.view.writes (Elt Ideal) G (st_k0_t2 (F := Ideal) 𝒱 c bd i arg3 harg3 arg4 harg4 arg5 harg5 arg6 harg6 arg7 harg7 arg8 harg8 arg9 harg9 arg10 harg10 arg11 harg11 arg12 harg12 arg13 harg13 arg14 harg14 v15 v19 v148 v152 v153 v154 G init k.val).2))⟩ : View.Piece (Elt Ideal) S512x2048 .f32) :: (st_k0_t2 (F := Ideal) 𝒱 c bd i arg3 harg3 arg4 harg4 arg5 harg5 arg6 harg6 arg7 harg7 arg8 harg8 arg9 harg9 arg10 harg10 arg11 harg11 arg12 harg12 arg13 harg13 arg14 harg14 v15 v19 v148 v152 v153 v154 G init k.val).2) := by
  rw [st_k0_t2_succ]
  generalize st_k0_t2 (F := Ideal) 𝒱 c bd i arg3 harg3 arg4 harg4 arg5 harg5 arg6 harg6 arg7 harg7 arg8 harg8 arg9 harg9 arg10 harg10 arg11 harg11 arg12 harg12 arg13 harg13 arg14 harg14 v15 v19 v148 v152 v153 v154 G init k.val = S
  unfold tripR_k0_t2 tripL_k0_t2 trip_k0_t2
  rfl

/-- One trip of the third loop: the values it carries on and the two tiles it stores. -/
theorem t3_step (v15 : FVec Ideal S8x512 .f32) (v19 : FVec Ideal S8x512 .f32) (v148 : FVec Ideal S1x512 .f32) (v152 : FVec Ideal S1x512 .f32) (v153 : FVec Ideal S1x512 .f32) (v154 : FVec Ideal S1x512 .f32) (v167 : Vec Ideal S1x1x512 .f32) (v171 : Vec Ideal S1x1x512 .f32) (G : BufTy.Contents (Elt Ideal) arg12.view.ty) (init : FVec Ideal S8x512 .f32 × FVec Ideal S8x512 .f32) (k : Fin k0_t3_loop.trips) :
    st_k0_t3 (F := Ideal) 𝒱 c bd i arg3 harg3 arg4 harg4 arg5 harg5 arg6 harg6 arg7 harg7 arg8 harg8 arg9 harg9 arg10 harg10 arg11 harg11 arg12 harg12 arg13 harg13 arg14 harg14 v15 v19 v148 v152 v153 v154 v167 v171 G init (k.val + 1)
      = ((k0_pay57 v167 v171 (st_k0_t3 (F := Ideal) 𝒱 c bd i arg3 harg3 arg4 harg4 arg5 harg5 arg6 harg6 arg7 harg7 arg8 harg8 arg9 harg9 arg10 harg10 arg11 harg11 arg12 harg12 arg13 harg13 arg14 harg14 v15 v19 v148 v152 v153 v154 v167 v171 G init k.val).1.1 (st_k0_t3 (F := Ideal) 𝒱 c bd i arg3 harg3 arg4 harg4 arg5 harg5 arg6 harg6 arg7 harg7 arg8 harg8 arg9 harg9 arg10 harg10 arg11 harg11 arg12 harg12 arg13 harg13 arg14 harg14 v15 v19 v148 v152 v153 v154 v167 v171 G init k.val).1.2 (arg12.view.readAt (Elt Ideal) (Rect.unit (s := S512x2048) (k0_off5 k) S8x512.size (k0_off5_inb k)).toLoadRect (arg12.view.writes (Elt Ideal) G (st_k0_t3 (F := Ideal) 𝒱 c bd i arg3 harg3 arg4 harg4 arg5 harg5 arg6 harg6 arg7 harg7 arg8 harg8 arg9 harg9 arg10 harg10 arg11 harg11 arg12 harg12 arg13 harg13 arg14 harg14 v15 v19 v148 v152 v153 v154 v167 v171 G init k.val).2)), k0_pay58 v167 v171 (st_k0_t3 (F := Ideal) 𝒱 c bd i arg3 harg3 arg4 harg4 arg5 harg5 arg6 harg6 arg7 harg7 arg8 harg8 arg9 harg9 arg10 harg10 arg11 harg11 arg12 harg12 arg13 harg13 arg14 harg14 v15 v19 v148 v152 v153 v154 v167 v171 G init k.val).1.1 (st_k0_t3 (F := Ideal) 𝒱 c bd i arg3 harg3 arg4 harg4 arg5 harg5 arg6 harg6 arg7 harg7 arg8 harg8 arg9 harg9 arg10 harg10 arg11 harg11 arg12 harg12 arg13 harg13 arg14 harg14 v15 v19 v148 v152 v153 v154 v167 v171 G init k.val).1.2 (arg12.view.readAt (Elt Ideal) (Rect.unit (s := S512x2048) (k0_off6 k) S8x512.size (k0_off6_inb k)).toLoadRect (arg12.view.writes (Elt Ideal) G (st_k0_t3 (F := Ideal) 𝒱 c bd i arg3 harg3 arg4 harg4 arg5 harg5 arg6 harg6 arg7 harg7 arg8 harg8 arg9 harg9 arg10 harg10 arg11 harg11 arg12 harg12 arg13 harg13 arg14 harg14 v15 v19 v148 v152 v153 v154 v167 v171 G init k.val).2))),
         (⟨(Rect.unit (s := S512x2048) (k0_off6 k) S8x512.size (k0_off6_inb k)), k0_pay60 v167 v171 (st_k0_t3 (F := Ideal) 𝒱 c bd i arg3 harg3 arg4 harg4 arg5 harg5 arg6 harg6 arg7 harg7 arg8 harg8 arg9 harg9 arg10 harg10 arg11 harg11 arg12 harg12 arg13 harg13 arg14 harg14 v15 v19 v148 v152 v153 v154 v167 v171 G init k.val).1.1 (st_k0_t3 (F := Ideal) 𝒱 c bd i arg3 harg3 arg4 harg4 arg5 harg5 arg6 harg6 arg7 harg7 arg8 harg8 arg9 harg9 arg10 harg10 arg11 harg11 arg12 harg12 arg13 harg13 arg14 harg14 v15 v19 v148 v152 v153 v154 v167 v171 G init k.val).1.2 (arg12.view.readAt (Elt Ideal) (Rect.unit (s := S512x2048) (k0_off6 k) S8x512.size (k0_off6_inb k)).toLoadRect (arg12.view.writes (Elt Ideal) G (st_k0_t3 (F := Ideal) 𝒱 c bd i arg3 harg3 arg4 harg4 arg5 harg5 arg6 harg6 arg7 harg7 arg8 harg8 arg9 harg9 arg10 harg10 arg11 harg11 arg12 harg12 arg13 harg13 arg14 harg14 v15 v19 v148 v152 v153 v154 v167 v171 G init k.val).2))⟩ : View.Piece (Elt Ideal) S512x2048 .f32) ::
         (⟨(Rect.unit (s := S512x2048) (k0_off5 k) S8x512.size (k0_off5_inb k)), k0_pay59 v167 v171 (st_k0_t3 (F := Ideal) 𝒱 c bd i arg3 harg3 arg4 harg4 arg5 harg5 arg6 harg6 arg7 harg7 arg8 harg8 arg9 harg9 arg10 harg10 arg11 harg11 arg12 harg12 arg13 harg13 arg14 harg14 v15 v19 v148 v152 v153 v154 v167 v171 G init k.val).1.1 (st_k0_t3 (F := Ideal) 𝒱 c bd i arg3 harg3 arg4 harg4 arg5 harg5 arg6 harg6 arg7 harg7 arg8 harg8 arg9 harg9 arg10 harg10 arg11 harg11 arg12 harg12 arg13 harg13 arg14 harg14 v15 v19 v148 v152 v153 v154 v167 v171 G init k.val).1.2 (arg12.view.readAt (Elt Ideal) (Rect.unit (s := S512x2048) (k0_off5 k) S8x512.size (k0_off5_inb k)).toLoadRect (arg12.view.writes (Elt Ideal) G (st_k0_t3 (F := Ideal) 𝒱 c bd i arg3 harg3 arg4 harg4 arg5 harg5 arg6 harg6 arg7 harg7 arg8 harg8 arg9 harg9 arg10 harg10 arg11 harg11 arg12 harg12 arg13 harg13 arg14 harg14 v15 v19 v148 v152 v153 v154 v167 v171 G init k.val).2))⟩ : View.Piece (Elt Ideal) S512x2048 .f32) :: (st_k0_t3 (F := Ideal) 𝒱 c bd i arg3 harg3 arg4 harg4 arg5 harg5 arg6 harg6 arg7 harg7 arg8 harg8 arg9 harg9 arg10 harg10 arg11 harg11 arg12 harg12 arg13 harg13 arg14 harg14 v15 v19 v148 v152 v153 v154 v167 v171 G init k.val).2) := by
  rw [st_k0_t3_succ]
  generalize st_k0_t3 (F := Ideal) 𝒱 c bd i arg3 harg3 arg4 harg4 arg5 harg5 arg6 harg6 arg7 harg7 arg8 harg8 arg9 harg9 arg10 harg10 arg11 harg11 arg12 harg12 arg13 harg13 arg14 harg14 v15 v19 v148 v152 v153 v154 v167 v171 G init k.val = S
  unfold tripR_k0_t3 tripL_k0_t3 trip_k0_t3
  rfl

/-- One trip of the fourth loop: the values it carries on and the two tiles it stores. -/
theorem t4_step (v4 : FVec Ideal S512x256 .f32) (v170 : FVec Ideal S8x512 .f32) (v174 : FVec Ideal S8x512 .f32) (v307 : FVec Ideal S1x512 .f32) (v311 : FVec Ideal S1x512 .f32) (G : BufTy.Contents (Elt Ideal) arg12.view.ty) (init : Vec Ideal S8x512 .f32 × Vec Ideal S8x512 .f32) (k : Fin k0_t4_loop.trips) :
    st_k0_t4 (F := Ideal) 𝒱 c bd i arg3 harg3 arg4 harg4 arg5 harg5 arg6 harg6 arg7 harg7 arg8 harg8 arg9 harg9 arg10 harg10 arg11 harg11 arg12 harg12 arg13 harg13 arg14 harg14 v4 v170 v174 v307 v311 G init (k.val + 1)
      = ((k0_pay97 v170 v174 (st_k0_t4 (F := Ideal) 𝒱 c bd i arg3 harg3 arg4 harg4 arg5 harg5 arg6 harg6 arg7 harg7 arg8 harg8 arg9 harg9 arg10 harg10 arg11 harg11 arg12 harg12 arg13 harg13 arg14 harg14 v4 v170 v174 v307 v311 G init k.val).1.1 (st_k0_t4 (F := Ideal) 𝒱 c bd i arg3 harg3 arg4 harg4 arg5 harg5 arg6 harg6 arg7 harg7 arg8 harg8 arg9 harg9 arg10 harg10 arg11 harg11 arg12 harg12 arg13 harg13 arg14 harg14 v4 v170 v174 v307 v311 G init k.val).1.2, k0_pay98 v170 v174 (st_k0_t4 (F := Ideal) 𝒱 c bd i arg3 harg3 arg4 harg4 arg5 harg5 arg6 harg6 arg7 harg7 arg8 harg8 arg9 harg9 arg10 harg10 arg11 harg11 arg12 harg12 arg13 harg13 arg14 harg14 v4 v170 v174 v307 v311 G init k.val).1.1 (st_k0_t4 (F := Ideal) 𝒱 c bd i arg3 harg3 arg4 harg4 arg5 harg5 arg6 harg6 arg7 harg7 arg8 harg8 arg9 harg9 arg10 harg10 arg11 harg11 arg12 harg12 arg13 harg13 arg14 harg14 v4 v170 v174 v307 v311 G init k.val).1.2),
         (⟨(Rect.unit (s := S512x2048) (k0_off8 k) S8x512.size (k0_off8_inb k)), k0_pay100 v170 v174 (st_k0_t4 (F := Ideal) 𝒱 c bd i arg3 harg3 arg4 harg4 arg5 harg5 arg6 harg6 arg7 harg7 arg8 harg8 arg9 harg9 arg10 harg10 arg11 harg11 arg12 harg12 arg13 harg13 arg14 harg14 v4 v170 v174 v307 v311 G init k.val).1.1 (st_k0_t4 (F := Ideal) 𝒱 c bd i arg3 harg3 arg4 harg4 arg5 harg5 arg6 harg6 arg7 harg7 arg8 harg8 arg9 harg9 arg10 harg10 arg11 harg11 arg12 harg12 arg13 harg13 arg14 harg14 v4 v170 v174 v307 v311 G init k.val).1.2 (arg12.view.readAt (Elt Ideal) (Rect.unit (s := S512x2048) (k0_off8 k) S8x512.size (k0_off8_inb k)).toLoadRect (arg12.view.writes (Elt Ideal) G (st_k0_t4 (F := Ideal) 𝒱 c bd i arg3 harg3 arg4 harg4 arg5 harg5 arg6 harg6 arg7 harg7 arg8 harg8 arg9 harg9 arg10 harg10 arg11 harg11 arg12 harg12 arg13 harg13 arg14 harg14 v4 v170 v174 v307 v311 G init k.val).2))⟩ : View.Piece (Elt Ideal) S512x2048 .f32) ::
         (⟨(Rect.unit (s := S512x2048) (k0_off7 k) S8x512.size (k0_off7_inb k)), k0_pay99 v170 v174 (st_k0_t4 (F := Ideal) 𝒱 c bd i arg3 harg3 arg4 harg4 arg5 harg5 arg6 harg6 arg7 harg7 arg8 harg8 arg9 harg9 arg10 harg10 arg11 harg11 arg12 harg12 arg13 harg13 arg14 harg14 v4 v170 v174 v307 v311 G init k.val).1.1 (st_k0_t4 (F := Ideal) 𝒱 c bd i arg3 harg3 arg4 harg4 arg5 harg5 arg6 harg6 arg7 harg7 arg8 harg8 arg9 harg9 arg10 harg10 arg11 harg11 arg12 harg12 arg13 harg13 arg14 harg14 v4 v170 v174 v307 v311 G init k.val).1.2 (arg12.view.readAt (Elt Ideal) (Rect.unit (s := S512x2048) (k0_off7 k) S8x512.size (k0_off7_inb k)).toLoadRect (arg12.view.writes (Elt Ideal) G (st_k0_t4 (F := Ideal) 𝒱 c bd i arg3 harg3 arg4 harg4 arg5 harg5 arg6 harg6 arg7 harg7 arg8 harg8 arg9 harg9 arg10 harg10 arg11 harg11 arg12 harg12 arg13 harg13 arg14 harg14 v4 v170 v174 v307 v311 G init k.val).2))⟩ : View.Piece (Elt Ideal) S512x2048 .f32) :: (st_k0_t4 (F := Ideal) 𝒱 c bd i arg3 harg3 arg4 harg4 arg5 harg5 arg6 harg6 arg7 harg7 arg8 harg8 arg9 harg9 arg10 harg10 arg11 harg11 arg12 harg12 arg13 harg13 arg14 harg14 v4 v170 v174 v307 v311 G init k.val).2) := by
  rw [st_k0_t4_succ]
  generalize st_k0_t4 (F := Ideal) 𝒱 c bd i arg3 harg3 arg4 harg4 arg5 harg5 arg6 harg6 arg7 harg7 arg8 harg8 arg9 harg9 arg10 harg10 arg11 harg11 arg12 harg12 arg13 harg13 arg14 harg14 v4 v170 v174 v307 v311 G init k.val = S
  unfold tripR_k0_t4 tripL_k0_t4 trip_k0_t4
  rfl

end Cert.KernelIdeal.Scan
-- ==== Proof.Scan.Rows.lean ====
module

public import proofs.«01_k».proof.Proof.Scan.Trips

@[expose] public section

set_option maxRecDepth 16384
noncomputable section
open Idealize.ShloMosaic Idealize.ShloMosaic.TcCoe Idealize.SL.Sem
namespace Cert.KernelIdeal.Scan
open Cert.KernelIdeal Cert.KernelIdeal.Gen

/-- The entry of a block of states at a row and a column, zero outside the block. -/
def ent (X : FVec Ideal S512x2048 .f32) (r y : ℕ) : EReal :=
  if h : r < 512 ∧ y < 2048 then X (ix2 ⟨r, h.1⟩ ⟨y, h.2⟩) else 0

/-- Inside the block, `ent` is the block's own entry. -/
theorem ent_ix (X : FVec Ideal S512x2048 .f32) (r : Fin 512) (y : Fin 2048) : X (ix2 r y) = ent X r.val y.val := by
  unfold ent; rw [dif_pos ⟨r.2, y.2⟩]

/-- The local scan: from a zero state, one multiplication by the eigenvalue and one input per step. -/
def loc (lr li : EReal) (xr xi : ℕ → EReal) : ℕ → EReal × EReal
  | 0 => (0, 0)
  | k + 1 => (lr * (loc lr li xr xi k).1 - li * (loc lr li xr xi k).2 + xr k,
      lr * (loc lr li xr xi k).2 + li * (loc lr li xr xi k).1 + xi k)

/-- A state multiplied by the eigenvalue a number of times. -/
def car (lr li : EReal) (c : EReal × EReal) : ℕ → EReal × EReal
  | 0 => c
  | k + 1 => (lr * (car lr li c k).1 - li * (car lr li c k).2, lr * (car lr li c k).2 + li * (car lr li c k).1)

/-- What a loop leaves that stores two tiles of eight rows per trip, one trip after the other, each a function of the rows as they were. -/
theorem rows_read (v : View sig .tc .vmem S512x2048 .f32) (G : BufTy.Contents (Elt Ideal) v.ty) (o : ℕ) (ho : o + 512 ≤ 1024)
    (L : ℕ → List (View.Piece (Elt Ideal) S512x2048 .f32)) (P : ℕ → Prop) (W1 W2 : ℕ → ℕ → ℕ → EReal) (hP0 : P 0) (hL0 : L 0 = [])
    (hstep : ∀ k, k < 64 → P k →
      (∀ s, s < 8 → ∀ y, y < 2048 → ent (v.read (Elt Ideal) (v.writes (Elt Ideal) G (L k))) (8 * k + s) y = ent (v.read (Elt Ideal) G) (8 * k + s) y) →
      P (k + 1) ∧ ∃ (o1 o2 : Fin S512x2048.rank → ℕ) (_ : o1 = ![8 * k, o]) (_ : o2 = ![8 * k, 1024 + o]) (i1 : ∀ a, o1 a + S8x512.size a ≤ S512x2048.size a)
        (i2 : ∀ a, o2 a + S8x512.size a ≤ S512x2048.size a) (w1 w2 : FVec Ideal S8x512 .f32),
        L (k + 1) = (⟨Rect.unit o2 S8x512.size i2, w2⟩ : View.Piece (Elt Ideal) S512x2048 .f32) :: ⟨Rect.unit o1 S8x512.size i1, w1⟩ :: L k ∧
        ∀ (s : Fin 8) (x : Fin 512), w1 (ix2 s x) = W1 k s.val x.val ∧ w2 (ix2 s x) = W2 k s.val x.val) :
    ∀ k, k ≤ 64 → P k ∧ ∀ r, r < 512 → ∀ y, y < 2048 →
      ent (v.read (Elt Ideal) (v.writes (Elt Ideal) G (L k))) r y =
        if r < 8 * k then
          if o ≤ y ∧ y < o + 512 then W1 (r / 8) (r % 8) (y - o)
          else if 1024 + o ≤ y ∧ y < 1536 + o then W2 (r / 8) (r % 8) (y - (1024 + o))
          else ent (v.read (Elt Ideal) G) r y
        else ent (v.read (Elt Ideal) G) r y := by
  intro k
  induction k with
  | zero => intro _; exact ⟨hP0, fun r hr y hy => by rw [hL0]; rfl⟩
  | succ k ih =>
    intro hk
    obtain ⟨hPk, ihk⟩ := ih (by omega)
    obtain ⟨hP', o1, o2, h1, h2, i1, i2, w1, w2, hL, hw⟩ := hstep k (by omega) hPk fun s hs y hy => by
      rw [ihk _ (by omega) y hy, if_neg (by omega)]
    refine ⟨hP', fun r hr y hy => ?_⟩
    have step : ent (v.read (Elt Ideal) (v.writes (Elt Ideal) G (L (k + 1)))) r y =
        if 8 * k ≤ r ∧ r < 8 * k + 8 then
          if o ≤ y ∧ y < o + 512 then W1 (r / 8) (r % 8) (y - o)
          else if 1024 + o ≤ y ∧ y < 1536 + o then W2 (r / 8) (r % 8) (y - (1024 + o))
          else ent (v.read (Elt Ideal) (v.writes (Elt Ideal) G (L k))) r y
        else ent (v.read (Elt Ideal) (v.writes (Elt Ideal) G (L k))) r y := by
      rw [hL]
      unfold ent
      rw [dif_pos ⟨hr, hy⟩, dif_pos ⟨hr, hy⟩]
      by_cases hrow : 8 * k ≤ r ∧ r < 8 * k + 8
      · rw [if_pos hrow]
        have e1 : r / 8 = k := by omega
        by_cases hlo : o ≤ y ∧ y < o + 512
        · rw [if_pos hlo, View.read_writes_cons_unit_of_not_mem v G i2 w2 _ _ h2 (1 : Fin 2) (Or.inl (by show y < 1024 + o; omega)),
            View.read_writes_cons_unit_of_mem v G i1 w1 _ _ (ix2 (⟨r - 8 * k, by omega⟩ : Fin 8) (⟨y - o, by omega⟩ : Fin 512)) h1
              (Fin.forall_fin_two.mpr ⟨by show r = 8 * k + (r - 8 * k); omega, by show y = o + (y - o); omega⟩),
            (hw ⟨r - 8 * k, by omega⟩ ⟨y - o, by omega⟩).1, e1, show r % 8 = r - 8 * k by omega]
        · rw [if_neg hlo]
          by_cases hhi : 1024 + o ≤ y ∧ y < 1536 + o
          · rw [if_pos hhi, View.read_writes_cons_unit_of_mem v G i2 w2 _ _ (ix2 (⟨r - 8 * k, by omega⟩ : Fin 8) (⟨y - (1024 + o), by omega⟩ : Fin 512)) h2
              (Fin.forall_fin_two.mpr ⟨by show r = 8 * k + (r - 8 * k); omega, by show y = 1024 + o + (y - (1024 + o)); omega⟩),
              (hw ⟨r - 8 * k, by omega⟩ ⟨y - (1024 + o), by omega⟩).2, e1, show r % 8 = r - 8 * k by omega]
          · rw [if_neg hhi, View.read_writes_cons_unit_of_not_mem v G i2 w2 _ _ h2 (1 : Fin 2) (by show y < 1024 + o ∨ 1024 + o + 512 ≤ y; omega),
              View.read_writes_cons_unit_of_not_mem v G i1 w1 _ _ h1 (1 : Fin 2) (by show y < o ∨ o + 512 ≤ y; omega)]
      · rw [if_neg hrow, View.read_writes_cons_unit_of_not_mem v G i2 w2 _ _ h2 (0 : Fin 2) (by show r < 8 * k ∨ 8 * k + 8 ≤ r; omega),
          View.read_writes_cons_unit_of_not_mem v G i1 w1 _ _ h1 (0 : Fin 2) (by show r < 8 * k ∨ 8 * k + 8 ≤ r; omega)]
    rw [step, ihk r hr y hy]
    by_cases hrow : 8 * k ≤ r ∧ r < 8 * k + 8
    · rw [if_pos hrow, if_pos (show r < 8 * (k + 1) by omega), if_neg (show ¬ r < 8 * k by omega)]
    · rw [if_neg hrow]
      by_cases hlt : r < 8 * k
      · rw [if_pos hlt, if_pos (show r < 8 * (k + 1) by omega)]
      · rw [if_neg hlt, if_neg (show ¬ r < 8 * (k + 1) by omega)]

end Cert.KernelIdeal.Scan
-- ==== Proof.Scan.Vals.lean ====
module

public import proofs.«01_k».proof.Proof.Scan.Rows

@[expose] public section

set_option maxRecDepth 16384
noncomputable section
open Idealize.ShloMosaic Idealize.ShloMosaic.TcCoe Idealize.SL.Sem
namespace Cert.KernelIdeal.Scan
open Cert.KernelIdeal Cert.KernelIdeal.Gen

/-- Entry `x` of a row of 512 eigenvalue parts, zero past its end. -/
def ev (V : FVec Ideal S1x1x512 .f32) (x : ℕ) : EReal := if h : x < 512 then V (ix3 0 0 ⟨x, h⟩) else 0

/-- Entry of a tile of eight rows, zero outside the tile. -/
def e8 (T : FVec Ideal S8x512 .f32) (s x : ℕ) : EReal := if h : s < 8 ∧ x < 512 then T (ix2 ⟨s, h.1⟩ ⟨x, h.2⟩) else 0

/-- Inside the row, `ev` is the row's own entry. -/
theorem ev_ix (V : FVec Ideal S1x1x512 .f32) (x : Fin 512) : V (ix3 0 0 x) = ev V x.val := by
  unfold ev; rw [dif_pos x.2]

/-- Inside the tile, `e8` is the tile's own entry. -/
theorem e8_ix (T : FVec Ideal S8x512 .f32) (s : Fin 8) (x : Fin 512) : T (ix2 s x) = e8 T s.val x.val := by
  unfold e8; rw [dif_pos ⟨s.2, x.2⟩]

/-- A load of eight rows and 512 columns of the block of states. -/
theorem readAt_ent (v : View sig .tc .vmem S512x2048 .f32) (f : BufTy.Contents (Elt Ideal) v.ty) {off : Fin S512x2048.rank → ℕ} {k o : ℕ} (h : off = ![8 * k, o])
    (inb : ∀ a, off a + S8x512.size a ≤ S512x2048.size a) (hk : k < 64) (ho : o + 512 ≤ 2048) (s : Fin 8) (x : Fin 512) :
    (v.readAt (Elt Ideal) (Rect.unit (s := S512x2048) off S8x512.size inb).toLoadRect f : FVec Ideal S8x512 .f32) (ix2 s x) = ent (v.read (Elt Ideal) f) (8 * k + s.val) (o + x.val) := by
  subst h
  unfold ent
  rw [dif_pos ⟨by omega, by omega⟩]
  refine congrArg (v.read (Elt Ideal) f) (funext (Fin.forall_fin_two.mpr ⟨Fin.ext ?_, Fin.ext ?_⟩))
  · show 8 * k + 1 * s.val = 8 * k + s.val
    omega
  · show o + 1 * x.val = o + x.val
    omega

variable (𝒱 : Variants) (c : Dev nD) (bd : Option 𝒱.V) (i : grid0.Coords) (arg3 : Memref sig .tc .vmem S1x512x256 .f32) (harg3 : arg3.IsWhole) (arg4 : Memref sig .tc .vmem S1x256x2048 .bf16) (harg4 : arg4.IsWhole) (arg5 : Memref sig .tc .vmem S1x2048x256 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1x256 .f32) (harg10 : arg10.IsWhole) (arg11 : Memref sig .tc .vmem S1x512x256 .bf16) (harg11 : arg11.IsWhole) (arg12 : Memref sig .tc .vmem S512x2048 .f32) (harg12 : arg12.IsWhole) (arg13 : Memref sig .tc .vmem S1x2048 .f32) (harg13 : arg13.IsWhole) (arg14 : Memref sig .tc .vmem S8x2048 .f32) (harg14 : arg14.IsWhole)

/-- One step of the local scan at an entry. -/
theorem k0_pay8_at (l m : Vec Ideal S1x1x512 .f32) (a b t : FVec Ideal S8x512 .f32) (s : Fin 8) (x : Fin 512) :
    k0_pay8 (F := Ideal) l m a b t (ix2 s x) = ev l x.val * a (ix2 s x) - ev m x.val * b (ix2 s x) + t (ix2 s x) := by
  rw [← ev_ix, ← ev_ix]
  pointwise [k0_pay8, k0_pay5, k0_pay6]

/-- One step of the local scan at an entry. -/
theorem k0_pay9_at (l m : Vec Ideal S1x1x512 .f32) (a b t : FVec Ideal S8x512 .f32) (s : Fin 8) (x : Fin 512) :
    k0_pay9 (F := Ideal) l m a b t (ix2 s x) = ev l x.val * b (ix2 s x) + ev m x.val * a (ix2 s x) + t (ix2 s x) := by
  rw [← ev_ix, ← ev_ix]
  pointwise [k0_pay9, k0_pay5, k0_pay6]

/-- The stored tile is the carried one. -/
theorem k0_pay10_at (l m : Vec Ideal S1x1x512 .f32) (a b t : FVec Ideal S8x512 .f32) (s : Fin 8) (x : Fin 512) :
    k0_pay10 (F := Ideal) l m a b t (ix2 s x) = k0_pay8 (F := Ideal) l m a b t (ix2 s x) := by
  pointwise [k0_pay10, k0_pay8, k0_pay5, k0_pay6]

/-- The stored tile is the carried one. -/
theorem k0_pay11_at (l m : Vec Ideal S1x1x512 .f32) (a b t : FVec Ideal S8x512 .f32) (s : Fin 8) (x : Fin 512) :
    k0_pay11 (F := Ideal) l m a b t (ix2 s x) = k0_pay9 (F := Ideal) l m a b t (ix2 s x) := by
  pointwise [k0_pay11, k0_pay9, k0_pay5, k0_pay6]

/-- One step of the local scan at an entry. -/
theorem k0_pay57_at (l m : Vec Ideal S1x1x512 .f32) (a b t : FVec Ideal S8x512 .f32) (s : Fin 8) (x : Fin 512) :
    k0_pay57 (F := Ideal) l m a b t (ix2 s x) = ev l x.val * a (ix2 s x) - ev m x.val * b (ix2 s x) + t (ix2 s x) := by
  rw [← ev_ix, ← ev_ix]
  pointwise [k0_pay57, k0_pay54, k0_pay55]

/-- One step of the local scan at an entry. -/
theorem k0_pay58_at (l m : Vec Ideal S1x1x512 .f32) (a b t : FVec Ideal S8x512 .f32) (s : Fin 8) (x : Fin 512) :
    k0_pay58 (F := Ideal) l m a b t (ix2 s x) = ev l x.val * b (ix2 s x) + ev m x.val * a (ix2 s x) + t (ix2 s x) := by
  rw [← ev_ix, ← ev_ix]
  pointwise [k0_pay58, k0_pay54, k0_pay55]

/-- The stored tile is the carried one. -/
theorem k0_pay59_at (l m : Vec Ideal S1x1x512 .f32) (a b t : FVec Ideal S8x512 .f32) (s : Fin 8) (x : Fin 512) :
    k0_pay59 (F := Ideal) l m a b t (ix2 s x) = k0_pay57 (F := Ideal) l m a b t (ix2 s x) := by
  pointwise [k0_pay59, k0_pay57, k0_pay54, k0_pay55]

/-- The stored tile is the carried one. -/
theorem k0_pay60_at (l m : Vec Ideal S1x1x512 .f32) (a b t : FVec Ideal S8x512 .f32) (s : Fin 8) (x : Fin 512) :
    k0_pay60 (F := Ideal) l m a b t (ix2 s x) = k0_pay58 (F := Ideal) l m a b t (ix2 s x) := by
  pointwise [k0_pay60, k0_pay58, k0_pay54, k0_pay55]

/-- One multiplication of the carried state by the eigenvalue at an entry. -/
theorem k0_pay50_at (l m a b : FVec Ideal S8x512 .f32) (s : Fin 8) (x : Fin 512) :
    k0_pay50 (F := Ideal) l m a b (ix2 s x) = l (ix2 s x) * a (ix2 s x) - m (ix2 s x) * b (ix2 s x) := by
  pointwise [k0_pay50]

/-- One multiplication of the carried state by the eigenvalue at an entry. -/
theorem k0_pay51_at (l m a b : FVec Ideal S8x512 .f32) (s : Fin 8) (x : Fin 512) :
    k0_pay51 (F := Ideal) l m a b (ix2 s x) = l (ix2 s x) * b (ix2 s x) + m (ix2 s x) * a (ix2 s x) := by
  pointwise [k0_pay51]

/-- The stored tile is the tile read plus the carried state. -/
theorem k0_pay52_at (l m a b t : FVec Ideal S8x512 .f32) (s : Fin 8) (x : Fin 512) :
    k0_pay52 (F := Ideal) l m a b t (ix2 s x) = t (ix2 s x) + k0_pay50 (F := Ideal) l m a b (ix2 s x) := by
  pointwise [k0_pay52, k0_pay50]

/-- The stored tile is the tile read plus the carried state. -/
theorem k0_pay53_at (l m a b t : FVec Ideal S8x512 .f32) (s : Fin 8) (x : Fin 512) :
    k0_pay53 (F := Ideal) l m a b t (ix2 s x) = t (ix2 s x) + k0_pay51 (F := Ideal) l m a b (ix2 s x) := by
  pointwise [k0_pay53, k0_pay51]

/-- One multiplication of the carried state by the eigenvalue at an entry. -/
theorem k0_pay97_at (l m a b : FVec Ideal S8x512 .f32) (s : Fin 8) (x : Fin 512) :
    k0_pay97 (F := Ideal) l m a b (ix2 s x) = l (ix2 s x) * a (ix2 s x) - m (ix2 s x) * b (ix2 s x) := by
  pointwise [k0_pay97]

/-- One multiplication of the carried state by the eigenvalue at an entry. -/
theorem k0_pay98_at (l m a b : FVec Ideal S8x512 .f32) (s : Fin 8) (x : Fin 512) :
    k0_pay98 (F := Ideal) l m a b (ix2 s x) = l (ix2 s x) * b (ix2 s x) + m (ix2 s x) * a (ix2 s x) := by
  pointwise [k0_pay98]

/-- The stored tile is the tile read plus the carried state. -/
theorem k0_pay99_at (l m a b t : FVec Ideal S8x512 .f32) (s : Fin 8) (x : Fin 512) :
    k0_pay99 (F := Ideal) l m a b t (ix2 s x) = t (ix2 s x) + k0_pay97 (F := Ideal) l m a b (ix2 s x) := by
  pointwise [k0_pay99, k0_pay97]

/-- The stored tile is the tile read plus the carried state. -/
theorem k0_pay100_at (l m a b t : FVec Ideal S8x512 .f32) (s : Fin 8) (x : Fin 512) :
    k0_pay100 (F := Ideal) l m a b t (ix2 s x) = t (ix2 s x) + k0_pay98 (F := Ideal) l m a b (ix2 s x) := by
  pointwise [k0_pay100, k0_pay98]

/-- The local scan starts at zero. -/
theorem k0_pay7_at (s : Fin 8) (x : Fin 512) : k0_pay7 (F := Ideal) (ix2 s x) = 0 := by
  pointwise [k0_pay7]

/-- The local scan starts at zero. -/
theorem k0_pay56_at (s : Fin 8) (x : Fin 512) : k0_pay56 (F := Ideal) (ix2 s x) = 0 := by
  pointwise [k0_pay56]

/-- What the first loop carries and leaves after its trips, entry by entry. -/
theorem t1_vals (v12 : Vec Ideal S1x1x512 .f32) (v16 : Vec Ideal S1x1x512 .f32) (G : BufTy.Contents (Elt Ideal) arg12.view.ty) (k : ℕ) (hk : k ≤ 64) :
    (∀ (s : Fin 8) (x : Fin 512),
      (st_k0_t1 (F := Ideal) 𝒱 c bd i arg3 harg3 arg4 harg4 arg5 harg5 arg6 harg6 arg7 harg7 arg8 harg8 arg9 harg9 arg10 harg10 arg11 harg11 arg12 harg12 arg13 harg13 arg14 harg14 v12 v16 G (k0_pay7 (F := Ideal), k0_pay7 (F := Ideal)) k).1.1 (ix2 s x) = (loc (ev v12 x.val) (ev v16 x.val) (fun j => ent (arg12.view.read (Elt Ideal) G) (8 * j + s.val) (0 + x.val)) (fun j => ent (arg12.view.read (Elt Ideal) G) (8 * j + s.val) (1024 + 0 + x.val)) k).1 ∧
      (st_k0_t1 (F := Ideal) 𝒱 c bd i arg3 harg3 arg4 harg4 arg5 harg5 arg6 harg6 arg7 harg7 arg8 harg8 arg9 harg9 arg10 harg10 arg11 harg11 arg12 harg12 arg13 harg13 arg14 harg14 v12 v16 G (k0_pay7 (F := Ideal), k0_pay7 (F := Ideal)) k).1.2 (ix2 s x) = (loc (ev v12 x.val) (ev v16 x.val) (fun j => ent (arg12.view.read (Elt Ideal) G) (8 * j + s.val) (0 + x.val)) (fun j => ent (arg12.view.read (Elt Ideal) G) (8 * j + s.val) (1024 + 0 + x.val)) k).2) ∧
    ∀ r, r < 512 → ∀ y, y < 2048 →
      ent (arg12.view.read (Elt Ideal) (arg12.view.writes (Elt Ideal) G (st_k0_t1 (F := Ideal) 𝒱 c bd i arg3 harg3 arg4 harg4 arg5 harg5 arg6 harg6 arg7 harg7 arg8 harg8 arg9 harg9 arg10 harg10 arg11 harg11 arg12 harg12 arg13 harg13 arg14 harg14 v12 v16 G (k0_pay7 (F := Ideal), k0_pay7 (F := Ideal)) k).2)) r y =
        if r < 8 * k then
          if 0 ≤ y ∧ y < 0 + 512 then (fun k s x => (loc (ev v12 x) (ev v16 x) (fun j => ent (arg12.view.read (Elt Ideal) G) (8 * j + s) (0 + x)) (fun j => ent (arg12.view.read (Elt Ideal) G) (8 * j + s) (1024 + 0 + x)) (k + 1)).1) (r / 8) (r % 8) (y - 0)
          else if 1024 + 0 ≤ y ∧ y < 1536 + 0 then (fun k s x => (loc (ev v12 x) (ev v16 x) (fun j => ent (arg12.view.read (Elt Ideal) G) (8 * j + s) (0 + x)) (fun j => ent (arg12.view.read (Elt Ideal) G) (8 * j + s) (1024 + 0 + x)) (k + 1)).2) (r / 8) (r % 8) (y - (1024 + 0))
          else ent (arg12.view.read (Elt Ideal) G) r y
        else ent (arg12.view.read (Elt Ideal) G) r y := by
  refine rows_read arg12.view G 0 (by omega) (fun k => (st_k0_t1 (F := Ideal) 𝒱 c bd i arg3 harg3 arg4 harg4 arg5 harg5 arg6 harg6 arg7 harg7 arg8 harg8 arg9 harg9 arg10 harg10 arg11 harg11 arg12 harg12 arg13 harg13 arg14 harg14 v12 v16 G (k0_pay7 (F := Ideal), k0_pay7 (F := Ideal)) k).2)
    (fun k => ∀ (s : Fin 8) (x : Fin 512),
      (st_k0_t1 (F := Ideal) 𝒱 c bd i arg3 harg3 arg4 harg4 arg5 harg5 arg6 harg6 arg7 harg7 arg8 harg8 arg9 harg9 arg10 harg10 arg11 harg11 arg12 harg12 arg13 harg13 arg14 harg14 v12 v16 G (k0_pay7 (F := Ideal), k0_pay7 (F := Ideal)) k).1.1 (ix2 s x) = (loc (ev v12 x.val) (ev v16 x.val) (fun j => ent (arg12.view.read (Elt Ideal) G) (8 * j + s.val) (0 + x.val)) (fun j => ent (arg12.view.read (Elt Ideal) G) (8 * j + s.val) (1024 + 0 + x.val)) k).1 ∧
      (st_k0_t1 (F := Ideal) 𝒱 c bd i arg3 harg3 arg4 harg4 arg5 harg5 arg6 harg6 arg7 harg7 arg8 harg8 arg9 harg9 arg10 harg10 arg11 harg11 arg12 harg12 arg13 harg13 arg14 harg14 v12 v16 G (k0_pay7 (F := Ideal), k0_pay7 (F := Ideal)) k).1.2 (ix2 s x) = (loc (ev v12 x.val) (ev v16 x.val) (fun j => ent (arg12.view.read (Elt Ideal) G) (8 * j + s.val) (0 + x.val)) (fun j => ent (arg12.view.read (Elt Ideal) G) (8 * j + s.val) (1024 + 0 + x.val)) k).2)
    (fun k s x => (loc (ev v12 x) (ev v16 x) (fun j => ent (arg12.view.read (Elt Ideal) G) (8 * j + s) (0 + x)) (fun j => ent (arg12.view.read (Elt Ideal) G) (8 * j + s) (1024 + 0 + x)) (k + 1)).1)
    (fun k s x => (loc (ev v12 x) (ev v16 x) (fun j => ent (arg12.view.read (Elt Ideal) G) (8 * j + s) (0 + x)) (fun j => ent (arg12.view.read (Elt Ideal) G) (8 * j + s) (1024 + 0 + x)) (k + 1)).2)
    (fun s x => by exact ⟨k0_pay7_at s x, k0_pay7_at s x⟩) rfl ?_ k hk
  intro k hk hP hrows
  have hkk : k < k0_t1_loop.trips := by
    have : k0_t1_loop.trips = 64 := by decide +kernel
    omega
  have e := t1_step 𝒱 c bd i arg3 harg3 arg4 harg4 arg5 harg5 arg6 harg6 arg7 harg7 arg8 harg8 arg9 harg9 arg10 harg10 arg11 harg11 arg12 harg12 arg13 harg13 arg14 harg14 v12 v16 G (k0_pay7 (F := Ideal), k0_pay7 (F := Ideal)) ⟨k, hkk⟩
  refine ⟨fun s x => ?_, k0_off1 ⟨k, hkk⟩, k0_off2 ⟨k, hkk⟩, k0_off1_eq ⟨k, hkk⟩, k0_off2_eq ⟨k, hkk⟩, k0_off1_inb ⟨k, hkk⟩, k0_off2_inb ⟨k, hkk⟩, _, _,
    congrArg Prod.snd e, fun s x => ?_⟩
  · have hP1 := (hP s x).1
    have hP2 := (hP s x).2
    rw [e]
    dsimp only
    exact ⟨by rw [k0_pay8_at, hP1, hP2, readAt_ent arg12.view _ (k0_off1_eq ⟨k, hkk⟩) _ hk (by omega), hrows _ s.2 _ (by omega)]; rfl, by rw [k0_pay9_at, hP1, hP2, readAt_ent arg12.view _ (k0_off2_eq ⟨k, hkk⟩) _ hk (by omega), hrows _ s.2 _ (by omega)]; rfl⟩
  · have hP1 := (hP s x).1
    have hP2 := (hP s x).2
    exact ⟨by rw [k0_pay10_at, k0_pay8_at, hP1, hP2, readAt_ent arg12.view _ (k0_off1_eq ⟨k, hkk⟩) _ hk (by omega), hrows _ s.2 _ (by omega)]; rfl, by rw [k0_pay11_at, k0_pay9_at, hP1, hP2, readAt_ent arg12.view _ (k0_off2_eq ⟨k, hkk⟩) _ hk (by omega), hrows _ s.2 _ (by omega)]; rfl⟩

/-- What the second loop carries and leaves after its trips, entry by entry. -/
theorem t2_vals (v15 : FVec Ideal S8x512 .f32) (v19 : FVec Ideal S8x512 .f32) (v148 : FVec Ideal S1x512 .f32) (v152 : FVec Ideal S1x512 .f32) (v153 : FVec Ideal S1x512 .f32) (v154 : FVec Ideal S1x512 .f32) (G : BufTy.Contents (Elt Ideal) arg12.view.ty) (init : Vec Ideal S8x512 .f32 × Vec Ideal S8x512 .f32) (k : ℕ) (hk : k ≤ 64) :
    (∀ (s : Fin 8) (x : Fin 512),
      (st_k0_t2 (F := Ideal) 𝒱 c bd i arg3 harg3 arg4 harg4 arg5 harg5 arg6 harg6 arg7 harg7 arg8 harg8 arg9 harg9 arg10 harg10 arg11 harg11 arg12 harg12 arg13 harg13 arg14 harg14 v15 v19 v148 v152 v153 v154 G init k).1.1 (ix2 s x) = (car (e8 v15 s.val x.val) (e8 v19 s.val x.val) (e8 init.1 s.val x.val, e8 init.2 s.val x.val) k).1 ∧
      (st_k0_t2 (F := Ideal) 𝒱 c bd i arg3 harg3 arg4 harg4 arg5 harg5 arg6 harg6 arg7 harg7 arg8 harg8 arg9 harg9 arg10 harg10 arg11 harg11 arg12 harg12 arg13 harg13 arg14 harg14 v15 v19 v148 v152 v153 v154 G init k).1.2 (ix2 s x) = (car (e8 v15 s.val x.val) (e8 v19 s.val x.val) (e8 init.1 s.val x.val, e8 init.2 s.val x.val) k).2) ∧
    ∀ r, r < 512 → ∀ y, y < 2048 →
      ent (arg12.view.read (Elt Ideal) (arg12.view.writes (Elt Ideal) G (st_k0_t2 (F := Ideal) 𝒱 c bd i arg3 harg3 arg4 harg4 arg5 harg5 arg6 harg6 arg7 harg7 arg8 harg8 arg9 harg9 arg10 harg10 arg11 harg11 arg12 harg12 arg13 harg13 arg14 harg14 v15 v19 v148 v152 v153 v154 G init k).2)) r y =
        if r < 8 * k then
          if 0 ≤ y ∧ y < 0 + 512 then (fun k s x => ent (arg12.view.read (Elt Ideal) G) (8 * k + s) (0 + x) + (car (e8 v15 s x) (e8 v19 s x) (e8 init.1 s x, e8 init.2 s x) (k + 1)).1) (r / 8) (r % 8) (y - 0)
          else if 1024 + 0 ≤ y ∧ y < 1536 + 0 then (fun k s x => ent (arg12.view.read (Elt Ideal) G) (8 * k + s) (1024 + 0 + x) + (car (e8 v15 s x) (e8 v19 s x) (e8 init.1 s x, e8 init.2 s x) (k + 1)).2) (r / 8) (r % 8) (y - (1024 + 0))
          else ent (arg12.view.read (Elt Ideal) G) r y
        else ent (arg12.view.read (Elt Ideal) G) r y := by
  refine rows_read arg12.view G 0 (by omega) (fun k => (st_k0_t2 (F := Ideal) 𝒱 c bd i arg3 harg3 arg4 harg4 arg5 harg5 arg6 harg6 arg7 harg7 arg8 harg8 arg9 harg9 arg10 harg10 arg11 harg11 arg12 harg12 arg13 harg13 arg14 harg14 v15 v19 v148 v152 v153 v154 G init k).2)
    (fun k => ∀ (s : Fin 8) (x : Fin 512),
      (st_k0_t2 (F := Ideal) 𝒱 c bd i arg3 harg3 arg4 harg4 arg5 harg5 arg6 harg6 arg7 harg7 arg8 harg8 arg9 harg9 arg10 harg10 arg11 harg11 arg12 harg12 arg13 harg13 arg14 harg14 v15 v19 v148 v152 v153 v154 G init k).1.1 (ix2 s x) = (car (e8 v15 s.val x.val) (e8 v19 s.val x.val) (e8 init.1 s.val x.val, e8 init.2 s.val x.val) k).1 ∧
      (st_k0_t2 (F := Ideal) 𝒱 c bd i arg3 harg3 arg4 harg4 arg5 harg5 arg6 harg6 arg7 harg7 arg8 harg8 arg9 harg9 arg10 harg10 arg11 harg11 arg12 harg12 arg13 harg13 arg14 harg14 v15 v19 v148 v152 v153 v154 G init k).1.2 (ix2 s x) = (car (e8 v15 s.val x.val) (e8 v19 s.val x.val) (e8 init.1 s.val x.val, e8 init.2 s.val x.val) k).2)
    (fun k s x => ent (arg12.view.read (Elt Ideal) G) (8 * k + s) (0 + x) + (car (e8 v15 s x) (e8 v19 s x) (e8 init.1 s x, e8 init.2 s x) (k + 1)).1)
    (fun k s x => ent (arg12.view.read (Elt Ideal) G) (8 * k + s) (1024 + 0 + x) + (car (e8 v15 s x) (e8 v19 s x) (e8 init.1 s x, e8 init.2 s x) (k + 1)).2)
    (fun s x => by exact ⟨e8_ix _ s x, e8_ix _ s x⟩) rfl ?_ k hk
  intro k hk hP hrows
  have hkk : k < k0_t2_loop.trips := by
    have : k0_t2_loop.trips = 64 := by decide +kernel
    omega
  have e := t2_step 𝒱 c bd i arg3 harg3 arg4 harg4 arg5 harg5 arg6 harg6 arg7 harg7 arg8 harg8 arg9 harg9 arg10 harg10 arg11 harg11 arg12 harg12 arg13 harg13 arg14 harg14 v15 v19 v148 v152 v153 v154 G init ⟨k, hkk⟩
  refine ⟨fun s x => ?_, k0_off3 ⟨k, hkk⟩, k0_off4 ⟨k, hkk⟩, k0_off3_eq ⟨k, hkk⟩, k0_off4_eq ⟨k, hkk⟩, k0_off3_inb ⟨k, hkk⟩, k0_off4_inb ⟨k, hkk⟩, _, _,
    congrArg Prod.snd e, fun s x => ?_⟩
  · have hP1 := (hP s x).1
    have hP2 := (hP s x).2
    rw [e]
    dsimp only
    exact ⟨by rw [k0_pay50_at, hP1, hP2, e8_ix v15, e8_ix v19]; rfl, by rw [k0_pay51_at, hP1, hP2, e8_ix v15, e8_ix v19]; rfl⟩
  · have hP1 := (hP s x).1
    have hP2 := (hP s x).2
    exact ⟨by rw [k0_pay52_at, k0_pay50_at, hP1, hP2, e8_ix v15, e8_ix v19, readAt_ent arg12.view _ (k0_off3_eq ⟨k, hkk⟩) _ hk (by omega), hrows _ s.2 _ (by omega)]; rfl, by rw [k0_pay53_at, k0_pay51_at, hP1, hP2, e8_ix v15, e8_ix v19, readAt_ent arg12.view _ (k0_off4_eq ⟨k, hkk⟩) _ hk (by omega), hrows _ s.2 _ (by omega)]; rfl⟩

/-- What the third loop carries and leaves after its trips, entry by entry. -/
theorem t3_vals (v15 : FVec Ideal S8x512 .f32) (v19 : FVec Ideal S8x512 .f32) (v148 : FVec Ideal S1x512 .f32) (v152 : FVec Ideal S1x512 .f32) (v153 : FVec Ideal S1x512 .f32) (v154 : FVec Ideal S1x512 .f32) (v167 : Vec Ideal S1x1x512 .f32) (v171 : Vec Ideal S1x1x512 .f32) (G : BufTy.Contents (Elt Ideal) arg12.view.ty) (k : ℕ) (hk : k ≤ 64) :
    (∀ (s : Fin 8) (x : Fin 512),
      (st_k0_t3 (F := Ideal) 𝒱 c bd i arg3 harg3 arg4 harg4 arg5 harg5 arg6 harg6 arg7 harg7 arg8 harg8 arg9 harg9 arg10 harg10 arg11 harg11 arg12 harg12 arg13 harg13 arg14 harg14 v15 v19 v148 v152 v153 v154 v167 v171 G (k0_pay56 (F := Ideal), k0_pay56 (F := Ideal)) k).1.1 (ix2 s x) = (loc (ev v167 x.val) (ev v171 x.val) (fun j => ent (arg12.view.read (Elt Ideal) G) (8 * j + s.val) (512 + x.val)) (fun j => ent (arg12.view.read (Elt Ideal) G) (8 * j + s.val) (1024 + 512 + x.val)) k).1 ∧
      (st_k0_t3 (F := Ideal) 𝒱 c bd i arg3 harg3 arg4 harg4 arg5 harg5 arg6 harg6 arg7 harg7 arg8 harg8 arg9 harg9 arg10 harg10 arg11 harg11 arg12 harg12 arg13 harg13 arg14 harg14 v15 v19 v148 v152 v153 v154 v167 v171 G (k0_pay56 (F := Ideal), k0_pay56 (F := Ideal)) k).1.2 (ix2 s x) = (loc (ev v167 x.val) (ev v171 x.val) (fun j => ent (arg12.view.read (Elt Ideal) G) (8 * j + s.val) (512 + x.val)) (fun j => ent (arg12.view.read (Elt Ideal) G) (8 * j + s.val) (1024 + 512 + x.val)) k).2) ∧
    ∀ r, r < 512 → ∀ y, y < 2048 →
      ent (arg12.view.read (Elt Ideal) (arg12.view.writes (Elt Ideal) G (st_k0_t3 (F := Ideal) 𝒱 c bd i arg3 harg3 arg4 harg4 arg5 harg5 arg6 harg6 arg7 harg7 arg8 harg8 arg9 harg9 arg10 harg10 arg11 harg11 arg12 harg12 arg13 harg13 arg14 harg14 v15 v19 v148 v152 v153 v154 v167 v171 G (k0_pay56 (F := Ideal), k0_pay56 (F := Ideal)) k).2)) r y =
        if r < 8 * k then
          if 512 ≤ y ∧ y < 512 + 512 then (fun k s x => (loc (ev v167 x) (ev v171 x) (fun j => ent (arg12.view.read (Elt Ideal) G) (8 * j + s) (512 + x)) (fun j => ent (arg12.view.read (Elt Ideal) G) (8 * j + s) (1024 + 512 + x)) (k + 1)).1) (r / 8) (r % 8) (y - 512)
          else if 1024 + 512 ≤ y ∧ y < 1536 + 512 then (fun k s x => (loc (ev v167 x) (ev v171 x) (fun j => ent (arg12.view.read (Elt Ideal) G) (8 * j + s) (512 + x)) (fun j => ent (arg12.view.read (Elt Ideal) G) (8 * j + s) (1024 + 512 + x)) (k + 1)).2) (r / 8) (r % 8) (y - (1024 + 512))
          else ent (arg12.view.read (Elt Ideal) G) r y
        else ent (arg12.view.read (Elt Ideal) G) r y := by
  refine rows_read arg12.view G 512 (by omega) (fun k => (st_k0_t3 (F := Ideal) 𝒱 c bd i arg3 harg3 arg4 harg4 arg5 harg5 arg6 harg6 arg7 harg7 arg8 harg8 arg9 harg9 arg10 harg10 arg11 harg11 arg12 harg12 arg13 harg13 arg14 harg14 v15 v19 v148 v152 v153 v154 v167 v171 G (k0_pay56 (F := Ideal), k0_pay56 (F := Ideal)) k).2)
    (fun k => ∀ (s : Fin 8) (x : Fin 512),
      (st_k0_t3 (F := Ideal) 𝒱 c bd i arg3 harg3 arg4 harg4 arg5 harg5 arg6 harg6 arg7 harg7 arg8 harg8 arg9 harg9 arg10 harg10 arg11 harg11 arg12 harg12 arg13 harg13 arg14 harg14 v15 v19 v148 v152 v153 v154 v167 v171 G (k0_pay56 (F := Ideal), k0_pay56 (F := Ideal)) k).1.1 (ix2 s x) = (loc (ev v167 x.val) (ev v171 x.val) (fun j => ent (arg12.view.read (Elt Ideal) G) (8 * j + s.val) (512 + x.val)) (fun j => ent (arg12.view.read (Elt Ideal) G) (8 * j + s.val) (1024 + 512 + x.val)) k).1 ∧
      (st_k0_t3 (F := Ideal) 𝒱 c bd i arg3 harg3 arg4 harg4 arg5 harg5 arg6 harg6 arg7 harg7 arg8 harg8 arg9 harg9 arg10 harg10 arg11 harg11 arg12 harg12 arg13 harg13 arg14 harg14 v15 v19 v148 v152 v153 v154 v167 v171 G (k0_pay56 (F := Ideal), k0_pay56 (F := Ideal)) k).1.2 (ix2 s x) = (loc (ev v167 x.val) (ev v171 x.val) (fun j => ent (arg12.view.read (Elt Ideal) G) (8 * j + s.val) (512 + x.val)) (fun j => ent (arg12.view.read (Elt Ideal) G) (8 * j + s.val) (1024 + 512 + x.val)) k).2)
    (fun k s x => (loc (ev v167 x) (ev v171 x) (fun j => ent (arg12.view.read (Elt Ideal) G) (8 * j + s) (512 + x)) (fun j => ent (arg12.view.read (Elt Ideal) G) (8 * j + s) (1024 + 512 + x)) (k + 1)).1)
    (fun k s x => (loc (ev v167 x) (ev v171 x) (fun j => ent (arg12.view.read (Elt Ideal) G) (8 * j + s) (512 + x)) (fun j => ent (arg12.view.read (Elt Ideal) G) (8 * j + s) (1024 + 512 + x)) (k + 1)).2)
    (fun s x => by exact ⟨k0_pay56_at s x, k0_pay56_at s x⟩) rfl ?_ k hk
  intro k hk hP hrows
  have hkk : k < k0_t3_loop.trips := by
    have : k0_t3_loop.trips = 64 := by decide +kernel
    omega
  have e := t3_step 𝒱 c bd i arg3 harg3 arg4 harg4 arg5 harg5 arg6 harg6 arg7 harg7 arg8 harg8 arg9 harg9 arg10 harg10 arg11 harg11 arg12 harg12 arg13 harg13 arg14 harg14 v15 v19 v148 v152 v153 v154 v167 v171 G (k0_pay56 (F := Ideal), k0_pay56 (F := Ideal)) ⟨k, hkk⟩
  refine ⟨fun s x => ?_, k0_off5 ⟨k, hkk⟩, k0_off6 ⟨k, hkk⟩, k0_off5_eq ⟨k, hkk⟩, k0_off6_eq ⟨k, hkk⟩, k0_off5_inb ⟨k, hkk⟩, k0_off6_inb ⟨k, hkk⟩, _, _,
    congrArg Prod.snd e, fun s x => ?_⟩
  · have hP1 := (hP s x).1
    have hP2 := (hP s x).2
    rw [e]
    dsimp only
    exact ⟨by rw [k0_pay57_at, hP1, hP2, readAt_ent arg12.view _ (k0_off5_eq ⟨k, hkk⟩) _ hk (by omega), hrows _ s.2 _ (by omega)]; rfl, by rw [k0_pay58_at, hP1, hP2, readAt_ent arg12.view _ (k0_off6_eq ⟨k, hkk⟩) _ hk (by omega), hrows _ s.2 _ (by omega)]; rfl⟩
  · have hP1 := (hP s x).1
    have hP2 := (hP s x).2
    exact ⟨by rw [k0_pay59_at, k0_pay57_at, hP1, hP2, readAt_ent arg12.view _ (k0_off5_eq ⟨k, hkk⟩) _ hk (by omega), hrows _ s.2 _ (by omega)]; rfl, by rw [k0_pay60_at, k0_pay58_at, hP1, hP2, readAt_ent arg12.view _ (k0_off6_eq ⟨k, hkk⟩) _ hk (by omega), hrows _ s.2 _ (by omega)]; rfl⟩

/-- What the fourth loop carries and leaves after its trips, entry by entry. -/
theorem t4_vals (v4 : FVec Ideal S512x256 .f32) (v170 : FVec Ideal S8x512 .f32) (v174 : FVec Ideal S8x512 .f32) (v307 : FVec Ideal S1x512 .f32) (v311 : FVec Ideal S1x512 .f32) (G : BufTy.Contents (Elt Ideal) arg12.view.ty) (init : Vec Ideal S8x512 .f32 × Vec Ideal S8x512 .f32) (k : ℕ) (hk : k ≤ 64) :
    (∀ (s : Fin 8) (x : Fin 512),
      (st_k0_t4 (F := Ideal) 𝒱 c bd i arg3 harg3 arg4 harg4 arg5 harg5 arg6 harg6 arg7 harg7 arg8 harg8 arg9 harg9 arg10 harg10 arg11 harg11 arg12 harg12 arg13 harg13 arg14 harg14 v4 v170 v174 v307 v311 G init k).1.1 (ix2 s x) = (car (e8 v170 s.val x.val) (e8 v174 s.val x.val) (e8 init.1 s.val x.val, e8 init.2 s.val x.val) k).1 ∧
      (st_k0_t4 (F := Ideal) 𝒱 c bd i arg3 harg3 arg4 harg4 arg5 harg5 arg6 harg6 arg7 harg7 arg8 harg8 arg9 harg9 arg10 harg10 arg11 harg11 arg12 harg12 arg13 harg13 arg14 harg14 v4 v170 v174 v307 v311 G init k).1.2 (ix2 s x) = (car (e8 v170 s.val x.val) (e8 v174 s.val x.val) (e8 init.1 s.val x.val, e8 init.2 s.val x.val) k).2) ∧
    ∀ r, r < 512 → ∀ y, y < 2048 →
      ent (arg12.view.read (Elt Ideal) (arg12.view.writes (Elt Ideal) G (st_k0_t4 (F := Ideal) 𝒱 c bd i arg3 harg3 arg4 harg4 arg5 harg5 arg6 harg6 arg7 harg7 arg8 harg8 arg9 harg9 arg10 harg10 arg11 harg11 arg12 harg12 arg13 harg13 arg14 harg14 v4 v170 v174 v307 v311 G init k).2)) r y =
        if r < 8 * k then
          if 512 ≤ y ∧ y < 512 + 512 then (fun k s x => ent (arg12.view.read (Elt Ideal) G) (8 * k + s) (512 + x) + (car (e8 v170 s x) (e8 v174 s x) (e8 init.1 s x, e8 init.2 s x) (k + 1)).1) (r / 8) (r % 8) (y - 512)
          else if 1024 + 512 ≤ y ∧ y < 1536 + 512 then (fun k s x => ent (arg12.view.read (Elt Ideal) G) (8 * k + s) (1024 + 512 + x) + (car (e8 v170 s x) (e8 v174 s x) (e8 init.1 s x, e8 init.2 s x) (k + 1)).2) (r / 8) (r % 8) (y - (1024 + 512))
          else ent (arg12.view.read (Elt Ideal) G) r y
        else ent (arg12.view.read (Elt Ideal) G) r y := by
  refine rows_read arg12.view G 512 (by omega) (fun k => (st_k0_t4 (F := Ideal) 𝒱 c bd i arg3 harg3 arg4 harg4 arg5 harg5 arg6 harg6 arg7 harg7 arg8 harg8 arg9 harg9 arg10 harg10 arg11 harg11 arg12 harg12 arg13 harg13 arg14 harg14 v4 v170 v174 v307 v311 G init k).2)
    (fun k => ∀ (s : Fin 8) (x : Fin 512),
      (st_k0_t4 (F := Ideal) 𝒱 c bd i arg3 harg3 arg4 harg4 arg5 harg5 arg6 harg6 arg7 harg7 arg8 harg8 arg9 harg9 arg10 harg10 arg11 harg11 arg12 harg12 arg13 harg13 arg14 harg14 v4 v170 v174 v307 v311 G init k).1.1 (ix2 s x) = (car (e8 v170 s.val x.val) (e8 v174 s.val x.val) (e8 init.1 s.val x.val, e8 init.2 s.val x.val) k).1 ∧
      (st_k0_t4 (F := Ideal) 𝒱 c bd i arg3 harg3 arg4 harg4 arg5 harg5 arg6 harg6 arg7 harg7 arg8 harg8 arg9 harg9 arg10 harg10 arg11 harg11 arg12 harg12 arg13 harg13 arg14 harg14 v4 v170 v174 v307 v311 G init k).1.2 (ix2 s x) = (car (e8 v170 s.val x.val) (e8 v174 s.val x.val) (e8 init.1 s.val x.val, e8 init.2 s.val x.val) k).2)
    (fun k s x => ent (arg12.view.read (Elt Ideal) G) (8 * k + s) (512 + x) + (car (e8 v170 s x) (e8 v174 s x) (e8 init.1 s x, e8 init.2 s x) (k + 1)).1)
    (fun k s x => ent (arg12.view.read (Elt Ideal) G) (8 * k + s) (1024 + 512 + x) + (car (e8 v170 s x) (e8 v174 s x) (e8 init.1 s x, e8 init.2 s x) (k + 1)).2)
    (fun s x => by exact ⟨e8_ix _ s x, e8_ix _ s x⟩) rfl ?_ k hk
  intro k hk hP hrows
  have hkk : k < k0_t4_loop.trips := by
    have : k0_t4_loop.trips = 64 := by decide +kernel
    omega
  have e := t4_step 𝒱 c bd i arg3 harg3 arg4 harg4 arg5 harg5 arg6 harg6 arg7 harg7 arg8 harg8 arg9 harg9 arg10 harg10 arg11 harg11 arg12 harg12 arg13 harg13 arg14 harg14 v4 v170 v174 v307 v311 G init ⟨k, hkk⟩
  refine ⟨fun s x => ?_, k0_off7 ⟨k, hkk⟩, k0_off8 ⟨k, hkk⟩, k0_off7_eq ⟨k, hkk⟩, k0_off8_eq ⟨k, hkk⟩, k0_off7_inb ⟨k, hkk⟩, k0_off8_inb ⟨k, hkk⟩, _, _,
    congrArg Prod.snd e, fun s x => ?_⟩
  · have hP1 := (hP s x).1
    have hP2 := (hP s x).2
    rw [e]
    dsimp only
    exact ⟨by rw [k0_pay97_at, hP1, hP2, e8_ix v170, e8_ix v174]; rfl, by rw [k0_pay98_at, hP1, hP2, e8_ix v170, e8_ix v174]; rfl⟩
  · have hP1 := (hP s x).1
    have hP2 := (hP s x).2
    exact ⟨by rw [k0_pay99_at, k0_pay97_at, hP1, hP2, e8_ix v170, e8_ix v174, readAt_ent arg12.view _ (k0_off7_eq ⟨k, hkk⟩) _ hk (by omega), hrows _ s.2 _ (by omega)]; rfl, by rw [k0_pay100_at, k0_pay98_at, hP1, hP2, e8_ix v170, e8_ix v174, readAt_ent arg12.view _ (k0_off8_eq ⟨k, hkk⟩) _ hk (by omega), hrows _ s.2 _ (by omega)]; rfl⟩

end Cert.KernelIdeal.Scan
-- ==== Proof.Scan.Chain.lean ====
module

public import proofs.«01_k».proof.Proof.Scan.Vals

@[expose] public section

set_option maxRecDepth 16384
noncomputable section
open Idealize.ShloMosaic Idealize.ShloMosaic.TcCoe Idealize.SL.Sem
namespace Cert.KernelIdeal.Scan
open Cert.KernelIdeal Cert.KernelIdeal.Gen

/-- A linear recurrence with a complex eigenvalue: from a state, one multiplication and one input per step. -/
def scn (tr ti : EReal) (c : EReal × EReal) (er ei : ℕ → EReal) : ℕ → EReal × EReal
  | 0 => c
  | s + 1 => (tr * (scn tr ti c er ei s).1 - ti * (scn tr ti c er ei s).2 + er s,
      tr * (scn tr ti c er ei s).2 + ti * (scn tr ti c er ei s).1 + ei s)

/-- The pieces that store a state per row, real part at column `o`, imaginary part at column `1024 + o`, over earlier pieces. -/
def cinP (o : ℕ) (ho : o + 512 ≤ 1024) (a b : ℕ → FVec Ideal S1x512 .f32) (L : List (View.Piece (Elt Ideal) S8x2048 .f32)) :
    (n : ℕ) → n ≤ 8 → List (View.Piece (Elt Ideal) S8x2048 .f32)
  | 0, _ => L
  | n + 1, h =>
    ⟨Rect.unit (s := S8x2048) ![n, 1024 + o] S1x512.size (Fin.forall_fin_two.mpr ⟨by show n + 1 ≤ 8; exact h, by show 1024 + o + 512 ≤ 2048; omega⟩), b n⟩ ::
    ⟨Rect.unit (s := S8x2048) ![n, o] S1x512.size (Fin.forall_fin_two.mpr ⟨by show n + 1 ≤ 8; exact h, by show o + 512 ≤ 2048; omega⟩), a n⟩ ::
    cinP o ho a b L n (Nat.le_of_succ_le h)

/-- Reading the stored states back, row by row. -/
theorem cinP_read (v : View sig .tc .vmem S8x2048 .f32) (G : BufTy.Contents (Elt Ideal) v.ty) (o : ℕ) (ho : o + 512 ≤ 1024)
    (a b : ℕ → FVec Ideal S1x512 .f32) (L : List (View.Piece (Elt Ideal) S8x2048 .f32)) (x : Fin 512) (s : Fin 8) :
    ∀ (n : ℕ) (h : n ≤ 8), s.val < n →
      v.read (Elt Ideal) (v.writes (Elt Ideal) G (cinP o ho a b L n h)) (ix2 s (⟨o + x.val, by omega⟩ : Fin 2048)) = a s.val (ix2 0 x) ∧
      v.read (Elt Ideal) (v.writes (Elt Ideal) G (cinP o ho a b L n h)) (ix2 s (⟨1024 + o + x.val, by omega⟩ : Fin 2048)) = b s.val (ix2 0 x) := by
  intro n
  induction n with
  | zero => intro h hs; omega
  | succ n ih =>
    intro h hs
    rw [cinP]
    by_cases he : s.val = n
    · refine ⟨?_, ?_⟩
      · rw [View.read_writes_cons_unit_of_not_mem v G _ _ _ _ rfl (1 : Fin 2) (Or.inl (by show o + x.val < 1024 + o; omega))]
        refine (View.read_writes_cons_unit_of_mem v G _ _ _ _ (ix2 (0 : Fin 1) x) rfl
          (Fin.forall_fin_two.mpr ⟨by show s.val = n + 0; omega, rfl⟩)).trans (by rw [he])
      · refine (View.read_writes_cons_unit_of_mem v G _ _ _ _ (ix2 (0 : Fin 1) x) rfl
          (Fin.forall_fin_two.mpr ⟨by show s.val = n + 0; omega, rfl⟩)).trans (by rw [he])
    · have hr := ih (Nat.le_of_succ_le h) (by omega)
      refine ⟨?_, ?_⟩
      · rw [View.read_writes_cons_unit_of_not_mem v G _ _ _ _ rfl (0 : Fin 2) (Or.inl (by show s.val < n; omega)),
          View.read_writes_cons_unit_of_not_mem v G _ _ _ _ rfl (0 : Fin 2) (Or.inl (by show s.val < n; omega))]
        exact hr.1
      · rw [View.read_writes_cons_unit_of_not_mem v G _ _ _ _ rfl (0 : Fin 2) (Or.inl (by show s.val < n; omega)),
          View.read_writes_cons_unit_of_not_mem v G _ _ _ _ rfl (0 : Fin 2) (Or.inl (by show s.val < n; omega))]
        exact hr.2

/-- The carried states of the first half that the chain keeps by name: after two and after five segments. -/
def p0m2r (r3 r4 : FVec Ideal S8x512 .f32) (r5 r6 v27 v28 : FVec Ideal S1x512 .f32) : FVec Ideal S1x512 .f32 := k0_pay20 r3 r4 r5 r6 v27 v28
/-- The imaginary part after two segments. -/
def p0m2i (r3 r4 : FVec Ideal S8x512 .f32) (r5 r6 v27 v28 : FVec Ideal S1x512 .f32) : FVec Ideal S1x512 .f32 := k0_pay21 r3 r4 r5 r6 v27 v28
/-- The real part after five segments. -/
def p0m5r (r3 r4 : FVec Ideal S8x512 .f32) (r5 r6 v27 v28 : FVec Ideal S1x512 .f32) : FVec Ideal S1x512 .f32 := k0_pay32 r3 r4 r5 r6 (p0m2r r3 r4 r5 r6 v27 v28) (p0m2i r3 r4 r5 r6 v27 v28)
/-- The imaginary part after five segments. -/
def p0m5i (r3 r4 : FVec Ideal S8x512 .f32) (r5 r6 v27 v28 : FVec Ideal S1x512 .f32) : FVec Ideal S1x512 .f32 := k0_pay33 r3 r4 r5 r6 (p0m2r r3 r4 r5 r6 v27 v28) (p0m2i r3 r4 r5 r6 v27 v28)

/-- The real part stored for each segment of the first half. -/
def p0a (r3 r4 : FVec Ideal S8x512 .f32) (r5 r6 v27 v28 : FVec Ideal S1x512 .f32) : ℕ → FVec Ideal S1x512 .f32
  | 0 => k0_pay14 v27
  | 1 => k0_pay18 r3 r5 r6 v27 v28
  | 2 => k0_pay22 r3 r4 r5 r6 v27 v28
  | 3 => k0_pay26 r3 r5 r6 (p0m2r r3 r4 r5 r6 v27 v28) (p0m2i r3 r4 r5 r6 v27 v28)
  | 4 => k0_pay30 r3 r4 r5 r6 (p0m2r r3 r4 r5 r6 v27 v28) (p0m2i r3 r4 r5 r6 v27 v28)
  | 5 => k0_pay34 (p0m5r r3 r4 r5 r6 v27 v28)
  | 6 => k0_pay38 r3 r5 r6 (p0m5r r3 r4 r5 r6 v27 v28) (p0m5i r3 r4 r5 r6 v27 v28)
  | _ => k0_pay42 r3 r4 r5 r6 (p0m5r r3 r4 r5 r6 v27 v28) (p0m5i r3 r4 r5 r6 v27 v28)

/-- The imaginary part stored for each segment of the first half. -/
def p0b (r3 r4 : FVec Ideal S8x512 .f32) (r5 r6 v27 v28 : FVec Ideal S1x512 .f32) : ℕ → FVec Ideal S1x512 .f32
  | 0 => k0_pay15 v28
  | 1 => k0_pay19 r4 r5 r6 v27 v28
  | 2 => k0_pay23 (p0m2i r3 r4 r5 r6 v27 v28)
  | 3 => k0_pay27 r4 r5 r6 (p0m2r r3 r4 r5 r6 v27 v28) (p0m2i r3 r4 r5 r6 v27 v28)
  | 4 => k0_pay31 r3 r4 r5 r6 (p0m2r r3 r4 r5 r6 v27 v28) (p0m2i r3 r4 r5 r6 v27 v28)
  | 5 => k0_pay35 (p0m5i r3 r4 r5 r6 v27 v28)
  | 6 => k0_pay39 r4 r5 r6 (p0m5r r3 r4 r5 r6 v27 v28) (p0m5i r3 r4 r5 r6 v27 v28)
  | _ => k0_pay43 r3 r4 r5 r6 (p0m5r r3 r4 r5 r6 v27 v28) (p0m5i r3 r4 r5 r6 v27 v28)

/-- The real part carried to the next block of the first half. -/
def p0cr (r3 r4 : FVec Ideal S8x512 .f32) (r5 r6 v27 v28 : FVec Ideal S1x512 .f32) : FVec Ideal S1x512 .f32 := k0_pay48 (k0_pay45 r3 r4 r5 r6 (p0m5r r3 r4 r5 r6 v27 v28) (p0m5i r3 r4 r5 r6 v27 v28))
/-- The imaginary part carried to the next block of the first half. -/
def p0ci (r3 r4 : FVec Ideal S8x512 .f32) (r5 r6 v27 v28 : FVec Ideal S1x512 .f32) : FVec Ideal S1x512 .f32 := k0_pay49 (k0_pay44 r4) (k0_pay46 r3 r4 r5 r6 (p0m5r r3 r4 r5 r6 v27 v28) (p0m5i r3 r4 r5 r6 v27 v28)) (k0_pay47 r3 r4 r5 r6 (p0m5r r3 r4 r5 r6 v27 v28) (p0m5i r3 r4 r5 r6 v27 v28))

section
variable (r3 r4 : FVec Ideal S8x512 .f32) (r5 r6 v27 v28 : FVec Ideal S1x512 .f32) (x : Fin 512)
/-- The state after `s` segments of the first half at one column. -/
def p0s (s : ℕ) : EReal × EReal :=
  scn (r5 (ix2 0 x)) (r6 (ix2 0 x)) (v27 (ix2 0 x), v28 (ix2 0 x)) (fun s => e8 r3 s x.val) (fun s => e8 r4 s x.val) s

/-- The named state after 2 segments. -/
theorem p0m2r_at : p0m2r r3 r4 r5 r6 v27 v28 (ix2 0 x) = (p0s r3 r4 r5 r6 v27 v28 x 2).1 := by
  have e3 : ∀ s : Fin 8, r3 (ix2 s x) = e8 r3 s.val x.val := fun s => e8_ix r3 s x
  have e4 : ∀ s : Fin 8, r4 (ix2 s x) = e8 r4 s.val x.val := fun s => e8_ix r4 s x
  unfold p0m2r
  pointwise [k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, e3, e4]
  all_goals simp only [p0s, scn]

/-- The named state after 2 segments. -/
theorem p0m2i_at : p0m2i r3 r4 r5 r6 v27 v28 (ix2 0 x) = (p0s r3 r4 r5 r6 v27 v28 x 2).2 := by
  have e3 : ∀ s : Fin 8, r3 (ix2 s x) = e8 r3 s.val x.val := fun s => e8_ix r3 s x
  have e4 : ∀ s : Fin 8, r4 (ix2 s x) = e8 r4 s.val x.val := fun s => e8_ix r4 s x
  unfold p0m2i
  pointwise [k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, e3, e4]
  all_goals simp only [p0s, scn]

/-- The named state after 5 segments. -/
theorem p0m5r_at : p0m5r r3 r4 r5 r6 v27 v28 (ix2 0 x) = (p0s r3 r4 r5 r6 v27 v28 x 5).1 := by
  have e3 : ∀ s : Fin 8, r3 (ix2 s x) = e8 r3 s.val x.val := fun s => e8_ix r3 s x
  have e4 : ∀ s : Fin 8, r4 (ix2 s x) = e8 r4 s.val x.val := fun s => e8_ix r4 s x
  unfold p0m5r
  pointwise [k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, e3, e4, p0m2r_at, p0m2i_at]
  all_goals simp only [p0s, scn]

/-- The named state after 5 segments. -/
theorem p0m5i_at : p0m5i r3 r4 r5 r6 v27 v28 (ix2 0 x) = (p0s r3 r4 r5 r6 v27 v28 x 5).2 := by
  have e3 : ∀ s : Fin 8, r3 (ix2 s x) = e8 r3 s.val x.val := fun s => e8_ix r3 s x
  have e4 : ∀ s : Fin 8, r4 (ix2 s x) = e8 r4 s.val x.val := fun s => e8_ix r4 s x
  unfold p0m5i
  pointwise [k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, e3, e4, p0m2r_at, p0m2i_at]
  all_goals simp only [p0s, scn]

/-- The stored state of each segment. -/
theorem p0a_at (s : Fin 8) : p0a r3 r4 r5 r6 v27 v28 s.val (ix2 0 x) = (p0s r3 r4 r5 r6 v27 v28 x s.val).1 := by
  have e3 : ∀ s : Fin 8, r3 (ix2 s x) = e8 r3 s.val x.val := fun s => e8_ix r3 s x
  have e4 : ∀ s : Fin 8, r4 (ix2 s x) = e8 r4 s.val x.val := fun s => e8_ix r4 s x
  fin_cases s <;> (show p0a r3 r4 r5 r6 v27 v28 _ (ix2 0 x) = _; simp only [p0a]; pointwise [k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, e3, e4, p0m2r_at, p0m2i_at, p0m5r_at, p0m5i_at]; all_goals simp only [p0s, scn])

/-- The stored state of each segment. -/
theorem p0b_at (s : Fin 8) : p0b r3 r4 r5 r6 v27 v28 s.val (ix2 0 x) = (p0s r3 r4 r5 r6 v27 v28 x s.val).2 := by
  have e3 : ∀ s : Fin 8, r3 (ix2 s x) = e8 r3 s.val x.val := fun s => e8_ix r3 s x
  have e4 : ∀ s : Fin 8, r4 (ix2 s x) = e8 r4 s.val x.val := fun s => e8_ix r4 s x
  fin_cases s <;> (show p0b r3 r4 r5 r6 v27 v28 _ (ix2 0 x) = _; simp only [p0b]; pointwise [k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, e3, e4, p0m2r_at, p0m2i_at, p0m5r_at, p0m5i_at]; all_goals simp only [p0s, scn])

/-- The carried state after the eight segments. -/
theorem p0cr_at : p0cr r3 r4 r5 r6 v27 v28 (ix2 0 x) = (p0s r3 r4 r5 r6 v27 v28 x 8).1 := by
  have e3 : ∀ s : Fin 8, r3 (ix2 s x) = e8 r3 s.val x.val := fun s => e8_ix r3 s x
  have e4 : ∀ s : Fin 8, r4 (ix2 s x) = e8 r4 s.val x.val := fun s => e8_ix r4 s x
  unfold p0cr
  pointwise [k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay48, k0_pay45, k0_pay44, k0_pay46, k0_pay47, k0_pay49, e3, e4, p0m5r_at, p0m5i_at]
  all_goals simp only [p0s, scn]

/-- The carried state after the eight segments. -/
theorem p0ci_at : p0ci r3 r4 r5 r6 v27 v28 (ix2 0 x) = (p0s r3 r4 r5 r6 v27 v28 x 8).2 := by
  have e3 : ∀ s : Fin 8, r3 (ix2 s x) = e8 r3 s.val x.val := fun s => e8_ix r3 s x
  have e4 : ∀ s : Fin 8, r4 (ix2 s x) = e8 r4 s.val x.val := fun s => e8_ix r4 s x
  unfold p0ci
  pointwise [k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay48, k0_pay45, k0_pay44, k0_pay46, k0_pay47, k0_pay49, e3, e4, p0m5r_at, p0m5i_at]
  all_goals simp only [p0s, scn]

end

/-- The carried states of the second half that the chain keeps by name: after two and after five segments. -/
def p1m2r (r3 r4 : FVec Ideal S8x512 .f32) (r5 r6 v27 v28 : FVec Ideal S1x512 .f32) : FVec Ideal S1x512 .f32 := k0_pay69 r3 r4 r5 r6 v27 v28
/-- The imaginary part after two segments. -/
def p1m2i (r3 r4 : FVec Ideal S8x512 .f32) (r5 r6 v27 v28 : FVec Ideal S1x512 .f32) : FVec Ideal S1x512 .f32 := k0_pay70 r3 r4 r5 r6 v27 v28
/-- The real part after five segments. -/
def p1m5r (r3 r4 : FVec Ideal S8x512 .f32) (r5 r6 v27 v28 : FVec Ideal S1x512 .f32) : FVec Ideal S1x512 .f32 := k0_pay81 r3 r4 r5 r6 (p1m2r r3 r4 r5 r6 v27 v28) (p1m2i r3 r4 r5 r6 v27 v28)
/-- The imaginary part after five segments. -/
def p1m5i (r3 r4 : FVec Ideal S8x512 .f32) (r5 r6 v27 v28 : FVec Ideal S1x512 .f32) : FVec Ideal S1x512 .f32 := k0_pay82 r3 r4 r5 r6 (p1m2r r3 r4 r5 r6 v27 v28) (p1m2i r3 r4 r5 r6 v27 v28)

/-- The real part stored for each segment of the second half. -/
def p1a (r3 r4 : FVec Ideal S8x512 .f32) (r5 r6 v27 v28 : FVec Ideal S1x512 .f32) : ℕ → FVec Ideal S1x512 .f32
  | 0 => k0_pay63 v27
  | 1 => k0_pay67 r3 r5 r6 v27 v28
  | 2 => k0_pay71 r3 r4 r5 r6 v27 v28
  | 3 => k0_pay75 r3 r5 r6 (p1m2r r3 r4 r5 r6 v27 v28) (p1m2i r3 r4 r5 r6 v27 v28)
  | 4 => k0_pay79 r3 r4 r5 r6 (p1m2r r3 r4 r5 r6 v27 v28) (p1m2i r3 r4 r5 r6 v27 v28)
  | 5 => k0_pay83 r3 r4 r5 r6 (p1m2r r3 r4 r5 r6 v27 v28) (p1m2i r3 r4 r5 r6 v27 v28)
  | 6 => k0_pay87 r3 r5 r6 (p1m5r r3 r4 r5 r6 v27 v28) (p1m5i r3 r4 r5 r6 v27 v28)
  | _ => k0_pay91 r3 r4 r5 r6 (p1m5r r3 r4 r5 r6 v27 v28) (p1m5i r3 r4 r5 r6 v27 v28)

/-- The imaginary part stored for each segment of the second half. -/
def p1b (r3 r4 : FVec Ideal S8x512 .f32) (r5 r6 v27 v28 : FVec Ideal S1x512 .f32) : ℕ → FVec Ideal S1x512 .f32
  | 0 => k0_pay64 v28
  | 1 => k0_pay68 r4 r5 r6 v27 v28
  | 2 => k0_pay72 r3 r4 r5 r6 v27 v28
  | 3 => k0_pay76 r4 r5 r6 (p1m2r r3 r4 r5 r6 v27 v28) (p1m2i r3 r4 r5 r6 v27 v28)
  | 4 => k0_pay80 r3 r4 r5 r6 (p1m2r r3 r4 r5 r6 v27 v28) (p1m2i r3 r4 r5 r6 v27 v28)
  | 5 => k0_pay84 (p1m5i r3 r4 r5 r6 v27 v28)
  | 6 => k0_pay88 r4 r5 r6 (p1m5r r3 r4 r5 r6 v27 v28) (p1m5i r3 r4 r5 r6 v27 v28)
  | _ => k0_pay92 r3 r4 r5 r6 (p1m5r r3 r4 r5 r6 v27 v28) (p1m5i r3 r4 r5 r6 v27 v28)

/-- The real part carried to the next block of the second half. -/
def p1cr (r3 r4 : FVec Ideal S8x512 .f32) (r5 r6 v27 v28 : FVec Ideal S1x512 .f32) : FVec Ideal S1x512 .f32 := k0_pay95 (k0_pay93 r3 r4 r5 r6 (p1m5r r3 r4 r5 r6 v27 v28) (p1m5i r3 r4 r5 r6 v27 v28))
/-- The imaginary part carried to the next block of the second half. -/
def p1ci (r3 r4 : FVec Ideal S8x512 .f32) (r5 r6 v27 v28 : FVec Ideal S1x512 .f32) : FVec Ideal S1x512 .f32 := k0_pay96 (k0_pay94 r3 r4 r5 r6 (p1m5r r3 r4 r5 r6 v27 v28) (p1m5i r3 r4 r5 r6 v27 v28))

section
variable (r3 r4 : FVec Ideal S8x512 .f32) (r5 r6 v27 v28 : FVec Ideal S1x512 .f32) (x : Fin 512)
/-- The state after `s` segments of the second half at one column. -/
def p1s (s : ℕ) : EReal × EReal :=
  scn (r5 (ix2 0 x)) (r6 (ix2 0 x)) (v27 (ix2 0 x), v28 (ix2 0 x)) (fun s => e8 r3 s x.val) (fun s => e8 r4 s x.val) s

/-- The named state after 2 segments. -/
theorem p1m2r_at : p1m2r r3 r4 r5 r6 v27 v28 (ix2 0 x) = (p1s r3 r4 r5 r6 v27 v28 x 2).1 := by
  have e3 : ∀ s : Fin 8, r3 (ix2 s x) = e8 r3 s.val x.val := fun s => e8_ix r3 s x
  have e4 : ∀ s : Fin 8, r4 (ix2 s x) = e8 r4 s.val x.val := fun s => e8_ix r4 s x
  unfold p1m2r
  pointwise [k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, e3, e4]
  all_goals simp only [p1s, scn]

/-- The named state after 2 segments. -/
theorem p1m2i_at : p1m2i r3 r4 r5 r6 v27 v28 (ix2 0 x) = (p1s r3 r4 r5 r6 v27 v28 x 2).2 := by
  have e3 : ∀ s : Fin 8, r3 (ix2 s x) = e8 r3 s.val x.val := fun s => e8_ix r3 s x
  have e4 : ∀ s : Fin 8, r4 (ix2 s x) = e8 r4 s.val x.val := fun s => e8_ix r4 s x
  unfold p1m2i
  pointwise [k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, e3, e4]
  all_goals simp only [p1s, scn]

/-- The named state after 5 segments. -/
theorem p1m5r_at : p1m5r r3 r4 r5 r6 v27 v28 (ix2 0 x) = (p1s r3 r4 r5 r6 v27 v28 x 5).1 := by
  have e3 : ∀ s : Fin 8, r3 (ix2 s x) = e8 r3 s.val x.val := fun s => e8_ix r3 s x
  have e4 : ∀ s : Fin 8, r4 (ix2 s x) = e8 r4 s.val x.val := fun s => e8_ix r4 s x
  unfold p1m5r
  pointwise [k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, e3, e4, p1m2r_at, p1m2i_at]
  all_goals simp only [p1s, scn]

/-- The named state after 5 segments. -/
theorem p1m5i_at : p1m5i r3 r4 r5 r6 v27 v28 (ix2 0 x) = (p1s r3 r4 r5 r6 v27 v28 x 5).2 := by
  have e3 : ∀ s : Fin 8, r3 (ix2 s x) = e8 r3 s.val x.val := fun s => e8_ix r3 s x
  have e4 : ∀ s : Fin 8, r4 (ix2 s x) = e8 r4 s.val x.val := fun s => e8_ix r4 s x
  unfold p1m5i
  pointwise [k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, e3, e4, p1m2r_at, p1m2i_at]
  all_goals simp only [p1s, scn]

/-- The stored state of each segment. -/
theorem p1a_at (s : Fin 8) : p1a r3 r4 r5 r6 v27 v28 s.val (ix2 0 x) = (p1s r3 r4 r5 r6 v27 v28 x s.val).1 := by
  have e3 : ∀ s : Fin 8, r3 (ix2 s x) = e8 r3 s.val x.val := fun s => e8_ix r3 s x
  have e4 : ∀ s : Fin 8, r4 (ix2 s x) = e8 r4 s.val x.val := fun s => e8_ix r4 s x
  fin_cases s <;> (show p1a r3 r4 r5 r6 v27 v28 _ (ix2 0 x) = _; simp only [p1a]; pointwise [k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, e3, e4, p1m2r_at, p1m2i_at, p1m5r_at, p1m5i_at]; all_goals simp only [p1s, scn])

/-- The stored state of each segment. -/
theorem p1b_at (s : Fin 8) : p1b r3 r4 r5 r6 v27 v28 s.val (ix2 0 x) = (p1s r3 r4 r5 r6 v27 v28 x s.val).2 := by
  have e3 : ∀ s : Fin 8, r3 (ix2 s x) = e8 r3 s.val x.val := fun s => e8_ix r3 s x
  have e4 : ∀ s : Fin 8, r4 (ix2 s x) = e8 r4 s.val x.val := fun s => e8_ix r4 s x
  fin_cases s <;> (show p1b r3 r4 r5 r6 v27 v28 _ (ix2 0 x) = _; simp only [p1b]; pointwise [k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, e3, e4, p1m2r_at, p1m2i_at, p1m5r_at, p1m5i_at]; all_goals simp only [p1s, scn])

/-- The carried state after the eight segments. -/
theorem p1cr_at : p1cr r3 r4 r5 r6 v27 v28 (ix2 0 x) = (p1s r3 r4 r5 r6 v27 v28 x 8).1 := by
  have e3 : ∀ s : Fin 8, r3 (ix2 s x) = e8 r3 s.val x.val := fun s => e8_ix r3 s x
  have e4 : ∀ s : Fin 8, r4 (ix2 s x) = e8 r4 s.val x.val := fun s => e8_ix r4 s x
  unfold p1cr
  pointwise [k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay95, k0_pay93, k0_pay96, k0_pay94, e3, e4, p1m5r_at, p1m5i_at]
  all_goals simp only [p1s, scn]

/-- The carried state after the eight segments. -/
theorem p1ci_at : p1ci r3 r4 r5 r6 v27 v28 (ix2 0 x) = (p1s r3 r4 r5 r6 v27 v28 x 8).2 := by
  have e3 : ∀ s : Fin 8, r3 (ix2 s x) = e8 r3 s.val x.val := fun s => e8_ix r3 s x
  have e4 : ∀ s : Fin 8, r4 (ix2 s x) = e8 r4 s.val x.val := fun s => e8_ix r4 s x
  unfold p1ci
  pointwise [k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay95, k0_pay93, k0_pay96, k0_pay94, e3, e4, p1m5r_at, p1m5i_at]
  all_goals simp only [p1s, scn]

end

end Cert.KernelIdeal.Scan
-- ==== Proof.Scan.Body.lean ====
module

public import proofs.«01_k».proof.Proof.Scan.Chain
public import Idealize.ShloMosaic.Lib.VecWindow

@[expose] public section

set_option maxRecDepth 16384
noncomputable section
open Idealize.ShloMosaic Idealize.ShloMosaic.TcCoe Idealize.SL.Sem
namespace Cert.KernelIdeal.Scan
open Cert.KernelIdeal Cert.KernelIdeal.Gen

/-- The local scan of one column in one segment of a block of inputs. -/
def locAt (X : FVec Ideal S512x2048 .f32) (l m : EReal) (s y : ℕ) (k : ℕ) : EReal × EReal :=
  loc l m (fun j => ent X (8 * j + s) y) (fun j => ent X (8 * j + s) (1024 + y)) k

/-- The state carried into each segment of a block, for one column. -/
def cinAt (X : FVec Ideal S512x2048 .f32) (l m t u : EReal) (c : EReal × EReal) (y : ℕ) (s : ℕ) : EReal × EReal :=
  scn t u c (fun s => (locAt X l m s y 64).1) (fun s => (locAt X l m s y 64).2) s

/-- The state at one row and column: the local scan plus what the state carried in has become. -/
def stAt (X : FVec Ideal S512x2048 .f32) (l m t u : EReal) (c : EReal × EReal) (y r : ℕ) : EReal × EReal :=
  ((locAt X l m (r % 8) y (r / 8 + 1)).1 + (car l m (cinAt X l m t u c y (r % 8)) (r / 8 + 1)).1,
   (locAt X l m (r % 8) y (r / 8 + 1)).2 + (car l m (cinAt X l m t u c y (r % 8)) (r / 8 + 1)).2)

/-- Reading eight rows of stored states. -/
theorem cinP_cov (v : View sig .tc .vmem S8x2048 .f32) (o : ℕ) (ho : o + 512 ≤ 1024) (a b : ℕ → FVec Ideal S1x512 .f32)
    (L : List (View.Piece (Elt Ideal) S8x2048 .f32)) (i1 : ∀ d, (![0, o] : Fin 2 → ℕ) d + S8x512.size d ≤ S8x2048.size d)
    (i2 : ∀ d, (![0, 1024 + o] : Fin 2 → ℕ) d + S8x512.size d ≤ S8x2048.size d) (s : Fin 8) (x : Fin 512) :
    (v.readCov (cinP o ho a b L 8 (le_refl 8)) (Rect.unit (s := S8x2048) ![0, o] S8x512.size i1).toLoadRect : FVec Ideal S8x512 .f32) (ix2 s x) = a s.val (ix2 0 x) ∧
    (v.readCov (cinP o ho a b L 8 (le_refl 8)) (Rect.unit (s := S8x2048) ![0, 1024 + o] S8x512.size i2).toLoadRect : FVec Ideal S8x512 .f32) (ix2 s x) = b s.val (ix2 0 x) := by
  have h := cinP_read v v.junk o ho a b L x s 8 (le_refl 8) s.2
  refine ⟨Eq.trans ?_ h.1, Eq.trans ?_ h.2⟩
  · refine congrArg (v.read (Elt Ideal) (v.writes (Elt Ideal) v.junk (cinP o ho a b L 8 (le_refl 8)))) (funext (Fin.forall_fin_two.mpr ⟨Fin.ext ?_, Fin.ext ?_⟩))
    · show 0 + 1 * s.val = s.val
      omega
    · show o + 1 * x.val = o + x.val
      omega
  · refine congrArg (v.read (Elt Ideal) (v.writes (Elt Ideal) v.junk (cinP o ho a b L 8 (le_refl 8)))) (funext (Fin.forall_fin_two.mpr ⟨Fin.ext ?_, Fin.ext ?_⟩))
    · show 0 + 1 * s.val = s.val
      omega
    · show 1024 + o + 1 * x.val = 1024 + o + x.val
      omega

section
variable (c : Dev nD) (i : grid0.Coords) (arg3 : Memref sig .tc .vmem S1x512x256 .f32) (harg3 : arg3.IsWhole) (arg4 : Memref sig .tc .vmem S1x256x2048 .bf16) (harg4 : arg4.IsWhole) (arg5 : Memref sig .tc .vmem S1x2048x256 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1x256 .f32) (harg10 : arg10.IsWhole) (arg11 : Memref sig .tc .vmem S1x512x256 .bf16) (harg11 : arg11.IsWhole) (arg12 : Memref sig .tc .vmem S512x2048 .f32) (harg12 : arg12.IsWhole) (arg13 : Memref sig .tc .vmem S1x2048 .f32) (harg13 : arg13.IsWhole) (arg14 : Memref sig .tc .vmem S8x2048 .f32) (harg14 : arg14.IsWhole)
variable (l1 m1 l2 m2 : Vec Ideal S1x1x512 .f32) (r5 r6 r19 r20 a1 b1 a2 b2 w1 w2 w3 w4 w5 w6 : FVec Ideal S1x512 .f32) (w : FVec Ideal S512x256 .f32) (L : List (View.Piece (Elt Ideal) S512x2048 .f32))

/-- What the first loop ends with. -/
def q1 (c : Dev nD) (i : grid0.Coords) (arg3 : Memref sig .tc .vmem S1x512x256 .f32) (harg3 : arg3.IsWhole) (arg4 : Memref sig .tc .vmem S1x256x2048 .bf16) (harg4 : arg4.IsWhole) (arg5 : Memref sig .tc .vmem S1x2048x256 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1x256 .f32) (harg10 : arg10.IsWhole) (arg11 : Memref sig .tc .vmem S1x512x256 .bf16) (harg11 : arg11.IsWhole) (arg12 : Memref sig .tc .vmem S512x2048 .f32) (harg12 : arg12.IsWhole) (arg13 : Memref sig .tc .vmem S1x2048 .f32) (harg13 : arg13.IsWhole) (arg14 : Memref sig .tc .vmem S8x2048 .f32) (harg14 : arg14.IsWhole) (l1 m1 l2 m2 : Vec Ideal S1x1x512 .f32) (r5 r6 r19 r20 a1 b1 a2 b2 w1 w2 w3 w4 w5 w6 : FVec Ideal S1x512 .f32) (w : FVec Ideal S512x256 .f32) (L : List (View.Piece (Elt Ideal) S512x2048 .f32)) : (FVec Ideal S8x512 .f32 × FVec Ideal S8x512 .f32) × List (View.Piece (Elt Ideal) S512x2048 .f32) :=
  st_k0_t1 Variants.none c none i arg3 harg3 arg4 harg4 arg5 harg5 arg6 harg6 arg7 harg7 arg8 harg8 arg9 harg9 arg10 harg10 arg11 harg11 arg12 harg12 arg13 harg13 arg14 harg14 l1 m1 (arg12.view.writes (Elt Ideal) arg12.view.junk L) (k0_pay7, k0_pay7) (Scf.trips k0_t1_loop.lb k0_t1_loop.ub k0_t1_loop.st)

/-- The block of states in pieces after the first loop. -/
def n1 (c : Dev nD) (i : grid0.Coords) (arg3 : Memref sig .tc .vmem S1x512x256 .f32) (harg3 : arg3.IsWhole) (arg4 : Memref sig .tc .vmem S1x256x2048 .bf16) (harg4 : arg4.IsWhole) (arg5 : Memref sig .tc .vmem S1x2048x256 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1x256 .f32) (harg10 : arg10.IsWhole) (arg11 : Memref sig .tc .vmem S1x512x256 .bf16) (harg11 : arg11.IsWhole) (arg12 : Memref sig .tc .vmem S512x2048 .f32) (harg12 : arg12.IsWhole) (arg13 : Memref sig .tc .vmem S1x2048 .f32) (harg13 : arg13.IsWhole) (arg14 : Memref sig .tc .vmem S8x2048 .f32) (harg14 : arg14.IsWhole) (l1 m1 l2 m2 : Vec Ideal S1x1x512 .f32) (r5 r6 r19 r20 a1 b1 a2 b2 w1 w2 w3 w4 w5 w6 : FVec Ideal S1x512 .f32) (w : FVec Ideal S512x256 .f32) (L : List (View.Piece (Elt Ideal) S512x2048 .f32)) : List (View.Piece (Elt Ideal) S512x2048 .f32) :=
  (q1 c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L).2 ++ L

/-- The stored states of the first half. -/
def c1 (c : Dev nD) (i : grid0.Coords) (arg3 : Memref sig .tc .vmem S1x512x256 .f32) (harg3 : arg3.IsWhole) (arg4 : Memref sig .tc .vmem S1x256x2048 .bf16) (harg4 : arg4.IsWhole) (arg5 : Memref sig .tc .vmem S1x2048x256 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1x256 .f32) (harg10 : arg10.IsWhole) (arg11 : Memref sig .tc .vmem S1x512x256 .bf16) (harg11 : arg11.IsWhole) (arg12 : Memref sig .tc .vmem S512x2048 .f32) (harg12 : arg12.IsWhole) (arg13 : Memref sig .tc .vmem S1x2048 .f32) (harg13 : arg13.IsWhole) (arg14 : Memref sig .tc .vmem S8x2048 .f32) (harg14 : arg14.IsWhole) (l1 m1 l2 m2 : Vec Ideal S1x1x512 .f32) (r5 r6 r19 r20 a1 b1 a2 b2 w1 w2 w3 w4 w5 w6 : FVec Ideal S1x512 .f32) (w : FVec Ideal S512x256 .f32) (L : List (View.Piece (Elt Ideal) S512x2048 .f32)) : List (View.Piece (Elt Ideal) S8x2048 .f32) :=
  cinP 0 (by omega) (p0a (q1 c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L).1.1 (q1 c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L).1.2 r5 r6 a1 b1) (p0b (q1 c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L).1.1 (q1 c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L).1.2 r5 r6 a1 b1) [] 8 (le_refl 8)

/-- The real parts the second loop starts from. -/
def g1r (c : Dev nD) (i : grid0.Coords) (arg3 : Memref sig .tc .vmem S1x512x256 .f32) (harg3 : arg3.IsWhole) (arg4 : Memref sig .tc .vmem S1x256x2048 .bf16) (harg4 : arg4.IsWhole) (arg5 : Memref sig .tc .vmem S1x2048x256 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1x256 .f32) (harg10 : arg10.IsWhole) (arg11 : Memref sig .tc .vmem S1x512x256 .bf16) (harg11 : arg11.IsWhole) (arg12 : Memref sig .tc .vmem S512x2048 .f32) (harg12 : arg12.IsWhole) (arg13 : Memref sig .tc .vmem S1x2048 .f32) (harg13 : arg13.IsWhole) (arg14 : Memref sig .tc .vmem S8x2048 .f32) (harg14 : arg14.IsWhole) (l1 m1 l2 m2 : Vec Ideal S1x1x512 .f32) (r5 r6 r19 r20 a1 b1 a2 b2 w1 w2 w3 w4 w5 w6 : FVec Ideal S1x512 .f32) (w : FVec Ideal S512x256 .f32) (L : List (View.Piece (Elt Ideal) S512x2048 .f32)) : FVec Ideal S8x512 .f32 :=
  arg14.view.readCov (c1 c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L) (Rect.unit (s := S8x2048) ![0, 0] S8x512.size inb_S8x2048_S8x512_0_0).toLoadRect

/-- The imaginary parts the second loop starts from. -/
def g1i (c : Dev nD) (i : grid0.Coords) (arg3 : Memref sig .tc .vmem S1x512x256 .f32) (harg3 : arg3.IsWhole) (arg4 : Memref sig .tc .vmem S1x256x2048 .bf16) (harg4 : arg4.IsWhole) (arg5 : Memref sig .tc .vmem S1x2048x256 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1x256 .f32) (harg10 : arg10.IsWhole) (arg11 : Memref sig .tc .vmem S1x512x256 .bf16) (harg11 : arg11.IsWhole) (arg12 : Memref sig .tc .vmem S512x2048 .f32) (harg12 : arg12.IsWhole) (arg13 : Memref sig .tc .vmem S1x2048 .f32) (harg13 : arg13.IsWhole) (arg14 : Memref sig .tc .vmem S8x2048 .f32) (harg14 : arg14.IsWhole) (l1 m1 l2 m2 : Vec Ideal S1x1x512 .f32) (r5 r6 r19 r20 a1 b1 a2 b2 w1 w2 w3 w4 w5 w6 : FVec Ideal S1x512 .f32) (w : FVec Ideal S512x256 .f32) (L : List (View.Piece (Elt Ideal) S512x2048 .f32)) : FVec Ideal S8x512 .f32 :=
  arg14.view.readCov (c1 c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L) (Rect.unit (s := S8x2048) ![0, 1024] S8x512.size inb_S8x2048_S8x512_0_1024).toLoadRect

/-- What the second loop ends with. -/
def q2 (c : Dev nD) (i : grid0.Coords) (arg3 : Memref sig .tc .vmem S1x512x256 .f32) (harg3 : arg3.IsWhole) (arg4 : Memref sig .tc .vmem S1x256x2048 .bf16) (harg4 : arg4.IsWhole) (arg5 : Memref sig .tc .vmem S1x2048x256 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1x256 .f32) (harg10 : arg10.IsWhole) (arg11 : Memref sig .tc .vmem S1x512x256 .bf16) (harg11 : arg11.IsWhole) (arg12 : Memref sig .tc .vmem S512x2048 .f32) (harg12 : arg12.IsWhole) (arg13 : Memref sig .tc .vmem S1x2048 .f32) (harg13 : arg13.IsWhole) (arg14 : Memref sig .tc .vmem S8x2048 .f32) (harg14 : arg14.IsWhole) (l1 m1 l2 m2 : Vec Ideal S1x1x512 .f32) (r5 r6 r19 r20 a1 b1 a2 b2 w1 w2 w3 w4 w5 w6 : FVec Ideal S1x512 .f32) (w : FVec Ideal S512x256 .f32) (L : List (View.Piece (Elt Ideal) S512x2048 .f32)) : (FVec Ideal S8x512 .f32 × FVec Ideal S8x512 .f32) × List (View.Piece (Elt Ideal) S512x2048 .f32) :=
  st_k0_t2 Variants.none c none i arg3 harg3 arg4 harg4 arg5 harg5 arg6 harg6 arg7 harg7 arg8 harg8 arg9 harg9 arg10 harg10 arg11 harg11 arg12 harg12 arg13 harg13 arg14 harg14 (k0_pay5 l1) (k0_pay6 m1) w1 w2 w3 w4 (arg12.view.writes (Elt Ideal) arg12.view.junk (n1 c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L)) ((g1r c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L), (g1i c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L)) (Scf.trips k0_t2_loop.lb k0_t2_loop.ub k0_t2_loop.st)

/-- The block of states in pieces after the second loop. -/
def n2 (c : Dev nD) (i : grid0.Coords) (arg3 : Memref sig .tc .vmem S1x512x256 .f32) (harg3 : arg3.IsWhole) (arg4 : Memref sig .tc .vmem S1x256x2048 .bf16) (harg4 : arg4.IsWhole) (arg5 : Memref sig .tc .vmem S1x2048x256 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1x256 .f32) (harg10 : arg10.IsWhole) (arg11 : Memref sig .tc .vmem S1x512x256 .bf16) (harg11 : arg11.IsWhole) (arg12 : Memref sig .tc .vmem S512x2048 .f32) (harg12 : arg12.IsWhole) (arg13 : Memref sig .tc .vmem S1x2048 .f32) (harg13 : arg13.IsWhole) (arg14 : Memref sig .tc .vmem S8x2048 .f32) (harg14 : arg14.IsWhole) (l1 m1 l2 m2 : Vec Ideal S1x1x512 .f32) (r5 r6 r19 r20 a1 b1 a2 b2 w1 w2 w3 w4 w5 w6 : FVec Ideal S1x512 .f32) (w : FVec Ideal S512x256 .f32) (L : List (View.Piece (Elt Ideal) S512x2048 .f32)) : List (View.Piece (Elt Ideal) S512x2048 .f32) :=
  (q2 c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L).2 ++ (n1 c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L)

/-- What the third loop ends with. -/
def q3 (c : Dev nD) (i : grid0.Coords) (arg3 : Memref sig .tc .vmem S1x512x256 .f32) (harg3 : arg3.IsWhole) (arg4 : Memref sig .tc .vmem S1x256x2048 .bf16) (harg4 : arg4.IsWhole) (arg5 : Memref sig .tc .vmem S1x2048x256 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1x256 .f32) (harg10 : arg10.IsWhole) (arg11 : Memref sig .tc .vmem S1x512x256 .bf16) (harg11 : arg11.IsWhole) (arg12 : Memref sig .tc .vmem S512x2048 .f32) (harg12 : arg12.IsWhole) (arg13 : Memref sig .tc .vmem S1x2048 .f32) (harg13 : arg13.IsWhole) (arg14 : Memref sig .tc .vmem S8x2048 .f32) (harg14 : arg14.IsWhole) (l1 m1 l2 m2 : Vec Ideal S1x1x512 .f32) (r5 r6 r19 r20 a1 b1 a2 b2 w1 w2 w3 w4 w5 w6 : FVec Ideal S1x512 .f32) (w : FVec Ideal S512x256 .f32) (L : List (View.Piece (Elt Ideal) S512x2048 .f32)) : (FVec Ideal S8x512 .f32 × FVec Ideal S8x512 .f32) × List (View.Piece (Elt Ideal) S512x2048 .f32) :=
  st_k0_t3 Variants.none c none i arg3 harg3 arg4 harg4 arg5 harg5 arg6 harg6 arg7 harg7 arg8 harg8 arg9 harg9 arg10 harg10 arg11 harg11 arg12 harg12 arg13 harg13 arg14 harg14 (k0_pay5 l1) (k0_pay6 m1) w1 w2 w3 w4 l2 m2 (arg12.view.writes (Elt Ideal) arg12.view.junk (n2 c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L)) (k0_pay56, k0_pay56) (Scf.trips k0_t3_loop.lb k0_t3_loop.ub k0_t3_loop.st)

/-- The block of states in pieces after the third loop. -/
def n3 (c : Dev nD) (i : grid0.Coords) (arg3 : Memref sig .tc .vmem S1x512x256 .f32) (harg3 : arg3.IsWhole) (arg4 : Memref sig .tc .vmem S1x256x2048 .bf16) (harg4 : arg4.IsWhole) (arg5 : Memref sig .tc .vmem S1x2048x256 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1x256 .f32) (harg10 : arg10.IsWhole) (arg11 : Memref sig .tc .vmem S1x512x256 .bf16) (harg11 : arg11.IsWhole) (arg12 : Memref sig .tc .vmem S512x2048 .f32) (harg12 : arg12.IsWhole) (arg13 : Memref sig .tc .vmem S1x2048 .f32) (harg13 : arg13.IsWhole) (arg14 : Memref sig .tc .vmem S8x2048 .f32) (harg14 : arg14.IsWhole) (l1 m1 l2 m2 : Vec Ideal S1x1x512 .f32) (r5 r6 r19 r20 a1 b1 a2 b2 w1 w2 w3 w4 w5 w6 : FVec Ideal S1x512 .f32) (w : FVec Ideal S512x256 .f32) (L : List (View.Piece (Elt Ideal) S512x2048 .f32)) : List (View.Piece (Elt Ideal) S512x2048 .f32) :=
  (q3 c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L).2 ++ (n2 c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L)

/-- The stored states of both halves. -/
def c2 (c : Dev nD) (i : grid0.Coords) (arg3 : Memref sig .tc .vmem S1x512x256 .f32) (harg3 : arg3.IsWhole) (arg4 : Memref sig .tc .vmem S1x256x2048 .bf16) (harg4 : arg4.IsWhole) (arg5 : Memref sig .tc .vmem S1x2048x256 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1x256 .f32) (harg10 : arg10.IsWhole) (arg11 : Memref sig .tc .vmem S1x512x256 .bf16) (harg11 : arg11.IsWhole) (arg12 : Memref sig .tc .vmem S512x2048 .f32) (harg12 : arg12.IsWhole) (arg13 : Memref sig .tc .vmem S1x2048 .f32) (harg13 : arg13.IsWhole) (arg14 : Memref sig .tc .vmem S8x2048 .f32) (harg14 : arg14.IsWhole) (l1 m1 l2 m2 : Vec Ideal S1x1x512 .f32) (r5 r6 r19 r20 a1 b1 a2 b2 w1 w2 w3 w4 w5 w6 : FVec Ideal S1x512 .f32) (w : FVec Ideal S512x256 .f32) (L : List (View.Piece (Elt Ideal) S512x2048 .f32)) : List (View.Piece (Elt Ideal) S8x2048 .f32) :=
  cinP 512 (by omega) (p1a (q3 c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L).1.1 (q3 c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L).1.2 r19 r20 a2 b2) (p1b (q3 c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L).1.1 (q3 c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L).1.2 r19 r20 a2 b2) (c1 c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L) 8 (le_refl 8)

/-- The real parts the fourth loop starts from. -/
def g2r (c : Dev nD) (i : grid0.Coords) (arg3 : Memref sig .tc .vmem S1x512x256 .f32) (harg3 : arg3.IsWhole) (arg4 : Memref sig .tc .vmem S1x256x2048 .bf16) (harg4 : arg4.IsWhole) (arg5 : Memref sig .tc .vmem S1x2048x256 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1x256 .f32) (harg10 : arg10.IsWhole) (arg11 : Memref sig .tc .vmem S1x512x256 .bf16) (harg11 : arg11.IsWhole) (arg12 : Memref sig .tc .vmem S512x2048 .f32) (harg12 : arg12.IsWhole) (arg13 : Memref sig .tc .vmem S1x2048 .f32) (harg13 : arg13.IsWhole) (arg14 : Memref sig .tc .vmem S8x2048 .f32) (harg14 : arg14.IsWhole) (l1 m1 l2 m2 : Vec Ideal S1x1x512 .f32) (r5 r6 r19 r20 a1 b1 a2 b2 w1 w2 w3 w4 w5 w6 : FVec Ideal S1x512 .f32) (w : FVec Ideal S512x256 .f32) (L : List (View.Piece (Elt Ideal) S512x2048 .f32)) : FVec Ideal S8x512 .f32 :=
  arg14.view.readCov (c2 c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L) (Rect.unit (s := S8x2048) ![0, 512] S8x512.size inb_S8x2048_S8x512_0_512).toLoadRect

/-- The imaginary parts the fourth loop starts from. -/
def g2i (c : Dev nD) (i : grid0.Coords) (arg3 : Memref sig .tc .vmem S1x512x256 .f32) (harg3 : arg3.IsWhole) (arg4 : Memref sig .tc .vmem S1x256x2048 .bf16) (harg4 : arg4.IsWhole) (arg5 : Memref sig .tc .vmem S1x2048x256 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1x256 .f32) (harg10 : arg10.IsWhole) (arg11 : Memref sig .tc .vmem S1x512x256 .bf16) (harg11 : arg11.IsWhole) (arg12 : Memref sig .tc .vmem S512x2048 .f32) (harg12 : arg12.IsWhole) (arg13 : Memref sig .tc .vmem S1x2048 .f32) (harg13 : arg13.IsWhole) (arg14 : Memref sig .tc .vmem S8x2048 .f32) (harg14 : arg14.IsWhole) (l1 m1 l2 m2 : Vec Ideal S1x1x512 .f32) (r5 r6 r19 r20 a1 b1 a2 b2 w1 w2 w3 w4 w5 w6 : FVec Ideal S1x512 .f32) (w : FVec Ideal S512x256 .f32) (L : List (View.Piece (Elt Ideal) S512x2048 .f32)) : FVec Ideal S8x512 .f32 :=
  arg14.view.readCov (c2 c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L) (Rect.unit (s := S8x2048) ![0, 1536] S8x512.size inb_S8x2048_S8x512_0_1536).toLoadRect

/-- What the fourth loop ends with. -/
def q4 (c : Dev nD) (i : grid0.Coords) (arg3 : Memref sig .tc .vmem S1x512x256 .f32) (harg3 : arg3.IsWhole) (arg4 : Memref sig .tc .vmem S1x256x2048 .bf16) (harg4 : arg4.IsWhole) (arg5 : Memref sig .tc .vmem S1x2048x256 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1x256 .f32) (harg10 : arg10.IsWhole) (arg11 : Memref sig .tc .vmem S1x512x256 .bf16) (harg11 : arg11.IsWhole) (arg12 : Memref sig .tc .vmem S512x2048 .f32) (harg12 : arg12.IsWhole) (arg13 : Memref sig .tc .vmem S1x2048 .f32) (harg13 : arg13.IsWhole) (arg14 : Memref sig .tc .vmem S8x2048 .f32) (harg14 : arg14.IsWhole) (l1 m1 l2 m2 : Vec Ideal S1x1x512 .f32) (r5 r6 r19 r20 a1 b1 a2 b2 w1 w2 w3 w4 w5 w6 : FVec Ideal S1x512 .f32) (w : FVec Ideal S512x256 .f32) (L : List (View.Piece (Elt Ideal) S512x2048 .f32)) : (FVec Ideal S8x512 .f32 × FVec Ideal S8x512 .f32) × List (View.Piece (Elt Ideal) S512x2048 .f32) :=
  st_k0_t4 Variants.none c none i arg3 harg3 arg4 harg4 arg5 harg5 arg6 harg6 arg7 harg7 arg8 harg8 arg9 harg9 arg10 harg10 arg11 harg11 arg12 harg12 arg13 harg13 arg14 harg14 w (k0_pay54 l2) (k0_pay55 m2) w5 w6 (arg12.view.writes (Elt Ideal) arg12.view.junk (n3 c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L)) ((g2r c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L), (g2i c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L)) (Scf.trips k0_t4_loop.lb k0_t4_loop.ub k0_t4_loop.st)

/-- The block of states in pieces after the fourth loop. -/
def n4 (c : Dev nD) (i : grid0.Coords) (arg3 : Memref sig .tc .vmem S1x512x256 .f32) (harg3 : arg3.IsWhole) (arg4 : Memref sig .tc .vmem S1x256x2048 .bf16) (harg4 : arg4.IsWhole) (arg5 : Memref sig .tc .vmem S1x2048x256 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1x256 .f32) (harg10 : arg10.IsWhole) (arg11 : Memref sig .tc .vmem S1x512x256 .bf16) (harg11 : arg11.IsWhole) (arg12 : Memref sig .tc .vmem S512x2048 .f32) (harg12 : arg12.IsWhole) (arg13 : Memref sig .tc .vmem S1x2048 .f32) (harg13 : arg13.IsWhole) (arg14 : Memref sig .tc .vmem S8x2048 .f32) (harg14 : arg14.IsWhole) (l1 m1 l2 m2 : Vec Ideal S1x1x512 .f32) (r5 r6 r19 r20 a1 b1 a2 b2 w1 w2 w3 w4 w5 w6 : FVec Ideal S1x512 .f32) (w : FVec Ideal S512x256 .f32) (L : List (View.Piece (Elt Ideal) S512x2048 .f32)) : List (View.Piece (Elt Ideal) S512x2048 .f32) :=
  (q4 c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L).2 ++ (n3 c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L)

/-- The block of states read back after the four loops. -/
def xfin (c : Dev nD) (i : grid0.Coords) (arg3 : Memref sig .tc .vmem S1x512x256 .f32) (harg3 : arg3.IsWhole) (arg4 : Memref sig .tc .vmem S1x256x2048 .bf16) (harg4 : arg4.IsWhole) (arg5 : Memref sig .tc .vmem S1x2048x256 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1x256 .f32) (harg10 : arg10.IsWhole) (arg11 : Memref sig .tc .vmem S1x512x256 .bf16) (harg11 : arg11.IsWhole) (arg12 : Memref sig .tc .vmem S512x2048 .f32) (harg12 : arg12.IsWhole) (arg13 : Memref sig .tc .vmem S1x2048 .f32) (harg13 : arg13.IsWhole) (arg14 : Memref sig .tc .vmem S8x2048 .f32) (harg14 : arg14.IsWhole) (l1 m1 l2 m2 : Vec Ideal S1x1x512 .f32) (r5 r6 r19 r20 a1 b1 a2 b2 w1 w2 w3 w4 w5 w6 : FVec Ideal S1x512 .f32) (w : FVec Ideal S512x256 .f32) (L : List (View.Piece (Elt Ideal) S512x2048 .f32)) : FVec Ideal S512x2048 .f32 :=
  arg12.view.readCov (n4 c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L) (Rect.unit (s := S512x2048) ![0, 0] S512x2048.size inb_S512x2048_S512x2048_0_0).toLoadRect

/-- The loop has 64 trips. -/
theorem trips1 : (Scf.trips k0_t1_loop.lb k0_t1_loop.ub k0_t1_loop.st) = 64 := by decide +kernel

/-- The loop has 64 trips. -/
theorem trips2 : (Scf.trips k0_t2_loop.lb k0_t2_loop.ub k0_t2_loop.st) = 64 := by decide +kernel

/-- The loop has 64 trips. -/
theorem trips3 : (Scf.trips k0_t3_loop.lb k0_t3_loop.ub k0_t3_loop.st) = 64 := by decide +kernel

/-- The loop has 64 trips. -/
theorem trips4 : (Scf.trips k0_t4_loop.lb k0_t4_loop.ub k0_t4_loop.st) = 64 := by decide +kernel

/-- The local scan of the first half over a whole segment, as the loop carries it. -/
theorem q1_at (s : Fin 8) (x : Fin 512) :
    (q1 c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L).1.1 (ix2 s x) = (locAt (arg12.view.read (Elt Ideal) (arg12.view.writes (Elt Ideal) arg12.view.junk L)) (ev l1 x.val) (ev m1 x.val) s.val (x.val) 64).1 ∧ (q1 c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L).1.2 (ix2 s x) = (locAt (arg12.view.read (Elt Ideal) (arg12.view.writes (Elt Ideal) arg12.view.junk L)) (ev l1 x.val) (ev m1 x.val) s.val (x.val) 64).2 := by
  have h := (t1_vals Variants.none c none i arg3 harg3 arg4 harg4 arg5 harg5 arg6 harg6 arg7 harg7 arg8 harg8 arg9 harg9 arg10 harg10 arg11 harg11 arg12 harg12 arg13 harg13 arg14 harg14 l1 m1 (arg12.view.writes (Elt Ideal) arg12.view.junk L) _ (le_of_eq trips1)).1 s x
  rw [trips1] at h
  unfold q1
  rw [trips1]
  simp only [Nat.zero_add, Nat.add_zero] at h
  exact h

/-- The chain of carried states of the first half is the recurrence over the segments. -/
theorem p0s_eq (x : Fin 512) : ∀ s, s ≤ 8 → p0s (q1 c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L).1.1 (q1 c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L).1.2 r5 r6 a1 b1 x s = cinAt (arg12.view.read (Elt Ideal) (arg12.view.writes (Elt Ideal) arg12.view.junk L)) (ev l1 x.val) (ev m1 x.val) (r5 (ix2 0 x)) (r6 (ix2 0 x)) (a1 (ix2 0 x), b1 (ix2 0 x)) (x.val) s := by
  intro s
  induction s with
  | zero => intro _; rfl
  | succ s ih =>
    intro hs
    have h := ih (by omega)
    have e := q1_at c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L ⟨s, by omega⟩ x
    unfold p0s cinAt at h ⊢
    rw [scn, scn, h]
    rw [e8_ix (q1 c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L).1.1, e8_ix (q1 c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L).1.2] at e
    rw [e.1, e.2]

/-- The states the carrying loop of the first half starts from. -/
theorem g1_at (s : Fin 8) (x : Fin 512) :
    (g1r c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L) (ix2 s x) = (cinAt (arg12.view.read (Elt Ideal) (arg12.view.writes (Elt Ideal) arg12.view.junk L)) (ev l1 x.val) (ev m1 x.val) (r5 (ix2 0 x)) (r6 (ix2 0 x)) (a1 (ix2 0 x), b1 (ix2 0 x)) (x.val) s.val).1 ∧ (g1i c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L) (ix2 s x) = (cinAt (arg12.view.read (Elt Ideal) (arg12.view.writes (Elt Ideal) arg12.view.junk L)) (ev l1 x.val) (ev m1 x.val) (r5 (ix2 0 x)) (r6 (ix2 0 x)) (a1 (ix2 0 x), b1 (ix2 0 x)) (x.val) s.val).2 := by
  have h := cinP_cov arg14.view 0 (by omega) (p0a (q1 c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L).1.1 (q1 c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L).1.2 r5 r6 a1 b1) (p0b (q1 c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L).1.1 (q1 c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L).1.2 r5 r6 a1 b1) []
    inb_S8x2048_S8x512_0_0 inb_S8x2048_S8x512_0_1024 s x
  rw [p0a_at, p0b_at, p0s_eq c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L x s.val (by omega)] at h
  exact h

/-- The first two loops leave the other half alone. -/
theorem n2_other (r : ℕ) (hr : r < 512) (y : ℕ) (hy : y < 2048) (h : (512 ≤ y ∧ y < 1024) ∨ 1536 ≤ y) : ent (arg12.view.read (Elt Ideal) (arg12.view.writes (Elt Ideal) arg12.view.junk (n2 c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L))) r y = ent (arg12.view.read (Elt Ideal) (arg12.view.writes (Elt Ideal) arg12.view.junk L)) r y := by
  rw [n2, View.writes_append]
  refine ((t2_vals Variants.none c none i arg3 harg3 arg4 harg4 arg5 harg5 arg6 harg6 arg7 harg7 arg8 harg8 arg9 harg9 arg10 harg10 arg11 harg11 arg12 harg12 arg13 harg13 arg14 harg14 (k0_pay5 l1) (k0_pay6 m1) w1 w2 w3 w4 (arg12.view.writes (Elt Ideal) arg12.view.junk (n1 c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L)) _ _ (le_of_eq trips2)).2 r hr y hy).trans ?_
  rw [trips2, if_pos (by omega), if_neg (by omega), if_neg (by omega), n1, View.writes_append]
  refine ((t1_vals Variants.none c none i arg3 harg3 arg4 harg4 arg5 harg5 arg6 harg6 arg7 harg7 arg8 harg8 arg9 harg9 arg10 harg10 arg11 harg11 arg12 harg12 arg13 harg13 arg14 harg14 l1 m1 (arg12.view.writes (Elt Ideal) arg12.view.junk L) _ (le_of_eq trips1)).2 r hr y hy).trans ?_
  rw [trips1, if_pos (by omega), if_neg (by omega), if_neg (by omega)]

/-- The third loop's local scan reads inputs that the first two loops left alone. -/
theorem loc3 (s : ℕ) (hs : s < 8) (x : ℕ) (hx : x < 512) : ∀ k, k ≤ 64 →
    loc (ev l2 x) (ev m2 x) (fun j => ent (arg12.view.read (Elt Ideal) (arg12.view.writes (Elt Ideal) arg12.view.junk (n2 c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L))) (8 * j + s) (512 + x)) (fun j => ent (arg12.view.read (Elt Ideal) (arg12.view.writes (Elt Ideal) arg12.view.junk (n2 c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L))) (8 * j + s) (1024 + 512 + x)) k
      = locAt (arg12.view.read (Elt Ideal) (arg12.view.writes (Elt Ideal) arg12.view.junk L)) (ev l2 x) (ev m2 x) s (512 + x) k := by
  intro k
  induction k with
  | zero => intro _; rfl
  | succ k ih =>
    intro hk
    have e1 := n2_other c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L (8 * k + s) (by omega) (512 + x) (by omega) (by omega)
    have e2 := n2_other c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L (8 * k + s) (by omega) (1024 + 512 + x) (by omega) (by omega)
    have := ih (by omega)
    unfold locAt at this ⊢
    rw [loc, loc, this, e1, e2, Nat.add_assoc 1024 512]

/-- The local scan of the second half over a whole segment, as the loop carries it. -/
theorem q3_at (s : Fin 8) (x : Fin 512) :
    (q3 c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L).1.1 (ix2 s x) = (locAt (arg12.view.read (Elt Ideal) (arg12.view.writes (Elt Ideal) arg12.view.junk L)) (ev l2 x.val) (ev m2 x.val) s.val (512 + x.val) 64).1 ∧ (q3 c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L).1.2 (ix2 s x) = (locAt (arg12.view.read (Elt Ideal) (arg12.view.writes (Elt Ideal) arg12.view.junk L)) (ev l2 x.val) (ev m2 x.val) s.val (512 + x.val) 64).2 := by
  have h := (t3_vals Variants.none c none i arg3 harg3 arg4 harg4 arg5 harg5 arg6 harg6 arg7 harg7 arg8 harg8 arg9 harg9 arg10 harg10 arg11 harg11 arg12 harg12 arg13 harg13 arg14 harg14 (k0_pay5 l1) (k0_pay6 m1) w1 w2 w3 w4 l2 m2 (arg12.view.writes (Elt Ideal) arg12.view.junk (n2 c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L)) _ (le_of_eq trips3)).1 s x
  rw [trips3] at h
  unfold q3
  rw [trips3]
  rw [loc3 c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L s.val s.2 x.val x.2 64 (le_refl 64)] at h
  exact h

/-- The chain of carried states of the second half is the recurrence over the segments. -/
theorem p1s_eq (x : Fin 512) : ∀ s, s ≤ 8 → p1s (q3 c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L).1.1 (q3 c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L).1.2 r19 r20 a2 b2 x s = cinAt (arg12.view.read (Elt Ideal) (arg12.view.writes (Elt Ideal) arg12.view.junk L)) (ev l2 x.val) (ev m2 x.val) (r19 (ix2 0 x)) (r20 (ix2 0 x)) (a2 (ix2 0 x), b2 (ix2 0 x)) (512 + x.val) s := by
  intro s
  induction s with
  | zero => intro _; rfl
  | succ s ih =>
    intro hs
    have h := ih (by omega)
    have e := q3_at c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L ⟨s, by omega⟩ x
    unfold p1s cinAt at h ⊢
    rw [scn, scn, h]
    rw [e8_ix (q3 c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L).1.1, e8_ix (q3 c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L).1.2] at e
    rw [e.1, e.2]

/-- The states the carrying loop of the second half starts from. -/
theorem g2_at (s : Fin 8) (x : Fin 512) :
    (g2r c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L) (ix2 s x) = (cinAt (arg12.view.read (Elt Ideal) (arg12.view.writes (Elt Ideal) arg12.view.junk L)) (ev l2 x.val) (ev m2 x.val) (r19 (ix2 0 x)) (r20 (ix2 0 x)) (a2 (ix2 0 x), b2 (ix2 0 x)) (512 + x.val) s.val).1 ∧ (g2i c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L) (ix2 s x) = (cinAt (arg12.view.read (Elt Ideal) (arg12.view.writes (Elt Ideal) arg12.view.junk L)) (ev l2 x.val) (ev m2 x.val) (r19 (ix2 0 x)) (r20 (ix2 0 x)) (a2 (ix2 0 x), b2 (ix2 0 x)) (512 + x.val) s.val).2 := by
  have h := cinP_cov arg14.view 512 (by omega) (p1a (q3 c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L).1.1 (q3 c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L).1.2 r19 r20 a2 b2) (p1b (q3 c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L).1.1 (q3 c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L).1.2 r19 r20 a2 b2) (c1 c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L)
    inb_S8x2048_S8x512_0_512 inb_S8x2048_S8x512_0_1536 s x
  rw [p1a_at, p1b_at, p1s_eq c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L x s.val (by omega)] at h
  exact h

/-- The eigenvalue of the first half, the same in every row. -/
theorem lr1_at (v : Vec Ideal S1x1x512 .f32) (s x : ℕ) (hs : s < 8) (hx : x < 512) : e8 (k0_pay5 (F := Ideal) v) s x = ev v x := by
  have h : k0_pay5 (F := Ideal) v (ix2 (⟨s, hs⟩ : Fin 8) (⟨x, hx⟩ : Fin 512)) = ev v x := by
    rw [show ev v x = _ from (ev_ix v ⟨x, hx⟩).symm]
    pointwise [k0_pay5]
  exact (e8_ix (k0_pay5 (F := Ideal) v) ⟨s, hs⟩ ⟨x, hx⟩).symm.trans h

/-- The eigenvalue of the first half, the same in every row. -/
theorem li1_at (v : Vec Ideal S1x1x512 .f32) (s x : ℕ) (hs : s < 8) (hx : x < 512) : e8 (k0_pay6 (F := Ideal) v) s x = ev v x := by
  have h : k0_pay6 (F := Ideal) v (ix2 (⟨s, hs⟩ : Fin 8) (⟨x, hx⟩ : Fin 512)) = ev v x := by
    rw [show ev v x = _ from (ev_ix v ⟨x, hx⟩).symm]
    pointwise [k0_pay6]
  exact (e8_ix (k0_pay6 (F := Ideal) v) ⟨s, hs⟩ ⟨x, hx⟩).symm.trans h

/-- The real parts of the first half after its carrying loop. -/
theorem fin1_r (r : ℕ) (hr : r < 512) (x : Fin 512) : ent (arg12.view.read (Elt Ideal) (arg12.view.writes (Elt Ideal) arg12.view.junk (n2 c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L))) r (x.val) = (stAt (arg12.view.read (Elt Ideal) (arg12.view.writes (Elt Ideal) arg12.view.junk L)) (ev l1 x.val) (ev m1 x.val) (r5 (ix2 0 x)) (r6 (ix2 0 x)) (a1 (ix2 0 x), b1 (ix2 0 x)) (x.val) r).1 := by
  have hc : (x.val) - 0 = x.val := by omega
  have hc' : 0 + x.val = (x.val) := by omega
  have hr' : 8 * (r / 8) + r % 8 = r := by omega
  rw [n2, View.writes_append]
  refine ((t2_vals Variants.none c none i arg3 harg3 arg4 harg4 arg5 harg5 arg6 harg6 arg7 harg7 arg8 harg8 arg9 harg9 arg10 harg10 arg11 harg11 arg12 harg12 arg13 harg13 arg14 harg14 (k0_pay5 l1) (k0_pay6 m1) w1 w2 w3 w4 (arg12.view.writes (Elt Ideal) arg12.view.junk (n1 c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L)) ((g1r c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L), (g1i c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L)) _ (le_of_eq trips2)).2 r hr (x.val) (by omega)).trans ?_
  rw [trips2, if_pos (by omega), if_pos (by omega), hc]
  dsimp only
  rw [hr', hc', lr1_at l1 _ _ (by omega) x.2, li1_at m1 _ _ (by omega) x.2]
  have hg := g1_at c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L ⟨r % 8, by omega⟩ x
  rw [e8_ix (g1r c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L), e8_ix (g1i c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L)] at hg
  rw [hg.1, hg.2]
  unfold stAt
  dsimp only
  refine congrArg (· + _) ?_
  rw [n1, View.writes_append]
  refine ((t1_vals Variants.none c none i arg3 harg3 arg4 harg4 arg5 harg5 arg6 harg6 arg7 harg7 arg8 harg8 arg9 harg9 arg10 harg10 arg11 harg11 arg12 harg12 arg13 harg13 arg14 harg14 l1 m1 (arg12.view.writes (Elt Ideal) arg12.view.junk L) _ (le_of_eq trips1)).2 r hr (x.val) (by omega)).trans ?_
  rw [trips1, if_pos (by omega), if_pos (by omega), hc]
  dsimp only
  simp only [Nat.zero_add, Nat.add_zero]; rfl

/-- The imaginary parts of the first half after its carrying loop. -/
theorem fin1_i (r : ℕ) (hr : r < 512) (x : Fin 512) : ent (arg12.view.read (Elt Ideal) (arg12.view.writes (Elt Ideal) arg12.view.junk (n2 c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L))) r (1024 + x.val) = (stAt (arg12.view.read (Elt Ideal) (arg12.view.writes (Elt Ideal) arg12.view.junk L)) (ev l1 x.val) (ev m1 x.val) (r5 (ix2 0 x)) (r6 (ix2 0 x)) (a1 (ix2 0 x), b1 (ix2 0 x)) (x.val) r).2 := by
  have hc : (1024 + x.val) - (1024 + 0) = x.val := by omega
  have hc' : 1024 + 0 + x.val = (1024 + x.val) := by omega
  have hr' : 8 * (r / 8) + r % 8 = r := by omega
  rw [n2, View.writes_append]
  refine ((t2_vals Variants.none c none i arg3 harg3 arg4 harg4 arg5 harg5 arg6 harg6 arg7 harg7 arg8 harg8 arg9 harg9 arg10 harg10 arg11 harg11 arg12 harg12 arg13 harg13 arg14 harg14 (k0_pay5 l1) (k0_pay6 m1) w1 w2 w3 w4 (arg12.view.writes (Elt Ideal) arg12.view.junk (n1 c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L)) ((g1r c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L), (g1i c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L)) _ (le_of_eq trips2)).2 r hr (1024 + x.val) (by omega)).trans ?_
  rw [trips2, if_pos (by omega), if_neg (by omega), if_pos (by omega), hc]
  dsimp only
  rw [hr', hc', lr1_at l1 _ _ (by omega) x.2, li1_at m1 _ _ (by omega) x.2]
  have hg := g1_at c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L ⟨r % 8, by omega⟩ x
  rw [e8_ix (g1r c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L), e8_ix (g1i c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L)] at hg
  rw [hg.1, hg.2]
  unfold stAt
  dsimp only
  refine congrArg (· + _) ?_
  rw [n1, View.writes_append]
  refine ((t1_vals Variants.none c none i arg3 harg3 arg4 harg4 arg5 harg5 arg6 harg6 arg7 harg7 arg8 harg8 arg9 harg9 arg10 harg10 arg11 harg11 arg12 harg12 arg13 harg13 arg14 harg14 l1 m1 (arg12.view.writes (Elt Ideal) arg12.view.junk L) _ (le_of_eq trips1)).2 r hr (1024 + x.val) (by omega)).trans ?_
  rw [trips1, if_pos (by omega), if_neg (by omega), if_pos (by omega), hc]
  dsimp only
  simp only [Nat.zero_add, Nat.add_zero]; rfl

/-- The eigenvalue of the second half, the same in every row. -/
theorem lr2_at (v : Vec Ideal S1x1x512 .f32) (s x : ℕ) (hs : s < 8) (hx : x < 512) : e8 (k0_pay54 (F := Ideal) v) s x = ev v x := by
  have h : k0_pay54 (F := Ideal) v (ix2 (⟨s, hs⟩ : Fin 8) (⟨x, hx⟩ : Fin 512)) = ev v x := by
    rw [show ev v x = _ from (ev_ix v ⟨x, hx⟩).symm]
    pointwise [k0_pay54]
  exact (e8_ix (k0_pay54 (F := Ideal) v) ⟨s, hs⟩ ⟨x, hx⟩).symm.trans h

/-- The eigenvalue of the second half, the same in every row. -/
theorem li2_at (v : Vec Ideal S1x1x512 .f32) (s x : ℕ) (hs : s < 8) (hx : x < 512) : e8 (k0_pay55 (F := Ideal) v) s x = ev v x := by
  have h : k0_pay55 (F := Ideal) v (ix2 (⟨s, hs⟩ : Fin 8) (⟨x, hx⟩ : Fin 512)) = ev v x := by
    rw [show ev v x = _ from (ev_ix v ⟨x, hx⟩).symm]
    pointwise [k0_pay55]
  exact (e8_ix (k0_pay55 (F := Ideal) v) ⟨s, hs⟩ ⟨x, hx⟩).symm.trans h

/-- The real parts of the second half after its carrying loop. -/
theorem fin2_r (r : ℕ) (hr : r < 512) (x : Fin 512) : ent (arg12.view.read (Elt Ideal) (arg12.view.writes (Elt Ideal) arg12.view.junk (n4 c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L))) r (512 + x.val) = (stAt (arg12.view.read (Elt Ideal) (arg12.view.writes (Elt Ideal) arg12.view.junk L)) (ev l2 x.val) (ev m2 x.val) (r19 (ix2 0 x)) (r20 (ix2 0 x)) (a2 (ix2 0 x), b2 (ix2 0 x)) (512 + x.val) r).1 := by
  have hc : (512 + x.val) - 512 = x.val := by omega
  have hc' : 512 + x.val = (512 + x.val) := by omega
  have hr' : 8 * (r / 8) + r % 8 = r := by omega
  rw [n4, View.writes_append]
  refine ((t4_vals Variants.none c none i arg3 harg3 arg4 harg4 arg5 harg5 arg6 harg6 arg7 harg7 arg8 harg8 arg9 harg9 arg10 harg10 arg11 harg11 arg12 harg12 arg13 harg13 arg14 harg14 w (k0_pay54 l2) (k0_pay55 m2) w5 w6 (arg12.view.writes (Elt Ideal) arg12.view.junk (n3 c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L)) ((g2r c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L), (g2i c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L)) _ (le_of_eq trips4)).2 r hr (512 + x.val) (by omega)).trans ?_
  rw [trips4, if_pos (by omega), if_pos (by omega), hc]
  dsimp only
  rw [hr', hc', lr2_at l2 _ _ (by omega) x.2, li2_at m2 _ _ (by omega) x.2]
  have hg := g2_at c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L ⟨r % 8, by omega⟩ x
  rw [e8_ix (g2r c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L), e8_ix (g2i c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L)] at hg
  rw [hg.1, hg.2]
  unfold stAt
  dsimp only
  refine congrArg (· + _) ?_
  rw [n3, View.writes_append]
  refine ((t3_vals Variants.none c none i arg3 harg3 arg4 harg4 arg5 harg5 arg6 harg6 arg7 harg7 arg8 harg8 arg9 harg9 arg10 harg10 arg11 harg11 arg12 harg12 arg13 harg13 arg14 harg14 (k0_pay5 l1) (k0_pay6 m1) w1 w2 w3 w4 l2 m2 (arg12.view.writes (Elt Ideal) arg12.view.junk (n2 c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L)) _ (le_of_eq trips3)).2 r hr (512 + x.val) (by omega)).trans ?_
  rw [trips3, if_pos (by omega), if_pos (by omega), hc]
  dsimp only
  rw [loc3 c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L (r % 8) (by omega) x.val x.2 (r / 8 + 1) (by omega)]

/-- The imaginary parts of the second half after its carrying loop. -/
theorem fin2_i (r : ℕ) (hr : r < 512) (x : Fin 512) : ent (arg12.view.read (Elt Ideal) (arg12.view.writes (Elt Ideal) arg12.view.junk (n4 c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L))) r (1024 + 512 + x.val) = (stAt (arg12.view.read (Elt Ideal) (arg12.view.writes (Elt Ideal) arg12.view.junk L)) (ev l2 x.val) (ev m2 x.val) (r19 (ix2 0 x)) (r20 (ix2 0 x)) (a2 (ix2 0 x), b2 (ix2 0 x)) (512 + x.val) r).2 := by
  have hc : (1024 + 512 + x.val) - (1024 + 512) = x.val := by omega
  have hc' : 1024 + 512 + x.val = (1024 + 512 + x.val) := by omega
  have hr' : 8 * (r / 8) + r % 8 = r := by omega
  rw [n4, View.writes_append]
  refine ((t4_vals Variants.none c none i arg3 harg3 arg4 harg4 arg5 harg5 arg6 harg6 arg7 harg7 arg8 harg8 arg9 harg9 arg10 harg10 arg11 harg11 arg12 harg12 arg13 harg13 arg14 harg14 w (k0_pay54 l2) (k0_pay55 m2) w5 w6 (arg12.view.writes (Elt Ideal) arg12.view.junk (n3 c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L)) ((g2r c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L), (g2i c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L)) _ (le_of_eq trips4)).2 r hr (1024 + 512 + x.val) (by omega)).trans ?_
  rw [trips4, if_pos (by omega), if_neg (by omega), if_pos (by omega), hc]
  dsimp only
  rw [hr', hc', lr2_at l2 _ _ (by omega) x.2, li2_at m2 _ _ (by omega) x.2]
  have hg := g2_at c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L ⟨r % 8, by omega⟩ x
  rw [e8_ix (g2r c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L), e8_ix (g2i c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L)] at hg
  rw [hg.1, hg.2]
  unfold stAt
  dsimp only
  refine congrArg (· + _) ?_
  rw [n3, View.writes_append]
  refine ((t3_vals Variants.none c none i arg3 harg3 arg4 harg4 arg5 harg5 arg6 harg6 arg7 harg7 arg8 harg8 arg9 harg9 arg10 harg10 arg11 harg11 arg12 harg12 arg13 harg13 arg14 harg14 (k0_pay5 l1) (k0_pay6 m1) w1 w2 w3 w4 l2 m2 (arg12.view.writes (Elt Ideal) arg12.view.junk (n2 c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L)) _ (le_of_eq trips3)).2 r hr (1024 + 512 + x.val) (by omega)).trans ?_
  rw [trips3, if_pos (by omega), if_neg (by omega), if_pos (by omega), hc]
  dsimp only
  rw [loc3 c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L (r % 8) (by omega) x.val x.2 (r / 8 + 1) (by omega)]

/-- The last two loops leave the first half alone. -/
theorem n4_other (r : ℕ) (hr : r < 512) (y : ℕ) (hy : y < 2048) (h : y < 512 ∨ (1024 ≤ y ∧ y < 1536)) : ent (arg12.view.read (Elt Ideal) (arg12.view.writes (Elt Ideal) arg12.view.junk (n4 c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L))) r y = ent (arg12.view.read (Elt Ideal) (arg12.view.writes (Elt Ideal) arg12.view.junk (n2 c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L))) r y := by
  rw [n4, View.writes_append]
  refine ((t4_vals Variants.none c none i arg3 harg3 arg4 harg4 arg5 harg5 arg6 harg6 arg7 harg7 arg8 harg8 arg9 harg9 arg10 harg10 arg11 harg11 arg12 harg12 arg13 harg13 arg14 harg14 w (k0_pay54 l2) (k0_pay55 m2) w5 w6 (arg12.view.writes (Elt Ideal) arg12.view.junk (n3 c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L)) _ _ (le_of_eq trips4)).2 r hr y hy).trans ?_
  rw [trips4, if_pos (by omega), if_neg (by omega), if_neg (by omega), n3, View.writes_append]
  refine ((t3_vals Variants.none c none i arg3 harg3 arg4 harg4 arg5 harg5 arg6 harg6 arg7 harg7 arg8 harg8 arg9 harg9 arg10 harg10 arg11 harg11 arg12 harg12 arg13 harg13 arg14 harg14 (k0_pay5 l1) (k0_pay6 m1) w1 w2 w3 w4 l2 m2 (arg12.view.writes (Elt Ideal) arg12.view.junk (n2 c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L)) _ (le_of_eq trips3)).2 r hr y hy).trans ?_
  rw [trips3, if_pos (by omega), if_neg (by omega), if_neg (by omega)]

/-- The block of states read back is what the pieces leave. -/
theorem xfin_eq : (xfin c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L) = (arg12.view.read (Elt Ideal) (arg12.view.writes (Elt Ideal) arg12.view.junk (n4 c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L))) := by
  unfold xfin
  exact View.readAt_full _ _ _

end

end Cert.KernelIdeal.Scan
-- ==== Proof.Scan.Plain.lean ====
module

public import proofs.«01_k».proof.Proof.Scan.Body
public import Mathlib.Data.Complex.Basic

@[expose] public section

set_option maxRecDepth 16384
noncomputable section
open Idealize.ShloMosaic
namespace Cert.KernelIdeal.Scan
open Cert.KernelIdeal

/-- A complex number as a pair of extended reals. -/
def emb (z : ℂ) : EReal × EReal := (((z.re : ℝ) : EReal), ((z.im : ℝ) : EReal))

/-- The recurrence of one mode over the complex numbers: from `c`, each step multiplies by `l` and adds the next input. -/
def cre (l : ℂ) (b : ℕ → ℂ) (c : ℂ) : ℕ → ℂ
  | 0 => c
  | k + 1 => l * cre l b c k + b k

/-- One step of the recurrence on pairs is the step over the complex numbers. -/
theorem emb_step (l z w : ℂ) :
    ((l.re : EReal) * (emb z).1 - (l.im : EReal) * (emb z).2 + (w.re : EReal), (l.re : EReal) * (emb z).2 + (l.im : EReal) * (emb z).1 + (w.im : EReal)) = emb (l * z + w) := by
  simp only [emb, Complex.add_re, Complex.add_im, Complex.mul_re, Complex.mul_im]
  push_cast
  rfl

/-- One multiplication on pairs is the product over the complex numbers. -/
theorem emb_mul (l z : ℂ) :
    ((l.re : EReal) * (emb z).1 - (l.im : EReal) * (emb z).2, (l.re : EReal) * (emb z).2 + (l.im : EReal) * (emb z).1) = emb (l * z) := by
  simp only [emb, Complex.mul_re, Complex.mul_im]
  push_cast
  rfl

/-- The local scan over real inputs is the complex recurrence from zero. -/
theorem loc_emb (l : ℂ) (xr xi : ℕ → EReal) (b : ℕ → ℂ) (k : ℕ) (h : ∀ j, j < k → (xr j, xi j) = emb (b j)) :
    loc (l.re : EReal) (l.im : EReal) xr xi k = emb (cre l b 0 k) := by
  induction k with
  | zero => simp [loc, cre, emb]
  | succ k ih =>
    have hk := h k (by omega)
    have h1 : xr k = ((b k).re : EReal) := congrArg Prod.fst hk
    have h2 : xi k = ((b k).im : EReal) := congrArg Prod.snd hk
    rw [loc, ih fun j hj => h j (by omega), h1, h2]
    exact emb_step l _ _

/-- The scan over the segments, likewise. -/
theorem scn_emb (l c : ℂ) (xr xi : ℕ → EReal) (b : ℕ → ℂ) (k : ℕ) (h : ∀ j, j < k → (xr j, xi j) = emb (b j)) :
    scn (l.re : EReal) (l.im : EReal) (emb c) xr xi k = emb (cre l b c k) := by
  induction k with
  | zero => rfl
  | succ k ih =>
    have hk := h k (by omega)
    have h1 : xr k = ((b k).re : EReal) := congrArg Prod.fst hk
    have h2 : xi k = ((b k).im : EReal) := congrArg Prod.snd hk
    rw [scn, ih fun j hj => h j (by omega), h1, h2]
    exact emb_step l _ _

/-- A state multiplied `k` times is the state times the power. -/
theorem car_emb (l c : ℂ) (k : ℕ) : car (l.re : EReal) (l.im : EReal) (emb c) k = emb (l ^ k * c) := by
  induction k with
  | zero => simp [car]
  | succ k ih =>
    rw [car, ih, emb_mul]
    congr 1
    ring

/-- The recurrence from a state is the recurrence from zero plus the state times the power. -/
theorem cre_add (l : ℂ) (b : ℕ → ℂ) (c : ℂ) (k : ℕ) : cre l b 0 k + l ^ k * c = cre l b c k := by
  induction k with
  | zero => simp [cre]
  | succ k ih => rw [cre, cre, ← ih]; ring

/-- The recurrence after `a + k` steps goes on from the state after `a`. -/
theorem cre_shift (l : ℂ) (b : ℕ → ℂ) (c : ℂ) (a k : ℕ) : cre l (fun j => b (a + j)) (cre l b c a) k = cre l b c (a + k) := by
  induction k with
  | zero => rfl
  | succ k ih => rw [cre, ih, ← Nat.add_assoc, cre]

/-- Segments of 64 steps: the scan over the local ends reaches the state after the segments. -/
theorem cre_seg (l : ℂ) (b : ℕ → ℂ) (c : ℂ) (s : ℕ) :
    cre (l ^ 64) (fun s => cre l (fun j => b (64 * s + j)) 0 64) c s = cre l b c (64 * s) := by
  induction s with
  | zero => rfl
  | succ s ih =>
    rw [cre, ih, add_comm, cre_add, cre_shift]
    rfl

section Block
variable (X : FVec Ideal S512x2048 .f32) (l : ℂ) (b : ℕ → ℂ) (c : ℂ) (y : ℕ)

/-- The rows of a block hold the inputs of one mode: row `8 j + s` the input of the token `64 s + j`. -/
def Holds : Prop := ∀ s, s < 8 → ∀ j, j < 64 → (ent X (8 * j + s) y, ent X (8 * j + s) (1024 + y)) = emb (b (64 * s + j))

/-- The local scan of a segment. -/
theorem locAt_emb (h : Holds X b y) (s : ℕ) (hs : s < 8) (k : ℕ) (hk : k ≤ 64) :
    locAt X (l.re : EReal) (l.im : EReal) s y k = emb (cre l (fun j => b (64 * s + j)) 0 k) :=
  loc_emb l _ _ (fun j => b (64 * s + j)) k fun j hj => h s hs j (by omega)

/-- The state at a segment's start. -/
theorem cinAt_emb (h : Holds X b y) (s : ℕ) (hs : s ≤ 8) :
    cinAt X (l.re : EReal) (l.im : EReal) ((l ^ 64).re : EReal) ((l ^ 64).im : EReal) (emb c) y s = emb (cre l b c (64 * s)) := by
  rw [← cre_seg]
  exact scn_emb (l ^ 64) c _ _ (fun s => cre l (fun j => b (64 * s + j)) 0 64) s fun s' hs' => locAt_emb X l b y h s' (by omega) 64 le_rfl

/-- The state stored at a row of the block. -/
theorem stAt_emb (h : Holds X b y) (s : ℕ) (hs : s < 8) (j : ℕ) (hj : j < 64) :
    stAt X (l.re : EReal) (l.im : EReal) ((l ^ 64).re : EReal) ((l ^ 64).im : EReal) (emb c) y (8 * j + s) = emb (cre l b c (64 * s + j + 1)) := by
  have h1 : (8 * j + s) % 8 = s := by omega
  have h2 : (8 * j + s) / 8 = j := by omega
  unfold stAt
  rw [h1, h2, locAt_emb X l b y h s hs (j + 1) (by omega), cinAt_emb X l b c y h s (by omega), car_emb, Nat.add_assoc, ← cre_shift l b c (64 * s) (j + 1), ← cre_add l (fun j => b (64 * s + j)) (cre l b c (64 * s)) (j + 1)]
  simp only [emb, Complex.add_re, Complex.add_im]
  push_cast
  rfl

end Block

end Cert.KernelIdeal.Scan
-- ==== Proof.Scan.Point.lean ====
module

public import proofs.«01_k».proof.Proof.Scan.Body

@[expose] public section

set_option maxRecDepth 16384
noncomputable section
open Idealize.ShloMosaic Idealize.ShloMosaic.TcCoe Idealize.SL.Sem
namespace Cert.KernelIdeal.Scan
open Cert.KernelIdeal Cert.KernelIdeal.Gen

/-- Entry of a row of 1024, zero outside it. -/
def rowE (V : FVec Ideal S1x1x1024 .f32) (y : ℕ) : EReal := if h : y < 1024 then V (ix3 0 0 ⟨y, h⟩) else 0

/-- Entry of a row of 2048, zero outside it. -/
def rowC (V : FVec Ideal S1x2048 .f32) (y : ℕ) : EReal := if h : y < 2048 then V (ix2 0 ⟨y, h⟩) else 0

/-- The states of one block at column y and row r, from the block of inputs, the four rows of eigenvalues and the row carried in. -/
def endAt (X : FVec Ideal S512x2048 .f32) (x3 x4 x5 x6 : FVec Ideal S1x1x1024 .f32) (C : FVec Ideal S1x2048 .f32) (y r : ℕ) : EReal × EReal :=
  stAt X (rowE x3 y) (rowE x4 y) (rowE x5 y) (rowE x6 y) (rowC C y, rowC C (1024 + y)) y r

/-- The state carried out of one block at column y. -/
def outAt (X : FVec Ideal S512x2048 .f32) (x3 x4 x5 x6 : FVec Ideal S1x1x1024 .f32) (C : FVec Ideal S1x2048 .f32) (y : ℕ) : EReal × EReal :=
  cinAt X (rowE x3 y) (rowE x4 y) (rowE x5 y) (rowE x6 y) (rowC C y, rowC C (1024 + y)) y 8

/-- A load of 512 entries of a row of 1024, entry by entry. -/
theorem ev_readAt (v : View sig .tc .vmem S1x1x1024 .f32) (f : BufTy.Contents (Elt Ideal) v.ty) (o : ℕ) (ho : o + 512 ≤ 1024)
    (inb : ∀ a, (![0, 0, o] : Fin 3 → ℕ) a + S1x1x512.size a ≤ S1x1x1024.size a) (x : Fin 512) :
    ev (v.readAt (Elt Ideal) (Rect.unit (s := S1x1x1024) ![0, 0, o] S1x1x512.size inb).toLoadRect f) x.val = rowE (v.read (Elt Ideal) f) (o + x.val) := by
  rw [← ev_ix]
  unfold rowE
  rw [dif_pos (by omega)]
  refine congrArg (v.read (Elt Ideal) f) (funext fun a => ?_)
  match a with
  | 0 => exact Fin.ext (show 0 + 1 * 0 = 0 by omega)
  | 1 => exact Fin.ext (show 0 + 1 * 0 = 0 by omega)
  | 2 => exact Fin.ext (show o + 1 * x.val = o + x.val by omega)

/-- A load of 512 entries of a row of 2048, entry by entry. -/
theorem rowC_readAt (v : View sig .tc .vmem S1x2048 .f32) (f : BufTy.Contents (Elt Ideal) v.ty) (o : ℕ) (ho : o + 512 ≤ 2048)
    (inb : ∀ a, (![0, o] : Fin 2 → ℕ) a + S1x512.size a ≤ S1x2048.size a) (x : Fin 512) :
    (v.readAt (Elt Ideal) (Rect.unit (s := S1x2048) ![0, o] S1x512.size inb).toLoadRect f : FVec Ideal S1x512 .f32) (ix2 0 x) = rowC (v.read (Elt Ideal) f) (o + x.val) := by
  unfold rowC
  rw [dif_pos (by omega)]
  refine congrArg (v.read (Elt Ideal) f) (funext (Fin.forall_fin_two.mpr ⟨Fin.ext ?_, Fin.ext ?_⟩))
  · show 0 + 1 * 0 = 0
    omega
  · show o + 1 * x.val = o + x.val
    omega

/-- A piece of 512 entries read where it was stored. -/
theorem rowC_hit (v : View sig .tc .vmem S1x2048 .f32) (f : BufTy.Contents (Elt Ideal) v.ty) (o : ℕ)
    (inb : ∀ a, (![0, o] : Fin 2 → ℕ) a + S1x512.size a ≤ S1x2048.size a) (p : FVec Ideal S1x512 .f32) (L : List (View.Piece (Elt Ideal) S1x2048 .f32)) (x : Fin 512) (y : ℕ) (h : y = o + x.val) (ho : o + 512 ≤ 2048) :
    rowC (v.read (Elt Ideal) (v.writes (Elt Ideal) f (⟨Rect.unit (s := S1x2048) ![0, o] S1x512.size inb, p⟩ :: L))) y = p (ix2 0 x) := by
  subst h
  unfold rowC
  rw [dif_pos (by omega)]
  exact View.read_writes_cons_unit_of_mem v f inb p L _ (ix2 0 x) rfl (Fin.forall_fin_two.mpr ⟨rfl, rfl⟩)

/-- A piece of 512 entries read beside where it was stored. -/
theorem rowC_miss (v : View sig .tc .vmem S1x2048 .f32) (f : BufTy.Contents (Elt Ideal) v.ty) (o : ℕ)
    (inb : ∀ a, (![0, o] : Fin 2 → ℕ) a + S1x512.size a ≤ S1x2048.size a) (p : FVec Ideal S1x512 .f32) (L : List (View.Piece (Elt Ideal) S1x2048 .f32)) (y : ℕ) (h : y < o ∨ o + 512 ≤ y) :
    rowC (v.read (Elt Ideal) (v.writes (Elt Ideal) f (⟨Rect.unit (s := S1x2048) ![0, o] S1x512.size inb, p⟩ :: L))) y = rowC (v.read (Elt Ideal) (v.writes (Elt Ideal) f L)) y := by
  unfold rowC
  split
  · exact View.read_writes_cons_unit_of_not_mem v f inb p L _ rfl (1 : Fin 2) h
  · rfl

/-- The row carried out, read in its four parts. -/
theorem carry_read (v : View sig .tc .vmem S1x2048 .f32) (f : BufTy.Contents (Elt Ideal) v.ty)
    (i0 : ∀ a, (![0, 0] : Fin 2 → ℕ) a + S1x512.size a ≤ S1x2048.size a) (i1 : ∀ a, (![0, 512] : Fin 2 → ℕ) a + S1x512.size a ≤ S1x2048.size a)
    (i2 : ∀ a, (![0, 1024] : Fin 2 → ℕ) a + S1x512.size a ≤ S1x2048.size a) (i3 : ∀ a, (![0, 1536] : Fin 2 → ℕ) a + S1x512.size a ≤ S1x2048.size a)
    (pd pc pb pa : FVec Ideal S1x512 .f32) (L : List (View.Piece (Elt Ideal) S1x2048 .f32)) (x : Fin 512) (R : FVec Ideal S1x2048 .f32)
    (hR : R = v.read (Elt Ideal) (v.writes (Elt Ideal) f (⟨Rect.unit (s := S1x2048) ![0, 1536] S1x512.size i3, pd⟩ :: ⟨Rect.unit (s := S1x2048) ![0, 512] S1x512.size i1, pc⟩ ::
      ⟨Rect.unit (s := S1x2048) ![0, 1024] S1x512.size i2, pb⟩ :: ⟨Rect.unit (s := S1x2048) ![0, 0] S1x512.size i0, pa⟩ :: L))) :
    rowC R x.val = pa (ix2 0 x) ∧ rowC R (512 + x.val) = pc (ix2 0 x) ∧ rowC R (1024 + x.val) = pb (ix2 0 x) ∧ rowC R (1024 + (512 + x.val)) = pd (ix2 0 x) := by
  subst hR
  refine ⟨?_, ?_, ?_, ?_⟩
  · rw [rowC_miss _ _ _ _ _ _ _ (by omega), rowC_miss _ _ _ _ _ _ _ (by omega), rowC_miss _ _ _ _ _ _ _ (by omega), rowC_hit _ _ _ _ _ _ x _ (by omega) (by omega)]
  · rw [rowC_miss _ _ _ _ _ _ _ (by omega), rowC_hit _ _ _ _ _ _ x _ (by omega) (by omega)]
  · rw [rowC_miss _ _ _ _ _ _ _ (by omega), rowC_miss _ _ _ _ _ _ _ (by omega), rowC_hit _ _ _ _ _ _ x _ (by omega) (by omega)]
  · rw [rowC_hit _ _ _ _ _ _ x _ (by omega) (by omega)]

/-- The row of zeros the first block starts from. -/
theorem rowC_zero (y : ℕ) : rowC (k0_pay2 (F := Ideal)) y = 0 := by
  unfold rowC
  split
  · pointwise [k0_pay2]
  · rfl

/-- A tile row cut out of a row of eigenvalues. -/
theorem pay12_at (v : Vec Ideal S1x1x512 .f32) (x : Fin 512) : k0_pay12 (F := Ideal) v (ix2 0 x) = ev v x.val := by
  rw [← ev_ix]
  pointwise [k0_pay12]

/-- A tile row cut out of a row of eigenvalues. -/
theorem pay13_at (v : Vec Ideal S1x1x512 .f32) (x : Fin 512) : k0_pay13 (F := Ideal) v (ix2 0 x) = ev v x.val := by
  rw [← ev_ix]
  pointwise [k0_pay13]

/-- A tile row cut out of a row of eigenvalues. -/
theorem pay61_at (v : Vec Ideal S1x1x512 .f32) (x : Fin 512) : k0_pay61 (F := Ideal) v (ix2 0 x) = ev v x.val := by
  rw [← ev_ix]
  pointwise [k0_pay61]

/-- A tile row cut out of a row of eigenvalues. -/
theorem pay62_at (v : Vec Ideal S1x1x512 .f32) (x : Fin 512) : k0_pay62 (F := Ideal) v (ix2 0 x) = ev v x.val := by
  rw [← ev_ix]
  pointwise [k0_pay62]

/-- The first 512 entries of a row of 1024, as loaded. -/
def ld0 (a : Memref sig .tc .vmem S1x1x1024 .f32) (h : a.IsWhole) (x : Vec Ideal S1x1x1024 .f32) : Vec Ideal S1x1x512 .f32 :=
  View.readAt (Elt Ideal) a.view (Rect.unit (s := S1x1x1024) ![0, 0, 0] S1x1x512.size inb_S1x1x1024_S1x1x512_0_0_0).toLoadRect (h.unread x)

/-- The last 512 entries of a row of 1024, as loaded. -/
def ld1 (a : Memref sig .tc .vmem S1x1x1024 .f32) (h : a.IsWhole) (x : Vec Ideal S1x1x1024 .f32) : Vec Ideal S1x1x512 .f32 :=
  View.readAt (Elt Ideal) a.view (Rect.unit (s := S1x1x1024) ![0, 0, 512] S1x1x512.size inb_S1x1x1024_S1x1x512_0_0_512).toLoadRect (h.unread x)

/-- The loaded entries are those of the row. -/
theorem ld0_at (a : Memref sig .tc .vmem S1x1x1024 .f32) (h : a.IsWhole) (v : Vec Ideal S1x1x1024 .f32) (x : Fin 512) : ev (ld0 a h v) x.val = rowE v x.val := by
  refine (ev_readAt a.view (h.unread v) 0 (by omega) _ x).trans ?_
  rw [h.read_unread, Nat.zero_add]

/-- The loaded entries are those of the row. -/
theorem ld1_at (a : Memref sig .tc .vmem S1x1x1024 .f32) (h : a.IsWhole) (v : Vec Ideal S1x1x1024 .f32) (x : Fin 512) : ev (ld1 a h v) x.val = rowE v (512 + x.val) := by
  refine (ev_readAt a.view (h.unread v) 512 (by omega) _ x).trans ?_
  rw [h.read_unread]

/-- A part of a row of 2048, as loaded. -/
def ldc (a : Memref sig .tc .vmem S1x2048 .f32) (f : BufTy.Contents (Elt Ideal) a.view.ty) (o : ℕ) (inb : ∀ a, (![0, o] : Fin 2 → ℕ) a + S1x512.size a ≤ S1x2048.size a) : FVec Ideal S1x512 .f32 :=
  View.readAt (Elt Ideal) a.view (Rect.unit (s := S1x2048) ![0, o] S1x512.size inb).toLoadRect f

/-- The one piece of inputs a block starts from. -/
def inpL (a3 : Memref sig .tc .vmem S1x512x256 .f32) (h3 : a3.IsWhole) (a4 : Memref sig .tc .vmem S1x256x2048 .bf16) (h4 : a4.IsWhole)
    (x0 : Vec Ideal S1x512x256 .f32) (x1 : Vec Ideal S1x256x2048 .bf16) : List (View.Piece (Elt Ideal) S512x2048 .f32) :=
  [⟨Rect.unit (s := S512x2048) ![0, 0] S512x2048.size inb_S512x2048_S512x2048_0_0, k0_pay4 (F := Ideal) (View.readAt (Elt Ideal) a3.view (Rect.unit (s := S1x512x256) ![0, 0, 0] S1x512x256.size inb_S1x512x256_S1x512x256_0_0_0).toLoadRect (h3.unread x0)) (View.readAt (Elt Ideal) a4.view (Rect.unit (s := S1x256x2048) ![0, 0, 0] S1x256x2048.size inb_S1x256x2048_S1x256x2048_0_0_0).toLoadRect (h4.unread x1))⟩]

/-- The block of inputs is the product that piece stores. -/
theorem inpL_read (v : View sig .tc .vmem S512x2048 .f32) (a3 : Memref sig .tc .vmem S1x512x256 .f32) (h3 : a3.IsWhole) (a4 : Memref sig .tc .vmem S1x256x2048 .bf16) (h4 : a4.IsWhole)
    (x0 : Vec Ideal S1x512x256 .f32) (x1 : Vec Ideal S1x256x2048 .bf16) : v.read (Elt Ideal) (v.writes (Elt Ideal) v.junk (inpL a3 h3 a4 h4 x0 x1)) = k0_pay4 (F := Ideal) x0 x1 := by
  refine (View.read_writes_full v v.junk inb_S512x2048_S512x2048_0_0 _ []).trans ?_
  rw [View.readAt_full, View.readAt_full, Memref.IsWhole.read_unread, Memref.IsWhole.read_unread]

/-- The piece of zeros the first block starts from. -/
def zeroL : List (View.Piece (Elt Ideal) S1x2048 .f32) := [⟨Rect.unit (s := S1x2048) ![0, 0] S1x2048.size inb_S1x2048_S1x2048_0_0, k0_pay2 (F := Ideal)⟩]

section
variable (c : Dev nD) (i : grid0.Coords) (arg3 : Memref sig .tc .vmem S1x512x256 .f32) (harg3 : arg3.IsWhole) (arg4 : Memref sig .tc .vmem S1x256x2048 .bf16) (harg4 : arg4.IsWhole) (arg5 : Memref sig .tc .vmem S1x2048x256 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1x256 .f32) (harg10 : arg10.IsWhole) (arg11 : Memref sig .tc .vmem S1x512x256 .bf16) (harg11 : arg11.IsWhole) (arg12 : Memref sig .tc .vmem S512x2048 .f32) (harg12 : arg12.IsWhole) (arg13 : Memref sig .tc .vmem S1x2048 .f32) (harg13 : arg13.IsWhole) (arg14 : Memref sig .tc .vmem S8x2048 .f32) (harg14 : arg14.IsWhole)
variable (l1 m1 l2 m2 : Vec Ideal S1x1x512 .f32) (r5 r6 r19 r20 a1 b1 a2 b2 w1 w2 w3 w4 w5 w6 : FVec Ideal S1x512 .f32) (w : FVec Ideal S512x256 .f32) (L : List (View.Piece (Elt Ideal) S512x2048 .f32))

/-- The states after the four loops, in their four parts. -/
theorem xfin_at (r : ℕ) (hr : r < 512) (x : Fin 512) :
    ent (xfin c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L) r x.val = (stAt (arg12.view.read (Elt Ideal) (arg12.view.writes (Elt Ideal) arg12.view.junk L)) (ev l1 x.val) (ev m1 x.val) (r5 (ix2 0 x)) (r6 (ix2 0 x)) (a1 (ix2 0 x), b1 (ix2 0 x)) x.val r).1 ∧
    ent (xfin c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L) r (1024 + x.val) = (stAt (arg12.view.read (Elt Ideal) (arg12.view.writes (Elt Ideal) arg12.view.junk L)) (ev l1 x.val) (ev m1 x.val) (r5 (ix2 0 x)) (r6 (ix2 0 x)) (a1 (ix2 0 x), b1 (ix2 0 x)) x.val r).2 ∧
    ent (xfin c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L) r (512 + x.val) = (stAt (arg12.view.read (Elt Ideal) (arg12.view.writes (Elt Ideal) arg12.view.junk L)) (ev l2 x.val) (ev m2 x.val) (r19 (ix2 0 x)) (r20 (ix2 0 x)) (a2 (ix2 0 x), b2 (ix2 0 x)) (512 + x.val) r).1 ∧
    ent (xfin c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L) r (1024 + (512 + x.val)) = (stAt (arg12.view.read (Elt Ideal) (arg12.view.writes (Elt Ideal) arg12.view.junk L)) (ev l2 x.val) (ev m2 x.val) (r19 (ix2 0 x)) (r20 (ix2 0 x)) (a2 (ix2 0 x), b2 (ix2 0 x)) (512 + x.val) r).2 := by
  rw [xfin_eq c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L]
  refine ⟨?_, ?_, ?_, ?_⟩
  · exact (n4_other c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L r hr _ (by omega) (by omega)).trans (fin1_r c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L r hr x)
  · exact (n4_other c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L r hr _ (by omega) (by omega)).trans (fin1_i c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L r hr x)
  · exact fin2_r c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L r hr x
  · have e : 1024 + (512 + x.val) = 1024 + 512 + x.val := by omega
    rw [e]
    exact fin2_i c i arg3 harg3 arg4 harg4 arg5 harg5 arg6 harg6 arg7 harg7 arg8 harg8 arg9 harg9 arg10 harg10 arg11 harg11 arg12 harg12 arg13 harg13 arg14 harg14 l1 m1 l2 m2 r5 r6 r19 r20 a1 b1 a2 b2 w1 w2 w3 w4 w5 w6 w L r hr x

/-- Two states agree when the columns they are read at and the carried rows agree. -/
theorem col_split (P : ℕ → Prop) (h1 : ∀ x : Fin 512, P x.val) (h2 : ∀ x : Fin 512, P (512 + x.val)) (y : ℕ) (hy : y < 1024) : P y := by
  by_cases h : y < 512
  · exact h1 ⟨y, h⟩
  · have := h2 ⟨y - 512, by omega⟩
    rwa [show 512 + (y - 512) = y by omega] at this

end

section
variable (c : Dev nD) (i : grid0.Coords) (arg3 : Memref sig .tc .vmem S1x512x256 .f32) (harg3 : arg3.IsWhole) (arg4 : Memref sig .tc .vmem S1x256x2048 .bf16) (harg4 : arg4.IsWhole) (arg5 : Memref sig .tc .vmem S1x2048x256 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1x256 .f32) (harg10 : arg10.IsWhole) (arg11 : Memref sig .tc .vmem S1x512x256 .bf16) (harg11 : arg11.IsWhole) (arg12 : Memref sig .tc .vmem S512x2048 .f32) (harg12 : arg12.IsWhole) (arg13 : Memref sig .tc .vmem S1x2048 .f32) (harg13 : arg13.IsWhole) (arg14 : Memref sig .tc .vmem S8x2048 .f32) (harg14 : arg14.IsWhole)
variable (x0 : Vec Ideal S1x512x256 .f32) (x1 : Vec Ideal S1x256x2048 .bf16) (x3 x4 x5 x6 : Vec Ideal S1x1x1024 .f32) (xs1 : Vec Ideal S1x2048 .f32)

/-- In a later block the states read back are those of the four loops. -/
theorem v322_B : (kernelRun0_B.sl.v322 (F := Ideal) c i arg3 harg3 arg4 harg4 arg5 harg5 arg6 harg6 arg7 harg7 arg8 harg8 arg9 harg9 arg10 harg10 arg11 harg11 arg12 harg12 arg13 harg13 arg14 harg14 x0 x1 x3 x4 x5 x6 xs1) = xfin c i arg3 harg3 arg4 harg4 arg5 harg5 arg6 harg6 arg7 harg7 arg8 harg8 arg9 harg9 arg10 harg10 arg11 harg11 arg12 harg12 arg13 harg13 arg14 harg14 (ld0 arg6 harg6 x3) (ld0 arg7 harg7 x4) (ld1 arg6 harg6 x3) (ld1 arg7 harg7 x4) (k0_pay12 (F := Ideal) (ld0 arg8 harg8 x5)) (k0_pay13 (F := Ideal) (ld0 arg9 harg9 x6)) (k0_pay61 (F := Ideal) (ld1 arg8 harg8 x5)) (k0_pay62 (F := Ideal) (ld1 arg9 harg9 x6)) (ldc arg13 (harg13.unread xs1) 0 inb_S1x2048_S1x512_0_0) (ldc arg13 (harg13.unread xs1) 1024 inb_S1x2048_S1x512_0_1024) (ldc arg13 (harg13.unread xs1) 512 inb_S1x2048_S1x512_0_512) (ldc arg13 (harg13.unread xs1) 1536 inb_S1x2048_S1x512_0_1536) (kernelRun0_B.sl.r_11 (F := Ideal) c i arg3 harg3 arg4 harg4 arg5 harg5 arg6 harg6 arg7 harg7 arg8 harg8 arg9 harg9 arg10 harg10 arg11 harg11 arg12 harg12 arg13 harg13 arg14 harg14 x0 x1 x3 x4) (kernelRun0_B.sl.r_12 (F := Ideal) c i arg3 harg3 arg4 harg4 arg5 harg5 arg6 harg6 arg7 harg7 arg8 harg8 arg9 harg9 arg10 harg10 arg11 harg11 arg12 harg12 arg13 harg13 arg14 harg14 x0 x1 x3 x4 x5 x6 xs1) (kernelRun0_B.sl.r_13 (F := Ideal) c i arg3 harg3 arg4 harg4 arg5 harg5 arg6 harg6 arg7 harg7 arg8 harg8 arg9 harg9 arg10 harg10 arg11 harg11 arg12 harg12 arg13 harg13 arg14 harg14 x0 x1 x3 x4 x5 x6 xs1) (kernelRun0_B.sl.r_14 (F := Ideal) c i arg3 harg3 arg4 harg4 arg5 harg5 arg6 harg6 arg7 harg7 arg8 harg8 arg9 harg9 arg10 harg10 arg11 harg11 arg12 harg12 arg13 harg13 arg14 harg14 x0 x1 x3 x4 x5 x6 xs1) (kernelRun0_B.sl.r_25 (F := Ideal) c i arg3 harg3 arg4 harg4 arg5 harg5 arg6 harg6 arg7 harg7 arg8 harg8 arg9 harg9 arg10 harg10 arg11 harg11 arg12 harg12 arg13 harg13 arg14 harg14 x0 x1 x3 x4 x5 x6 xs1) (kernelRun0_B.sl.r_26 (F := Ideal) c i arg3 harg3 arg4 harg4 arg5 harg5 arg6 harg6 arg7 harg7 arg8 harg8 arg9 harg9 arg10 harg10 arg11 harg11 arg12 harg12 arg13 harg13 arg14 harg14 x0 x1 x3 x4 x5 x6 xs1) (k0_pay3 (F := Ideal) (View.readAt (Elt Ideal) arg3.view (Rect.unit (s := S1x512x256) ![0, 0, 0] S1x512x256.size inb_S1x512x256_S1x512x256_0_0_0).toLoadRect (harg3.unread x0))) (inpL arg3 harg3 arg4 harg4 x0 x1) := rfl

/-- In a later block the row carried in, first half. -/
theorem cin0_B (x : Fin 512) : ((ldc arg13 (harg13.unread xs1) 0 inb_S1x2048_S1x512_0_0) : FVec Ideal S1x512 .f32) (ix2 0 x) = rowC xs1 x.val ∧ ((ldc arg13 (harg13.unread xs1) 1024 inb_S1x2048_S1x512_0_1024) : FVec Ideal S1x512 .f32) (ix2 0 x) = rowC xs1 (1024 + x.val) := by
  have h : arg13.view.read (Elt Ideal) (harg13.unread xs1) = xs1 := harg13.read_unread xs1
  refine ⟨(rowC_readAt arg13.view _ 0 (by omega) _ x).trans ?_, (rowC_readAt arg13.view _ 1024 (by omega) _ x).trans ?_⟩
  · rw [h, Nat.zero_add]
  · rw [h]

/-- In a later block the row carried in, second half. -/
theorem cin1_B (x : Fin 512) : ((ldc arg13 (harg13.unread xs1) 512 inb_S1x2048_S1x512_0_512) : FVec Ideal S1x512 .f32) (ix2 0 x) = rowC xs1 (512 + x.val) ∧ ((ldc arg13 (harg13.unread xs1) 1536 inb_S1x2048_S1x512_0_1536) : FVec Ideal S1x512 .f32) (ix2 0 x) = rowC xs1 (1024 + (512 + x.val)) := by
  have h : arg13.view.read (Elt Ideal) (harg13.unread xs1) = xs1 := harg13.read_unread xs1
  refine ⟨(rowC_readAt arg13.view _ 512 (by omega) _ x).trans ?_, (rowC_readAt arg13.view _ 1536 (by omega) _ x).trans ?_⟩

  · rw [h]
  · rw [h, show 1024 + (512 + x.val) = 1536 + x.val by omega]

/-- In a later block the states read back, entry by entry. -/
theorem st_B (r : ℕ) (hr : r < 512) (y : ℕ) (hy : y < 1024) : ent (kernelRun0_B.sl.v322 (F := Ideal) c i arg3 harg3 arg4 harg4 arg5 harg5 arg6 harg6 arg7 harg7 arg8 harg8 arg9 harg9 arg10 harg10 arg11 harg11 arg12 harg12 arg13 harg13 arg14 harg14 x0 x1 x3 x4 x5 x6 xs1) r y = (endAt (k0_pay4 (F := Ideal) x0 x1) x3 x4 x5 x6 xs1 y r).1 ∧ ent (kernelRun0_B.sl.v322 (F := Ideal) c i arg3 harg3 arg4 harg4 arg5 harg5 arg6 harg6 arg7 harg7 arg8 harg8 arg9 harg9 arg10 harg10 arg11 harg11 arg12 harg12 arg13 harg13 arg14 harg14 x0 x1 x3 x4 x5 x6 xs1) r (1024 + y) = (endAt (k0_pay4 (F := Ideal) x0 x1) x3 x4 x5 x6 xs1 y r).2 := by
  rw [v322_B c i arg3 harg3 arg4 harg4 arg5 harg5 arg6 harg6 arg7 harg7 arg8 harg8 arg9 harg9 arg10 harg10 arg11 harg11 arg12 harg12 arg13 harg13 arg14 harg14 x0 x1 x3 x4 x5 x6 xs1]
  refine col_split (fun y => ent (xfin c i arg3 harg3 arg4 harg4 arg5 harg5 arg6 harg6 arg7 harg7 arg8 harg8 arg9 harg9 arg10 harg10 arg11 harg11 arg12 harg12 arg13 harg13 arg14 harg14 (ld0 arg6 harg6 x3) (ld0 arg7 harg7 x4) (ld1 arg6 harg6 x3) (ld1 arg7 harg7 x4) (k0_pay12 (F := Ideal) (ld0 arg8 harg8 x5)) (k0_pay13 (F := Ideal) (ld0 arg9 harg9 x6)) (k0_pay61 (F := Ideal) (ld1 arg8 harg8 x5)) (k0_pay62 (F := Ideal) (ld1 arg9 harg9 x6)) (ldc arg13 (harg13.unread xs1) 0 inb_S1x2048_S1x512_0_0) (ldc arg13 (harg13.unread xs1) 1024 inb_S1x2048_S1x512_0_1024) (ldc arg13 (harg13.unread xs1) 512 inb_S1x2048_S1x512_0_512) (ldc arg13 (harg13.unread xs1) 1536 inb_S1x2048_S1x512_0_1536) (kernelRun0_B.sl.r_11 (F := Ideal) c i arg3 harg3 arg4 harg4 arg5 harg5 arg6 harg6 arg7 harg7 arg8 harg8 arg9 harg9 arg10 harg10 arg11 harg11 arg12 harg12 arg13 harg13 arg14 harg14 x0 x1 x3 x4) (kernelRun0_B.sl.r_12 (F := Ideal) c i arg3 harg3 arg4 harg4 arg5 harg5 arg6 harg6 arg7 harg7 arg8 harg8 arg9 harg9 arg10 harg10 arg11 harg11 arg12 harg12 arg13 harg13 arg14 harg14 x0 x1 x3 x4 x5 x6 xs1) (kernelRun0_B.sl.r_13 (F := Ideal) c i arg3 harg3 arg4 harg4 arg5 harg5 arg6 harg6 arg7 harg7 arg8 harg8 arg9 harg9 arg10 harg10 arg11 harg11 arg12 harg12 arg13 harg13 arg14 harg14 x0 x1 x3 x4 x5 x6 xs1) (kernelRun0_B.sl.r_14 (F := Ideal) c i arg3 harg3 arg4 harg4 arg5 harg5 arg6 harg6 arg7 harg7 arg8 harg8 arg9 harg9 arg10 harg10 arg11 harg11 arg12 harg12 arg13 harg13 arg14 harg14 x0 x1 x3 x4 x5 x6 xs1) (kernelRun0_B.sl.r_25 (F := Ideal) c i arg3 harg3 arg4 harg4 arg5 harg5 arg6 harg6 arg7 harg7 arg8 harg8 arg9 harg9 arg10 harg10 arg11 harg11 arg12 harg12 arg13 harg13 arg14 harg14 x0 x1 x3 x4 x5 x6 xs1) (kernelRun0_B.sl.r_26 (F := Ideal) c i arg3 harg3 arg4 harg4 arg5 harg5 arg6 harg6 arg7 harg7 arg8 harg8 arg9 harg9 arg10 harg10 arg11 harg11 arg12 harg12 arg13 harg13 arg14 harg14 x0 x1 x3 x4 x5 x6 xs1) (k0_pay3 (F := Ideal) (View.readAt (Elt Ideal) arg3.view (Rect.unit (s := S1x512x256) ![0, 0, 0] S1x512x256.size inb_S1x512x256_S1x512x256_0_0_0).toLoadRect (harg3.unread x0))) (inpL arg3 harg3 arg4 harg4 x0 x1)) r y = (endAt (k0_pay4 (F := Ideal) x0 x1) x3 x4 x5 x6 xs1 y r).1 ∧ ent (xfin c i arg3 harg3 arg4 harg4 arg5 harg5 arg6 harg6 arg7 harg7 arg8 harg8 arg9 harg9 arg10 harg10 arg11 harg11 arg12 harg12 arg13 harg13 arg14 harg14 (ld0 arg6 harg6 x3) (ld0 arg7 harg7 x4) (ld1 arg6 harg6 x3) (ld1 arg7 harg7 x4) (k0_pay12 (F := Ideal) (ld0 arg8 harg8 x5)) (k0_pay13 (F := Ideal) (ld0 arg9 harg9 x6)) (k0_pay61 (F := Ideal) (ld1 arg8 harg8 x5)) (k0_pay62 (F := Ideal) (ld1 arg9 harg9 x6)) (ldc arg13 (harg13.unread xs1) 0 inb_S1x2048_S1x512_0_0) (ldc arg13 (harg13.unread xs1) 1024 inb_S1x2048_S1x512_0_1024) (ldc arg13 (harg13.unread xs1) 512 inb_S1x2048_S1x512_0_512) (ldc arg13 (harg13.unread xs1) 1536 inb_S1x2048_S1x512_0_1536) (kernelRun0_B.sl.r_11 (F := Ideal) c i arg3 harg3 arg4 harg4 arg5 harg5 arg6 harg6 arg7 harg7 arg8 harg8 arg9 harg9 arg10 harg10 arg11 harg11 arg12 harg12 arg13 harg13 arg14 harg14 x0 x1 x3 x4) (kernelRun0_B.sl.r_12 (F := Ideal) c i arg3 harg3 arg4 harg4 arg5 harg5 arg6 harg6 arg7 harg7 arg8 harg8 arg9 harg9 arg10 harg10 arg11 harg11 arg12 harg12 arg13 harg13 arg14 harg14 x0 x1 x3 x4 x5 x6 xs1) (kernelRun0_B.sl.r_13 (F := Ideal) c i arg3 harg3 arg4 harg4 arg5 harg5 arg6 harg6 arg7 harg7 arg8 harg8 arg9 harg9 arg10 harg10 arg11 harg11 arg12 harg12 arg13 harg13 arg14 harg14 x0 x1 x3 x4 x5 x6 xs1) (kernelRun0_B.sl.r_14 (F := Ideal) c i arg3 harg3 arg4 harg4 arg5 harg5 arg6 harg6 arg7 harg7 arg8 harg8 arg9 harg9 arg10 harg10 arg11 harg11 arg12 harg12 arg13 harg13 arg14 harg14 x0 x1 x3 x4 x5 x6 xs1) (kernelRun0_B.sl.r_25 (F := Ideal) c i arg3 harg3 arg4 harg4 arg5 harg5 arg6 harg6 arg7 harg7 arg8 harg8 arg9 harg9 arg10 harg10 arg11 harg11 arg12 harg12 arg13 harg13 arg14 harg14 x0 x1 x3 x4 x5 x6 xs1) (kernelRun0_B.sl.r_26 (F := Ideal) c i arg3 harg3 arg4 harg4 arg5 harg5 arg6 harg6 arg7 harg7 arg8 harg8 arg9 harg9 arg10 harg10 arg11 harg11 arg12 harg12 arg13 harg13 arg14 harg14 x0 x1 x3 x4 x5 x6 xs1) (k0_pay3 (F := Ideal) (View.readAt (Elt Ideal) arg3.view (Rect.unit (s := S1x512x256) ![0, 0, 0] S1x512x256.size inb_S1x512x256_S1x512x256_0_0_0).toLoadRect (harg3.unread x0))) (inpL arg3 harg3 arg4 harg4 x0 x1)) r (1024 + y) = (endAt (k0_pay4 (F := Ideal) x0 x1) x3 x4 x5 x6 xs1 y r).2) (fun x => ?_) (fun x => ?_) y hy
  · have h := xfin_at c i arg3 harg3 arg4 harg4 arg5 harg5 arg6 harg6 arg7 harg7 arg8 harg8 arg9 harg9 arg10 harg10 arg11 harg11 arg12 harg12 arg13 harg13 arg14 harg14 (ld0 arg6 harg6 x3) (ld0 arg7 harg7 x4) (ld1 arg6 harg6 x3) (ld1 arg7 harg7 x4) (k0_pay12 (F := Ideal) (ld0 arg8 harg8 x5)) (k0_pay13 (F := Ideal) (ld0 arg9 harg9 x6)) (k0_pay61 (F := Ideal) (ld1 arg8 harg8 x5)) (k0_pay62 (F := Ideal) (ld1 arg9 harg9 x6)) (ldc arg13 (harg13.unread xs1) 0 inb_S1x2048_S1x512_0_0) (ldc arg13 (harg13.unread xs1) 1024 inb_S1x2048_S1x512_0_1024) (ldc arg13 (harg13.unread xs1) 512 inb_S1x2048_S1x512_0_512) (ldc arg13 (harg13.unread xs1) 1536 inb_S1x2048_S1x512_0_1536) (kernelRun0_B.sl.r_11 (F := Ideal) c i arg3 harg3 arg4 harg4 arg5 harg5 arg6 harg6 arg7 harg7 arg8 harg8 arg9 harg9 arg10 harg10 arg11 harg11 arg12 harg12 arg13 harg13 arg14 harg14 x0 x1 x3 x4) (kernelRun0_B.sl.r_12 (F := Ideal) c i arg3 harg3 arg4 harg4 arg5 harg5 arg6 harg6 arg7 harg7 arg8 harg8 arg9 harg9 arg10 harg10 arg11 harg11 arg12 harg12 arg13 harg13 arg14 harg14 x0 x1 x3 x4 x5 x6 xs1) (kernelRun0_B.sl.r_13 (F := Ideal) c i arg3 harg3 arg4 harg4 arg5 harg5 arg6 harg6 arg7 harg7 arg8 harg8 arg9 harg9 arg10 harg10 arg11 harg11 arg12 harg12 arg13 harg13 arg14 harg14 x0 x1 x3 x4 x5 x6 xs1) (kernelRun0_B.sl.r_14 (F := Ideal) c i arg3 harg3 arg4 harg4 arg5 harg5 arg6 harg6 arg7 harg7 arg8 harg8 arg9 harg9 arg10 harg10 arg11 harg11 arg12 harg12 arg13 harg13 arg14 harg14 x0 x1 x3 x4 x5 x6 xs1) (kernelRun0_B.sl.r_25 (F := Ideal) c i arg3 harg3 arg4 harg4 arg5 harg5 arg6 harg6 arg7 harg7 arg8 harg8 arg9 harg9 arg10 harg10 arg11 harg11 arg12 harg12 arg13 harg13 arg14 harg14 x0 x1 x3 x4 x5 x6 xs1) (kernelRun0_B.sl.r_26 (F := Ideal) c i arg3 harg3 arg4 harg4 arg5 harg5 arg6 harg6 arg7 harg7 arg8 harg8 arg9 harg9 arg10 harg10 arg11 harg11 arg12 harg12 arg13 harg13 arg14 harg14 x0 x1 x3 x4 x5 x6 xs1) (k0_pay3 (F := Ideal) (View.readAt (Elt Ideal) arg3.view (Rect.unit (s := S1x512x256) ![0, 0, 0] S1x512x256.size inb_S1x512x256_S1x512x256_0_0_0).toLoadRect (harg3.unread x0))) (inpL arg3 harg3 arg4 harg4 x0 x1) r hr x
    have e3 := ld0_at arg6 harg6 x3 x
    have e4 := ld0_at arg7 harg7 x4 x
    have e5 := (pay12_at (ld0 arg8 harg8 x5) x).trans (ld0_at arg8 harg8 x5 x)
    have e6 := (pay13_at (ld0 arg9 harg9 x6) x).trans (ld0_at arg9 harg9 x6 x)
    have hc := cin0_B arg13 harg13 xs1 x
    rw [e3, e4, e5, e6, hc.1, hc.2, inpL_read] at h
    exact ⟨h.1, h.2.1⟩
  · have h := xfin_at c i arg3 harg3 arg4 harg4 arg5 harg5 arg6 harg6 arg7 harg7 arg8 harg8 arg9 harg9 arg10 harg10 arg11 harg11 arg12 harg12 arg13 harg13 arg14 harg14 (ld0 arg6 harg6 x3) (ld0 arg7 harg7 x4) (ld1 arg6 harg6 x3) (ld1 arg7 harg7 x4) (k0_pay12 (F := Ideal) (ld0 arg8 harg8 x5)) (k0_pay13 (F := Ideal) (ld0 arg9 harg9 x6)) (k0_pay61 (F := Ideal) (ld1 arg8 harg8 x5)) (k0_pay62 (F := Ideal) (ld1 arg9 harg9 x6)) (ldc arg13 (harg13.unread xs1) 0 inb_S1x2048_S1x512_0_0) (ldc arg13 (harg13.unread xs1) 1024 inb_S1x2048_S1x512_0_1024) (ldc arg13 (harg13.unread xs1) 512 inb_S1x2048_S1x512_0_512) (ldc arg13 (harg13.unread xs1) 1536 inb_S1x2048_S1x512_0_1536) (kernelRun0_B.sl.r_11 (F := Ideal) c i arg3 harg3 arg4 harg4 arg5 harg5 arg6 harg6 arg7 harg7 arg8 harg8 arg9 harg9 arg10 harg10 arg11 harg11 arg12 harg12 arg13 harg13 arg14 harg14 x0 x1 x3 x4) (kernelRun0_B.sl.r_12 (F := Ideal) c i arg3 harg3 arg4 harg4 arg5 harg5 arg6 harg6 arg7 harg7 arg8 harg8 arg9 harg9 arg10 harg10 arg11 harg11 arg12 harg12 arg13 harg13 arg14 harg14 x0 x1 x3 x4 x5 x6 xs1) (kernelRun0_B.sl.r_13 (F := Ideal) c i arg3 harg3 arg4 harg4 arg5 harg5 arg6 harg6 arg7 harg7 arg8 harg8 arg9 harg9 arg10 harg10 arg11 harg11 arg12 harg12 arg13 harg13 arg14 harg14 x0 x1 x3 x4 x5 x6 xs1) (kernelRun0_B.sl.r_14 (F := Ideal) c i arg3 harg3 arg4 harg4 arg5 harg5 arg6 harg6 arg7 harg7 arg8 harg8 arg9 harg9 arg10 harg10 arg11 harg11 arg12 harg12 arg13 harg13 arg14 harg14 x0 x1 x3 x4 x5 x6 xs1) (kernelRun0_B.sl.r_25 (F := Ideal) c i arg3 harg3 arg4 harg4 arg5 harg5 arg6 harg6 arg7 harg7 arg8 harg8 arg9 harg9 arg10 harg10 arg11 harg11 arg12 harg12 arg13 harg13 arg14 harg14 x0 x1 x3 x4 x5 x6 xs1) (kernelRun0_B.sl.r_26 (F := Ideal) c i arg3 harg3 arg4 harg4 arg5 harg5 arg6 harg6 arg7 harg7 arg8 harg8 arg9 harg9 arg10 harg10 arg11 harg11 arg12 harg12 arg13 harg13 arg14 harg14 x0 x1 x3 x4 x5 x6 xs1) (k0_pay3 (F := Ideal) (View.readAt (Elt Ideal) arg3.view (Rect.unit (s := S1x512x256) ![0, 0, 0] S1x512x256.size inb_S1x512x256_S1x512x256_0_0_0).toLoadRect (harg3.unread x0))) (inpL arg3 harg3 arg4 harg4 x0 x1) r hr x
    have e3 := ld1_at arg6 harg6 x3 x
    have e4 := ld1_at arg7 harg7 x4 x
    have e5 := (pay61_at (ld1 arg8 harg8 x5) x).trans (ld1_at arg8 harg8 x5 x)
    have e6 := (pay62_at (ld1 arg9 harg9 x6) x).trans (ld1_at arg9 harg9 x6 x)
    have hc := cin1_B arg13 harg13 xs1 x
    rw [e3, e4, e5, e6, hc.1, hc.2, inpL_read] at h
    exact ⟨h.2.2.1, h.2.2.2⟩

/-- In a later block the four pieces of the row carried out. -/
theorem pieces_B : k0_pay48 (F := Ideal) (kernelRun0_B.sl.r_12 (F := Ideal) c i arg3 harg3 arg4 harg4 arg5 harg5 arg6 harg6 arg7 harg7 arg8 harg8 arg9 harg9 arg10 harg10 arg11 harg11 arg12 harg12 arg13 harg13 arg14 harg14 x0 x1 x3 x4 x5 x6 xs1) = p0cr (q1 c i arg3 harg3 arg4 harg4 arg5 harg5 arg6 harg6 arg7 harg7 arg8 harg8 arg9 harg9 arg10 harg10 arg11 harg11 arg12 harg12 arg13 harg13 arg14 harg14 (ld0 arg6 harg6 x3) (ld0 arg7 harg7 x4) (ld1 arg6 harg6 x3) (ld1 arg7 harg7 x4) (k0_pay12 (F := Ideal) (ld0 arg8 harg8 x5)) (k0_pay13 (F := Ideal) (ld0 arg9 harg9 x6)) (k0_pay61 (F := Ideal) (ld1 arg8 harg8 x5)) (k0_pay62 (F := Ideal) (ld1 arg9 harg9 x6)) (ldc arg13 (harg13.unread xs1) 0 inb_S1x2048_S1x512_0_0) (ldc arg13 (harg13.unread xs1) 1024 inb_S1x2048_S1x512_0_1024) (ldc arg13 (harg13.unread xs1) 512 inb_S1x2048_S1x512_0_512) (ldc arg13 (harg13.unread xs1) 1536 inb_S1x2048_S1x512_0_1536) (kernelRun0_B.sl.r_11 (F := Ideal) c i arg3 harg3 arg4 harg4 arg5 harg5 arg6 harg6 arg7 harg7 arg8 harg8 arg9 harg9 arg10 harg10 arg11 harg11 arg12 harg12 arg13 harg13 arg14 harg14 x0 x1 x3 x4) (kernelRun0_B.sl.r_12 (F := Ideal) c i arg3 harg3 arg4 harg4 arg5 harg5 arg6 harg6 arg7 harg7 arg8 harg8 arg9 harg9 arg10 harg10 arg11 harg11 arg12 harg12 arg13 harg13 arg14 harg14 x0 x1 x3 x4 x5 x6 xs1) (kernelRun0_B.sl.r_13 (F := Ideal) c i arg3 harg3 arg4 harg4 arg5 harg5 arg6 harg6 arg7 harg7 arg8 harg8 arg9 harg9 arg10 harg10 arg11 harg11 arg12 harg12 arg13 harg13 arg14 harg14 x0 x1 x3 x4 x5 x6 xs1) (kernelRun0_B.sl.r_14 (F := Ideal) c i arg3 harg3 arg4 harg4 arg5 harg5 arg6 harg6 arg7 harg7 arg8 harg8 arg9 harg9 arg10 harg10 arg11 harg11 arg12 harg12 arg13 harg13 arg14 harg14 x0 x1 x3 x4 x5 x6 xs1) (kernelRun0_B.sl.r_25 (F := Ideal) c i arg3 harg3 arg4 harg4 arg5 harg5 arg6 harg6 arg7 harg7 arg8 harg8 arg9 harg9 arg10 harg10 arg11 harg11 arg12 harg12 arg13 harg13 arg14 harg14 x0 x1 x3 x4 x5 x6 xs1) (kernelRun0_B.sl.r_26 (F := Ideal) c i arg3 harg3 arg4 harg4 arg5 harg5 arg6 harg6 arg7 harg7 arg8 harg8 arg9 harg9 arg10 harg10 arg11 harg11 arg12 harg12 arg13 harg13 arg14 harg14 x0 x1 x3 x4 x5 x6 xs1) (k0_pay3 (F := Ideal) (View.readAt (Elt Ideal) arg3.view (Rect.unit (s := S1x512x256) ![0, 0, 0] S1x512x256.size inb_S1x512x256_S1x512x256_0_0_0).toLoadRect (harg3.unread x0))) (inpL arg3 harg3 arg4 harg4 x0 x1)).1.1 (q1 c i arg3 harg3 arg4 harg4 arg5 harg5 arg6 harg6 arg7 harg7 arg8 harg8 arg9 harg9 arg10 harg10 arg11 harg11 arg12 harg12 arg13 harg13 arg14 harg14 (ld0 arg6 harg6 x3) (ld0 arg7 harg7 x4) (ld1 arg6 harg6 x3) (ld1 arg7 harg7 x4) (k0_pay12 (F := Ideal) (ld0 arg8 harg8 x5)) (k0_pay13 (F := Ideal) (ld0 arg9 harg9 x6)) (k0_pay61 (F := Ideal) (ld1 arg8 harg8 x5)) (k0_pay62 (F := Ideal) (ld1 arg9 harg9 x6)) (ldc arg13 (harg13.unread xs1) 0 inb_S1x2048_S1x512_0_0) (ldc arg13 (harg13.unread xs1) 1024 inb_S1x2048_S1x512_0_1024) (ldc arg13 (harg13.unread xs1) 512 inb_S1x2048_S1x512_0_512) (ldc arg13 (harg13.unread xs1) 1536 inb_S1x2048_S1x512_0_1536) (kernelRun0_B.sl.r_11 (F := Ideal) c i arg3 harg3 arg4 harg4 arg5 harg5 arg6 harg6 arg7 harg7 arg8 harg8 arg9 harg9 arg10 harg10 arg11 harg11 arg12 harg12 arg13 harg13 arg14 harg14 x0 x1 x3 x4) (kernelRun0_B.sl.r_12 (F := Ideal) c i arg3 harg3 arg4 harg4 arg5 harg5 arg6 harg6 arg7 harg7 arg8 harg8 arg9 harg9 arg10 harg10 arg11 harg11 arg12 harg12 arg13 harg13 arg14 harg14 x0 x1 x3 x4 x5 x6 xs1) (kernelRun0_B.sl.r_13 (F := Ideal) c i arg3 harg3 arg4 harg4 arg5 harg5 arg6 harg6 arg7 harg7 arg8 harg8 arg9 harg9 arg10 harg10 arg11 harg11 arg12 harg12 arg13 harg13 arg14 harg14 x0 x1 x3 x4 x5 x6 xs1) (kernelRun0_B.sl.r_14 (F := Ideal) c i arg3 harg3 arg4 harg4 arg5 harg5 arg6 harg6 arg7 harg7 arg8 harg8 arg9 harg9 arg10 harg10 arg11 harg11 arg12 harg12 arg13 harg13 arg14 harg14 x0 x1 x3 x4 x5 x6 xs1) (kernelRun0_B.sl.r_25 (F := Ideal) c i arg3 harg3 arg4 harg4 arg5 harg5 arg6 harg6 arg7 harg7 arg8 harg8 arg9 harg9 arg10 harg10 arg11 harg11 arg12 harg12 arg13 harg13 arg14 harg14 x0 x1 x3 x4 x5 x6 xs1) (kernelRun0_B.sl.r_26 (F := Ideal) c i arg3 harg3 arg4 harg4 arg5 harg5 arg6 harg6 arg7 harg7 arg8 harg8 arg9 harg9 arg10 harg10 arg11 harg11 arg12 harg12 arg13 harg13 arg14 harg14 x0 x1 x3 x4 x5 x6 xs1) (k0_pay3 (F := Ideal) (View.readAt (Elt Ideal) arg3.view (Rect.unit (s := S1x512x256) ![0, 0, 0] S1x512x256.size inb_S1x512x256_S1x512x256_0_0_0).toLoadRect (harg3.unread x0))) (inpL arg3 harg3 arg4 harg4 x0 x1)).1.2 (k0_pay12 (F := Ideal) (ld0 arg8 harg8 x5)) (k0_pay13 (F := Ideal) (ld0 arg9 harg9 x6)) (ldc arg13 (harg13.unread xs1) 0 inb_S1x2048_S1x512_0_0) (ldc arg13 (harg13.unread xs1) 1024 inb_S1x2048_S1x512_0_1024) ∧
    k0_pay49 (F := Ideal) (kernelRun0_B.sl.r_11 (F := Ideal) c i arg3 harg3 arg4 harg4 arg5 harg5 arg6 harg6 arg7 harg7 arg8 harg8 arg9 harg9 arg10 harg10 arg11 harg11 arg12 harg12 arg13 harg13 arg14 harg14 x0 x1 x3 x4) (kernelRun0_B.sl.r_13 (F := Ideal) c i arg3 harg3 arg4 harg4 arg5 harg5 arg6 harg6 arg7 harg7 arg8 harg8 arg9 harg9 arg10 harg10 arg11 harg11 arg12 harg12 arg13 harg13 arg14 harg14 x0 x1 x3 x4 x5 x6 xs1) (kernelRun0_B.sl.r_14 (F := Ideal) c i arg3 harg3 arg4 harg4 arg5 harg5 arg6 harg6 arg7 harg7 arg8 harg8 arg9 harg9 arg10 harg10 arg11 harg11 arg12 harg12 arg13 harg13 arg14 harg14 x0 x1 x3 x4 x5 x6 xs1) = p0ci (q1 c i arg3 harg3 arg4 harg4 arg5 harg5 arg6 harg6 arg7 harg7 arg8 harg8 arg9 harg9 arg10 harg10 arg11 harg11 arg12 harg12 arg13 harg13 arg14 harg14 (ld0 arg6 harg6 x3) (ld0 arg7 harg7 x4) (ld1 arg6 harg6 x3) (ld1 arg7 harg7 x4) (k0_pay12 (F := Ideal) (ld0 arg8 harg8 x5)) (k0_pay13 (F := Ideal) (ld0 arg9 harg9 x6)) (k0_pay61 (F := Ideal) (ld1 arg8 harg8 x5)) (k0_pay62 (F := Ideal) (ld1 arg9 harg9 x6)) (ldc arg13 (harg13.unread xs1) 0 inb_S1x2048_S1x512_0_0) (ldc arg13 (harg13.unread xs1) 1024 inb_S1x2048_S1x512_0_1024) (ldc arg13 (harg13.unread xs1) 512 inb_S1x2048_S1x512_0_512) (ldc arg13 (harg13.unread xs1) 1536 inb_S1x2048_S1x512_0_1536) (kernelRun0_B.sl.r_11 (F := Ideal) c i arg3 harg3 arg4 harg4 arg5 harg5 arg6 harg6 arg7 harg7 arg8 harg8 arg9 harg9 arg10 harg10 arg11 harg11 arg12 harg12 arg13 harg13 arg14 harg14 x0 x1 x3 x4) (kernelRun0_B.sl.r_12 (F := Ideal) c i arg3 harg3 arg4 harg4 arg5 harg5 arg6 harg6 arg7 harg7 arg8 harg8 arg9 harg9 arg10 harg10 arg11 harg11 arg12 harg12 arg13 harg13 arg14 harg14 x0 x1 x3 x4 x5 x6 xs1) (kernelRun0_B.sl.r_13 (F := Ideal) c i arg3 harg3 arg4 harg4 arg5 harg5 arg6 harg6 arg7 harg7 arg8 harg8 arg9 harg9 arg10 harg10 arg11 harg11 arg12 harg12 arg13 harg13 arg14 harg14 x0 x1 x3 x4 x5 x6 xs1) (kernelRun0_B.sl.r_14 (F := Ideal) c i arg3 harg3 arg4 harg4 arg5 harg5 arg6 harg6 arg7 harg7 arg8 harg8 arg9 harg9 arg10 harg10 arg11 harg11 arg12 harg12 arg13 harg13 arg14 harg14 x0 x1 x3 x4 x5 x6 xs1) (kernelRun0_B.sl.r_25 (F := Ideal) c i arg3 harg3 arg4 harg4 arg5 harg5 arg6 harg6 arg7 harg7 arg8 harg8 arg9 harg9 arg10 harg10 arg11 harg11 arg12 harg12 arg13 harg13 arg14 harg14 x0 x1 x3 x4 x5 x6 xs1) (kernelRun0_B.sl.r_26 (F := Ideal) c i arg3 harg3 arg4 harg4 arg5 harg5 arg6 harg6 arg7 harg7 arg8 harg8 arg9 harg9 arg10 harg10 arg11 harg11 arg12 harg12 arg13 harg13 arg14 harg14 x0 x1 x3 x4 x5 x6 xs1) (k0_pay3 (F := Ideal) (View.readAt (Elt Ideal) arg3.view (Rect.unit (s := S1x512x256) ![0, 0, 0] S1x512x256.size inb_S1x512x256_S1x512x256_0_0_0).toLoadRect (harg3.unread x0))) (inpL arg3 harg3 arg4 harg4 x0 x1)).1.1 (q1 c i arg3 harg3 arg4 harg4 arg5 harg5 arg6 harg6 arg7 harg7 arg8 harg8 arg9 harg9 arg10 harg10 arg11 harg11 arg12 harg12 arg13 harg13 arg14 harg14 (ld0 arg6 harg6 x3) (ld0 arg7 harg7 x4) (ld1 arg6 harg6 x3) (ld1 arg7 harg7 x4) (k0_pay12 (F := Ideal) (ld0 arg8 harg8 x5)) (k0_pay13 (F := Ideal) (ld0 arg9 harg9 x6)) (k0_pay61 (F := Ideal) (ld1 arg8 harg8 x5)) (k0_pay62 (F := Ideal) (ld1 arg9 harg9 x6)) (ldc arg13 (harg13.unread xs1) 0 inb_S1x2048_S1x512_0_0) (ldc arg13 (harg13.unread xs1) 1024 inb_S1x2048_S1x512_0_1024) (ldc arg13 (harg13.unread xs1) 512 inb_S1x2048_S1x512_0_512) (ldc arg13 (harg13.unread xs1) 1536 inb_S1x2048_S1x512_0_1536) (kernelRun0_B.sl.r_11 (F := Ideal) c i arg3 harg3 arg4 harg4 arg5 harg5 arg6 harg6 arg7 harg7 arg8 harg8 arg9 harg9 arg10 harg10 arg11 harg11 arg12 harg12 arg13 harg13 arg14 harg14 x0 x1 x3 x4) (kernelRun0_B.sl.r_12 (F := Ideal) c i arg3 harg3 arg4 harg4 arg5 harg5 arg6 harg6 arg7 harg7 arg8 harg8 arg9 harg9 arg10 harg10 arg11 harg11 arg12 harg12 arg13 harg13 arg14 harg14 x0 x1 x3 x4 x5 x6 xs1) (kernelRun0_B.sl.r_13 (F := Ideal) c i arg3 harg3 arg4 harg4 arg5 harg5 arg6 harg6 arg7 harg7 arg8 harg8 arg9 harg9 arg10 harg10 arg11 harg11 arg12 harg12 arg13 harg13 arg14 harg14 x0 x1 x3 x4 x5 x6 xs1) (kernelRun0_B.sl.r_14 (F := Ideal) c i arg3 harg3 arg4 harg4 arg5 harg5 arg6 harg6 arg7 harg7 arg8 harg8 arg9 harg9 arg10 harg10 arg11 harg11 arg12 harg12 arg13 harg13 arg14 harg14 x0 x1 x3 x4 x5 x6 xs1) (kernelRun0_B.sl.r_25 (F := Ideal) c i arg3 harg3 arg4 harg4 arg5 harg5 arg6 harg6 arg7 harg7 arg8 harg8 arg9 harg9 arg10 harg10 arg11 harg11 arg12 harg12 arg13 harg13 arg14 harg14 x0 x1 x3 x4 x5 x6 xs1) (kernelRun0_B.sl.r_26 (F := Ideal) c i arg3 harg3 arg4 harg4 arg5 harg5 arg6 harg6 arg7 harg7 arg8 harg8 arg9 harg9 arg10 harg10 arg11 harg11 arg12 harg12 arg13 harg13 arg14 harg14 x0 x1 x3 x4 x5 x6 xs1) (k0_pay3 (F := Ideal) (View.readAt (Elt Ideal) arg3.view (Rect.unit (s := S1x512x256) ![0, 0, 0] S1x512x256.size inb_S1x512x256_S1x512x256_0_0_0).toLoadRect (harg3.unread x0))) (inpL arg3 harg3 arg4 harg4 x0 x1)).1.2 (k0_pay12 (F := Ideal) (ld0 arg8 harg8 x5)) (k0_pay13 (F := Ideal) (ld0 arg9 harg9 x6)) (ldc arg13 (harg13.unread xs1) 0 inb_S1x2048_S1x512_0_0) (ldc arg13 (harg13.unread xs1) 1024 inb_S1x2048_S1x512_0_1024) ∧
    k0_pay95 (F := Ideal) (kernelRun0_B.sl.r_25 (F := Ideal) c i arg3 harg3 arg4 harg4 arg5 harg5 arg6 harg6 arg7 harg7 arg8 harg8 arg9 harg9 arg10 harg10 arg11 harg11 arg12 harg12 arg13 harg13 arg14 harg14 x0 x1 x3 x4 x5 x6 xs1) = p1cr (q3 c i arg3 harg3 arg4 harg4 arg5 harg5 arg6 harg6 arg7 harg7 arg8 harg8 arg9 harg9 arg10 harg10 arg11 harg11 arg12 harg12 arg13 harg13 arg14 harg14 (ld0 arg6 harg6 x3) (ld0 arg7 harg7 x4) (ld1 arg6 harg6 x3) (ld1 arg7 harg7 x4) (k0_pay12 (F := Ideal) (ld0 arg8 harg8 x5)) (k0_pay13 (F := Ideal) (ld0 arg9 harg9 x6)) (k0_pay61 (F := Ideal) (ld1 arg8 harg8 x5)) (k0_pay62 (F := Ideal) (ld1 arg9 harg9 x6)) (ldc arg13 (harg13.unread xs1) 0 inb_S1x2048_S1x512_0_0) (ldc arg13 (harg13.unread xs1) 1024 inb_S1x2048_S1x512_0_1024) (ldc arg13 (harg13.unread xs1) 512 inb_S1x2048_S1x512_0_512) (ldc arg13 (harg13.unread xs1) 1536 inb_S1x2048_S1x512_0_1536) (kernelRun0_B.sl.r_11 (F := Ideal) c i arg3 harg3 arg4 harg4 arg5 harg5 arg6 harg6 arg7 harg7 arg8 harg8 arg9 harg9 arg10 harg10 arg11 harg11 arg12 harg12 arg13 harg13 arg14 harg14 x0 x1 x3 x4) (kernelRun0_B.sl.r_12 (F := Ideal) c i arg3 harg3 arg4 harg4 arg5 harg5 arg6 harg6 arg7 harg7 arg8 harg8 arg9 harg9 arg10 harg10 arg11 harg11 arg12 harg12 arg13 harg13 arg14 harg14 x0 x1 x3 x4 x5 x6 xs1) (kernelRun0_B.sl.r_13 (F := Ideal) c i arg3 harg3 arg4 harg4 arg5 harg5 arg6 harg6 arg7 harg7 arg8 harg8 arg9 harg9 arg10 harg10 arg11 harg11 arg12 harg12 arg13 harg13 arg14 harg14 x0 x1 x3 x4 x5 x6 xs1) (kernelRun0_B.sl.r_14 (F := Ideal) c i arg3 harg3 arg4 harg4 arg5 harg5 arg6 harg6 arg7 harg7 arg8 harg8 arg9 harg9 arg10 harg10 arg11 harg11 arg12 harg12 arg13 harg13 arg14 harg14 x0 x1 x3 x4 x5 x6 xs1) (kernelRun0_B.sl.r_25 (F := Ideal) c i arg3 harg3 arg4 harg4 arg5 harg5 arg6 harg6 arg7 harg7 arg8 harg8 arg9 harg9 arg10 harg10 arg11 harg11 arg12 harg12 arg13 harg13 arg14 harg14 x0 x1 x3 x4 x5 x6 xs1) (kernelRun0_B.sl.r_26 (F := Ideal) c i arg3 harg3 arg4 harg4 arg5 harg5 arg6 harg6 arg7 harg7 arg8 harg8 arg9 harg9 arg10 harg10 arg11 harg11 arg12 harg12 arg13 harg13 arg14 harg14 x0 x1 x3 x4 x5 x6 xs1) (k0_pay3 (F := Ideal) (View.readAt (Elt Ideal) arg3.view (Rect.unit (s := S1x512x256) ![0, 0, 0] S1x512x256.size inb_S1x512x256_S1x512x256_0_0_0).toLoadRect (harg3.unread x0))) (inpL arg3 harg3 arg4 harg4 x0 x1)).1.1 (q3 c i arg3 harg3 arg4 harg4 arg5 harg5 arg6 harg6 arg7 harg7 arg8 harg8 arg9 harg9 arg10 harg10 arg11 harg11 arg12 harg12 arg13 harg13 arg14 harg14 (ld0 arg6 harg6 x3) (ld0 arg7 harg7 x4) (ld1 arg6 harg6 x3) (ld1 arg7 harg7 x4) (k0_pay12 (F := Ideal) (ld0 arg8 harg8 x5)) (k0_pay13 (F := Ideal) (ld0 arg9 harg9 x6)) (k0_pay61 (F := Ideal) (ld1 arg8 harg8 x5)) (k0_pay62 (F := Ideal) (ld1 arg9 harg9 x6)) (ldc arg13 (harg13.unread xs1) 0 inb_S1x2048_S1x512_0_0) (ldc arg13 (harg13.unread xs1) 1024 inb_S1x2048_S1x512_0_1024) (ldc arg13 (harg13.unread xs1) 512 inb_S1x2048_S1x512_0_512) (ldc arg13 (harg13.unread xs1) 1536 inb_S1x2048_S1x512_0_1536) (kernelRun0_B.sl.r_11 (F := Ideal) c i arg3 harg3 arg4 harg4 arg5 harg5 arg6 harg6 arg7 harg7 arg8 harg8 arg9 harg9 arg10 harg10 arg11 harg11 arg12 harg12 arg13 harg13 arg14 harg14 x0 x1 x3 x4) (kernelRun0_B.sl.r_12 (F := Ideal) c i arg3 harg3 arg4 harg4 arg5 harg5 arg6 harg6 arg7 harg7 arg8 harg8 arg9 harg9 arg10 harg10 arg11 harg11 arg12 harg12 arg13 harg13 arg14 harg14 x0 x1 x3 x4 x5 x6 xs1) (kernelRun0_B.sl.r_13 (F := Ideal) c i arg3 harg3 arg4 harg4 arg5 harg5 arg6 harg6 arg7 harg7 arg8 harg8 arg9 harg9 arg10 harg10 arg11 harg11 arg12 harg12 arg13 harg13 arg14 harg14 x0 x1 x3 x4 x5 x6 xs1) (kernelRun0_B.sl.r_14 (F := Ideal) c i arg3 harg3 arg4 harg4 arg5 harg5 arg6 harg6 arg7 harg7 arg8 harg8 arg9 harg9 arg10 harg10 arg11 harg11 arg12 harg12 arg13 harg13 arg14 harg14 x0 x1 x3 x4 x5 x6 xs1) (kernelRun0_B.sl.r_25 (F := Ideal) c i arg3 harg3 arg4 harg4 arg5 harg5 arg6 harg6 arg7 harg7 arg8 harg8 arg9 harg9 arg10 harg10 arg11 harg11 arg12 harg12 arg13 harg13 arg14 harg14 x0 x1 x3 x4 x5 x6 xs1) (kernelRun0_B.sl.r_26 (F := Ideal) c i arg3 harg3 arg4 harg4 arg5 harg5 arg6 harg6 arg7 harg7 arg8 harg8 arg9 harg9 arg10 harg10 arg11 harg11 arg12 harg12 arg13 harg13 arg14 harg14 x0 x1 x3 x4 x5 x6 xs1) (k0_pay3 (F := Ideal) (View.readAt (Elt Ideal) arg3.view (Rect.unit (s := S1x512x256) ![0, 0, 0] S1x512x256.size inb_S1x512x256_S1x512x256_0_0_0).toLoadRect (harg3.unread x0))) (inpL arg3 harg3 arg4 harg4 x0 x1)).1.2 (k0_pay61 (F := Ideal) (ld1 arg8 harg8 x5)) (k0_pay62 (F := Ideal) (ld1 arg9 harg9 x6)) (ldc arg13 (harg13.unread xs1) 512 inb_S1x2048_S1x512_0_512) (ldc arg13 (harg13.unread xs1) 1536 inb_S1x2048_S1x512_0_1536) ∧
    k0_pay96 (F := Ideal) (kernelRun0_B.sl.r_26 (F := Ideal) c i arg3 harg3 arg4 harg4 arg5 harg5 arg6 harg6 arg7 harg7 arg8 harg8 arg9 harg9 arg10 harg10 arg11 harg11 arg12 harg12 arg13 harg13 arg14 harg14 x0 x1 x3 x4 x5 x6 xs1) = p1ci (q3 c i arg3 harg3 arg4 harg4 arg5 harg5 arg6 harg6 arg7 harg7 arg8 harg8 arg9 harg9 arg10 harg10 arg11 harg11 arg12 harg12 arg13 harg13 arg14 harg14 (ld0 arg6 harg6 x3) (ld0 arg7 harg7 x4) (ld1 arg6 harg6 x3) (ld1 arg7 harg7 x4) (k0_pay12 (F := Ideal) (ld0 arg8 harg8 x5)) (k0_pay13 (F := Ideal) (ld0 arg9 harg9 x6)) (k0_pay61 (F := Ideal) (ld1 arg8 harg8 x5)) (k0_pay62 (F := Ideal) (ld1 arg9 harg9 x6)) (ldc arg13 (harg13.unread xs1) 0 inb_S1x2048_S1x512_0_0) (ldc arg13 (harg13.unread xs1) 1024 inb_S1x2048_S1x512_0_1024) (ldc arg13 (harg13.unread xs1) 512 inb_S1x2048_S1x512_0_512) (ldc arg13 (harg13.unread xs1) 1536 inb_S1x2048_S1x512_0_1536) (kernelRun0_B.sl.r_11 (F := Ideal) c i arg3 harg3 arg4 harg4 arg5 harg5 arg6 harg6 arg7 harg7 arg8 harg8 arg9 harg9 arg10 harg10 arg11 harg11 arg12 harg12 arg13 harg13 arg14 harg14 x0 x1 x3 x4) (kernelRun0_B.sl.r_12 (F := Ideal) c i arg3 harg3 arg4 harg4 arg5 harg5 arg6 harg6 arg7 harg7 arg8 harg8 arg9 harg9 arg10 harg10 arg11 harg11 arg12 harg12 arg13 harg13 arg14 harg14 x0 x1 x3 x4 x5 x6 xs1) (kernelRun0_B.sl.r_13 (F := Ideal) c i arg3 harg3 arg4 harg4 arg5 harg5 arg6 harg6 arg7 harg7 arg8 harg8 arg9 harg9 arg10 harg10 arg11 harg11 arg12 harg12 arg13 harg13 arg14 harg14 x0 x1 x3 x4 x5 x6 xs1) (kernelRun0_B.sl.r_14 (F := Ideal) c i arg3 harg3 arg4 harg4 arg5 harg5 arg6 harg6 arg7 harg7 arg8 harg8 arg9 harg9 arg10 harg10 arg11 harg11 arg12 harg12 arg13 harg13 arg14 harg14 x0 x1 x3 x4 x5 x6 xs1) (kernelRun0_B.sl.r_25 (F := Ideal) c i arg3 harg3 arg4 harg4 arg5 harg5 arg6 harg6 arg7 harg7 arg8 harg8 arg9 harg9 arg10 harg10 arg11 harg11 arg12 harg12 arg13 harg13 arg14 harg14 x0 x1 x3 x4 x5 x6 xs1) (kernelRun0_B.sl.r_26 (F := Ideal) c i arg3 harg3 arg4 harg4 arg5 harg5 arg6 harg6 arg7 harg7 arg8 harg8 arg9 harg9 arg10 harg10 arg11 harg11 arg12 harg12 arg13 harg13 arg14 harg14 x0 x1 x3 x4 x5 x6 xs1) (k0_pay3 (F := Ideal) (View.readAt (Elt Ideal) arg3.view (Rect.unit (s := S1x512x256) ![0, 0, 0] S1x512x256.size inb_S1x512x256_S1x512x256_0_0_0).toLoadRect (harg3.unread x0))) (inpL arg3 harg3 arg4 harg4 x0 x1)).1.1 (q3 c i arg3 harg3 arg4 harg4 arg5 harg5 arg6 harg6 arg7 harg7 arg8 harg8 arg9 harg9 arg10 harg10 arg11 harg11 arg12 harg12 arg13 harg13 arg14 harg14 (ld0 arg6 harg6 x3) (ld0 arg7 harg7 x4) (ld1 arg6 harg6 x3) (ld1 arg7 harg7 x4) (k0_pay12 (F := Ideal) (ld0 arg8 harg8 x5)) (k0_pay13 (F := Ideal) (ld0 arg9 harg9 x6)) (k0_pay61 (F := Ideal) (ld1 arg8 harg8 x5)) (k0_pay62 (F := Ideal) (ld1 arg9 harg9 x6)) (ldc arg13 (harg13.unread xs1) 0 inb_S1x2048_S1x512_0_0) (ldc arg13 (harg13.unread xs1) 1024 inb_S1x2048_S1x512_0_1024) (ldc arg13 (harg13.unread xs1) 512 inb_S1x2048_S1x512_0_512) (ldc arg13 (harg13.unread xs1) 1536 inb_S1x2048_S1x512_0_1536) (kernelRun0_B.sl.r_11 (F := Ideal) c i arg3 harg3 arg4 harg4 arg5 harg5 arg6 harg6 arg7 harg7 arg8 harg8 arg9 harg9 arg10 harg10 arg11 harg11 arg12 harg12 arg13 harg13 arg14 harg14 x0 x1 x3 x4) (kernelRun0_B.sl.r_12 (F := Ideal) c i arg3 harg3 arg4 harg4 arg5 harg5 arg6 harg6 arg7 harg7 arg8 harg8 arg9 harg9 arg10 harg10 arg11 harg11 arg12 harg12 arg13 harg13 arg14 harg14 x0 x1 x3 x4 x5 x6 xs1) (kernelRun0_B.sl.r_13 (F := Ideal) c i arg3 harg3 arg4 harg4 arg5 harg5 arg6 harg6 arg7 harg7 arg8 harg8 arg9 harg9 arg10 harg10 arg11 harg11 arg12 harg12 arg13 harg13 arg14 harg14 x0 x1 x3 x4 x5 x6 xs1) (kernelRun0_B.sl.r_14 (F := Ideal) c i arg3 harg3 arg4 harg4 arg5 harg5 arg6 harg6 arg7 harg7 arg8 harg8 arg9 harg9 arg10 harg10 arg11 harg11 arg12 harg12 arg13 harg13 arg14 harg14 x0 x1 x3 x4 x5 x6 xs1) (kernelRun0_B.sl.r_25 (F := Ideal) c i arg3 harg3 arg4 harg4 arg5 harg5 arg6 harg6 arg7 harg7 arg8 harg8 arg9 harg9 arg10 harg10 arg11 harg11 arg12 harg12 arg13 harg13 arg14 harg14 x0 x1 x3 x4 x5 x6 xs1) (kernelRun0_B.sl.r_26 (F := Ideal) c i arg3 harg3 arg4 harg4 arg5 harg5 arg6 harg6 arg7 harg7 arg8 harg8 arg9 harg9 arg10 harg10 arg11 harg11 arg12 harg12 arg13 harg13 arg14 harg14 x0 x1 x3 x4 x5 x6 xs1) (k0_pay3 (F := Ideal) (View.readAt (Elt Ideal) arg3.view (Rect.unit (s := S1x512x256) ![0, 0, 0] S1x512x256.size inb_S1x512x256_S1x512x256_0_0_0).toLoadRect (harg3.unread x0))) (inpL arg3 harg3 arg4 harg4 x0 x1)).1.2 (k0_pay61 (F := Ideal) (ld1 arg8 harg8 x5)) (k0_pay62 (F := Ideal) (ld1 arg9 harg9 x6)) (ldc arg13 (harg13.unread xs1) 512 inb_S1x2048_S1x512_0_512) (ldc arg13 (harg13.unread xs1) 1536 inb_S1x2048_S1x512_0_1536) := ⟨rfl, rfl, rfl, rfl⟩

/-- In a later block the row carried out, entry by entry. -/
theorem co_B (v : View sig .tc .vmem S1x2048 .f32) (f : BufTy.Contents (Elt Ideal) v.ty) (L : List (View.Piece (Elt Ideal) S1x2048 .f32)) (R : FVec Ideal S1x2048 .f32)
    (hR : R = v.read (Elt Ideal) (v.writes (Elt Ideal) f (⟨Rect.unit (s := S1x2048) ![0, 1536] S1x512.size inb_S1x2048_S1x512_0_1536, k0_pay96 (F := Ideal) (kernelRun0_B.sl.r_26 (F := Ideal) c i arg3 harg3 arg4 harg4 arg5 harg5 arg6 harg6 arg7 harg7 arg8 harg8 arg9 harg9 arg10 harg10 arg11 harg11 arg12 harg12 arg13 harg13 arg14 harg14 x0 x1 x3 x4 x5 x6 xs1)⟩ :: ⟨Rect.unit (s := S1x2048) ![0, 512] S1x512.size inb_S1x2048_S1x512_0_512, k0_pay95 (F := Ideal) (kernelRun0_B.sl.r_25 (F := Ideal) c i arg3 harg3 arg4 harg4 arg5 harg5 arg6 harg6 arg7 harg7 arg8 harg8 arg9 harg9 arg10 harg10 arg11 harg11 arg12 harg12 arg13 harg13 arg14 harg14 x0 x1 x3 x4 x5 x6 xs1)⟩ ::
      ⟨Rect.unit (s := S1x2048) ![0, 1024] S1x512.size inb_S1x2048_S1x512_0_1024, k0_pay49 (F := Ideal) (kernelRun0_B.sl.r_11 (F := Ideal) c i arg3 harg3 arg4 harg4 arg5 harg5 arg6 harg6 arg7 harg7 arg8 harg8 arg9 harg9 arg10 harg10 arg11 harg11 arg12 harg12 arg13 harg13 arg14 harg14 x0 x1 x3 x4) (kernelRun0_B.sl.r_13 (F := Ideal) c i arg3 harg3 arg4 harg4 arg5 harg5 arg6 harg6 arg7 harg7 arg8 harg8 arg9 harg9 arg10 harg10 arg11 harg11 arg12 harg12 arg13 harg13 arg14 harg14 x0 x1 x3 x4 x5 x6 xs1) (kernelRun0_B.sl.r_14 (F := Ideal) c i arg3 harg3 arg4 harg4 arg5 harg5 arg6 harg6 arg7 harg7 arg8 harg8 arg9 harg9 arg10 harg10 arg11 harg11 arg12 harg12 arg13 harg13 arg14 harg14 x0 x1 x3 x4 x5 x6 xs1)⟩ :: ⟨Rect.unit (s := S1x2048) ![0, 0] S1x512.size inb_S1x2048_S1x512_0_0, k0_pay48 (F := Ideal) (kernelRun0_B.sl.r_12 (F := Ideal) c i arg3 harg3 arg4 harg4 arg5 harg5 arg6 harg6 arg7 harg7 arg8 harg8 arg9 harg9 arg10 harg10 arg11 harg11 arg12 harg12 arg13 harg13 arg14 harg14 x0 x1 x3 x4 x5 x6 xs1)⟩ :: L)))
    (y : ℕ) (hy : y < 1024) : rowC R y = (outAt (k0_pay4 (F := Ideal) x0 x1) x3 x4 x5 x6 xs1 y).1 ∧ rowC R (1024 + y) = (outAt (k0_pay4 (F := Ideal) x0 x1) x3 x4 x5 x6 xs1 y).2 := by
  have hp := pieces_B c i arg3 harg3 arg4 harg4 arg5 harg5 arg6 harg6 arg7 harg7 arg8 harg8 arg9 harg9 arg10 harg10 arg11 harg11 arg12 harg12 arg13 harg13 arg14 harg14 x0 x1 x3 x4 x5 x6 xs1
  rw [hp.1, hp.2.1, hp.2.2.1, hp.2.2.2] at hR
  refine col_split (fun y => rowC R y = (outAt (k0_pay4 (F := Ideal) x0 x1) x3 x4 x5 x6 xs1 y).1 ∧ rowC R (1024 + y) = (outAt (k0_pay4 (F := Ideal) x0 x1) x3 x4 x5 x6 xs1 y).2) (fun x => ?_) (fun x => ?_) y hy
  · have h := carry_read v f _ _ _ _ _ _ _ _ L x R hR
    have k := p0s_eq c i arg3 harg3 arg4 harg4 arg5 harg5 arg6 harg6 arg7 harg7 arg8 harg8 arg9 harg9 arg10 harg10 arg11 harg11 arg12 harg12 arg13 harg13 arg14 harg14 (ld0 arg6 harg6 x3) (ld0 arg7 harg7 x4) (ld1 arg6 harg6 x3) (ld1 arg7 harg7 x4) (k0_pay12 (F := Ideal) (ld0 arg8 harg8 x5)) (k0_pay13 (F := Ideal) (ld0 arg9 harg9 x6)) (k0_pay61 (F := Ideal) (ld1 arg8 harg8 x5)) (k0_pay62 (F := Ideal) (ld1 arg9 harg9 x6)) (ldc arg13 (harg13.unread xs1) 0 inb_S1x2048_S1x512_0_0) (ldc arg13 (harg13.unread xs1) 1024 inb_S1x2048_S1x512_0_1024) (ldc arg13 (harg13.unread xs1) 512 inb_S1x2048_S1x512_0_512) (ldc arg13 (harg13.unread xs1) 1536 inb_S1x2048_S1x512_0_1536) (kernelRun0_B.sl.r_11 (F := Ideal) c i arg3 harg3 arg4 harg4 arg5 harg5 arg6 harg6 arg7 harg7 arg8 harg8 arg9 harg9 arg10 harg10 arg11 harg11 arg12 harg12 arg13 harg13 arg14 harg14 x0 x1 x3 x4) (kernelRun0_B.sl.r_12 (F := Ideal) c i arg3 harg3 arg4 harg4 arg5 harg5 arg6 harg6 arg7 harg7 arg8 harg8 arg9 harg9 arg10 harg10 arg11 harg11 arg12 harg12 arg13 harg13 arg14 harg14 x0 x1 x3 x4 x5 x6 xs1) (kernelRun0_B.sl.r_13 (F := Ideal) c i arg3 harg3 arg4 harg4 arg5 harg5 arg6 harg6 arg7 harg7 arg8 harg8 arg9 harg9 arg10 harg10 arg11 harg11 arg12 harg12 arg13 harg13 arg14 harg14 x0 x1 x3 x4 x5 x6 xs1) (kernelRun0_B.sl.r_14 (F := Ideal) c i arg3 harg3 arg4 harg4 arg5 harg5 arg6 harg6 arg7 harg7 arg8 harg8 arg9 harg9 arg10 harg10 arg11 harg11 arg12 harg12 arg13 harg13 arg14 harg14 x0 x1 x3 x4 x5 x6 xs1) (kernelRun0_B.sl.r_25 (F := Ideal) c i arg3 harg3 arg4 harg4 arg5 harg5 arg6 harg6 arg7 harg7 arg8 harg8 arg9 harg9 arg10 harg10 arg11 harg11 arg12 harg12 arg13 harg13 arg14 harg14 x0 x1 x3 x4 x5 x6 xs1) (kernelRun0_B.sl.r_26 (F := Ideal) c i arg3 harg3 arg4 harg4 arg5 harg5 arg6 harg6 arg7 harg7 arg8 harg8 arg9 harg9 arg10 harg10 arg11 harg11 arg12 harg12 arg13 harg13 arg14 harg14 x0 x1 x3 x4 x5 x6 xs1) (k0_pay3 (F := Ideal) (View.readAt (Elt Ideal) arg3.view (Rect.unit (s := S1x512x256) ![0, 0, 0] S1x512x256.size inb_S1x512x256_S1x512x256_0_0_0).toLoadRect (harg3.unread x0))) (inpL arg3 harg3 arg4 harg4 x0 x1) x 8 (le_refl 8)
    have e3 := ld0_at arg6 harg6 x3 x
    have e4 := ld0_at arg7 harg7 x4 x
    have e5 := (pay12_at (ld0 arg8 harg8 x5) x).trans (ld0_at arg8 harg8 x5 x)
    have e6 := (pay13_at (ld0 arg9 harg9 x6) x).trans (ld0_at arg9 harg9 x6 x)
    have hc := cin0_B arg13 harg13 xs1 x
    rw [e3, e4, e5, e6, hc.1, hc.2, inpL_read] at k
    refine ⟨h.1.trans ((p0cr_at _ _ _ _ _ _ x).trans (congrArg Prod.fst k)), h.2.2.1.trans ((p0ci_at _ _ _ _ _ _ x).trans (congrArg Prod.snd k))⟩
  · have h := carry_read v f _ _ _ _ _ _ _ _ L x R hR
    have k := p1s_eq c i arg3 harg3 arg4 harg4 arg5 harg5 arg6 harg6 arg7 harg7 arg8 harg8 arg9 harg9 arg10 harg10 arg11 harg11 arg12 harg12 arg13 harg13 arg14 harg14 (ld0 arg6 harg6 x3) (ld0 arg7 harg7 x4) (ld1 arg6 harg6 x3) (ld1 arg7 harg7 x4) (k0_pay12 (F := Ideal) (ld0 arg8 harg8 x5)) (k0_pay13 (F := Ideal) (ld0 arg9 harg9 x6)) (k0_pay61 (F := Ideal) (ld1 arg8 harg8 x5)) (k0_pay62 (F := Ideal) (ld1 arg9 harg9 x6)) (ldc arg13 (harg13.unread xs1) 0 inb_S1x2048_S1x512_0_0) (ldc arg13 (harg13.unread xs1) 1024 inb_S1x2048_S1x512_0_1024) (ldc arg13 (harg13.unread xs1) 512 inb_S1x2048_S1x512_0_512) (ldc arg13 (harg13.unread xs1) 1536 inb_S1x2048_S1x512_0_1536) (kernelRun0_B.sl.r_11 (F := Ideal) c i arg3 harg3 arg4 harg4 arg5 harg5 arg6 harg6 arg7 harg7 arg8 harg8 arg9 harg9 arg10 harg10 arg11 harg11 arg12 harg12 arg13 harg13 arg14 harg14 x0 x1 x3 x4) (kernelRun0_B.sl.r_12 (F := Ideal) c i arg3 harg3 arg4 harg4 arg5 harg5 arg6 harg6 arg7 harg7 arg8 harg8 arg9 harg9 arg10 harg10 arg11 harg11 arg12 harg12 arg13 harg13 arg14 harg14 x0 x1 x3 x4 x5 x6 xs1) (kernelRun0_B.sl.r_13 (F := Ideal) c i arg3 harg3 arg4 harg4 arg5 harg5 arg6 harg6 arg7 harg7 arg8 harg8 arg9 harg9 arg10 harg10 arg11 harg11 arg12 harg12 arg13 harg13 arg14 harg14 x0 x1 x3 x4 x5 x6 xs1) (kernelRun0_B.sl.r_14 (F := Ideal) c i arg3 harg3 arg4 harg4 arg5 harg5 arg6 harg6 arg7 harg7 arg8 harg8 arg9 harg9 arg10 harg10 arg11 harg11 arg12 harg12 arg13 harg13 arg14 harg14 x0 x1 x3 x4 x5 x6 xs1) (kernelRun0_B.sl.r_25 (F := Ideal) c i arg3 harg3 arg4 harg4 arg5 harg5 arg6 harg6 arg7 harg7 arg8 harg8 arg9 harg9 arg10 harg10 arg11 harg11 arg12 harg12 arg13 harg13 arg14 harg14 x0 x1 x3 x4 x5 x6 xs1) (kernelRun0_B.sl.r_26 (F := Ideal) c i arg3 harg3 arg4 harg4 arg5 harg5 arg6 harg6 arg7 harg7 arg8 harg8 arg9 harg9 arg10 harg10 arg11 harg11 arg12 harg12 arg13 harg13 arg14 harg14 x0 x1 x3 x4 x5 x6 xs1) (k0_pay3 (F := Ideal) (View.readAt (Elt Ideal) arg3.view (Rect.unit (s := S1x512x256) ![0, 0, 0] S1x512x256.size inb_S1x512x256_S1x512x256_0_0_0).toLoadRect (harg3.unread x0))) (inpL arg3 harg3 arg4 harg4 x0 x1) x 8 (le_refl 8)
    have e3 := ld1_at arg6 harg6 x3 x
    have e4 := ld1_at arg7 harg7 x4 x
    have e5 := (pay61_at (ld1 arg8 harg8 x5) x).trans (ld1_at arg8 harg8 x5 x)
    have e6 := (pay62_at (ld1 arg9 harg9 x6) x).trans (ld1_at arg9 harg9 x6 x)
    have hc := cin1_B arg13 harg13 xs1 x
    rw [e3, e4, e5, e6, hc.1, hc.2, inpL_read] at k
    refine ⟨h.2.1.trans ((p1cr_at _ _ _ _ _ _ x).trans (congrArg Prod.fst k)), h.2.2.2.trans ((p1ci_at _ _ _ _ _ _ x).trans (congrArg Prod.snd k))⟩

end

section
variable (c : Dev nD) (i : grid0.Coords) (arg3 : Memref sig .tc .vmem S1x512x256 .f32) (harg3 : arg3.IsWhole) (arg4 : Memref sig .tc .vmem S1x256x2048 .bf16) (harg4 : arg4.IsWhole) (arg5 : Memref sig .tc .vmem S1x2048x256 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1x256 .f32) (harg10 : arg10.IsWhole) (arg11 : Memref sig .tc .vmem S1x512x256 .bf16) (harg11 : arg11.IsWhole) (arg12 : Memref sig .tc .vmem S512x2048 .f32) (harg12 : arg12.IsWhole) (arg13 : Memref sig .tc .vmem S1x2048 .f32) (harg13 : arg13.IsWhole) (arg14 : Memref sig .tc .vmem S8x2048 .f32) (harg14 : arg14.IsWhole)
variable (x0 : Vec Ideal S1x512x256 .f32) (x1 : Vec Ideal S1x256x2048 .bf16) (x3 x4 x5 x6 : Vec Ideal S1x1x1024 .f32)

/-- The two pieces of the carry that the first half of the columns leaves, before the zeros. -/
abbrev lst : List (View.Piece (Elt Ideal) S1x2048 .f32) := ((⟨Rect.unit (s := S1x2048) ![0, 1024] S1x512.size inb_S1x2048_S1x512_0_1024, k0_pay49 (kernelRun0_A.sl.r_11 (F := Ideal) c i arg3 harg3 arg4 harg4 arg5 harg5 arg6 harg6 arg7 harg7 arg8 harg8 arg9 harg9 arg10 harg10 arg11 harg11 arg12 harg12 arg13 harg13 arg14 harg14 x0 x1 x3 x4) (kernelRun0_A.sl.r_13 (F := Ideal) c i arg3 harg3 arg4 harg4 arg5 harg5 arg6 harg6 arg7 harg7 arg8 harg8 arg9 harg9 arg10 harg10 arg11 harg11 arg12 harg12 arg13 harg13 arg14 harg14 x0 x1 x3 x4 x5 x6) (kernelRun0_A.sl.r_14 (F := Ideal) c i arg3 harg3 arg4 harg4 arg5 harg5 arg6 harg6 arg7 harg7 arg8 harg8 arg9 harg9 arg10 harg10 arg11 harg11 arg12 harg12 arg13 harg13 arg14 harg14 x0 x1 x3 x4 x5 x6)⟩ : View.Piece (Elt Ideal) S1x2048 .f32) :: (⟨Rect.unit (s := S1x2048) ![0, 0] S1x512.size inb_S1x2048_S1x512_0_0, k0_pay48 (kernelRun0_A.sl.r_12 (F := Ideal) c i arg3 harg3 arg4 harg4 arg5 harg5 arg6 harg6 arg7 harg7 arg8 harg8 arg9 harg9 arg10 harg10 arg11 harg11 arg12 harg12 arg13 harg13 arg14 harg14 x0 x1 x3 x4 x5 x6)⟩ : View.Piece (Elt Ideal) S1x2048 .f32) :: zeroL)

/-- In the first block the states read back are those of the four loops. -/
theorem v322_A : (kernelRun0_A.sl.v322 (F := Ideal) c i arg3 harg3 arg4 harg4 arg5 harg5 arg6 harg6 arg7 harg7 arg8 harg8 arg9 harg9 arg10 harg10 arg11 harg11 arg12 harg12 arg13 harg13 arg14 harg14 x0 x1 x3 x4 x5 x6) = xfin c i arg3 harg3 arg4 harg4 arg5 harg5 arg6 harg6 arg7 harg7 arg8 harg8 arg9 harg9 arg10 harg10 arg11 harg11 arg12 harg12 arg13 harg13 arg14 harg14 (ld0 arg6 harg6 x3) (ld0 arg7 harg7 x4) (ld1 arg6 harg6 x3) (ld1 arg7 harg7 x4) (k0_pay12 (F := Ideal) (ld0 arg8 harg8 x5)) (k0_pay13 (F := Ideal) (ld0 arg9 harg9 x6)) (k0_pay61 (F := Ideal) (ld1 arg8 harg8 x5)) (k0_pay62 (F := Ideal) (ld1 arg9 harg9 x6)) (ldc arg13 (arg13.view.writes (Elt Ideal) arg13.view.junk zeroL) 0 inb_S1x2048_S1x512_0_0) (ldc arg13 (arg13.view.writes (Elt Ideal) arg13.view.junk zeroL) 1024 inb_S1x2048_S1x512_0_1024) (ldc arg13 (arg13.view.writes (Elt Ideal) arg13.view.junk (lst c i arg3 harg3 arg4 harg4 arg5 harg5 arg6 harg6 arg7 harg7 arg8 harg8 arg9 harg9 arg10 harg10 arg11 harg11 arg12 harg12 arg13 harg13 arg14 harg14 x0 x1 x3 x4 x5 x6)) 512 inb_S1x2048_S1x512_0_512) (ldc arg13 (arg13.view.writes (Elt Ideal) arg13.view.junk (lst c i arg3 harg3 arg4 harg4 arg5 harg5 arg6 harg6 arg7 harg7 arg8 harg8 arg9 harg9 arg10 harg10 arg11 harg11 arg12 harg12 arg13 harg13 arg14 harg14 x0 x1 x3 x4 x5 x6)) 1536 inb_S1x2048_S1x512_0_1536) (kernelRun0_A.sl.r_11 (F := Ideal) c i arg3 harg3 arg4 harg4 arg5 harg5 arg6 harg6 arg7 harg7 arg8 harg8 arg9 harg9 arg10 harg10 arg11 harg11 arg12 harg12 arg13 harg13 arg14 harg14 x0 x1 x3 x4) (kernelRun0_A.sl.r_12 (F := Ideal) c i arg3 harg3 arg4 harg4 arg5 harg5 arg6 harg6 arg7 harg7 arg8 harg8 arg9 harg9 arg10 harg10 arg11 harg11 arg12 harg12 arg13 harg13 arg14 harg14 x0 x1 x3 x4 x5 x6) (kernelRun0_A.sl.r_13 (F := Ideal) c i arg3 harg3 arg4 harg4 arg5 harg5 arg6 harg6 arg7 harg7 arg8 harg8 arg9 harg9 arg10 harg10 arg11 harg11 arg12 harg12 arg13 harg13 arg14 harg14 x0 x1 x3 x4 x5 x6) (kernelRun0_A.sl.r_14 (F := Ideal) c i arg3 harg3 arg4 harg4 arg5 harg5 arg6 harg6 arg7 harg7 arg8 harg8 arg9 harg9 arg10 harg10 arg11 harg11 arg12 harg12 arg13 harg13 arg14 harg14 x0 x1 x3 x4 x5 x6) (kernelRun0_A.sl.r_25 (F := Ideal) c i arg3 harg3 arg4 harg4 arg5 harg5 arg6 harg6 arg7 harg7 arg8 harg8 arg9 harg9 arg10 harg10 arg11 harg11 arg12 harg12 arg13 harg13 arg14 harg14 x0 x1 x3 x4 x5 x6) (kernelRun0_A.sl.r_26 (F := Ideal) c i arg3 harg3 arg4 harg4 arg5 harg5 arg6 harg6 arg7 harg7 arg8 harg8 arg9 harg9 arg10 harg10 arg11 harg11 arg12 harg12 arg13 harg13 arg14 harg14 x0 x1 x3 x4 x5 x6) (k0_pay3 (F := Ideal) (View.readAt (Elt Ideal) arg3.view (Rect.unit (s := S1x512x256) ![0, 0, 0] S1x512x256.size inb_S1x512x256_S1x512x256_0_0_0).toLoadRect (harg3.unread x0))) (inpL arg3 harg3 arg4 harg4 x0 x1) := rfl

/-- In the first block the row carried in, first half. -/
theorem cin0_A (x : Fin 512) : ((ldc arg13 (arg13.view.writes (Elt Ideal) arg13.view.junk zeroL) 0 inb_S1x2048_S1x512_0_0) : FVec Ideal S1x512 .f32) (ix2 0 x) = rowC (k0_pay2 (F := Ideal)) x.val ∧ ((ldc arg13 (arg13.view.writes (Elt Ideal) arg13.view.junk zeroL) 1024 inb_S1x2048_S1x512_0_1024) : FVec Ideal S1x512 .f32) (ix2 0 x) = rowC (k0_pay2 (F := Ideal)) (1024 + x.val) := by
  have h : arg13.view.read (Elt Ideal) (arg13.view.writes (Elt Ideal) arg13.view.junk zeroL) = (k0_pay2 (F := Ideal)) := View.read_writes_full arg13.view arg13.view.junk inb_S1x2048_S1x2048_0_0 _ []
  refine ⟨(rowC_readAt arg13.view _ 0 (by omega) _ x).trans ?_, (rowC_readAt arg13.view _ 1024 (by omega) _ x).trans ?_⟩
  · rw [h, Nat.zero_add]
  · rw [h]

/-- In the first block the row carried in, second half. -/
theorem cin1_A (x : Fin 512) : ((ldc arg13 (arg13.view.writes (Elt Ideal) arg13.view.junk (lst c i arg3 harg3 arg4 harg4 arg5 harg5 arg6 harg6 arg7 harg7 arg8 harg8 arg9 harg9 arg10 harg10 arg11 harg11 arg12 harg12 arg13 harg13 arg14 harg14 x0 x1 x3 x4 x5 x6)) 512 inb_S1x2048_S1x512_0_512) : FVec Ideal S1x512 .f32) (ix2 0 x) = rowC (k0_pay2 (F := Ideal)) (512 + x.val) ∧ ((ldc arg13 (arg13.view.writes (Elt Ideal) arg13.view.junk (lst c i arg3 harg3 arg4 harg4 arg5 harg5 arg6 harg6 arg7 harg7 arg8 harg8 arg9 harg9 arg10 harg10 arg11 harg11 arg12 harg12 arg13 harg13 arg14 harg14 x0 x1 x3 x4 x5 x6)) 1536 inb_S1x2048_S1x512_0_1536) : FVec Ideal S1x512 .f32) (ix2 0 x) = rowC (k0_pay2 (F := Ideal)) (1024 + (512 + x.val)) := by
  have h : arg13.view.read (Elt Ideal) (arg13.view.writes (Elt Ideal) arg13.view.junk zeroL) = (k0_pay2 (F := Ideal)) := View.read_writes_full arg13.view arg13.view.junk inb_S1x2048_S1x2048_0_0 _ []
  refine ⟨(rowC_readAt arg13.view _ 512 (by omega) _ x).trans ?_, (rowC_readAt arg13.view _ 1536 (by omega) _ x).trans ?_⟩

  · rw [rowC_miss _ _ _ _ _ _ _ (by omega), rowC_miss _ _ _ _ _ _ _ (by omega), h]
  · rw [rowC_miss _ _ _ _ _ _ _ (by omega), rowC_miss _ _ _ _ _ _ _ (by omega), h, show 1024 + (512 + x.val) = 1536 + x.val by omega]

/-- In the first block the states read back, entry by entry. -/
theorem st_A (r : ℕ) (hr : r < 512) (y : ℕ) (hy : y < 1024) : ent (kernelRun0_A.sl.v322 (F := Ideal) c i arg3 harg3 arg4 harg4 arg5 harg5 arg6 harg6 arg7 harg7 arg8 harg8 arg9 harg9 arg10 harg10 arg11 harg11 arg12 harg12 arg13 harg13 arg14 harg14 x0 x1 x3 x4 x5 x6) r y = (endAt (k0_pay4 (F := Ideal) x0 x1) x3 x4 x5 x6 (k0_pay2 (F := Ideal)) y r).1 ∧ ent (kernelRun0_A.sl.v322 (F := Ideal) c i arg3 harg3 arg4 harg4 arg5 harg5 arg6 harg6 arg7 harg7 arg8 harg8 arg9 harg9 arg10 harg10 arg11 harg11 arg12 harg12 arg13 harg13 arg14 harg14 x0 x1 x3 x4 x5 x6) r (1024 + y) = (endAt (k0_pay4 (F := Ideal) x0 x1) x3 x4 x5 x6 (k0_pay2 (F := Ideal)) y r).2 := by
  rw [v322_A c i arg3 harg3 arg4 harg4 arg5 harg5 arg6 harg6 arg7 harg7 arg8 harg8 arg9 harg9 arg10 harg10 arg11 harg11 arg12 harg12 arg13 harg13 arg14 harg14 x0 x1 x3 x4 x5 x6]
  refine col_split (fun y => ent (xfin c i arg3 harg3 arg4 harg4 arg5 harg5 arg6 harg6 arg7 harg7 arg8 harg8 arg9 harg9 arg10 harg10 arg11 harg11 arg12 harg12 arg13 harg13 arg14 harg14 (ld0 arg6 harg6 x3) (ld0 arg7 harg7 x4) (ld1 arg6 harg6 x3) (ld1 arg7 harg7 x4) (k0_pay12 (F := Ideal) (ld0 arg8 harg8 x5)) (k0_pay13 (F := Ideal) (ld0 arg9 harg9 x6)) (k0_pay61 (F := Ideal) (ld1 arg8 harg8 x5)) (k0_pay62 (F := Ideal) (ld1 arg9 harg9 x6)) (ldc arg13 (arg13.view.writes (Elt Ideal) arg13.view.junk zeroL) 0 inb_S1x2048_S1x512_0_0) (ldc arg13 (arg13.view.writes (Elt Ideal) arg13.view.junk zeroL) 1024 inb_S1x2048_S1x512_0_1024) (ldc arg13 (arg13.view.writes (Elt Ideal) arg13.view.junk (lst c i arg3 harg3 arg4 harg4 arg5 harg5 arg6 harg6 arg7 harg7 arg8 harg8 arg9 harg9 arg10 harg10 arg11 harg11 arg12 harg12 arg13 harg13 arg14 harg14 x0 x1 x3 x4 x5 x6)) 512 inb_S1x2048_S1x512_0_512) (ldc arg13 (arg13.view.writes (Elt Ideal) arg13.view.junk (lst c i arg3 harg3 arg4 harg4 arg5 harg5 arg6 harg6 arg7 harg7 arg8 harg8 arg9 harg9 arg10 harg10 arg11 harg11 arg12 harg12 arg13 harg13 arg14 harg14 x0 x1 x3 x4 x5 x6)) 1536 inb_S1x2048_S1x512_0_1536) (kernelRun0_A.sl.r_11 (F := Ideal) c i arg3 harg3 arg4 harg4 arg5 harg5 arg6 harg6 arg7 harg7 arg8 harg8 arg9 harg9 arg10 harg10 arg11 harg11 arg12 harg12 arg13 harg13 arg14 harg14 x0 x1 x3 x4) (kernelRun0_A.sl.r_12 (F := Ideal) c i arg3 harg3 arg4 harg4 arg5 harg5 arg6 harg6 arg7 harg7 arg8 harg8 arg9 harg9 arg10 harg10 arg11 harg11 arg12 harg12 arg13 harg13 arg14 harg14 x0 x1 x3 x4 x5 x6) (kernelRun0_A.sl.r_13 (F := Ideal) c i arg3 harg3 arg4 harg4 arg5 harg5 arg6 harg6 arg7 harg7 arg8 harg8 arg9 harg9 arg10 harg10 arg11 harg11 arg12 harg12 arg13 harg13 arg14 harg14 x0 x1 x3 x4 x5 x6) (kernelRun0_A.sl.r_14 (F := Ideal) c i arg3 harg3 arg4 harg4 arg5 harg5 arg6 harg6 arg7 harg7 arg8 harg8 arg9 harg9 arg10 harg10 arg11 harg11 arg12 harg12 arg13 harg13 arg14 harg14 x0 x1 x3 x4 x5 x6) (kernelRun0_A.sl.r_25 (F := Ideal) c i arg3 harg3 arg4 harg4 arg5 harg5 arg6 harg6 arg7 harg7 arg8 harg8 arg9 harg9 arg10 harg10 arg11 harg11 arg12 harg12 arg13 harg13 arg14 harg14 x0 x1 x3 x4 x5 x6) (kernelRun0_A.sl.r_26 (F := Ideal) c i arg3 harg3 arg4 harg4 arg5 harg5 arg6 harg6 arg7 harg7 arg8 harg8 arg9 harg9 arg10 harg10 arg11 harg11 arg12 harg12 arg13 harg13 arg14 harg14 x0 x1 x3 x4 x5 x6) (k0_pay3 (F := Ideal) (View.readAt (Elt Ideal) arg3.view (Rect.unit (s := S1x512x256) ![0, 0, 0] S1x512x256.size inb_S1x512x256_S1x512x256_0_0_0).toLoadRect (harg3.unread x0))) (inpL arg3 harg3 arg4 harg4 x0 x1)) r y = (endAt (k0_pay4 (F := Ideal) x0 x1) x3 x4 x5 x6 (k0_pay2 (F := Ideal)) y r).1 ∧ ent (xfin c i arg3 harg3 arg4 harg4 arg5 harg5 arg6 harg6 arg7 harg7 arg8 harg8 arg9 harg9 arg10 harg10 arg11 harg11 arg12 harg12 arg13 harg13 arg14 harg14 (ld0 arg6 harg6 x3) (ld0 arg7 harg7 x4) (ld1 arg6 harg6 x3) (ld1 arg7 harg7 x4) (k0_pay12 (F := Ideal) (ld0 arg8 harg8 x5)) (k0_pay13 (F := Ideal) (ld0 arg9 harg9 x6)) (k0_pay61 (F := Ideal) (ld1 arg8 harg8 x5)) (k0_pay62 (F := Ideal) (ld1 arg9 harg9 x6)) (ldc arg13 (arg13.view.writes (Elt Ideal) arg13.view.junk zeroL) 0 inb_S1x2048_S1x512_0_0) (ldc arg13 (arg13.view.writes (Elt Ideal) arg13.view.junk zeroL) 1024 inb_S1x2048_S1x512_0_1024) (ldc arg13 (arg13.view.writes (Elt Ideal) arg13.view.junk (lst c i arg3 harg3 arg4 harg4 arg5 harg5 arg6 harg6 arg7 harg7 arg8 harg8 arg9 harg9 arg10 harg10 arg11 harg11 arg12 harg12 arg13 harg13 arg14 harg14 x0 x1 x3 x4 x5 x6)) 512 inb_S1x2048_S1x512_0_512) (ldc arg13 (arg13.view.writes (Elt Ideal) arg13.view.junk (lst c i arg3 harg3 arg4 harg4 arg5 harg5 arg6 harg6 arg7 harg7 arg8 harg8 arg9 harg9 arg10 harg10 arg11 harg11 arg12 harg12 arg13 harg13 arg14 harg14 x0 x1 x3 x4 x5 x6)) 1536 inb_S1x2048_S1x512_0_1536) (kernelRun0_A.sl.r_11 (F := Ideal) c i arg3 harg3 arg4 harg4 arg5 harg5 arg6 harg6 arg7 harg7 arg8 harg8 arg9 harg9 arg10 harg10 arg11 harg11 arg12 harg12 arg13 harg13 arg14 harg14 x0 x1 x3 x4) (kernelRun0_A.sl.r_12 (F := Ideal) c i arg3 harg3 arg4 harg4 arg5 harg5 arg6 harg6 arg7 harg7 arg8 harg8 arg9 harg9 arg10 harg10 arg11 harg11 arg12 harg12 arg13 harg13 arg14 harg14 x0 x1 x3 x4 x5 x6) (kernelRun0_A.sl.r_13 (F := Ideal) c i arg3 harg3 arg4 harg4 arg5 harg5 arg6 harg6 arg7 harg7 arg8 harg8 arg9 harg9 arg10 harg10 arg11 harg11 arg12 harg12 arg13 harg13 arg14 harg14 x0 x1 x3 x4 x5 x6) (kernelRun0_A.sl.r_14 (F := Ideal) c i arg3 harg3 arg4 harg4 arg5 harg5 arg6 harg6 arg7 harg7 arg8 harg8 arg9 harg9 arg10 harg10 arg11 harg11 arg12 harg12 arg13 harg13 arg14 harg14 x0 x1 x3 x4 x5 x6) (kernelRun0_A.sl.r_25 (F := Ideal) c i arg3 harg3 arg4 harg4 arg5 harg5 arg6 harg6 arg7 harg7 arg8 harg8 arg9 harg9 arg10 harg10 arg11 harg11 arg12 harg12 arg13 harg13 arg14 harg14 x0 x1 x3 x4 x5 x6) (kernelRun0_A.sl.r_26 (F := Ideal) c i arg3 harg3 arg4 harg4 arg5 harg5 arg6 harg6 arg7 harg7 arg8 harg8 arg9 harg9 arg10 harg10 arg11 harg11 arg12 harg12 arg13 harg13 arg14 harg14 x0 x1 x3 x4 x5 x6) (k0_pay3 (F := Ideal) (View.readAt (Elt Ideal) arg3.view (Rect.unit (s := S1x512x256) ![0, 0, 0] S1x512x256.size inb_S1x512x256_S1x512x256_0_0_0).toLoadRect (harg3.unread x0))) (inpL arg3 harg3 arg4 harg4 x0 x1)) r (1024 + y) = (endAt (k0_pay4 (F := Ideal) x0 x1) x3 x4 x5 x6 (k0_pay2 (F := Ideal)) y r).2) (fun x => ?_) (fun x => ?_) y hy
  · have h := xfin_at c i arg3 harg3 arg4 harg4 arg5 harg5 arg6 harg6 arg7 harg7 arg8 harg8 arg9 harg9 arg10 harg10 arg11 harg11 arg12 harg12 arg13 harg13 arg14 harg14 (ld0 arg6 harg6 x3) (ld0 arg7 harg7 x4) (ld1 arg6 harg6 x3) (ld1 arg7 harg7 x4) (k0_pay12 (F := Ideal) (ld0 arg8 harg8 x5)) (k0_pay13 (F := Ideal) (ld0 arg9 harg9 x6)) (k0_pay61 (F := Ideal) (ld1 arg8 harg8 x5)) (k0_pay62 (F := Ideal) (ld1 arg9 harg9 x6)) (ldc arg13 (arg13.view.writes (Elt Ideal) arg13.view.junk zeroL) 0 inb_S1x2048_S1x512_0_0) (ldc arg13 (arg13.view.writes (Elt Ideal) arg13.view.junk zeroL) 1024 inb_S1x2048_S1x512_0_1024) (ldc arg13 (arg13.view.writes (Elt Ideal) arg13.view.junk (lst c i arg3 harg3 arg4 harg4 arg5 harg5 arg6 harg6 arg7 harg7 arg8 harg8 arg9 harg9 arg10 harg10 arg11 harg11 arg12 harg12 arg13 harg13 arg14 harg14 x0 x1 x3 x4 x5 x6)) 512 inb_S1x2048_S1x512_0_512) (ldc arg13 (arg13.view.writes (Elt Ideal) arg13.view.junk (lst c i arg3 harg3 arg4 harg4 arg5 harg5 arg6 harg6 arg7 harg7 arg8 harg8 arg9 harg9 arg10 harg10 arg11 harg11 arg12 harg12 arg13 harg13 arg14 harg14 x0 x1 x3 x4 x5 x6)) 1536 inb_S1x2048_S1x512_0_1536) (kernelRun0_A.sl.r_11 (F := Ideal) c i arg3 harg3 arg4 harg4 arg5 harg5 arg6 harg6 arg7 harg7 arg8 harg8 arg9 harg9 arg10 harg10 arg11 harg11 arg12 harg12 arg13 harg13 arg14 harg14 x0 x1 x3 x4) (kernelRun0_A.sl.r_12 (F := Ideal) c i arg3 harg3 arg4 harg4 arg5 harg5 arg6 harg6 arg7 harg7 arg8 harg8 arg9 harg9 arg10 harg10 arg11 harg11 arg12 harg12 arg13 harg13 arg14 harg14 x0 x1 x3 x4 x5 x6) (kernelRun0_A.sl.r_13 (F := Ideal) c i arg3 harg3 arg4 harg4 arg5 harg5 arg6 harg6 arg7 harg7 arg8 harg8 arg9 harg9 arg10 harg10 arg11 harg11 arg12 harg12 arg13 harg13 arg14 harg14 x0 x1 x3 x4 x5 x6) (kernelRun0_A.sl.r_14 (F := Ideal) c i arg3 harg3 arg4 harg4 arg5 harg5 arg6 harg6 arg7 harg7 arg8 harg8 arg9 harg9 arg10 harg10 arg11 harg11 arg12 harg12 arg13 harg13 arg14 harg14 x0 x1 x3 x4 x5 x6) (kernelRun0_A.sl.r_25 (F := Ideal) c i arg3 harg3 arg4 harg4 arg5 harg5 arg6 harg6 arg7 harg7 arg8 harg8 arg9 harg9 arg10 harg10 arg11 harg11 arg12 harg12 arg13 harg13 arg14 harg14 x0 x1 x3 x4 x5 x6) (kernelRun0_A.sl.r_26 (F := Ideal) c i arg3 harg3 arg4 harg4 arg5 harg5 arg6 harg6 arg7 harg7 arg8 harg8 arg9 harg9 arg10 harg10 arg11 harg11 arg12 harg12 arg13 harg13 arg14 harg14 x0 x1 x3 x4 x5 x6) (k0_pay3 (F := Ideal) (View.readAt (Elt Ideal) arg3.view (Rect.unit (s := S1x512x256) ![0, 0, 0] S1x512x256.size inb_S1x512x256_S1x512x256_0_0_0).toLoadRect (harg3.unread x0))) (inpL arg3 harg3 arg4 harg4 x0 x1) r hr x
    have e3 := ld0_at arg6 harg6 x3 x
    have e4 := ld0_at arg7 harg7 x4 x
    have e5 := (pay12_at (ld0 arg8 harg8 x5) x).trans (ld0_at arg8 harg8 x5 x)
    have e6 := (pay13_at (ld0 arg9 harg9 x6) x).trans (ld0_at arg9 harg9 x6 x)
    have hc := cin0_A arg13 x
    rw [e3, e4, e5, e6, hc.1, hc.2, inpL_read] at h
    exact ⟨h.1, h.2.1⟩
  · have h := xfin_at c i arg3 harg3 arg4 harg4 arg5 harg5 arg6 harg6 arg7 harg7 arg8 harg8 arg9 harg9 arg10 harg10 arg11 harg11 arg12 harg12 arg13 harg13 arg14 harg14 (ld0 arg6 harg6 x3) (ld0 arg7 harg7 x4) (ld1 arg6 harg6 x3) (ld1 arg7 harg7 x4) (k0_pay12 (F := Ideal) (ld0 arg8 harg8 x5)) (k0_pay13 (F := Ideal) (ld0 arg9 harg9 x6)) (k0_pay61 (F := Ideal) (ld1 arg8 harg8 x5)) (k0_pay62 (F := Ideal) (ld1 arg9 harg9 x6)) (ldc arg13 (arg13.view.writes (Elt Ideal) arg13.view.junk zeroL) 0 inb_S1x2048_S1x512_0_0) (ldc arg13 (arg13.view.writes (Elt Ideal) arg13.view.junk zeroL) 1024 inb_S1x2048_S1x512_0_1024) (ldc arg13 (arg13.view.writes (Elt Ideal) arg13.view.junk (lst c i arg3 harg3 arg4 harg4 arg5 harg5 arg6 harg6 arg7 harg7 arg8 harg8 arg9 harg9 arg10 harg10 arg11 harg11 arg12 harg12 arg13 harg13 arg14 harg14 x0 x1 x3 x4 x5 x6)) 512 inb_S1x2048_S1x512_0_512) (ldc arg13 (arg13.view.writes (Elt Ideal) arg13.view.junk (lst c i arg3 harg3 arg4 harg4 arg5 harg5 arg6 harg6 arg7 harg7 arg8 harg8 arg9 harg9 arg10 harg10 arg11 harg11 arg12 harg12 arg13 harg13 arg14 harg14 x0 x1 x3 x4 x5 x6)) 1536 inb_S1x2048_S1x512_0_1536) (kernelRun0_A.sl.r_11 (F := Ideal) c i arg3 harg3 arg4 harg4 arg5 harg5 arg6 harg6 arg7 harg7 arg8 harg8 arg9 harg9 arg10 harg10 arg11 harg11 arg12 harg12 arg13 harg13 arg14 harg14 x0 x1 x3 x4) (kernelRun0_A.sl.r_12 (F := Ideal) c i arg3 harg3 arg4 harg4 arg5 harg5 arg6 harg6 arg7 harg7 arg8 harg8 arg9 harg9 arg10 harg10 arg11 harg11 arg12 harg12 arg13 harg13 arg14 harg14 x0 x1 x3 x4 x5 x6) (kernelRun0_A.sl.r_13 (F := Ideal) c i arg3 harg3 arg4 harg4 arg5 harg5 arg6 harg6 arg7 harg7 arg8 harg8 arg9 harg9 arg10 harg10 arg11 harg11 arg12 harg12 arg13 harg13 arg14 harg14 x0 x1 x3 x4 x5 x6) (kernelRun0_A.sl.r_14 (F := Ideal) c i arg3 harg3 arg4 harg4 arg5 harg5 arg6 harg6 arg7 harg7 arg8 harg8 arg9 harg9 arg10 harg10 arg11 harg11 arg12 harg12 arg13 harg13 arg14 harg14 x0 x1 x3 x4 x5 x6) (kernelRun0_A.sl.r_25 (F := Ideal) c i arg3 harg3 arg4 harg4 arg5 harg5 arg6 harg6 arg7 harg7 arg8 harg8 arg9 harg9 arg10 harg10 arg11 harg11 arg12 harg12 arg13 harg13 arg14 harg14 x0 x1 x3 x4 x5 x6) (kernelRun0_A.sl.r_26 (F := Ideal) c i arg3 harg3 arg4 harg4 arg5 harg5 arg6 harg6 arg7 harg7 arg8 harg8 arg9 harg9 arg10 harg10 arg11 harg11 arg12 harg12 arg13 harg13 arg14 harg14 x0 x1 x3 x4 x5 x6) (k0_pay3 (F := Ideal) (View.readAt (Elt Ideal) arg3.view (Rect.unit (s := S1x512x256) ![0, 0, 0] S1x512x256.size inb_S1x512x256_S1x512x256_0_0_0).toLoadRect (harg3.unread x0))) (inpL arg3 harg3 arg4 harg4 x0 x1) r hr x
    have e3 := ld1_at arg6 harg6 x3 x
    have e4 := ld1_at arg7 harg7 x4 x
    have e5 := (pay61_at (ld1 arg8 harg8 x5) x).trans (ld1_at arg8 harg8 x5 x)
    have e6 := (pay62_at (ld1 arg9 harg9 x6) x).trans (ld1_at arg9 harg9 x6 x)
    have hc := cin1_A c i arg3 harg3 arg4 harg4 arg5 harg5 arg6 harg6 arg7 harg7 arg8 harg8 arg9 harg9 arg10 harg10 arg11 harg11 arg12 harg12 arg13 harg13 arg14 harg14 x0 x1 x3 x4 x5 x6 x
    rw [e3, e4, e5, e6, hc.1, hc.2, inpL_read] at h
    exact ⟨h.2.2.1, h.2.2.2⟩

/-- In the first block the four pieces of the row carried out. -/
theorem pieces_A : k0_pay48 (F := Ideal) (kernelRun0_A.sl.r_12 (F := Ideal) c i arg3 harg3 arg4 harg4 arg5 harg5 arg6 harg6 arg7 harg7 arg8 harg8 arg9 harg9 arg10 harg10 arg11 harg11 arg12 harg12 arg13 harg13 arg14 harg14 x0 x1 x3 x4 x5 x6) = p0cr (q1 c i arg3 harg3 arg4 harg4 arg5 harg5 arg6 harg6 arg7 harg7 arg8 harg8 arg9 harg9 arg10 harg10 arg11 harg11 arg12 harg12 arg13 harg13 arg14 harg14 (ld0 arg6 harg6 x3) (ld0 arg7 harg7 x4) (ld1 arg6 harg6 x3) (ld1 arg7 harg7 x4) (k0_pay12 (F := Ideal) (ld0 arg8 harg8 x5)) (k0_pay13 (F := Ideal) (ld0 arg9 harg9 x6)) (k0_pay61 (F := Ideal) (ld1 arg8 harg8 x5)) (k0_pay62 (F := Ideal) (ld1 arg9 harg9 x6)) (ldc arg13 (arg13.view.writes (Elt Ideal) arg13.view.junk zeroL) 0 inb_S1x2048_S1x512_0_0) (ldc arg13 (arg13.view.writes (Elt Ideal) arg13.view.junk zeroL) 1024 inb_S1x2048_S1x512_0_1024) (ldc arg13 (arg13.view.writes (Elt Ideal) arg13.view.junk (lst c i arg3 harg3 arg4 harg4 arg5 harg5 arg6 harg6 arg7 harg7 arg8 harg8 arg9 harg9 arg10 harg10 arg11 harg11 arg12 harg12 arg13 harg13 arg14 harg14 x0 x1 x3 x4 x5 x6)) 512 inb_S1x2048_S1x512_0_512) (ldc arg13 (arg13.view.writes (Elt Ideal) arg13.view.junk (lst c i arg3 harg3 arg4 harg4 arg5 harg5 arg6 harg6 arg7 harg7 arg8 harg8 arg9 harg9 arg10 harg10 arg11 harg11 arg12 harg12 arg13 harg13 arg14 harg14 x0 x1 x3 x4 x5 x6)) 1536 inb_S1x2048_S1x512_0_1536) (kernelRun0_A.sl.r_11 (F := Ideal) c i arg3 harg3 arg4 harg4 arg5 harg5 arg6 harg6 arg7 harg7 arg8 harg8 arg9 harg9 arg10 harg10 arg11 harg11 arg12 harg12 arg13 harg13 arg14 harg14 x0 x1 x3 x4) (kernelRun0_A.sl.r_12 (F := Ideal) c i arg3 harg3 arg4 harg4 arg5 harg5 arg6 harg6 arg7 harg7 arg8 harg8 arg9 harg9 arg10 harg10 arg11 harg11 arg12 harg12 arg13 harg13 arg14 harg14 x0 x1 x3 x4 x5 x6) (kernelRun0_A.sl.r_13 (F := Ideal) c i arg3 harg3 arg4 harg4 arg5 harg5 arg6 harg6 arg7 harg7 arg8 harg8 arg9 harg9 arg10 harg10 arg11 harg11 arg12 harg12 arg13 harg13 arg14 harg14 x0 x1 x3 x4 x5 x6) (kernelRun0_A.sl.r_14 (F := Ideal) c i arg3 harg3 arg4 harg4 arg5 harg5 arg6 harg6 arg7 harg7 arg8 harg8 arg9 harg9 arg10 harg10 arg11 harg11 arg12 harg12 arg13 harg13 arg14 harg14 x0 x1 x3 x4 x5 x6) (kernelRun0_A.sl.r_25 (F := Ideal) c i arg3 harg3 arg4 harg4 arg5 harg5 arg6 harg6 arg7 harg7 arg8 harg8 arg9 harg9 arg10 harg10 arg11 harg11 arg12 harg12 arg13 harg13 arg14 harg14 x0 x1 x3 x4 x5 x6) (kernelRun0_A.sl.r_26 (F := Ideal) c i arg3 harg3 arg4 harg4 arg5 harg5 arg6 harg6 arg7 harg7 arg8 harg8 arg9 harg9 arg10 harg10 arg11 harg11 arg12 harg12 arg13 harg13 arg14 harg14 x0 x1 x3 x4 x5 x6) (k0_pay3 (F := Ideal) (View.readAt (Elt Ideal) arg3.view (Rect.unit (s := S1x512x256) ![0, 0, 0] S1x512x256.size inb_S1x512x256_S1x512x256_0_0_0).toLoadRect (harg3.unread x0))) (inpL arg3 harg3 arg4 harg4 x0 x1)).1.1 (q1 c i arg3 harg3 arg4 harg4 arg5 harg5 arg6 harg6 arg7 harg7 arg8 harg8 arg9 harg9 arg10 harg10 arg11 harg11 arg12 harg12 arg13 harg13 arg14 harg14 (ld0 arg6 harg6 x3) (ld0 arg7 harg7 x4) (ld1 arg6 harg6 x3) (ld1 arg7 harg7 x4) (k0_pay12 (F := Ideal) (ld0 arg8 harg8 x5)) (k0_pay13 (F := Ideal) (ld0 arg9 harg9 x6)) (k0_pay61 (F := Ideal) (ld1 arg8 harg8 x5)) (k0_pay62 (F := Ideal) (ld1 arg9 harg9 x6)) (ldc arg13 (arg13.view.writes (Elt Ideal) arg13.view.junk zeroL) 0 inb_S1x2048_S1x512_0_0) (ldc arg13 (arg13.view.writes (Elt Ideal) arg13.view.junk zeroL) 1024 inb_S1x2048_S1x512_0_1024) (ldc arg13 (arg13.view.writes (Elt Ideal) arg13.view.junk (lst c i arg3 harg3 arg4 harg4 arg5 harg5 arg6 harg6 arg7 harg7 arg8 harg8 arg9 harg9 arg10 harg10 arg11 harg11 arg12 harg12 arg13 harg13 arg14 harg14 x0 x1 x3 x4 x5 x6)) 512 inb_S1x2048_S1x512_0_512) (ldc arg13 (arg13.view.writes (Elt Ideal) arg13.view.junk (lst c i arg3 harg3 arg4 harg4 arg5 harg5 arg6 harg6 arg7 harg7 arg8 harg8 arg9 harg9 arg10 harg10 arg11 harg11 arg12 harg12 arg13 harg13 arg14 harg14 x0 x1 x3 x4 x5 x6)) 1536 inb_S1x2048_S1x512_0_1536) (kernelRun0_A.sl.r_11 (F := Ideal) c i arg3 harg3 arg4 harg4 arg5 harg5 arg6 harg6 arg7 harg7 arg8 harg8 arg9 harg9 arg10 harg10 arg11 harg11 arg12 harg12 arg13 harg13 arg14 harg14 x0 x1 x3 x4) (kernelRun0_A.sl.r_12 (F := Ideal) c i arg3 harg3 arg4 harg4 arg5 harg5 arg6 harg6 arg7 harg7 arg8 harg8 arg9 harg9 arg10 harg10 arg11 harg11 arg12 harg12 arg13 harg13 arg14 harg14 x0 x1 x3 x4 x5 x6) (kernelRun0_A.sl.r_13 (F := Ideal) c i arg3 harg3 arg4 harg4 arg5 harg5 arg6 harg6 arg7 harg7 arg8 harg8 arg9 harg9 arg10 harg10 arg11 harg11 arg12 harg12 arg13 harg13 arg14 harg14 x0 x1 x3 x4 x5 x6) (kernelRun0_A.sl.r_14 (F := Ideal) c i arg3 harg3 arg4 harg4 arg5 harg5 arg6 harg6 arg7 harg7 arg8 harg8 arg9 harg9 arg10 harg10 arg11 harg11 arg12 harg12 arg13 harg13 arg14 harg14 x0 x1 x3 x4 x5 x6) (kernelRun0_A.sl.r_25 (F := Ideal) c i arg3 harg3 arg4 harg4 arg5 harg5 arg6 harg6 arg7 harg7 arg8 harg8 arg9 harg9 arg10 harg10 arg11 harg11 arg12 harg12 arg13 harg13 arg14 harg14 x0 x1 x3 x4 x5 x6) (kernelRun0_A.sl.r_26 (F := Ideal) c i arg3 harg3 arg4 harg4 arg5 harg5 arg6 harg6 arg7 harg7 arg8 harg8 arg9 harg9 arg10 harg10 arg11 harg11 arg12 harg12 arg13 harg13 arg14 harg14 x0 x1 x3 x4 x5 x6) (k0_pay3 (F := Ideal) (View.readAt (Elt Ideal) arg3.view (Rect.unit (s := S1x512x256) ![0, 0, 0] S1x512x256.size inb_S1x512x256_S1x512x256_0_0_0).toLoadRect (harg3.unread x0))) (inpL arg3 harg3 arg4 harg4 x0 x1)).1.2 (k0_pay12 (F := Ideal) (ld0 arg8 harg8 x5)) (k0_pay13 (F := Ideal) (ld0 arg9 harg9 x6)) (ldc arg13 (arg13.view.writes (Elt Ideal) arg13.view.junk zeroL) 0 inb_S1x2048_S1x512_0_0) (ldc arg13 (arg13.view.writes (Elt Ideal) arg13.view.junk zeroL) 1024 inb_S1x2048_S1x512_0_1024) ∧
    k0_pay49 (F := Ideal) (kernelRun0_A.sl.r_11 (F := Ideal) c i arg3 harg3 arg4 harg4 arg5 harg5 arg6 harg6 arg7 harg7 arg8 harg8 arg9 harg9 arg10 harg10 arg11 harg11 arg12 harg12 arg13 harg13 arg14 harg14 x0 x1 x3 x4) (kernelRun0_A.sl.r_13 (F := Ideal) c i arg3 harg3 arg4 harg4 arg5 harg5 arg6 harg6 arg7 harg7 arg8 harg8 arg9 harg9 arg10 harg10 arg11 harg11 arg12 harg12 arg13 harg13 arg14 harg14 x0 x1 x3 x4 x5 x6) (kernelRun0_A.sl.r_14 (F := Ideal) c i arg3 harg3 arg4 harg4 arg5 harg5 arg6 harg6 arg7 harg7 arg8 harg8 arg9 harg9 arg10 harg10 arg11 harg11 arg12 harg12 arg13 harg13 arg14 harg14 x0 x1 x3 x4 x5 x6) = p0ci (q1 c i arg3 harg3 arg4 harg4 arg5 harg5 arg6 harg6 arg7 harg7 arg8 harg8 arg9 harg9 arg10 harg10 arg11 harg11 arg12 harg12 arg13 harg13 arg14 harg14 (ld0 arg6 harg6 x3) (ld0 arg7 harg7 x4) (ld1 arg6 harg6 x3) (ld1 arg7 harg7 x4) (k0_pay12 (F := Ideal) (ld0 arg8 harg8 x5)) (k0_pay13 (F := Ideal) (ld0 arg9 harg9 x6)) (k0_pay61 (F := Ideal) (ld1 arg8 harg8 x5)) (k0_pay62 (F := Ideal) (ld1 arg9 harg9 x6)) (ldc arg13 (arg13.view.writes (Elt Ideal) arg13.view.junk zeroL) 0 inb_S1x2048_S1x512_0_0) (ldc arg13 (arg13.view.writes (Elt Ideal) arg13.view.junk zeroL) 1024 inb_S1x2048_S1x512_0_1024) (ldc arg13 (arg13.view.writes (Elt Ideal) arg13.view.junk (lst c i arg3 harg3 arg4 harg4 arg5 harg5 arg6 harg6 arg7 harg7 arg8 harg8 arg9 harg9 arg10 harg10 arg11 harg11 arg12 harg12 arg13 harg13 arg14 harg14 x0 x1 x3 x4 x5 x6)) 512 inb_S1x2048_S1x512_0_512) (ldc arg13 (arg13.view.writes (Elt Ideal) arg13.view.junk (lst c i arg3 harg3 arg4 harg4 arg5 harg5 arg6 harg6 arg7 harg7 arg8 harg8 arg9 harg9 arg10 harg10 arg11 harg11 arg12 harg12 arg13 harg13 arg14 harg14 x0 x1 x3 x4 x5 x6)) 1536 inb_S1x2048_S1x512_0_1536) (kernelRun0_A.sl.r_11 (F := Ideal) c i arg3 harg3 arg4 harg4 arg5 harg5 arg6 harg6 arg7 harg7 arg8 harg8 arg9 harg9 arg10 harg10 arg11 harg11 arg12 harg12 arg13 harg13 arg14 harg14 x0 x1 x3 x4) (kernelRun0_A.sl.r_12 (F := Ideal) c i arg3 harg3 arg4 harg4 arg5 harg5 arg6 harg6 arg7 harg7 arg8 harg8 arg9 harg9 arg10 harg10 arg11 harg11 arg12 harg12 arg13 harg13 arg14 harg14 x0 x1 x3 x4 x5 x6) (kernelRun0_A.sl.r_13 (F := Ideal) c i arg3 harg3 arg4 harg4 arg5 harg5 arg6 harg6 arg7 harg7 arg8 harg8 arg9 harg9 arg10 harg10 arg11 harg11 arg12 harg12 arg13 harg13 arg14 harg14 x0 x1 x3 x4 x5 x6) (kernelRun0_A.sl.r_14 (F := Ideal) c i arg3 harg3 arg4 harg4 arg5 harg5 arg6 harg6 arg7 harg7 arg8 harg8 arg9 harg9 arg10 harg10 arg11 harg11 arg12 harg12 arg13 harg13 arg14 harg14 x0 x1 x3 x4 x5 x6) (kernelRun0_A.sl.r_25 (F := Ideal) c i arg3 harg3 arg4 harg4 arg5 harg5 arg6 harg6 arg7 harg7 arg8 harg8 arg9 harg9 arg10 harg10 arg11 harg11 arg12 harg12 arg13 harg13 arg14 harg14 x0 x1 x3 x4 x5 x6) (kernelRun0_A.sl.r_26 (F := Ideal) c i arg3 harg3 arg4 harg4 arg5 harg5 arg6 harg6 arg7 harg7 arg8 harg8 arg9 harg9 arg10 harg10 arg11 harg11 arg12 harg12 arg13 harg13 arg14 harg14 x0 x1 x3 x4 x5 x6) (k0_pay3 (F := Ideal) (View.readAt (Elt Ideal) arg3.view (Rect.unit (s := S1x512x256) ![0, 0, 0] S1x512x256.size inb_S1x512x256_S1x512x256_0_0_0).toLoadRect (harg3.unread x0))) (inpL arg3 harg3 arg4 harg4 x0 x1)).1.1 (q1 c i arg3 harg3 arg4 harg4 arg5 harg5 arg6 harg6 arg7 harg7 arg8 harg8 arg9 harg9 arg10 harg10 arg11 harg11 arg12 harg12 arg13 harg13 arg14 harg14 (ld0 arg6 harg6 x3) (ld0 arg7 harg7 x4) (ld1 arg6 harg6 x3) (ld1 arg7 harg7 x4) (k0_pay12 (F := Ideal) (ld0 arg8 harg8 x5)) (k0_pay13 (F := Ideal) (ld0 arg9 harg9 x6)) (k0_pay61 (F := Ideal) (ld1 arg8 harg8 x5)) (k0_pay62 (F := Ideal) (ld1 arg9 harg9 x6)) (ldc arg13 (arg13.view.writes (Elt Ideal) arg13.view.junk zeroL) 0 inb_S1x2048_S1x512_0_0) (ldc arg13 (arg13.view.writes (Elt Ideal) arg13.view.junk zeroL) 1024 inb_S1x2048_S1x512_0_1024) (ldc arg13 (arg13.view.writes (Elt Ideal) arg13.view.junk (lst c i arg3 harg3 arg4 harg4 arg5 harg5 arg6 harg6 arg7 harg7 arg8 harg8 arg9 harg9 arg10 harg10 arg11 harg11 arg12 harg12 arg13 harg13 arg14 harg14 x0 x1 x3 x4 x5 x6)) 512 inb_S1x2048_S1x512_0_512) (ldc arg13 (arg13.view.writes (Elt Ideal) arg13.view.junk (lst c i arg3 harg3 arg4 harg4 arg5 harg5 arg6 harg6 arg7 harg7 arg8 harg8 arg9 harg9 arg10 harg10 arg11 harg11 arg12 harg12 arg13 harg13 arg14 harg14 x0 x1 x3 x4 x5 x6)) 1536 inb_S1x2048_S1x512_0_1536) (kernelRun0_A.sl.r_11 (F := Ideal) c i arg3 harg3 arg4 harg4 arg5 harg5 arg6 harg6 arg7 harg7 arg8 harg8 arg9 harg9 arg10 harg10 arg11 harg11 arg12 harg12 arg13 harg13 arg14 harg14 x0 x1 x3 x4) (kernelRun0_A.sl.r_12 (F := Ideal) c i arg3 harg3 arg4 harg4 arg5 harg5 arg6 harg6 arg7 harg7 arg8 harg8 arg9 harg9 arg10 harg10 arg11 harg11 arg12 harg12 arg13 harg13 arg14 harg14 x0 x1 x3 x4 x5 x6) (kernelRun0_A.sl.r_13 (F := Ideal) c i arg3 harg3 arg4 harg4 arg5 harg5 arg6 harg6 arg7 harg7 arg8 harg8 arg9 harg9 arg10 harg10 arg11 harg11 arg12 harg12 arg13 harg13 arg14 harg14 x0 x1 x3 x4 x5 x6) (kernelRun0_A.sl.r_14 (F := Ideal) c i arg3 harg3 arg4 harg4 arg5 harg5 arg6 harg6 arg7 harg7 arg8 harg8 arg9 harg9 arg10 harg10 arg11 harg11 arg12 harg12 arg13 harg13 arg14 harg14 x0 x1 x3 x4 x5 x6) (kernelRun0_A.sl.r_25 (F := Ideal) c i arg3 harg3 arg4 harg4 arg5 harg5 arg6 harg6 arg7 harg7 arg8 harg8 arg9 harg9 arg10 harg10 arg11 harg11 arg12 harg12 arg13 harg13 arg14 harg14 x0 x1 x3 x4 x5 x6) (kernelRun0_A.sl.r_26 (F := Ideal) c i arg3 harg3 arg4 harg4 arg5 harg5 arg6 harg6 arg7 harg7 arg8 harg8 arg9 harg9 arg10 harg10 arg11 harg11 arg12 harg12 arg13 harg13 arg14 harg14 x0 x1 x3 x4 x5 x6) (k0_pay3 (F := Ideal) (View.readAt (Elt Ideal) arg3.view (Rect.unit (s := S1x512x256) ![0, 0, 0] S1x512x256.size inb_S1x512x256_S1x512x256_0_0_0).toLoadRect (harg3.unread x0))) (inpL arg3 harg3 arg4 harg4 x0 x1)).1.2 (k0_pay12 (F := Ideal) (ld0 arg8 harg8 x5)) (k0_pay13 (F := Ideal) (ld0 arg9 harg9 x6)) (ldc arg13 (arg13.view.writes (Elt Ideal) arg13.view.junk zeroL) 0 inb_S1x2048_S1x512_0_0) (ldc arg13 (arg13.view.writes (Elt Ideal) arg13.view.junk zeroL) 1024 inb_S1x2048_S1x512_0_1024) ∧
    k0_pay95 (F := Ideal) (kernelRun0_A.sl.r_25 (F := Ideal) c i arg3 harg3 arg4 harg4 arg5 harg5 arg6 harg6 arg7 harg7 arg8 harg8 arg9 harg9 arg10 harg10 arg11 harg11 arg12 harg12 arg13 harg13 arg14 harg14 x0 x1 x3 x4 x5 x6) = p1cr (q3 c i arg3 harg3 arg4 harg4 arg5 harg5 arg6 harg6 arg7 harg7 arg8 harg8 arg9 harg9 arg10 harg10 arg11 harg11 arg12 harg12 arg13 harg13 arg14 harg14 (ld0 arg6 harg6 x3) (ld0 arg7 harg7 x4) (ld1 arg6 harg6 x3) (ld1 arg7 harg7 x4) (k0_pay12 (F := Ideal) (ld0 arg8 harg8 x5)) (k0_pay13 (F := Ideal) (ld0 arg9 harg9 x6)) (k0_pay61 (F := Ideal) (ld1 arg8 harg8 x5)) (k0_pay62 (F := Ideal) (ld1 arg9 harg9 x6)) (ldc arg13 (arg13.view.writes (Elt Ideal) arg13.view.junk zeroL) 0 inb_S1x2048_S1x512_0_0) (ldc arg13 (arg13.view.writes (Elt Ideal) arg13.view.junk zeroL) 1024 inb_S1x2048_S1x512_0_1024) (ldc arg13 (arg13.view.writes (Elt Ideal) arg13.view.junk (lst c i arg3 harg3 arg4 harg4 arg5 harg5 arg6 harg6 arg7 harg7 arg8 harg8 arg9 harg9 arg10 harg10 arg11 harg11 arg12 harg12 arg13 harg13 arg14 harg14 x0 x1 x3 x4 x5 x6)) 512 inb_S1x2048_S1x512_0_512) (ldc arg13 (arg13.view.writes (Elt Ideal) arg13.view.junk (lst c i arg3 harg3 arg4 harg4 arg5 harg5 arg6 harg6 arg7 harg7 arg8 harg8 arg9 harg9 arg10 harg10 arg11 harg11 arg12 harg12 arg13 harg13 arg14 harg14 x0 x1 x3 x4 x5 x6)) 1536 inb_S1x2048_S1x512_0_1536) (kernelRun0_A.sl.r_11 (F := Ideal) c i arg3 harg3 arg4 harg4 arg5 harg5 arg6 harg6 arg7 harg7 arg8 harg8 arg9 harg9 arg10 harg10 arg11 harg11 arg12 harg12 arg13 harg13 arg14 harg14 x0 x1 x3 x4) (kernelRun0_A.sl.r_12 (F := Ideal) c i arg3 harg3 arg4 harg4 arg5 harg5 arg6 harg6 arg7 harg7 arg8 harg8 arg9 harg9 arg10 harg10 arg11 harg11 arg12 harg12 arg13 harg13 arg14 harg14 x0 x1 x3 x4 x5 x6) (kernelRun0_A.sl.r_13 (F := Ideal) c i arg3 harg3 arg4 harg4 arg5 harg5 arg6 harg6 arg7 harg7 arg8 harg8 arg9 harg9 arg10 harg10 arg11 harg11 arg12 harg12 arg13 harg13 arg14 harg14 x0 x1 x3 x4 x5 x6) (kernelRun0_A.sl.r_14 (F := Ideal) c i arg3 harg3 arg4 harg4 arg5 harg5 arg6 harg6 arg7 harg7 arg8 harg8 arg9 harg9 arg10 harg10 arg11 harg11 arg12 harg12 arg13 harg13 arg14 harg14 x0 x1 x3 x4 x5 x6) (kernelRun0_A.sl.r_25 (F := Ideal) c i arg3 harg3 arg4 harg4 arg5 harg5 arg6 harg6 arg7 harg7 arg8 harg8 arg9 harg9 arg10 harg10 arg11 harg11 arg12 harg12 arg13 harg13 arg14 harg14 x0 x1 x3 x4 x5 x6) (kernelRun0_A.sl.r_26 (F := Ideal) c i arg3 harg3 arg4 harg4 arg5 harg5 arg6 harg6 arg7 harg7 arg8 harg8 arg9 harg9 arg10 harg10 arg11 harg11 arg12 harg12 arg13 harg13 arg14 harg14 x0 x1 x3 x4 x5 x6) (k0_pay3 (F := Ideal) (View.readAt (Elt Ideal) arg3.view (Rect.unit (s := S1x512x256) ![0, 0, 0] S1x512x256.size inb_S1x512x256_S1x512x256_0_0_0).toLoadRect (harg3.unread x0))) (inpL arg3 harg3 arg4 harg4 x0 x1)).1.1 (q3 c i arg3 harg3 arg4 harg4 arg5 harg5 arg6 harg6 arg7 harg7 arg8 harg8 arg9 harg9 arg10 harg10 arg11 harg11 arg12 harg12 arg13 harg13 arg14 harg14 (ld0 arg6 harg6 x3) (ld0 arg7 harg7 x4) (ld1 arg6 harg6 x3) (ld1 arg7 harg7 x4) (k0_pay12 (F := Ideal) (ld0 arg8 harg8 x5)) (k0_pay13 (F := Ideal) (ld0 arg9 harg9 x6)) (k0_pay61 (F := Ideal) (ld1 arg8 harg8 x5)) (k0_pay62 (F := Ideal) (ld1 arg9 harg9 x6)) (ldc arg13 (arg13.view.writes (Elt Ideal) arg13.view.junk zeroL) 0 inb_S1x2048_S1x512_0_0) (ldc arg13 (arg13.view.writes (Elt Ideal) arg13.view.junk zeroL) 1024 inb_S1x2048_S1x512_0_1024) (ldc arg13 (arg13.view.writes (Elt Ideal) arg13.view.junk (lst c i arg3 harg3 arg4 harg4 arg5 harg5 arg6 harg6 arg7 harg7 arg8 harg8 arg9 harg9 arg10 harg10 arg11 harg11 arg12 harg12 arg13 harg13 arg14 harg14 x0 x1 x3 x4 x5 x6)) 512 inb_S1x2048_S1x512_0_512) (ldc arg13 (arg13.view.writes (Elt Ideal) arg13.view.junk (lst c i arg3 harg3 arg4 harg4 arg5 harg5 arg6 harg6 arg7 harg7 arg8 harg8 arg9 harg9 arg10 harg10 arg11 harg11 arg12 harg12 arg13 harg13 arg14 harg14 x0 x1 x3 x4 x5 x6)) 1536 inb_S1x2048_S1x512_0_1536) (kernelRun0_A.sl.r_11 (F := Ideal) c i arg3 harg3 arg4 harg4 arg5 harg5 arg6 harg6 arg7 harg7 arg8 harg8 arg9 harg9 arg10 harg10 arg11 harg11 arg12 harg12 arg13 harg13 arg14 harg14 x0 x1 x3 x4) (kernelRun0_A.sl.r_12 (F := Ideal) c i arg3 harg3 arg4 harg4 arg5 harg5 arg6 harg6 arg7 harg7 arg8 harg8 arg9 harg9 arg10 harg10 arg11 harg11 arg12 harg12 arg13 harg13 arg14 harg14 x0 x1 x3 x4 x5 x6) (kernelRun0_A.sl.r_13 (F := Ideal) c i arg3 harg3 arg4 harg4 arg5 harg5 arg6 harg6 arg7 harg7 arg8 harg8 arg9 harg9 arg10 harg10 arg11 harg11 arg12 harg12 arg13 harg13 arg14 harg14 x0 x1 x3 x4 x5 x6) (kernelRun0_A.sl.r_14 (F := Ideal) c i arg3 harg3 arg4 harg4 arg5 harg5 arg6 harg6 arg7 harg7 arg8 harg8 arg9 harg9 arg10 harg10 arg11 harg11 arg12 harg12 arg13 harg13 arg14 harg14 x0 x1 x3 x4 x5 x6) (kernelRun0_A.sl.r_25 (F := Ideal) c i arg3 harg3 arg4 harg4 arg5 harg5 arg6 harg6 arg7 harg7 arg8 harg8 arg9 harg9 arg10 harg10 arg11 harg11 arg12 harg12 arg13 harg13 arg14 harg14 x0 x1 x3 x4 x5 x6) (kernelRun0_A.sl.r_26 (F := Ideal) c i arg3 harg3 arg4 harg4 arg5 harg5 arg6 harg6 arg7 harg7 arg8 harg8 arg9 harg9 arg10 harg10 arg11 harg11 arg12 harg12 arg13 harg13 arg14 harg14 x0 x1 x3 x4 x5 x6) (k0_pay3 (F := Ideal) (View.readAt (Elt Ideal) arg3.view (Rect.unit (s := S1x512x256) ![0, 0, 0] S1x512x256.size inb_S1x512x256_S1x512x256_0_0_0).toLoadRect (harg3.unread x0))) (inpL arg3 harg3 arg4 harg4 x0 x1)).1.2 (k0_pay61 (F := Ideal) (ld1 arg8 harg8 x5)) (k0_pay62 (F := Ideal) (ld1 arg9 harg9 x6)) (ldc arg13 (arg13.view.writes (Elt Ideal) arg13.view.junk (lst c i arg3 harg3 arg4 harg4 arg5 harg5 arg6 harg6 arg7 harg7 arg8 harg8 arg9 harg9 arg10 harg10 arg11 harg11 arg12 harg12 arg13 harg13 arg14 harg14 x0 x1 x3 x4 x5 x6)) 512 inb_S1x2048_S1x512_0_512) (ldc arg13 (arg13.view.writes (Elt Ideal) arg13.view.junk (lst c i arg3 harg3 arg4 harg4 arg5 harg5 arg6 harg6 arg7 harg7 arg8 harg8 arg9 harg9 arg10 harg10 arg11 harg11 arg12 harg12 arg13 harg13 arg14 harg14 x0 x1 x3 x4 x5 x6)) 1536 inb_S1x2048_S1x512_0_1536) ∧
    k0_pay96 (F := Ideal) (kernelRun0_A.sl.r_26 (F := Ideal) c i arg3 harg3 arg4 harg4 arg5 harg5 arg6 harg6 arg7 harg7 arg8 harg8 arg9 harg9 arg10 harg10 arg11 harg11 arg12 harg12 arg13 harg13 arg14 harg14 x0 x1 x3 x4 x5 x6) = p1ci (q3 c i arg3 harg3 arg4 harg4 arg5 harg5 arg6 harg6 arg7 harg7 arg8 harg8 arg9 harg9 arg10 harg10 arg11 harg11 arg12 harg12 arg13 harg13 arg14 harg14 (ld0 arg6 harg6 x3) (ld0 arg7 harg7 x4) (ld1 arg6 harg6 x3) (ld1 arg7 harg7 x4) (k0_pay12 (F := Ideal) (ld0 arg8 harg8 x5)) (k0_pay13 (F := Ideal) (ld0 arg9 harg9 x6)) (k0_pay61 (F := Ideal) (ld1 arg8 harg8 x5)) (k0_pay62 (F := Ideal) (ld1 arg9 harg9 x6)) (ldc arg13 (arg13.view.writes (Elt Ideal) arg13.view.junk zeroL) 0 inb_S1x2048_S1x512_0_0) (ldc arg13 (arg13.view.writes (Elt Ideal) arg13.view.junk zeroL) 1024 inb_S1x2048_S1x512_0_1024) (ldc arg13 (arg13.view.writes (Elt Ideal) arg13.view.junk (lst c i arg3 harg3 arg4 harg4 arg5 harg5 arg6 harg6 arg7 harg7 arg8 harg8 arg9 harg9 arg10 harg10 arg11 harg11 arg12 harg12 arg13 harg13 arg14 harg14 x0 x1 x3 x4 x5 x6)) 512 inb_S1x2048_S1x512_0_512) (ldc arg13 (arg13.view.writes (Elt Ideal) arg13.view.junk (lst c i arg3 harg3 arg4 harg4 arg5 harg5 arg6 harg6 arg7 harg7 arg8 harg8 arg9 harg9 arg10 harg10 arg11 harg11 arg12 harg12 arg13 harg13 arg14 harg14 x0 x1 x3 x4 x5 x6)) 1536 inb_S1x2048_S1x512_0_1536) (kernelRun0_A.sl.r_11 (F := Ideal) c i arg3 harg3 arg4 harg4 arg5 harg5 arg6 harg6 arg7 harg7 arg8 harg8 arg9 harg9 arg10 harg10 arg11 harg11 arg12 harg12 arg13 harg13 arg14 harg14 x0 x1 x3 x4) (kernelRun0_A.sl.r_12 (F := Ideal) c i arg3 harg3 arg4 harg4 arg5 harg5 arg6 harg6 arg7 harg7 arg8 harg8 arg9 harg9 arg10 harg10 arg11 harg11 arg12 harg12 arg13 harg13 arg14 harg14 x0 x1 x3 x4 x5 x6) (kernelRun0_A.sl.r_13 (F := Ideal) c i arg3 harg3 arg4 harg4 arg5 harg5 arg6 harg6 arg7 harg7 arg8 harg8 arg9 harg9 arg10 harg10 arg11 harg11 arg12 harg12 arg13 harg13 arg14 harg14 x0 x1 x3 x4 x5 x6) (kernelRun0_A.sl.r_14 (F := Ideal) c i arg3 harg3 arg4 harg4 arg5 harg5 arg6 harg6 arg7 harg7 arg8 harg8 arg9 harg9 arg10 harg10 arg11 harg11 arg12 harg12 arg13 harg13 arg14 harg14 x0 x1 x3 x4 x5 x6) (kernelRun0_A.sl.r_25 (F := Ideal) c i arg3 harg3 arg4 harg4 arg5 harg5 arg6 harg6 arg7 harg7 arg8 harg8 arg9 harg9 arg10 harg10 arg11 harg11 arg12 harg12 arg13 harg13 arg14 harg14 x0 x1 x3 x4 x5 x6) (kernelRun0_A.sl.r_26 (F := Ideal) c i arg3 harg3 arg4 harg4 arg5 harg5 arg6 harg6 arg7 harg7 arg8 harg8 arg9 harg9 arg10 harg10 arg11 harg11 arg12 harg12 arg13 harg13 arg14 harg14 x0 x1 x3 x4 x5 x6) (k0_pay3 (F := Ideal) (View.readAt (Elt Ideal) arg3.view (Rect.unit (s := S1x512x256) ![0, 0, 0] S1x512x256.size inb_S1x512x256_S1x512x256_0_0_0).toLoadRect (harg3.unread x0))) (inpL arg3 harg3 arg4 harg4 x0 x1)).1.1 (q3 c i arg3 harg3 arg4 harg4 arg5 harg5 arg6 harg6 arg7 harg7 arg8 harg8 arg9 harg9 arg10 harg10 arg11 harg11 arg12 harg12 arg13 harg13 arg14 harg14 (ld0 arg6 harg6 x3) (ld0 arg7 harg7 x4) (ld1 arg6 harg6 x3) (ld1 arg7 harg7 x4) (k0_pay12 (F := Ideal) (ld0 arg8 harg8 x5)) (k0_pay13 (F := Ideal) (ld0 arg9 harg9 x6)) (k0_pay61 (F := Ideal) (ld1 arg8 harg8 x5)) (k0_pay62 (F := Ideal) (ld1 arg9 harg9 x6)) (ldc arg13 (arg13.view.writes (Elt Ideal) arg13.view.junk zeroL) 0 inb_S1x2048_S1x512_0_0) (ldc arg13 (arg13.view.writes (Elt Ideal) arg13.view.junk zeroL) 1024 inb_S1x2048_S1x512_0_1024) (ldc arg13 (arg13.view.writes (Elt Ideal) arg13.view.junk (lst c i arg3 harg3 arg4 harg4 arg5 harg5 arg6 harg6 arg7 harg7 arg8 harg8 arg9 harg9 arg10 harg10 arg11 harg11 arg12 harg12 arg13 harg13 arg14 harg14 x0 x1 x3 x4 x5 x6)) 512 inb_S1x2048_S1x512_0_512) (ldc arg13 (arg13.view.writes (Elt Ideal) arg13.view.junk (lst c i arg3 harg3 arg4 harg4 arg5 harg5 arg6 harg6 arg7 harg7 arg8 harg8 arg9 harg9 arg10 harg10 arg11 harg11 arg12 harg12 arg13 harg13 arg14 harg14 x0 x1 x3 x4 x5 x6)) 1536 inb_S1x2048_S1x512_0_1536) (kernelRun0_A.sl.r_11 (F := Ideal) c i arg3 harg3 arg4 harg4 arg5 harg5 arg6 harg6 arg7 harg7 arg8 harg8 arg9 harg9 arg10 harg10 arg11 harg11 arg12 harg12 arg13 harg13 arg14 harg14 x0 x1 x3 x4) (kernelRun0_A.sl.r_12 (F := Ideal) c i arg3 harg3 arg4 harg4 arg5 harg5 arg6 harg6 arg7 harg7 arg8 harg8 arg9 harg9 arg10 harg10 arg11 harg11 arg12 harg12 arg13 harg13 arg14 harg14 x0 x1 x3 x4 x5 x6) (kernelRun0_A.sl.r_13 (F := Ideal) c i arg3 harg3 arg4 harg4 arg5 harg5 arg6 harg6 arg7 harg7 arg8 harg8 arg9 harg9 arg10 harg10 arg11 harg11 arg12 harg12 arg13 harg13 arg14 harg14 x0 x1 x3 x4 x5 x6) (kernelRun0_A.sl.r_14 (F := Ideal) c i arg3 harg3 arg4 harg4 arg5 harg5 arg6 harg6 arg7 harg7 arg8 harg8 arg9 harg9 arg10 harg10 arg11 harg11 arg12 harg12 arg13 harg13 arg14 harg14 x0 x1 x3 x4 x5 x6) (kernelRun0_A.sl.r_25 (F := Ideal) c i arg3 harg3 arg4 harg4 arg5 harg5 arg6 harg6 arg7 harg7 arg8 harg8 arg9 harg9 arg10 harg10 arg11 harg11 arg12 harg12 arg13 harg13 arg14 harg14 x0 x1 x3 x4 x5 x6) (kernelRun0_A.sl.r_26 (F := Ideal) c i arg3 harg3 arg4 harg4 arg5 harg5 arg6 harg6 arg7 harg7 arg8 harg8 arg9 harg9 arg10 harg10 arg11 harg11 arg12 harg12 arg13 harg13 arg14 harg14 x0 x1 x3 x4 x5 x6) (k0_pay3 (F := Ideal) (View.readAt (Elt Ideal) arg3.view (Rect.unit (s := S1x512x256) ![0, 0, 0] S1x512x256.size inb_S1x512x256_S1x512x256_0_0_0).toLoadRect (harg3.unread x0))) (inpL arg3 harg3 arg4 harg4 x0 x1)).1.2 (k0_pay61 (F := Ideal) (ld1 arg8 harg8 x5)) (k0_pay62 (F := Ideal) (ld1 arg9 harg9 x6)) (ldc arg13 (arg13.view.writes (Elt Ideal) arg13.view.junk (lst c i arg3 harg3 arg4 harg4 arg5 harg5 arg6 harg6 arg7 harg7 arg8 harg8 arg9 harg9 arg10 harg10 arg11 harg11 arg12 harg12 arg13 harg13 arg14 harg14 x0 x1 x3 x4 x5 x6)) 512 inb_S1x2048_S1x512_0_512) (ldc arg13 (arg13.view.writes (Elt Ideal) arg13.view.junk (lst c i arg3 harg3 arg4 harg4 arg5 harg5 arg6 harg6 arg7 harg7 arg8 harg8 arg9 harg9 arg10 harg10 arg11 harg11 arg12 harg12 arg13 harg13 arg14 harg14 x0 x1 x3 x4 x5 x6)) 1536 inb_S1x2048_S1x512_0_1536) := ⟨rfl, rfl, rfl, rfl⟩

/-- In the first block the row carried out, entry by entry. -/
theorem co_A (v : View sig .tc .vmem S1x2048 .f32) (f : BufTy.Contents (Elt Ideal) v.ty) (L : List (View.Piece (Elt Ideal) S1x2048 .f32)) (R : FVec Ideal S1x2048 .f32)
    (hR : R = v.read (Elt Ideal) (v.writes (Elt Ideal) f (⟨Rect.unit (s := S1x2048) ![0, 1536] S1x512.size inb_S1x2048_S1x512_0_1536, k0_pay96 (F := Ideal) (kernelRun0_A.sl.r_26 (F := Ideal) c i arg3 harg3 arg4 harg4 arg5 harg5 arg6 harg6 arg7 harg7 arg8 harg8 arg9 harg9 arg10 harg10 arg11 harg11 arg12 harg12 arg13 harg13 arg14 harg14 x0 x1 x3 x4 x5 x6)⟩ :: ⟨Rect.unit (s := S1x2048) ![0, 512] S1x512.size inb_S1x2048_S1x512_0_512, k0_pay95 (F := Ideal) (kernelRun0_A.sl.r_25 (F := Ideal) c i arg3 harg3 arg4 harg4 arg5 harg5 arg6 harg6 arg7 harg7 arg8 harg8 arg9 harg9 arg10 harg10 arg11 harg11 arg12 harg12 arg13 harg13 arg14 harg14 x0 x1 x3 x4 x5 x6)⟩ ::
      ⟨Rect.unit (s := S1x2048) ![0, 1024] S1x512.size inb_S1x2048_S1x512_0_1024, k0_pay49 (F := Ideal) (kernelRun0_A.sl.r_11 (F := Ideal) c i arg3 harg3 arg4 harg4 arg5 harg5 arg6 harg6 arg7 harg7 arg8 harg8 arg9 harg9 arg10 harg10 arg11 harg11 arg12 harg12 arg13 harg13 arg14 harg14 x0 x1 x3 x4) (kernelRun0_A.sl.r_13 (F := Ideal) c i arg3 harg3 arg4 harg4 arg5 harg5 arg6 harg6 arg7 harg7 arg8 harg8 arg9 harg9 arg10 harg10 arg11 harg11 arg12 harg12 arg13 harg13 arg14 harg14 x0 x1 x3 x4 x5 x6) (kernelRun0_A.sl.r_14 (F := Ideal) c i arg3 harg3 arg4 harg4 arg5 harg5 arg6 harg6 arg7 harg7 arg8 harg8 arg9 harg9 arg10 harg10 arg11 harg11 arg12 harg12 arg13 harg13 arg14 harg14 x0 x1 x3 x4 x5 x6)⟩ :: ⟨Rect.unit (s := S1x2048) ![0, 0] S1x512.size inb_S1x2048_S1x512_0_0, k0_pay48 (F := Ideal) (kernelRun0_A.sl.r_12 (F := Ideal) c i arg3 harg3 arg4 harg4 arg5 harg5 arg6 harg6 arg7 harg7 arg8 harg8 arg9 harg9 arg10 harg10 arg11 harg11 arg12 harg12 arg13 harg13 arg14 harg14 x0 x1 x3 x4 x5 x6)⟩ :: L)))
    (y : ℕ) (hy : y < 1024) : rowC R y = (outAt (k0_pay4 (F := Ideal) x0 x1) x3 x4 x5 x6 (k0_pay2 (F := Ideal)) y).1 ∧ rowC R (1024 + y) = (outAt (k0_pay4 (F := Ideal) x0 x1) x3 x4 x5 x6 (k0_pay2 (F := Ideal)) y).2 := by
  have hp := pieces_A c i arg3 harg3 arg4 harg4 arg5 harg5 arg6 harg6 arg7 harg7 arg8 harg8 arg9 harg9 arg10 harg10 arg11 harg11 arg12 harg12 arg13 harg13 arg14 harg14 x0 x1 x3 x4 x5 x6
  rw [hp.1, hp.2.1, hp.2.2.1, hp.2.2.2] at hR
  refine col_split (fun y => rowC R y = (outAt (k0_pay4 (F := Ideal) x0 x1) x3 x4 x5 x6 (k0_pay2 (F := Ideal)) y).1 ∧ rowC R (1024 + y) = (outAt (k0_pay4 (F := Ideal) x0 x1) x3 x4 x5 x6 (k0_pay2 (F := Ideal)) y).2) (fun x => ?_) (fun x => ?_) y hy
  · have h := carry_read v f _ _ _ _ _ _ _ _ L x R hR
    have k := p0s_eq c i arg3 harg3 arg4 harg4 arg5 harg5 arg6 harg6 arg7 harg7 arg8 harg8 arg9 harg9 arg10 harg10 arg11 harg11 arg12 harg12 arg13 harg13 arg14 harg14 (ld0 arg6 harg6 x3) (ld0 arg7 harg7 x4) (ld1 arg6 harg6 x3) (ld1 arg7 harg7 x4) (k0_pay12 (F := Ideal) (ld0 arg8 harg8 x5)) (k0_pay13 (F := Ideal) (ld0 arg9 harg9 x6)) (k0_pay61 (F := Ideal) (ld1 arg8 harg8 x5)) (k0_pay62 (F := Ideal) (ld1 arg9 harg9 x6)) (ldc arg13 (arg13.view.writes (Elt Ideal) arg13.view.junk zeroL) 0 inb_S1x2048_S1x512_0_0) (ldc arg13 (arg13.view.writes (Elt Ideal) arg13.view.junk zeroL) 1024 inb_S1x2048_S1x512_0_1024) (ldc arg13 (arg13.view.writes (Elt Ideal) arg13.view.junk (lst c i arg3 harg3 arg4 harg4 arg5 harg5 arg6 harg6 arg7 harg7 arg8 harg8 arg9 harg9 arg10 harg10 arg11 harg11 arg12 harg12 arg13 harg13 arg14 harg14 x0 x1 x3 x4 x5 x6)) 512 inb_S1x2048_S1x512_0_512) (ldc arg13 (arg13.view.writes (Elt Ideal) arg13.view.junk (lst c i arg3 harg3 arg4 harg4 arg5 harg5 arg6 harg6 arg7 harg7 arg8 harg8 arg9 harg9 arg10 harg10 arg11 harg11 arg12 harg12 arg13 harg13 arg14 harg14 x0 x1 x3 x4 x5 x6)) 1536 inb_S1x2048_S1x512_0_1536) (kernelRun0_A.sl.r_11 (F := Ideal) c i arg3 harg3 arg4 harg4 arg5 harg5 arg6 harg6 arg7 harg7 arg8 harg8 arg9 harg9 arg10 harg10 arg11 harg11 arg12 harg12 arg13 harg13 arg14 harg14 x0 x1 x3 x4) (kernelRun0_A.sl.r_12 (F := Ideal) c i arg3 harg3 arg4 harg4 arg5 harg5 arg6 harg6 arg7 harg7 arg8 harg8 arg9 harg9 arg10 harg10 arg11 harg11 arg12 harg12 arg13 harg13 arg14 harg14 x0 x1 x3 x4 x5 x6) (kernelRun0_A.sl.r_13 (F := Ideal) c i arg3 harg3 arg4 harg4 arg5 harg5 arg6 harg6 arg7 harg7 arg8 harg8 arg9 harg9 arg10 harg10 arg11 harg11 arg12 harg12 arg13 harg13 arg14 harg14 x0 x1 x3 x4 x5 x6) (kernelRun0_A.sl.r_14 (F := Ideal) c i arg3 harg3 arg4 harg4 arg5 harg5 arg6 harg6 arg7 harg7 arg8 harg8 arg9 harg9 arg10 harg10 arg11 harg11 arg12 harg12 arg13 harg13 arg14 harg14 x0 x1 x3 x4 x5 x6) (kernelRun0_A.sl.r_25 (F := Ideal) c i arg3 harg3 arg4 harg4 arg5 harg5 arg6 harg6 arg7 harg7 arg8 harg8 arg9 harg9 arg10 harg10 arg11 harg11 arg12 harg12 arg13 harg13 arg14 harg14 x0 x1 x3 x4 x5 x6) (kernelRun0_A.sl.r_26 (F := Ideal) c i arg3 harg3 arg4 harg4 arg5 harg5 arg6 harg6 arg7 harg7 arg8 harg8 arg9 harg9 arg10 harg10 arg11 harg11 arg12 harg12 arg13 harg13 arg14 harg14 x0 x1 x3 x4 x5 x6) (k0_pay3 (F := Ideal) (View.readAt (Elt Ideal) arg3.view (Rect.unit (s := S1x512x256) ![0, 0, 0] S1x512x256.size inb_S1x512x256_S1x512x256_0_0_0).toLoadRect (harg3.unread x0))) (inpL arg3 harg3 arg4 harg4 x0 x1) x 8 (le_refl 8)
    have e3 := ld0_at arg6 harg6 x3 x
    have e4 := ld0_at arg7 harg7 x4 x
    have e5 := (pay12_at (ld0 arg8 harg8 x5) x).trans (ld0_at arg8 harg8 x5 x)
    have e6 := (pay13_at (ld0 arg9 harg9 x6) x).trans (ld0_at arg9 harg9 x6 x)
    have hc := cin0_A arg13 x
    rw [e3, e4, e5, e6, hc.1, hc.2, inpL_read] at k
    refine ⟨h.1.trans ((p0cr_at _ _ _ _ _ _ x).trans (congrArg Prod.fst k)), h.2.2.1.trans ((p0ci_at _ _ _ _ _ _ x).trans (congrArg Prod.snd k))⟩
  · have h := carry_read v f _ _ _ _ _ _ _ _ L x R hR
    have k := p1s_eq c i arg3 harg3 arg4 harg4 arg5 harg5 arg6 harg6 arg7 harg7 arg8 harg8 arg9 harg9 arg10 harg10 arg11 harg11 arg12 harg12 arg13 harg13 arg14 harg14 (ld0 arg6 harg6 x3) (ld0 arg7 harg7 x4) (ld1 arg6 harg6 x3) (ld1 arg7 harg7 x4) (k0_pay12 (F := Ideal) (ld0 arg8 harg8 x5)) (k0_pay13 (F := Ideal) (ld0 arg9 harg9 x6)) (k0_pay61 (F := Ideal) (ld1 arg8 harg8 x5)) (k0_pay62 (F := Ideal) (ld1 arg9 harg9 x6)) (ldc arg13 (arg13.view.writes (Elt Ideal) arg13.view.junk zeroL) 0 inb_S1x2048_S1x512_0_0) (ldc arg13 (arg13.view.writes (Elt Ideal) arg13.view.junk zeroL) 1024 inb_S1x2048_S1x512_0_1024) (ldc arg13 (arg13.view.writes (Elt Ideal) arg13.view.junk (lst c i arg3 harg3 arg4 harg4 arg5 harg5 arg6 harg6 arg7 harg7 arg8 harg8 arg9 harg9 arg10 harg10 arg11 harg11 arg12 harg12 arg13 harg13 arg14 harg14 x0 x1 x3 x4 x5 x6)) 512 inb_S1x2048_S1x512_0_512) (ldc arg13 (arg13.view.writes (Elt Ideal) arg13.view.junk (lst c i arg3 harg3 arg4 harg4 arg5 harg5 arg6 harg6 arg7 harg7 arg8 harg8 arg9 harg9 arg10 harg10 arg11 harg11 arg12 harg12 arg13 harg13 arg14 harg14 x0 x1 x3 x4 x5 x6)) 1536 inb_S1x2048_S1x512_0_1536) (kernelRun0_A.sl.r_11 (F := Ideal) c i arg3 harg3 arg4 harg4 arg5 harg5 arg6 harg6 arg7 harg7 arg8 harg8 arg9 harg9 arg10 harg10 arg11 harg11 arg12 harg12 arg13 harg13 arg14 harg14 x0 x1 x3 x4) (kernelRun0_A.sl.r_12 (F := Ideal) c i arg3 harg3 arg4 harg4 arg5 harg5 arg6 harg6 arg7 harg7 arg8 harg8 arg9 harg9 arg10 harg10 arg11 harg11 arg12 harg12 arg13 harg13 arg14 harg14 x0 x1 x3 x4 x5 x6) (kernelRun0_A.sl.r_13 (F := Ideal) c i arg3 harg3 arg4 harg4 arg5 harg5 arg6 harg6 arg7 harg7 arg8 harg8 arg9 harg9 arg10 harg10 arg11 harg11 arg12 harg12 arg13 harg13 arg14 harg14 x0 x1 x3 x4 x5 x6) (kernelRun0_A.sl.r_14 (F := Ideal) c i arg3 harg3 arg4 harg4 arg5 harg5 arg6 harg6 arg7 harg7 arg8 harg8 arg9 harg9 arg10 harg10 arg11 harg11 arg12 harg12 arg13 harg13 arg14 harg14 x0 x1 x3 x4 x5 x6) (kernelRun0_A.sl.r_25 (F := Ideal) c i arg3 harg3 arg4 harg4 arg5 harg5 arg6 harg6 arg7 harg7 arg8 harg8 arg9 harg9 arg10 harg10 arg11 harg11 arg12 harg12 arg13 harg13 arg14 harg14 x0 x1 x3 x4 x5 x6) (kernelRun0_A.sl.r_26 (F := Ideal) c i arg3 harg3 arg4 harg4 arg5 harg5 arg6 harg6 arg7 harg7 arg8 harg8 arg9 harg9 arg10 harg10 arg11 harg11 arg12 harg12 arg13 harg13 arg14 harg14 x0 x1 x3 x4 x5 x6) (k0_pay3 (F := Ideal) (View.readAt (Elt Ideal) arg3.view (Rect.unit (s := S1x512x256) ![0, 0, 0] S1x512x256.size inb_S1x512x256_S1x512x256_0_0_0).toLoadRect (harg3.unread x0))) (inpL arg3 harg3 arg4 harg4 x0 x1) x 8 (le_refl 8)
    have e3 := ld1_at arg6 harg6 x3 x
    have e4 := ld1_at arg7 harg7 x4 x
    have e5 := (pay61_at (ld1 arg8 harg8 x5) x).trans (ld1_at arg8 harg8 x5 x)
    have e6 := (pay62_at (ld1 arg9 harg9 x6) x).trans (ld1_at arg9 harg9 x6 x)
    have hc := cin1_A c i arg3 harg3 arg4 harg4 arg5 harg5 arg6 harg6 arg7 harg7 arg8 harg8 arg9 harg9 arg10 harg10 arg11 harg11 arg12 harg12 arg13 harg13 arg14 harg14 x0 x1 x3 x4 x5 x6 x
    rw [e3, e4, e5, e6, hc.1, hc.2, inpL_read] at k
    refine ⟨h.2.1.trans ((p1cr_at _ _ _ _ _ _ x).trans (congrArg Prod.fst k)), h.2.2.2.trans ((p1ci_at _ _ _ _ _ _ x).trans (congrArg Prod.snd k))⟩

end

end Cert.KernelIdeal.Scan
-- ==== Proof.Scan.Blocks.lean ====
module

public import proofs.«01_k».proof.Proof.Scan.Point
public import Idealize.ShloMosaic.Lib.Pipeline.ReadBack
public import Idealize.ShloMosaic.Lib.Pipeline.ValueKit.Held

@[expose] public section

set_option maxRecDepth 16384
noncomputable section
open Idealize.ShloMosaic Idealize.ShloMosaic.TcCoe Idealize.SL.Sem
namespace Cert.KernelIdeal.Scan
open Cert.KernelIdeal Cert.KernelIdeal.Gen

variable (m : (ℓ : Loc nD τ sig) → Buf (Elt Ideal) ℓ) (c : Dev nD)

/-- The smooth activation applied to one entry of the mixer's output. -/
def gel (z : EReal) : EReal :=
  z * (Ideal.ofBits FTy.f32 1056964608#32 * (1 + Ideal.tanh (Ideal.ofBits FTy.f32 1061962282#32 * (z + Ideal.ofBits FTy.f32 1027024659#32 * (z * (z * z))))))

/-- One entry of the block of inputs of the recurrence. -/
theorem pay4_at (x0 : Vec Ideal S1x512x256 .f32) (x1 : Vec Ideal S1x256x2048 .bf16) (r : Fin 512) (y : Fin 2048) :
    k0_pay4 (F := Ideal) x0 x1 (ix2 r y) = ∑ w : Fin 256, x0 (ix3 0 r w) * x1 (ix3 0 w y) := by
  pointwise [k0_pay4, k0_pay3]

/-- One entry of the block written, from the block of states. -/
theorem pay101_at (x0 : Vec Ideal S1x512x256 .f32) (X : Vec Ideal S512x2048 .f32) (x2 : Vec Ideal S1x2048x256 .bf16) (x7 : Vec Ideal S1x1x256 .f32) (r : Fin 512) (d : Fin 256) :
    k0_pay1 (F := Ideal) (k0_pay101 (k0_pay3 x0) X x2 x7) (ix3 0 r d) = gel ((∑ y : Fin 2048, X (ix2 r y) * x2 (ix3 0 y d)) + x7 (ix3 0 0 d) * x0 (ix3 0 r d)) := by
  unfold gel
  pointwise [k0_pay1, k0_pay101, k0_pay3]

/-- One entry of the block written, from the blocks read and the row carried in. -/
def blkOut (x0 : Vec Ideal S1x512x256 .f32) (x1 : Vec Ideal S1x256x2048 .bf16) (x2 : Vec Ideal S1x2048x256 .bf16) (x3 x4 x5 x6 : Vec Ideal S1x1x1024 .f32) (x7 : Vec Ideal S1x1x256 .f32) (C : Vec Ideal S1x2048 .f32) (r : Fin 512) (d : Fin 256) : EReal :=
  gel (((∑ y : Fin 1024, (endAt (k0_pay4 (F := Ideal) x0 x1) x3 x4 x5 x6 C y.val r.val).1 * x2 (ix3 0 (⟨y.val, by omega⟩ : Fin 2048) d)) +
    ∑ y : Fin 1024, (endAt (k0_pay4 (F := Ideal) x0 x1) x3 x4 x5 x6 C y.val r.val).2 * x2 (ix3 0 (⟨1024 + y.val, by omega⟩ : Fin 2048) d)) + x7 (ix3 0 0 d) * x0 (ix3 0 r d))

/-- The product with the output map, split into real and imaginary columns. -/
theorem sum_split (X : Vec Ideal S512x2048 .f32) (x2 : Vec Ideal S1x2048x256 .bf16) (f : ℕ → EReal × EReal) (r : Fin 512) (d : Fin 256)
    (h : ∀ y, y < 1024 → ent X r.val y = (f y).1 ∧ ent X r.val (1024 + y) = (f y).2) :
    (∑ y : Fin 2048, X (ix2 r y) * x2 (ix3 0 y d)) =
      (∑ y : Fin 1024, (f y.val).1 * x2 (ix3 0 (⟨y.val, by omega⟩ : Fin 2048) d)) + ∑ y : Fin 1024, (f y.val).2 * x2 (ix3 0 (⟨1024 + y.val, by omega⟩ : Fin 2048) d) := by
  have e := Fin.sum_univ_add (a := 1024) (b := 1024) fun y : Fin 2048 => X (ix2 r y) * x2 (ix3 0 y d)
  refine e.trans (congrArg₂ (· + ·) (Finset.sum_congr rfl fun y _ => ?_) (Finset.sum_congr rfl fun y _ => ?_))
  · exact congrArg₂ (· * ·) ((ent_ix X r _).trans (h y.val y.2).1) rfl
  · exact congrArg₂ (· * ·) ((ent_ix X r _).trans (h y.val y.2).2) rfl

/-- At a later block of a sequence, the row carried out. -/
theorem carry_B (t : Fin cfg0.N) (h0 : ¬ t.val % 16 = 0) (y : ℕ) (hy : y < 1024) :
    rowC (outsAt0 m c t.val t.isLt).2 y = (outAt (k0_pay4 (F := Ideal) (iblk m c 0 t) (iblk m c 1 t)) (iblk m c 3 t) (iblk m c 4 t) (iblk m c 5 t) (iblk m c 6 t) (outsAt0 m c (t.val - 1) (by omega)).2 y).1 ∧ rowC (outsAt0 m c t.val t.isLt).2 (1024 + y) = (outAt (k0_pay4 (F := Ideal) (iblk m c 0 t) (iblk m c 1 t)) (iblk m c 3 t) (iblk m c 4 t) (iblk m c 5 t) (iblk m c 6 t) (outsAt0 m c (t.val - 1) (by omega)).2 y).2 := by
  rw [outsAt0_B m c t h0]
  dsimp only [sout0_B_1]
  simp only [kernelRun0_B]
  exact co_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 3 t) (iblk m c 4 t) (iblk m c 5 t) (iblk m c 6 t) (outsAt0 m c (t.val - 1) (by omega)).2 VS0_1 VS0_1.junk [] _ rfl y hy

/-- At a later block of a sequence, the block written. -/
theorem out_B (t : Fin cfg0.N) (h0 : ¬ t.val % 16 = 0) (r : Fin 512) (d : Fin 256) :
    (outsAt0 m c t.val t.isLt).1 (ix3 0 r d) = blkOut (iblk m c 0 t) (iblk m c 1 t) (iblk m c 2 t) (iblk m c 3 t) (iblk m c 4 t) (iblk m c 5 t) (iblk m c 6 t) (iblk m c 7 t) (outsAt0 m c (t.val - 1) (by omega)).2 r d := by
  rw [outsAt0_B m c t h0]
  dsimp only [out0_B_8]
  simp only [kernelRun0_B]
  refine (congrFun (View.read_writes_full VO0_8 VO0_8.junk inb_S1x512x256_S1x512x256_0_0_0 _ []) (ix3 0 r d)).trans ?_
  unfold kernelRun0_B.sl.r_27 kernelRun0_B.sl.r
  rw [View.readAt_full, View.readAt_full, View.readAt_full, Memref.IsWhole.read_unread, Memref.IsWhole.read_unread, Memref.IsWhole.read_unread]
  rw [pay101_at, blkOut]
  refine congrArg gel (congrArg₂ (· + ·) (sum_split _ (iblk m c 2 t) (fun y => endAt (k0_pay4 (F := Ideal) (iblk m c 0 t) (iblk m c 1 t)) (iblk m c 3 t) (iblk m c 4 t) (iblk m c 5 t) (iblk m c 6 t) (outsAt0 m c (t.val - 1) (by omega)).2 y r.val) r d ?_) rfl)
  intro y hy
  exact st_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 3 t) (iblk m c 4 t) (iblk m c 5 t) (iblk m c 6 t) (outsAt0 m c (t.val - 1) (by omega)).2 r.val r.2 y hy

/-- At the first block of a sequence, the row carried out. -/
theorem carry_A (t : Fin cfg0.N) (h0 : t.val % 16 = 0) (y : ℕ) (hy : y < 1024) :
    rowC (outsAt0 m c t.val t.isLt).2 y = (outAt (k0_pay4 (F := Ideal) (iblk m c 0 t) (iblk m c 1 t)) (iblk m c 3 t) (iblk m c 4 t) (iblk m c 5 t) (iblk m c 6 t) (k0_pay2 (F := Ideal)) y).1 ∧ rowC (outsAt0 m c t.val t.isLt).2 (1024 + y) = (outAt (k0_pay4 (F := Ideal) (iblk m c 0 t) (iblk m c 1 t)) (iblk m c 3 t) (iblk m c 4 t) (iblk m c 5 t) (iblk m c 6 t) (k0_pay2 (F := Ideal)) y).2 := by
  rw [outsAt0_A m c t h0]
  dsimp only [sout0_A_1]
  simp only [kernelRun0_A]
  exact co_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 3 t) (iblk m c 4 t) (iblk m c 5 t) (iblk m c 6 t) VS0_1 VS0_1.junk _ _ rfl y hy

/-- At the first block of a sequence, the block written. -/
theorem out_A (t : Fin cfg0.N) (h0 : t.val % 16 = 0) (r : Fin 512) (d : Fin 256) :
    (outsAt0 m c t.val t.isLt).1 (ix3 0 r d) = blkOut (iblk m c 0 t) (iblk m c 1 t) (iblk m c 2 t) (iblk m c 3 t) (iblk m c 4 t) (iblk m c 5 t) (iblk m c 6 t) (iblk m c 7 t) (k0_pay2 (F := Ideal)) r d := by
  rw [outsAt0_A m c t h0]
  dsimp only [out0_A_8]
  simp only [kernelRun0_A]
  refine (congrFun (View.read_writes_full VO0_8 VO0_8.junk inb_S1x512x256_S1x512x256_0_0_0 _ []) (ix3 0 r d)).trans ?_
  unfold kernelRun0_A.sl.r_27 kernelRun0_A.sl.r
  rw [View.readAt_full, View.readAt_full, View.readAt_full, Memref.IsWhole.read_unread, Memref.IsWhole.read_unread, Memref.IsWhole.read_unread]
  rw [pay101_at, blkOut]
  refine congrArg gel (congrArg₂ (· + ·) (sum_split _ (iblk m c 2 t) (fun y => endAt (k0_pay4 (F := Ideal) (iblk m c 0 t) (iblk m c 1 t)) (iblk m c 3 t) (iblk m c 4 t) (iblk m c 5 t) (iblk m c 6 t) (k0_pay2 (F := Ideal)) y r.val) r d ?_) rfl)
  intro y hy
  exact st_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 3 t) (iblk m c 4 t) (iblk m c 5 t) (iblk m c 6 t) r.val r.2 y hy

end Cert.KernelIdeal.Scan
-- ==== Proof.Scan.Spec.lean ====
module

public import proofs.«01_k».proof.Proof.Scan.Plain
public import proofs.«01_k».proof.Proof.Scan.Blocks

@[expose] public section

set_option maxRecDepth 16384
noncomputable section
open Idealize.ShloMosaic
namespace Cert.KernelIdeal.Scan
open Cert.KernelIdeal

/-! The layer's mathematics at one element, over the extended reals: the discretised system, its inputs, the recurrence
over the tokens and the activation. -/

section
variable (U : FVec Ideal S2x8192x2048 .f32) (AR AI : FVec Ideal S128x64 .f32) (LD : FVec Ideal S128 .f32)
  (BR BI : FVec Ideal S128x64x16 .f32) (CR CI : FVec Ideal S128x16x64 .f32) (D : FVec Ideal S2048 .f32)
variable (b : Fin 2) (g : Fin 128) (n : Fin 64) (p : Fin 16)

/-- The eigenvalue's real part after discretisation. -/
def lamR : EReal := Ideal.exp (AR (ix2 g n) * Ideal.exp (LD (ix1 g))) * Ideal.cos (AI (ix2 g n) * Ideal.exp (LD (ix1 g)))
/-- The eigenvalue's imaginary part after discretisation. -/
def lamI : EReal := Ideal.exp (AR (ix2 g n) * Ideal.exp (LD (ix1 g))) * Ideal.sin (AI (ix2 g n) * Ideal.exp (LD (ix1 g)))
/-- The squared modulus of the continuous eigenvalue. -/
def den : EReal := AR (ix2 g n) * AR (ix2 g n) + AI (ix2 g n) * AI (ix2 g n)
/-- The input factor's real part. -/
def facR : EReal := Ideal.div ((lamR AR AI LD g n - 1) * AR (ix2 g n) + lamI AR AI LD g n * AI (ix2 g n)) (den AR AI g n)
/-- The input factor's imaginary part. -/
def facI : EReal := Ideal.div (lamI AR AI LD g n * AR (ix2 g n) - (lamR AR AI LD g n - 1) * AI (ix2 g n)) (den AR AI g n)
/-- The discretised input matrix's real part. -/
def matR : EReal := facR AR AI LD g n * BR (ix3 g n p) - facI AR AI LD g n * BI (ix3 g n p)
/-- The discretised input matrix's imaginary part. -/
def matI : EReal := facR AR AI LD g n * BI (ix3 g n p) + facI AR AI LD g n * BR (ix3 g n p)
/-- The input of a mode at a token, real part, zero past the last token. -/
def inpR (k : ℕ) : EReal :=
  if h : k < 8192 then ∑ p : Fin 16, U (ix3 b ⟨k, h⟩ ⟨g.val * 16 + p.val, by omega⟩) * matR AR AI LD BR BI g n p else 0
/-- The input of a mode at a token, imaginary part. -/
def inpI (k : ℕ) : EReal :=
  if h : k < 8192 then ∑ p : Fin 16, U (ix3 b ⟨k, h⟩ ⟨g.val * 16 + p.val, by omega⟩) * matI AR AI LD BR BI g n p else 0
/-- The state of a mode after `k` tokens. -/
def state (k : ℕ) : EReal × EReal :=
  loc (lamR AR AI LD g n) (lamI AR AI LD g n) (inpR U AR AI LD BR BI b g n) (inpI U AR AI LD BR BI b g n) k
/-- The layer's result at a batch, a token and a channel. -/
def resAt (k : Fin 8192) (d : Fin 2048) : EReal :=
  gel (((∑ n : Fin 64, CR (ix3 ⟨d.val / 16, by omega⟩ ⟨d.val % 16, by omega⟩ n) * (state U AR AI LD BR BI b ⟨d.val / 16, by omega⟩ n (k.val + 1)).1)
    - ∑ n : Fin 64, CI (ix3 ⟨d.val / 16, by omega⟩ ⟨d.val % 16, by omega⟩ n) * (state U AR AI LD BR BI b ⟨d.val / 16, by omega⟩ n (k.val + 1)).2)
    + D (ix1 d) * U (ix3 b k d))
end

end Cert.KernelIdeal.Scan
-- ==== Proof.Scan.HostVals.lean ====
module

public import proofs.«01_k».proof.Proof.Scan.Host1
public import proofs.«01_k».proof.Proof.Scan.Host2
public import proofs.«01_k».proof.Proof.Scan.Host3
public import proofs.«01_k».proof.Proof.Scan.Spec
public import Idealize.ShloMosaic.Lib.StableHlo.ReadAt
public import Idealize.ShloMosaic.Lib.Pipeline.ValueKit

@[expose] public section

set_option maxRecDepth 16384
noncomputable section
open Idealize.ShloMosaic Idealize.ShloMosaic.TcCoe Idealize.SL.Sem
namespace Cert.KernelIdeal.Scan
open Cert.KernelIdeal Cert.KernelIdeal.Gen

/-! The arrays the host code hands to the kernel, at an index. -/

variable (m : (ℓ : Loc nD τ sig) → Buf (Elt Ideal) ℓ) (c : Dev nD)

/-- Two halves of the block-diagonal input matrix side by side. -/
def catB (a b : FVec Ideal S8x256x1024 .f32) : FVec Ideal S8x256x2048 .f32 :=
  concatenate S8x256x2048 2 [⟨S8x256x1024, a⟩, ⟨S8x256x1024, b⟩] concatenates_S8x256x1024_S8x256x1024_S8x256x2048_d2
/-- Two halves of the block-diagonal output matrix, one above the other. -/
def catC (a b : FVec Ideal S8x1024x256 .f32) : FVec Ideal S8x2048x256 .f32 :=
  concatenate S8x2048x256 1 [⟨S8x1024x256, a⟩, ⟨S8x1024x256, b⟩] concatenates_S8x1024x256_S8x1024x256_S8x2048x256_d1

/-- The joined input matrix. -/
theorem h_v96_eq : h_v96 m c = catB (h_v87 m c) (h_v95 m c) := by unfold catB; rfl
/-- The joined output matrix. -/
theorem h_v115_eq : h_v115 m c = catC (h_v105 m c) (h_v114 m c) := by unfold catC; rfl

/-- The left half's columns. -/
theorem catB_l (a b : FVec Ideal S8x256x1024 .f32) (k : Fin 8) (w : Fin 256) (y : Fin 1024) : catB a b (ix3 k w ⟨y.val, by omega⟩) = a (ix3 k w y) := by
  pointwise [catB]
/-- The right half's columns. -/
theorem catB_r (a b : FVec Ideal S8x256x1024 .f32) (k : Fin 8) (w : Fin 256) (y : Fin 1024) : catB a b (ix3 k w ⟨1024 + y.val, by omega⟩) = b (ix3 k w y) := by
  pointwise [catB]
/-- The upper half's rows. -/
theorem catC_l (a b : FVec Ideal S8x1024x256 .f32) (k : Fin 8) (w : Fin 256) (y : Fin 1024) : catC a b (ix3 k ⟨y.val, by omega⟩ w) = a (ix3 k y w) := by
  pointwise [catC]
/-- The lower half's rows. -/
theorem catC_r (a b : FVec Ideal S8x1024x256 .f32) (k : Fin 8) (w : Fin 256) (y : Fin 1024) : catC a b (ix3 k ⟨1024 + y.val, by omega⟩ w) = b (ix3 k y w) := by
  pointwise [catC]

/-- The identity matrix the blocks are placed by. -/
theorem eye_at (a b : Fin 16) : h_v79 m c (ix2 a b) = if a = b then 1 else 0 := by
  unfold h_v79 V V0
  simp only [List.flatten_cons, List.flatten_nil, List.append_nil]
  after_reads_at
  have h : ∀ a b : Fin 16, IntOp.cmpi CmpIPredicate.eq (IntOp.addi (BitVec.ofNat 32 ↑a) 0#32) (BitVec.ofNat 32 ↑b) = if a = b then 1#1 else 0#1 := by decide
  rw [h a b]
  split
  · show ((((1#1 : BitVec 1).toNat : ℝ)) : EReal) = 1
    simp
  · show ((((0#1 : BitVec 1).toNat : ℝ)) : EReal) = 0
    simp

/-- The eigenvalues' real parts. -/
theorem v8_at (g : Fin 128) (n : Fin 64) : h_v8 m c (ix2 g n) = lamR (h_arg1 m c) (h_arg2 m c) (h_arg3 m c) g n := by
  rw [h_v8_eq, h_v4_eq, h_v7_eq, h_v3_eq, h_v6_eq, h_v2_eq, h_v5_eq, h_v1_eq, h_v0_eq]
  pointwise [lamR]
/-- The eigenvalues' imaginary parts. -/
theorem v12_at (g : Fin 128) (n : Fin 64) : h_v12 m c (ix2 g n) = lamI (h_arg1 m c) (h_arg2 m c) (h_arg3 m c) g n := by
  rw [h_v12_eq, h_v4_eq, h_v11_eq, h_v3_eq, h_v10_eq, h_v2_eq, h_v9_eq, h_v1_eq, h_v0_eq]
  pointwise [lamI]
/-- The constant one. -/
theorem v16_at (g : Fin 128) (n : Fin 64) : h_v16 m c (ix2 g n) = 1 := by
  rw [h_v16_eq, h_cst_eq]
  pointwise [Ideal.ofBits_one_f32]
/-- The input factors' real parts. -/
theorem v21_at (g : Fin 128) (n : Fin 64) : h_v21 m c (ix2 g n) = facR (h_arg1 m c) (h_arg2 m c) (h_arg3 m c) g n := by
  unfold facR den
  rw [← v8_at, ← v12_at, h_v21_eq, h_v20_eq, h_v18_eq, h_v19_eq, h_v17_eq, h_v15_eq, h_v14_eq, h_v13_eq, ← v16_at m c g n]
  pointwise []
/-- The input factors' imaginary parts. -/
theorem v25_at (g : Fin 128) (n : Fin 64) : h_v25 m c (ix2 g n) = facI (h_arg1 m c) (h_arg2 m c) (h_arg3 m c) g n := by
  unfold facI den
  rw [← v8_at, ← v12_at, h_v25_eq, h_v24_eq, h_v22_eq, h_v23_eq, h_v17_eq, h_v15_eq, h_v14_eq, h_v13_eq, ← v16_at m c g n]
  pointwise []
/-- The input matrix's real part. -/
theorem v32_at (g : Fin 128) (n : Fin 64) (p : Fin 16) :
    h_v32 m c (ix3 g n p) = matR (h_arg1 m c) (h_arg2 m c) (h_arg3 m c) (h_arg4 m c) (h_arg5 m c) g n p := by
  unfold matR
  rw [← v21_at, ← v25_at, h_v32_eq, h_v31_eq, h_v30_eq, h_v29_eq, h_v28_eq, h_v27_eq, h_v26_eq]
  pointwise []
/-- The input matrix's imaginary part. -/
theorem v37_at (g : Fin 128) (n : Fin 64) (p : Fin 16) :
    h_v37 m c (ix3 g n p) = matI (h_arg1 m c) (h_arg2 m c) (h_arg3 m c) (h_arg4 m c) (h_arg5 m c) g n p := by
  unfold matI
  rw [← v21_at, ← v25_at, h_v37_eq, h_v36_eq, h_v35_eq, h_v34_eq, h_v33_eq, h_v27_eq, h_v26_eq]
  pointwise []

/-- The block-diagonal input matrix, real half. -/
theorem v97_l (k : Fin 8) (w : Fin 256) (y : Fin 1024) :
    h_v97 m c (ix3 k w ⟨y.val, by omega⟩) =
      matR (h_arg1 m c) (h_arg2 m c) (h_arg3 m c) (h_arg4 m c) (h_arg5 m c) ⟨k.val * 16 + w.val / 16, by omega⟩ ⟨y.val % 64, by omega⟩ ⟨w.val % 16, by omega⟩
        * (if (⟨w.val / 16, by omega⟩ : Fin 16) = ⟨y.val / 64, by omega⟩ then 1 else 0) := by
  rw [← eye_at m c, ← v32_at]
  refine Eq.trans (b := h_v87 m c (ix3 k w y)) ?_ ?_
  · rw [h_v97_eq, h_v96_eq]; exact catB_l _ _ k w y
  · rw [h_v87_eq, h_v86_eq, h_v85_eq, h_v84_eq, h_v83_eq, h_v82_eq, h_v81_eq, h_v80_eq]
    pointwise []
/-- The block-diagonal input matrix, imaginary half. -/
theorem v97_r (k : Fin 8) (w : Fin 256) (y : Fin 1024) :
    h_v97 m c (ix3 k w ⟨1024 + y.val, by omega⟩) =
      matI (h_arg1 m c) (h_arg2 m c) (h_arg3 m c) (h_arg4 m c) (h_arg5 m c) ⟨k.val * 16 + w.val / 16, by omega⟩ ⟨y.val % 64, by omega⟩ ⟨w.val % 16, by omega⟩
        * (if (⟨w.val / 16, by omega⟩ : Fin 16) = ⟨y.val / 64, by omega⟩ then 1 else 0) := by
  rw [← eye_at m c, ← v37_at]
  refine Eq.trans (b := h_v95 m c (ix3 k w y)) ?_ ?_
  · rw [h_v97_eq, h_v96_eq]; exact catB_r _ _ k w y
  · rw [h_v95_eq, h_v94_eq, h_v93_eq, h_v92_eq, h_v91_eq, h_v90_eq, h_v89_eq, h_v88_eq]
    pointwise []
/-- The block-diagonal output matrix, upper half. -/
theorem v116_l (k : Fin 8) (w : Fin 256) (y : Fin 1024) :
    h_v116 m c (ix3 k ⟨y.val, by omega⟩ w) =
      h_arg6 m c (ix3 ⟨k.val * 16 + y.val / 64, by omega⟩ ⟨w.val % 16, by omega⟩ ⟨y.val % 64, by omega⟩)
        * (if (⟨y.val / 64, by omega⟩ : Fin 16) = ⟨w.val / 16, by omega⟩ then 1 else 0) := by
  rw [← eye_at m c]
  refine Eq.trans (b := h_v105 m c (ix3 k y w)) ?_ ?_
  · rw [h_v116_eq, h_v115_eq]; exact catC_l _ _ k w y
  · rw [h_v105_eq, h_v104_eq, h_v103_eq, h_v102_eq, h_v101_eq, h_v100_eq, h_v99_eq, h_v98_eq]
    pointwise []
/-- The block-diagonal output matrix, lower half. -/
theorem v116_r (k : Fin 8) (w : Fin 256) (y : Fin 1024) :
    h_v116 m c (ix3 k ⟨1024 + y.val, by omega⟩ w) =
      - h_arg7 m c (ix3 ⟨k.val * 16 + y.val / 64, by omega⟩ ⟨w.val % 16, by omega⟩ ⟨y.val % 64, by omega⟩)
        * (if (⟨y.val / 64, by omega⟩ : Fin 16) = ⟨w.val / 16, by omega⟩ then 1 else 0) := by
  rw [← eye_at m c]
  refine Eq.trans (b := h_v114 m c (ix3 k y w)) ?_ ?_
  · rw [h_v116_eq, h_v115_eq]; exact catC_r _ _ k w y
  · rw [h_v114_eq, h_v113_eq, h_v112_eq, h_v111_eq, h_v110_eq, h_v109_eq, h_v108_eq, h_v107_eq, h_v106_eq]
    pointwise []

/-- The eigenvalues' rows, real part. -/
theorem v117_at (k : Fin 8) (y : Fin 1024) : h_v117 m c (ix3 k 0 y) =
    lamR (h_arg1 m c) (h_arg2 m c) (h_arg3 m c) ⟨k.val * 16 + y.val / 64, by omega⟩ ⟨y.val % 64, by omega⟩ := by
  rw [← v8_at, h_v117_eq]; pointwise []
/-- The eigenvalues' rows, imaginary part. -/
theorem v118_at (k : Fin 8) (y : Fin 1024) : h_v118 m c (ix3 k 0 y) =
    lamI (h_arg1 m c) (h_arg2 m c) (h_arg3 m c) ⟨k.val * 16 + y.val / 64, by omega⟩ ⟨y.val % 64, by omega⟩ := by
  rw [← v12_at, h_v118_eq]; pointwise []

/-- A squaring of pairs is the square over the complex numbers. -/
theorem sq_emb {r i : EReal} {z : ℂ} (h : (r, i) = emb z) : (r * r - i * i, r * i + i * r) = emb (z ^ 2) := by
  have h1 : r = ((z.re : ℝ) : EReal) := congrArg Prod.fst h
  have h2 : i = ((z.im : ℝ) : EReal) := congrArg Prod.snd h
  rw [h1, h2, pow_two, ← emb_mul]; rfl

/-- Six squarings give the 64th power of an eigenvalue. -/
theorem pow_at (g : Fin 128) (n : Fin 64) (l : ℂ) (h : (lamR (h_arg1 m c) (h_arg2 m c) (h_arg3 m c) g n, lamI (h_arg1 m c) (h_arg2 m c) (h_arg3 m c) g n) = emb l) :
    (h_v70 m c (ix2 g n), h_v73 m c (ix2 g n)) = emb (l ^ 64) := by
  rw [← v8_at, ← v12_at] at h
  have h1 : (h_v40 m c (ix2 g n), h_v43 m c (ix2 g n)) = emb (l ^ 2) := by
    rw [h_v40_eq, h_v43_eq, h_v38_eq, h_v39_eq, h_v41_eq, h_v42_eq]; exact sq_emb h
  have h2 : (h_v46 m c (ix2 g n), h_v49 m c (ix2 g n)) = emb ((l ^ 2) ^ 2) := by
    rw [h_v46_eq, h_v49_eq, h_v44_eq, h_v45_eq, h_v47_eq, h_v48_eq]; exact sq_emb h1
  have h3 : (h_v52 m c (ix2 g n), h_v55 m c (ix2 g n)) = emb (((l ^ 2) ^ 2) ^ 2) := by
    rw [h_v52_eq, h_v55_eq, h_v50_eq, h_v51_eq, h_v53_eq, h_v54_eq]; exact sq_emb h2
  have h4 : (h_v58 m c (ix2 g n), h_v61 m c (ix2 g n)) = emb ((((l ^ 2) ^ 2) ^ 2) ^ 2) := by
    rw [h_v58_eq, h_v61_eq, h_v56_eq, h_v57_eq, h_v59_eq, h_v60_eq]; exact sq_emb h3
  have h5 : (h_v64 m c (ix2 g n), h_v67 m c (ix2 g n)) = emb (((((l ^ 2) ^ 2) ^ 2) ^ 2) ^ 2) := by
    rw [h_v64_eq, h_v67_eq, h_v62_eq, h_v63_eq, h_v65_eq, h_v66_eq]; exact sq_emb h4
  have h6 : (h_v70 m c (ix2 g n), h_v73 m c (ix2 g n)) = emb ((((((l ^ 2) ^ 2) ^ 2) ^ 2) ^ 2) ^ 2) := by
    rw [h_v70_eq, h_v73_eq, h_v68_eq, h_v69_eq, h_v71_eq, h_v72_eq]; exact sq_emb h5
  rw [h6]; congr 1; ring

/-- The 64th powers' rows. -/
theorem v119_at (k : Fin 8) (y : Fin 1024) : h_v119 m c (ix3 k 0 y) = h_v70 m c (ix2 ⟨k.val * 16 + y.val / 64, by omega⟩ ⟨y.val % 64, by omega⟩) := by
  rw [h_v119_eq]; pointwise []
/-- The 64th powers' rows, imaginary part. -/
theorem v120_at (k : Fin 8) (y : Fin 1024) : h_v120 m c (ix3 k 0 y) = h_v73 m c (ix2 ⟨k.val * 16 + y.val / 64, by omega⟩ ⟨y.val % 64, by omega⟩) := by
  rw [h_v120_eq]; pointwise []

/-- The input in the kernel's row order: row `8 j + s` of a block is the block's token `64 s + j`. -/
theorem v123_at (b : Fin 2) (y : Fin 8192) (z : Fin 2048) :
    h_v123 m c (ix3 b y z) = h_arg0 m c (ix3 b ⟨y.val / 512 * 512 + y.val % 8 * 64 + y.val / 8 % 64, by omega⟩ z) := by
  rw [h_v123_eq, h_v122_eq, h_v121_eq]
  pointwise []
/-- The skip connection's coefficients. -/
theorem v124_at (k : Fin 8) (y : Fin 256) : h_v124 m c (ix3 k 0 y) = h_arg8 m c (ix1 ⟨k.val * 256 + y.val, by omega⟩) := by
  rw [h_v124_eq]
  pointwise []

end Cert.KernelIdeal.Scan
-- ==== Proof.Scan.Grid.lean ====
module

public import proofs.«01_k».proof.Proof.Scan.HostVals
public import Idealize.ShloMosaic.Lib.Pipeline.ValueKit.Held

@[expose] public section

set_option maxRecDepth 16384
noncomputable section
open Idealize.ShloMosaic Idealize.ShloMosaic.TcCoe Idealize.SL.Sem
open Idealize.ShloMosaic.Pipeline (Dat)
namespace Cert.KernelIdeal.Scan
open Cert.KernelIdeal Cert.KernelIdeal.Gen

/-! The scan kernel's grid: each run of 16 points carries one batch and one pack of modes through the tokens. -/

/-- Which block of its array each window reads at grid point `t`: batch `t/128`, pack `t/16 % 8`, block of tokens `t % 16`. -/
theorem idx_val : ∀ t : Fin cfg0.N,
    win0_0.index t = ![t.val / 128, t.val % 16, t.val / 16 % 8] ∧ win0_1.index t = ![t.val / 16 % 8, 0, 0]
    ∧ win0_2.index t = ![t.val / 16 % 8, 0, 0] ∧ win0_3.index t = ![t.val / 16 % 8, 0, 0] ∧ win0_4.index t = ![t.val / 16 % 8, 0, 0]
    ∧ win0_5.index t = ![t.val / 16 % 8, 0, 0] ∧ win0_6.index t = ![t.val / 16 % 8, 0, 0] ∧ win0_7.index t = ![t.val / 16 % 8, 0, 0]
    ∧ win0_8.index t = ![t.val / 128, t.val % 16, t.val / 16 % 8] :=
  (by decide +kernel : ∀ t : Fin grid0.N, _)

/-- A sum whose terms outside one block of `q` vanish is the sum over that block. -/
theorem sum_block (q N : ℕ) (hN : N = 16 * q) (f : Fin N → EReal) (g : Fin 16) (hz : ∀ w : Fin N, w.val / q ≠ g.val → f w = 0) (h : ∀ p : Fin q, g.val * q + p.val < N) :
    ∑ w, f w = ∑ p : Fin q, f ⟨g.val * q + p.val, h p⟩ := by
  subst hN
  have hb : ∀ (a : Fin 16) (p : Fin q), a.val * q + p.val < 16 * q := fun a p => by
    have h1 : (a.val + 1) * q ≤ 16 * q := Nat.mul_le_mul_right _ a.2
    have h2 := p.2
    rw [Nat.add_mul] at h1
    omega
  have e : ∑ a : Fin 16, ∑ p : Fin q, f ⟨a.val * q + p.val, hb a p⟩ = ∑ w, f w :=
    Fin.sum_mul_add_congr (fun s l hl => rfl) rfl
  refine e.symm.trans ?_
  refine (Finset.sum_eq_single g (fun a _ ha => ?_) (fun hg => absurd (Finset.mem_univ g) hg)).trans rfl
  refine Finset.sum_eq_zero fun p _ => hz _ ?_
  have hq : 0 < q := lt_of_le_of_lt (Nat.zero_le _) p.2
  show (a.val * q + p.val) / q ≠ g.val
  rw [Nat.add_comm, Nat.add_mul_div_right _ _ hq, Nat.div_eq_of_lt p.2, Nat.zero_add]
  exact fun hc => ha (Fin.ext hc)

/-- Equal coordinates give equal indices. -/
theorem ix3_same {a b d : ℕ} {i i' : Fin a} {j j' : Fin b} {k k' : Fin d} (h1 : i = i') (h2 : j = j') (h3 : k = k') : ix3 i j k = ix3 i' j' k' := by
  rw [h1, h2, h3]

variable (m : (ℓ : Loc nD τ sig) → Buf (Elt Ideal) ℓ) (c : Dev nD) (t : Fin cfg0.N)

/-- The batch of a grid point is one of two. -/
theorem bound_b : t.val / 128 < 2 := by have h : t.val < 256 := t.isLt; omega

/-- The block of inputs at point `t`. -/
theorem blk_0 (r : Fin 512) (w : Fin 256) :
    (iblk m c 0 t : Vec Ideal S1x512x256 .f32) (ix3 0 r w) = h_v123 m c (ix3 ⟨t.val / 128, bound_b t⟩ ⟨t.val % 16 * 512 + r.val, by omega⟩ ⟨t.val / 16 % 8 * 256 + w.val, by omega⟩) := by
  blk_ext [iblk, h_v123, idx_val t]
/-- The input matrix of the pack at point `t`. -/
theorem blk_1 (w : Fin 256) (y : Fin 2048) :
    (iblk m c 1 t : Vec Ideal S1x256x2048 .bf16) (ix3 0 w y) = h_v97 m c (ix3 ⟨t.val / 16 % 8, by omega⟩ w y) := by
  blk_ext [iblk, h_v97, idx_val t]
/-- The output matrix of the pack at point `t`. -/
theorem blk_2 (y : Fin 2048) (w : Fin 256) :
    (iblk m c 2 t : Vec Ideal S1x2048x256 .bf16) (ix3 0 y w) = h_v116 m c (ix3 ⟨t.val / 16 % 8, by omega⟩ y w) := by
  blk_ext [iblk, h_v116, idx_val t]
/-- The eigenvalues' real parts of the pack at point `t`. -/
theorem blk_3 (y : Fin 1024) :
    (iblk m c 3 t : Vec Ideal S1x1x1024 .f32) (ix3 0 0 y) = h_v117 m c (ix3 ⟨t.val / 16 % 8, by omega⟩ 0 y) := by
  blk_ext [iblk, h_v117, idx_val t]
/-- The eigenvalues' imaginary parts of the pack at point `t`. -/
theorem blk_4 (y : Fin 1024) :
    (iblk m c 4 t : Vec Ideal S1x1x1024 .f32) (ix3 0 0 y) = h_v118 m c (ix3 ⟨t.val / 16 % 8, by omega⟩ 0 y) := by
  blk_ext [iblk, h_v118, idx_val t]
/-- The powers' real parts of the pack at point `t`. -/
theorem blk_5 (y : Fin 1024) :
    (iblk m c 5 t : Vec Ideal S1x1x1024 .f32) (ix3 0 0 y) = h_v119 m c (ix3 ⟨t.val / 16 % 8, by omega⟩ 0 y) := by
  blk_ext [iblk, h_v119, idx_val t]
/-- The powers' imaginary parts of the pack at point `t`. -/
theorem blk_6 (y : Fin 1024) :
    (iblk m c 6 t : Vec Ideal S1x1x1024 .f32) (ix3 0 0 y) = h_v120 m c (ix3 ⟨t.val / 16 % 8, by omega⟩ 0 y) := by
  blk_ext [iblk, h_v120, idx_val t]
/-- The skip coefficients of the pack at point `t`. -/
theorem blk_7 (w : Fin 256) :
    (iblk m c 7 t : Vec Ideal S1x1x256 .f32) (ix3 0 0 w) = h_v124 m c (ix3 ⟨t.val / 16 % 8, by omega⟩ 0 w) := by
  blk_ext [iblk, h_v124, idx_val t]

/-- The group of the mode in column `y` at point `t`. -/
abbrev grp (y : Fin 1024) : Fin 128 := ⟨t.val / 16 % 8 * 16 + y.val / 64, by omega⟩
/-- The index of the mode in column `y` inside its group. -/
abbrev modeOf (y : Fin 1024) : Fin 64 := ⟨y.val % 64, by omega⟩
/-- The batch of a grid point. -/
abbrev bat : Fin 2 := ⟨t.val / 128, bound_b t⟩

/-- The block of recurrence inputs at point `t`, real half. -/
theorem inp_l (r : Fin 512) (y : Fin 1024) :
    k0_pay4 (F := Ideal) (iblk m c 0 t) (iblk m c 1 t) (ix2 r ⟨y.val, by omega⟩) =
      inpR (h_arg0 m c) (h_arg1 m c) (h_arg2 m c) (h_arg3 m c) (h_arg4 m c) (h_arg5 m c) (bat t) (grp t y) (modeOf y) (512 * (t.val % 16) + (64 * (r.val % 8) + r.val / 8)) := by
  refine (pay4_at _ _ r _).trans ?_
  have hk : 512 * (t.val % 16) + (64 * (r.val % 8) + r.val / 8) < 8192 := by omega
  have hb : t.val < 256 := t.isLt
  rw [inpR, dif_pos hk]
  refine (sum_block 16 256 rfl _ ⟨y.val / 64, by omega⟩ (fun w hw => ?_) (fun p => by show y.val / 64 * 16 + p.val < 256; omega)).trans (Finset.sum_congr rfl fun p _ => ?_)
  · rw [blk_1, v97_l, if_neg (fun h => hw (congrArg Fin.val h)), mul_zero, mul_zero]
  · rw [blk_1, v97_l, blk_0, v123_at, if_pos (Fin.ext (by show (y.val / 64 * 16 + p.val) / 16 = y.val / 64; omega)), mul_one]
    refine congrArg₂ (· * ·) (congrArg _ (ix3_same rfl (Fin.ext ?_) (Fin.ext ?_))) (congr (congr (congrArg _ (Fin.ext ?_)) rfl) (Fin.ext ?_))
    · show (t.val % 16 * 512 + r.val) / 512 * 512 + (t.val % 16 * 512 + r.val) % 8 * 64 + (t.val % 16 * 512 + r.val) / 8 % 64 = 512 * (t.val % 16) + (64 * (r.val % 8) + r.val / 8)
      omega
    · show t.val / 16 % 8 * 256 + (y.val / 64 * 16 + p.val) = (t.val / 16 % 8 * 16 + y.val / 64) * 16 + p.val
      omega
    · show t.val / 16 % 8 * 16 + (y.val / 64 * 16 + p.val) / 16 = t.val / 16 % 8 * 16 + y.val / 64
      omega
    · show (y.val / 64 * 16 + p.val) % 16 = p.val
      omega

/-- The block of recurrence inputs at point `t`, imaginary half. -/
theorem inp_r (r : Fin 512) (y : Fin 1024) :
    k0_pay4 (F := Ideal) (iblk m c 0 t) (iblk m c 1 t) (ix2 r ⟨1024 + y.val, by omega⟩) =
      inpI (h_arg0 m c) (h_arg1 m c) (h_arg2 m c) (h_arg3 m c) (h_arg4 m c) (h_arg5 m c) (bat t) (grp t y) (modeOf y) (512 * (t.val % 16) + (64 * (r.val % 8) + r.val / 8)) := by
  refine (pay4_at _ _ r _).trans ?_
  have hk : 512 * (t.val % 16) + (64 * (r.val % 8) + r.val / 8) < 8192 := by omega
  have hb : t.val < 256 := t.isLt
  rw [inpI, dif_pos hk]
  refine (sum_block 16 256 rfl _ ⟨y.val / 64, by omega⟩ (fun w hw => ?_) (fun p => by show y.val / 64 * 16 + p.val < 256; omega)).trans (Finset.sum_congr rfl fun p _ => ?_)
  · rw [blk_1, v97_r, if_neg (fun h => hw (congrArg Fin.val h)), mul_zero, mul_zero]
  · rw [blk_1, v97_r, blk_0, v123_at, if_pos (Fin.ext (by show (y.val / 64 * 16 + p.val) / 16 = y.val / 64; omega)), mul_one]
    refine congrArg₂ (· * ·) (congrArg _ (ix3_same rfl (Fin.ext ?_) (Fin.ext ?_))) (congr (congr (congrArg _ (Fin.ext ?_)) rfl) (Fin.ext ?_))
    · show (t.val % 16 * 512 + r.val) / 512 * 512 + (t.val % 16 * 512 + r.val) % 8 * 64 + (t.val % 16 * 512 + r.val) / 8 % 64 = 512 * (t.val % 16) + (64 * (r.val % 8) + r.val / 8)
      omega
    · show t.val / 16 % 8 * 256 + (y.val / 64 * 16 + p.val) = (t.val / 16 % 8 * 16 + y.val / 64) * 16 + p.val
      omega
    · show t.val / 16 % 8 * 16 + (y.val / 64 * 16 + p.val) / 16 = t.val / 16 % 8 * 16 + y.val / 64
      omega
    · show (y.val / 64 * 16 + p.val) % 16 = p.val
      omega

/-- The discretised eigenvalues are the complex numbers `L`, and the modes' inputs the complex numbers `I`. -/
def Regular (L : Fin 128 → Fin 64 → ℂ) (I : Fin 2 → Fin 128 → Fin 64 → ℕ → ℂ) : Prop :=
  (∀ g n, (lamR (h_arg1 m c) (h_arg2 m c) (h_arg3 m c) g n, lamI (h_arg1 m c) (h_arg2 m c) (h_arg3 m c) g n) = emb (L g n)) ∧
  ∀ b g n k, (inpR (h_arg0 m c) (h_arg1 m c) (h_arg2 m c) (h_arg3 m c) (h_arg4 m c) (h_arg5 m c) b g n k,
    inpI (h_arg0 m c) (h_arg1 m c) (h_arg2 m c) (h_arg3 m c) (h_arg4 m c) (h_arg5 m c) b g n k) = emb (I b g n k)

variable (L : Fin 128 → Fin 64 → ℂ) (I : Fin 2 → Fin 128 → Fin 64 → ℕ → ℂ) (h : Regular m c L I)
include h

/-- The block at point `t` holds the inputs of its tokens. -/
theorem holds_at (y : Fin 1024) :
    Holds (k0_pay4 (F := Ideal) (iblk m c 0 t) (iblk m c 1 t)) (fun j => I (bat t) (grp t y) (modeOf y) (512 * (t.val % 16) + j)) y.val := by
  intro s hs j hj
  have e1 : (8 * j + s) % 8 = s := by omega
  have e2 : (8 * j + s) / 8 = j := by omega
  refine Eq.trans (Prod.ext ?_ ?_) (h.2 (bat t) (grp t y) (modeOf y) (512 * (t.val % 16) + (64 * s + j)))
  · refine (ent_ix _ ⟨8 * j + s, by omega⟩ ⟨y.val, by omega⟩).symm.trans ((inp_l m c t ⟨8 * j + s, by omega⟩ y).trans ?_)
    rw [e1, e2]
  · refine (ent_ix _ ⟨8 * j + s, by omega⟩ ⟨1024 + y.val, by omega⟩).symm.trans ((inp_r m c t ⟨8 * j + s, by omega⟩ y).trans ?_)
    rw [e1, e2]

/-- The rows of eigenvalues and their powers, at point `t`. -/
theorem rows_at (y : Fin 1024) :
    rowE (iblk m c 3 t) y.val = (((L (grp t y) (modeOf y)).re : ℝ) : EReal) ∧ rowE (iblk m c 4 t) y.val = (((L (grp t y) (modeOf y)).im : ℝ) : EReal) ∧
    rowE (iblk m c 5 t) y.val = (((L (grp t y) (modeOf y) ^ 64).re : ℝ) : EReal) ∧ rowE (iblk m c 6 t) y.val = (((L (grp t y) (modeOf y) ^ 64).im : ℝ) : EReal) := by
  have hl := h.1 (grp t y) (modeOf y)
  have hp := pow_at m c (grp t y) (modeOf y) _ hl
  unfold rowE
  simp only [dif_pos y.2]
  refine ⟨?_, ?_, ?_, ?_⟩
  · exact (blk_3 m c t y).trans ((v117_at m c _ y).trans (congrArg Prod.fst hl))
  · exact (blk_4 m c t y).trans ((v118_at m c _ y).trans (congrArg Prod.snd hl))
  · exact (blk_5 m c t y).trans ((v119_at m c _ y).trans (congrArg Prod.fst hp))
  · exact (blk_6 m c t y).trans ((v120_at m c _ y).trans (congrArg Prod.snd hp))

/-- The state a point takes in, at column `y`: the recurrence after the tokens before its block. -/
abbrev before (t : Fin cfg0.N) (L : Fin 128 → Fin 64 → ℂ) (I : Fin 2 → Fin 128 → Fin 64 → ℕ → ℂ) (y : Fin 1024) (k : ℕ) : ℂ :=
  cre (L (grp t y) (modeOf y)) (I (bat t) (grp t y) (modeOf y)) 0 (512 * (t.val % 16) + k)

/-- The state one point hands on, from the state it takes in. -/
theorem outAt_eq (y : Fin 1024) (C : Vec Ideal S1x2048 .f32) (hC : (rowC C y.val, rowC C (1024 + y.val)) = emb (before t L I y 0)) :
    outAt (k0_pay4 (F := Ideal) (iblk m c 0 t) (iblk m c 1 t)) (iblk m c 3 t) (iblk m c 4 t) (iblk m c 5 t) (iblk m c 6 t) C y.val = emb (before t L I y 512) := by
  obtain ⟨h3, h4, h5, h6⟩ := rows_at m c t L I h y
  unfold outAt
  rw [h3, h4, h5, h6, hC, cinAt_emb _ _ _ _ _ (holds_at m c t L I h y) 8 le_rfl]
  exact congrArg emb (cre_shift _ _ _ _ _)

/-- The states of one point's block, from the state it takes in. -/
theorem endAt_eq (y : Fin 1024) (r : Fin 512) (C : Vec Ideal S1x2048 .f32) (hC : (rowC C y.val, rowC C (1024 + y.val)) = emb (before t L I y 0)) :
    endAt (k0_pay4 (F := Ideal) (iblk m c 0 t) (iblk m c 1 t)) (iblk m c 3 t) (iblk m c 4 t) (iblk m c 5 t) (iblk m c 6 t) C y.val r.val =
      emb (before t L I y (64 * (r.val % 8) + r.val / 8 + 1)) := by
  obtain ⟨h3, h4, h5, h6⟩ := rows_at m c t L I h y
  unfold endAt
  rw [h3, h4, h5, h6, hC]
  have e : r.val = 8 * (r.val / 8) + r.val % 8 := by omega
  refine (congrArg _ e).trans ((stAt_emb _ _ _ _ _ (holds_at m c t L I h y) (r.val % 8) (by omega) (r.val / 8) (by omega)).trans ?_)
  exact congrArg emb (cre_shift _ _ _ _ _)

/-- After point `t` the carried row holds the state after its block's tokens. -/
theorem carry_eq (n : ℕ) : ∀ (hn : n < cfg0.N) (y : Fin 1024),
    (rowC (outsAt0 m c n hn).2 y.val, rowC (outsAt0 m c n hn).2 (1024 + y.val)) = emb (before ⟨n, hn⟩ L I y 512) := by
  induction n using Nat.strong_induction_on with
  | _ n ih =>
    intro hn y
    by_cases h0 : n % 16 = 0
    · obtain ⟨h1, h2⟩ := carry_A m c ⟨n, hn⟩ h0 y.val y.2
      rw [h1, h2]
      refine outAt_eq m c ⟨n, hn⟩ L I h y _ ?_
      rw [rowC_zero, rowC_zero, before]
      simp [h0, cre, emb]
    · obtain ⟨h1, h2⟩ := carry_B m c ⟨n, hn⟩ h0 y.val y.2
      rw [h1, h2]
      refine outAt_eq m c ⟨n, hn⟩ L I h y _ ?_
      refine (ih (n - 1) (by omega) (by omega) y).trans ?_
      have e1 : (n - 1) / 16 = n / 16 := by omega
      have e2 : (n - 1) / 128 = n / 128 := by omega
      have e3 : 512 * ((n - 1) % 16) + 512 = 512 * (n % 16) + 0 := by omega
      simp only [before, grp, bat, e1, e2, e3]

/-- The row a point takes in, at each of the two kinds of point. -/
theorem row_in (y : Fin 1024) (h0 : ¬ t.val % 16 = 0) :
    (rowC (outsAt0 m c (t.val - 1) (by omega)).2 y.val, rowC (outsAt0 m c (t.val - 1) (by omega)).2 (1024 + y.val)) = emb (before t L I y 0) := by
  refine (carry_eq m c L I h (t.val - 1) (by omega) y).trans ?_
  have e1 : (t.val - 1) / 16 = t.val / 16 := by omega
  have e2 : (t.val - 1) / 128 = t.val / 128 := by omega
  have e3 : 512 * ((t.val - 1) % 16) + 512 = 512 * (t.val % 16) + 0 := by omega
  simp only [before, grp, bat, e1, e2, e3]

end Cert.KernelIdeal.Scan
-- ==== Proof.Scan.Array.lean ====
module

public import proofs.«01_k».proof.Proof.Scan.Grid

@[expose] public section

set_option maxRecDepth 16384
noncomputable section
open Idealize.ShloMosaic Idealize.ShloMosaic.TcCoe Idealize.SL.Sem
open Idealize.ShloMosaic.Pipeline (Dat)
namespace Cert.KernelIdeal.Scan
open Cert.KernelIdeal Cert.KernelIdeal.Gen

/-! The array the scan kernel leaves, and the result after the host code has put its rows back into token order. -/

/-- A sum of real numbers, taken among the extended reals. -/
theorem sum_coe {ι : Type} [Fintype ι] (f : ι → ℝ) : ∑ n, (f n : EReal) = ((∑ n, f n : ℝ) : EReal) :=
  (map_sum (⟨⟨Real.toEReal, EReal.coe_zero⟩, EReal.coe_add⟩ : ℝ →+ EReal) f Finset.univ).symm

/-- Negation goes through a sum of products of real numbers. -/
theorem neg_sum_real (f g : Fin 64 → ℝ) : ∑ n, (f n : EReal) * (- (g n : EReal)) = - ∑ n, (g n : EReal) * (f n : EReal) := by
  simp only [← EReal.coe_neg, ← EReal.coe_mul, sum_coe]
  rw [← Finset.sum_neg_distrib]
  exact congrArg _ (Finset.sum_congr rfl fun n _ => by ring)

variable (m : (ℓ : Loc nD τ sig) → Buf (Elt Ideal) ℓ) (c : Dev nD) (t : Fin cfg0.N)
variable (L : Fin 128 → Fin 64 → ℂ) (I : Fin 2 → Fin 128 → Fin 64 → ℕ → ℂ) (h : Regular m c L I)

/-- The layer's result of the argument arrays, at one element. -/
abbrev resOf (b : Fin 2) (k : Fin 8192) (d : Fin 2048) : EReal :=
  resAt (h_arg0 m c) (h_arg1 m c) (h_arg2 m c) (h_arg3 m c) (h_arg4 m c) (h_arg5 m c) (h_arg6 m c) (h_arg7 m c) (h_arg8 m c) b k d

include h

/-- The state of a mode after `k` tokens is the complex recurrence. -/
theorem state_emb (b : Fin 2) (g : Fin 128) (n : Fin 64) (k : ℕ) :
    state (h_arg0 m c) (h_arg1 m c) (h_arg2 m c) (h_arg3 m c) (h_arg4 m c) (h_arg5 m c) b g n k = emb (cre (L g n) (I b g n) 0 k) := by
  unfold state
  rw [show lamR (h_arg1 m c) (h_arg2 m c) (h_arg3 m c) g n = (((L g n).re : ℝ) : EReal) from congrArg Prod.fst (h.1 g n),
    show lamI (h_arg1 m c) (h_arg2 m c) (h_arg3 m c) g n = (((L g n).im : ℝ) : EReal) from congrArg Prod.snd (h.1 g n)]
  exact loc_emb _ _ _ _ _ fun j _ => h.2 b g n j

/-- A point's block of results is the layer's result at the block's tokens. -/
theorem blkOut_eq (R : Fin 128 → Fin 16 → Fin 64 → ℝ) (hR : ∀ g p n, h_arg7 m c (ix3 g p n) = (R g p n : EReal))
    (C : Vec Ideal S1x2048 .f32) (hC : ∀ y : Fin 1024, (rowC C y.val, rowC C (1024 + y.val)) = emb (before t L I y 0)) (r : Fin 512) (d : Fin 256) :
    blkOut (iblk m c 0 t) (iblk m c 1 t) (iblk m c 2 t) (iblk m c 3 t) (iblk m c 4 t) (iblk m c 5 t) (iblk m c 6 t) (iblk m c 7 t) C r d =
      resOf m c (bat t) ⟨t.val % 16 * 512 + (64 * (r.val % 8) + r.val / 8), by omega⟩ ⟨t.val / 16 % 8 * 256 + d.val, by omega⟩ := by
  unfold blkOut resOf resAt
  have hk : 512 * (t.val % 16) + (64 * (r.val % 8) + r.val / 8 + 1) = t.val % 16 * 512 + (64 * (r.val % 8) + r.val / 8) + 1 := by omega
  have hg : ∀ n : Fin 64, grp t ⟨d.val / 16 * 64 + n.val, by omega⟩ = ⟨(t.val / 16 % 8 * 256 + d.val) / 16, by omega⟩ := fun n =>
    Fin.ext (by show t.val / 16 % 8 * 16 + (d.val / 16 * 64 + n.val) / 64 = (t.val / 16 % 8 * 256 + d.val) / 16; omega)
  have hn : ∀ n : Fin 64, modeOf ⟨d.val / 16 * 64 + n.val, by omega⟩ = n := fun n =>
    Fin.ext (by show (d.val / 16 * 64 + n.val) % 64 = n.val; omega)
  have hp : (⟨d.val % 16, by omega⟩ : Fin 16) = ⟨(t.val / 16 % 8 * 256 + d.val) % 16, by omega⟩ :=
    Fin.ext (by show d.val % 16 = (t.val / 16 % 8 * 256 + d.val) % 16; omega)
  have hgp : ∀ n : Fin 64, (d.val / 16 * 64 + n.val) / 64 = d.val / 16 := fun n => by omega
  refine congrArg gel (congrArg₂ (· + ·) ?_ ?_)
  · rw [sub_eq_add_neg]
    refine congrArg₂ (· + ·) ?_ ?_
    · refine (sum_block 64 1024 rfl _ ⟨d.val / 16, by omega⟩ (fun y hy => ?_) (fun n => by show d.val / 16 * 64 + n.val < 1024; omega)).trans (Finset.sum_congr rfl fun n _ => ?_)
      · rw [blk_2, v116_l, if_neg (fun e => hy (congrArg Fin.val e)), mul_zero, mul_zero]
      · rw [blk_2, v116_l, if_pos (Fin.ext (hgp n)), mul_one]
        rw [endAt_eq m c t L I h _ r C (hC _), state_emb m c L I h, mul_comm]
        simp only [before, hk, hn, hp]
        rw [hg n]
        exact congrArg₂ (· * ·) (congrArg _ (ix3_same (hg n) rfl rfl)) rfl
    · refine (sum_block 64 1024 rfl _ ⟨d.val / 16, by omega⟩ (fun y hy => ?_) (fun n => by show d.val / 16 * 64 + n.val < 1024; omega)).trans ?_
      · rw [blk_2, v116_r, if_neg (fun e => hy (congrArg Fin.val e)), mul_zero, mul_zero]
      · refine Eq.trans (Finset.sum_congr rfl fun n _ => ?_) ((neg_sum_real
          (fun n => (cre (L ⟨(t.val / 16 % 8 * 256 + d.val) / 16, by omega⟩ n) (I (bat t) ⟨(t.val / 16 % 8 * 256 + d.val) / 16, by omega⟩ n) 0
            (t.val % 16 * 512 + (64 * (r.val % 8) + r.val / 8) + 1)).im)
          (fun n => R ⟨(t.val / 16 % 8 * 256 + d.val) / 16, by omega⟩ ⟨(t.val / 16 % 8 * 256 + d.val) % 16, by omega⟩ n)).trans
          (congrArg Neg.neg (Finset.sum_congr rfl fun n _ => by rw [state_emb m c L I h, hR]; rfl)))
        refine (congrArg₂ (· * ·) (congrArg Prod.snd (endAt_eq m c t L I h ⟨d.val / 16 * 64 + n.val, by omega⟩ r C (hC _)))
          ((blk_2 m c t _ d).trans (v116_r m c _ d ⟨d.val / 16 * 64 + n.val, by omega⟩))).trans ?_
        rw [if_pos (Fin.ext (hgp n)), mul_one, hR]
        simp only [before, hk, hn, hp]
        rw [hg n]
        exact congrArg₂ (· * ·) rfl (congrArg (fun z => -((R z ⟨(t.val / 16 % 8 * 256 + d.val) % 16, by omega⟩ n : ℝ) : EReal)) (hg n))
  · rw [blk_7, v124_at, blk_0, v123_at]
    refine congrArg₂ (· * ·) rfl (congrArg _ (ix3_same rfl (Fin.ext ?_) rfl))
    show (t.val % 16 * 512 + r.val) / 512 * 512 + (t.val % 16 * 512 + r.val) % 8 * 64 + (t.val % 16 * 512 + r.val) / 8 % 64 = t.val % 16 * 512 + (64 * (r.val % 8) + r.val / 8)
    omega

/-- The block written back at a grid point. -/
theorem out_eq (R : Fin 128 → Fin 16 → Fin 64 → ℝ) (hR : ∀ g p n, h_arg7 m c (ix3 g p n) = (R g p n : EReal)) (r : Fin 512) (d : Fin 256) :
    (outsAt0 m c t.val t.isLt).1 (ix3 0 r d) =
      resOf m c (bat t) ⟨t.val % 16 * 512 + (64 * (r.val % 8) + r.val / 8), by omega⟩ ⟨t.val / 16 % 8 * 256 + d.val, by omega⟩ := by
  by_cases h0 : t.val % 16 = 0
  · refine (out_A m c t h0 r d).trans (blkOut_eq m c t L I h R hR _ (fun y => ?_) r d)
    rw [rowC_zero, rowC_zero, before]
    simp [h0, cre, emb]
  · exact (out_B m c t h0 r d).trans (blkOut_eq m c t L I h R hR _ (fun y => row_in m c t L I h y h0) r d)

omit h

/-- Where row `r` of the output block of point `t` lies in the array. -/
theorem out_place (r : Fin 512) (d : Fin 256) :
    (((View.whole main_v125).slice (win0_8.rect t)).emb (ix3 0 r d) : S2x8192x2048.Idx)
      = ix3 (bat t) ⟨t.val % 16 * 512 + r.val, by omega⟩ ⟨t.val / 16 % 8 * 256 + d.val, by omega⟩ := by
  blk_ext [idx_val t]

/-- The array of results in the kernel's row order. -/
def scanArr : Vec Ideal S2x8192x2048 .bf16 := fun i =>
  resOf m c (i 0) ⟨(i 1).val / 512 * 512 + (64 * ((i 1).val % 8) + (i 1).val / 8 % 64), by have h : (i 1).val < 8192 := (i 1).isLt; omega⟩ (i 2)

include h in
/-- The block written back at a point is that block of the array. -/
theorem block_eq (R : Fin 128 → Fin 16 → Fin 64 → ℝ) (hR : ∀ g p n, h_arg7 m c (ix3 g p n) = (R g p n : EReal)) (y : S1x512x256.Idx) :
    (outsAt0 m c t.val t.isLt).1 y = scanArr m c (((View.whole main_v125).slice (win0_8.rect t)).emb y) := by
  obtain ⟨y0, r, d, rfl⟩ : ∃ y0 r d, y = ix3 y0 r d := ⟨y 0, y 1, y 2, eq_ix3 y⟩
  obtain rfl := Fin.fin_one_eq_zero y0
  refine (out_eq m c t L I h R hR r d).trans (Eq.trans ?_ (congrArg (scanArr m c) (out_place t r d)).symm)
  refine congr (congrArg _ (Fin.ext ?_)) rfl
  show t.val % 16 * 512 + (64 * (r.val % 8) + r.val / 8) = (t.val % 16 * 512 + r.val) / 512 * 512 + (64 * ((t.val % 16 * 512 + r.val) % 8) + (t.val % 16 * 512 + r.val) / 8 % 64)
  omega

include h in
/-- The array the kernel leaves. -/
theorem final (R : Fin 128 → Fin 16 → Fin 64 → ℝ) (hR : ∀ g p n, h_arg7 m c (ix3 g p n) = (R g p n : EReal)) :
    (dats m 0 c).arrAt 8 cfg0.N = scanArr m c := by
  refine (dats m 0 c).arrAt_eq_of_covers 8 _ (by decide +kernel) fun t hf y => ?_
  rw [after0_8]
  exact block_eq m c t L I h R hR _

end Cert.KernelIdeal.Scan
-- ==== Proof.Scan.Tail.lean ====
module

public import proofs.«01_k».proof.Proof.Scan.Array

@[expose] public section

set_option maxRecDepth 16384
noncomputable section
open Idealize.ShloMosaic Idealize.ShloMosaic.TcCoe Idealize.SL.Sem
namespace Cert.KernelIdeal.Scan
open Cert.KernelIdeal Cert.KernelIdeal.Gen

/-! The host code after the kernel: the rows go back into token order. -/

variable (m : (ℓ : Loc nD τ sig) → Buf (Elt Ideal) ℓ) (c : Dev nD)

/-- The rows of an array put into token order. -/
def tokT (X : Vec Ideal S2x8192x2048 .bf16) : Vec Ideal S2x8192x2048 .bf16 :=
  shapeCast S2x8192x2048 (transpose S2x16x8x64x2048 [0, 1, 3, 2, 4]
    (shapeCast S2x16x64x8x2048 X shapeCasts_S2x8192x2048_S2x16x64x8x2048) transposes_S2x16x64x8x2048_S2x16x8x64x2048_0_1_3_2_4)
    shapeCasts_S2x16x8x64x2048_S2x8192x2048

/-- Token `k` comes from row `8 j + s` of its block of 512, where it is the `j`-th token of the `s`-th segment. -/
theorem tokT_apply (X : Vec Ideal S2x8192x2048 .bf16) (b : Fin 2) (k : Fin 8192) (d : Fin 2048) :
    tokT X (ix3 b k d) = X (ix3 b ⟨k.val / 512 * 512 + k.val % 64 * 8 + k.val / 64 % 8, by omega⟩ d) := by
  pointwise [tokT]

/-- The result array, of the array the kernel leaves. -/
theorem result_eq :
    Pipeline.afterTail₀ cfgs (dats m) 0 (V0 m) [hostOps1] c main_v128 = tokT ((dats m 0 c).arrAt 8 cfg0.N) := by
  unfold Pipeline.afterTail₀
  have hX := Pipeline.withArrays_arr spec0 (by decide) c (V0 m c) (fun w => (dats m 0 c).arrAt w cfg0.N) 8
  generalize Pipeline.withArrays spec0 c (V0 m c) (fun w => (dats m 0 c).arrAt w cfg0.N) = X at hX
  show StableHlo.after hostOps1 X (Proc.devRef .tc main_v128) = _
  rw [← hX]
  after_reads_simp
  rfl

end Cert.KernelIdeal.Scan
-- ==== Proof.Scan.RefStages.lean ====
module

public import proofs.«01_k».proof.Proof.Gen.ReferenceIdeal.Run
public import proofs.«01_k».proof.Proof.Scan.Spec
public import Idealize.ShloMosaic.Lib.WordCmp
public import Idealize.ShloMosaic.Lib.DynamicIndex

@[expose] public section

set_option maxRecDepth 16384
noncomputable section
open Idealize.ShloMosaic Idealize.ShloMosaic.TcCoe Idealize.SL.Sem
namespace Cert.ReferenceIdeal.Scan
open Cert.ReferenceIdeal Cert.ReferenceIdeal.Gen Cert.ReferenceIdeal.Value
open Cert.KernelIdeal.Scan (lamR lamI den facR facI matR matI inpR inpI state resAt gel loc)

/-! The reference's arrays before its loop, and each operation of the loop's body, read at an element. -/

section Stages
variable (U : FVec Ideal S2x8192x2048 .f32) (AR AI : FVec Ideal S128x64 .f32) (LD : FVec Ideal S128 .f32)
  (BR BI : FVec Ideal S128x64x16 .f32)

/-- The step sizes, along the modes. -/
def stepT : FVec Ideal S128x64 .f32 :=
  broadcastInDim S128x64 ![0, 1] bcast_S128x1_S128x64_0_1 (broadcastInDim S128x1 ![0] bcast_S128_S128x1_0 (Host.exp LD))
/-- The eigenvalues' real parts. -/
def lamRT : FVec Ideal S128x64 .f32 := mulf (Host.exp (mulf AR (stepT LD))) (Host.cos (mulf AI (stepT LD)))
/-- The eigenvalues' imaginary parts. -/
def lamIT : FVec Ideal S128x64 .f32 := mulf (Host.exp (mulf AR (stepT LD))) (Host.sin (mulf AI (stepT LD)))
/-- The squared moduli. -/
def denT : FVec Ideal S128x64 .f32 := addf (mulf AR AR) (mulf AI AI)
/-- An array of ones. -/
def oneT : FVec Ideal S128x64 .f32 := broadcastInDim S128x64 ![] bcast_S_S128x64 (constant S_ .f32 0x3F800000#32)
/-- The input factors' real parts. -/
def facRT : FVec Ideal S128x64 .f32 :=
  Host.divf (addf (mulf (subf (lamRT AR AI LD) oneT) AR) (mulf (lamIT AR AI LD) AI)) (denT AR AI)
/-- The input factors' imaginary parts. -/
def facIT : FVec Ideal S128x64 .f32 :=
  Host.divf (subf (mulf (lamIT AR AI LD) AR) (mulf (subf (lamRT AR AI LD) oneT) AI)) (denT AR AI)
/-- A factor repeated along the channels of its group. -/
def wideT (x : FVec Ideal S128x64 .f32) : FVec Ideal S128x64x16 .f32 :=
  broadcastInDim S128x64x16 ![0, 1, 2] bcast_S128x64x1_S128x64x16_0_1_2 (broadcastInDim S128x64x1 ![0, 1] bcast_S128x64_S128x64x1_0_1 x)
/-- The input matrices' real parts. -/
def matRT : FVec Ideal S128x64x16 .f32 := subf (mulf (wideT (facRT AR AI LD)) BR) (mulf (wideT (facIT AR AI LD)) BI)
/-- The input matrices' imaginary parts. -/
def matIT : FVec Ideal S128x64x16 .f32 := addf (mulf (wideT (facRT AR AI LD)) BI) (mulf (wideT (facIT AR AI LD)) BR)
/-- The inputs of all the modes, tokens first. -/
def inpT (M : FVec Ideal S128x64x16 .f32) : FVec Ideal S8192x2x128x64 .f32 :=
  transpose S8192x2x128x64 [2, 1, 0, 3] (Host.dotGeneral dot_S2x8192x128x16_S128x64x16_S128x2x8192x64_3_2_01_1_2_0 none
    (shapeCast S2x8192x128x16 U shapeCasts_S2x8192x2048_S2x8192x128x16) M) transposes_S128x2x8192x64_S8192x2x128x64_2_1_0_3

variable (b : Fin 2) (g : Fin 128) (n : Fin 64) (p : Fin 16) (k : Fin 8192)

/-- The step size of a group. -/
theorem stepT_apply : stepT LD (ix2 g n) = Ideal.exp (LD (ix1 g)) := by pointwise [stepT]
/-- The eigenvalue's real part. -/
theorem lamRT_apply : lamRT AR AI LD (ix2 g n) = lamR AR AI LD g n := by
  pointwise [lamRT, lamR, stepT_apply]
/-- The eigenvalue's imaginary part. -/
theorem lamIT_apply : lamIT AR AI LD (ix2 g n) = lamI AR AI LD g n := by
  pointwise [lamIT, lamI, stepT_apply]
/-- The squared modulus. -/
theorem denT_apply : denT AR AI (ix2 g n) = den AR AI g n := by pointwise [denT, den]
/-- One. -/
theorem oneT_apply : oneT (ix2 g n) = 1 := by
  pointwise [oneT]
/-- The input factor's real part. -/
theorem facRT_apply : facRT AR AI LD (ix2 g n) = facR AR AI LD g n := by
  pointwise [facRT, facR, lamRT_apply, lamIT_apply, denT_apply, oneT_apply]
/-- The input factor's imaginary part. -/
theorem facIT_apply : facIT AR AI LD (ix2 g n) = facI AR AI LD g n := by
  pointwise [facIT, facI, lamRT_apply, lamIT_apply, denT_apply, oneT_apply]
/-- A repeated factor. -/
theorem wideT_apply (x : FVec Ideal S128x64 .f32) : wideT x (ix3 g n p) = x (ix2 g n) := by pointwise [wideT]
/-- The input matrix's real part. -/
theorem matRT_apply : matRT AR AI LD BR BI (ix3 g n p) = matR AR AI LD BR BI g n p := by
  pointwise [matRT, matR, wideT_apply, facRT_apply, facIT_apply]
/-- The input matrix's imaginary part. -/
theorem matIT_apply : matIT AR AI LD BR BI (ix3 g n p) = matI AR AI LD BR BI g n p := by
  pointwise [matIT, matI, wideT_apply, facRT_apply, facIT_apply]
/-- The input of a mode at a token, for any input matrix. -/
theorem inpT_apply (M : FVec Ideal S128x64x16 .f32) :
    inpT U M (ix4 k b g n) = ∑ p : Fin 16, U (ix3 b k ⟨g.val * 16 + p.val, by omega⟩) * M (ix3 g n p) := by
  pointwise [inpT]
/-- The input's real part. -/
theorem inpT_R : inpT U (matRT AR AI LD BR BI) (ix4 k b g n) = inpR U AR AI LD BR BI b g n k.val := by
  rw [inpT_apply, inpR, dif_pos k.isLt]
  exact Finset.sum_congr rfl fun p _ => by rw [matRT_apply]
/-- The input's imaginary part. -/
theorem inpT_I : inpT U (matIT AR AI LD BR BI) (ix4 k b g n) = inpI U AR AI LD BR BI b g n k.val := by
  rw [inpT_apply, inpI, dif_pos k.isLt]
  exact Finset.sum_congr rfl fun p _ => by rw [matIT_apply]
end Stages

section Body
variable (X : FVec Ideal S8192x2x128x64 .f32) (Y : FVec Ideal S2x128x64 .f32) (W : FVec Ideal S128x64 .f32) (ctr : IVec S_ 32)
variable (k : Fin 8192) (hctr : ctr = fun _ => BitVec.ofNat 32 k.val)
variable (τ : Fin 8192) (b : Fin 2) (g : Fin 128) (n : Fin 64)

/-- The start of the slices of a trip: the counter, then zeros. -/
def startT : Fin 4 → Int :=
  fun k => ((![ctr, constantI S_ 32 0#32, constantI S_ 32 0#32, constantI S_ 32 0#32] : Fin 4 → IVec S_ 32) k (Shape.Idx.first h_S_)).toInt

include hctr in
/-- The start of the slices of trip `k` is `k`, then zeros. -/
theorem startT_eq : ∀ a : Fin 4, startT ctr a = ((![k.val, 0, 0, 0] : Fin 4 → ℕ) a : Int) := by
  subst hctr
  intro a
  fin_cases a
  · exact toInt_ofNat_of_lt (by omega)
  · rfl
  · rfl
  · rfl

/-- The slice of trip `k` fits. -/
theorem fits_at : S8192x2x128x64.Slices (![k.val, 0, 0, 0] : Fin 4 → ℕ) S1x2x128x64 :=
  ⟨rfl, fun a => by fin_cases a <;> simp <;> omega⟩

include hctr in
/-- The inputs a trip takes are those of its token. -/
theorem take_apply :
    shapeCast S2x128x64 (Host.dynamicSlice S1x2x128x64 X (startT ctr) sliceFits_S8192x2x128x64_S1x2x128x64) shapeCasts_S1x2x128x64_S2x128x64 (ix3 b g n)
      = X (ix4 k b g n) := by
  rw [Host.dynamicSlice_eq_extractStridedSlice _ _ _ _ _ (fits_at k) (startT_eq ctr k hctr)]
  pointwise []

include hctr in
/-- The states a trip stores go to its token; the others stay. -/
theorem put_apply :
    Host.dynamicUpdateSlice X (broadcastInDim S1x2x128x64 ![1, 2, 3] bcast_S2x128x64_S1x2x128x64_1_2_3 Y) (startT ctr) updateFits_S8192x2x128x64_S1x2x128x64 (ix4 τ b g n)
      = if τ = k then Y (ix3 b g n) else X (ix4 τ b g n) := by
  rw [WordCmp.dynamicUpdateSlice_eq_update _ _ _ _ _ (fits_at k) (startT_eq ctr k hctr)]
  pointwise []
  refine if_congr ⟨fun h => Fin.ext (by omega), fun h => by subst h; omega⟩ rfl rfl

/-- An array of eigenvalues repeated along the batch. -/
theorem both_apply :
    broadcastInDim S2x128x64 ![0, 1, 2] bcast_S1x128x64_S2x128x64_0_1_2 (broadcastInDim S1x128x64 ![1, 2] bcast_S128x64_S1x128x64_1_2 W) (ix3 b g n) = W (ix2 g n) := by
  pointwise []
end Body

end Cert.ReferenceIdeal.Scan
-- ==== Proof.Scan.Loop.lean ====
module

public import proofs.«01_k».proof.Proof.Scan.RefStages

@[expose] public section

set_option maxRecDepth 16384
noncomputable section
open Idealize.ShloMosaic Idealize.ShloMosaic.TcCoe Idealize.ShloMosaic.StableHlo Idealize.SL.Sem
namespace Cert.ReferenceIdeal.Scan
open Cert.ReferenceIdeal Cert.ReferenceIdeal.Gen Cert.ReferenceIdeal.Value
open Cert.KernelIdeal.Scan (lamR lamI den facR facI matR matI inpR inpI state resAt gel loc)

/-! The reference's loop over the tokens, read trip by trip. -/

variable (m : (ℓ : Loc nD τ sig) → Buf (Elt Ideal) ℓ) (c : Dev nD)

/-- The argument `u`. -/
def a0 : FVec Ideal S2x8192x2048 .f32 := m ((c.tc : Thread nD τ).loc main_arg0)
/-- The argument `a_re`. -/
def a1 : FVec Ideal S128x64 .f32 := m ((c.tc : Thread nD τ).loc main_arg1)
/-- The argument `a_im`. -/
def a2 : FVec Ideal S128x64 .f32 := m ((c.tc : Thread nD τ).loc main_arg2)
/-- The argument `log_dt`. -/
def a3 : FVec Ideal S128 .f32 := m ((c.tc : Thread nD τ).loc main_arg3)
/-- The argument `b_re`. -/
def a4 : FVec Ideal S128x64x16 .f32 := m ((c.tc : Thread nD τ).loc main_arg4)
/-- The argument `b_im`. -/
def a5 : FVec Ideal S128x64x16 .f32 := m ((c.tc : Thread nD τ).loc main_arg5)
/-- The argument `c_re`. -/
def a6 : FVec Ideal S128x16x64 .f32 := m ((c.tc : Thread nD τ).loc main_arg6)
/-- The argument `c_im`. -/
def a7 : FVec Ideal S128x16x64 .f32 := m ((c.tc : Thread nD τ).loc main_arg7)
/-- The argument `d_skip`. -/
def a8 : FVec Ideal S2048 .f32 := m ((c.tc : Thread nD τ).loc main_arg8)

/-- The buffers after `k` trips. -/
def trip (k : ℕ) : Valuation τ sig (Elt Ideal) := STEP^[k] (entryContents preI m c)

/-- One more trip. -/
theorem trip_succ (k : ℕ) : trip m c (k + 1) = STEP (trip m c k) := Function.iterate_succ_apply' _ _ _

/-- The inputs' real parts at the loop's entry. -/
theorem entry_0 : trip m c 0 (Proc.devRef .tc main_v48_0) = inpT (a0 m c) (matRT (a1 m c) (a2 m c) (a3 m c) (a4 m c) (a5 m c)) := by
  simp only [trip, Function.iterate_zero, id_eq, entryContents, afterL_cons, afterL_nil]
  after_reads_simp
  rfl
/-- The inputs' imaginary parts at the loop's entry. -/
theorem entry_1 : trip m c 0 (Proc.devRef .tc main_v48_1) = inpT (a0 m c) (matIT (a1 m c) (a2 m c) (a3 m c) (a4 m c) (a5 m c)) := by
  simp only [trip, Function.iterate_zero, id_eq, entryContents, afterL_cons, afterL_nil]
  after_reads_simp
  rfl
/-- The eigenvalues' real parts at the loop's entry. -/
theorem entry_2 : trip m c 0 (Proc.devRef .tc main_v48_2) = lamRT (a1 m c) (a2 m c) (a3 m c) := by
  simp only [trip, Function.iterate_zero, id_eq, entryContents, afterL_cons, afterL_nil]
  after_reads_simp
  rfl
/-- The eigenvalues' imaginary parts at the loop's entry. -/
theorem entry_3 : trip m c 0 (Proc.devRef .tc main_v48_3) = lamIT (a1 m c) (a2 m c) (a3 m c) := by
  simp only [trip, Function.iterate_zero, id_eq, entryContents, afterL_cons, afterL_nil]
  after_reads_simp
  rfl
/-- The states' real parts at the loop's entry. -/
theorem entry_5 : trip m c 0 (Proc.devRef .tc main_v48_5) = broadcastInDim S2x128x64 ![] bcast_S_S2x128x64 (constant (F := Ideal) S_ .f32 0x00000000#32) := by
  simp only [trip, Function.iterate_zero, id_eq, entryContents, afterL_cons, afterL_nil]
  after_reads_simp
  rfl
/-- The states' imaginary parts at the loop's entry. -/
theorem entry_6 : trip m c 0 (Proc.devRef .tc main_v48_6) = broadcastInDim S2x128x64 ![] bcast_S_S2x128x64 (constant (F := Ideal) S_ .f32 0x00000000#32) := by
  simp only [trip, Function.iterate_zero, id_eq, entryContents, afterL_cons, afterL_nil]
  after_reads_simp
  rfl

/-- No trip changes the inputs' real parts. -/
theorem trip_0 : ∀ k, trip m c k (Proc.devRef .tc main_v48_0) = inpT (a0 m c) (matRT (a1 m c) (a2 m c) (a3 m c) (a4 m c) (a5 m c))
  | 0 => entry_0 m c
  | k + 1 => by rw [trip_succ, STEP_main_v48_0, trip_0 k]
/-- No trip changes the inputs' imaginary parts. -/
theorem trip_1 : ∀ k, trip m c k (Proc.devRef .tc main_v48_1) = inpT (a0 m c) (matIT (a1 m c) (a2 m c) (a3 m c) (a4 m c) (a5 m c))
  | 0 => entry_1 m c
  | k + 1 => by rw [trip_succ, STEP_main_v48_1, trip_1 k]
/-- No trip changes the eigenvalues' real parts. -/
theorem trip_2 : ∀ k, trip m c k (Proc.devRef .tc main_v48_2) = lamRT (a1 m c) (a2 m c) (a3 m c)
  | 0 => entry_2 m c
  | k + 1 => by rw [trip_succ, STEP_main_v48_2, trip_2 k]
/-- No trip changes the eigenvalues' imaginary parts. -/
theorem trip_3 : ∀ k, trip m c k (Proc.devRef .tc main_v48_3) = lamIT (a1 m c) (a2 m c) (a3 m c)
  | 0 => entry_3 m c
  | k + 1 => by rw [trip_succ, STEP_main_v48_3, trip_3 k]
/-- The counter counts the trips. -/
theorem trip_4 : ∀ k, trip m c k (Proc.devRef .tc main_v48_4) = fun _ => BitVec.ofNat 32 k
  | 0 => ctr_entry m c
  | k + 1 => by
    rw [trip_succ, STEP_main_v48_4]
    unfold step_main_v48_4
    rw [trip_4 k]
    funext j
    show BitVec.ofNat 32 k + 1#32 = BitVec.ofNat 32 (k + 1)
    rw [BitVec.ofNat_add]

/-- The recurrence's state, of the reference's arguments. -/
abbrev stOf (b : Fin 2) (g : Fin 128) (n : Fin 64) (k : ℕ) : EReal × EReal :=
  state (a0 m c) (a1 m c) (a2 m c) (a3 m c) (a4 m c) (a5 m c) b g n k

/-- The new states' real parts, of the old states. -/
theorem new_R (k : Fin 8192) (b : Fin 2) (g : Fin 128) (n : Fin 64) :
    (res_main_while0b_v82 (trip m c k.val) : FVec Ideal S2x128x64 .f32) (ix3 b g n) =
      lamR (a1 m c) (a2 m c) (a3 m c) g n * (trip m c k.val (Proc.devRef .tc main_v48_5) : FVec Ideal S2x128x64 .f32) (ix3 b g n)
        - lamI (a1 m c) (a2 m c) (a3 m c) g n * (trip m c k.val (Proc.devRef .tc main_v48_6) : FVec Ideal S2x128x64 .f32) (ix3 b g n)
        + inpR (a0 m c) (a1 m c) (a2 m c) (a3 m c) (a4 m c) (a5 m c) b g n k.val := by
  unfold res_main_while0b_v82
  rw [trip_0, trip_2, trip_3]
  refine congrArg₂ (· + ·) (congrArg₂ (· - ·) (congrArg₂ (· * ·) ?_ rfl) (congrArg₂ (· * ·) ?_ rfl)) ?_
  · exact (both_apply _ b g n).trans (lamRT_apply _ _ _ g n)
  · exact (both_apply _ b g n).trans (lamIT_apply _ _ _ g n)
  · exact (take_apply _ _ k (trip_4 m c k.val) b g n).trans (inpT_R _ _ _ _ _ _ b g n k)

/-- The new states' imaginary parts, of the old states. -/
theorem new_I (k : Fin 8192) (b : Fin 2) (g : Fin 128) (n : Fin 64) :
    (res_main_while0b_v90 (trip m c k.val) : FVec Ideal S2x128x64 .f32) (ix3 b g n) =
      lamR (a1 m c) (a2 m c) (a3 m c) g n * (trip m c k.val (Proc.devRef .tc main_v48_6) : FVec Ideal S2x128x64 .f32) (ix3 b g n)
        + lamI (a1 m c) (a2 m c) (a3 m c) g n * (trip m c k.val (Proc.devRef .tc main_v48_5) : FVec Ideal S2x128x64 .f32) (ix3 b g n)
        + inpI (a0 m c) (a1 m c) (a2 m c) (a3 m c) (a4 m c) (a5 m c) b g n k.val := by
  unfold res_main_while0b_v90
  rw [trip_1, trip_2, trip_3]
  refine congrArg₂ (· + ·) (congrArg₂ (· + ·) (congrArg₂ (· * ·) ?_ rfl) (congrArg₂ (· * ·) ?_ rfl)) ?_
  · exact (both_apply _ b g n).trans (lamRT_apply _ _ _ g n)
  · exact (both_apply _ b g n).trans (lamIT_apply _ _ _ g n)
  · exact (take_apply _ _ k (trip_4 m c k.val) b g n).trans (inpT_I _ _ _ _ _ _ b g n k)

/-- The states after `k` trips. -/
theorem trip_56 (b : Fin 2) (g : Fin 128) (n : Fin 64) : ∀ k, k ≤ 8192 →
    (trip m c k (Proc.devRef .tc main_v48_5) : FVec Ideal S2x128x64 .f32) (ix3 b g n) = (stOf m c b g n k).1
    ∧ (trip m c k (Proc.devRef .tc main_v48_6) : FVec Ideal S2x128x64 .f32) (ix3 b g n) = (stOf m c b g n k).2
  | 0, _ => by
    rw [entry_5, entry_6]
    exact ⟨Ideal.ofBits_zero_f32, Ideal.ofBits_zero_f32⟩
  | k + 1, hk => by
    obtain ⟨h5, h6⟩ := trip_56 b g n k (by omega)
    rw [trip_succ, STEP_main_v48_5, STEP_main_v48_6]
    refine ⟨(new_R m c ⟨k, hk⟩ b g n).trans ?_, (new_I m c ⟨k, hk⟩ b g n).trans ?_⟩
    · rw [h5, h6]; rfl
    · rw [h5, h6]; rfl

/-- The real parts stored after `k` trips. -/
theorem trip_7 (l : Fin 8192) (b : Fin 2) (g : Fin 128) (n : Fin 64) : ∀ k, k ≤ 8192 → l.val < k →
    (trip m c k (Proc.devRef .tc main_v48_7) : FVec Ideal S8192x2x128x64 .f32) (ix4 l b g n) = (stOf m c b g n (l.val + 1)).1
  | 0, _, h => absurd h (Nat.not_lt_zero _)
  | k + 1, hk, h => by
    rw [trip_succ, STEP_main_v48_7]
    refine (put_apply _ _ _ ⟨k, hk⟩ (trip_4 m c k) l b g n).trans ?_
    by_cases e : l = ⟨k, hk⟩
    · rw [if_pos e, e, new_R m c ⟨k, hk⟩ b g n, (trip_56 m c b g n k (by omega)).1, (trip_56 m c b g n k (by omega)).2]
      rfl
    · rw [if_neg e]
      exact trip_7 l b g n k (by omega) (lt_of_le_of_ne (by omega) fun h => e (Fin.ext h))

/-- The imaginary parts stored after `k` trips. -/
theorem trip_8 (l : Fin 8192) (b : Fin 2) (g : Fin 128) (n : Fin 64) : ∀ k, k ≤ 8192 → l.val < k →
    (trip m c k (Proc.devRef .tc main_v48_8) : FVec Ideal S8192x2x128x64 .f32) (ix4 l b g n) = (stOf m c b g n (l.val + 1)).2
  | 0, _, h => absurd h (Nat.not_lt_zero _)
  | k + 1, hk, h => by
    rw [trip_succ, STEP_main_v48_8]
    refine (put_apply _ _ _ ⟨k, hk⟩ (trip_4 m c k) l b g n).trans ?_
    by_cases e : l = ⟨k, hk⟩
    · rw [if_pos e, e, new_I m c ⟨k, hk⟩ b g n, (trip_56 m c b g n k (by omega)).1, (trip_56 m c b g n k (by omega)).2]
      rfl
    · rw [if_neg e]
      exact trip_8 l b g n k (by omega) (lt_of_le_of_ne (by omega) fun h => e (Fin.ext h))

end Cert.ReferenceIdeal.Scan
-- ==== Proof.Scan.RefOut.lean ====
module

public import proofs.«01_k».proof.Proof.Scan.Loop

@[expose] public section

set_option maxRecDepth 16384
noncomputable section
open Idealize.ShloMosaic Idealize.ShloMosaic.TcCoe Idealize.ShloMosaic.StableHlo Idealize.SL.Sem
namespace Cert.ReferenceIdeal.Scan
open Cert.ReferenceIdeal Cert.ReferenceIdeal.Gen Cert.ReferenceIdeal.Value
open Cert.KernelIdeal.Scan (state resAt gel loc)

/-! The reference's result after its loop, read at an element. -/

section Stages
variable (X Y : FVec Ideal S8192x2x128x64 .f32) (C E : FVec Ideal S128x16x64 .f32) (D : FVec Ideal S2048 .f32) (U : FVec Ideal S2x8192x2048 .f32)

/-- The states multiplied by one part of the output matrix, batch first. -/
def outT : FVec Ideal S2x8192x128x16 .f32 :=
  transpose S2x8192x128x16 [2, 1, 0, 3] (Host.dotGeneral dot_S8192x2x128x64_S128x16x64_S128x8192x2x16_3_2_01_1_2_0 none X C)
    transposes_S128x8192x2x16_S2x8192x128x16_2_1_0_3
/-- The layer's result before the activation. -/
def sumT : FVec Ideal S2x8192x2048 .f32 :=
  addf (shapeCast S2x8192x2048 (subf (outT X C) (outT Y E)) shapeCasts_S2x8192x128x16_S2x8192x2048)
    (mulf (broadcastInDim S2x8192x2048 ![0, 1, 2] bcast_S1x1x2048_S2x8192x2048_0_1_2 (broadcastInDim S1x1x2048 ![2] bcast_S2048_S1x1x2048_2 D)) U)
/-- The activation. -/
def gelT (z : FVec Ideal S2x8192x2048 .f32) : FVec Ideal S2x8192x2048 .f32 :=
  mulf z (mulf (broadcastInDim S2x8192x2048 ![] bcast_S_S2x8192x2048 (constant S_ .f32 0x3F000000#32))
    (addf (broadcastInDim S2x8192x2048 ![] bcast_S_S2x8192x2048 (constant S_ .f32 0x3F800000#32))
      (Host.tanh (mulf (broadcastInDim S2x8192x2048 ![] bcast_S_S2x8192x2048 (constant S_ .f32 0x3F4C422A#32))
        (addf z (mulf (broadcastInDim S2x8192x2048 ![] bcast_S_S2x8192x2048 (constant S_ .f32 0x3D372713#32)) (mulf (mulf z z) z)))))))

variable (b : Fin 2) (l : Fin 8192) (d : Fin 2048) (g : Fin 128) (p : Fin 16)

/-- A product with the output matrix at an element. -/
theorem outT_apply : outT X C (ix4 b l g p) = ∑ n : Fin 64, X (ix4 l b g n) * C (ix3 g p n) := by
  pointwise [outT]
/-- The result before the activation, at an element. -/
theorem sumT_apply : sumT X Y C E D U (ix3 b l d) =
    (outT X C (ix4 b l ⟨d.val / 16, by omega⟩ ⟨d.val % 16, by omega⟩) - outT Y E (ix4 b l ⟨d.val / 16, by omega⟩ ⟨d.val % 16, by omega⟩))
      + D (ix1 d) * U (ix3 b l d) := by
  pointwise [sumT]
/-- The activation at an element. -/
theorem gelT_apply (z : FVec Ideal S2x8192x2048 .f32) : gelT z (ix3 b l d) = gel (z (ix3 b l d)) := by
  unfold gel
  rw [show z (ix3 b l d) * (z (ix3 b l d) * z (ix3 b l d)) = z (ix3 b l d) * z (ix3 b l d) * z (ix3 b l d) from mul_comm _ _]
  pointwise [gelT]
end Stages

variable (m : (ℓ : Loc nD τ sig) → Buf (Elt Ideal) ℓ) (c : Dev nD)

/-- The result, of the buffers after the last trip. -/
theorem out_eq (V : Valuation τ sig (Elt Ideal)) :
    (out_main_v72 V : FVec Ideal S2x8192x2048 .bf16) =
      truncf .bf16 (gelT (sumT (V (Proc.devRef .tc main_v48_7)) (V (Proc.devRef .tc main_v48_8)) (V (Proc.devRef .tc main_arg6))
        (V (Proc.devRef .tc main_arg7)) (V (Proc.devRef .tc main_arg8)) (V (Proc.devRef .tc main_arg0)))) := rfl

/-- The reference's result at an element is the layer's result. -/
theorem ref_eq (b : Fin 2) (l : Fin 8192) (d : Fin 2048) :
    (out_main_v72 (STEP^[8192] (entryContents preI m c)) : FVec Ideal S2x8192x2048 .bf16) (ix3 b l d) =
      resAt (a0 m c) (a1 m c) (a2 m c) (a3 m c) (a4 m c) (a5 m c) (a6 m c) (a7 m c) (a8 m c) b l d := by
  rw [out_eq, iter_main_arg6, iter_main_arg7, iter_main_arg8, iter_main_arg0]
  refine (gelT_apply b l d _).trans (congrArg gel ?_)
  rw [sumT_apply, outT_apply, outT_apply]
  refine congrArg₂ (· + ·) (congrArg₂ (· - ·) (Finset.sum_congr rfl fun n _ => ?_) (Finset.sum_congr rfl fun n _ => ?_)) rfl
  · exact (mul_comm _ _).trans (congrArg _ (trip_7 m c l b _ n 8192 le_rfl l.isLt))
  · exact (mul_comm _ _).trans (congrArg _ (trip_8 m c l b _ n 8192 le_rfl l.isLt))

end Cert.ReferenceIdeal.Scan
-- ==== Proof.Scan.Finite.lean ====
module

public import proofs.«01_k».proof.Pre_regular
public import proofs.«01_k».proof.Proof.Scan.Array

@[expose] public section

set_option maxRecDepth 16384
noncomputable section
open Idealize.ShloMosaic Idealize.ShloMosaic.TcCoe Idealize.SL.Sem
namespace Cert.KernelIdeal.Scan
open Cert.KernelIdeal Cert.KernelIdeal.Gen

/-! Under the precondition every number of the discretised system is a real number. -/

/-- An extended real that is a real number. -/
def IsReal (z : EReal) : Prop := ∃ r : ℝ, z = (r : EReal)

/-- Real numbers add up. -/
theorem IsReal.add {x y : EReal} (hx : IsReal x) (hy : IsReal y) : IsReal (x + y) := by
  obtain ⟨a, rfl⟩ := hx; obtain ⟨b, rfl⟩ := hy; exact ⟨a + b, (EReal.coe_add a b).symm⟩
/-- Real numbers subtract. -/
theorem IsReal.sub {x y : EReal} (hx : IsReal x) (hy : IsReal y) : IsReal (x - y) := by
  obtain ⟨a, rfl⟩ := hx; obtain ⟨b, rfl⟩ := hy; exact ⟨a - b, (EReal.coe_sub a b).symm⟩
/-- Real numbers multiply. -/
theorem IsReal.mul {x y : EReal} (hx : IsReal x) (hy : IsReal y) : IsReal (x * y) := by
  obtain ⟨a, rfl⟩ := hx; obtain ⟨b, rfl⟩ := hy; exact ⟨a * b, (EReal.coe_mul a b).symm⟩
/-- One is real. -/
theorem IsReal.one : IsReal 1 := ⟨1, EReal.coe_one.symm⟩
/-- The exponential of a real number is real. -/
theorem IsReal.exp {x : EReal} (hx : IsReal x) : IsReal (Ideal.exp x) := by
  obtain ⟨a, rfl⟩ := hx; exact ⟨_, Ideal.exp_coe a⟩
/-- The cosine of a real number is real. -/
theorem IsReal.cos {x : EReal} (hx : IsReal x) : IsReal (Ideal.cos x) := by
  obtain ⟨a, rfl⟩ := hx; exact ⟨_, Ideal.cos_coe a⟩
/-- The sine of a real number is real. -/
theorem IsReal.sin {x : EReal} (hx : IsReal x) : IsReal (Ideal.sin x) := by
  obtain ⟨a, rfl⟩ := hx; exact ⟨_, Ideal.sin_coe a⟩
/-- A sum of real numbers is real. -/
theorem IsReal.sum {f : Fin 16 → EReal} (h : ∀ p, IsReal (f p)) : IsReal (∑ p, f p) := by
  choose r hr using h
  exact ⟨∑ p, r p, by rw [← sum_coe]; exact Finset.sum_congr rfl fun p _ => hr p⟩
/-- A real number divided by a real number other than zero is real. -/
theorem IsReal.div {x : EReal} (hx : IsReal x) {y : ℝ} (hy : y ≠ 0) : IsReal (Ideal.div x (y : EReal)) := by
  obtain ⟨a, rfl⟩ := hx
  exact ⟨a * (1 / y), by rw [Ideal.div_coe hy, EReal.coe_mul]⟩

section
variable (U : FVec Ideal S2x8192x2048 .f32) (AR AI : FVec Ideal S128x64 .f32) (LD : FVec Ideal S128 .f32)
  (BR BI : FVec Ideal S128x64x16 .f32)
variable (hU : ∀ b k d, IsReal (U (ix3 b k d))) (hAR : ∀ g n, IsReal (AR (ix2 g n))) (hAI : ∀ g n, IsReal (AI (ix2 g n)))
  (hLD : ∀ g, IsReal (LD (ix1 g))) (hBR : ∀ g n p, IsReal (BR (ix3 g n p))) (hBI : ∀ g n p, IsReal (BI (ix3 g n p)))
  (hne : ∀ g n, AR (ix2 g n) ≠ 0 ∨ AI (ix2 g n) ≠ 0)
variable (b : Fin 2) (g : Fin 128) (n : Fin 64) (p : Fin 16) (k : ℕ)

include hAR hAI hLD in
/-- The eigenvalue's real part is real. -/
theorem real_lamR : IsReal (lamR AR AI LD g n) :=
  ((hAR g n).mul (hLD g).exp).exp.mul ((hAI g n).mul (hLD g).exp).cos
include hAR hAI hLD in
/-- The eigenvalue's imaginary part is real. -/
theorem real_lamI : IsReal (lamI AR AI LD g n) :=
  ((hAR g n).mul (hLD g).exp).exp.mul ((hAI g n).mul (hLD g).exp).sin
include hAR hAI hne in
/-- The squared modulus is a real number other than zero. -/
theorem real_den : ∃ y : ℝ, y ≠ 0 ∧ den AR AI g n = (y : EReal) := by
  obtain ⟨a, ha⟩ := hAR g n
  obtain ⟨e, he⟩ := hAI g n
  have h := hne g n
  refine ⟨a * a + e * e, ?_, by rw [den, ha, he, EReal.coe_add, EReal.coe_mul, EReal.coe_mul]⟩
  rw [ha, he] at h
  intro h0
  have h1 : a = 0 := by nlinarith [mul_self_nonneg a, mul_self_nonneg e]
  have h2 : e = 0 := by nlinarith [mul_self_nonneg a, mul_self_nonneg e]
  subst h1; subst h2
  simp at h
include hAR hAI hLD hne in
/-- The input factor's real part is real. -/
theorem real_facR : IsReal (facR AR AI LD g n) := by
  obtain ⟨y, hy, e⟩ := real_den AR AI hAR hAI hne g n
  unfold facR
  rw [e]
  exact ((((real_lamR AR AI LD hAR hAI hLD g n).sub IsReal.one).mul (hAR g n)).add ((real_lamI AR AI LD hAR hAI hLD g n).mul (hAI g n))).div hy
include hAR hAI hLD hne in
/-- The input factor's imaginary part is real. -/
theorem real_facI : IsReal (facI AR AI LD g n) := by
  obtain ⟨y, hy, e⟩ := real_den AR AI hAR hAI hne g n
  unfold facI
  rw [e]
  exact (((real_lamI AR AI LD hAR hAI hLD g n).mul (hAR g n)).sub (((real_lamR AR AI LD hAR hAI hLD g n).sub IsReal.one).mul (hAI g n))).div hy
include hAR hAI hLD hBR hBI hne in
/-- The input matrix's real part is real. -/
theorem real_matR : IsReal (matR AR AI LD BR BI g n p) :=
  ((real_facR AR AI LD hAR hAI hLD hne g n).mul (hBR g n p)).sub ((real_facI AR AI LD hAR hAI hLD hne g n).mul (hBI g n p))
include hAR hAI hLD hBR hBI hne in
/-- The input matrix's imaginary part is real. -/
theorem real_matI : IsReal (matI AR AI LD BR BI g n p) :=
  ((real_facR AR AI LD hAR hAI hLD hne g n).mul (hBI g n p)).add ((real_facI AR AI LD hAR hAI hLD hne g n).mul (hBR g n p))
include hU hAR hAI hLD hBR hBI hne in
/-- A mode's input is real, real part. -/
theorem real_inpR : IsReal (inpR U AR AI LD BR BI b g n k) := by
  unfold inpR
  split
  · exact IsReal.sum fun p => (hU _ _ _).mul (real_matR AR AI LD BR BI hAR hAI hLD hBR hBI hne g n p)
  · exact ⟨0, rfl⟩
include hU hAR hAI hLD hBR hBI hne in
/-- A mode's input is real, imaginary part. -/
theorem real_inpI : IsReal (inpI U AR AI LD BR BI b g n k) := by
  unfold inpI
  split
  · exact IsReal.sum fun p => (hU _ _ _).mul (real_matI AR AI LD BR BI hAR hAI hLD hBR hBI hne g n p)
  · exact ⟨0, rfl⟩
end

/-- An absolute value less than infinity is that of a real number. -/
theorem isReal_of_abs (x : EReal) (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  have hlt : max x (-x) < ⊤ := by
    by_contra hn
    simp [Ideal.cmp, hn] at h
  rw [max_lt_iff] at hlt
  refine ⟨x.toReal, (EReal.coe_toReal hlt.1.ne fun e => ?_).symm⟩
  rw [e] at hlt
  simp at hlt

/-- One of two numbers differs from zero. -/
theorem ne_of_une (x y : EReal)
    (h : IntOp.ori (Ideal.cmp .une x (Ideal.ofBits .f32 0x00000000#32)) (Ideal.cmp .une y (Ideal.ofBits .f32 0x00000000#32)) = 1#1) : x ≠ 0 ∨ y ≠ 0 := by
  rw [Ideal.ofBits_zero_f32] at h
  by_contra hn
  push Not at hn
  rw [hn.1, hn.2] at h
  simp [Ideal.cmp, IntOp.ori] at h

/-- What the precondition says of the arguments. -/
structure Sound (U : FVec Ideal S2x8192x2048 .f32) (AR AI : FVec Ideal S128x64 .f32) (LD : FVec Ideal S128 .f32)
    (BR BI : FVec Ideal S128x64x16 .f32) (CI : FVec Ideal S128x16x64 .f32) : Prop where
  u : ∀ b k d, IsReal (U (ix3 b k d))
  ar : ∀ g n, IsReal (AR (ix2 g n))
  ai : ∀ g n, IsReal (AI (ix2 g n))
  ld : ∀ g, IsReal (LD (ix1 g))
  br : ∀ g n p, IsReal (BR (ix3 g n p))
  bi : ∀ g n p, IsReal (BI (ix3 g n p))
  ci : ∀ g p n, IsReal (CI (ix3 g p n))
  ne : ∀ g n, AR (ix2 g n) ≠ 0 ∨ AI (ix2 g n) ≠ 0

/-- The precondition's arrays, all ones, say that. -/
theorem sound_of [Cert.Pre_regular.Facts] (U : FVec Ideal S2x8192x2048 .f32) (AR AI : FVec Ideal S128x64 .f32) (LD : FVec Ideal S128 .f32)
    (BR BI : FVec Ideal S128x64x16 .f32) (CR CI : FVec Ideal S128x16x64 .f32) (D : FVec Ideal S2048 .f32)
    (h : (Cert.Pre_regular.fn (F := Ideal) U AR AI LD BR BI CR CI D).1 = (fun _ => 1#1)
      ∧ (Cert.Pre_regular.fn (F := Ideal) U AR AI LD BR BI CR CI D).2.1 = (fun _ => 1#1)
      ∧ (Cert.Pre_regular.fn (F := Ideal) U AR AI LD BR BI CR CI D).2.2.1 = (fun _ => 1#1)
      ∧ (Cert.Pre_regular.fn (F := Ideal) U AR AI LD BR BI CR CI D).2.2.2.1 = (fun _ => 1#1)
      ∧ (Cert.Pre_regular.fn (F := Ideal) U AR AI LD BR BI CR CI D).2.2.2.2.1 = (fun _ => 1#1)
      ∧ (Cert.Pre_regular.fn (F := Ideal) U AR AI LD BR BI CR CI D).2.2.2.2.2.1 = (fun _ => 1#1)
      ∧ (Cert.Pre_regular.fn (F := Ideal) U AR AI LD BR BI CR CI D).2.2.2.2.2.2.1 = (fun _ => 1#1)
      ∧ (Cert.Pre_regular.fn (F := Ideal) U AR AI LD BR BI CR CI D).2.2.2.2.2.2.2 = (fun _ => 1#1)) : Sound U AR AI LD BR BI CI := by
  obtain ⟨h0, h1, h2, h3, h4, h5, h6, h7⟩ := h
  exact ⟨fun b k d => isReal_of_abs _ (congrFun h0 (ix3 b k d)), fun g n => isReal_of_abs _ (congrFun h1 (ix2 g n)),
    fun g n => isReal_of_abs _ (congrFun h2 (ix2 g n)), fun g => isReal_of_abs _ (congrFun h3 (ix1 g)),
    fun g n p => isReal_of_abs _ (congrFun h4 (ix3 g n p)), fun g n p => isReal_of_abs _ (congrFun h5 (ix3 g n p)),
    fun g p n => isReal_of_abs _ (congrFun h6 (ix3 g p n)), fun g n => ne_of_une _ _ (congrFun h7 (ix2 g n))⟩

variable (m : (ℓ : Loc nD τ sig) → Buf (Elt Ideal) ℓ) (c : Dev nD)

/-- Then the kernel's system is one of complex numbers, and the output matrix's imaginary part one of real numbers. -/
theorem regular_of (h : Sound (h_arg0 m c) (h_arg1 m c) (h_arg2 m c) (h_arg3 m c) (h_arg4 m c) (h_arg5 m c) (h_arg7 m c)) :
    (∃ L I, Regular m c L I) ∧ ∃ R : Fin 128 → Fin 16 → Fin 64 → ℝ, ∀ g p n, h_arg7 m c (ix3 g p n) = (R g p n : EReal) := by
  choose lr hlr using fun g n => real_lamR (h_arg1 m c) (h_arg2 m c) (h_arg3 m c) h.ar h.ai h.ld g n
  choose li hli using fun g n => real_lamI (h_arg1 m c) (h_arg2 m c) (h_arg3 m c) h.ar h.ai h.ld g n
  choose ir hir using fun b g n k => real_inpR (h_arg0 m c) (h_arg1 m c) (h_arg2 m c) (h_arg3 m c) (h_arg4 m c) (h_arg5 m c) h.u h.ar h.ai h.ld h.br h.bi h.ne b g n k
  choose ii hii using fun b g n k => real_inpI (h_arg0 m c) (h_arg1 m c) (h_arg2 m c) (h_arg3 m c) (h_arg4 m c) (h_arg5 m c) h.u h.ar h.ai h.ld h.br h.bi h.ne b g n k
  choose R hR using h.ci
  exact ⟨⟨fun g n => ⟨lr g n, li g n⟩, fun b g n k => ⟨ir b g n k, ii b g n k⟩, fun g n => Prod.ext (hlr g n) (hli g n),
    fun b g n k => Prod.ext (hir b g n k) (hii b g n k)⟩, R, hR⟩

end Cert.KernelIdeal.Scan
-- ==== Proof.InProj.Array.lean ====
module

public import proofs.«01_k».proof.Proof.Gen.Kernel3Ideal.Value
public import proofs.«01_k».proof.Proof.Gen.Reference3Ideal.Run
public import Idealize.ShloMosaic.Lib.Pipeline.ValueKit
public import Idealize.ShloMosaic.Lib.Pipeline.ValueKit.Held
public import Idealize.ShloMosaic.Lib.Pipeline.ReadBack

@[expose] public section

set_option maxRecDepth 16384
noncomputable section
open Idealize.ShloMosaic Idealize.ShloMosaic.TcCoe Idealize.SL.Sem
open Idealize.ShloMosaic.Pipeline (Dat)

/-! The input projection of the S5 mixer: the first of the two points of a run modulates a row block and keeps it, both
multiply it by their half of the weights' columns. -/

namespace Cert.Kernel3Ideal.InProj
open Cert.Kernel3Ideal Cert.Kernel3Ideal.Gen

/-- The modulated block: `x · (1 + scale) + shift`. -/
theorem pay1_apply (x : Vec Ideal S1x512x2048 .f32) (sc sh : Vec Ideal S1x1x2048 .f32) (r : Fin 512) (k : Fin 2048) :
    k0_pay1 (F := Ideal) x sc sh (ix2 r k) = x (ix3 0 r k) * (1 + sc (ix3 0 0 k)) + sh (ix3 0 0 k) := by
  pointwise [k0_pay1]

/-- The product of the kept block with a block of the weights. -/
theorem pay2_apply (h : Vec Ideal S512x2048 .bf16) (w : Vec Ideal S2048x1024 .bf16) (r : Fin 512) (d : Fin 1024) :
    k0_pay2 (F := Ideal) h w (ix3 0 r d) = ∑ k : Fin 2048, h (ix2 r k) * w (ix2 k d) := by
  pointwise [k0_pay2]

/-- Which block of its array each window reads at grid point `t`: batch `t/32`, row block `t/2 % 16`, column half
`t % 2`. -/
theorem idx_val : ∀ t : Fin cfg0.N,
    win0_0.index t = ![t.val / 32, t.val / 2 % 16, 0] ∧ win0_1.index t = ![t.val / 32, 0, 0]
    ∧ win0_2.index t = ![t.val / 32, 0, 0] ∧ win0_3.index t = ![0, t.val % 2]
    ∧ win0_4.index t = ![t.val / 32, t.val / 2 % 16, t.val % 2] :=
  (by decide +kernel : ∀ t : Fin grid0.N, _)

section Spec
variable (X : Vec Ideal S2x8192x2048 .f32) (SC SH : Vec Ideal S2x1x2048 .f32) (W : Vec Ideal S2048x2048 .f32)

/-- One element of the projection of the modulated input. -/
def projAt (b : Fin 2) (s : Fin 8192) (d : Fin 2048) : EReal :=
  ∑ k : Fin 2048, (X (ix3 b s k) * (1 + SC (ix3 b 0 k)) + SH (ix3 b 0 k)) * W (ix2 k d)
end Spec

variable (m : (ℓ : Loc nD τ sig) → Buf (Elt Ideal) ℓ)

/-- The input rows. -/
abbrev aX (c : Dev nD) : Vec Ideal S2x8192x2048 .f32 := m ((c : Thread nD τ).loc main_arg0)
/-- The scale rows. -/
abbrev aSC (c : Dev nD) : Vec Ideal S2x1x2048 .f32 := m ((c : Thread nD τ).loc main_arg1)
/-- The shift rows. -/
abbrev aSH (c : Dev nD) : Vec Ideal S2x1x2048 .f32 := m ((c : Thread nD τ).loc main_arg2)
/-- The weights. -/
abbrev aW (c : Dev nD) : Vec Ideal S2048x2048 .f32 := m ((c : Thread nD τ).loc main_arg3)

section Blocks
variable (c : Dev nD) (t : Fin cfg0.N)

/-- A point's batch is one of the two. -/
theorem bound_b : t.val / 32 < 2 := by have h : t.val < 64 := t.isLt; omega
/-- A row of a point's block is a row of the array. -/
theorem bound_s (r : Fin 512) : t.val / 2 % 16 * 512 + r.val < 8192 := by omega

/-- Row `r` of the block of the input at point `t`. -/
theorem blk_x (r : Fin 512) (k : Fin 2048) :
    (iblk m c 0 t : Vec Ideal S1x512x2048 .f32) (ix3 0 r k) = aX m c (ix3 ⟨t.val / 32, bound_b t⟩ ⟨t.val / 2 % 16 * 512 + r.val, bound_s t r⟩ k) := by
  blk_ext [iblk, V, idx_val t]
/-- The scale of the batch at point `t`. -/
theorem blk_sc (k : Fin 2048) :
    (iblk m c 1 t : Vec Ideal S1x1x2048 .f32) (ix3 0 0 k) = aSC m c (ix3 ⟨t.val / 32, bound_b t⟩ 0 k) := by
  blk_ext [iblk, V, idx_val t]
/-- The shift of the batch at point `t`. -/
theorem blk_sh (k : Fin 2048) :
    (iblk m c 2 t : Vec Ideal S1x1x2048 .f32) (ix3 0 0 k) = aSH m c (ix3 ⟨t.val / 32, bound_b t⟩ 0 k) := by
  blk_ext [iblk, V, idx_val t]
/-- The columns of the weights at point `t`. -/
theorem blk_w (k : Fin 2048) (d : Fin 1024) :
    (iblk m c 3 t : Vec Ideal S2048x1024 .bf16) (ix2 k d) = aW m c (ix2 k ⟨t.val % 2 * 1024 + d.val, by omega⟩) := by
  blk_ext [iblk, V, idx_val t]

/-- The block kept at the first point of a run. -/
theorem hid_A (h0 : t.val % 2 = 0) :
    (outsAt0 m c t.val t.isLt).2 = k0_pay1 (iblk m c 0 t) (iblk m c 1 t) (iblk m c 2 t) := by
  rw [outsAt0_A m c t h0]
  frame_out

/-- The second point of a run keeps what the first one left. -/
theorem hid_B (h0 : ¬ t.val % 2 = 0) :
    (outsAt0 m c t.val t.isLt).2 = (outsAt0 m c (t.val - 1) (Nat.lt_of_le_of_lt (Nat.sub_le _ _) t.isLt)).2 := by
  rw [outsAt0_B m c t h0]
  rfl

/-- At each point the output block is the product of the kept block with the point's weights. -/
theorem out_AB : (outsAt0 m c t.val t.isLt).1 = k0_pay2 (outsAt0 m c t.val t.isLt).2 (iblk m c 3 t) := by
  by_cases h0 : t.val % 2 = 0
  · rw [hid_A m c t h0, outsAt0_A m c t h0]
    frame_out
  · rw [hid_B m c t h0, outsAt0_B m c t h0]
    frame_out
    simp only [read_unread_whole]

/-- At both points of a run the kept block holds the run's modulated rows. -/
theorem hid_eq (r : Fin 512) (k : Fin 2048) :
    (outsAt0 m c t.val t.isLt).2 (ix2 r k)
      = aX m c (ix3 ⟨t.val / 32, bound_b t⟩ ⟨t.val / 2 % 16 * 512 + r.val, bound_s t r⟩ k) * (1 + aSC m c (ix3 ⟨t.val / 32, bound_b t⟩ 0 k))
        + aSH m c (ix3 ⟨t.val / 32, bound_b t⟩ 0 k) := by
  have h := Pipeline.eq_of_write_hold (fun n h => (outsAt0 m c n h).2) 2
    (fun t => k0_pay1 (F := Ideal) (iblk m c 0 t) (iblk m c 1 t) (iblk m c 2 t)) (hid_A m c) (hid_B m c) t
  refine (congrFun h (ix2 r k)).trans ?_
  refine (pay1_apply _ _ _ r k).trans ?_
  rw [blk_x, blk_sc, blk_sh]
  have e : 2 * (t.val / 2) / 2 = t.val / 2 := by omega
  have e' : 2 * (t.val / 2) / 32 = t.val / 32 := by omega
  simp only [e, e']

/-- The output block at a point. -/
theorem out_eq (r : Fin 512) (d : Fin 1024) :
    (outsAt0 m c t.val t.isLt).1 (ix3 0 r d)
      = projAt (aX m c) (aSC m c) (aSH m c) (aW m c) ⟨t.val / 32, bound_b t⟩ ⟨t.val / 2 % 16 * 512 + r.val, bound_s t r⟩
          ⟨t.val % 2 * 1024 + d.val, by omega⟩ := by
  rw [out_AB]
  refine (pay2_apply _ _ r d).trans ?_
  simp only [hid_eq, blk_w]
  rfl

end Blocks

/-- Where row `r` of the output block of point `t` lies in the result array. -/
theorem out_place (t : Fin cfg0.N) (r : Fin 512) (d : Fin 1024) :
    (((View.whole main_v1).slice (win0_4.rect t)).emb (ix3 0 r d) : S2x8192x2048.Idx)
      = ix3 ⟨t.val / 32, bound_b t⟩ ⟨t.val / 2 % 16 * 512 + r.val, bound_s t r⟩ ⟨t.val % 2 * 1024 + d.val, by omega⟩ := by
  blk_ext [idx_val t]

/-- The projection of the arguments as an array. -/
def projArr (c : Dev nD) : Vec Ideal S2x8192x2048 .f32 := fun i =>
  projAt (aX m c) (aSC m c) (aSH m c) (aW m c) (i 0) (i 1) (i 2)

/-- The block written back at a point is that block of the array. -/
theorem block_eq (c : Dev nD) (t : Fin cfg0.N) (y : S1x512x1024.Idx) :
    (outsAt0 m c t.val t.isLt).1 y = projArr m c (((View.whole main_v1).slice (win0_4.rect t)).emb y) := by
  obtain ⟨y0, r, d, rfl⟩ : ∃ y0 r d, y = ix3 y0 r d := ⟨y 0, y 1, y 2, eq_ix3 y⟩
  obtain rfl := Fin.fin_one_eq_zero y0
  refine (out_eq m c t r d).trans ?_
  exact (congrArg (projArr m c) (out_place t r d)).symm

/-- The kernel's result array is the projection of the arguments. -/
theorem final (c : Dev nD) : (dats m 0 c).arrAt 4 cfg0.N = projArr m c := by
  refine (dats m 0 c).arrAt_eq_of_covers 4 _ (by decide +kernel) fun t hf y => ?_
  rw [after0_4]
  exact block_eq m c t _

end Cert.Kernel3Ideal.InProj

namespace Cert.Reference3Ideal.InProj
open Cert.Reference3Ideal Cert.Reference3Ideal.Gen Cert.Reference3Ideal.Value
open Cert.Kernel3Ideal.InProj (projAt)

/-- The reference's operations on four arrays. -/
def projT (X : FVec Ideal S2x8192x2048 .f32) (SC SH : FVec Ideal S2x1x2048 .f32) (W : FVec Ideal S2048x2048 .f32) : FVec Ideal S2x8192x2048 .f32 :=
  Host.dotGeneral dot_S2x8192x2048_S2048x2048_S2x8192x2048_2_0_01_1_n_n none
    (addf (mulf X (broadcastInDim S2x8192x2048 ![0, 1, 2] bcast_S2x1x2048_S2x8192x2048_0_1_2
        (addf (broadcastInDim S2x1x2048 ![] bcast_S_S2x1x2048 (constant S_ .f32 0x3F800000#32)) SC)))
      (broadcastInDim S2x8192x2048 ![0, 1, 2] bcast_S2x1x2048_S2x8192x2048_0_1_2 SH)) W

/-- The reference's result is the projection, at an element. -/
theorem projT_apply (X : FVec Ideal S2x8192x2048 .f32) (SC SH : FVec Ideal S2x1x2048 .f32) (W : FVec Ideal S2048x2048 .f32)
    (b : Fin 2) (s : Fin 8192) (d : Fin 2048) : projT X SC SH W (ix3 b s d) = projAt X SC SH W b s d := by
  pointwise [projT, projAt]

end Cert.Reference3Ideal.InProj
-- ==== Proof.Qkv.Heads.lean ====
module

public import proofs.«01_k».proof.Proof.Gen.Kernel4Ideal.Value
public import Idealize.ShloMosaic.Lib.Pipeline.ValueKit
public import Idealize.ShloMosaic.Lib.Pipeline.ReadBack

@[expose] public section

set_option maxRecDepth 16384
noncomputable section
open Idealize.ShloMosaic Idealize.ShloMosaic.TcCoe Idealize.SL.Sem
open Idealize.ShloMosaic.Pipeline (Dat)

/-! The body of the query, key and value projection, read at an index: the modulated rows, their product with a block of
weights, and the eight heads of that product, turned or as they are. -/

namespace Cert.Kernel4Ideal.Qkv
open Cert.Kernel4Ideal Cert.Kernel4Ideal.Gen

/-- The factor of the queries. -/
abbrev cScale : EReal := Ideal.ofBits .f32 0x3DB504F3#32

/-- The modulated block: `x · (1 + scale) + shift`. -/
theorem mod_apply (x : Vec Ideal S1x512x2048 .f32) (sc sh : Vec Ideal S1x1x2048 .f32) (r : Fin 512) (k : Fin 2048) :
    k0_pay31 (F := Ideal) x sc sh (ix2 r k) = x (ix3 0 r k) * (1 + sc (ix3 0 0 k)) + sh (ix3 0 0 k) := by
  pointwise [k0_pay31]

/-- The product of the kept block with a block of the weights. -/
theorem prod_apply (h : Vec Ideal S512x2048 .bf16) (w : Vec Ideal S2048x1024 .bf16) (r : Fin 512) (d : Fin 1024) :
    k0_pay32 (F := Ideal) h w (ix2 r d) = ∑ k : Fin 2048, h (ix2 r k) * w (ix2 k d) := by
  pointwise [k0_pay32]

/-- The 128 columns of `A` from column `o` on, turned by the tables `C` and `S`: each column times its `C` plus the column
64 away times its `S`. -/
def turn (A : FVec Ideal S512x1024 .f32) (C S : Vec Ideal S1x512x128 .f32) (o : ℕ) (ho : o + 128 ≤ 1024) (r : Fin 512) (x : Fin 128) : EReal :=
  A (ix2 r ⟨o + x.val, by omega⟩) * C (ix3 0 r x) + A (ix2 r ⟨o + (x.val + 128 - 64) % 128, by omega⟩) * S (ix3 0 r x)

variable (A : FVec Ideal S512x1024 .f32) (C S : Vec Ideal S1x512x128 .f32) (h : Vec Ideal S512x2048 .bf16) (w : Vec Ideal S2048x1024 .bf16)
  (r : Fin 512) (x : Fin 128)

/-- The first head of a query block. -/
theorem q0_apply : k0_pay1 (F := Ideal) A C S (ix4 0 0 r x) = turn A C S 0 (by decide) r x * cScale := by
  pointwise [k0_pay1, turn]

/-- The second head of a query block. -/
theorem q1_apply : k0_pay2 (F := Ideal) A C S (ix4 0 0 r x) = turn A C S 128 (by decide) r x * cScale := by
  pointwise [k0_pay2, turn]

/-- The third head of a query block. -/
theorem q2_apply : k0_pay4 (F := Ideal) (k0_pay3 A) C S (ix4 0 0 r x) = turn A C S 256 (by decide) r x * cScale := by
  pointwise [k0_pay4, k0_pay3, turn]

/-- The fourth head of a query block. -/
theorem q3_apply : k0_pay5 (F := Ideal) A C S (ix4 0 0 r x) = turn A C S 384 (by decide) r x * cScale := by
  pointwise [k0_pay5, turn]

/-- The fifth head of a query block. -/
theorem q4_apply : k0_pay8 (F := Ideal) (k0_pay6 A) (k0_pay7 A C) 64#32 S (ix4 0 0 r x) = turn A C S 512 (by decide) r x * cScale := by
  pointwise [k0_pay8, k0_pay6, k0_pay7, turn]

/-- The sixth head of a query block. -/
theorem q5_apply : k0_pay9 (F := Ideal) A C S (ix4 0 0 r x) = turn A C S 640 (by decide) r x * cScale := by
  pointwise [k0_pay9, turn]

/-- The seventh head of a query block. -/
theorem q6_apply : k0_pay33 (F := Ideal) (k0_pay11 A C) (k0_pay12 A) S (ix4 0 0 r x) = turn A C S 768 (by decide) r x * cScale := by
  pointwise [k0_pay33, k0_pay11, k0_pay12, k0_pay10, turn]

/-- The eighth head of a query block. -/
theorem q7_apply : k0_pay34 (F := Ideal) h w C S (ix4 0 0 r x) = turn (k0_pay32 h w) C S 896 (by decide) r x * cScale := by
  pointwise [k0_pay34, turn]

/-- The first head of a key block. -/
theorem k0_apply : k0_pay13 (F := Ideal) A C S (ix4 0 0 r x) = turn A C S 0 (by decide) r x := by
  pointwise [k0_pay13, turn]

/-- The second head of a key block. -/
theorem k1_apply : k0_pay14 (F := Ideal) A C S (ix4 0 0 r x) = turn A C S 128 (by decide) r x := by
  pointwise [k0_pay14, turn]

/-- The third head of a key block. -/
theorem k2_apply : k0_pay18 (F := Ideal) (k0_pay16 A C) (k0_pay17 A) S (ix4 0 0 r x) = turn A C S 256 (by decide) r x := by
  pointwise [k0_pay18, k0_pay16, k0_pay17, k0_pay15, turn]

/-- The fourth head of a key block. -/
theorem k3_apply : k0_pay19 (F := Ideal) A C S (ix4 0 0 r x) = turn A C S 384 (by decide) r x := by
  pointwise [k0_pay19, turn]

/-- The fifth head of a key block. -/
theorem k4_apply : k0_pay21 (F := Ideal) (k0_pay20 A C S) (ix4 0 0 r x) = turn A C S 512 (by decide) r x := by
  pointwise [k0_pay21, k0_pay20, turn]

/-- The sixth head of a key block. -/
theorem k5_apply : k0_pay22 (F := Ideal) A C S (ix4 0 0 r x) = turn A C S 640 (by decide) r x := by
  pointwise [k0_pay22, turn]

/-- The seventh head of a key block. -/
theorem k6_apply : k0_pay23 (F := Ideal) A C S (ix4 0 0 r x) = turn A C S 768 (by decide) r x := by
  pointwise [k0_pay23, turn]

/-- The eighth head of a key block. -/
theorem k7_apply : k0_pay35 (F := Ideal) (k0_pay24 A) C S (ix4 0 0 r x) = turn A C S 896 (by decide) r x := by
  pointwise [k0_pay35, k0_pay24, turn]

/-- The first head of a value block. -/
theorem v0_apply : k0_pay25 (F := Ideal) A (ix4 0 0 r x) = A (ix2 r ⟨0 + x.val, by omega⟩) := by
  pointwise [k0_pay25, turn]

/-- The second head of a value block. -/
theorem v1_apply : k0_pay26 (F := Ideal) A (ix4 0 0 r x) = A (ix2 r ⟨128 + x.val, by omega⟩) := by
  pointwise [k0_pay26, turn]

/-- The third head of a value block. -/
theorem v2_apply : k0_pay27 (F := Ideal) A (ix4 0 0 r x) = A (ix2 r ⟨256 + x.val, by omega⟩) := by
  pointwise [k0_pay27, turn]

/-- The fourth head of a value block. -/
theorem v3_apply : k0_pay28 (F := Ideal) A (ix4 0 0 r x) = A (ix2 r ⟨384 + x.val, by omega⟩) := by
  pointwise [k0_pay28, turn]

/-- The fifth head of a value block. -/
theorem v4_apply : k0_pay29 (F := Ideal) A (ix4 0 0 r x) = A (ix2 r ⟨512 + x.val, by omega⟩) := by
  pointwise [k0_pay29, turn]

/-- The sixth head of a value block. -/
theorem v5_apply : k0_pay30 (F := Ideal) A (ix4 0 0 r x) = A (ix2 r ⟨640 + x.val, by omega⟩) := by
  pointwise [k0_pay30, turn]

/-- The seventh head of a value block. -/
theorem v6_apply : k0_pay36 (F := Ideal) h w (ix4 0 0 r x) = (k0_pay32 h w) (ix2 r ⟨768 + x.val, by omega⟩) := by
  pointwise [k0_pay36, turn]

/-- The eighth head of a value block. -/
theorem v7_apply : k0_pay37 (F := Ideal) h w (ix4 0 0 r x) = (k0_pay32 h w) (ix2 r ⟨896 + x.val, by omega⟩) := by
  pointwise [k0_pay37, turn]

end Cert.Kernel4Ideal.Qkv
-- ==== Proof.Qkv.Cases.lean ====
module

public import proofs.«01_k».proof.Proof.Qkv.Heads

@[expose] public section

set_option maxRecDepth 16384
noncomputable section
open Idealize.ShloMosaic Idealize.ShloMosaic.TcCoe Idealize.SL.Sem
open Idealize.ShloMosaic.Pipeline (Dat)

/-! What each grid point of the query, key and value projection leaves: the first point of a run of six modulates the row
block and keeps it; two points write queries, two keys, two values. -/

namespace Cert.Kernel4Ideal.Qkv
open Cert.Kernel4Ideal Cert.Kernel4Ideal.Gen
variable (m : (ℓ : Loc nD τ sig) → Buf (Elt Ideal) ℓ) (c : Dev nD) (t : Fin cfg0.N)

/-- The block kept at the first point of a run. -/
theorem hid_A (h0 : t.val % 6 = 0) :
    (outsAt0 m c t.val t.isLt).2 = k0_pay31 (iblk m c 0 t) (iblk m c 1 t) (iblk m c 2 t) := by
  rw [outsAt0_A m c t h0 (by omega) (by omega) (by omega)]
  frame_out

/-- Every later point of a run keeps what the point before left. -/
theorem hid_BCD (h0 : ¬ t.val % 6 = 0) :
    (outsAt0 m c t.val t.isLt).2 = (outsAt0 m c (t.val - 1) (Nat.lt_of_le_of_lt (Nat.sub_le _ _) t.isLt)).2 := by
  by_cases h1 : t.val % 6 ≤ 1
  · rw [outsAt0_B m c t h0 h1 (by omega) (by omega)]
    rfl
  · by_cases h2 : t.val % 6 ≤ 3
    · rw [outsAt0_C m c t h0 h1 (by omega) (by omega)]
      rfl
    · rw [outsAt0_D m c t h0 h1 (by omega) (by omega)]
      rfl

/-- The product at a point: the kept block times the point's block of weights. -/
abbrev prodAt : FVec Ideal S512x1024 .f32 := k0_pay32 (F := Ideal) (outsAt0 m c t.val t.isLt).2 (iblk m c 3 t)

/-- A head's first column lies in the block of 1024. -/
theorem head_le (y : Fin 8) : y.val * 128 + 128 ≤ 1024 := by omega

/-- The block written at a point of case A. -/
theorem out_A (h0 : t.val % 6 = 0) (y : Fin 8) (r : Fin 512) (x : Fin 128) :
    (outsAt0 m c t.val t.isLt).1 (ix4 0 y r x) = turn (prodAt m c t) (iblk m c 4 t) (iblk m c 5 t) (y.val * 128) (head_le y) r x * cScale := by
  rw [prodAt]
  rw [hid_A m c t h0]
  rw [outsAt0_A m c t h0 (by omega) (by omega) (by omega)]
  dsimp only
  frame_open
  simp (disch := decide) only [↓ View.readCov_fill]
  frame_out
  generalize k0_pay31 (F := Ideal) _ _ _ = Z
  canon_tiles x h
  all_goals
    idx_vars x
    obtain rfl := Fin.fin_one_eq_zero x0
    obtain rfl := Fin.fin_one_eq_zero x1
  case piece0 =>
    have hr : x2 = r := Fin.ext (by omega)
    have hx : x3 = x := Fin.ext (by omega)
    have hy : y = ⟨7, by decide⟩ := Fin.ext (by simpa using h1)
    subst hr hx hy
    exact q7_apply ..
  case piece1 =>
    have hr : x2 = r := Fin.ext (by omega)
    have hx : x3 = x := Fin.ext (by omega)
    have hy : y = ⟨6, by decide⟩ := Fin.ext (by simpa using h1)
    subst hr hx hy
    exact q6_apply ..
  case piece2 =>
    have hr : x2 = r := Fin.ext (by omega)
    have hx : x3 = x := Fin.ext (by omega)
    have hy : y = ⟨5, by decide⟩ := Fin.ext (by simpa using h1)
    subst hr hx hy
    exact q5_apply ..
  case piece3 =>
    have hr : x2 = r := Fin.ext (by omega)
    have hx : x3 = x := Fin.ext (by omega)
    have hy : y = ⟨4, by decide⟩ := Fin.ext (by simpa using h1)
    subst hr hx hy
    exact q4_apply ..
  case piece4 =>
    have hr : x2 = r := Fin.ext (by omega)
    have hx : x3 = x := Fin.ext (by omega)
    have hy : y = ⟨3, by decide⟩ := Fin.ext (by simpa using h1)
    subst hr hx hy
    exact q3_apply ..
  case piece5 =>
    have hr : x2 = r := Fin.ext (by omega)
    have hx : x3 = x := Fin.ext (by omega)
    have hy : y = ⟨2, by decide⟩ := Fin.ext (by simpa using h1)
    subst hr hx hy
    exact q2_apply ..
  case piece6 =>
    have hr : x2 = r := Fin.ext (by omega)
    have hx : x3 = x := Fin.ext (by omega)
    have hy : y = ⟨1, by decide⟩ := Fin.ext (by simpa using h1)
    subst hr hx hy
    exact q1_apply ..
  case piece7 =>
    have hr : x2 = r := Fin.ext (by omega)
    have hx : x3 = x := Fin.ext (by omega)
    have hy : y = ⟨0, by decide⟩ := Fin.ext (by simpa using h1)
    subst hr hx hy
    exact q0_apply ..

/-- The block written at a point of case B. -/
theorem out_B (h0 : ¬ t.val % 6 = 0) (h1 : t.val % 6 ≤ 1) (y : Fin 8) (r : Fin 512) (x : Fin 128) :
    (outsAt0 m c t.val t.isLt).1 (ix4 0 y r x) = turn (prodAt m c t) (iblk m c 4 t) (iblk m c 5 t) (y.val * 128) (head_le y) r x * cScale := by
  rw [prodAt]
  rw [hid_BCD m c t h0]
  rw [outsAt0_B m c t h0 h1 (by omega) (by omega)]
  dsimp only
  frame_open
  simp (disch := decide) only [↓ View.readCov_fill]
  frame_out
  simp only [read_unread_whole]
  generalize (outsAt0 m c (t.val - 1) _).2 = Z
  canon_tiles x h
  all_goals
    idx_vars x
    obtain rfl := Fin.fin_one_eq_zero x0
    obtain rfl := Fin.fin_one_eq_zero x1
  case piece0 =>
    have hr : x2 = r := Fin.ext (by omega)
    have hx : x3 = x := Fin.ext (by omega)
    have hy : y = ⟨7, by decide⟩ := Fin.ext (by simpa using h1)
    subst hr hx hy
    exact q7_apply ..
  case piece1 =>
    have hr : x2 = r := Fin.ext (by omega)
    have hx : x3 = x := Fin.ext (by omega)
    have hy : y = ⟨6, by decide⟩ := Fin.ext (by simpa using h1)
    subst hr hx hy
    exact q6_apply ..
  case piece2 =>
    have hr : x2 = r := Fin.ext (by omega)
    have hx : x3 = x := Fin.ext (by omega)
    have hy : y = ⟨5, by decide⟩ := Fin.ext (by simpa using h1)
    subst hr hx hy
    exact q5_apply ..
  case piece3 =>
    have hr : x2 = r := Fin.ext (by omega)
    have hx : x3 = x := Fin.ext (by omega)
    have hy : y = ⟨4, by decide⟩ := Fin.ext (by simpa using h1)
    subst hr hx hy
    exact q4_apply ..
  case piece4 =>
    have hr : x2 = r := Fin.ext (by omega)
    have hx : x3 = x := Fin.ext (by omega)
    have hy : y = ⟨3, by decide⟩ := Fin.ext (by simpa using h1)
    subst hr hx hy
    exact q3_apply ..
  case piece5 =>
    have hr : x2 = r := Fin.ext (by omega)
    have hx : x3 = x := Fin.ext (by omega)
    have hy : y = ⟨2, by decide⟩ := Fin.ext (by simpa using h1)
    subst hr hx hy
    exact q2_apply ..
  case piece6 =>
    have hr : x2 = r := Fin.ext (by omega)
    have hx : x3 = x := Fin.ext (by omega)
    have hy : y = ⟨1, by decide⟩ := Fin.ext (by simpa using h1)
    subst hr hx hy
    exact q1_apply ..
  case piece7 =>
    have hr : x2 = r := Fin.ext (by omega)
    have hx : x3 = x := Fin.ext (by omega)
    have hy : y = ⟨0, by decide⟩ := Fin.ext (by simpa using h1)
    subst hr hx hy
    exact q0_apply ..

/-- The block written at a point of case C. -/
theorem out_C (h0 : ¬ t.val % 6 ≤ 1) (h1 : t.val % 6 ≤ 3) (y : Fin 8) (r : Fin 512) (x : Fin 128) :
    (outsAt0 m c t.val t.isLt).1 (ix4 0 y r x) = turn (prodAt m c t) (iblk m c 4 t) (iblk m c 5 t) (y.val * 128) (head_le y) r x := by
  rw [prodAt]
  rw [hid_BCD m c t (by omega)]
  rw [outsAt0_C m c t (by omega) h0 (by omega) (by omega)]
  dsimp only
  frame_open
  simp (disch := decide) only [↓ View.readCov_fill]
  frame_out
  simp only [read_unread_whole]
  generalize (outsAt0 m c (t.val - 1) _).2 = Z
  canon_tiles x h
  all_goals
    idx_vars x
    obtain rfl := Fin.fin_one_eq_zero x0
    obtain rfl := Fin.fin_one_eq_zero x1
  case piece0 =>
    have hr : x2 = r := Fin.ext (by omega)
    have hx : x3 = x := Fin.ext (by omega)
    have hy : y = ⟨7, by decide⟩ := Fin.ext (by simpa using h1)
    subst hr hx hy
    exact k7_apply ..
  case piece1 =>
    have hr : x2 = r := Fin.ext (by omega)
    have hx : x3 = x := Fin.ext (by omega)
    have hy : y = ⟨6, by decide⟩ := Fin.ext (by simpa using h1)
    subst hr hx hy
    exact k6_apply ..
  case piece2 =>
    have hr : x2 = r := Fin.ext (by omega)
    have hx : x3 = x := Fin.ext (by omega)
    have hy : y = ⟨5, by decide⟩ := Fin.ext (by simpa using h1)
    subst hr hx hy
    exact k5_apply ..
  case piece3 =>
    have hr : x2 = r := Fin.ext (by omega)
    have hx : x3 = x := Fin.ext (by omega)
    have hy : y = ⟨4, by decide⟩ := Fin.ext (by simpa using h1)
    subst hr hx hy
    exact k4_apply ..
  case piece4 =>
    have hr : x2 = r := Fin.ext (by omega)
    have hx : x3 = x := Fin.ext (by omega)
    have hy : y = ⟨3, by decide⟩ := Fin.ext (by simpa using h1)
    subst hr hx hy
    exact k3_apply ..
  case piece5 =>
    have hr : x2 = r := Fin.ext (by omega)
    have hx : x3 = x := Fin.ext (by omega)
    have hy : y = ⟨2, by decide⟩ := Fin.ext (by simpa using h1)
    subst hr hx hy
    exact k2_apply ..
  case piece6 =>
    have hr : x2 = r := Fin.ext (by omega)
    have hx : x3 = x := Fin.ext (by omega)
    have hy : y = ⟨1, by decide⟩ := Fin.ext (by simpa using h1)
    subst hr hx hy
    exact k1_apply ..
  case piece7 =>
    have hr : x2 = r := Fin.ext (by omega)
    have hx : x3 = x := Fin.ext (by omega)
    have hy : y = ⟨0, by decide⟩ := Fin.ext (by simpa using h1)
    subst hr hx hy
    exact k0_apply ..

/-- The block written at a point of case D. -/
theorem out_D (h0 : ¬ t.val % 6 ≤ 3) (y : Fin 8) (r : Fin 512) (x : Fin 128) :
    (outsAt0 m c t.val t.isLt).1 (ix4 0 y r x) = prodAt m c t (ix2 r ⟨y.val * 128 + x.val, by omega⟩) := by
  rw [prodAt]
  rw [hid_BCD m c t (by omega)]
  rw [outsAt0_D m c t (by omega) (by omega) (by omega) (by omega)]
  dsimp only
  frame_open
  simp (disch := decide) only [↓ View.readCov_fill]
  frame_out
  simp only [read_unread_whole]
  generalize (outsAt0 m c (t.val - 1) _).2 = Z
  canon_tiles x h
  all_goals
    idx_vars x
    obtain rfl := Fin.fin_one_eq_zero x0
    obtain rfl := Fin.fin_one_eq_zero x1
  case piece0 =>
    have hr : x2 = r := Fin.ext (by omega)
    have hx : x3 = x := Fin.ext (by omega)
    have hy : y = ⟨7, by decide⟩ := Fin.ext (by simpa using h1)
    subst hr hx hy
    exact v7_apply ..
  case piece1 =>
    have hr : x2 = r := Fin.ext (by omega)
    have hx : x3 = x := Fin.ext (by omega)
    have hy : y = ⟨6, by decide⟩ := Fin.ext (by simpa using h1)
    subst hr hx hy
    exact v6_apply ..
  case piece2 =>
    have hr : x2 = r := Fin.ext (by omega)
    have hx : x3 = x := Fin.ext (by omega)
    have hy : y = ⟨5, by decide⟩ := Fin.ext (by simpa using h1)
    subst hr hx hy
    exact v5_apply ..
  case piece3 =>
    have hr : x2 = r := Fin.ext (by omega)
    have hx : x3 = x := Fin.ext (by omega)
    have hy : y = ⟨4, by decide⟩ := Fin.ext (by simpa using h1)
    subst hr hx hy
    exact v4_apply ..
  case piece4 =>
    have hr : x2 = r := Fin.ext (by omega)
    have hx : x3 = x := Fin.ext (by omega)
    have hy : y = ⟨3, by decide⟩ := Fin.ext (by simpa using h1)
    subst hr hx hy
    exact v3_apply ..
  case piece5 =>
    have hr : x2 = r := Fin.ext (by omega)
    have hx : x3 = x := Fin.ext (by omega)
    have hy : y = ⟨2, by decide⟩ := Fin.ext (by simpa using h1)
    subst hr hx hy
    exact v2_apply ..
  case piece6 =>
    have hr : x2 = r := Fin.ext (by omega)
    have hx : x3 = x := Fin.ext (by omega)
    have hy : y = ⟨1, by decide⟩ := Fin.ext (by simpa using h1)
    subst hr hx hy
    exact v1_apply ..
  case piece7 =>
    have hr : x2 = r := Fin.ext (by omega)
    have hx : x3 = x := Fin.ext (by omega)
    have hy : y = ⟨0, by decide⟩ := Fin.ext (by simpa using h1)
    subst hr hx hy
    exact v0_apply ..

end Cert.Kernel4Ideal.Qkv
-- ==== Proof.Qkv.Array.lean ====
module

public import proofs.«01_k».proof.Proof.Qkv.Cases
public import Idealize.ShloMosaic.Lib.Pipeline.ValueKit.Held

@[expose] public section

set_option maxRecDepth 16384
noncomputable section
open Idealize.ShloMosaic Idealize.ShloMosaic.TcCoe Idealize.SL.Sem
open Idealize.ShloMosaic.Pipeline (Dat)

/-! The query, key and value projection as a function of the arguments, and the kernel's result array as that function. -/

namespace Cert.Kernel4Ideal.Qkv
open Cert.Kernel4Ideal Cert.Kernel4Ideal.Gen

/-- Which block of its array each window reads at grid point `t`: batch `t/96`, row block `t/6 % 16`, block of eight heads
`t % 6`. -/
theorem idx_val : ∀ t : Fin cfg0.N,
    win0_0.index t = ![t.val / 96, t.val / 6 % 16, 0] ∧ win0_1.index t = ![t.val / 96, 0, 0]
    ∧ win0_2.index t = ![t.val / 96, 0, 0] ∧ win0_3.index t = ![0, t.val % 6]
    ∧ win0_4.index t = ![t.val / 96, t.val / 6 % 16, 0] ∧ win0_5.index t = ![t.val / 96, t.val / 6 % 16, 0]
    ∧ win0_6.index t = ![t.val / 96, t.val % 6, t.val / 6 % 16, 0] :=
  (by decide +kernel : ∀ t : Fin grid0.N, _)

section Angles

/-- The frequencies: the power of 10000 with exponent `-2i/128`, for `i` below 64. -/
def freqT : FVec Ideal S64 .f32 :=
  Host.divf (broadcastInDim S64 ![] bcast_S_S64 (constant S_ .f32 0x3F800000#32))
    (Host.powf (broadcastInDim S64 ![] bcast_S_S64 (constant S_ .f32 0x461C4000#32))
      (Host.divf (addf (broadcastInDim S64 ![] bcast_S_S64 (constant S_ .f32 0x00000000#32))
          (mulf (broadcastInDim S64 ![] bcast_S_S64 (constant S_ .f32 0x40000000#32)) (sitofp .f32 (iotaInDim S64 32 0))))
        (broadcastInDim S64 ![] bcast_S_S64 (constant S_ .f32 0x43000000#32))))

/-- The angles: each position times each frequency. -/
def angT (p : Vec Ideal S2x8192 .i32) : FVec Ideal S2x8192x64 .f32 :=
  mulf (broadcastInDim S2x8192x64 ![0, 1, 2] bcast_S2x8192x1_S2x8192x64_0_1_2 (broadcastInDim S2x8192x1 ![0, 1] bcast_S2x8192_S2x8192x1_0_1 (sitofp .f32 p)))
    (broadcastInDim S2x8192x64 ![0, 1, 2] bcast_S1x1x64_S2x8192x64_0_1_2 (broadcastInDim S1x1x64 ![2] bcast_S64_S1x1x64_2 freqT))

/-- The cosines of the angles. -/
def cosT (p : Vec Ideal S2x8192 .i32) : FVec Ideal S2x8192x64 .f32 := Host.cos (angT p)
/-- The sines of the angles. -/
def sinT (p : Vec Ideal S2x8192 .i32) : FVec Ideal S2x8192x64 .f32 := Host.sin (angT p)
/-- A table of 128 columns from two of 64. -/
def pairT (L R : FVec Ideal S2x8192x64 .f32) : FVec Ideal S2x8192x128 .f32 :=
  concatenate S2x8192x128 2 [⟨S2x8192x64, L⟩, ⟨S2x8192x64, R⟩] concatenates_S2x8192x64_S2x8192x64_S2x8192x128_d2

theorem pairT_lo (L R : FVec Ideal S2x8192x64 .f32) (b : Fin 2) (s : Fin 8192) (x : Fin 128) (h : x.val < 64) :
    pairT L R (ix3 b s x) = L (ix3 b s ⟨x.val, h⟩) := by
  pointwise [pairT]
  exact dif_pos h
theorem pairT_hi (L R : FVec Ideal S2x8192x64 .f32) (b : Fin 2) (s : Fin 8192) (x : Fin 128) (h : ¬ x.val < 64) :
    pairT L R (ix3 b s x) = R (ix3 b s ⟨x.val - 64, by omega⟩) := by
  pointwise [pairT]
  exact dif_neg h
end Angles

section Spec
variable (X : Vec Ideal S2x8192x2048 .f32) (SC SH : Vec Ideal S2x1x2048 .f32) (W : Vec Ideal S2048x6144 .f32) (p : Vec Ideal S2x8192 .i32)

/-- One element of the projection of the modulated input. -/
def projAt (b : Fin 2) (s : Fin 8192) (d : Fin 6144) : EReal :=
  ∑ k : Fin 2048, (X (ix3 b s k) * (1 + SC (ix3 b 0 k)) + SH (ix3 b 0 k)) * W (ix2 k d)

/-- The rotation of a row of 128 by the position's angles: column `x` of the first half goes with column `x + 64`. -/
def rope (b : Fin 2) (s : Fin 8192) (f : Fin 128 → EReal) (x : Fin 128) : EReal :=
  if h : x.val < 64 then
    f x * cosT p (ix3 b s ⟨x.val, h⟩) - f ⟨x.val + 64, by omega⟩ * sinT p (ix3 b s ⟨x.val, h⟩)
  else f x * cosT p (ix3 b s ⟨x.val - 64, by omega⟩) + f ⟨x.val - 64, by omega⟩ * sinT p (ix3 b s ⟨x.val - 64, by omega⟩)

/-- The 128 columns of head `n` of the projection. -/
def headAt (b : Fin 2) (n : Fin 48) (s : Fin 8192) (x : Fin 128) : EReal := projAt X SC SH W b s ⟨n.val * 128 + x.val, by omega⟩

/-- One element of the result: sixteen heads of turned and scaled queries, sixteen of turned keys, sixteen of values. -/
def qkvAt (b : Fin 2) (n : Fin 48) (s : Fin 8192) (x : Fin 128) : EReal :=
  if n.val < 16 then rope p b s (headAt X SC SH W b n s) x * cScale
  else if n.val < 32 then rope p b s (headAt X SC SH W b n s) x
  else headAt X SC SH W b n s x

/-- The kernel's form of the rotation: the tables hold the cosines twice, and the sines negated and as they are. -/
theorem rope_eq (b : Fin 2) (s : Fin 8192) (f : Fin 128 → EReal) (x : Fin 128) :
    f x * pairT (cosT p) (cosT p) (ix3 b s x) + f ⟨(x.val + 128 - 64) % 128, by omega⟩ * pairT (negf (sinT p)) (sinT p) (ix3 b s x)
      = rope p b s f x := by
  by_cases h : x.val < 64
  · have e : (⟨(x.val + 128 - 64) % 128, by omega⟩ : Fin 128) = ⟨x.val + 64, by omega⟩ := Fin.ext (by dsimp only; omega)
    rw [pairT_lo _ _ _ _ _ h, pairT_lo _ _ _ _ _ h, rope, dif_pos h, e, sub_eq_add_neg, ← mul_neg]
    rfl
  · have e : (⟨(x.val + 128 - 64) % 128, by omega⟩ : Fin 128) = ⟨x.val - 64, by omega⟩ := Fin.ext (by dsimp only; omega)
    rw [pairT_hi _ _ _ _ _ h, pairT_hi _ _ _ _ _ h, rope, dif_neg h, e]
end Spec

variable (m : (ℓ : Loc nD τ sig) → Buf (Elt Ideal) ℓ)

/-- The input rows. -/
abbrev aX (c : Dev nD) : Vec Ideal S2x8192x2048 .f32 := m ((c : Thread nD τ).loc main_arg0)
/-- The scale rows. -/
abbrev aSC (c : Dev nD) : Vec Ideal S2x1x2048 .f32 := m ((c : Thread nD τ).loc main_arg1)
/-- The shift rows. -/
abbrev aSH (c : Dev nD) : Vec Ideal S2x1x2048 .f32 := m ((c : Thread nD τ).loc main_arg2)
/-- The weights. -/
abbrev aW (c : Dev nD) : Vec Ideal S2048x6144 .f32 := m ((c : Thread nD τ).loc main_arg3)
/-- The positions. -/
abbrev aP (c : Dev nD) : Vec Ideal S2x8192 .i32 := m ((c : Thread nD τ).loc main_arg4)

/-- The table of cosines the host hands to the call. -/
theorem host_cos (c : Dev nD) : (V m c main_v19 : FVec Ideal S2x8192x128 .f32) = pairT (cosT (aP m c)) (cosT (aP m c)) := rfl
/-- The table of sines the host hands to the call. -/
theorem host_sin (c : Dev nD) : (V m c main_v21 : FVec Ideal S2x8192x128 .f32) = pairT (negf (sinT (aP m c))) (sinT (aP m c)) := rfl

section Blocks
variable (c : Dev nD) (t : Fin cfg0.N)

/-- A point's batch is one of the two. -/
theorem bound_b : t.val / 96 < 2 := by have h : t.val < 192 := t.isLt; omega
/-- A row of a point's block is a row of the array. -/
theorem bound_s (r : Fin 512) : t.val / 6 % 16 * 512 + r.val < 8192 := by omega
/-- The batch of a point. -/
abbrev bt : Fin 2 := ⟨t.val / 96, bound_b t⟩
/-- The row of the array that row `r` of a point's block is. -/
abbrev st (r : Fin 512) : Fin 8192 := ⟨t.val / 6 % 16 * 512 + r.val, bound_s t r⟩

/-- Row `r` of the block of the input at point `t`. -/
theorem blk_x (r : Fin 512) (k : Fin 2048) :
    (iblk m c 0 t : Vec Ideal S1x512x2048 .f32) (ix3 0 r k) = aX m c (ix3 (bt t) (st t r) k) := by
  blk_ext [iblk, V, idx_val t]
/-- The scale of the batch at point `t`. -/
theorem blk_sc (k : Fin 2048) :
    (iblk m c 1 t : Vec Ideal S1x1x2048 .f32) (ix3 0 0 k) = aSC m c (ix3 (bt t) 0 k) := by
  blk_ext [iblk, V, idx_val t]
/-- The shift of the batch at point `t`. -/
theorem blk_sh (k : Fin 2048) :
    (iblk m c 2 t : Vec Ideal S1x1x2048 .f32) (ix3 0 0 k) = aSH m c (ix3 (bt t) 0 k) := by
  blk_ext [iblk, V, idx_val t]
/-- The columns of the weights at point `t`. -/
theorem blk_w (k : Fin 2048) (d : Fin 1024) :
    (iblk m c 3 t : Vec Ideal S2048x1024 .bf16) (ix2 k d) = aW m c (ix2 k ⟨t.val % 6 * 1024 + d.val, by omega⟩) := by
  blk_ext [iblk, V, idx_val t]
/-- The cosines of the rows at point `t`. -/
theorem blk_cos (r : Fin 512) (x : Fin 128) :
    (iblk m c 4 t : Vec Ideal S1x512x128 .f32) (ix3 0 r x) = pairT (cosT (aP m c)) (cosT (aP m c)) (ix3 (bt t) (st t r) x) := by
  rw [← host_cos m c]
  blk_ext [iblk, idx_val t]
/-- The sines of the rows at point `t`. -/
theorem blk_sin (r : Fin 512) (x : Fin 128) :
    (iblk m c 5 t : Vec Ideal S1x512x128 .f32) (ix3 0 r x) = pairT (negf (sinT (aP m c))) (sinT (aP m c)) (ix3 (bt t) (st t r) x) := by
  rw [← host_sin m c]
  blk_ext [iblk, idx_val t]

/-- At every point of a run the kept block holds the run's modulated rows. -/
theorem hid_eq (r : Fin 512) (k : Fin 2048) :
    (outsAt0 m c t.val t.isLt).2 (ix2 r k)
      = aX m c (ix3 (bt t) (st t r) k) * (1 + aSC m c (ix3 (bt t) 0 k)) + aSH m c (ix3 (bt t) 0 k) := by
  have h := Pipeline.eq_of_write_hold (fun n h => (outsAt0 m c n h).2) 6
    (fun t => k0_pay31 (F := Ideal) (iblk m c 0 t) (iblk m c 1 t) (iblk m c 2 t)) (hid_A m c) (hid_BCD m c) t
  refine (congrFun h (ix2 r k)).trans ?_
  refine (mod_apply _ _ _ r k).trans ?_
  rw [blk_x, blk_sc, blk_sh]
  have e : 6 * (t.val / 6) / 6 = t.val / 6 := by omega
  have e' : 6 * (t.val / 6) / 96 = t.val / 96 := by omega
  simp only [bt, st, e, e']

/-- The product at a point is the projection's block. -/
theorem prod_eq (r : Fin 512) (d : Fin 1024) :
    prodAt m c t (ix2 r d) = projAt (aX m c) (aSC m c) (aSH m c) (aW m c) (bt t) (st t r) ⟨t.val % 6 * 1024 + d.val, by omega⟩ := by
  refine (prod_apply _ _ r d).trans ?_
  simp only [hid_eq, blk_w]
  rfl

/-- The head of the result that head `y` of a point's block is. -/
abbrev nt (y : Fin 8) : Fin 48 := ⟨t.val % 6 * 8 + y.val, by omega⟩

/-- The columns of a head of the product are the columns of that head of the projection. -/
theorem head_eq (y : Fin 8) (r : Fin 512) (x : Fin 128) :
    prodAt m c t (ix2 r ⟨y.val * 128 + x.val, by omega⟩) = headAt (aX m c) (aSC m c) (aSH m c) (aW m c) (bt t) (nt t y) (st t r) x := by
  rw [prod_eq, headAt]
  congr 1
  exact Fin.ext (by dsimp only; omega)

/-- A turned head of the product is the rotation of that head of the projection. -/
theorem turn_eq (y : Fin 8) (r : Fin 512) (x : Fin 128) :
    turn (prodAt m c t) (iblk m c 4 t) (iblk m c 5 t) (y.val * 128) (head_le y) r x
      = rope (aP m c) (bt t) (st t r) (headAt (aX m c) (aSC m c) (aSH m c) (aW m c) (bt t) (nt t y) (st t r)) x := by
  rw [turn, blk_cos, blk_sin, ← rope_eq]
  rw [head_eq m c t y r x, head_eq m c t y r ⟨(x.val + 128 - 64) % 128, by omega⟩]

/-- The output block at a point. -/
theorem out_eq (y : Fin 8) (r : Fin 512) (x : Fin 128) :
    (outsAt0 m c t.val t.isLt).1 (ix4 0 y r x)
      = qkvAt (aX m c) (aSC m c) (aSH m c) (aW m c) (aP m c) (bt t) (nt t y) (st t r) x := by
  unfold qkvAt
  by_cases h0 : t.val % 6 = 0
  · rw [if_pos (by dsimp only; omega), out_A m c t h0, turn_eq]
  by_cases h1 : t.val % 6 ≤ 1
  · rw [if_pos (by dsimp only; omega), out_B m c t h0 h1, turn_eq]
  by_cases h2 : t.val % 6 ≤ 3
  · rw [if_neg (by dsimp only; omega), if_pos (by dsimp only; omega), out_C m c t h1 h2, turn_eq]
  · rw [if_neg (by dsimp only; omega), if_neg (by dsimp only; omega), out_D m c t h2, head_eq]

end Blocks

/-- Where row `r` of head `y` of the output block of point `t` lies in the result array. -/
theorem out_place (t : Fin cfg0.N) (y : Fin 8) (r : Fin 512) (x : Fin 128) :
    (((View.whole main_v23).slice (win0_6.rect t)).emb (ix4 0 y r x) : S2x48x8192x128.Idx) = ix4 (bt t) (nt t y) (st t r) x := by
  blk_ext [idx_val t]

/-- The result of the arguments as an array. -/
def qkvArr (c : Dev nD) : Vec Ideal S2x48x8192x128 .bf16 := fun i =>
  qkvAt (aX m c) (aSC m c) (aSH m c) (aW m c) (aP m c) (i 0) (i 1) (i 2) (i 3)

/-- The block written back at a point is that block of the array. -/
theorem block_eq (c : Dev nD) (t : Fin cfg0.N) (y : S1x8x512x128.Idx) :
    (outsAt0 m c t.val t.isLt).1 y = qkvArr m c (((View.whole main_v23).slice (win0_6.rect t)).emb y) := by
  obtain ⟨y0, n, r, x, rfl⟩ : ∃ y0 n r x, y = ix4 y0 n r x := ⟨y 0, y 1, y 2, y 3, eq_ix4 y⟩
  obtain rfl := Fin.fin_one_eq_zero y0
  refine (out_eq m c t n r x).trans ?_
  exact (congrArg (qkvArr m c) (out_place t n r x)).symm

/-- The kernel's result array holds the queries, keys and values of the arguments. -/
theorem final (c : Dev nD) : (dats m 0 c).arrAt 6 cfg0.N = qkvArr m c := by
  refine (dats m 0 c).arrAt_eq_of_covers 6 _ (by decide +kernel) fun t hf y => ?_
  rw [after0_6]
  exact block_eq m c t _

end Cert.Kernel4Ideal.Qkv
-- ==== Proof.Qkv.Reference.lean ====
module

public import proofs.«01_k».proof.Proof.Qkv.Array
public import proofs.«01_k».proof.Proof.Gen.Reference4Ideal.Run

@[expose] public section

set_option maxRecDepth 16384
noncomputable section
open Idealize.ShloMosaic Idealize.ShloMosaic.TcCoe Idealize.SL.Sem

/-! The reference of the query, key and value projection, read at an index. -/

namespace Cert.Reference4Ideal.Qkv
open Cert.Reference4Ideal Cert.Reference4Ideal.Gen Cert.Reference4Ideal.Value
open Cert.Kernel4Ideal.Qkv (projAt headAt rope qkvAt cosT sinT cScale)

variable (X : FVec Ideal S2x8192x2048 .f32) (SC SH : FVec Ideal S2x1x2048 .f32) (W : FVec Ideal S2048x6144 .f32) (p : Vec Ideal S2x8192 .i32)

/-- The projection of the modulated input. -/
def projT : FVec Ideal S2x8192x6144 .f32 :=
  Host.dotGeneral dot_S2x8192x2048_S2048x6144_S2x8192x6144_2_0_01_1_n_n none
    (addf (mulf X (broadcastInDim S2x8192x2048 ![0, 1, 2] bcast_S2x1x2048_S2x8192x2048_0_1_2
        (addf (broadcastInDim S2x1x2048 ![] bcast_S_S2x1x2048 (constant S_ .f32 0x3F800000#32)) SC)))
      (broadcastInDim S2x8192x2048 ![0, 1, 2] bcast_S2x1x2048_S2x8192x2048_0_1_2 SH)) W

theorem projT_apply (b : Fin 2) (s : Fin 8192) (d : Fin 6144) : projT X SC SH W (ix3 b s d) = projAt X SC SH W b s d := by
  pointwise [projT, projAt]

/-- The sixteen heads of the queries, of any projection `P`. -/
def qT (P : FVec Ideal S2x8192x6144 .f32) : FVec Ideal S2x8192x16x128 .f32 :=
  shapeCast _ (extractStridedSlice S2x8192x2048 ![0, 0, 0] P slices_S2x8192x6144_S2x8192x2048_0_0_0) shapeCasts_S2x8192x2048_S2x8192x16x128
/-- The sixteen heads of the keys. -/
def kT (P : FVec Ideal S2x8192x6144 .f32) : FVec Ideal S2x8192x16x128 .f32 :=
  shapeCast _ (extractStridedSlice S2x8192x2048 ![0, 0, 2048] P slices_S2x8192x6144_S2x8192x2048_0_0_2048) shapeCasts_S2x8192x2048_S2x8192x16x128
/-- The sixteen heads of the values. -/
def vT (P : FVec Ideal S2x8192x6144 .f32) : FVec Ideal S2x8192x16x128 .f32 :=
  shapeCast _ (extractStridedSlice S2x8192x2048 ![0, 0, 4096] P slices_S2x8192x6144_S2x8192x2048_0_0_4096) shapeCasts_S2x8192x2048_S2x8192x16x128

section Parts
variable (P : FVec Ideal S2x8192x6144 .f32) (b : Fin 2) (s : Fin 8192) (n : Fin 16) (x : Fin 128)

theorem qT_apply : qT P (ix4 b s n x) = P (ix3 b s ⟨n.val * 128 + x.val, by omega⟩) := by pointwise [qT]
theorem kT_apply : kT P (ix4 b s n x) = P (ix3 b s ⟨2048 + (n.val * 128 + x.val), by omega⟩) := by pointwise [kT]
theorem vT_apply : vT P (ix4 b s n x) = P (ix3 b s ⟨4096 + (n.val * 128 + x.val), by omega⟩) := by pointwise [vT]

/-- An array of angles spread over the heads. -/
def spread (T : FVec Ideal S2x8192x64 .f32) : FVec Ideal S2x8192x16x64 .f32 :=
  broadcastInDim S2x8192x16x64 ![0, 1, 2, 3] bcast_S2x8192x1x64_S2x8192x16x64_0_1_2_3 (broadcastInDim S2x8192x1x64 ![0, 1, 3] bcast_S2x8192x64_S2x8192x1x64_0_1_3 T)

/-- The first half of the columns of each head. -/
def lo (Q : FVec Ideal S2x8192x16x128 .f32) : FVec Ideal S2x8192x16x64 .f32 := extractStridedSlice S2x8192x16x64 ![0, 0, 0, 0] Q slices_S2x8192x16x128_S2x8192x16x64_0_0_0_0
/-- The second half of the columns of each head. -/
def hi (Q : FVec Ideal S2x8192x16x128 .f32) : FVec Ideal S2x8192x16x64 .f32 := extractStridedSlice S2x8192x16x64 ![0, 0, 0, 64] Q slices_S2x8192x16x128_S2x8192x16x64_0_0_0_64

/-- The rotation, of any cosines and sines. -/
def ropeT (C S : FVec Ideal S2x8192x64 .f32) (Q : FVec Ideal S2x8192x16x128 .f32) : FVec Ideal S2x8192x16x128 .f32 :=
  concatenate S2x8192x16x128 3 [⟨S2x8192x16x64, subf (mulf (lo Q) (spread C)) (mulf (hi Q) (spread S))⟩,
    ⟨S2x8192x16x64, addf (mulf (hi Q) (spread C)) (mulf (lo Q) (spread S))⟩] concatenates_S2x8192x16x64_S2x8192x16x64_S2x8192x16x128_d3

variable (C S : FVec Ideal S2x8192x64 .f32) (Q : FVec Ideal S2x8192x16x128 .f32)

theorem ropeT_lo (h : x.val < 64) : ropeT C S Q (ix4 b s n x)
    = Q (ix4 b s n x) * C (ix3 b s ⟨x.val, h⟩) - Q (ix4 b s n ⟨x.val + 64, by omega⟩) * S (ix3 b s ⟨x.val, h⟩) := by
  pointwise [ropeT, lo, hi, spread]
  have e : (⟨x.val + 64, by omega⟩ : Fin 128) = ⟨64 + x.val, by omega⟩ := Fin.ext (Nat.add_comm _ _)
  rw [e]
  exact dif_pos h
theorem ropeT_hi (h : ¬ x.val < 64) : ropeT C S Q (ix4 b s n x)
    = Q (ix4 b s n x) * C (ix3 b s ⟨x.val - 64, by omega⟩) + Q (ix4 b s n ⟨x.val - 64, by omega⟩) * S (ix3 b s ⟨x.val - 64, by omega⟩) := by
  pointwise [ropeT, lo, hi, spread]
  have e : x = ⟨64 + (x.val - 64), by omega⟩ := Fin.ext (by dsimp only; omega)
  refine (dif_neg h).trans ?_
  rw [← e]

/-- The rotation at an element: of the row `f` that the head holds. -/
theorem ropeT_apply (f : Fin 128 → EReal) (hf : ∀ x, Q (ix4 b s n x) = f x) :
    ropeT (cosT p) (sinT p) Q (ix4 b s n x) = rope p b s f x := by
  by_cases h : x.val < 64
  · rw [ropeT_lo _ _ _ _ _ _ _ h, rope, dif_pos h, hf, hf]
  · rw [ropeT_hi _ _ _ _ _ _ _ h, rope, dif_neg h, hf, hf]

/-- The queries scaled. -/
def scaleT (Q : FVec Ideal S2x8192x16x128 .f32) : FVec Ideal S2x8192x16x128 .f32 :=
  mulf Q (broadcastInDim S2x8192x16x128 ![] bcast_S_S2x8192x16x128 (constant S_ .f32 0x3DB504F3#32))
theorem scaleT_apply : scaleT Q (ix4 b s n x) = Q (ix4 b s n x) * cScale := by pointwise [scaleT]
end Parts

/-- The three groups of heads one after another, the head axis moved before the rows. -/
def joinT (Q K V : FVec Ideal S2x8192x16x128 .f32) : FVec Ideal S2x48x8192x128 .bf16 :=
  truncf .bf16 (transpose S2x48x8192x128 [0, 2, 1, 3] ((concatenate S2x8192x48x128 2 [⟨S2x8192x16x128, Q⟩, ⟨S2x8192x16x128, K⟩, ⟨S2x8192x16x128, V⟩]
    concatenates_S2x8192x16x128_S2x8192x16x128_S2x8192x16x128_S2x8192x48x128_d2 : (⟨S2x8192x48x128, .f32⟩ : BufTy).Contents (Elt Ideal))) transposes_S2x8192x48x128_S2x48x8192x128_0_2_1_3) bitsLt_bf16_f32

section Join
variable (Q K V : FVec Ideal S2x8192x16x128 .f32) (b : Fin 2) (n : Fin 48) (s : Fin 8192) (x : Fin 128)
theorem joinT_q (h : n.val < 16) : joinT Q K V (ix4 b n s x) = Q (ix4 b s ⟨n.val, h⟩ x) := by
  pointwise [joinT]
  exact dif_pos h
theorem joinT_k (h : ¬ n.val < 16) (h' : n.val < 32) : joinT Q K V (ix4 b n s x) = K (ix4 b s ⟨n.val - 16, by omega⟩ x) := by
  pointwise [joinT]
  exact (dif_neg h).trans (dif_pos (by omega))
theorem joinT_v (h : ¬ n.val < 32) : joinT Q K V (ix4 b n s x) = V (ix4 b s ⟨n.val - 32, by omega⟩ x) := by
  pointwise [joinT]
  have e : (⟨n.val - 32, by omega⟩ : Fin 16) = ⟨n.val - 16 - 16, by omega⟩ := Fin.ext (by dsimp only; omega)
  rw [e]
  exact (dif_neg (by omega)).trans (dif_neg (by omega))
end Join

/-- The reference's operations on the five arrays. -/
def refT : FVec Ideal S2x48x8192x128 .bf16 :=
  joinT (scaleT (ropeT (cosT p) (sinT p) (qT (projT X SC SH W)))) (ropeT (cosT p) (sinT p) (kT (projT X SC SH W))) (vT (projT X SC SH W))

/-- The reference's result at an element. -/
theorem refT_apply (b : Fin 2) (n : Fin 48) (s : Fin 8192) (x : Fin 128) :
    refT X SC SH W p (ix4 b n s x) = qkvAt X SC SH W p b n s x := by
  unfold refT qkvAt
  by_cases h : n.val < 16
  · rw [if_pos h, joinT_q _ _ _ _ _ _ _ h, scaleT_apply]
    rw [ropeT_apply p b s _ x _ (headAt X SC SH W b n s) fun x => ?_]
    rw [qT_apply, projT_apply]
    rfl
  by_cases h' : n.val < 32
  · rw [if_neg h, if_pos h', joinT_k _ _ _ _ _ _ _ h h']
    refine ropeT_apply p b s _ x _ (headAt X SC SH W b n s) fun x => ?_
    rw [kT_apply, projT_apply, headAt]
    congr 1
    exact Fin.ext (by dsimp only; omega)
  · rw [if_neg h, if_neg h', joinT_v _ _ _ _ _ _ _ h', vT_apply, projT_apply, headAt]
    congr 1
    exact Fin.ext (by dsimp only; omega)

variable (m : (ℓ : Loc nD τ sig) → Buf (Elt Ideal) ℓ) (c : Dev nD)

/-- The reference's result is the composition of its operations. -/
theorem res_eq : res_out0 m c = refT (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) := rfl

end Cert.Reference4Ideal.Qkv
-- ==== Proof.Glu.Rows.lean ====
/- The frame of the call `matmul_res_ln`: each grid point writes one tile of 512 columns into its slice of the
   scratch, and the fourth point of a run of four normalises the whole rows it has gathered. -/
module

public import proofs.«01_k».proof.Proof.Gen.Kernel5Ideal.Frame
public import proofs.«01_k».proof.Proof.Gen.Kernel5Ideal.Skeleton
public import Idealize.ShloMosaic.Lib.Pipeline.ReadBack
public import Idealize.ShloMosaic.Lib.VecWindow
public import Idealize.ShloMosaic.Lib.Claim
public import Idealize.ShloMosaic.Lib.ValueIdxCore

@[expose] public section

set_option maxRecDepth 16384
noncomputable section
namespace Cert.Kernel5Ideal.Rows
open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.ValueIdx (ix3)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body normalises exactly at the last point of a run of four. -/
theorem last_iff : ∀ t : Fin cfg0.N, k0_cond1 (grid0.coords t) = 1#1 ↔ t.val % 4 = 3 := by decide +kernel

/-- The slice a point writes is the one of its place in the run. -/
theorem off_eq : ∀ t : Fin cfg0.N, k0_off1 (grid0.coords t) = ![t.val % 4, 0, 0] := by decide +kernel

/-- The result's window is idle before the last point of a run, -/
theorem idle_out : ∀ t : Fin cfg0.N, ¬ t.val % 4 = 3 → cfg0.idle 9 (grid0.coords t) = true := by decide +kernel

/-- is not written back there, -/
theorem keep_out (t : Fin cfg0.N) (h : ¬ t.val % 4 = 3) : (cfg0.win 9).flush t = false :=
  Bool.eq_false_iff.mpr fun hf => h ((flush0_9 t).mp hf)

/-- and is stored into at the last point. -/
theorem live_out : ∀ t : Fin cfg0.N, t.val % 4 = 3 → cfg0.idle 9 (grid0.coords t) = false := by decide +kernel

/-- The scratch as the pipeline passes it. -/
abbrev scr : Memref sig .tc .vmem S4x512x512 .f32 := Memref.whole cc0_scratch0

/-- The region's scratch and generator register, the scratch as a memref owned at some contents. -/
theorem rest_eq (c : Dev nD) :
    (Pipeline.ΦA spec0 c : sProp 𝕄) = iprop((∃ d, owns (c : Thread nD τ) scr fullShare d) ∗ (∃ r, prngReg c r)) := by
  unfold Pipeline.ΦA; rw [scopedRest0_eq]; simp only [scr, owns_whole]; try rfl

/-! ## What a point computes -/
/-- The scratch with a point's tile put into its slice. -/
def slot (i : grid0.Coords) (xs : Vec F S4x512x512 .f32) (p : Vec F S1x512x512 .f32) : Vec F S4x512x512 .f32 :=
  VecWindow.put xs (k0_off1 i) S1x512x512.size p

/-- The normalised rows over the gathered tiles `xs`, four tiles of columns side by side, with the scale `g` and the shift `b`. -/
def rowsOf (xs : Vec F S4x512x512 .f32) (g b : Vec F S1x2048 .f32) : Vec F S1x512x2048 .f32 :=
  let a0 : Vec F S1x512x512 .f32 := VecWindow.window xs ![0, 0, 0] S1x512x512.size inb_S4x512x512_S1x512x512_0_0_0
  let a1 : Vec F S1x512x512 .f32 := VecWindow.window xs ![1, 0, 0] S1x512x512.size inb_S4x512x512_S1x512x512_1_0_0
  let a2 : Vec F S1x512x512 .f32 := VecWindow.window xs ![2, 0, 0] S1x512x512.size inb_S4x512x512_S1x512x512_2_0_0
  let a3 : Vec F S1x512x512 .f32 := VecWindow.window xs ![3, 0, 0] S1x512x512.size inb_S4x512x512_S1x512x512_3_0_0
  View.canon [
    (⟨Rect.unit (s := S1x512x2048) ![0, 0, 1536] S1x512x512.size inb_S1x512x2048_S1x512x512_0_0_1536,
      k0_pay2 (k0_pay6 a3) (k0_pay7 a0 a1 a2 a3) (k0_pay10 (k0_pay8 a0 a1 a2 a3) (k0_pay9 a0 a1 a2 a3))
        (VecWindow.window g ![0, 1536] S1x512.size inb_S1x2048_S1x512_0_1536)
        (VecWindow.window b ![0, 1536] S1x512.size inb_S1x2048_S1x512_0_1536)⟩ : View.Piece (Elt F) S1x512x2048 .f32),
    ⟨Rect.unit (s := S1x512x2048) ![0, 0, 1024] S1x512x512.size inb_S1x512x2048_S1x512x512_0_0_1024,
      k0_pay1 (k0_pay10 (k0_pay8 a0 a1 a2 a3) (k0_pay9 a0 a1 a2 a3)) (k0_pay13 (k0_pay5 a2) (k0_pay7 a0 a1 a2 a3))
        (VecWindow.window g ![0, 1024] S1x512.size inb_S1x2048_S1x512_0_1024)
        (VecWindow.window b ![0, 1024] S1x512.size inb_S1x2048_S1x512_0_1024)⟩,
    ⟨Rect.unit (s := S1x512x2048) ![0, 0, 512] S1x512x512.size inb_S1x512x2048_S1x512x512_0_0_512,
      k0_pay12 (k0_pay4 a1) (k0_pay7 a0 a1 a2 a3) (k0_pay8 a0 a1 a2 a3) (k0_pay9 a0 a1 a2 a3)
        (VecWindow.window g ![0, 512] S1x512.size inb_S1x2048_S1x512_0_512)
        (VecWindow.window b ![0, 512] S1x512.size inb_S1x2048_S1x512_0_512)⟩,
    ⟨Rect.unit (s := S1x512x2048) ![0, 0, 0] S1x512x512.size inb_S1x512x2048_S1x512x512_0_0_0,
      k0_pay11 (k0_pay3 a0) (k0_pay7 a0 a1 a2 a3) (k0_pay8 a0 a1 a2 a3) (k0_pay9 a0 a1 a2 a3)
        (VecWindow.window g ![0, 0] S1x512.size inb_S1x2048_S1x512_0_0)
        (VecWindow.window b ![0, 0] S1x512.size inb_S1x2048_S1x512_0_0)⟩]

set_option maxHeartbeats 4000000 in
/-- Before the last point of a run the body puts its tile into the scratch and leaves the result alone. -/
theorem run_early (c : Dev nD) (i : grid0.Coords) (arg3 : Memref sig .tc .vmem S1x512x2048 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512x512 .f32) (harg8 : arg8.IsWhole) (arg9 : Memref sig .tc .vmem S1x1x512 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S1x512x2048 .f32) (harg12 : arg12.IsWhole) (arg13 : Memref sig .tc .vmem S4x512x512 .f32) (harg13 : arg13.IsWhole) (hc : ¬ k0_cond1 i = 1#1)
    (x0 : Vec F S1x512x2048 .bf16) (x1 : Vec F S2048x512 .bf16) (x2 : Vec F S2048x512 .bf16) (x3 : Vec F S1x512 .f32) (x4 : Vec F S1x512 .f32) (x5 : Vec F S1x512x512 .f32) (x6 : Vec F S1x1x512 .f32) (x7 : Vec F S1x2048 .f32) (x8 : Vec F S1x2048 .f32) (xs : Vec F S4x512x512 .f32) (xi : Vec F S1x512x2048 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare xi ∗ owns (c : Thread nD τ) arg13 fullShare xs
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare xi ∗ owns (c : Thread nD τ) arg13 fullShare (slot i xs (k0_pay14 x0 x1 x3 x2 x4 x5 x6))) -∗ K ⟨⟩))
      ⊢ wp frame (wpE (defs₀ (F := F)) Variants.none c none) E (cc0_matmul_res_ln i arg3 harg3 arg4 harg4 arg5 harg5 arg6 harg6 arg7 harg7 arg8 harg8 arg9 harg9 arg10 harg10 arg11 harg11 arg12 harg12 arg13 harg13) K := by
  simp only [cc0_matmul_res_ln_eq_skeleton]; unfold cc0_matmul_res_ln_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs, %hfs, HS⟩, Hk⟩
  subst hf0; subst hf1; subst hf2; subst hf3; subst hf4; subst hf5; subst hf6; subst hf7; subst hf8; subst hfs; subst hf9
  have l0 : View.readAt (Elt F) arg3.view (Rect.unit ![0, 0, 0] ![1, 512, 2048] inb_S1x512x2048_S1x512x2048_0_0_0).toLoadRect f0
      = View.read (Elt F) arg3.view f0 := View.readAt_full _ _ _
  have l1 : View.readAt (Elt F) arg4.view (Rect.unit ![0, 0] ![2048, 512] inb_S2048x512_S2048x512_0_0).toLoadRect f1
      = View.read (Elt F) arg4.view f1 := View.readAt_full _ _ _
  have l2 : View.readAt (Elt F) arg5.view (Rect.unit ![0, 0] ![2048, 512] inb_S2048x512_S2048x512_0_0).toLoadRect f2
      = View.read (Elt F) arg5.view f2 := View.readAt_full _ _ _
  have l3 : View.readAt (Elt F) arg6.view (Rect.unit ![0, 0] ![1, 512] inb_S1x512_S1x512_0_0).toLoadRect f3
      = View.read (Elt F) arg6.view f3 := View.readAt_full _ _ _
  have l4 : View.readAt (Elt F) arg7.view (Rect.unit ![0, 0] ![1, 512] inb_S1x512_S1x512_0_0).toLoadRect f4
      = View.read (Elt F) arg7.view f4 := View.readAt_full _ _ _
  have l5 : View.readAt (Elt F) arg8.view (Rect.unit ![0, 0, 0] ![1, 512, 512] inb_S1x512x512_S1x512x512_0_0_0).toLoadRect f5
      = View.read (Elt F) arg8.view f5 := View.readAt_full _ _ _
  have l6 : View.readAt (Elt F) arg9.view (Rect.unit ![0, 0, 0] ![1, 1, 512] inb_S1x1x512_S1x1x512_0_0_0).toLoadRect f6
      = View.read (Elt F) arg9.view f6 := View.readAt_full _ _ _
  sl_exec (disch := first | sl_exact hc)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  · iexists _; isplitr; · ipureintro; rfl
    iexact H9
  iexists _; isplitr
  swap; · iexact HS
  ipureintro
  refine (View.read_writes_cons_put _ _ _ _ _ rfl).trans ?_
  rw [View.writes_nil]
  rfl

set_option maxHeartbeats 4000000 in
/-- At the last point of a run the body puts its tile into the scratch and leaves the normalised rows in the result. -/
theorem run_last (c : Dev nD) (i : grid0.Coords) (arg3 : Memref sig .tc .vmem S1x512x2048 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512x512 .f32) (harg8 : arg8.IsWhole) (arg9 : Memref sig .tc .vmem S1x1x512 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S1x512x2048 .f32) (harg12 : arg12.IsWhole) (arg13 : Memref sig .tc .vmem S4x512x512 .f32) (harg13 : arg13.IsWhole) (hc : k0_cond1 i = 1#1)
    (x0 : Vec F S1x512x2048 .bf16) (x1 : Vec F S2048x512 .bf16) (x2 : Vec F S2048x512 .bf16) (x3 : Vec F S1x512 .f32) (x4 : Vec F S1x512 .f32) (x5 : Vec F S1x512x512 .f32) (x6 : Vec F S1x1x512 .f32) (x7 : Vec F S1x2048 .f32) (x8 : Vec F S1x2048 .f32) (xs : Vec F S4x512x512 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ owns (c : Thread nD τ) arg13 fullShare xs
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare (rowsOf (slot i xs (k0_pay14 x0 x1 x3 x2 x4 x5 x6)) x7 x8) ∗ owns (c : Thread nD τ) arg13 fullShare (slot i xs (k0_pay14 x0 x1 x3 x2 x4 x5 x6))) -∗ K ⟨⟩))
      ⊢ wp frame (wpE (defs₀ (F := F)) Variants.none c none) E (cc0_matmul_res_ln i arg3 harg3 arg4 harg4 arg5 harg5 arg6 harg6 arg7 harg7 arg8 harg8 arg9 harg9 arg10 harg10 arg11 harg11 arg12 harg12 arg13 harg13) K := by
  simp only [cc0_matmul_res_ln_eq_skeleton]; unfold cc0_matmul_res_ln_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs, %hfs, HS⟩, Hk⟩
  subst hf0; subst hf1; subst hf2; subst hf3; subst hf4; subst hf5; subst hf6; subst hf7; subst hf8; subst hfs
  have l0 : View.readAt (Elt F) arg3.view (Rect.unit ![0, 0, 0] ![1, 512, 2048] inb_S1x512x2048_S1x512x2048_0_0_0).toLoadRect f0
      = View.read (Elt F) arg3.view f0 := View.readAt_full _ _ _
  have l1 : View.readAt (Elt F) arg4.view (Rect.unit ![0, 0] ![2048, 512] inb_S2048x512_S2048x512_0_0).toLoadRect f1
      = View.read (Elt F) arg4.view f1 := View.readAt_full _ _ _
  have l2 : View.readAt (Elt F) arg5.view (Rect.unit ![0, 0] ![2048, 512] inb_S2048x512_S2048x512_0_0).toLoadRect f2
      = View.read (Elt F) arg5.view f2 := View.readAt_full _ _ _
  have l3 : View.readAt (Elt F) arg6.view (Rect.unit ![0, 0] ![1, 512] inb_S1x512_S1x512_0_0).toLoadRect f3
      = View.read (Elt F) arg6.view f3 := View.readAt_full _ _ _
  have l4 : View.readAt (Elt F) arg7.view (Rect.unit ![0, 0] ![1, 512] inb_S1x512_S1x512_0_0).toLoadRect f4
      = View.read (Elt F) arg7.view f4 := View.readAt_full _ _ _
  have l5 : View.readAt (Elt F) arg8.view (Rect.unit ![0, 0, 0] ![1, 512, 512] inb_S1x512x512_S1x512x512_0_0_0).toLoadRect f5
      = View.read (Elt F) arg8.view f5 := View.readAt_full _ _ _
  have l6 : View.readAt (Elt F) arg9.view (Rect.unit ![0, 0, 0] ![1, 1, 512] inb_S1x1x512_S1x1x512_0_0_0).toLoadRect f6
      = View.read (Elt F) arg9.view f6 := View.readAt_full _ _ _
  sl_exec (disch := first | sl_exact hc)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  · iexists _; isplitr
    swap; · iexact H9
    ipureintro
    refine (View.read_writes_eq_canon (Val := Elt F) arg12.view _ _ (fun y => View.cover_of_tiledL (s := S1x512x2048) _ ![1, 512, 512] (by sl_kernel_rfl) y)).trans ?_
    have hs : View.read (Elt F) arg13.view (arg13.view.writes (Elt F) fs
        [⟨Rect.unit (s := S4x512x512) (k0_off1 i) S1x512x512.size (k0_off1_inb i), (k0_pay14 (View.read (Elt F) arg3.view f0) (View.read (Elt F) arg4.view f1) (View.read (Elt F) arg6.view f3) (View.read (Elt F) arg5.view f2) (View.read (Elt F) arg7.view f4) (View.read (Elt F) arg8.view f5) (View.read (Elt F) arg9.view f6))⟩]) = slot i (View.read (Elt F) arg13.view fs) (k0_pay14 (View.read (Elt F) arg3.view f0) (View.read (Elt F) arg4.view f1) (View.read (Elt F) arg6.view f3) (View.read (Elt F) arg5.view f2) (View.read (Elt F) arg7.view f4) (View.read (Elt F) arg8.view f5) (View.read (Elt F) arg9.view f6)) :=
      View.read_writes_cons_put _ _ _ _ _ rfl
    rw [← hs]
    rfl
  iexists _; isplitr
  swap; · iexact HS
  ipureintro
  refine (View.read_writes_cons_put _ _ _ _ _ rfl).trans ?_
  rw [View.writes_nil]
  rfl

/-- The tile point `t` writes. -/
def tile (c : Dev nD) (t : Fin cfg0.N) : Vec F S1x512x512 .f32 := k0_pay14 (iblk m c 0 t) (iblk m c 1 t) (iblk m c 3 t) (iblk m c 2 t) (iblk m c 4 t) (iblk m c 5 t) (iblk m c 6 t)

/-- The four tiles of run `q`, gathered. -/
def stack (c : Dev nD) (q : ℕ) : Vec F S4x512x512 .f32 := fun y =>
  tile m c ⟨(4 * q + (y 0).val) % cfg0.N, Nat.mod_lt _ (by decide)⟩ (ix3 0 (y 1) (y 2))

/-- A point's tile extends the part of the scratch gathered so far by its slice. -/
theorem slot_step (c : Dev nD) (t : Fin cfg0.N) (xs : Vec F S4x512x512 .f32)
    (hx : ∀ y : S4x512x512.Idx, (y 0).val < t.val % 4 → xs y = stack m c (t.val / 4) y) (y : S4x512x512.Idx)
    (hy : (y 0).val < t.val % 4 + 1) : slot (grid0.coords t) xs (tile m c t) y = stack m c (t.val / 4) y := by
  have hN : t.val < cfg0.N := t.isLt
  have e : 4 * (t.val / 4) + t.val % 4 = t.val := by omega
  unfold slot
  rw [off_eq t]
  by_cases h : (y 0).val = t.val % 4
  · have hm : ∀ a, (![t.val % 4, 0, 0] : Fin 3 → ℕ) a ≤ (y a).val ∧ (y a).val < (![t.val % 4, 0, 0] : Fin 3 → ℕ) a + S1x512x512.size a := by
      intro a
      match a with
      | ⟨0, _⟩ => exact ⟨le_of_eq h.symm, by show (y 0).val < t.val % 4 + 1; omega⟩
      | ⟨1, _⟩ => exact ⟨Nat.zero_le _, by show (y 1).val < 0 + 512; have := (y 1).isLt; simpa using this⟩
      | ⟨2, _⟩ => exact ⟨Nat.zero_le _, by show (y 2).val < 0 + 512; have := (y 2).isLt; simpa using this⟩
    refine (dif_pos hm).trans ?_
    have et : (⟨(4 * (t.val / 4) + (y 0).val) % cfg0.N, Nat.mod_lt _ (by decide)⟩ : Fin cfg0.N) = t :=
      Fin.ext (by show (4 * (t.val / 4) + (y 0).val) % cfg0.N = t.val; rw [h, e, Nat.mod_eq_of_lt hN])
    unfold stack; rw [et]
    refine congrArg (tile m c t) (funext fun a => Fin.ext ?_)
    match a with
    | ⟨0, _⟩ => show (y 0).val - t.val % 4 = 0; omega
    | ⟨1, _⟩ => show (y 1).val - 0 = (y 1).val; omega
    | ⟨2, _⟩ => show (y 2).val - 0 = (y 2).val; omega
  · refine (dif_neg fun hm => h ?_).trans (hx y (by omega))
    have h0 := hm 0
    have h1 : t.val % 4 ≤ (y 0).val := h0.1
    omega

/-- Before position `n` the scratch holds the tiles of the run's earlier points, and the generator register some state. -/
def Held (c : Dev nD) (n : ℕ) : sProp 𝕄 :=
  iprop((∃ xs : Vec F S4x512x512 .f32, ⌜∀ y : S4x512x512.Idx, (y 0).val < n % 4 → xs y = stack m c (n / 4) y⌝
    ∗ owns (c : Thread nD τ) scr fullShare xs) ∗ (∃ r, prngReg c r))

/-- The pipeline's proof data: the arrays as the region finds them, the inputs' blocks left in place, the result's block the
    normalised rows of the point's run, the scratch as `Held` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => rowsOf (stack m c (t.val / 4)) (iblk m c 7 t) (iblk m c 8 t)
  Φ t := Held m c t.val
  q w := Pipeline.shareOf spec0 w
  owed _ := 0

theorem A_eq (c : Dev nD) (w : Fin cfg0.W) : (dats m 0 c).A w = V m c (Pipeline.arrRef spec0 w) := by
  dsimp only [dats]

theorem before_0 (c : Dev nD) (t : Fin cfg0.N) (d) : (dats m 0 c).before 0 t d = iblk m c 0 t :=
  before0_0_of m (dats m 0 c) (A_eq m c 0) (fun t => by dsimp only [dats]) t d
theorem before_1 (c : Dev nD) (t : Fin cfg0.N) (d) : (dats m 0 c).before 1 t d = iblk m c 1 t :=
  before0_1_of m (dats m 0 c) (A_eq m c 1) (fun t => by dsimp only [dats]) t d
theorem before_2 (c : Dev nD) (t : Fin cfg0.N) (d) : (dats m 0 c).before 2 t d = iblk m c 2 t :=
  before0_2_of m (dats m 0 c) (A_eq m c 2) (fun t => by dsimp only [dats]) t d
theorem before_3 (c : Dev nD) (t : Fin cfg0.N) (d) : (dats m 0 c).before 3 t d = iblk m c 3 t :=
  before0_3_of m (dats m 0 c) (A_eq m c 3) (fun t => by dsimp only [dats]) t d
theorem before_4 (c : Dev nD) (t : Fin cfg0.N) (d) : (dats m 0 c).before 4 t d = iblk m c 4 t :=
  before0_4_of m (dats m 0 c) (A_eq m c 4) (fun t => by dsimp only [dats]) t d
theorem before_5 (c : Dev nD) (t : Fin cfg0.N) (d) : (dats m 0 c).before 5 t d = iblk m c 5 t :=
  before0_5_of m (dats m 0 c) (A_eq m c 5) (fun t => by dsimp only [dats]) t d
theorem before_6 (c : Dev nD) (t : Fin cfg0.N) (d) : (dats m 0 c).before 6 t d = iblk m c 6 t :=
  before0_6_of m (dats m 0 c) (A_eq m c 6) (fun t => by dsimp only [dats]) t d
theorem before_7 (c : Dev nD) (t : Fin cfg0.N) (d) : (dats m 0 c).before 7 t d = iblk m c 7 t :=
  before0_7_of m (dats m 0 c) (A_eq m c 7) (fun t => by dsimp only [dats]) t d
theorem before_8 (c : Dev nD) (t : Fin cfg0.N) (d) : (dats m 0 c).before 8 t d = iblk m c 8 t :=
  before0_8_of m (dats m 0 c) (A_eq m c 8) (fun t => by dsimp only [dats]) t d

/-- What the body leaves in the result's block. -/
theorem after_out (c : Dev nD) (t : Fin cfg0.N) :
    (dats m 0 c).after 9 t = rowsOf (stack m c (t.val / 4)) (iblk m c 7 t) (iblk m c 8 t) := by dsimp only [dats]

set_option maxHeartbeats 4000000 in
/-- The body at any point, from the two runs. -/
theorem body (c : Dev nD) (t : Fin cfg0.N) :
    iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)))
      ⊢ wp frame (wpE (defs₀ (F := F)) Variants.none c none) Set.univ (bodyAt0 t)
        (fun _ => iprop((dats m 0 c).Φ t.succ ∗ (dats m 0 c).owesAt () t.succ ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t)) := by
  unfold bodyAt0
  simp only [before_0, before_1, before_2, before_3, before_4, before_5, before_6, before_7, before_8]
  rw [show (dats m 0 c).owesAt () t.succ = (dats m 0 c).owesAt () t.castSucc from rfl,
    show (dats m 0 c).Φ t.castSucc = Held m c t.val from rfl, show (dats m 0 c).Φ t.succ = Held m c (t.val + 1) from rfl]
  rw [show (dats m 0 c).leavesExact 0 t = owns (c : Thread nD τ) (st0_0 t) fullShare (iblk m c 0 t) from rfl]
  rw [show (dats m 0 c).leavesExact 1 t = owns (c : Thread nD τ) (st0_1 t) fullShare (iblk m c 1 t) from rfl]
  rw [show (dats m 0 c).leavesExact 2 t = owns (c : Thread nD τ) (st0_2 t) fullShare (iblk m c 2 t) from rfl]
  rw [show (dats m 0 c).leavesExact 3 t = owns (c : Thread nD τ) (st0_3 t) fullShare (iblk m c 3 t) from rfl]
  rw [show (dats m 0 c).leavesExact 4 t = owns (c : Thread nD τ) (st0_4 t) fullShare (iblk m c 4 t) from rfl]
  rw [show (dats m 0 c).leavesExact 5 t = owns (c : Thread nD τ) (st0_5 t) fullShare (iblk m c 5 t) from rfl]
  rw [show (dats m 0 c).leavesExact 6 t = owns (c : Thread nD τ) (st0_6 t) fullShare (iblk m c 6 t) from rfl]
  rw [show (dats m 0 c).leavesExact 7 t = owns (c : Thread nD τ) (st0_7 t) fullShare (iblk m c 7 t) from rfl]
  rw [show (dats m 0 c).leavesExact 8 t = owns (c : Thread nD τ) (st0_8 t) fullShare (iblk m c 8 t) from rfl]
  unfold Held
  by_cases h : t.val % 4 = 3
  · iintro ⟨⟨⟨%xs, %hx, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    have hrow : slot (grid0.coords t) xs (tile m c t) = stack m c (t.val / 4) :=
      funext fun y => slot_step m c t xs hx y (by rw [h]; exact (y 0).isLt)
    iapply (run_last c (grid0.coords t) _ _ _ _ _ _ _ _ _ _ _ _ _ _ _ _ _ _ _ _ _ _ ((last_iff t).mpr h) (iblk m c 0 t) (iblk m c 1 t) (iblk m c 2 t) (iblk m c 3 t) (iblk m c 4 t) (iblk m c 5 t) (iblk m c 6 t) (iblk m c 7 t) (iblk m c 8 t) xs Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS]; · iexact HS
    iintro ⟨H0, H1, H2, H3, H4, H5, H6, H7, H8, H9, HS⟩
    isplitl [HS Hg]
    · isplitl [HS]
      · iexists _; isplitr
        swap; · iexact HS
        ipureintro; intro y hy
        exact absurd hy (by have e : (t.val + 1) % 4 = 0 := by omega
                            rw [e]; exact Nat.not_lt_zero _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    rw [show (dats m 0 c).leavesExact 9 t = owns (c : Thread nD τ) (st0_9 t) fullShare (rowsOf (slot (grid0.coords t) xs (tile m c t)) (iblk m c 7 t) (iblk m c 8 t)) from by
      unfold Dat.leavesExact; rw [live_out t h, hrow, after_out]]
    iexact H9
  · rw [Dat.leavesExact_idle (dats m 0 c) 9 t (idle_out t h) (keep_out t h)]
    iintro ⟨⟨⟨%xs, %hx, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_early c (grid0.coords t) _ _ _ _ _ _ _ _ _ _ _ _ _ _ _ _ _ _ _ _ _ _ (fun hc => h ((last_iff t).mp hc)) (iblk m c 0 t) (iblk m c 1 t) (iblk m c 2 t) (iblk m c 3 t) (iblk m c 4 t) (iblk m c 5 t) (iblk m c 6 t) (iblk m c 7 t) (iblk m c 8 t) xs _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS]; · iexact HS
    iintro ⟨H0, H1, H2, H3, H4, H5, H6, H7, H8, H9, HS⟩
    isplitl [HS Hg]
    · isplitl [HS]
      · iexists _; isplitr
        swap; · iexact HS
        ipureintro; intro y hy
        have e : (t.val + 1) / 4 = t.val / 4 := by omega
        rw [e]
        exact slot_step m c t xs hx y (by omega)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; iexact H9

/-- The body obligation at every point. -/
theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (body m c t) rfl .rfl fun _ => .rfl

/-- The launch's scratch is held before the first point, -/
theorem enter (c : Dev nD) : Pipeline.ΦA spec0 c ⊢ (dats m 0 c).Φ 0 := by
  rw [show (dats m 0 c).Φ 0 = Held m c 0 from rfl, rest_eq]
  unfold Held
  iintro ⟨⟨%xs, HS⟩, Hg⟩
  isplitl [HS]
  · iexists xs; isplitr
    · ipureintro; intro y hy; exact absurd hy (Nat.not_lt_zero _)
    iexact HS
  iexact Hg

/-- and handed back after the last. -/
theorem leave (c : Dev nD) : (dats m 0 c).Φ (Fin.last cfg0.N) ⊢ Pipeline.ΦA spec0 c := by
  rw [show (dats m 0 c).Φ (Fin.last cfg0.N) = Held m c cfg0.N from rfl, rest_eq]
  unfold Held
  iintro ⟨⟨%xs, -, HS⟩, Hg⟩
  isplitl [HS]
  · iexists xs; iexact HS
  iexact Hg

-- the launch lemma's implicit arguments are found by unfolding plain definitions
set_option backward.isDefEq.respectTransparency.types false in
/-- Every weakly fair execution terminates with the arrays at what the proof data computes and every semaphore at zero. -/
theorem run_zero : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hin := enter m) (hout := leave m)

/-- The run without the counters. -/
theorem run : θ_run defs (onTc (τ := τ) (main (F := F))) (s₀ m ρ) (Pipeline.FramePost cfgs (dats m) 0 (V m)) :=
  (θ_run defs _ _).mono (fun _ h => h.1) (run_zero m ρ)

/-- The frame: the program terminates, its arguments end as they began and every semaphore ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run m ρ)) ((θ_run defs _ _).mono (fun _ h => h.2) (run_zero m ρ))

end Cert.Kernel5Ideal.Rows

end
-- ==== Proof.Glu.RowsBits.lean ====
module

public import proofs.«01_k».proof.Proof.Glu.Rows
public import proofs.«01_k».proof.Proof.Gen.Kernel5.Frame
public import Idealize.ShloMosaic.PureOps.BitExact

@[expose] public section

set_option maxRecDepth 16384
noncomputable section
open Idealize.ShloMosaic Idealize.ShloMosaic.TcCoe Idealize.SL.Sem

/-! The frame of the call at the machine's own floats. No rewrite was applied, so its text is that of the idealised
call and the frame proved there holds of it. -/

namespace Cert.Kernel5

/-- The two texts have the same bodies. -/
theorem bodies_eq : defs₀ (F := Bits) = Cert.Kernel5Ideal.defs₀ (F := Bits) := by
  unfold defs₀ Cert.Kernel5Ideal.defs₀
  refine congrArg Defs.onTc ?_
  funext l a
  match l, a with
  | 0, (t, s) => rfl

/-- The two texts have the same definitions. -/
theorem defs_eq : defs (F := Bits) = Cert.Kernel5Ideal.defs (F := Bits) :=
  congrArg (Pipeline.defs (pcfgs (F := Bits))) bodies_eq

/-- The program terminates, its arguments end as they began and every semaphore ends at zero. -/
theorem frame (m : (ℓ : Loc nD τ sig) → Buf (Elt Bits) ℓ) (ρ : Dev nD → PrngReg) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  rw [defs_eq]
  exact Cert.Kernel5Ideal.Rows.frame (F := Bits) m ρ

end Cert.Kernel5
-- ==== Proof.Out.Rows.lean ====
/- The frame of the call `matmul_res_ln`: each grid point writes one tile of 512 columns into its slice of the
   scratch, and the fourth point of a run of four normalises the whole rows it has gathered. -/
module

public import proofs.«01_k».proof.Proof.Gen.Kernel6Ideal.Frame
public import proofs.«01_k».proof.Proof.Gen.Kernel6Ideal.Skeleton
public import Idealize.ShloMosaic.Lib.Pipeline.ReadBack
public import Idealize.ShloMosaic.Lib.VecWindow
public import Idealize.ShloMosaic.Lib.Claim
public import Idealize.ShloMosaic.Lib.ValueIdxCore

@[expose] public section

set_option maxRecDepth 16384
noncomputable section
namespace Cert.Kernel6Ideal.Rows
open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.ValueIdx (ix3)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body normalises exactly at the last point of a run of four. -/
theorem last_iff : ∀ t : Fin cfg0.N, k0_cond1 (grid0.coords t) = 1#1 ↔ t.val % 4 = 3 := by decide +kernel

/-- The slice a point writes is the one of its place in the run. -/
theorem off_eq : ∀ t : Fin cfg0.N, k0_off1 (grid0.coords t) = ![t.val % 4, 0, 0] := by decide +kernel

/-- The result's window is idle before the last point of a run, -/
theorem idle_out : ∀ t : Fin cfg0.N, ¬ t.val % 4 = 3 → cfg0.idle 6 (grid0.coords t) = true := by decide +kernel

/-- is not written back there, -/
theorem keep_out (t : Fin cfg0.N) (h : ¬ t.val % 4 = 3) : (cfg0.win 6).flush t = false :=
  Bool.eq_false_iff.mpr fun hf => h ((flush0_6 t).mp hf)

/-- and is stored into at the last point. -/
theorem live_out : ∀ t : Fin cfg0.N, t.val % 4 = 3 → cfg0.idle 6 (grid0.coords t) = false := by decide +kernel

/-- The scratch as the pipeline passes it. -/
abbrev scr : Memref sig .tc .vmem S4x512x512 .f32 := Memref.whole cc0_scratch0

/-- The region's scratch and generator register, the scratch as a memref owned at some contents. -/
theorem rest_eq (c : Dev nD) :
    (Pipeline.ΦA spec0 c : sProp 𝕄) = iprop((∃ d, owns (c : Thread nD τ) scr fullShare d) ∗ (∃ r, prngReg c r)) := by
  unfold Pipeline.ΦA; rw [scopedRest0_eq]; simp only [scr, owns_whole]; try rfl

/-! ## What a point computes -/
/-- The scratch with a point's tile put into its slice. -/
def slot (i : grid0.Coords) (xs : Vec F S4x512x512 .f32) (p : Vec F S1x512x512 .f32) : Vec F S4x512x512 .f32 :=
  VecWindow.put xs (k0_off1 i) S1x512x512.size p

/-- The normalised rows over the gathered tiles `xs`, four tiles of columns side by side, with the scale `g` and the shift `b`. -/
def rowsOf (xs : Vec F S4x512x512 .f32) (g b : Vec F S1x2048 .f32) : Vec F S1x512x2048 .f32 :=
  let a0 : Vec F S1x512x512 .f32 := VecWindow.window xs ![0, 0, 0] S1x512x512.size inb_S4x512x512_S1x512x512_0_0_0
  let a1 : Vec F S1x512x512 .f32 := VecWindow.window xs ![1, 0, 0] S1x512x512.size inb_S4x512x512_S1x512x512_1_0_0
  let a2 : Vec F S1x512x512 .f32 := VecWindow.window xs ![2, 0, 0] S1x512x512.size inb_S4x512x512_S1x512x512_2_0_0
  let a3 : Vec F S1x512x512 .f32 := VecWindow.window xs ![3, 0, 0] S1x512x512.size inb_S4x512x512_S1x512x512_3_0_0
  View.canon [
    (⟨Rect.unit (s := S1x512x2048) ![0, 0, 1536] S1x512x512.size inb_S1x512x2048_S1x512x512_0_0_1536,
      k0_pay3 (k0_pay7 a3) (k0_pay8 a0 a1 a2 a3) (k0_pay11 (k0_pay9 a0 a1 a2 a3) (k0_pay10 a0 a1 a2 a3))
        (VecWindow.window g ![0, 1536] S1x512.size inb_S1x2048_S1x512_0_1536)
        (VecWindow.window b ![0, 1536] S1x512.size inb_S1x2048_S1x512_0_1536)⟩ : View.Piece (Elt F) S1x512x2048 .f32),
    ⟨Rect.unit (s := S1x512x2048) ![0, 0, 1024] S1x512x512.size inb_S1x512x2048_S1x512x512_0_0_1024,
      k0_pay2 (k0_pay11 (k0_pay9 a0 a1 a2 a3) (k0_pay10 a0 a1 a2 a3)) (k0_pay14 (k0_pay6 a2) (k0_pay8 a0 a1 a2 a3))
        (VecWindow.window g ![0, 1024] S1x512.size inb_S1x2048_S1x512_0_1024)
        (VecWindow.window b ![0, 1024] S1x512.size inb_S1x2048_S1x512_0_1024)⟩,
    ⟨Rect.unit (s := S1x512x2048) ![0, 0, 512] S1x512x512.size inb_S1x512x2048_S1x512x512_0_0_512,
      k0_pay13 (k0_pay5 a1) (k0_pay8 a0 a1 a2 a3) (k0_pay9 a0 a1 a2 a3) (k0_pay10 a0 a1 a2 a3)
        (VecWindow.window g ![0, 512] S1x512.size inb_S1x2048_S1x512_0_512)
        (VecWindow.window b ![0, 512] S1x512.size inb_S1x2048_S1x512_0_512)⟩,
    ⟨Rect.unit (s := S1x512x2048) ![0, 0, 0] S1x512x512.size inb_S1x512x2048_S1x512x512_0_0_0,
      k0_pay12 (k0_pay4 a0) (k0_pay8 a0 a1 a2 a3) (k0_pay9 a0 a1 a2 a3) (k0_pay10 a0 a1 a2 a3)
        (VecWindow.window g ![0, 0] S1x512.size inb_S1x2048_S1x512_0_0)
        (VecWindow.window b ![0, 0] S1x512.size inb_S1x2048_S1x512_0_0)⟩]

set_option maxHeartbeats 4000000 in
/-- Before the last point of a run the body puts its tile into the scratch and leaves the result alone. -/
theorem run_early (c : Dev nD) (i : grid0.Coords) (arg3 : Memref sig .tc .vmem S1x512x2048 .bf16) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S1x1x512 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1x512x2048 .f32) (harg9 : arg9.IsWhole) (arg10 : Memref sig .tc .vmem S4x512x512 .f32) (harg10 : arg10.IsWhole) (hc : ¬ k0_cond1 i = 1#1)
    (x0 : Vec F S1x512x2048 .bf16) (x1 : Vec F S2048x512 .bf16) (x2 : Vec F S1x512x512 .f32) (x3 : Vec F S1x1x512 .f32) (x4 : Vec F S1x2048 .f32) (x5 : Vec F S1x2048 .f32) (xs : Vec F S4x512x512 .f32) (xi : Vec F S1x512x2048 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi ∗ owns (c : Thread nD τ) arg10 fullShare xs
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi ∗ owns (c : Thread nD τ) arg10 fullShare (slot i xs (k0_pay1 x0 x1 x2 x3))) -∗ K ⟨⟩))
      ⊢ wp frame (wpE (defs₀ (F := F)) Variants.none c none) E (cc0_matmul_res_ln i arg3 harg3 arg4 harg4 arg5 harg5 arg6 harg6 arg7 harg7 arg8 harg8 arg9 harg9 arg10 harg10) K := by
  simp only [cc0_matmul_res_ln_eq_skeleton]; unfold cc0_matmul_res_ln_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f9, %hf9, H9⟩, ⟨%fs, %hfs, HS⟩, Hk⟩
  subst hf0; subst hf1; subst hf2; subst hf3; subst hf4; subst hf5; subst hfs; subst hf9
  have l0 : View.readAt (Elt F) arg3.view (Rect.unit ![0, 0, 0] ![1, 512, 2048] inb_S1x512x2048_S1x512x2048_0_0_0).toLoadRect f0
      = View.read (Elt F) arg3.view f0 := View.readAt_full _ _ _
  have l1 : View.readAt (Elt F) arg4.view (Rect.unit ![0, 0] ![2048, 512] inb_S2048x512_S2048x512_0_0).toLoadRect f1
      = View.read (Elt F) arg4.view f1 := View.readAt_full _ _ _
  have l2 : View.readAt (Elt F) arg5.view (Rect.unit ![0, 0, 0] ![1, 512, 512] inb_S1x512x512_S1x512x512_0_0_0).toLoadRect f2
      = View.read (Elt F) arg5.view f2 := View.readAt_full _ _ _
  have l3 : View.readAt (Elt F) arg6.view (Rect.unit ![0, 0, 0] ![1, 1, 512] inb_S1x1x512_S1x1x512_0_0_0).toLoadRect f3
      = View.read (Elt F) arg6.view f3 := View.readAt_full _ _ _
  sl_exec (disch := first | sl_exact hc)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H9]
  · iexists _; isplitr; · ipureintro; rfl
    iexact H9
  iexists _; isplitr
  swap; · iexact HS
  ipureintro
  refine (View.read_writes_cons_put _ _ _ _ _ rfl).trans ?_
  rw [View.writes_nil]
  rfl

set_option maxHeartbeats 4000000 in
/-- At the last point of a run the body puts its tile into the scratch and leaves the normalised rows in the result. -/
theorem run_last (c : Dev nD) (i : grid0.Coords) (arg3 : Memref sig .tc .vmem S1x512x2048 .bf16) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S1x1x512 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1x512x2048 .f32) (harg9 : arg9.IsWhole) (arg10 : Memref sig .tc .vmem S4x512x512 .f32) (harg10 : arg10.IsWhole) (hc : k0_cond1 i = 1#1)
    (x0 : Vec F S1x512x2048 .bf16) (x1 : Vec F S2048x512 .bf16) (x2 : Vec F S1x512x512 .f32) (x3 : Vec F S1x1x512 .f32) (x4 : Vec F S1x2048 .f32) (x5 : Vec F S1x2048 .f32) (xs : Vec F S4x512x512 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xs
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (rowsOf (slot i xs (k0_pay1 x0 x1 x2 x3)) x4 x5) ∗ owns (c : Thread nD τ) arg10 fullShare (slot i xs (k0_pay1 x0 x1 x2 x3))) -∗ K ⟨⟩))
      ⊢ wp frame (wpE (defs₀ (F := F)) Variants.none c none) E (cc0_matmul_res_ln i arg3 harg3 arg4 harg4 arg5 harg5 arg6 harg6 arg7 harg7 arg8 harg8 arg9 harg9 arg10 harg10) K := by
  simp only [cc0_matmul_res_ln_eq_skeleton]; unfold cc0_matmul_res_ln_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d9, %f9, -, H9⟩, ⟨%fs, %hfs, HS⟩, Hk⟩
  subst hf0; subst hf1; subst hf2; subst hf3; subst hf4; subst hf5; subst hfs
  have l0 : View.readAt (Elt F) arg3.view (Rect.unit ![0, 0, 0] ![1, 512, 2048] inb_S1x512x2048_S1x512x2048_0_0_0).toLoadRect f0
      = View.read (Elt F) arg3.view f0 := View.readAt_full _ _ _
  have l1 : View.readAt (Elt F) arg4.view (Rect.unit ![0, 0] ![2048, 512] inb_S2048x512_S2048x512_0_0).toLoadRect f1
      = View.read (Elt F) arg4.view f1 := View.readAt_full _ _ _
  have l2 : View.readAt (Elt F) arg5.view (Rect.unit ![0, 0, 0] ![1, 512, 512] inb_S1x512x512_S1x512x512_0_0_0).toLoadRect f2
      = View.read (Elt F) arg5.view f2 := View.readAt_full _ _ _
  have l3 : View.readAt (Elt F) arg6.view (Rect.unit ![0, 0, 0] ![1, 1, 512] inb_S1x1x512_S1x1x512_0_0_0).toLoadRect f3
      = View.read (Elt F) arg6.view f3 := View.readAt_full _ _ _
  sl_exec (disch := first | sl_exact hc)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H9]
  · iexists _; isplitr
    swap; · iexact H9
    ipureintro
    refine (View.read_writes_eq_canon (Val := Elt F) arg9.view _ _ (fun y => View.cover_of_tiledL (s := S1x512x2048) _ ![1, 512, 512] (by sl_kernel_rfl) y)).trans ?_
    have hs : View.read (Elt F) arg10.view (arg10.view.writes (Elt F) fs
        [⟨Rect.unit (s := S4x512x512) (k0_off1 i) S1x512x512.size (k0_off1_inb i), (k0_pay1 (View.read (Elt F) arg3.view f0) (View.read (Elt F) arg4.view f1) (View.read (Elt F) arg5.view f2) (View.read (Elt F) arg6.view f3))⟩]) = slot i (View.read (Elt F) arg10.view fs) (k0_pay1 (View.read (Elt F) arg3.view f0) (View.read (Elt F) arg4.view f1) (View.read (Elt F) arg5.view f2) (View.read (Elt F) arg6.view f3)) :=
      View.read_writes_cons_put _ _ _ _ _ rfl
    rw [← hs]
    rfl
  iexists _; isplitr
  swap; · iexact HS
  ipureintro
  refine (View.read_writes_cons_put _ _ _ _ _ rfl).trans ?_
  rw [View.writes_nil]
  rfl

/-- The tile point `t` writes. -/
def tile (c : Dev nD) (t : Fin cfg0.N) : Vec F S1x512x512 .f32 := k0_pay1 (iblk m c 0 t) (iblk m c 1 t) (iblk m c 2 t) (iblk m c 3 t)

/-- The four tiles of run `q`, gathered. -/
def stack (c : Dev nD) (q : ℕ) : Vec F S4x512x512 .f32 := fun y =>
  tile m c ⟨(4 * q + (y 0).val) % cfg0.N, Nat.mod_lt _ (by decide)⟩ (ix3 0 (y 1) (y 2))

/-- A point's tile extends the part of the scratch gathered so far by its slice. -/
theorem slot_step (c : Dev nD) (t : Fin cfg0.N) (xs : Vec F S4x512x512 .f32)
    (hx : ∀ y : S4x512x512.Idx, (y 0).val < t.val % 4 → xs y = stack m c (t.val / 4) y) (y : S4x512x512.Idx)
    (hy : (y 0).val < t.val % 4 + 1) : slot (grid0.coords t) xs (tile m c t) y = stack m c (t.val / 4) y := by
  have hN : t.val < cfg0.N := t.isLt
  have e : 4 * (t.val / 4) + t.val % 4 = t.val := by omega
  unfold slot
  rw [off_eq t]
  by_cases h : (y 0).val = t.val % 4
  · have hm : ∀ a, (![t.val % 4, 0, 0] : Fin 3 → ℕ) a ≤ (y a).val ∧ (y a).val < (![t.val % 4, 0, 0] : Fin 3 → ℕ) a + S1x512x512.size a := by
      intro a
      match a with
      | ⟨0, _⟩ => exact ⟨le_of_eq h.symm, by show (y 0).val < t.val % 4 + 1; omega⟩
      | ⟨1, _⟩ => exact ⟨Nat.zero_le _, by show (y 1).val < 0 + 512; have := (y 1).isLt; simpa using this⟩
      | ⟨2, _⟩ => exact ⟨Nat.zero_le _, by show (y 2).val < 0 + 512; have := (y 2).isLt; simpa using this⟩
    refine (dif_pos hm).trans ?_
    have et : (⟨(4 * (t.val / 4) + (y 0).val) % cfg0.N, Nat.mod_lt _ (by decide)⟩ : Fin cfg0.N) = t :=
      Fin.ext (by show (4 * (t.val / 4) + (y 0).val) % cfg0.N = t.val; rw [h, e, Nat.mod_eq_of_lt hN])
    unfold stack; rw [et]
    refine congrArg (tile m c t) (funext fun a => Fin.ext ?_)
    match a with
    | ⟨0, _⟩ => show (y 0).val - t.val % 4 = 0; omega
    | ⟨1, _⟩ => show (y 1).val - 0 = (y 1).val; omega
    | ⟨2, _⟩ => show (y 2).val - 0 = (y 2).val; omega
  · refine (dif_neg fun hm => h ?_).trans (hx y (by omega))
    have h0 := hm 0
    have h1 : t.val % 4 ≤ (y 0).val := h0.1
    omega

/-- Before position `n` the scratch holds the tiles of the run's earlier points, and the generator register some state. -/
def Held (c : Dev nD) (n : ℕ) : sProp 𝕄 :=
  iprop((∃ xs : Vec F S4x512x512 .f32, ⌜∀ y : S4x512x512.Idx, (y 0).val < n % 4 → xs y = stack m c (n / 4) y⌝
    ∗ owns (c : Thread nD τ) scr fullShare xs) ∗ (∃ r, prngReg c r))

/-- The pipeline's proof data: the arrays as the region finds them, the inputs' blocks left in place, the result's block the
    normalised rows of the point's run, the scratch as `Held` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => rowsOf (stack m c (t.val / 4)) (iblk m c 4 t) (iblk m c 5 t)
  Φ t := Held m c t.val
  q _ := fullShare
  owed _ := 0

theorem A_eq (c : Dev nD) (w : Fin cfg0.W) : (dats m 0 c).A w = V m c (Pipeline.arrRef spec0 w) := by
  dsimp only [dats]

theorem before_0 (c : Dev nD) (t : Fin cfg0.N) (d) : (dats m 0 c).before 0 t d = iblk m c 0 t :=
  before0_0_of m (dats m 0 c) (A_eq m c 0) (fun t => by dsimp only [dats]) t d
theorem before_1 (c : Dev nD) (t : Fin cfg0.N) (d) : (dats m 0 c).before 1 t d = iblk m c 1 t :=
  before0_1_of m (dats m 0 c) (A_eq m c 1) (fun t => by dsimp only [dats]) t d
theorem before_2 (c : Dev nD) (t : Fin cfg0.N) (d) : (dats m 0 c).before 2 t d = iblk m c 2 t :=
  before0_2_of m (dats m 0 c) (A_eq m c 2) (fun t => by dsimp only [dats]) t d
theorem before_3 (c : Dev nD) (t : Fin cfg0.N) (d) : (dats m 0 c).before 3 t d = iblk m c 3 t :=
  before0_3_of m (dats m 0 c) (A_eq m c 3) (fun t => by dsimp only [dats]) t d
theorem before_4 (c : Dev nD) (t : Fin cfg0.N) (d) : (dats m 0 c).before 4 t d = iblk m c 4 t :=
  before0_4_of m (dats m 0 c) (A_eq m c 4) (fun t => by dsimp only [dats]) t d
theorem before_5 (c : Dev nD) (t : Fin cfg0.N) (d) : (dats m 0 c).before 5 t d = iblk m c 5 t :=
  before0_5_of m (dats m 0 c) (A_eq m c 5) (fun t => by dsimp only [dats]) t d

/-- What the body leaves in the result's block. -/
theorem after_out (c : Dev nD) (t : Fin cfg0.N) :
    (dats m 0 c).after 6 t = rowsOf (stack m c (t.val / 4)) (iblk m c 4 t) (iblk m c 5 t) := by dsimp only [dats]

set_option maxHeartbeats 4000000 in
/-- The body at any point, from the two runs. -/
theorem body (c : Dev nD) (t : Fin cfg0.N) :
    iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)))
      ⊢ wp frame (wpE (defs₀ (F := F)) Variants.none c none) Set.univ (bodyAt0 t)
        (fun _ => iprop((dats m 0 c).Φ t.succ ∗ (dats m 0 c).owesAt () t.succ ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t)) := by
  unfold bodyAt0
  simp only [before_0, before_1, before_2, before_3, before_4, before_5]
  rw [show (dats m 0 c).owesAt () t.succ = (dats m 0 c).owesAt () t.castSucc from rfl,
    show (dats m 0 c).Φ t.castSucc = Held m c t.val from rfl, show (dats m 0 c).Φ t.succ = Held m c (t.val + 1) from rfl]
  rw [show (dats m 0 c).leavesExact 0 t = owns (c : Thread nD τ) (st0_0 t) fullShare (iblk m c 0 t) from rfl]
  rw [show (dats m 0 c).leavesExact 1 t = owns (c : Thread nD τ) (st0_1 t) fullShare (iblk m c 1 t) from rfl]
  rw [show (dats m 0 c).leavesExact 2 t = owns (c : Thread nD τ) (st0_2 t) fullShare (iblk m c 2 t) from rfl]
  rw [show (dats m 0 c).leavesExact 3 t = owns (c : Thread nD τ) (st0_3 t) fullShare (iblk m c 3 t) from rfl]
  rw [show (dats m 0 c).leavesExact 4 t = owns (c : Thread nD τ) (st0_4 t) fullShare (iblk m c 4 t) from rfl]
  rw [show (dats m 0 c).leavesExact 5 t = owns (c : Thread nD τ) (st0_5 t) fullShare (iblk m c 5 t) from rfl]
  unfold Held
  by_cases h : t.val % 4 = 3
  · iintro ⟨⟨⟨%xs, %hx, HS⟩, Hg⟩, Ho, ⟨%d0, H0⟩, ⟨%d1, H1⟩, ⟨%d2, H2⟩, ⟨%d3, H3⟩, ⟨%d4, H4⟩, ⟨%d5, H5⟩, ⟨%d6, H6⟩⟩
    have hrow : slot (grid0.coords t) xs (tile m c t) = stack m c (t.val / 4) :=
      funext fun y => slot_step m c t xs hx y (by rw [h]; exact (y 0).isLt)
    iapply (run_last c (grid0.coords t) _ _ _ _ _ _ _ _ _ _ _ _ _ _ _ _ ((last_iff t).mpr h) (iblk m c 0 t) (iblk m c 1 t) (iblk m c 2 t) (iblk m c 3 t) (iblk m c 4 t) (iblk m c 5 t) xs Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, H6, HS⟩
    isplitl [HS Hg]
    · isplitl [HS]
      · iexists _; isplitr
        swap; · iexact HS
        ipureintro; intro y hy
        exact absurd hy (by have e : (t.val + 1) % 4 = 0 := by omega
                            rw [e]; exact Nat.not_lt_zero _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    rw [show (dats m 0 c).leavesExact 6 t = owns (c : Thread nD τ) (st0_6 t) fullShare (rowsOf (slot (grid0.coords t) xs (tile m c t)) (iblk m c 4 t) (iblk m c 5 t)) from by
      unfold Dat.leavesExact; rw [live_out t h, hrow, after_out]]
    iexact H6
  · rw [Dat.leavesExact_idle (dats m 0 c) 6 t (idle_out t h) (keep_out t h)]
    iintro ⟨⟨⟨%xs, %hx, HS⟩, Hg⟩, Ho, ⟨%d0, H0⟩, ⟨%d1, H1⟩, ⟨%d2, H2⟩, ⟨%d3, H3⟩, ⟨%d4, H4⟩, ⟨%d5, H5⟩, ⟨%d6, H6⟩⟩
    iapply (run_early c (grid0.coords t) _ _ _ _ _ _ _ _ _ _ _ _ _ _ _ _ (fun hc => h ((last_iff t).mp hc)) (iblk m c 0 t) (iblk m c 1 t) (iblk m c 2 t) (iblk m c 3 t) (iblk m c 4 t) (iblk m c 5 t) xs _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, HS⟩
    isplitl [HS Hg]
    · isplitl [HS]
      · iexists _; isplitr
        swap; · iexact HS
        ipureintro; intro y hy
        have e : (t.val + 1) / 4 = t.val / 4 := by omega
        rw [e]
        exact slot_step m c t xs hx y (by omega)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6

/-- The body obligation at every point. -/
theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (body m c t) rfl .rfl fun _ => .rfl

/-- The launch's scratch is held before the first point, -/
theorem enter (c : Dev nD) : Pipeline.ΦA spec0 c ⊢ (dats m 0 c).Φ 0 := by
  rw [show (dats m 0 c).Φ 0 = Held m c 0 from rfl, rest_eq]
  unfold Held
  iintro ⟨⟨%xs, HS⟩, Hg⟩
  isplitl [HS]
  · iexists xs; isplitr
    · ipureintro; intro y hy; exact absurd hy (Nat.not_lt_zero _)
    iexact HS
  iexact Hg

/-- and handed back after the last. -/
theorem leave (c : Dev nD) : (dats m 0 c).Φ (Fin.last cfg0.N) ⊢ Pipeline.ΦA spec0 c := by
  rw [show (dats m 0 c).Φ (Fin.last cfg0.N) = Held m c cfg0.N from rfl, rest_eq]
  unfold Held
  iintro ⟨⟨%xs, -, HS⟩, Hg⟩
  isplitl [HS]
  · iexists xs; iexact HS
  iexact Hg

-- the launch lemma's implicit arguments are found by unfolding plain definitions
set_option backward.isDefEq.respectTransparency.types false in
/-- Every weakly fair execution terminates with the arrays at what the proof data computes and every semaphore at zero. -/
theorem run_zero : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := enter m) (hout := leave m)

/-- The run without the counters. -/
theorem run : θ_run defs (onTc (τ := τ) (main (F := F))) (s₀ m ρ) (Pipeline.FramePost cfgs (dats m) 0 (V m)) :=
  (θ_run defs _ _).mono (fun _ h => h.1) (run_zero m ρ)

/-- The frame: the program terminates, its arguments end as they began and every semaphore ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run m ρ)) ((θ_run defs _ _).mono (fun _ h => h.2) (run_zero m ρ))

end Cert.Kernel6Ideal.Rows

end
-- ==== Proof.Out.Payloads.lean ====
module

public import proofs.«01_k».proof.Proof.Ffn.Payloads
public import proofs.«01_k».proof.Proof.Out.Rows
public import Idealize.ShloMosaic.Lib.Pipeline.ValueKit
public import Idealize.ShloMosaic.Lib.Pipeline.ReadBack

@[expose] public section

set_option maxRecDepth 16384
noncomputable section
open Idealize.ShloMosaic Idealize.ShloMosaic.TcCoe Idealize.SL.Sem
open Idealize.ShloMosaic.Pipeline (Dat)

/-! The arithmetic of the body of `matmul_res_ln`, read at an index: one tile of the row before normalisation, and
the layer normalisation of a row gathered in four tiles. -/

namespace Cert.Kernel6Ideal.Rows
open Cert.Kernel6Ideal Cert.Kernel6Ideal.Gen
open Cert.Kernel2Ideal.Ffn (cInv cEps cAlpha rowMean rowRstd rowNorm sum_four)

/-- One tile of the row before normalisation: the residual and the gated projection. -/
theorem tile_apply (a : Vec Ideal S1x512x2048 .bf16) (w1 : Vec Ideal S2048x512 .bf16) (x : Vec Ideal S1x512x512 .f32) (g : Vec Ideal S1x1x512 .f32) (r y : Fin 512) :
    k0_pay1 (F := Ideal) a w1 x g (ix3 0 r y) = cAlpha * x (ix3 0 r y) + (1 + g (ix3 0 0 y)) * ∑ k : Fin 2048, a (ix3 0 r k) * w1 (ix2 k y) := by
  pointwise [k0_pay1]

/-- Row `r` of the gathered tiles, laid out by column. -/
def rowX (xs : Vec Ideal S4x512x512 .f32) (r : Fin 512) (d : Fin 2048) : EReal :=
  xs (ix3 ⟨d.val / 512, by omega⟩ r ⟨d.val % 512, by omega⟩)

/-- Tile 0 of the gathered rows. -/
theorem win0 (xs : Vec Ideal S4x512x512 .f32) (r x : Fin 512) :
    (VecWindow.window xs ![0, 0, 0] S1x512x512.size inb_S4x512x512_S1x512x512_0_0_0 : Vec Ideal S1x512x512 .f32) (ix3 0 r x)
      = rowX xs r ⟨x.val, by omega⟩ := by
  have e1 : (x.val) / 512 = 0 := by omega
  have e2 : (x.val) % 512 = x.val := by omega
  unfold rowX VecWindow.window
  refine congrArg xs (funext fun a => Fin.ext ?_)
  match a with
  | ⟨0, _⟩ => show 0 + 1 * 0 = (x.val) / 512; omega
  | ⟨1, _⟩ => show 0 + 1 * r.val = r.val; omega
  | ⟨2, _⟩ => show 0 + 1 * x.val = (x.val) % 512; omega

/-- Tile 1 of the gathered rows. -/
theorem win1 (xs : Vec Ideal S4x512x512 .f32) (r x : Fin 512) :
    (VecWindow.window xs ![1, 0, 0] S1x512x512.size inb_S4x512x512_S1x512x512_1_0_0 : Vec Ideal S1x512x512 .f32) (ix3 0 r x)
      = rowX xs r ⟨512 + x.val, by omega⟩ := by
  have e1 : (512 + x.val) / 512 = 1 := by omega
  have e2 : (512 + x.val) % 512 = x.val := by omega
  unfold rowX VecWindow.window
  refine congrArg xs (funext fun a => Fin.ext ?_)
  match a with
  | ⟨0, _⟩ => show 1 + 1 * 0 = (512 + x.val) / 512; omega
  | ⟨1, _⟩ => show 0 + 1 * r.val = r.val; omega
  | ⟨2, _⟩ => show 0 + 1 * x.val = (512 + x.val) % 512; omega

/-- Tile 2 of the gathered rows. -/
theorem win2 (xs : Vec Ideal S4x512x512 .f32) (r x : Fin 512) :
    (VecWindow.window xs ![2, 0, 0] S1x512x512.size inb_S4x512x512_S1x512x512_2_0_0 : Vec Ideal S1x512x512 .f32) (ix3 0 r x)
      = rowX xs r ⟨1024 + x.val, by omega⟩ := by
  have e1 : (1024 + x.val) / 512 = 2 := by omega
  have e2 : (1024 + x.val) % 512 = x.val := by omega
  unfold rowX VecWindow.window
  refine congrArg xs (funext fun a => Fin.ext ?_)
  match a with
  | ⟨0, _⟩ => show 2 + 1 * 0 = (1024 + x.val) / 512; omega
  | ⟨1, _⟩ => show 0 + 1 * r.val = r.val; omega
  | ⟨2, _⟩ => show 0 + 1 * x.val = (1024 + x.val) % 512; omega

/-- Tile 3 of the gathered rows. -/
theorem win3 (xs : Vec Ideal S4x512x512 .f32) (r x : Fin 512) :
    (VecWindow.window xs ![3, 0, 0] S1x512x512.size inb_S4x512x512_S1x512x512_3_0_0 : Vec Ideal S1x512x512 .f32) (ix3 0 r x)
      = rowX xs r ⟨1536 + x.val, by omega⟩ := by
  have e1 : (1536 + x.val) / 512 = 3 := by omega
  have e2 : (1536 + x.val) % 512 = x.val := by omega
  unfold rowX VecWindow.window
  refine congrArg xs (funext fun a => Fin.ext ?_)
  match a with
  | ⟨0, _⟩ => show 3 + 1 * 0 = (1536 + x.val) / 512; omega
  | ⟨1, _⟩ => show 0 + 1 * r.val = r.val; omega
  | ⟨2, _⟩ => show 0 + 1 * x.val = (1536 + x.val) % 512; omega

/-- The part of a scale or shift that belongs to tile 0. -/
theorem lane0 (g : Vec Ideal S1x2048 .f32) (x : Fin 512) :
    (VecWindow.window g ![0, 0] S1x512.size inb_S1x2048_S1x512_0_0 : Vec Ideal S1x512 .f32) (ix2 0 x)
      = g (ix2 0 ⟨x.val, by omega⟩) := by
  unfold VecWindow.window
  refine congrArg g (funext fun a => Fin.ext ?_)
  match a with
  | ⟨0, _⟩ => rfl
  | ⟨1, _⟩ => show 0 + 1 * x.val = x.val; omega

/-- The part of a scale or shift that belongs to tile 1. -/
theorem lane1 (g : Vec Ideal S1x2048 .f32) (x : Fin 512) :
    (VecWindow.window g ![0, 512] S1x512.size inb_S1x2048_S1x512_0_512 : Vec Ideal S1x512 .f32) (ix2 0 x)
      = g (ix2 0 ⟨512 + x.val, by omega⟩) := by
  unfold VecWindow.window
  refine congrArg g (funext fun a => Fin.ext ?_)
  match a with
  | ⟨0, _⟩ => rfl
  | ⟨1, _⟩ => show 512 + 1 * x.val = 512 + x.val; omega

/-- The part of a scale or shift that belongs to tile 2. -/
theorem lane2 (g : Vec Ideal S1x2048 .f32) (x : Fin 512) :
    (VecWindow.window g ![0, 1024] S1x512.size inb_S1x2048_S1x512_0_1024 : Vec Ideal S1x512 .f32) (ix2 0 x)
      = g (ix2 0 ⟨1024 + x.val, by omega⟩) := by
  unfold VecWindow.window
  refine congrArg g (funext fun a => Fin.ext ?_)
  match a with
  | ⟨0, _⟩ => rfl
  | ⟨1, _⟩ => show 1024 + 1 * x.val = 1024 + x.val; omega

/-- The part of a scale or shift that belongs to tile 3. -/
theorem lane3 (g : Vec Ideal S1x2048 .f32) (x : Fin 512) :
    (VecWindow.window g ![0, 1536] S1x512.size inb_S1x2048_S1x512_0_1536 : Vec Ideal S1x512 .f32) (ix2 0 x)
      = g (ix2 0 ⟨1536 + x.val, by omega⟩) := by
  unfold VecWindow.window
  refine congrArg g (funext fun a => Fin.ext ?_)
  match a with
  | ⟨0, _⟩ => rfl
  | ⟨1, _⟩ => show 1536 + 1 * x.val = 1536 + x.val; omega

/-- Tile 0 as a matrix. -/
theorem tile0_apply (a : Vec Ideal S1x512x512 .f32) (r x : Fin 512) : k0_pay4 (F := Ideal) a (ix2 r x) = a (ix3 0 r x) := by
  pointwise [k0_pay4]

/-- Tile 1 as a matrix. -/
theorem tile1_apply (a : Vec Ideal S1x512x512 .f32) (r x : Fin 512) : k0_pay5 (F := Ideal) a (ix2 r x) = a (ix3 0 r x) := by
  pointwise [k0_pay5]

/-- Tile 2 as a matrix. -/
theorem tile2_apply (a : Vec Ideal S1x512x512 .f32) (r x : Fin 512) : k0_pay6 (F := Ideal) a (ix2 r x) = a (ix3 0 r x) := by
  pointwise [k0_pay6]

/-- Tile 3 as a matrix. -/
theorem tile3_apply (a : Vec Ideal S1x512x512 .f32) (r x : Fin 512) : k0_pay7 (F := Ideal) a (ix2 r x) = a (ix3 0 r x) := by
  pointwise [k0_pay7]

section Tiles
variable (R : Fin 512 → Fin 2048 → EReal) (a0 a1 a2 a3 : Vec Ideal S1x512x512 .f32)
  (h0 : ∀ (r : Fin 512) (x : Fin 512), a0 (ix3 0 r x) = R r ⟨x.val, by omega⟩)
  (h1 : ∀ (r : Fin 512) (x : Fin 512), a1 (ix3 0 r x) = R r ⟨512 + x.val, by omega⟩)
  (h2 : ∀ (r : Fin 512) (x : Fin 512), a2 (ix3 0 r x) = R r ⟨1024 + x.val, by omega⟩)
  (h3 : ∀ (r : Fin 512) (x : Fin 512), a3 (ix3 0 r x) = R r ⟨1536 + x.val, by omega⟩)

include h0 h1 h2 h3 in
/-- The mean of a row, from its four tiles. -/
theorem mean_tiles (r : Fin 512) : k0_pay8 (F := Ideal) a0 a1 a2 a3 (ix2 r 0) = rowMean (R r) := by
  pointwise [k0_pay8, tile0_apply, tile1_apply, tile2_apply, tile3_apply]
  simp only [h0, h1, h2, h3]
  rw [rowMean, sum_four]

include h0 h1 h2 h3 in
/-- The reciprocal standard deviation of a row, from its four tiles. -/
theorem rstd_tiles (r : Fin 512) :
    k0_pay11 (F := Ideal) (k0_pay9 a0 a1 a2 a3) (k0_pay10 a0 a1 a2 a3) (ix2 r 0) = rowRstd (R r) := by
  pointwise [k0_pay11, k0_pay9, k0_pay10, tile0_apply, tile1_apply, tile2_apply, tile3_apply, mean_tiles R a0 a1 a2 a3 h0 h1 h2 h3]
  simp only [h0, h1, h2, h3]
  rw [rowRstd, sum_four]

end Tiles

/-- The normalised first tile. -/
theorem col0_apply (a : FVec Ideal S512x512 .f32) (mu q : FVec Ideal S512x1 .f32) (v : FVec Ideal S512x512 .f32)
    (lg lb : Vec Ideal S1x512 .f32) (r x : Fin 512) :
    k0_pay12 (F := Ideal) a mu q v lg lb (ix3 0 r x)
      = (a (ix2 r x) - mu (ix2 r 0)) * k0_pay11 (F := Ideal) q v (ix2 r 0) * lg (ix2 0 x) + lb (ix2 0 x) := by
  pointwise [k0_pay12]

/-- The normalised second tile. -/
theorem col1_apply (a : FVec Ideal S512x512 .f32) (mu q : FVec Ideal S512x1 .f32) (v : FVec Ideal S512x512 .f32)
    (lg lb : Vec Ideal S1x512 .f32) (r x : Fin 512) :
    k0_pay13 (F := Ideal) a mu q v lg lb (ix3 0 r x)
      = (a (ix2 r x) - mu (ix2 r 0)) * k0_pay11 (F := Ideal) q v (ix2 r 0) * lg (ix2 0 x) + lb (ix2 0 x) := by
  pointwise [k0_pay13]

/-- The normalised third tile. -/
theorem col2_apply (a : FVec Ideal S512x512 .f32) (mu rs : FVec Ideal S512x1 .f32)
    (lg lb : Vec Ideal S1x512 .f32) (r x : Fin 512) :
    k0_pay2 (F := Ideal) rs (k0_pay14 a mu) lg lb (ix3 0 r x)
      = (a (ix2 r x) - mu (ix2 r 0)) * rs (ix2 r 0) * lg (ix2 0 x) + lb (ix2 0 x) := by
  pointwise [k0_pay2, k0_pay14]

/-- The normalised fourth tile. -/
theorem col3_apply (a : FVec Ideal S512x512 .f32) (mu rs : FVec Ideal S512x1 .f32)
    (lg lb : Vec Ideal S1x512 .f32) (r x : Fin 512) :
    k0_pay3 (F := Ideal) a mu rs lg lb (ix3 0 r x)
      = (a (ix2 r x) - mu (ix2 r 0)) * rs (ix2 r 0) * lg (ix2 0 x) + lb (ix2 0 x) := by
  pointwise [k0_pay3]

/-- The rows left at the last point of a run are the normalised gathered rows. -/
theorem rowsOf_apply (xs : Vec Ideal S4x512x512 .f32) (g b : Vec Ideal S1x2048 .f32) (r : Fin 512) (d : Fin 2048) :
    rowsOf (F := Ideal) xs g b (ix3 0 r d) = rowNorm (rowX xs r) (fun d => g (ix2 0 d)) (fun d => b (ix2 0 d)) d := by
  unfold rowsOf
  dsimp only
  canon_tiles x h
  all_goals
    idx_vars x
    obtain rfl := Fin.fin_one_eq_zero x0
  case piece0 =>
    have hr : x1 = r := Fin.ext (by omega)
    have hlt : 1536 + x2.val < 2048 := by clear h0 h1 h2; omega
    have hd : d = ⟨1536 + x2.val, hlt⟩ := Fin.ext h2
    subst hr hd
    rw [col3_apply, rstd_tiles (rowX xs) _ _ _ _ (win0 xs) (win1 xs) (win2 xs) (win3 xs), mean_tiles (rowX xs) _ _ _ _ (win0 xs) (win1 xs) (win2 xs) (win3 xs),
      tile3_apply, win3 xs, rowNorm]
    rw [lane3 g, lane3 b]
  case piece1 =>
    have hr : x1 = r := Fin.ext (by omega)
    have hlt : 1024 + x2.val < 2048 := by clear h0 h1 h2; omega
    have hd : d = ⟨1024 + x2.val, hlt⟩ := Fin.ext h2
    subst hr hd
    rw [col2_apply, rstd_tiles (rowX xs) _ _ _ _ (win0 xs) (win1 xs) (win2 xs) (win3 xs), mean_tiles (rowX xs) _ _ _ _ (win0 xs) (win1 xs) (win2 xs) (win3 xs),
      tile2_apply, win2 xs, rowNorm]
    rw [lane2 g, lane2 b]
  case piece2 =>
    have hr : x1 = r := Fin.ext (by omega)
    have hlt : 512 + x2.val < 2048 := by clear h0 h1 h2; omega
    have hd : d = ⟨512 + x2.val, hlt⟩ := Fin.ext h2
    subst hr hd
    rw [col1_apply, rstd_tiles (rowX xs) _ _ _ _ (win0 xs) (win1 xs) (win2 xs) (win3 xs), mean_tiles (rowX xs) _ _ _ _ (win0 xs) (win1 xs) (win2 xs) (win3 xs),
      tile1_apply, win1 xs, rowNorm]
    rw [lane1 g, lane1 b]
  case piece3 =>
    have hr : x1 = r := Fin.ext (by omega)
    have hlt : x2.val < 2048 := by clear h0 h1 h2; omega
    have hd : d = ⟨x2.val, hlt⟩ := Fin.ext h2
    subst hr hd
    rw [col0_apply, rstd_tiles (rowX xs) _ _ _ _ (win0 xs) (win1 xs) (win2 xs) (win3 xs), mean_tiles (rowX xs) _ _ _ _ (win0 xs) (win1 xs) (win2 xs) (win3 xs),
      tile0_apply, win0 xs, rowNorm]
    rw [lane0 g, lane0 b]

end Cert.Kernel6Ideal.Rows
-- ==== Proof.Glu.Payloads.lean ====
module

public import proofs.«01_k».proof.Proof.Out.Payloads
public import proofs.«01_k».proof.Proof.Glu.Rows
public import Idealize.ShloMosaic.Lib.Pipeline.ValueKit
public import Idealize.ShloMosaic.Lib.Pipeline.ReadBack

@[expose] public section

set_option maxRecDepth 16384
noncomputable section
open Idealize.ShloMosaic Idealize.ShloMosaic.TcCoe Idealize.SL.Sem
open Idealize.ShloMosaic.Pipeline (Dat)

/-! The arithmetic of the body of `matmul_res_ln`, read at an index: one tile of the row before normalisation, and
the layer normalisation of the gathered row, which is that of the call without a gate. -/

namespace Cert.Kernel5Ideal.Rows
open Cert.Kernel5Ideal Cert.Kernel5Ideal.Gen
open Cert.Kernel2Ideal.Ffn (cAlpha rowNorm)

/-- One tile of the row before normalisation: the residual and the gated projection. -/
theorem tile_apply (a : Vec Ideal S1x512x2048 .bf16) (w1 w2 : Vec Ideal S2048x512 .bf16) (b1 b2 : Vec Ideal S1x512 .f32) (x : Vec Ideal S1x512x512 .f32) (g : Vec Ideal S1x1x512 .f32) (r y : Fin 512) :
    k0_pay14 (F := Ideal) a w1 b1 w2 b2 x g (ix3 0 r y) = cAlpha * x (ix3 0 r y) + (1 + g (ix3 0 0 y)) * (((∑ k : Fin 2048, a (ix3 0 r k) * w1 (ix2 k y)) + b1 (ix2 0 y))
        * Ideal.logistic ((∑ k : Fin 2048, a (ix3 0 r k) * w2 (ix2 k y)) + b2 (ix2 0 y))) := by
  pointwise [k0_pay14]

/-- The rows left at the last point of a run are the normalised gathered rows. -/
theorem rowsOf_apply (xs : Vec Ideal S4x512x512 .f32) (g b : Vec Ideal S1x2048 .f32) (r : Fin 512) (d : Fin 2048) :
    rowsOf (F := Ideal) xs g b (ix3 0 r d)
      = rowNorm (Cert.Kernel6Ideal.Rows.rowX xs r) (fun d => g (ix2 0 d)) (fun d => b (ix2 0 d)) d :=
  Cert.Kernel6Ideal.Rows.rowsOf_apply xs g b r d

end Cert.Kernel5Ideal.Rows
-- ==== Proof.Glu.Array.lean ====
module

public import proofs.«01_k».proof.Proof.Glu.Payloads
public import Idealize.ShloMosaic.Lib.Pipeline.ValueKit.Held

@[expose] public section

set_option maxRecDepth 16384
noncomputable section
open Idealize.ShloMosaic Idealize.ShloMosaic.TcCoe Idealize.SL.Sem
open Idealize.ShloMosaic.Pipeline (Dat)

/-! The result array of `matmul_res_ln` with a gate as a function of its argument arrays: the four points of a run gather one row
block's tiles, and the run's last point writes the normalised row block back. -/

namespace Cert.Kernel5Ideal.Rows
open Cert.Kernel5Ideal Cert.Kernel5Ideal.Gen
open Cert.Kernel2Ideal.Ffn (cAlpha rowNorm)
open Cert.Kernel6Ideal.Rows (rowX)

/-- Which block of its array each window reads at grid point `t`: batch `t/64`, row block `t/4 % 16`, column tile
`t % 4`. -/
theorem idx_val : ∀ t : Fin cfg0.N,
    win0_0.index t = ![t.val / 64, t.val / 4 % 16, 0] ∧ win0_1.index t = ![0, t.val % 4] ∧ win0_2.index t = ![0, t.val % 4 + 4]
    ∧ win0_3.index t = ![0, t.val % 4] ∧ win0_4.index t = ![0, t.val % 4 + 4] ∧ win0_5.index t = ![t.val / 64, t.val / 4 % 16, t.val % 4]
    ∧ win0_6.index t = ![t.val / 64, 0, t.val % 4] ∧ win0_7.index t = ![0, 0] ∧ win0_8.index t = ![0, 0]
    ∧ win0_9.index t = ![t.val / 64, t.val / 4 % 16, 0] :=
  (by decide +kernel : ∀ t : Fin grid0.N, _)

section Spec
variable (A : Vec Ideal S2x8192x2048 .bf16) (W : Vec Ideal S2048x4096 .f32) (B : Vec Ideal S4096 .f32) (X : Vec Ideal S2x8192x2048 .f32) (G : Vec Ideal S2x1x2048 .f32) (LG LB : Vec Ideal S2048 .f32)

/-- Column `j` of the projection of a row. -/
def proj (b : Fin 2) (s : Fin 8192) (j : Fin 4096) : EReal := (∑ k : Fin 2048, A (ix3 b s k) * W (ix2 k j)) + B (ix1 j)
/-- The row before normalisation: the residual and the gated projection. -/
def preRow (b : Fin 2) (s : Fin 8192) (d : Fin 2048) : EReal :=
  cAlpha * X (ix3 b s d) + (1 + G (ix3 b 0 d))
    * (proj A W B b s ⟨d.val, by omega⟩ * Ideal.logistic (proj A W B b s ⟨d.val + 2048, by omega⟩))
/-- The layer with its residual and layer normalisation, at one element. -/
def lnAt (b : Fin 2) (s : Fin 8192) (d : Fin 2048) : EReal :=
  rowNorm (preRow A W B X G b s) (fun d => LG (ix1 d)) (fun d => LB (ix1 d)) d
end Spec

variable (m : (ℓ : Loc nD τ sig) → Buf (Elt Ideal) ℓ)

/-- The rows entering the projection. -/
abbrev aA (c : Dev nD) : Vec Ideal S2x8192x2048 .bf16 := m ((c : Thread nD τ).loc main_arg0)
/-- The weight matrix. -/
abbrev aW (c : Dev nD) : Vec Ideal S2048x4096 .f32 := m ((c : Thread nD τ).loc main_arg1)
/-- The bias. -/
abbrev aB (c : Dev nD) : Vec Ideal S4096 .f32 := m ((c : Thread nD τ).loc main_arg2)
/-- The residual rows. -/
abbrev aX (c : Dev nD) : Vec Ideal S2x8192x2048 .f32 := m ((c : Thread nD τ).loc main_arg3)
/-- The gate rows. -/
abbrev aG (c : Dev nD) : Vec Ideal S2x1x2048 .f32 := m ((c : Thread nD τ).loc main_arg4)
/-- The normalisation's scale. -/
abbrev aLG (c : Dev nD) : Vec Ideal S2048 .f32 := m ((c : Thread nD τ).loc main_arg5)
/-- The normalisation's shift. -/
abbrev aLB (c : Dev nD) : Vec Ideal S2048 .f32 := m ((c : Thread nD τ).loc main_arg6)

section Blocks
variable (c : Dev nD) (t : Fin cfg0.N)

/-- A point's batch is one of the two. -/
theorem bound_b : t.val / 64 < 2 := by have h : t.val < 128 := t.isLt; omega
/-- A row of a point's block is a row of the array. -/
theorem bound_s (r : Fin 512) : t.val / 4 % 16 * 512 + r.val < 8192 := by omega
/-- A column of a point's tile is a column of the array. -/
theorem bound_d (y : Fin 512) : t.val % 4 * 512 + y.val < 2048 := by omega

/-- Row `r` of the block of rows at point `t`. -/
theorem blk_a (r : Fin 512) (k : Fin 2048) :
    (iblk m c 0 t : Vec Ideal S1x512x2048 .bf16) (ix3 0 r k) = aA m c (ix3 ⟨t.val / 64, bound_b t⟩ ⟨t.val / 4 % 16 * 512 + r.val, bound_s t r⟩ k) := by
  blk_ext [iblk, V, idx_val t]
/-- The value columns of the weights at point `t`. -/
theorem blk_w1 (k : Fin 2048) (y : Fin 512) :
    (iblk m c 1 t : Vec Ideal S2048x512 .bf16) (ix2 k y) = aW m c (ix2 k ⟨t.val % 4 * 512 + y.val, by omega⟩) := by
  blk_ext [iblk, V, idx_val t]
/-- The gate columns of the weights at point `t`. -/
theorem blk_w2 (k : Fin 2048) (y : Fin 512) :
    (iblk m c 2 t : Vec Ideal S2048x512 .bf16) (ix2 k y) = aW m c (ix2 k ⟨t.val % 4 * 512 + y.val + 2048, by omega⟩) := by
  blk_ext [iblk, V, idx_val t]
/-- The value columns of the bias at point `t`. -/
theorem blk_b1 (y : Fin 512) :
    (iblk m c 3 t : Vec Ideal S1x512 .f32) (ix2 0 y) = aB m c (ix1 ⟨t.val % 4 * 512 + y.val, by omega⟩) := by
  blk_ext! [iblk, V, idx_val t]
/-- The gate columns of the bias at point `t`. -/
theorem blk_b2 (y : Fin 512) :
    (iblk m c 4 t : Vec Ideal S1x512 .f32) (ix2 0 y) = aB m c (ix1 ⟨t.val % 4 * 512 + y.val + 2048, by omega⟩) := by
  blk_ext! [iblk, V, idx_val t]
/-- The residual tile at point `t`. -/
theorem blk_x (r y : Fin 512) :
    (iblk m c 5 t : Vec Ideal S1x512x512 .f32) (ix3 0 r y)
      = aX m c (ix3 ⟨t.val / 64, bound_b t⟩ ⟨t.val / 4 % 16 * 512 + r.val, bound_s t r⟩ ⟨t.val % 4 * 512 + y.val, bound_d t y⟩) := by
  blk_ext [iblk, V, idx_val t]
/-- The gate tile at point `t`. -/
theorem blk_g (y : Fin 512) :
    (iblk m c 6 t : Vec Ideal S1x1x512 .f32) (ix3 0 0 y) = aG m c (ix3 ⟨t.val / 64, bound_b t⟩ 0 ⟨t.val % 4 * 512 + y.val, bound_d t y⟩) := by
  blk_ext [iblk, V, idx_val t]
/-- The normalisation's gain. -/
theorem blk_lg (d : Fin 2048) : (iblk m c 7 t : Vec Ideal S1x2048 .f32) (ix2 0 d) = aLG m c (ix1 d) := by
  blk_ext! [iblk, V, idx_val t]
/-- The normalisation's bias. -/
theorem blk_lb (d : Fin 2048) : (iblk m c 8 t : Vec Ideal S1x2048 .f32) (ix2 0 d) = aLB m c (ix1 d) := by
  blk_ext! [iblk, V, idx_val t]

/-- A point's tile is its part of the rows before normalisation. -/
theorem tile_eq (r y : Fin 512) :
    tile m c t (ix3 0 r y) = preRow (aA m c) (aW m c) (aB m c) (aX m c) (aG m c) ⟨t.val / 64, bound_b t⟩ ⟨t.val / 4 % 16 * 512 + r.val, bound_s t r⟩
      ⟨t.val % 4 * 512 + y.val, bound_d t y⟩ := by
  refine (tile_apply _ _ _ _ _ _ _ r y).trans ?_
  simp only [blk_a, blk_w1, blk_w2, blk_b1, blk_b2, blk_x, blk_g]
  rfl

/-- The tiles gathered in a point's run are its rows before normalisation. -/
theorem stack_eq (r : Fin 512) :
    rowX (stack m c (t.val / 4)) r = preRow (aA m c) (aW m c) (aB m c) (aX m c) (aG m c) ⟨t.val / 64, bound_b t⟩ ⟨t.val / 4 % 16 * 512 + r.val, bound_s t r⟩ := by
  funext d
  have ht : t.val < 128 := t.isLt
  have hd : d.val / 512 < 4 := by omega
  have e : (4 * (t.val / 4) + d.val / 512) % cfg0.N = 4 * (t.val / 4) + d.val / 512 := Nat.mod_eq_of_lt (by show _ < 128; omega)
  refine (tile_eq m c ⟨(4 * (t.val / 4) + d.val / 512) % cfg0.N, Nat.mod_lt _ (by decide)⟩ r ⟨d.val % 512, by omega⟩).trans ?_
  have e1 : (4 * (t.val / 4) + d.val / 512) / 64 = t.val / 64 := by omega
  have e2 : (4 * (t.val / 4) + d.val / 512) / 4 = t.val / 4 := by omega
  have e3 : (4 * (t.val / 4) + d.val / 512) % 4 * 512 + d.val % 512 = d.val := by omega
  simp only [e, e1, e2, e3]

/-- The block written back at the last point of a run. -/
theorem out_eq (r : Fin 512) (d : Fin 2048) :
    rowsOf (F := Ideal) (stack m c (t.val / 4)) (iblk m c 7 t) (iblk m c 8 t) (ix3 0 r d)
      = lnAt (aA m c) (aW m c) (aB m c) (aX m c) (aG m c) (aLG m c) (aLB m c) ⟨t.val / 64, bound_b t⟩ ⟨t.val / 4 % 16 * 512 + r.val, bound_s t r⟩ d := by
  refine (rowsOf_apply _ _ _ r d).trans ?_
  rw [stack_eq m c t r]
  simp only [blk_lg, blk_lb]
  rfl

end Blocks

/-- Where row `r` of the output block of point `t` lies in the result array. -/
theorem out_place (t : Fin cfg0.N) (r : Fin 512) (d : Fin 2048) :
    (((View.whole main_v4).slice (win0_9.rect t)).emb (ix3 0 r d) : S2x8192x2048.Idx)
      = ix3 ⟨t.val / 64, bound_b t⟩ ⟨t.val / 4 % 16 * 512 + r.val, bound_s t r⟩ d := by
  blk_ext [idx_val t]

/-- The layer of the arguments as an array. -/
def lnArr (c : Dev nD) : Vec Ideal S2x8192x2048 .f32 := fun i => lnAt (aA m c) (aW m c) (aB m c) (aX m c) (aG m c) (aLG m c) (aLB m c) (i 0) (i 1) (i 2)

/-- The block written back at the last point of a run is that block of the array. -/
theorem block_eq (c : Dev nD) (t : Fin cfg0.N) (y : S1x512x2048.Idx) :
    rowsOf (F := Ideal) (stack m c (t.val / 4)) (iblk m c 7 t) (iblk m c 8 t) y
      = lnArr m c (((View.whole main_v4).slice (win0_9.rect t)).emb y) := by
  obtain ⟨y0, r, d, rfl⟩ : ∃ y0 r d, y = ix3 y0 r d := ⟨y 0, y 1, y 2, eq_ix3 y⟩
  obtain rfl := Fin.fin_one_eq_zero y0
  exact (out_eq m c t r d).trans (congrArg (lnArr m c) (out_place t r d)).symm

/-- The blocks written back cover the result array. -/
theorem cover_out : (cfg0.win 9).Covers := by decide +kernel

/-- The kernel's result array is the layer of the arguments. -/
theorem final (c : Dev nD) : (dats m 0 c).arrAt 9 cfg0.N = lnArr m c := by
  refine (dats m 0 c).arrAt_eq_of_covers 9 (lnArr m c) cover_out fun t _ y => ?_
  refine Eq.trans (congrFun (after_out m c t) _) ?_
  exact block_eq m c t _

end Cert.Kernel5Ideal.Rows
-- ==== Proof.Glu.Reference.lean ====
module

public import proofs.«01_k».proof.Proof.Gen.Reference5Ideal.Run
public import proofs.«01_k».proof.Proof.Glu.Array
public import proofs.«01_k».proof.Proof.Ffn.Reference

@[expose] public section

set_option maxRecDepth 16384
noncomputable section
open Idealize.ShloMosaic Idealize.ShloMosaic.TcCoe Idealize.SL.Sem

/-! The reference of `matmul_res_ln` with a gate: its result, read at an element. -/

namespace Cert.Reference5Ideal.Rows
open Cert.Reference5Ideal Cert.Reference5Ideal.Gen Cert.Reference5Ideal.Value
open Cert.Kernel2Ideal.Ffn (cAlpha rowNorm)
open Cert.Reference2Ideal.Ffn (normT normT_apply logistic_eq)
open Cert.Kernel5Ideal.Rows (proj preRow lnAt)

section Stages
variable (A : FVec Ideal S2x8192x2048 .bf16) (W : FVec Ideal S2048x4096 .f32) (B : FVec Ideal S4096 .f32) (X : FVec Ideal S2x8192x2048 .f32) (G : FVec Ideal S2x1x2048 .f32)

/-- The projection with its bias. -/
def projT : FVec Ideal S2x8192x4096 .f32 :=
  addf (Host.dotGeneral dot_S2x8192x2048_S2048x4096_S2x8192x4096_2_0_01_1_n_n none (extf .f32 A bitsLt_bf16_f32) W)
    (broadcastInDim S2x8192x4096 ![0, 1, 2] bcast_S1x1x4096_S2x8192x4096_0_1_2 (broadcastInDim S1x1x4096 ![2] bcast_S4096_S1x1x4096_2 B))
/-- The value half scaled by the logistic function of the gate half. -/
def gluT (z : FVec Ideal S2x8192x4096 .f32) : FVec Ideal S2x8192x2048 .f32 :=
  mulf (extractStridedSlice S2x8192x2048 ![0, 0, 0] z slices_S2x8192x4096_S2x8192x2048_0_0_0)
    (Host.divf (broadcastInDim S2x8192x2048 ![] bcast_S_S2x8192x2048 (constant S_ .f32 0x3F800000#32))
      (addf (broadcastInDim S2x8192x2048 ![] bcast_S_S2x8192x2048 (constant S_ .f32 0x3F800000#32))
        (Host.exp (Host.negf (extractStridedSlice S2x8192x2048 ![0, 0, 2048] z slices_S2x8192x4096_S2x8192x2048_0_0_2048)))))
/-- The rows before normalisation. -/
def preT (y : FVec Ideal S2x8192x2048 .f32) : FVec Ideal S2x8192x2048 .f32 :=
  addf (mulf (broadcastInDim S2x8192x2048 ![] bcast_S_S2x8192x2048 (constant S_ .f32 0x3FB504F3#32)) X)
    (mulf (broadcastInDim S2x8192x2048 ![0, 1, 2] bcast_S2x1x2048_S2x8192x2048_0_1_2 (addf (broadcastInDim S2x1x2048 ![] bcast_S_S2x1x2048 (constant S_ .f32 0x3F800000#32)) G)) y)

variable (b : Fin 2) (s : Fin 8192)

/-- The projection, at an element. -/
theorem projT_apply (j : Fin 4096) : projT A W B (ix3 b s j) = proj A W B b s j := by
  pointwise [projT, proj]

/-- The gated projection, at an element. -/
theorem gluT_apply (z : FVec Ideal S2x8192x4096 .f32) (d : Fin 2048) :
    gluT z (ix3 b s d) = z (ix3 b s ⟨d.val, by omega⟩) * Ideal.logistic (z (ix3 b s ⟨d.val + 2048, by omega⟩)) := by
  pointwise [gluT]
  simp only [logistic_eq, Nat.add_comm]

/-- The row before normalisation, at an element. -/
theorem preT_apply (y : FVec Ideal S2x8192x2048 .f32) (d : Fin 2048) :
    preT X G y (ix3 b s d) = cAlpha * X (ix3 b s d) + (1 + G (ix3 b 0 d)) * y (ix3 b s d) := by
  pointwise [preT]

end Stages

/-- The reference's result is the layer of the same arguments. -/
theorem ref_eq (m : (ℓ : Loc nD τ sig) → Buf (Elt Ideal) ℓ) (c : Dev nD) (b : Fin 2) (s : Fin 8192) (d : Fin 2048) :
    (res_out0 m c : FVec Ideal S2x8192x2048 .f32) (ix3 b s d) = lnAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) b s d := by
  have e : (res_out0 m c : FVec Ideal S2x8192x2048 .f32) = normT (m ((c.tc : Thread nD τ).loc main_arg5)) (m ((c.tc : Thread nD τ).loc main_arg6))
      (preT (m ((c.tc : Thread nD τ).loc main_arg3)) (m ((c.tc : Thread nD τ).loc main_arg4)) (gluT (projT (m ((c.tc : Thread nD τ).loc main_arg0)) (m ((c.tc : Thread nD τ).loc main_arg1)) (m ((c.tc : Thread nD τ).loc main_arg2))))) := rfl
  rw [e, normT_apply]
  simp only [preT_apply, gluT_apply, projT_apply]
  rfl

end Cert.Reference5Ideal.Rows
-- ==== Proof.Out.RowsBits.lean ====
module

public import proofs.«01_k».proof.Proof.Out.Rows
public import proofs.«01_k».proof.Proof.Gen.Kernel6.Frame
public import Idealize.ShloMosaic.PureOps.BitExact

@[expose] public section

set_option maxRecDepth 16384
noncomputable section
open Idealize.ShloMosaic Idealize.ShloMosaic.TcCoe Idealize.SL.Sem

/-! The frame of the call at the machine's own floats. No rewrite was applied, so its text is that of the idealised
call and the frame proved there holds of it. -/

namespace Cert.Kernel6

/-- The two texts have the same bodies. -/
theorem bodies_eq : defs₀ (F := Bits) = Cert.Kernel6Ideal.defs₀ (F := Bits) := by
  unfold defs₀ Cert.Kernel6Ideal.defs₀
  refine congrArg Defs.onTc ?_
  funext l a
  match l, a with
  | 0, (t, s) => rfl

/-- The two texts have the same definitions. -/
theorem defs_eq : defs (F := Bits) = Cert.Kernel6Ideal.defs (F := Bits) :=
  congrArg (Pipeline.defs (pcfgs (F := Bits))) bodies_eq

/-- The program terminates, its arguments end as they began and every semaphore ends at zero. -/
theorem frame (m : (ℓ : Loc nD τ sig) → Buf (Elt Bits) ℓ) (ρ : Dev nD → PrngReg) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  rw [defs_eq]
  exact Cert.Kernel6Ideal.Rows.frame (F := Bits) m ρ

end Cert.Kernel6
-- ==== Proof.Out.Array.lean ====
module

public import proofs.«01_k».proof.Proof.Out.Payloads
public import Idealize.ShloMosaic.Lib.Pipeline.ValueKit.Held

@[expose] public section

set_option maxRecDepth 16384
noncomputable section
open Idealize.ShloMosaic Idealize.ShloMosaic.TcCoe Idealize.SL.Sem
open Idealize.ShloMosaic.Pipeline (Dat)

/-! The result array of `matmul_res_ln` without a gate as a function of its argument arrays: the four points of a run gather one row
block's tiles, and the run's last point writes the normalised row block back. -/

namespace Cert.Kernel6Ideal.Rows
open Cert.Kernel6Ideal Cert.Kernel6Ideal.Gen
open Cert.Kernel2Ideal.Ffn (cAlpha rowNorm)
open Cert.Kernel6Ideal.Rows (rowX)

/-- Which block of its array each window reads at grid point `t`: batch `t/64`, row block `t/4 % 16`, column tile
`t % 4`. -/
theorem idx_val : ∀ t : Fin cfg0.N,
    win0_0.index t = ![t.val / 64, t.val / 4 % 16, 0] ∧ win0_1.index t = ![0, t.val % 4]
    ∧ win0_2.index t = ![t.val / 64, t.val / 4 % 16, t.val % 4] ∧ win0_3.index t = ![t.val / 64, 0, t.val % 4]
    ∧ win0_4.index t = ![0, 0] ∧ win0_5.index t = ![0, 0] ∧ win0_6.index t = ![t.val / 64, t.val / 4 % 16, 0] :=
  (by decide +kernel : ∀ t : Fin grid0.N, _)

section Spec
variable (A : Vec Ideal S2x8192x2048 .bf16) (W : Vec Ideal S2048x2048 .f32) (X : Vec Ideal S2x8192x2048 .f32) (G : Vec Ideal S2x1x2048 .f32) (LG LB : Vec Ideal S2048 .f32)

/-- The row before normalisation: the residual and the projection. -/
def preRow (b : Fin 2) (s : Fin 8192) (d : Fin 2048) : EReal :=
  cAlpha * X (ix3 b s d) + (1 + G (ix3 b 0 d)) * ∑ k : Fin 2048, A (ix3 b s k) * W (ix2 k d)
/-- The layer with its residual and layer normalisation, at one element. -/
def lnAt (b : Fin 2) (s : Fin 8192) (d : Fin 2048) : EReal :=
  rowNorm (preRow A W X G b s) (fun d => LG (ix1 d)) (fun d => LB (ix1 d)) d
end Spec

variable (m : (ℓ : Loc nD τ sig) → Buf (Elt Ideal) ℓ)

/-- The rows entering the projection. -/
abbrev aA (c : Dev nD) : Vec Ideal S2x8192x2048 .bf16 := m ((c : Thread nD τ).loc main_arg0)
/-- The weight matrix. -/
abbrev aW (c : Dev nD) : Vec Ideal S2048x2048 .f32 := m ((c : Thread nD τ).loc main_arg1)
/-- The residual rows. -/
abbrev aX (c : Dev nD) : Vec Ideal S2x8192x2048 .f32 := m ((c : Thread nD τ).loc main_arg2)
/-- The gate rows. -/
abbrev aG (c : Dev nD) : Vec Ideal S2x1x2048 .f32 := m ((c : Thread nD τ).loc main_arg3)
/-- The normalisation's scale. -/
abbrev aLG (c : Dev nD) : Vec Ideal S2048 .f32 := m ((c : Thread nD τ).loc main_arg4)
/-- The normalisation's shift. -/
abbrev aLB (c : Dev nD) : Vec Ideal S2048 .f32 := m ((c : Thread nD τ).loc main_arg5)

section Blocks
variable (c : Dev nD) (t : Fin cfg0.N)

/-- A point's batch is one of the two. -/
theorem bound_b : t.val / 64 < 2 := by have h : t.val < 128 := t.isLt; omega
/-- A row of a point's block is a row of the array. -/
theorem bound_s (r : Fin 512) : t.val / 4 % 16 * 512 + r.val < 8192 := by omega
/-- A column of a point's tile is a column of the array. -/
theorem bound_d (y : Fin 512) : t.val % 4 * 512 + y.val < 2048 := by omega

/-- Row `r` of the block of rows at point `t`. -/
theorem blk_a (r : Fin 512) (k : Fin 2048) :
    (iblk m c 0 t : Vec Ideal S1x512x2048 .bf16) (ix3 0 r k) = aA m c (ix3 ⟨t.val / 64, bound_b t⟩ ⟨t.val / 4 % 16 * 512 + r.val, bound_s t r⟩ k) := by
  blk_ext [iblk, V, idx_val t]
/-- The columns of the weights at point `t`. -/
theorem blk_w1 (k : Fin 2048) (y : Fin 512) :
    (iblk m c 1 t : Vec Ideal S2048x512 .bf16) (ix2 k y) = aW m c (ix2 k ⟨t.val % 4 * 512 + y.val, by omega⟩) := by
  blk_ext [iblk, V, idx_val t]
/-- The residual tile at point `t`. -/
theorem blk_x (r y : Fin 512) :
    (iblk m c 2 t : Vec Ideal S1x512x512 .f32) (ix3 0 r y)
      = aX m c (ix3 ⟨t.val / 64, bound_b t⟩ ⟨t.val / 4 % 16 * 512 + r.val, bound_s t r⟩ ⟨t.val % 4 * 512 + y.val, bound_d t y⟩) := by
  blk_ext [iblk, V, idx_val t]
/-- The gate tile at point `t`. -/
theorem blk_g (y : Fin 512) :
    (iblk m c 3 t : Vec Ideal S1x1x512 .f32) (ix3 0 0 y) = aG m c (ix3 ⟨t.val / 64, bound_b t⟩ 0 ⟨t.val % 4 * 512 + y.val, bound_d t y⟩) := by
  blk_ext [iblk, V, idx_val t]
/-- The normalisation's gain. -/
theorem blk_lg (d : Fin 2048) : (iblk m c 4 t : Vec Ideal S1x2048 .f32) (ix2 0 d) = aLG m c (ix1 d) := by
  blk_ext! [iblk, V, idx_val t]
/-- The normalisation's bias. -/
theorem blk_lb (d : Fin 2048) : (iblk m c 5 t : Vec Ideal S1x2048 .f32) (ix2 0 d) = aLB m c (ix1 d) := by
  blk_ext! [iblk, V, idx_val t]

/-- A point's tile is its part of the rows before normalisation. -/
theorem tile_eq (r y : Fin 512) :
    tile m c t (ix3 0 r y) = preRow (aA m c) (aW m c) (aX m c) (aG m c) ⟨t.val / 64, bound_b t⟩ ⟨t.val / 4 % 16 * 512 + r.val, bound_s t r⟩
      ⟨t.val % 4 * 512 + y.val, bound_d t y⟩ := by
  refine (tile_apply _ _ _ _ r y).trans ?_
  simp only [blk_a, blk_w1, blk_x, blk_g]
  rfl

/-- The tiles gathered in a point's run are its rows before normalisation. -/
theorem stack_eq (r : Fin 512) :
    rowX (stack m c (t.val / 4)) r = preRow (aA m c) (aW m c) (aX m c) (aG m c) ⟨t.val / 64, bound_b t⟩ ⟨t.val / 4 % 16 * 512 + r.val, bound_s t r⟩ := by
  funext d
  have ht : t.val < 128 := t.isLt
  have hd : d.val / 512 < 4 := by omega
  have e : (4 * (t.val / 4) + d.val / 512) % cfg0.N = 4 * (t.val / 4) + d.val / 512 := Nat.mod_eq_of_lt (by show _ < 128; omega)
  refine (tile_eq m c ⟨(4 * (t.val / 4) + d.val / 512) % cfg0.N, Nat.mod_lt _ (by decide)⟩ r ⟨d.val % 512, by omega⟩).trans ?_
  have e1 : (4 * (t.val / 4) + d.val / 512) / 64 = t.val / 64 := by omega
  have e2 : (4 * (t.val / 4) + d.val / 512) / 4 = t.val / 4 := by omega
  have e3 : (4 * (t.val / 4) + d.val / 512) % 4 * 512 + d.val % 512 = d.val := by omega
  simp only [e, e1, e2, e3]

/-- The block written back at the last point of a run. -/
theorem out_eq (r : Fin 512) (d : Fin 2048) :
    rowsOf (F := Ideal) (stack m c (t.val / 4)) (iblk m c 4 t) (iblk m c 5 t) (ix3 0 r d)
      = lnAt (aA m c) (aW m c) (aX m c) (aG m c) (aLG m c) (aLB m c) ⟨t.val / 64, bound_b t⟩ ⟨t.val / 4 % 16 * 512 + r.val, bound_s t r⟩ d := by
  refine (rowsOf_apply _ _ _ r d).trans ?_
  rw [stack_eq m c t r]
  simp only [blk_lg, blk_lb]
  rfl

end Blocks

/-- Where row `r` of the output block of point `t` lies in the result array. -/
theorem out_place (t : Fin cfg0.N) (r : Fin 512) (d : Fin 2048) :
    (((View.whole main_v3).slice (win0_6.rect t)).emb (ix3 0 r d) : S2x8192x2048.Idx)
      = ix3 ⟨t.val / 64, bound_b t⟩ ⟨t.val / 4 % 16 * 512 + r.val, bound_s t r⟩ d := by
  blk_ext [idx_val t]

/-- The layer of the arguments as an array. -/
def lnArr (c : Dev nD) : Vec Ideal S2x8192x2048 .f32 := fun i => lnAt (aA m c) (aW m c) (aX m c) (aG m c) (aLG m c) (aLB m c) (i 0) (i 1) (i 2)

/-- The block written back at the last point of a run is that block of the array. -/
theorem block_eq (c : Dev nD) (t : Fin cfg0.N) (y : S1x512x2048.Idx) :
    rowsOf (F := Ideal) (stack m c (t.val / 4)) (iblk m c 4 t) (iblk m c 5 t) y
      = lnArr m c (((View.whole main_v3).slice (win0_6.rect t)).emb y) := by
  obtain ⟨y0, r, d, rfl⟩ : ∃ y0 r d, y = ix3 y0 r d := ⟨y 0, y 1, y 2, eq_ix3 y⟩
  obtain rfl := Fin.fin_one_eq_zero y0
  exact (out_eq m c t r d).trans (congrArg (lnArr m c) (out_place t r d)).symm

/-- The blocks written back cover the result array. -/
theorem cover_out : (cfg0.win 6).Covers := by decide +kernel

/-- The kernel's result array is the layer of the arguments. -/
theorem final (c : Dev nD) : (dats m 0 c).arrAt 6 cfg0.N = lnArr m c := by
  refine (dats m 0 c).arrAt_eq_of_covers 6 (lnArr m c) cover_out fun t _ y => ?_
  refine Eq.trans (congrFun (after_out m c t) _) ?_
  exact block_eq m c t _

end Cert.Kernel6Ideal.Rows
-- ==== Proof.Out.Reference.lean ====
module

public import proofs.«01_k».proof.Proof.Gen.Reference6Ideal.Run
public import proofs.«01_k».proof.Proof.Out.Array
public import proofs.«01_k».proof.Proof.Ffn.Reference

@[expose] public section

set_option maxRecDepth 16384
noncomputable section
open Idealize.ShloMosaic Idealize.ShloMosaic.TcCoe Idealize.SL.Sem

/-! The reference of `matmul_res_ln` without a gate: its result, read at an element. -/

namespace Cert.Reference6Ideal.Rows
open Cert.Reference6Ideal Cert.Reference6Ideal.Gen Cert.Reference6Ideal.Value
open Cert.Kernel2Ideal.Ffn (cAlpha rowNorm)
open Cert.Reference2Ideal.Ffn (normT normT_apply logistic_eq)
open Cert.Kernel6Ideal.Rows (preRow lnAt)

section Stages
variable (A : FVec Ideal S2x8192x2048 .bf16) (W : FVec Ideal S2048x2048 .f32) (X : FVec Ideal S2x8192x2048 .f32) (G : FVec Ideal S2x1x2048 .f32)

/-- The projection. -/
def projT : FVec Ideal S2x8192x2048 .f32 :=
  Host.dotGeneral dot_S2x8192x2048_S2048x2048_S2x8192x2048_2_0_01_1_n_n none (extf .f32 A bitsLt_bf16_f32) W
/-- The rows before normalisation. -/
def preT (y : FVec Ideal S2x8192x2048 .f32) : FVec Ideal S2x8192x2048 .f32 :=
  addf (mulf (broadcastInDim S2x8192x2048 ![] bcast_S_S2x8192x2048 (constant S_ .f32 0x3FB504F3#32)) X)
    (mulf (broadcastInDim S2x8192x2048 ![0, 1, 2] bcast_S2x1x2048_S2x8192x2048_0_1_2 (addf (broadcastInDim S2x1x2048 ![] bcast_S_S2x1x2048 (constant S_ .f32 0x3F800000#32)) G)) y)

variable (b : Fin 2) (s : Fin 8192)

/-- The projection, at an element. -/
theorem projT_apply (d : Fin 2048) : projT A W (ix3 b s d) = ∑ k : Fin 2048, A (ix3 b s k) * W (ix2 k d) := by
  pointwise [projT]

/-- The row before normalisation, at an element. -/
theorem preT_apply (y : FVec Ideal S2x8192x2048 .f32) (d : Fin 2048) :
    preT X G y (ix3 b s d) = cAlpha * X (ix3 b s d) + (1 + G (ix3 b 0 d)) * y (ix3 b s d) := by
  pointwise [preT]

end Stages

/-- The reference's result is the layer of the same arguments. -/
theorem ref_eq (m : (ℓ : Loc nD τ sig) → Buf (Elt Ideal) ℓ) (c : Dev nD) (b : Fin 2) (s : Fin 8192) (d : Fin 2048) :
    (res_out0 m c : FVec Ideal S2x8192x2048 .f32) (ix3 b s d) = lnAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) b s d := by
  have e : (res_out0 m c : FVec Ideal S2x8192x2048 .f32) = normT (m ((c.tc : Thread nD τ).loc main_arg4)) (m ((c.tc : Thread nD τ).loc main_arg5))
      (preT (m ((c.tc : Thread nD τ).loc main_arg2)) (m ((c.tc : Thread nD τ).loc main_arg3)) (projT (m ((c.tc : Thread nD τ).loc main_arg0)) (m ((c.tc : Thread nD τ).loc main_arg1)))) := rfl
  rw [e, normT_apply]
  simp only [preT_apply, projT_apply]
  rfl

end Cert.Reference6Ideal.Rows
-- ==== Proof.lean ====
/- The claims assembled: the frames from the generated runs, the value claims from the modules under Proof/. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Idx.Reference
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel3Ideal.Value
public import proofs.«01_k».proof.Proof.Gen.Reference3Ideal.Run
public import proofs.«01_k».proof.Proof.Gen.Kernel4Ideal.Value
public import proofs.«01_k».proof.Proof.Gen.Reference4Ideal.Run
public import proofs.«01_k».proof.Proof.Gen.ReferenceIdeal.Run
public import proofs.«01_k».proof.Proof.Ffn.Reference
public import proofs.«01_k».proof.Proof.Scan.Tail
public import proofs.«01_k».proof.Proof.Scan.RefOut
public import proofs.«01_k».proof.Proof.Scan.Finite
public import proofs.«01_k».proof.Proof.InProj.Array
public import proofs.«01_k».proof.Proof.Qkv.Reference
public import proofs.«01_k».proof.Proof.Glu.RowsBits
public import proofs.«01_k».proof.Proof.Glu.Reference
public import proofs.«01_k».proof.Proof.Out.RowsBits
public import proofs.«01_k».proof.Proof.Out.Reference
public import Idealize.ShloMosaic.Adequacy
public import Idealize.ShloMosaic.Init
public import Idealize.ShloMosaic.Lib.Claim
public import Idealize.ShloMosaic.Lib.Quiescent

@[expose] public section

set_option maxRecDepth 16384

noncomputable section

namespace Cert.Proof

open Idealize.ShloMosaic Idealize.SL.Sem Cert.Kernel

/-- The feed-forward call and its reference end with equal results. -/
theorem algebraic_ffn : Cert.algebraic_Kernel2Ideal_Reference2Ideal := by
  pair_intro
  · run_from Cert.Kernel2Ideal.Gen.run_main m g
  · run_from Cert.Reference2Ideal.Value.run m' g'
    refine Eq.trans ?_ (Cert.Kernel2Ideal.Ffn.final m c).symm
    funext i
    have hr := Cert.Reference2Ideal.Ffn.ref_eq m' c (i 0) (i 1) (i 2)
    rw [← eq_ix3 i] at hr
    refine hr.trans ?_
    obtain ⟨h0, h1, h2, h3, h4, h5, h6, h7⟩ := hagree c
    rw [h0, h1, h2, h3, h4, h5, h6, h7]
    rfl

/-- The scan's reference leaves its arguments as they were and every counter at zero. -/
theorem frame_scan : Cert.quiescent_ReferenceIdeal := by
  intro m g _
  refine (θ_run _ _ _).mono (fun r h => ⟨?_, sem_eq_zero_of_no_sems (by decide) _⟩) (Cert.ReferenceIdeal.Value.run m g)
  exact fun c => (h c).2

/-- The feed-forward reference leaves its arguments as they were and every counter at zero. -/
theorem frame_ffn : Cert.quiescent_Reference2Ideal := by
  intro m g _
  refine (θ_run _ _ _).mono (fun r h => ⟨?_, sem_eq_zero_of_no_sems (by decide) _⟩) (Cert.Reference2Ideal.Value.run m g)
  exact fun c => (h c).2

/-- The shape facts the precondition's text needs. -/
theorem regularFacts : Cert.Pre_regular.Facts := ⟨by decide, by decide, by decide, by decide, by decide⟩

/-- The reference's result is the kernel's, where the precondition holds and the arguments agree. -/
theorem scan_eq [Cert.Pre_regular.Facts] (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_regular m) (c : Dev Cert.KernelIdeal.nD)
    (h0 : Cert.ReferenceIdeal.Scan.a0 m' c = Cert.KernelIdeal.Scan.h_arg0 m c) (h1 : Cert.ReferenceIdeal.Scan.a1 m' c = Cert.KernelIdeal.Scan.h_arg1 m c)
    (h2 : Cert.ReferenceIdeal.Scan.a2 m' c = Cert.KernelIdeal.Scan.h_arg2 m c) (h3 : Cert.ReferenceIdeal.Scan.a3 m' c = Cert.KernelIdeal.Scan.h_arg3 m c)
    (h4 : Cert.ReferenceIdeal.Scan.a4 m' c = Cert.KernelIdeal.Scan.h_arg4 m c) (h5 : Cert.ReferenceIdeal.Scan.a5 m' c = Cert.KernelIdeal.Scan.h_arg5 m c)
    (h6 : Cert.ReferenceIdeal.Scan.a6 m' c = Cert.KernelIdeal.Scan.h_arg6 m c) (h7 : Cert.ReferenceIdeal.Scan.a7 m' c = Cert.KernelIdeal.Scan.h_arg7 m c)
    (h8 : Cert.ReferenceIdeal.Scan.a8 m' c = Cert.KernelIdeal.Scan.h_arg8 m c) :
    (Cert.ReferenceIdeal.Value.out_main_v72 (Cert.ReferenceIdeal.Value.STEP^[8192] (StableHlo.entryContents Cert.ReferenceIdeal.Value.preI m' c)) : FVec Ideal Cert.KernelIdeal.S2x8192x2048 .bf16)
      = Pipeline.afterTail₀ Cert.KernelIdeal.cfgs (Cert.KernelIdeal.Gen.dats m) 0 (Cert.KernelIdeal.Gen.V0 m) [Cert.KernelIdeal.Gen.hostOps1] c Cert.KernelIdeal.main_v128 := by
  obtain ⟨⟨L, I, hreg⟩, R, hR⟩ := Cert.KernelIdeal.Scan.regular_of m c (Cert.KernelIdeal.Scan.sound_of _ _ _ _ _ _ (Cert.KernelIdeal.Scan.h_arg6 m c) _ (Cert.KernelIdeal.Scan.h_arg8 m c) (hpre c))
  refine Eq.trans ?_ (Cert.KernelIdeal.Scan.result_eq m c).symm
  rw [Cert.KernelIdeal.Scan.final m c L I hreg R hR]
  funext i
  obtain ⟨b, k, d, rfl⟩ : ∃ b k d, i = ix3 b k d := ⟨i 0, i 1, i 2, eq_ix3 i⟩
  refine (Cert.ReferenceIdeal.Scan.ref_eq m' c b k d).trans ?_
  rw [h0, h1, h2, h3, h4, h5, h6, h7, h8, Cert.KernelIdeal.Scan.tokT_apply]
  refine congrArg (fun l => Cert.KernelIdeal.Scan.resOf m c b l d) (Fin.ext ?_)
  show k.val = (k.val / 512 * 512 + k.val % 64 * 8 + k.val / 64 % 8) / 512 * 512 +
    (64 * ((k.val / 512 * 512 + k.val % 64 * 8 + k.val / 64 % 8) % 8) + (k.val / 512 * 512 + k.val % 64 * 8 + k.val / 64 % 8) / 8 % 64)
  have h1 : k.val % 64 < 64 := Nat.mod_lt _ (by omega)
  have h2 : k.val / 64 % 8 < 8 := Nat.mod_lt _ (by omega)
  have h3 : k.val = k.val / 512 * 512 + k.val / 64 % 8 * 64 + k.val % 64 := by omega
  generalize k.val / 512 = q at *
  generalize k.val / 64 % 8 = a at *
  generalize k.val % 64 = j at *
  have e1 : (q * 512 + j * 8 + a) / 512 = q := by omega
  have e2 : (q * 512 + j * 8 + a) % 8 = a := by omega
  have e3 : (q * 512 + j * 8 + a) / 8 = q * 64 + j := by omega
  rw [e1, e2, e3, h3]
  omega

/-- The scan and its reference end with equal results, where the inputs and the parameters are finite and no
    eigenvalue of the continuous system is zero. -/
theorem algebraic_scan : Cert.algebraic_KernelIdeal_ReferenceIdeal_pre_regular (hPre_regular := regularFacts) := by
  haveI := regularFacts
  pair_intro
  · run_from Cert.KernelIdeal.Gen.run_main m g
    · exact Cert.KernelIdeal.Gen.W_main_arg0 m (Cert.KernelIdeal.Gen.dats m) c
    · exact Cert.KernelIdeal.Gen.W_main_arg1 m (Cert.KernelIdeal.Gen.dats m) c
    · exact Cert.KernelIdeal.Gen.W_main_arg2 m (Cert.KernelIdeal.Gen.dats m) c
    · exact Cert.KernelIdeal.Gen.W_main_arg3 m (Cert.KernelIdeal.Gen.dats m) c
    · exact Cert.KernelIdeal.Gen.W_main_arg4 m (Cert.KernelIdeal.Gen.dats m) c
    · exact Cert.KernelIdeal.Gen.W_main_arg5 m (Cert.KernelIdeal.Gen.dats m) c
    · exact Cert.KernelIdeal.Gen.W_main_arg6 m (Cert.KernelIdeal.Gen.dats m) c
    · exact Cert.KernelIdeal.Gen.W_main_arg7 m (Cert.KernelIdeal.Gen.dats m) c
    · exact Cert.KernelIdeal.Gen.W_main_arg8 m (Cert.KernelIdeal.Gen.dats m) c
  · refine (θ_run _ _ _).mono (fun r h c => ⟨?_, (h c).2⟩) (Cert.ReferenceIdeal.Value.run m' g')
    obtain ⟨h0, h1, h2, h3, h4, h5, h6, h7, h8⟩ := hagree c
    exact (h c).1.trans (scan_eq m m' hpre c h0 h1 h2 h3 h4 h5 h6 h7 h8)

/-- The input projection of the S5 mixer and its reference end with equal results. -/
theorem algebraic_inproj : Cert.algebraic_Kernel3Ideal_Reference3Ideal := by
  pair_intro
  · run_from Cert.Kernel3Ideal.Gen.run_main m g
  · run_from Cert.Reference3Ideal.Value.run m' g'
    refine Eq.trans ?_ (Cert.Kernel3Ideal.InProj.final m c).symm
    funext i
    have hr := Cert.Reference3Ideal.InProj.projT_apply (Cert.Kernel3Ideal.InProj.aX m c) (Cert.Kernel3Ideal.InProj.aSC m c)
      (Cert.Kernel3Ideal.InProj.aSH m c) (Cert.Kernel3Ideal.InProj.aW m c) (i 0) (i 1) (i 2)
    rw [← eq_ix3 i] at hr
    exact hr

/-- The reference of the input projection leaves its arguments as they were and every counter at zero. -/
theorem frame_inproj : Cert.quiescent_Reference3Ideal := by
  intro m g _
  refine (θ_run _ _ _).mono (fun r h => ⟨?_, sem_eq_zero_of_no_sems (by decide) _⟩) (Cert.Reference3Ideal.Value.run m g)
  exact fun c => (h c).2

/-- The query, key and value projection and its reference end with equal results. -/
theorem algebraic_qkv : Cert.algebraic_Kernel4Ideal_Reference4Ideal := by
  pair_intro
  · run_from Cert.Kernel4Ideal.Gen.run_main m g
  · run_from Cert.Reference4Ideal.Value.run m' g'
    refine Eq.trans ?_ (Cert.Kernel4Ideal.Qkv.final m c).symm
    refine (Cert.Reference4Ideal.Qkv.res_eq m' c).trans ?_
    funext i
    obtain ⟨h0, h1, h2, h3, h4⟩ := hagree c
    rw [h0, h1, h2, h3, h4]
    have hr := Cert.Reference4Ideal.Qkv.refT_apply (Cert.Kernel4Ideal.Qkv.aX m c) (Cert.Kernel4Ideal.Qkv.aSC m c) (Cert.Kernel4Ideal.Qkv.aSH m c)
      (Cert.Kernel4Ideal.Qkv.aW m c) (Cert.Kernel4Ideal.Qkv.aP m c) (i 0) (i 1) (i 2) (i 3)
    rw [← eq_ix4 i] at hr
    exact hr

/-- The reference of the query, key and value projection leaves its arguments as they were and every counter at zero. -/
theorem frame_qkv : Cert.quiescent_Reference4Ideal := by
  intro m g _
  refine (θ_run _ _ _).mono (fun r h => ⟨?_, sem_eq_zero_of_no_sems (by decide) _⟩) (Cert.Reference4Ideal.Value.run m g)
  exact fun c => (h c).2

/-- The gated projection and its reference end with equal results. -/
theorem algebraic_glu : Cert.algebraic_Kernel5Ideal_Reference5Ideal := by
  pair_intro
  · run_from Cert.Kernel5Ideal.Rows.run m g
  · run_from Cert.Reference5Ideal.Value.run m' g'
    refine Eq.trans ?_ (Cert.Kernel5Ideal.Rows.final m c).symm
    funext i
    have hr := Cert.Reference5Ideal.Rows.ref_eq m' c (i 0) (i 1) (i 2)
    rw [← eq_ix3 i] at hr
    refine hr.trans ?_
    obtain ⟨h0, h1, h2, h3, h4, h5, h6⟩ := hagree c
    rw [h0, h1, h2, h3, h4, h5, h6]
    rfl

/-- The reference of the gated projection leaves its arguments as they were and every counter at zero. -/
theorem frame_glu : Cert.quiescent_Reference5Ideal := by
  intro m g _
  refine (θ_run _ _ _).mono (fun r h => ⟨?_, sem_eq_zero_of_no_sems (by decide) _⟩) (Cert.Reference5Ideal.Value.run m g)
  exact fun c => (h c).2

/-- The output projection and its reference end with equal results. -/
theorem algebraic_out : Cert.algebraic_Kernel6Ideal_Reference6Ideal := by
  pair_intro
  · run_from Cert.Kernel6Ideal.Rows.run m g
  · run_from Cert.Reference6Ideal.Value.run m' g'
    refine Eq.trans ?_ (Cert.Kernel6Ideal.Rows.final m c).symm
    funext i
    have hr := Cert.Reference6Ideal.Rows.ref_eq m' c (i 0) (i 1) (i 2)
    rw [← eq_ix3 i] at hr
    refine hr.trans ?_
    obtain ⟨h0, h1, h2, h3, h4, h5⟩ := hagree c
    rw [h0, h1, h2, h3, h4, h5]
    rfl

/-- The reference of the output projection leaves its arguments as they were and every counter at zero. -/
theorem frame_out : Cert.quiescent_Reference6Ideal := by
  intro m g _
  refine (θ_run _ _ _).mono (fun r h => ⟨?_, sem_eq_zero_of_no_sems (by decide) _⟩) (Cert.Reference6Ideal.Value.run m g)
  exact fun c => (h c).2

/-- The indexer's projections and their reference end with equal results. -/
theorem algebraic_idx : Cert.algebraic_Kernel7Ideal_Reference7Ideal := by
  pair_intro
  · run_from Cert.Kernel7Ideal.Value.run_blocks m g
  · run_from Cert.Reference7Ideal.Value.run m' g'
    all_goals obtain ⟨h0, h1, h2, h3, h4⟩ := hagree c
    · refine Eq.trans ?_ (Cert.Kernel7Ideal.Idx.final6 m c).symm
      funext i
      have hr := Cert.Reference7Ideal.Idx.q_eq m' c (i 0) (i 1) (i 2)
      rw [← eq_ix3 i, h0, h1, h2, h3, h4] at hr
      exact hr
    · refine Eq.trans ?_ (Cert.Kernel7Ideal.Idx.final7 m c).symm
      funext i
      have hr := Cert.Reference7Ideal.Idx.ka_eq m' c (i 0) (i 1) (i 2)
      rw [← eq_ix3 i, h0, h1, h2, h3, h4] at hr
      exact hr
    · refine Eq.trans ?_ (Cert.Kernel7Ideal.Idx.final8 m c).symm
      funext i
      have hr := Cert.Reference7Ideal.Idx.kb_eq m' c (i 0) (i 1) (i 2)
      rw [← eq_ix3 i, h0, h1, h2, h3, h4] at hr
      exact hr
    · refine Eq.trans ?_ (Cert.Kernel7Ideal.Idx.final9 m c).symm
      funext i
      have hr := Cert.Reference7Ideal.Idx.w_eq m' c (i 0) (i 1) (i 2)
      rw [← eq_ix3 i, Cert.Reference7Ideal.Idx.pr, h0, h1, h2, h3] at hr
      exact hr

/-- The reference of the indexer's projections leaves its arguments as they were and every counter at zero. -/
theorem frame_idx : Cert.quiescent_Reference7Ideal := by
  intro m g _
  refine (θ_run _ _ _).mono (fun r h => ⟨?_, sem_eq_zero_of_no_sems (by decide) _⟩) (Cert.Reference7Ideal.Value.run m g)
  exact fun c => (h c).2.2.2.2

/-- Every claim of the certificate. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts, Cert.Kernel6.Gen.facts, Cert.Kernel6Ideal.Gen.facts, Cert.Reference6Ideal.Gen.facts,
  Cert.Kernel7.Gen.facts, Cert.Kernel7Ideal.Gen.facts, Cert.Reference7Ideal.Gen.facts,
  regularFacts,
  fun m g _ => Cert.Kernel.Gen.frame m g, fun m g _ => Cert.KernelIdeal.Gen.frame m g, fun m g _ => Cert.KernelIdeal.Gen.frame m g,
  fun m g _ => frame_scan m g trivial, fun m g _ => frame_scan m g trivial,
  fun m g _ => Cert.Kernel2.Gen.frame m g, fun m g _ => Cert.Kernel2Ideal.Gen.frame m g, frame_ffn,
  fun m g _ => Cert.Kernel3.Gen.frame m g, fun m g _ => Cert.Kernel3Ideal.Gen.frame m g, frame_inproj,
  fun m g _ => Cert.Kernel4.Gen.frame m g, fun m g _ => Cert.Kernel4Ideal.Gen.frame m g, frame_qkv,
  fun m g _ => Cert.Kernel5.frame m g, fun m g _ => Cert.Kernel5Ideal.Rows.frame m g, frame_glu,
  fun m g _ => Cert.Kernel6.frame m g, fun m g _ => Cert.Kernel6Ideal.Rows.frame m g, frame_out,
  fun m g _ => Cert.Kernel7.Gen.frame m g, fun m g _ => Cert.Kernel7Ideal.Gen.frame m g, frame_idx,
  trivial, algebraic_scan, trivial, algebraic_ffn, trivial, algebraic_inproj, trivial, algebraic_qkv, trivial, algebraic_glu, trivial, algebraic_out, trivial, algebraic_idx⟩

end Cert.Proof

end
